-- ==== Defs.lean ====
def Pre_Kernel [hPre_lists_ok : Cert.Pre_lists_ok.Facts] (m : (ℓ : Loc Cert.Kernel.nD Cert.Kernel.τ Cert.Kernel.sig) → Buf (Elt Bits) ℓ) : Prop :=
  ∀ c : Dev Cert.Kernel.nD,
    (Cert.Pre_lists_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_lists_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_lists_ok : Cert.Pre_lists_ok.Facts] (m : (ℓ : Loc Cert.KernelIdeal.nD Cert.KernelIdeal.τ Cert.KernelIdeal.sig) → Buf (Elt Ideal) ℓ) : Prop :=
  ∀ c : Dev Cert.KernelIdeal.nD,
    (Cert.Pre_lists_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_lists_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal [hPre_lists_ok : Cert.Pre_lists_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lists_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_lists_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_lists_ok : Cert.Pre_lists_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_lists_ok : Cert.Pre_lists_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_lists_ok : Cert.Pre_lists_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lists_ok : Cert.Pre_lists_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lists_ok : Cert.Pre_lists_ok.Facts),
    quiescent_Kernel (hKernel := hKernel) (hPre_lists_ok := hPre_lists_ok)
    ∧ quiescent_KernelIdeal (hKernelIdeal := hKernelIdeal) (hPre_lists_ok := hPre_lists_ok)
    ∧ quiescent_ReferenceIdeal (hReferenceIdeal := hReferenceIdeal) (hPre_lists_ok := hPre_lists_ok)
    ∧ preserves_Kernel_KernelIdeal
    ∧ algebraic_KernelIdeal_ReferenceIdeal (hKernelIdeal := hKernelIdeal) (hReferenceIdeal := hReferenceIdeal) (hPre_lists_ok := hPre_lists_ok)
-- ==== Pre_lists_ok.lean ====
abbrev S1622016 : Shape := ⟨1, ![1622016]⟩
abbrev S2527488 : Shape := ⟨1, ![2527488]⟩
abbrev S4096 : Shape := ⟨1, ![4096]⟩
abbrev S32x112 : Shape := ⟨2, ![32, 112]⟩
abbrev S_ : Shape := ⟨0, ![]⟩
abbrev S32x112x1 : Shape := ⟨3, ![32, 112, 1]⟩
abbrev S32x2527488 : Shape := ⟨2, ![32, 2527488]⟩
abbrev S32x2527488x1 : Shape := ⟨3, ![32, 2527488, 1]⟩
abbrev S1x2527488 : Shape := ⟨2, ![1, 2527488]⟩

class Facts : Prop where
  bcast_S_S32x112 : S_.BroadcastsInDim S32x112 (![] : Fin 0 → Fin S32x112.rank)
  bcast_S32x112_S32x112x1_0_1 : S32x112.BroadcastsInDim S32x112x1 (![0, 1] : Fin 2 → Fin S32x112x1.rank)
  bcast_S_S32x2527488 : S_.BroadcastsInDim S32x2527488 (![] : Fin 0 → Fin S32x2527488.rank)
  bcast_S32x2527488_S32x2527488x1_0_1 : S32x2527488.BroadcastsInDim S32x2527488x1 (![0, 1] : Fin 2 → Fin S32x2527488x1.rank)
  bcast_S2527488_S1x2527488_1 : S2527488.BroadcastsInDim S1x2527488 (![1] : Fin 1 → Fin S1x2527488.rank)
  bcast_S1x2527488_S32x2527488_0_1 : S1x2527488.BroadcastsInDim S32x2527488 (![0, 1] : Fin 2 → Fin S32x2527488.rank)
  gather_S4096_S32x112x1_S32x112_n_0_n_n_0_2_1_wf : GatherDims.WF S4096 S32x112x1 S32x112 [] [0] [] [0] [] 2 ![1]
  gather_S4096_S32x2527488x1_S32x2527488_n_0_n_n_0_2_1_wf : GatherDims.WF S4096 S32x2527488x1 S32x2527488 [] [0] [] [0] [] 2 ![1]

variable [Facts]

def gather_S4096_S32x112x1_S32x112_n_0_n_n_0_2_1 : GatherDims S4096 S32x112x1 S32x112 where
  offsetDims := []
  collapsedSliceDims := [0]
  operandBatchingDims := []
  startIndicesBatchingDims := []
  startIndexMap := [0]
  indexVectorDim := 2
  sliceSizes := ![1]
  wf := gather_S4096_S32x112x1_S32x112_n_0_n_n_0_2_1_wf
def gather_S4096_S32x2527488x1_S32x2527488_n_0_n_n_0_2_1 : GatherDims S4096 S32x2527488x1 S32x2527488 where
  offsetDims := []
  collapsedSliceDims := [0]
  operandBatchingDims := []
  startIndicesBatchingDims := []
  startIndexMap := [0]
  indexVectorDim := 2
  sliceSizes := ![1]
  wf := gather_S4096_S32x2527488x1_S32x2527488_n_0_n_n_0_2_1_wf
def fn_take {F : FTy → Type} [FloatOps F] (arg0 : IVec S4096 32) (arg1 : IVec S32x112 32) : IVec S32x112 32 :=
  let v0 : IVec S32x112x1 32 := broadcastInDim S32x112x1 ![0, 1] bcast_S32x112_S32x112x1_0_1 arg1
  let v1 : IVec S32x112 32 := (fun x i => Host.gather gather_S4096_S32x112x1_S32x112_n_0_n_n_0_2_1 x i) arg0 v0
  v1

def fn_where {F : FTy → Type} [FloatOps F] (arg0 : IVec S32x112 1) (arg1 : IVec S_ 32) (arg2 : IVec S32x112 32) : IVec S32x112 32 :=
  let v0 : IVec S_ 32 := id arg1
  let v1 : IVec S32x112 32 := broadcastInDim S32x112 ![] bcast_S_S32x112 v0
  let v2 : IVec S32x112 32 := select arg0 v1 arg2
  v2

def fn_take_0 {F : FTy → Type} [FloatOps F] (arg0 : IVec S4096 32) (arg1 : IVec S32x2527488 32) : IVec S32x2527488 32 :=
  let v0 : IVec S32x2527488x1 32 := broadcastInDim S32x2527488x1 ![0, 1] bcast_S32x2527488_S32x2527488x1_0_1 arg1
  let v1 : IVec S32x2527488 32 := (fun x i => Host.gather gather_S4096_S32x2527488x1_S32x2527488_n_0_n_n_0_2_1 x i) arg0 v0
  v1

def fn_where_1 {F : FTy → Type} [FloatOps F] (arg0 : IVec S32x2527488 1) (arg1 : IVec S_ 32) (arg2 : IVec S32x2527488 32) : IVec S32x2527488 32 :=
  let v0 : IVec S_ 32 := id arg1
  let v1 : IVec S32x2527488 32 := broadcastInDim S32x2527488 ![] bcast_S_S32x2527488 v0
  let v2 : IVec S32x2527488 32 := select arg0 v1 arg2
  v2

def fn_part6 {F : FTy → Type} [FloatOps F] (main_v104 : IVec S32x112 1) (main_v106 : IVec S32x2527488 1) (main_v108 : IVec S32x2527488 1) : IVec S32x112 1 × IVec S32x2527488 1 :=
  let main_v109 : IVec S32x2527488 1 := andi main_v106 main_v108
  (main_v104, main_v109)

def fn_part5 {F : FTy → Type} [FloatOps F] (main_arg3 : IVec S4096 32) (main_v19 : IVec S32x112 1) (main_v32 : IVec S32x112 1) (main_v42 : IVec S32x112 1) (main_v45 : IVec S32x2527488 32) (main_v50 : IVec S32x2527488 32) (main_v74 : IVec S32x2527488 1) (main_v84 : IVec S32x2527488 1) (main_v89 : IVec S32x2527488 1) : IVec S32x112 1 × IVec S32x2527488 1 :=
  let main_c_29 : IVec S_ 32 := constantI S_ 32 0#32
  let main_v90 : IVec S32x2527488 32 := broadcastInDim S32x2527488 ![] bcast_S_S32x2527488 main_c_29
  let main_v91 : IVec S32x2527488 1 := cmpi .sge main_v50 main_v90
  let main_c_30 : IVec S_ 32 := constantI S_ 32 112#32
  let main_v92 : IVec S32x2527488 32 := broadcastInDim S32x2527488 ![] bcast_S_S32x2527488 main_c_30
  let main_v93 : IVec S32x2527488 32 := addi main_v45 main_v92
  let main_c_31 : IVec S_ 32 := constantI S_ 32 1#32
  let main_v94 : IVec S32x2527488 32 := broadcastInDim S32x2527488 ![] bcast_S_S32x2527488 main_c_31
  let main_v95 : IVec S32x2527488 32 := subi main_v93 main_v94
  let main_v96 : IVec S32x2527488 32 := fn_take_0 (F := F) main_arg3 main_v95
  let main_c_32 : IVec S_ 32 := constantI S_ 32 15#32
  let main_v97 : IVec S32x2527488 32 := broadcastInDim S32x2527488 ![] bcast_S_S32x2527488 main_c_32
  let main_v98 : IVec S32x2527488 32 := addi main_v96 main_v97
  let main_c_33 : IVec S_ 32 := constantI S_ 32 4294967280#32
  let main_v99 : IVec S32x2527488 32 := broadcastInDim S32x2527488 ![] bcast_S_S32x2527488 main_c_33
  let main_v100 : IVec S32x2527488 32 := andi main_v98 main_v99
  let main_v101 : IVec S32x2527488 1 := cmpi .slt main_v50 main_v100
  let main_v102 : IVec S32x2527488 1 := andi main_v91 main_v101
  let main_v103 : IVec S32x112 1 := andi main_v19 main_v32
  let main_v104 : IVec S32x112 1 := andi main_v103 main_v42
  let main_v105 : IVec S32x2527488 1 := noti main_v102
  let main_v106 : IVec S32x2527488 1 := ori main_v89 main_v105
  let main_v107 : IVec S32x2527488 1 := noti main_v74
  let main_v108 : IVec S32x2527488 1 := ori main_v107 main_v84
  fn_part6 (F := F) main_v104 main_v106 main_v108

def fn_part4 {F : FTy → Type} [FloatOps F] (main_arg3 : IVec S4096 32) (main_v19 : IVec S32x112 1) (main_v32 : IVec S32x112 1) (main_v42 : IVec S32x112 1) (main_v45 : IVec S32x2527488 32) (main_v50 : IVec S32x2527488 32) (main_v52 : IVec S32x2527488 32) (main_v58 : IVec S32x2527488 32) (main_v65 : IVec S32x2527488 32) (main_v67 : IVec S32x2527488 1) (main_v69 : IVec S32x2527488 32) (main_c_24 : IVec S_ 32) : IVec S32x112 1 × IVec S32x2527488 1 :=
  let main_v70 : IVec S32x2527488 32 := broadcastInDim S32x2527488 ![] bcast_S_S32x2527488 main_c_24
  let main_v71 : IVec S32x2527488 32 := subi main_v69 main_v70
  let main_v72 : IVec S32x2527488 32 := fn_take_0 (F := F) main_arg3 main_v71
  let main_v73 : IVec S32x2527488 1 := cmpi .slt main_v50 main_v72
  let main_v74 : IVec S32x2527488 1 := andi main_v67 main_v73
  let main_c_25 : IVec S_ 32 := constantI S_ 32 65535#32
  let main_v75 : IVec S32x2527488 32 := broadcastInDim S32x2527488 ![] bcast_S_S32x2527488 main_c_25
  let main_v76 : IVec S32x2527488 32 := andi main_v52 main_v75
  let main_c_26 : IVec S_ 32 := constantI S_ 32 7168#32
  let main_v77 : IVec S32x2527488 32 := broadcastInDim S32x2527488 ![] bcast_S_S32x2527488 main_c_26
  let main_v78 : IVec S32x2527488 1 := cmpi .slt main_v76 main_v77
  let main_v79 : IVec S32x2527488 1 := cmpi .sge main_v50 main_v65
  let main_v80 : IVec S32x2527488 1 := andi main_v78 main_v79
  let main_v81 : IVec S32x2527488 32 := addi main_v45 main_v58
  let main_v82 : IVec S32x2527488 32 := fn_take_0 (F := F) main_arg3 main_v81
  let main_v83 : IVec S32x2527488 1 := cmpi .slt main_v50 main_v82
  let main_v84 : IVec S32x2527488 1 := andi main_v80 main_v83
  let main_c_27 : IVec S_ 32 := constantI S_ 32 0#32
  let main_v85 : IVec S32x2527488 32 := broadcastInDim S32x2527488 ![] bcast_S_S32x2527488 main_c_27
  let main_v86 : IVec S32x2527488 1 := cmpi .sge main_v52 main_v85
  let main_c_28 : IVec S_ 32 := constantI S_ 32 276824064#32
  let main_v87 : IVec S32x2527488 32 := broadcastInDim S32x2527488 ![] bcast_S_S32x2527488 main_c_28
  let main_v88 : IVec S32x2527488 1 := cmpi .slt main_v52 main_v87
  let main_v89 : IVec S32x2527488 1 := andi main_v86 main_v88
  fn_part5 (F := F) main_arg3 main_v19 main_v32 main_v42 main_v45 main_v50 main_v74 main_v84 main_v89

def fn_part3 {F : FTy → Type} [FloatOps F] (main_arg3 : IVec S4096 32) (main_v19 : IVec S32x112 1) (main_v32 : IVec S32x112 1) (main_v42 : IVec S32x112 1) (main_v45 : IVec S32x2527488 32) (main_v50 : IVec S32x2527488 32) (main_v52 : IVec S32x2527488 32) (main_v53 : IVec S32x2527488 32) : IVec S32x112 1 × IVec S32x2527488 1 :=
  let main_v54 : IVec S32x2527488 32 := andi main_v52 main_v53
  let main_c_17 : IVec S_ 32 := constantI S_ 32 6#32
  let main_v55 : IVec S32x2527488 32 := broadcastInDim S32x2527488 ![] bcast_S_S32x2527488 main_c_17
  let main_v56 : IVec S32x2527488 32 := Host.shrui main_v54 main_v55
  let main_c_18 : IVec S_ 32 := constantI S_ 32 111#32
  let main_v57 : IVec S32x2527488 32 := broadcastInDim S32x2527488 ![] bcast_S_S32x2527488 main_c_18
  let main_v58 : IVec S32x2527488 32 := minsi main_v56 main_v57
  let main_c_19 : IVec S_ 32 := constantI S_ 32 0#32
  let main_v59 : IVec S32x2527488 32 := broadcastInDim S32x2527488 ![] bcast_S_S32x2527488 main_c_19
  let main_v60 : IVec S32x2527488 1 := cmpi .eq main_v58 main_v59
  let main_v61 : IVec S32x2527488 32 := addi main_v45 main_v58
  let main_c_20 : IVec S_ 32 := constantI S_ 32 1#32
  let main_v62 : IVec S32x2527488 32 := broadcastInDim S32x2527488 ![] bcast_S_S32x2527488 main_c_20
  let main_v63 : IVec S32x2527488 32 := subi main_v61 main_v62
  let main_v64 : IVec S32x2527488 32 := fn_take_0 (F := F) main_arg3 main_v63
  let main_c_21 : IVec S_ 32 := constantI S_ 32 0#32
  let main_v65 : IVec S32x2527488 32 := fn_where_1 (F := F) main_v60 main_c_21 main_v64
  let main_c_22 : IVec S_ 32 := constantI S_ 32 0#32
  let main_v66 : IVec S32x2527488 32 := broadcastInDim S32x2527488 ![] bcast_S_S32x2527488 main_c_22
  let main_v67 : IVec S32x2527488 1 := cmpi .sge main_v50 main_v66
  let main_c_23 : IVec S_ 32 := constantI S_ 32 112#32
  let main_v68 : IVec S32x2527488 32 := broadcastInDim S32x2527488 ![] bcast_S_S32x2527488 main_c_23
  let main_v69 : IVec S32x2527488 32 := addi main_v45 main_v68
  let main_c_24 : IVec S_ 32 := constantI S_ 32 1#32
  fn_part4 (F := F) main_arg3 main_v19 main_v32 main_v42 main_v45 main_v50 main_v52 main_v58 main_v65 main_v67 main_v69 main_c_24

def fn_part2 {F : FTy → Type} [FloatOps F] (main_arg2 : IVec S2527488 32) (main_arg3 : IVec S4096 32) (main_v12 : IVec S32x112 32) (main_v19 : IVec S32x112 1) (main_v22 : IVec S32x112 32) (main_v32 : IVec S32x112 1) (main_v34 : IVec S32x112 1) (main_c_11 : IVec S_ 32) : IVec S32x112 1 × IVec S32x2527488 1 :=
  let main_v35 : IVec S32x112 32 := broadcastInDim S32x112 ![] bcast_S_S32x112 main_c_11
  let main_v36 : IVec S32x112 32 := subi main_v12 main_v35
  let main_c_12 : IVec S_ 32 := constantI S_ 32 4294966272#32
  let main_v37 : IVec S32x112 32 := broadcastInDim S32x112 ![] bcast_S_S32x112 main_c_12
  let main_v38 : IVec S32x112 32 := andi main_v36 main_v37
  let main_v39 : IVec S32x112 32 := addi main_v22 main_v38
  let main_c_13 : IVec S_ 32 := constantI S_ 32 2526464#32
  let main_v40 : IVec S32x112 32 := broadcastInDim S32x112 ![] bcast_S_S32x112 main_c_13
  let main_v41 : IVec S32x112 1 := cmpi .sle main_v39 main_v40
  let main_v42 : IVec S32x112 1 := ori main_v34 main_v41
  let main_v43 : IVec S32x2527488 32 := iotaInDim S32x2527488 32 0
  let main_c_14 : IVec S_ 32 := constantI S_ 32 128#32
  let main_v44 : IVec S32x2527488 32 := broadcastInDim S32x2527488 ![] bcast_S_S32x2527488 main_c_14
  let main_v45 : IVec S32x2527488 32 := muli main_v43 main_v44
  let main_v46 : IVec S32x2527488 32 := iotaInDim S32x2527488 32 1
  let main_c_15 : IVec S_ 32 := constantI S_ 32 112#32
  let main_v47 : IVec S32x2527488 32 := broadcastInDim S32x2527488 ![] bcast_S_S32x2527488 main_c_15
  let main_v48 : IVec S32x2527488 32 := addi main_v45 main_v47
  let main_v49 : IVec S32x2527488 32 := fn_take_0 (F := F) main_arg3 main_v48
  let main_v50 : IVec S32x2527488 32 := subi main_v46 main_v49
  let main_v51 : IVec S1x2527488 32 := broadcastInDim S1x2527488 ![1] bcast_S2527488_S1x2527488_1 main_arg2
  let main_v52 : IVec S32x2527488 32 := broadcastInDim S32x2527488 ![0, 1] bcast_S1x2527488_S32x2527488_0_1 main_v51
  let main_c_16 : IVec S_ 32 := constantI S_ 32 65535#32
  let main_v53 : IVec S32x2527488 32 := broadcastInDim S32x2527488 ![] bcast_S_S32x2527488 main_c_16
  fn_part3 (F := F) main_arg3 main_v19 main_v32 main_v42 main_v45 main_v50 main_v52 main_v53

def fn_part1 {F : FTy → Type} [FloatOps F] (main_arg2 : IVec S2527488 32) (main_arg3 : IVec S4096 32) (main_v2 : IVec S32x112 32) (main_v12 : IVec S32x112 32) (main_v16 : IVec S32x112 1) (main_v17 : IVec S32x112 32) : IVec S32x112 1 × IVec S32x2527488 1 :=
  let main_v18 : IVec S32x112 1 := cmpi .sle main_v12 main_v17
  let main_v19 : IVec S32x112 1 := andi main_v16 main_v18
  let main_c_5 : IVec S_ 32 := constantI S_ 32 112#32
  let main_v20 : IVec S32x112 32 := broadcastInDim S32x112 ![] bcast_S_S32x112 main_c_5
  let main_v21 : IVec S32x112 32 := addi main_v2 main_v20
  let main_v22 : IVec S32x112 32 := fn_take (F := F) main_arg3 main_v21
  let main_c_6 : IVec S_ 32 := constantI S_ 32 0#32
  let main_v23 : IVec S32x112 32 := broadcastInDim S32x112 ![] bcast_S_S32x112 main_c_6
  let main_v24 : IVec S32x112 1 := cmpi .sge main_v22 main_v23
  let main_c_7 : IVec S_ 32 := constantI S_ 32 2527488#32
  let main_v25 : IVec S32x112 32 := broadcastInDim S32x112 ![] bcast_S_S32x112 main_c_7
  let main_v26 : IVec S32x112 1 := cmpi .sle main_v22 main_v25
  let main_v27 : IVec S32x112 1 := andi main_v24 main_v26
  let main_c_8 : IVec S_ 32 := constantI S_ 32 7#32
  let main_v28 : IVec S32x112 32 := broadcastInDim S32x112 ![] bcast_S_S32x112 main_c_8
  let main_v29 : IVec S32x112 32 := andi main_v22 main_v28
  let main_c_9 : IVec S_ 32 := constantI S_ 32 0#32
  let main_v30 : IVec S32x112 32 := broadcastInDim S32x112 ![] bcast_S_S32x112 main_c_9
  let main_v31 : IVec S32x112 1 := cmpi .eq main_v29 main_v30
  let main_v32 : IVec S32x112 1 := andi main_v27 main_v31
  let main_c_10 : IVec S_ 32 := constantI S_ 32 0#32
  let main_v33 : IVec S32x112 32 := broadcastInDim S32x112 ![] bcast_S_S32x112 main_c_10
  let main_v34 : IVec S32x112 1 := cmpi .eq main_v12 main_v33
  let main_c_11 : IVec S_ 32 := constantI S_ 32 1#32
  fn_part2 (F := F) main_arg2 main_arg3 main_v12 main_v19 main_v22 main_v32 main_v34 main_c_11

def fn {F : FTy → Type} [FloatOps F] (main_arg0 : IVec S1622016 32) (main_arg1 : FVec F S2527488 .f32) (main_arg2 : IVec S2527488 32) (main_arg3 : IVec S4096 32) : IVec S32x112 1 × IVec S32x2527488 1 :=
  let main_v0 : IVec S32x112 32 := iotaInDim S32x112 32 0
  let main_c : IVec S_ 32 := constantI S_ 32 128#32
  let main_v1 : IVec S32x112 32 := broadcastInDim S32x112 ![] bcast_S_S32x112 main_c
  let main_v2 : IVec S32x112 32 := muli main_v0 main_v1
  let main_v3 : IVec S32x112 32 := iotaInDim S32x112 32 1
  let main_c_0 : IVec S_ 32 := constantI S_ 32 0#32
  let main_v4 : IVec S32x112 32 := broadcastInDim S32x112 ![] bcast_S_S32x112 main_c_0
  let main_v5 : IVec S32x112 1 := cmpi .eq main_v3 main_v4
  let main_v6 : IVec S32x112 32 := addi main_v2 main_v3
  let main_c_1 : IVec S_ 32 := constantI S_ 32 1#32
  let main_v7 : IVec S32x112 32 := broadcastInDim S32x112 ![] bcast_S_S32x112 main_c_1
  let main_v8 : IVec S32x112 32 := subi main_v6 main_v7
  let main_v9 : IVec S32x112 32 := fn_take (F := F) main_arg3 main_v8
  let main_c_2 : IVec S_ 32 := constantI S_ 32 0#32
  let main_v10 : IVec S32x112 32 := fn_where (F := F) main_v5 main_c_2 main_v9
  let main_v11 : IVec S32x112 32 := addi main_v2 main_v3
  let main_v12 : IVec S32x112 32 := fn_take (F := F) main_arg3 main_v11
  let main_c_3 : IVec S_ 32 := constantI S_ 32 0#32
  let main_v13 : IVec S32x112 32 := broadcastInDim S32x112 ![] bcast_S_S32x112 main_c_3
  let main_v14 : IVec S32x112 1 := cmpi .sge main_v10 main_v13
  let main_v15 : IVec S32x112 1 := cmpi .sle main_v10 main_v12
  let main_v16 : IVec S32x112 1 := andi main_v14 main_v15
  let main_c_4 : IVec S_ 32 := constantI S_ 32 2527488#32
  let main_v17 : IVec S32x112 32 := broadcastInDim S32x112 ![] bcast_S_S32x112 main_c_4
  fn_part1 (F := F) main_arg2 main_arg3 main_v2 main_v12 main_v16 main_v17
-- ==== Kernel.lean ====
abbrev S1622016 : Shape := ⟨1, ![1622016]⟩
abbrev S2527488 : Shape := ⟨1, ![2527488]⟩
abbrev S4096 : Shape := ⟨1, ![4096]⟩
abbrev S229376x96 : Shape := ⟨2, ![229376, 96]⟩
abbrev S101376 : Shape := ⟨1, ![101376]⟩
abbrev S64x96 : Shape := ⟨2, ![64, 96]⟩
abbrev S1024 : Shape := ⟨1, ![1024]⟩
abbrev S144 : Shape := ⟨1, ![144]⟩
abbrev S_ : Shape := ⟨0, ![]⟩
abbrev S16 : Shape := ⟨1, ![16]⟩
abbrev S128 : Shape := ⟨1, ![128]⟩
abbrev S1 : Shape := ⟨1, ![1]⟩
abbrev S1x16 : Shape := ⟨2, ![1, 16]⟩

abbrev nBuf : Table → Nat
  | .hbm => 5
  | .local .scVector .vmem => 6
  | _ => 0

abbrev bufTy : (tb : Table) → Fin (nBuf tb) → BufTy
  | .hbm, ⟨0, _⟩ => ⟨S1622016, .i32⟩
  | .hbm, ⟨1, _⟩ => ⟨S2527488, .f32⟩
  | .hbm, ⟨2, _⟩ => ⟨S2527488, .i32⟩
  | .hbm, ⟨3, _⟩ => ⟨S4096, .i32⟩
  | .hbm, ⟨4, _⟩ => ⟨S229376x96, .f32⟩
  | .local .scVector .vmem, ⟨0, _⟩ => ⟨S101376, .i32⟩
  | .local .scVector .vmem, ⟨1, _⟩ => ⟨S64x96, .f32⟩
  | .local .scVector .vmem, ⟨2, _⟩ => ⟨S64x96, .f32⟩
  | .local .scVector .vmem, ⟨3, _⟩ => ⟨S1024, .i32⟩
  | .local .scVector .vmem, ⟨4, _⟩ => ⟨S1024, .f32⟩
  | .local .scVector .vmem, ⟨5, _⟩ => ⟨S144, .i32⟩
  | _, _ => ⟨S1622016, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v26 : BitVec 32 := Scalar.muli v1 c128_i32
  v26
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v26 : BitVec 32 := Scalar.muli v1 c128_i32
  let v27 : BitVec 32 := v26
  ![v27.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4224_i32 : BitVec 32 := 4224#32
  let v28 : BitVec 32 := Scalar.muli v18 c4224_i32
  let c24_i32 : BitVec 32 := 24#32
  let v29 : BitVec 32 := Scalar.muli v28 c24_i32
  v29
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4224_i32 : BitVec 32 := 4224#32
  let v28 : BitVec 32 := Scalar.muli v18 c4224_i32
  let c24_i32 : BitVec 32 := 24#32
  let v29 : BitVec 32 := Scalar.muli v28 c24_i32
  let v30 : BitVec 32 := v29
  ![v30.toNat]
@[reducible] def k0_t1_loop : Scf.Loop 32 :=
  let c0_i32_6 : BitVec 32 := 0#32
  let c56_i32 : BitVec 32 := 56#32
  let v34 : BitVec 32 := Scalar.addi c0_i32_6 c56_i32
  let c1_i32_7 : BitVec 32 := 1#32
  ⟨c0_i32_6, v34, c1_i32_7⟩
def k0_off3 (k0_t1 : Fin k0_t1_loop.trips) : Fin 1 → Nat :=
  let c2_i32_14 : BitVec 32 := 2#32
  let c0_i32_6 : BitVec 32 := 0#32
  let c1_i32_7 : BitVec 32 := 1#32
  let arg15 : BitVec 32 := Scf.iv c0_i32_6 c1_i32_7 k0_t1
  let v46 : BitVec 32 := Scalar.muli c2_i32_14 arg15
  let v47 : Index := Scalar.indexCast v46
  ![v47.toNat]
def k0_cond1 (k0_t1 : Fin k0_t1_loop.trips) : BitVec 1 :=
  let c2_i32_14 : BitVec 32 := 2#32
  let c0_i32_6 : BitVec 32 := 0#32
  let c1_i32_7 : BitVec 32 := 1#32
  let arg15 : BitVec 32 := Scf.iv c0_i32_6 c1_i32_7 k0_t1
  let v46 : BitVec 32 := Scalar.muli c2_i32_14 arg15
  let c2_i32_15 : BitVec 32 := 2#32
  let v51 : BitVec 1 := Scalar.cmpi .sge v46 c2_i32_15
  let v52 : BitVec 32 := Scalar.extui v51
  let c0_i32_16 : BitVec 32 := 0#32
  let v53 : BitVec 1 := Scalar.cmpi .ne v52 c0_i32_16
  v53

def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_78 : BitVec 32 := 7168#32
  let v170 : BitVec 32 := Scalar.muli v1 c7168_i32_78
  let c2_i32_14 : BitVec 32 := 2#32
  let c0_i32_6 : BitVec 32 := 0#32
  let c1_i32_7 : BitVec 32 := 1#32
  let arg15 : BitVec 32 := Scf.iv c0_i32_6 c1_i32_7 k0_t1
  let v46 : BitVec 32 := Scalar.muli c2_i32_14 arg15
  let c2_i32_77 : BitVec 32 := 2#32
  let v169 : BitVec 32 := Scalar.subi v46 c2_i32_77
  let c64_i32_79 : BitVec 32 := 64#32
  let v171 : BitVec 32 := Scalar.muli v169 c64_i32_79
  let v172 : BitVec 32 := Scalar.addi v170 v171
  v172
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_78 : BitVec 32 := 7168#32
  let v170 : BitVec 32 := Scalar.muli v1 c7168_i32_78
  let c2_i32_14 : BitVec 32 := 2#32
  let c0_i32_6 : BitVec 32 := 0#32
  let c1_i32_7 : BitVec 32 := 1#32
  let arg15 : BitVec 32 := Scf.iv c0_i32_6 c1_i32_7 k0_t1
  let v46 : BitVec 32 := Scalar.muli c2_i32_14 arg15
  let c2_i32_77 : BitVec 32 := 2#32
  let v169 : BitVec 32 := Scalar.subi v46 c2_i32_77
  let c64_i32_79 : BitVec 32 := 64#32
  let v171 : BitVec 32 := Scalar.muli v169 c64_i32_79
  let v172 : BitVec 32 := Scalar.addi v170 v171
  let v173 : BitVec 32 := v172
  let c0_i32_80 : BitVec 32 := 0#32
  ![v173.toNat, 0]
@[reducible] def k0_t2_loop : Scf.Loop 32 :=
  let c0_i32_17 : BitVec 32 := 0#32
  let c64_i32 : BitVec 32 := 64#32
  let v54 : BitVec 32 := Scalar.addi c0_i32_17 c64_i32
  let c1_i32_18 : BitVec 32 := 1#32
  ⟨c0_i32_17, v54, c1_i32_18⟩
def k0_off5 (k0_t2 : Fin k0_t2_loop.trips) : Fin 2 → Nat :=
  let c0_i32_78 : BitVec 32 := 0#32
  let c0_i32_17 : BitVec 32 := 0#32
  let c1_i32_18 : BitVec 32 := 1#32
  let arg18 : BitVec 32 := Scf.iv c0_i32_17 c1_i32_18 k0_t2
  let c1_i32_77 : BitVec 32 := 1#32
  let v169 : BitVec 32 := Scalar.muli arg18 c1_i32_77
  let v170 : BitVec 32 := Scalar.addi c0_i32_78 v169
  let v172 : Index := Scalar.indexCast v170
  let c0 : Index := 0#32
  ![v172.toNat, 0]
def k0_off6 (k0_t2 : Fin k0_t2_loop.trips) : Fin 2 → Nat :=
  let c0_i32_78 : BitVec 32 := 0#32
  let c0_i32_17 : BitVec 32 := 0#32
  let c1_i32_18 : BitVec 32 := 1#32
  let arg18 : BitVec 32 := Scf.iv c0_i32_17 c1_i32_18 k0_t2
  let c1_i32_77 : BitVec 32 := 1#32
  let v169 : BitVec 32 := Scalar.muli arg18 c1_i32_77
  let v170 : BitVec 32 := Scalar.addi c0_i32_78 v169
  let v175 : Index := Scalar.indexCast v170
  let c16 : Index := 16#32
  ![v175.toNat, 16]
def k0_off7 (k0_t2 : Fin k0_t2_loop.trips) : Fin 2 → Nat :=
  let c0_i32_78 : BitVec 32 := 0#32
  let c0_i32_17 : BitVec 32 := 0#32
  let c1_i32_18 : BitVec 32 := 1#32
  let arg18 : BitVec 32 := Scf.iv c0_i32_17 c1_i32_18 k0_t2
  let c1_i32_77 : BitVec 32 := 1#32
  let v169 : BitVec 32 := Scalar.muli arg18 c1_i32_77
  let v170 : BitVec 32 := Scalar.addi c0_i32_78 v169
  let v178 : Index := Scalar.indexCast v170
  let c32 : Index := 32#32
  ![v178.toNat, 32]
def k0_off8 (k0_t2 : Fin k0_t2_loop.trips) : Fin 2 → Nat :=
  let c0_i32_78 : BitVec 32 := 0#32
  let c0_i32_17 : BitVec 32 := 0#32
  let c1_i32_18 : BitVec 32 := 1#32
  let arg18 : BitVec 32 := Scf.iv c0_i32_17 c1_i32_18 k0_t2
  let c1_i32_77 : BitVec 32 := 1#32
  let v169 : BitVec 32 := Scalar.muli arg18 c1_i32_77
  let v170 : BitVec 32 := Scalar.addi c0_i32_78 v169
  let v181 : Index := Scalar.indexCast v170
  let c48 : Index := 48#32
  ![v181.toNat, 48]
def k0_off9 (k0_t2 : Fin k0_t2_loop.trips) : Fin 2 → Nat :=
  let c0_i32_78 : BitVec 32 := 0#32
  let c0_i32_17 : BitVec 32 := 0#32
  let c1_i32_18 : BitVec 32 := 1#32
  let arg18 : BitVec 32 := Scf.iv c0_i32_17 c1_i32_18 k0_t2
  let c1_i32_77 : BitVec 32 := 1#32
  let v169 : BitVec 32 := Scalar.muli arg18 c1_i32_77
  let v170 : BitVec 32 := Scalar.addi c0_i32_78 v169
  let v184 : Index := Scalar.indexCast v170
  let c64 : Index := 64#32
  ![v184.toNat, 64]
def k0_off10 (k0_t2 : Fin k0_t2_loop.trips) : Fin 2 → Nat :=
  let c0_i32_78 : BitVec 32 := 0#32
  let c0_i32_17 : BitVec 32 := 0#32
  let c1_i32_18 : BitVec 32 := 1#32
  let arg18 : BitVec 32 := Scf.iv c0_i32_17 c1_i32_18 k0_t2
  let c1_i32_77 : BitVec 32 := 1#32
  let v169 : BitVec 32 := Scalar.muli arg18 c1_i32_77
  let v170 : BitVec 32 := Scalar.addi c0_i32_78 v169
  let v187 : Index := Scalar.indexCast v170
  let c80 : Index := 80#32
  ![v187.toNat, 80]
@[reducible] def k0_t3_loop (arg16 : BitVec 32) (v50 : BitVec 32) : Scf.Loop 32 :=
  let c0_i32_36 : BitVec 32 := 0#32
  let v55 : BitVec 1 := Scalar.cmpi .slt arg16 v50
  let c1_i32_20 : BitVec 32 := 1#32
  let v56 : BitVec 32 := Scalar.subi v50 c1_i32_20
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c1024_i32 : BitVec 32 := 1024#32
  let c0_i32_23 : BitVec 32 := 0#32
  let v63 : BitVec 1 := Scalar.cmpi .sgt c1024_i32 c0_i32_23
  let v64 : BitVec 32 := Scalar.extui v63
  let c0_i32_24 : BitVec 32 := 0#32
  let v65 : BitVec 1 := Scalar.cmpi .slt c1024_i32 c0_i32_24
  let v66 : BitVec 32 := Scalar.extui v65
  let v67 : BitVec 32 := Scalar.subi v64 v66
  let v68 : BitVec 1 := Scalar.cmpi .ne v62 v67
  let v69 : BitVec 32 := Scalar.remsi v56 c1024_i32
  let c0_i32_25 : BitVec 32 := 0#32
  let v70 : BitVec 1 := Scalar.cmpi .ne v69 c0_i32_25
  let v71 : BitVec 1 := Scalar.andi v68 v70
  let v57 : BitVec 32 := Scalar.divsi v56 c1024_i32
  let c1_i32_26 : BitVec 32 := 1#32
  let v72 : BitVec 32 := Scalar.subi v57 c1_i32_26
  let v73 : BitVec 32 := Scalar.select v71 v72 v57
  let c0_i32_28 : BitVec 32 := 0#32
  let v75 : BitVec 1 := Scalar.cmpi .sgt arg16 c0_i32_28
  let v76 : BitVec 32 := Scalar.extui v75
  let c0_i32_29 : BitVec 32 := 0#32
  let v77 : BitVec 1 := Scalar.cmpi .slt arg16 c0_i32_29
  let v78 : BitVec 32 := Scalar.extui v77
  let v79 : BitVec 32 := Scalar.subi v76 v78
  let c1024_i32_27 : BitVec 32 := 1024#32
  let c0_i32_30 : BitVec 32 := 0#32
  let v80 : BitVec 1 := Scalar.cmpi .sgt c1024_i32_27 c0_i32_30
  let v81 : BitVec 32 := Scalar.extui v80
  let c0_i32_31 : BitVec 32 := 0#32
  let v82 : BitVec 1 := Scalar.cmpi .slt c1024_i32_27 c0_i32_31
  let v83 : BitVec 32 := Scalar.extui v82
  let v84 : BitVec 32 := Scalar.subi v81 v83
  let v85 : BitVec 1 := Scalar.cmpi .ne v79 v84
  let v86 : BitVec 32 := Scalar.remsi arg16 c1024_i32_27
  let c0_i32_32 : BitVec 32 := 0#32
  let v87 : BitVec 1 := Scalar.cmpi .ne v86 c0_i32_32
  let v88 : BitVec 1 := Scalar.andi v85 v87
  let v74 : BitVec 32 := Scalar.divsi arg16 c1024_i32_27
  let c1_i32_33 : BitVec 32 := 1#32
  let v89 : BitVec 32 := Scalar.subi v74 c1_i32_33
  let v90 : BitVec 32 := Scalar.select v88 v89 v74
  let v91 : BitVec 32 := Scalar.subi v73 v90
  let c1_i32_34 : BitVec 32 := 1#32
  let v92 : BitVec 32 := Scalar.addi v91 c1_i32_34
  let c0_i32_35 : BitVec 32 := 0#32
  let v93 : BitVec 32 := Scalar.select v55 v92 c0_i32_35
  let v94 : BitVec 32 := Scalar.subi v93 c0_i32_36
  let c1_i32_37 : BitVec 32 := 1#32
  let v96 : BitVec 32 := Scalar.divsi v94 c1_i32_37
  let v97 : BitVec 32 := Scalar.muli v96 c1_i32_37
  let v98 : BitVec 32 := Scalar.addi c0_i32_36 v97
  let c1_i32_38 : BitVec 32 := 1#32
  ⟨c0_i32_36, v98, c1_i32_38⟩

def k0_mult4 (v33 : BitVec 32) (arg19 : BitVec 32) : BitVec 32 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  v207
def k0_cond2 (arg19 : BitVec 32) (arg20 : BitVec 32) : BitVec 1 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let v186 : BitVec 1 := Scalar.cmpi .ne v185 arg20
  let v187 : BitVec 32 := Scalar.extui v186
  let c0_i32_84 : BitVec 32 := 0#32
  let v188 : BitVec 1 := Scalar.cmpi .ne v187 c0_i32_84
  v188

def k0_off11 (v33 : BitVec 32) (arg19 : BitVec 32) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  let v208 : BitVec 32 := v207
  ![v208.toNat]

def k0_chk2 (v33 : BitVec 32) (arg19 : BitVec 32) (arg20 : BitVec 32) : Prop :=
  (∀ (k0_h2 : k0_cond2 arg19 arg20 = 1#1), 8 ∣ (k0_mult4 v33 arg19).toNat) ∧
  (∀ (k0_h2 : k0_cond2 arg19 arg20 = 1#1), ∀ a, (k0_off11 v33 arg19) a + S1024.size a ≤ S2527488.size a)
theorem k0_mult4_dvd : ∀ (v33 : BitVec 32) (arg19 : BitVec 32) (arg20 : BitVec 32) (k0_hw2 : k0_chk2 v33 arg19 arg20), ∀ (k0_h2 : k0_cond2 arg19 arg20 = 1#1), 8 ∣ (k0_mult4 v33 arg19).toNat := fun v33 arg19 arg20 k0_hw2 k0_h2 => k0_hw2.1 k0_h2
theorem k0_off11_inb : ∀ (v33 : BitVec 32) (arg19 : BitVec 32) (arg20 : BitVec 32) (k0_hw2 : k0_chk2 v33 arg19 arg20), ∀ (k0_h2 : k0_cond2 arg19 arg20 = 1#1), ∀ a, (k0_off11 v33 arg19) a + S1024.size a ≤ S2527488.size a := fun v33 arg19 arg20 k0_hw2 k0_h2 => k0_hw2.2 k0_h2

@[reducible] def k0_t4_loop (v50 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v50 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_94 : BitVec 32 := 1#32
  ⟨c0_i32_92, v205, c1_i32_94⟩

def k0_off12 (v50 : BitVec 32) (arg19 : BitVec 32) (k0_t4 : Fin (k0_t4_loop v50 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_94 : BitVec 32 := 1#32
  let arg21 : BitVec 32 := Scf.iv c0_i32_92 c1_i32_94 k0_t4
  let c16_i32_91 : BitVec 32 := 16#32
  let v206 : BitVec 32 := Scalar.muli arg21 c16_i32_91
  let v207 : BitVec 32 := Scalar.addi v194 v206
  let v208 : Index := Scalar.indexCast v207
  ![v208.toNat]
def k0_mult5 (v240 : BitVec 32) : BitVec 32 :=
  v240

def k0_off13 (v240 : BitVec 32) : Fin 1 → Nat :=
  let v241 : BitVec 32 := v240
  let v242 : Index := Scalar.indexCast v241
  ![v242.toNat]

def k0_chk4 (v240 : BitVec 32) : Prop :=
  (8 ∣ (k0_mult5 v240).toNat) ∧
  (∀ a, (k0_off13 v240) a + S16.size a ≤ S101376.size a)
theorem k0_mult5_dvd : ∀ (v240 : BitVec 32) (k0_hw4 : k0_chk4 v240), 8 ∣ (k0_mult5 v240).toNat := fun v240 k0_hw4 => k0_hw4.1
theorem k0_off13_inb : ∀ (v240 : BitVec 32) (k0_hw4 : k0_chk4 v240), ∀ a, (k0_off13 v240) a + S16.size a ≤ S101376.size a := fun v240 k0_hw4 => k0_hw4.2

def k0_off14 (v238 : BitVec 32) : Fin 2 → Nat :=
  let v264 : Index := Scalar.indexCast v238
  let c0 : Index := 0#32
  ![v264.toNat, 0]

def k0_off15 (v238 : BitVec 32) : Fin 2 → Nat :=
  let v270 : Index := Scalar.indexCast v238
  let c16 : Index := 16#32
  ![v270.toNat, 16]
def k0_off16 (v238 : BitVec 32) : Fin 2 → Nat :=
  let v276 : Index := Scalar.indexCast v238
  let c32 : Index := 32#32
  ![v276.toNat, 32]
def k0_off17 (v238 : BitVec 32) : Fin 2 → Nat :=
  let v282 : Index := Scalar.indexCast v238
  let c48 : Index := 48#32
  ![v282.toNat, 48]

def k0_chk5 (v238 : BitVec 32) : Prop :=
  (∀ a, (k0_off14 v238) a + S1x16.size a ≤ S64x96.size a) ∧
  (∀ a, (k0_off15 v238) a + S1x16.size a ≤ S64x96.size a) ∧
  (∀ a, (k0_off16 v238) a + S1x16.size a ≤ S64x96.size a) ∧
  (∀ a, (k0_off17 v238) a + S1x16.size a ≤ S64x96.size a)
theorem k0_off14_inb : ∀ (v238 : BitVec 32) (k0_hw5 : k0_chk5 v238), ∀ a, (k0_off14 v238) a + S1x16.size a ≤ S64x96.size a := fun v238 k0_hw5 => k0_hw5.1
theorem k0_off15_inb : ∀ (v238 : BitVec 32) (k0_hw5 : k0_chk5 v238), ∀ a, (k0_off15 v238) a + S1x16.size a ≤ S64x96.size a := fun v238 k0_hw5 => k0_hw5.2.1
theorem k0_off16_inb : ∀ (v238 : BitVec 32) (k0_hw5 : k0_chk5 v238), ∀ a, (k0_off16 v238) a + S1x16.size a ≤ S64x96.size a := fun v238 k0_hw5 => k0_hw5.2.2.1
theorem k0_off17_inb : ∀ (v238 : BitVec 32) (k0_hw5 : k0_chk5 v238), ∀ a, (k0_off17 v238) a + S1x16.size a ≤ S64x96.size a := fun v238 k0_hw5 => k0_hw5.2.2.2

def k0_mult6 (v294 : BitVec 32) : BitVec 32 :=
  v294

def k0_off18 (v294 : BitVec 32) : Fin 1 → Nat :=
  let v295 : BitVec 32 := v294
  let v296 : Index := Scalar.indexCast v295
  ![v296.toNat]

def k0_chk6 (v294 : BitVec 32) : Prop :=
  (8 ∣ (k0_mult6 v294).toNat) ∧
  (∀ a, (k0_off18 v294) a + S16.size a ≤ S101376.size a)
theorem k0_mult6_dvd : ∀ (v294 : BitVec 32) (k0_hw6 : k0_chk6 v294), 8 ∣ (k0_mult6 v294).toNat := fun v294 k0_hw6 => k0_hw6.1
theorem k0_off18_inb : ∀ (v294 : BitVec 32) (k0_hw6 : k0_chk6 v294), ∀ a, (k0_off18 v294) a + S16.size a ≤ S101376.size a := fun v294 k0_hw6 => k0_hw6.2

def k0_off19 (v292 : BitVec 32) : Fin 2 → Nat :=
  let v318 : Index := Scalar.indexCast v292
  let c0_113 : Index := 0#32
  ![v318.toNat, 0]

def k0_off20 (v292 : BitVec 32) : Fin 2 → Nat :=
  let v324 : Index := Scalar.indexCast v292
  let c16_115 : Index := 16#32
  ![v324.toNat, 16]
def k0_off21 (v292 : BitVec 32) : Fin 2 → Nat :=
  let v330 : Index := Scalar.indexCast v292
  let c32_117 : Index := 32#32
  ![v330.toNat, 32]
def k0_off22 (v292 : BitVec 32) : Fin 2 → Nat :=
  let v336 : Index := Scalar.indexCast v292
  let c48_119 : Index := 48#32
  ![v336.toNat, 48]

def k0_chk7 (v292 : BitVec 32) : Prop :=
  (∀ a, (k0_off19 v292) a + S1x16.size a ≤ S64x96.size a) ∧
  (∀ a, (k0_off20 v292) a + S1x16.size a ≤ S64x96.size a) ∧
  (∀ a, (k0_off21 v292) a + S1x16.size a ≤ S64x96.size a) ∧
  (∀ a, (k0_off22 v292) a + S1x16.size a ≤ S64x96.size a)
theorem k0_off19_inb : ∀ (v292 : BitVec 32) (k0_hw7 : k0_chk7 v292), ∀ a, (k0_off19 v292) a + S1x16.size a ≤ S64x96.size a := fun v292 k0_hw7 => k0_hw7.1
theorem k0_off20_inb : ∀ (v292 : BitVec 32) (k0_hw7 : k0_chk7 v292), ∀ a, (k0_off20 v292) a + S1x16.size a ≤ S64x96.size a := fun v292 k0_hw7 => k0_hw7.2.1
theorem k0_off21_inb : ∀ (v292 : BitVec 32) (k0_hw7 : k0_chk7 v292), ∀ a, (k0_off21 v292) a + S1x16.size a ≤ S64x96.size a := fun v292 k0_hw7 => k0_hw7.2.2.1
theorem k0_off22_inb : ∀ (v292 : BitVec 32) (k0_hw7 : k0_chk7 v292), ∀ a, (k0_off22 v292) a + S1x16.size a ≤ S64x96.size a := fun v292 k0_hw7 => k0_hw7.2.2.2

def k0_chk8 (v351 : IVec S16 32) : Prop :=
  (∀ a x, ((![v351] : Fin 1 → IVec S16 32) a x).toNat < S101376.size a)
theorem k0_idx1_inb : ∀ (v351 : IVec S16 32) (k0_hw8 : k0_chk8 v351), ∀ a x, ((![v351] : Fin 1 → IVec S16 32) a x).toNat < S101376.size a := fun v351 k0_hw8 => k0_hw8

def k0_chk9 (v365 : IVec S16 32) (v388 : IVec S16 32) : Prop :=
  (∀ a x, ((![v365, v388] : Fin 2 → IVec S16 32) a x).toNat < S64x96.size a)
theorem k0_idx2_inb : ∀ (v365 : IVec S16 32) (v388 : IVec S16 32) (k0_hw9 : k0_chk9 v365 v388), ∀ a x, ((![v365, v388] : Fin 2 → IVec S16 32) a x).toNat < S64x96.size a := fun v365 v388 k0_hw9 => k0_hw9

def k0_chk10 (v365 : IVec S16 32) (v391 : IVec S16 32) : Prop :=
  (∀ a x, ((![v365, v391] : Fin 2 → IVec S16 32) a x).toNat < S64x96.size a)
theorem k0_idx3_inb : ∀ (v365 : IVec S16 32) (v391 : IVec S16 32) (k0_hw10 : k0_chk10 v365 v391), ∀ a x, ((![v365, v391] : Fin 2 → IVec S16 32) a x).toNat < S64x96.size a := fun v365 v391 k0_hw10 => k0_hw10

def k0_chk11 (v365 : IVec S16 32) (v394 : IVec S16 32) : Prop :=
  (∀ a x, ((![v365, v394] : Fin 2 → IVec S16 32) a x).toNat < S64x96.size a)
theorem k0_idx4_inb : ∀ (v365 : IVec S16 32) (v394 : IVec S16 32) (k0_hw11 : k0_chk11 v365 v394), ∀ a x, ((![v365, v394] : Fin 2 → IVec S16 32) a x).toNat < S64x96.size a := fun v365 v394 k0_hw11 => k0_hw11

def k0_chk12 (v365 : IVec S16 32) (v397 : IVec S16 32) : Prop :=
  (∀ a x, ((![v365, v397] : Fin 2 → IVec S16 32) a x).toNat < S64x96.size a)
theorem k0_idx5_inb : ∀ (v365 : IVec S16 32) (v397 : IVec S16 32) (k0_hw12 : k0_chk12 v365 v397), ∀ a x, ((![v365, v397] : Fin 2 → IVec S16 32) a x).toNat < S64x96.size a := fun v365 v397 k0_hw12 => k0_hw12
def k0_mult7 (v405 : BitVec 32) : BitVec 32 :=
  v405

def k0_off23 (v405 : BitVec 32) : Fin 1 → Nat :=
  let v406 : BitVec 32 := v405
  let v407 : Index := Scalar.indexCast v406
  ![v407.toNat]

def k0_chk13 (v405 : BitVec 32) : Prop :=
  (8 ∣ (k0_mult7 v405).toNat) ∧
  (∀ a, (k0_off23 v405) a + S16.size a ≤ S101376.size a)
theorem k0_mult7_dvd : ∀ (v405 : BitVec 32) (k0_hw13 : k0_chk13 v405), 8 ∣ (k0_mult7 v405).toNat := fun v405 k0_hw13 => k0_hw13.1
theorem k0_off23_inb : ∀ (v405 : BitVec 32) (k0_hw13 : k0_chk13 v405), ∀ a, (k0_off23 v405) a + S16.size a ≤ S101376.size a := fun v405 k0_hw13 => k0_hw13.2

def k0_off24 (v403 : BitVec 32) : Fin 2 → Nat :=
  let v429 : Index := Scalar.indexCast v403
  let c0_131 : Index := 0#32
  ![v429.toNat, 0]

def k0_off25 (v403 : BitVec 32) : Fin 2 → Nat :=
  let v435 : Index := Scalar.indexCast v403
  let c16_133 : Index := 16#32
  ![v435.toNat, 16]
def k0_off26 (v403 : BitVec 32) : Fin 2 → Nat :=
  let v441 : Index := Scalar.indexCast v403
  let c32_135 : Index := 32#32
  ![v441.toNat, 32]
def k0_off27 (v403 : BitVec 32) : Fin 2 → Nat :=
  let v447 : Index := Scalar.indexCast v403
  let c48_137 : Index := 48#32
  ![v447.toNat, 48]

def k0_chk14 (v403 : BitVec 32) : Prop :=
  (∀ a, (k0_off24 v403) a + S1x16.size a ≤ S64x96.size a) ∧
  (∀ a, (k0_off25 v403) a + S1x16.size a ≤ S64x96.size a) ∧
  (∀ a, (k0_off26 v403) a + S1x16.size a ≤ S64x96.size a) ∧
  (∀ a, (k0_off27 v403) a + S1x16.size a ≤ S64x96.size a)
theorem k0_off24_inb : ∀ (v403 : BitVec 32) (k0_hw14 : k0_chk14 v403), ∀ a, (k0_off24 v403) a + S1x16.size a ≤ S64x96.size a := fun v403 k0_hw14 => k0_hw14.1
theorem k0_off25_inb : ∀ (v403 : BitVec 32) (k0_hw14 : k0_chk14 v403), ∀ a, (k0_off25 v403) a + S1x16.size a ≤ S64x96.size a := fun v403 k0_hw14 => k0_hw14.2.1
theorem k0_off26_inb : ∀ (v403 : BitVec 32) (k0_hw14 : k0_chk14 v403), ∀ a, (k0_off26 v403) a + S1x16.size a ≤ S64x96.size a := fun v403 k0_hw14 => k0_hw14.2.2.1
theorem k0_off27_inb : ∀ (v403 : BitVec 32) (k0_hw14 : k0_chk14 v403), ∀ a, (k0_off27 v403) a + S1x16.size a ≤ S64x96.size a := fun v403 k0_hw14 => k0_hw14.2.2.2

def k0_mult8 (v459 : BitVec 32) : BitVec 32 :=
  v459

def k0_off28 (v459 : BitVec 32) : Fin 1 → Nat :=
  let v460 : BitVec 32 := v459
  let v461 : Index := Scalar.indexCast v460
  ![v461.toNat]

def k0_chk15 (v459 : BitVec 32) : Prop :=
  (8 ∣ (k0_mult8 v459).toNat) ∧
  (∀ a, (k0_off28 v459) a + S16.size a ≤ S101376.size a)
theorem k0_mult8_dvd : ∀ (v459 : BitVec 32) (k0_hw15 : k0_chk15 v459), 8 ∣ (k0_mult8 v459).toNat := fun v459 k0_hw15 => k0_hw15.1
theorem k0_off28_inb : ∀ (v459 : BitVec 32) (k0_hw15 : k0_chk15 v459), ∀ a, (k0_off28 v459) a + S16.size a ≤ S101376.size a := fun v459 k0_hw15 => k0_hw15.2

def k0_off29 (v457 : BitVec 32) : Fin 2 → Nat :=
  let v483 : Index := Scalar.indexCast v457
  let c0_143 : Index := 0#32
  ![v483.toNat, 0]

def k0_off30 (v457 : BitVec 32) : Fin 2 → Nat :=
  let v489 : Index := Scalar.indexCast v457
  let c16_145 : Index := 16#32
  ![v489.toNat, 16]
def k0_off31 (v457 : BitVec 32) : Fin 2 → Nat :=
  let v495 : Index := Scalar.indexCast v457
  let c32_147 : Index := 32#32
  ![v495.toNat, 32]
def k0_off32 (v457 : BitVec 32) : Fin 2 → Nat :=
  let v501 : Index := Scalar.indexCast v457
  let c48_149 : Index := 48#32
  ![v501.toNat, 48]

def k0_chk16 (v457 : BitVec 32) : Prop :=
  (∀ a, (k0_off29 v457) a + S1x16.size a ≤ S64x96.size a) ∧
  (∀ a, (k0_off30 v457) a + S1x16.size a ≤ S64x96.size a) ∧
  (∀ a, (k0_off31 v457) a + S1x16.size a ≤ S64x96.size a) ∧
  (∀ a, (k0_off32 v457) a + S1x16.size a ≤ S64x96.size a)
theorem k0_off29_inb : ∀ (v457 : BitVec 32) (k0_hw16 : k0_chk16 v457), ∀ a, (k0_off29 v457) a + S1x16.size a ≤ S64x96.size a := fun v457 k0_hw16 => k0_hw16.1
theorem k0_off30_inb : ∀ (v457 : BitVec 32) (k0_hw16 : k0_chk16 v457), ∀ a, (k0_off30 v457) a + S1x16.size a ≤ S64x96.size a := fun v457 k0_hw16 => k0_hw16.2.1
theorem k0_off31_inb : ∀ (v457 : BitVec 32) (k0_hw16 : k0_chk16 v457), ∀ a, (k0_off31 v457) a + S1x16.size a ≤ S64x96.size a := fun v457 k0_hw16 => k0_hw16.2.2.1
theorem k0_off32_inb : ∀ (v457 : BitVec 32) (k0_hw16 : k0_chk16 v457), ∀ a, (k0_off32 v457) a + S1x16.size a ≤ S64x96.size a := fun v457 k0_hw16 => k0_hw16.2.2.2

def k0_chk17 (v516 : IVec S16 32) : Prop :=
  (∀ a x, ((![v516] : Fin 1 → IVec S16 32) a x).toNat < S101376.size a)
theorem k0_idx6_inb : ∀ (v516 : IVec S16 32) (k0_hw17 : k0_chk17 v516), ∀ a x, ((![v516] : Fin 1 → IVec S16 32) a x).toNat < S101376.size a := fun v516 k0_hw17 => k0_hw17

def k0_chk18 (v530 : IVec S16 32) (v553 : IVec S16 32) : Prop :=
  (∀ a x, ((![v530, v553] : Fin 2 → IVec S16 32) a x).toNat < S64x96.size a)
theorem k0_idx7_inb : ∀ (v530 : IVec S16 32) (v553 : IVec S16 32) (k0_hw18 : k0_chk18 v530 v553), ∀ a x, ((![v530, v553] : Fin 2 → IVec S16 32) a x).toNat < S64x96.size a := fun v530 v553 k0_hw18 => k0_hw18

def k0_chk19 (v530 : IVec S16 32) (v556 : IVec S16 32) : Prop :=
  (∀ a x, ((![v530, v556] : Fin 2 → IVec S16 32) a x).toNat < S64x96.size a)
theorem k0_idx8_inb : ∀ (v530 : IVec S16 32) (v556 : IVec S16 32) (k0_hw19 : k0_chk19 v530 v556), ∀ a x, ((![v530, v556] : Fin 2 → IVec S16 32) a x).toNat < S64x96.size a := fun v530 v556 k0_hw19 => k0_hw19

def k0_chk20 (v530 : IVec S16 32) (v559 : IVec S16 32) : Prop :=
  (∀ a x, ((![v530, v559] : Fin 2 → IVec S16 32) a x).toNat < S64x96.size a)
theorem k0_idx9_inb : ∀ (v530 : IVec S16 32) (v559 : IVec S16 32) (k0_hw20 : k0_chk20 v530 v559), ∀ a x, ((![v530, v559] : Fin 2 → IVec S16 32) a x).toNat < S64x96.size a := fun v530 v559 k0_hw20 => k0_hw20

def k0_chk21 (v530 : IVec S16 32) (v562 : IVec S16 32) : Prop :=
  (∀ a x, ((![v530, v562] : Fin 2 → IVec S16 32) a x).toNat < S64x96.size a)
theorem k0_idx10_inb : ∀ (v530 : IVec S16 32) (v562 : IVec S16 32) (k0_hw21 : k0_chk21 v530 v562), ∀ a x, ((![v530, v562] : Fin 2 → IVec S16 32) a x).toNat < S64x96.size a := fun v530 v562 k0_hw21 => k0_hw21
def k0_mult9 (v570 : BitVec 32) : BitVec 32 :=
  v570

def k0_off33 (v570 : BitVec 32) : Fin 1 → Nat :=
  let v571 : BitVec 32 := v570
  let v572 : Index := Scalar.indexCast v571
  ![v572.toNat]

def k0_chk22 (v570 : BitVec 32) : Prop :=
  (8 ∣ (k0_mult9 v570).toNat) ∧
  (∀ a, (k0_off33 v570) a + S16.size a ≤ S101376.size a)
theorem k0_mult9_dvd : ∀ (v570 : BitVec 32) (k0_hw22 : k0_chk22 v570), 8 ∣ (k0_mult9 v570).toNat := fun v570 k0_hw22 => k0_hw22.1
theorem k0_off33_inb : ∀ (v570 : BitVec 32) (k0_hw22 : k0_chk22 v570), ∀ a, (k0_off33 v570) a + S16.size a ≤ S101376.size a := fun v570 k0_hw22 => k0_hw22.2

def k0_off34 (v568 : BitVec 32) : Fin 2 → Nat :=
  let v594 : Index := Scalar.indexCast v568
  let c0_164 : Index := 0#32
  ![v594.toNat, 0]

def k0_off35 (v568 : BitVec 32) : Fin 2 → Nat :=
  let v600 : Index := Scalar.indexCast v568
  let c16_166 : Index := 16#32
  ![v600.toNat, 16]
def k0_off36 (v568 : BitVec 32) : Fin 2 → Nat :=
  let v606 : Index := Scalar.indexCast v568
  let c32_168 : Index := 32#32
  ![v606.toNat, 32]
def k0_off37 (v568 : BitVec 32) : Fin 2 → Nat :=
  let v612 : Index := Scalar.indexCast v568
  let c48_170 : Index := 48#32
  ![v612.toNat, 48]

def k0_chk23 (v568 : BitVec 32) : Prop :=
  (∀ a, (k0_off34 v568) a + S1x16.size a ≤ S64x96.size a) ∧
  (∀ a, (k0_off35 v568) a + S1x16.size a ≤ S64x96.size a) ∧
  (∀ a, (k0_off36 v568) a + S1x16.size a ≤ S64x96.size a) ∧
  (∀ a, (k0_off37 v568) a + S1x16.size a ≤ S64x96.size a)
theorem k0_off34_inb : ∀ (v568 : BitVec 32) (k0_hw23 : k0_chk23 v568), ∀ a, (k0_off34 v568) a + S1x16.size a ≤ S64x96.size a := fun v568 k0_hw23 => k0_hw23.1
theorem k0_off35_inb : ∀ (v568 : BitVec 32) (k0_hw23 : k0_chk23 v568), ∀ a, (k0_off35 v568) a + S1x16.size a ≤ S64x96.size a := fun v568 k0_hw23 => k0_hw23.2.1
theorem k0_off36_inb : ∀ (v568 : BitVec 32) (k0_hw23 : k0_chk23 v568), ∀ a, (k0_off36 v568) a + S1x16.size a ≤ S64x96.size a := fun v568 k0_hw23 => k0_hw23.2.2.1
theorem k0_off37_inb : ∀ (v568 : BitVec 32) (k0_hw23 : k0_chk23 v568), ∀ a, (k0_off37 v568) a + S1x16.size a ≤ S64x96.size a := fun v568 k0_hw23 => k0_hw23.2.2.2

def k0_mult10 (v624 : BitVec 32) : BitVec 32 :=
  v624

def k0_off38 (v624 : BitVec 32) : Fin 1 → Nat :=
  let v625 : BitVec 32 := v624
  let v626 : Index := Scalar.indexCast v625
  ![v626.toNat]

def k0_chk24 (v624 : BitVec 32) : Prop :=
  (8 ∣ (k0_mult10 v624).toNat) ∧
  (∀ a, (k0_off38 v624) a + S16.size a ≤ S101376.size a)
theorem k0_mult10_dvd : ∀ (v624 : BitVec 32) (k0_hw24 : k0_chk24 v624), 8 ∣ (k0_mult10 v624).toNat := fun v624 k0_hw24 => k0_hw24.1
theorem k0_off38_inb : ∀ (v624 : BitVec 32) (k0_hw24 : k0_chk24 v624), ∀ a, (k0_off38 v624) a + S16.size a ≤ S101376.size a := fun v624 k0_hw24 => k0_hw24.2

def k0_off39 (v622 : BitVec 32) : Fin 2 → Nat :=
  let v648 : Index := Scalar.indexCast v622
  let c0_176 : Index := 0#32
  ![v648.toNat, 0]

def k0_off40 (v622 : BitVec 32) : Fin 2 → Nat :=
  let v654 : Index := Scalar.indexCast v622
  let c16_178 : Index := 16#32
  ![v654.toNat, 16]
def k0_off41 (v622 : BitVec 32) : Fin 2 → Nat :=
  let v660 : Index := Scalar.indexCast v622
  let c32_180 : Index := 32#32
  ![v660.toNat, 32]
def k0_off42 (v622 : BitVec 32) : Fin 2 → Nat :=
  let v666 : Index := Scalar.indexCast v622
  let c48_182 : Index := 48#32
  ![v666.toNat, 48]

def k0_chk25 (v622 : BitVec 32) : Prop :=
  (∀ a, (k0_off39 v622) a + S1x16.size a ≤ S64x96.size a) ∧
  (∀ a, (k0_off40 v622) a + S1x16.size a ≤ S64x96.size a) ∧
  (∀ a, (k0_off41 v622) a + S1x16.size a ≤ S64x96.size a) ∧
  (∀ a, (k0_off42 v622) a + S1x16.size a ≤ S64x96.size a)
theorem k0_off39_inb : ∀ (v622 : BitVec 32) (k0_hw25 : k0_chk25 v622), ∀ a, (k0_off39 v622) a + S1x16.size a ≤ S64x96.size a := fun v622 k0_hw25 => k0_hw25.1
theorem k0_off40_inb : ∀ (v622 : BitVec 32) (k0_hw25 : k0_chk25 v622), ∀ a, (k0_off40 v622) a + S1x16.size a ≤ S64x96.size a := fun v622 k0_hw25 => k0_hw25.2.1
theorem k0_off41_inb : ∀ (v622 : BitVec 32) (k0_hw25 : k0_chk25 v622), ∀ a, (k0_off41 v622) a + S1x16.size a ≤ S64x96.size a := fun v622 k0_hw25 => k0_hw25.2.2.1
theorem k0_off42_inb : ∀ (v622 : BitVec 32) (k0_hw25 : k0_chk25 v622), ∀ a, (k0_off42 v622) a + S1x16.size a ≤ S64x96.size a := fun v622 k0_hw25 => k0_hw25.2.2.2

def k0_chk26 (v681 : IVec S16 32) : Prop :=
  (∀ a x, ((![v681] : Fin 1 → IVec S16 32) a x).toNat < S101376.size a)
theorem k0_idx11_inb : ∀ (v681 : IVec S16 32) (k0_hw26 : k0_chk26 v681), ∀ a x, ((![v681] : Fin 1 → IVec S16 32) a x).toNat < S101376.size a := fun v681 k0_hw26 => k0_hw26

def k0_chk27 (v695 : IVec S16 32) (v718 : IVec S16 32) : Prop :=
  (∀ a x, ((![v695, v718] : Fin 2 → IVec S16 32) a x).toNat < S64x96.size a)
theorem k0_idx12_inb : ∀ (v695 : IVec S16 32) (v718 : IVec S16 32) (k0_hw27 : k0_chk27 v695 v718), ∀ a x, ((![v695, v718] : Fin 2 → IVec S16 32) a x).toNat < S64x96.size a := fun v695 v718 k0_hw27 => k0_hw27

def k0_chk28 (v695 : IVec S16 32) (v721 : IVec S16 32) : Prop :=
  (∀ a x, ((![v695, v721] : Fin 2 → IVec S16 32) a x).toNat < S64x96.size a)
theorem k0_idx13_inb : ∀ (v695 : IVec S16 32) (v721 : IVec S16 32) (k0_hw28 : k0_chk28 v695 v721), ∀ a x, ((![v695, v721] : Fin 2 → IVec S16 32) a x).toNat < S64x96.size a := fun v695 v721 k0_hw28 => k0_hw28

def k0_chk29 (v695 : IVec S16 32) (v724 : IVec S16 32) : Prop :=
  (∀ a x, ((![v695, v724] : Fin 2 → IVec S16 32) a x).toNat < S64x96.size a)
theorem k0_idx14_inb : ∀ (v695 : IVec S16 32) (v724 : IVec S16 32) (k0_hw29 : k0_chk29 v695 v724), ∀ a x, ((![v695, v724] : Fin 2 → IVec S16 32) a x).toNat < S64x96.size a := fun v695 v724 k0_hw29 => k0_hw29

def k0_chk30 (v695 : IVec S16 32) (v727 : IVec S16 32) : Prop :=
  (∀ a x, ((![v695, v727] : Fin 2 → IVec S16 32) a x).toNat < S64x96.size a)
theorem k0_idx15_inb : ∀ (v695 : IVec S16 32) (v727 : IVec S16 32) (k0_hw30 : k0_chk30 v695 v727), ∀ a x, ((![v695, v727] : Fin 2 → IVec S16 32) a x).toNat < S64x96.size a := fun v695 v727 k0_hw30 => k0_hw30
def k0_mult11 (v735 : BitVec 32) : BitVec 32 :=
  v735

def k0_off43 (v735 : BitVec 32) : Fin 1 → Nat :=
  let v736 : BitVec 32 := v735
  let v737 : Index := Scalar.indexCast v736
  ![v737.toNat]

def k0_chk31 (v735 : BitVec 32) : Prop :=
  (8 ∣ (k0_mult11 v735).toNat) ∧
  (∀ a, (k0_off43 v735) a + S16.size a ≤ S101376.size a)
theorem k0_mult11_dvd : ∀ (v735 : BitVec 32) (k0_hw31 : k0_chk31 v735), 8 ∣ (k0_mult11 v735).toNat := fun v735 k0_hw31 => k0_hw31.1
theorem k0_off43_inb : ∀ (v735 : BitVec 32) (k0_hw31 : k0_chk31 v735), ∀ a, (k0_off43 v735) a + S16.size a ≤ S101376.size a := fun v735 k0_hw31 => k0_hw31.2

def k0_off44 (v733 : BitVec 32) : Fin 2 → Nat :=
  let v759 : Index := Scalar.indexCast v733
  let c0_197 : Index := 0#32
  ![v759.toNat, 0]

def k0_off45 (v733 : BitVec 32) : Fin 2 → Nat :=
  let v765 : Index := Scalar.indexCast v733
  let c16_199 : Index := 16#32
  ![v765.toNat, 16]
def k0_off46 (v733 : BitVec 32) : Fin 2 → Nat :=
  let v771 : Index := Scalar.indexCast v733
  let c32_201 : Index := 32#32
  ![v771.toNat, 32]
def k0_off47 (v733 : BitVec 32) : Fin 2 → Nat :=
  let v777 : Index := Scalar.indexCast v733
  let c48_203 : Index := 48#32
  ![v777.toNat, 48]

def k0_chk32 (v733 : BitVec 32) : Prop :=
  (∀ a, (k0_off44 v733) a + S1x16.size a ≤ S64x96.size a) ∧
  (∀ a, (k0_off45 v733) a + S1x16.size a ≤ S64x96.size a) ∧
  (∀ a, (k0_off46 v733) a + S1x16.size a ≤ S64x96.size a) ∧
  (∀ a, (k0_off47 v733) a + S1x16.size a ≤ S64x96.size a)
theorem k0_off44_inb : ∀ (v733 : BitVec 32) (k0_hw32 : k0_chk32 v733), ∀ a, (k0_off44 v733) a + S1x16.size a ≤ S64x96.size a := fun v733 k0_hw32 => k0_hw32.1
theorem k0_off45_inb : ∀ (v733 : BitVec 32) (k0_hw32 : k0_chk32 v733), ∀ a, (k0_off45 v733) a + S1x16.size a ≤ S64x96.size a := fun v733 k0_hw32 => k0_hw32.2.1
theorem k0_off46_inb : ∀ (v733 : BitVec 32) (k0_hw32 : k0_chk32 v733), ∀ a, (k0_off46 v733) a + S1x16.size a ≤ S64x96.size a := fun v733 k0_hw32 => k0_hw32.2.2.1
theorem k0_off47_inb : ∀ (v733 : BitVec 32) (k0_hw32 : k0_chk32 v733), ∀ a, (k0_off47 v733) a + S1x16.size a ≤ S64x96.size a := fun v733 k0_hw32 => k0_hw32.2.2.2

def k0_mult12 (v789 : BitVec 32) : BitVec 32 :=
  v789

def k0_off48 (v789 : BitVec 32) : Fin 1 → Nat :=
  let v790 : BitVec 32 := v789
  let v791 : Index := Scalar.indexCast v790
  ![v791.toNat]

def k0_chk33 (v789 : BitVec 32) : Prop :=
  (8 ∣ (k0_mult12 v789).toNat) ∧
  (∀ a, (k0_off48 v789) a + S16.size a ≤ S101376.size a)
theorem k0_mult12_dvd : ∀ (v789 : BitVec 32) (k0_hw33 : k0_chk33 v789), 8 ∣ (k0_mult12 v789).toNat := fun v789 k0_hw33 => k0_hw33.1
theorem k0_off48_inb : ∀ (v789 : BitVec 32) (k0_hw33 : k0_chk33 v789), ∀ a, (k0_off48 v789) a + S16.size a ≤ S101376.size a := fun v789 k0_hw33 => k0_hw33.2

def k0_off49 (v787 : BitVec 32) : Fin 2 → Nat :=
  let v813 : Index := Scalar.indexCast v787
  let c0_209 : Index := 0#32
  ![v813.toNat, 0]

def k0_off50 (v787 : BitVec 32) : Fin 2 → Nat :=
  let v819 : Index := Scalar.indexCast v787
  let c16_211 : Index := 16#32
  ![v819.toNat, 16]
def k0_off51 (v787 : BitVec 32) : Fin 2 → Nat :=
  let v825 : Index := Scalar.indexCast v787
  let c32_213 : Index := 32#32
  ![v825.toNat, 32]
def k0_off52 (v787 : BitVec 32) : Fin 2 → Nat :=
  let v831 : Index := Scalar.indexCast v787
  let c48_215 : Index := 48#32
  ![v831.toNat, 48]

def k0_chk34 (v787 : BitVec 32) : Prop :=
  (∀ a, (k0_off49 v787) a + S1x16.size a ≤ S64x96.size a) ∧
  (∀ a, (k0_off50 v787) a + S1x16.size a ≤ S64x96.size a) ∧
  (∀ a, (k0_off51 v787) a + S1x16.size a ≤ S64x96.size a) ∧
  (∀ a, (k0_off52 v787) a + S1x16.size a ≤ S64x96.size a)
theorem k0_off49_inb : ∀ (v787 : BitVec 32) (k0_hw34 : k0_chk34 v787), ∀ a, (k0_off49 v787) a + S1x16.size a ≤ S64x96.size a := fun v787 k0_hw34 => k0_hw34.1
theorem k0_off50_inb : ∀ (v787 : BitVec 32) (k0_hw34 : k0_chk34 v787), ∀ a, (k0_off50 v787) a + S1x16.size a ≤ S64x96.size a := fun v787 k0_hw34 => k0_hw34.2.1
theorem k0_off51_inb : ∀ (v787 : BitVec 32) (k0_hw34 : k0_chk34 v787), ∀ a, (k0_off51 v787) a + S1x16.size a ≤ S64x96.size a := fun v787 k0_hw34 => k0_hw34.2.2.1
theorem k0_off52_inb : ∀ (v787 : BitVec 32) (k0_hw34 : k0_chk34 v787), ∀ a, (k0_off52 v787) a + S1x16.size a ≤ S64x96.size a := fun v787 k0_hw34 => k0_hw34.2.2.2

def k0_chk35 (v846 : IVec S16 32) : Prop :=
  (∀ a x, ((![v846] : Fin 1 → IVec S16 32) a x).toNat < S101376.size a)
theorem k0_idx16_inb : ∀ (v846 : IVec S16 32) (k0_hw35 : k0_chk35 v846), ∀ a x, ((![v846] : Fin 1 → IVec S16 32) a x).toNat < S101376.size a := fun v846 k0_hw35 => k0_hw35

def k0_chk36 (v860 : IVec S16 32) (v883 : IVec S16 32) : Prop :=
  (∀ a x, ((![v860, v883] : Fin 2 → IVec S16 32) a x).toNat < S64x96.size a)
theorem k0_idx17_inb : ∀ (v860 : IVec S16 32) (v883 : IVec S16 32) (k0_hw36 : k0_chk36 v860 v883), ∀ a x, ((![v860, v883] : Fin 2 → IVec S16 32) a x).toNat < S64x96.size a := fun v860 v883 k0_hw36 => k0_hw36

def k0_chk37 (v860 : IVec S16 32) (v886 : IVec S16 32) : Prop :=
  (∀ a x, ((![v860, v886] : Fin 2 → IVec S16 32) a x).toNat < S64x96.size a)
theorem k0_idx18_inb : ∀ (v860 : IVec S16 32) (v886 : IVec S16 32) (k0_hw37 : k0_chk37 v860 v886), ∀ a x, ((![v860, v886] : Fin 2 → IVec S16 32) a x).toNat < S64x96.size a := fun v860 v886 k0_hw37 => k0_hw37

def k0_chk38 (v860 : IVec S16 32) (v889 : IVec S16 32) : Prop :=
  (∀ a x, ((![v860, v889] : Fin 2 → IVec S16 32) a x).toNat < S64x96.size a)
theorem k0_idx19_inb : ∀ (v860 : IVec S16 32) (v889 : IVec S16 32) (k0_hw38 : k0_chk38 v860 v889), ∀ a x, ((![v860, v889] : Fin 2 → IVec S16 32) a x).toNat < S64x96.size a := fun v860 v889 k0_hw38 => k0_hw38

def k0_chk39 (v860 : IVec S16 32) (v892 : IVec S16 32) : Prop :=
  (∀ a x, ((![v860, v892] : Fin 2 → IVec S16 32) a x).toNat < S64x96.size a)
theorem k0_idx20_inb : ∀ (v860 : IVec S16 32) (v892 : IVec S16 32) (k0_hw39 : k0_chk39 v860 v892), ∀ a x, ((![v860, v892] : Fin 2 → IVec S16 32) a x).toNat < S64x96.size a := fun v860 v892 k0_hw39 => k0_hw39
def k0_mult13 (v900 : BitVec 32) : BitVec 32 :=
  v900

def k0_off53 (v900 : BitVec 32) : Fin 1 → Nat :=
  let v901 : BitVec 32 := v900
  let v902 : Index := Scalar.indexCast v901
  ![v902.toNat]

def k0_chk40 (v900 : BitVec 32) : Prop :=
  (8 ∣ (k0_mult13 v900).toNat) ∧
  (∀ a, (k0_off53 v900) a + S16.size a ≤ S101376.size a)
theorem k0_mult13_dvd : ∀ (v900 : BitVec 32) (k0_hw40 : k0_chk40 v900), 8 ∣ (k0_mult13 v900).toNat := fun v900 k0_hw40 => k0_hw40.1
theorem k0_off53_inb : ∀ (v900 : BitVec 32) (k0_hw40 : k0_chk40 v900), ∀ a, (k0_off53 v900) a + S16.size a ≤ S101376.size a := fun v900 k0_hw40 => k0_hw40.2

def k0_off54 (v898 : BitVec 32) : Fin 2 → Nat :=
  let v924 : Index := Scalar.indexCast v898
  let c0_230 : Index := 0#32
  ![v924.toNat, 0]

def k0_off55 (v898 : BitVec 32) : Fin 2 → Nat :=
  let v930 : Index := Scalar.indexCast v898
  let c16_232 : Index := 16#32
  ![v930.toNat, 16]
def k0_off56 (v898 : BitVec 32) : Fin 2 → Nat :=
  let v936 : Index := Scalar.indexCast v898
  let c32_234 : Index := 32#32
  ![v936.toNat, 32]
def k0_off57 (v898 : BitVec 32) : Fin 2 → Nat :=
  let v942 : Index := Scalar.indexCast v898
  let c48_236 : Index := 48#32
  ![v942.toNat, 48]

def k0_chk41 (v898 : BitVec 32) : Prop :=
  (∀ a, (k0_off54 v898) a + S1x16.size a ≤ S64x96.size a) ∧
  (∀ a, (k0_off55 v898) a + S1x16.size a ≤ S64x96.size a) ∧
  (∀ a, (k0_off56 v898) a + S1x16.size a ≤ S64x96.size a) ∧
  (∀ a, (k0_off57 v898) a + S1x16.size a ≤ S64x96.size a)
theorem k0_off54_inb : ∀ (v898 : BitVec 32) (k0_hw41 : k0_chk41 v898), ∀ a, (k0_off54 v898) a + S1x16.size a ≤ S64x96.size a := fun v898 k0_hw41 => k0_hw41.1
theorem k0_off55_inb : ∀ (v898 : BitVec 32) (k0_hw41 : k0_chk41 v898), ∀ a, (k0_off55 v898) a + S1x16.size a ≤ S64x96.size a := fun v898 k0_hw41 => k0_hw41.2.1
theorem k0_off56_inb : ∀ (v898 : BitVec 32) (k0_hw41 : k0_chk41 v898), ∀ a, (k0_off56 v898) a + S1x16.size a ≤ S64x96.size a := fun v898 k0_hw41 => k0_hw41.2.2.1
theorem k0_off57_inb : ∀ (v898 : BitVec 32) (k0_hw41 : k0_chk41 v898), ∀ a, (k0_off57 v898) a + S1x16.size a ≤ S64x96.size a := fun v898 k0_hw41 => k0_hw41.2.2.2

def k0_mult14 (v954 : BitVec 32) : BitVec 32 :=
  v954

def k0_off58 (v954 : BitVec 32) : Fin 1 → Nat :=
  let v955 : BitVec 32 := v954
  let v956 : Index := Scalar.indexCast v955
  ![v956.toNat]

def k0_chk42 (v954 : BitVec 32) : Prop :=
  (8 ∣ (k0_mult14 v954).toNat) ∧
  (∀ a, (k0_off58 v954) a + S16.size a ≤ S101376.size a)
theorem k0_mult14_dvd : ∀ (v954 : BitVec 32) (k0_hw42 : k0_chk42 v954), 8 ∣ (k0_mult14 v954).toNat := fun v954 k0_hw42 => k0_hw42.1
theorem k0_off58_inb : ∀ (v954 : BitVec 32) (k0_hw42 : k0_chk42 v954), ∀ a, (k0_off58 v954) a + S16.size a ≤ S101376.size a := fun v954 k0_hw42 => k0_hw42.2

def k0_off59 (v952 : BitVec 32) : Fin 2 → Nat :=
  let v978 : Index := Scalar.indexCast v952
  let c0_242 : Index := 0#32
  ![v978.toNat, 0]

def k0_off60 (v952 : BitVec 32) : Fin 2 → Nat :=
  let v984 : Index := Scalar.indexCast v952
  let c16_244 : Index := 16#32
  ![v984.toNat, 16]
def k0_off61 (v952 : BitVec 32) : Fin 2 → Nat :=
  let v990 : Index := Scalar.indexCast v952
  let c32_246 : Index := 32#32
  ![v990.toNat, 32]
def k0_off62 (v952 : BitVec 32) : Fin 2 → Nat :=
  let v996 : Index := Scalar.indexCast v952
  let c48_248 : Index := 48#32
  ![v996.toNat, 48]

def k0_chk43 (v952 : BitVec 32) : Prop :=
  (∀ a, (k0_off59 v952) a + S1x16.size a ≤ S64x96.size a) ∧
  (∀ a, (k0_off60 v952) a + S1x16.size a ≤ S64x96.size a) ∧
  (∀ a, (k0_off61 v952) a + S1x16.size a ≤ S64x96.size a) ∧
  (∀ a, (k0_off62 v952) a + S1x16.size a ≤ S64x96.size a)
theorem k0_off59_inb : ∀ (v952 : BitVec 32) (k0_hw43 : k0_chk43 v952), ∀ a, (k0_off59 v952) a + S1x16.size a ≤ S64x96.size a := fun v952 k0_hw43 => k0_hw43.1
theorem k0_off60_inb : ∀ (v952 : BitVec 32) (k0_hw43 : k0_chk43 v952), ∀ a, (k0_off60 v952) a + S1x16.size a ≤ S64x96.size a := fun v952 k0_hw43 => k0_hw43.2.1
theorem k0_off61_inb : ∀ (v952 : BitVec 32) (k0_hw43 : k0_chk43 v952), ∀ a, (k0_off61 v952) a + S1x16.size a ≤ S64x96.size a := fun v952 k0_hw43 => k0_hw43.2.2.1
theorem k0_off62_inb : ∀ (v952 : BitVec 32) (k0_hw43 : k0_chk43 v952), ∀ a, (k0_off62 v952) a + S1x16.size a ≤ S64x96.size a := fun v952 k0_hw43 => k0_hw43.2.2.2

def k0_chk44 (v1011 : IVec S16 32) : Prop :=
  (∀ a x, ((![v1011] : Fin 1 → IVec S16 32) a x).toNat < S101376.size a)
theorem k0_idx21_inb : ∀ (v1011 : IVec S16 32) (k0_hw44 : k0_chk44 v1011), ∀ a x, ((![v1011] : Fin 1 → IVec S16 32) a x).toNat < S101376.size a := fun v1011 k0_hw44 => k0_hw44

def k0_chk45 (v1025 : IVec S16 32) (v1048 : IVec S16 32) : Prop :=
  (∀ a x, ((![v1025, v1048] : Fin 2 → IVec S16 32) a x).toNat < S64x96.size a)
theorem k0_idx22_inb : ∀ (v1025 : IVec S16 32) (v1048 : IVec S16 32) (k0_hw45 : k0_chk45 v1025 v1048), ∀ a x, ((![v1025, v1048] : Fin 2 → IVec S16 32) a x).toNat < S64x96.size a := fun v1025 v1048 k0_hw45 => k0_hw45

def k0_chk46 (v1025 : IVec S16 32) (v1051 : IVec S16 32) : Prop :=
  (∀ a x, ((![v1025, v1051] : Fin 2 → IVec S16 32) a x).toNat < S64x96.size a)
theorem k0_idx23_inb : ∀ (v1025 : IVec S16 32) (v1051 : IVec S16 32) (k0_hw46 : k0_chk46 v1025 v1051), ∀ a x, ((![v1025, v1051] : Fin 2 → IVec S16 32) a x).toNat < S64x96.size a := fun v1025 v1051 k0_hw46 => k0_hw46

def k0_chk47 (v1025 : IVec S16 32) (v1054 : IVec S16 32) : Prop :=
  (∀ a x, ((![v1025, v1054] : Fin 2 → IVec S16 32) a x).toNat < S64x96.size a)
theorem k0_idx24_inb : ∀ (v1025 : IVec S16 32) (v1054 : IVec S16 32) (k0_hw47 : k0_chk47 v1025 v1054), ∀ a x, ((![v1025, v1054] : Fin 2 → IVec S16 32) a x).toNat < S64x96.size a := fun v1025 v1054 k0_hw47 => k0_hw47

def k0_chk48 (v1025 : IVec S16 32) (v1057 : IVec S16 32) : Prop :=
  (∀ a x, ((![v1025, v1057] : Fin 2 → IVec S16 32) a x).toNat < S64x96.size a)
theorem k0_idx25_inb : ∀ (v1025 : IVec S16 32) (v1057 : IVec S16 32) (k0_hw48 : k0_chk48 v1025 v1057), ∀ a x, ((![v1025, v1057] : Fin 2 → IVec S16 32) a x).toNat < S64x96.size a := fun v1025 v1057 k0_hw48 => k0_hw48
def k0_mult15 (v1065 : BitVec 32) : BitVec 32 :=
  v1065

def k0_off63 (v1065 : BitVec 32) : Fin 1 → Nat :=
  let v1066 : BitVec 32 := v1065
  let v1067 : Index := Scalar.indexCast v1066
  ![v1067.toNat]

def k0_chk49 (v1065 : BitVec 32) : Prop :=
  (8 ∣ (k0_mult15 v1065).toNat) ∧
  (∀ a, (k0_off63 v1065) a + S16.size a ≤ S101376.size a)
theorem k0_mult15_dvd : ∀ (v1065 : BitVec 32) (k0_hw49 : k0_chk49 v1065), 8 ∣ (k0_mult15 v1065).toNat := fun v1065 k0_hw49 => k0_hw49.1
theorem k0_off63_inb : ∀ (v1065 : BitVec 32) (k0_hw49 : k0_chk49 v1065), ∀ a, (k0_off63 v1065) a + S16.size a ≤ S101376.size a := fun v1065 k0_hw49 => k0_hw49.2

def k0_off64 (v1063 : BitVec 32) : Fin 2 → Nat :=
  let v1089 : Index := Scalar.indexCast v1063
  let c0_263 : Index := 0#32
  ![v1089.toNat, 0]

def k0_off65 (v1063 : BitVec 32) : Fin 2 → Nat :=
  let v1095 : Index := Scalar.indexCast v1063
  let c16_265 : Index := 16#32
  ![v1095.toNat, 16]
def k0_off66 (v1063 : BitVec 32) : Fin 2 → Nat :=
  let v1101 : Index := Scalar.indexCast v1063
  let c32_267 : Index := 32#32
  ![v1101.toNat, 32]
def k0_off67 (v1063 : BitVec 32) : Fin 2 → Nat :=
  let v1107 : Index := Scalar.indexCast v1063
  let c48_269 : Index := 48#32
  ![v1107.toNat, 48]

def k0_chk50 (v1063 : BitVec 32) : Prop :=
  (∀ a, (k0_off64 v1063) a + S1x16.size a ≤ S64x96.size a) ∧
  (∀ a, (k0_off65 v1063) a + S1x16.size a ≤ S64x96.size a) ∧
  (∀ a, (k0_off66 v1063) a + S1x16.size a ≤ S64x96.size a) ∧
  (∀ a, (k0_off67 v1063) a + S1x16.size a ≤ S64x96.size a)
theorem k0_off64_inb : ∀ (v1063 : BitVec 32) (k0_hw50 : k0_chk50 v1063), ∀ a, (k0_off64 v1063) a + S1x16.size a ≤ S64x96.size a := fun v1063 k0_hw50 => k0_hw50.1
theorem k0_off65_inb : ∀ (v1063 : BitVec 32) (k0_hw50 : k0_chk50 v1063), ∀ a, (k0_off65 v1063) a + S1x16.size a ≤ S64x96.size a := fun v1063 k0_hw50 => k0_hw50.2.1
theorem k0_off66_inb : ∀ (v1063 : BitVec 32) (k0_hw50 : k0_chk50 v1063), ∀ a, (k0_off66 v1063) a + S1x16.size a ≤ S64x96.size a := fun v1063 k0_hw50 => k0_hw50.2.2.1
theorem k0_off67_inb : ∀ (v1063 : BitVec 32) (k0_hw50 : k0_chk50 v1063), ∀ a, (k0_off67 v1063) a + S1x16.size a ≤ S64x96.size a := fun v1063 k0_hw50 => k0_hw50.2.2.2

def k0_mult16 (v1119 : BitVec 32) : BitVec 32 :=
  v1119

def k0_off68 (v1119 : BitVec 32) : Fin 1 → Nat :=
  let v1120 : BitVec 32 := v1119
  let v1121 : Index := Scalar.indexCast v1120
  ![v1121.toNat]

def k0_chk51 (v1119 : BitVec 32) : Prop :=
  (8 ∣ (k0_mult16 v1119).toNat) ∧
  (∀ a, (k0_off68 v1119) a + S16.size a ≤ S101376.size a)
theorem k0_mult16_dvd : ∀ (v1119 : BitVec 32) (k0_hw51 : k0_chk51 v1119), 8 ∣ (k0_mult16 v1119).toNat := fun v1119 k0_hw51 => k0_hw51.1
theorem k0_off68_inb : ∀ (v1119 : BitVec 32) (k0_hw51 : k0_chk51 v1119), ∀ a, (k0_off68 v1119) a + S16.size a ≤ S101376.size a := fun v1119 k0_hw51 => k0_hw51.2

def k0_off69 (v1117 : BitVec 32) : Fin 2 → Nat :=
  let v1143 : Index := Scalar.indexCast v1117
  let c0_275 : Index := 0#32
  ![v1143.toNat, 0]

def k0_off70 (v1117 : BitVec 32) : Fin 2 → Nat :=
  let v1149 : Index := Scalar.indexCast v1117
  let c16_277 : Index := 16#32
  ![v1149.toNat, 16]
def k0_off71 (v1117 : BitVec 32) : Fin 2 → Nat :=
  let v1155 : Index := Scalar.indexCast v1117
  let c32_279 : Index := 32#32
  ![v1155.toNat, 32]
def k0_off72 (v1117 : BitVec 32) : Fin 2 → Nat :=
  let v1161 : Index := Scalar.indexCast v1117
  let c48_281 : Index := 48#32
  ![v1161.toNat, 48]

def k0_chk52 (v1117 : BitVec 32) : Prop :=
  (∀ a, (k0_off69 v1117) a + S1x16.size a ≤ S64x96.size a) ∧
  (∀ a, (k0_off70 v1117) a + S1x16.size a ≤ S64x96.size a) ∧
  (∀ a, (k0_off71 v1117) a + S1x16.size a ≤ S64x96.size a) ∧
  (∀ a, (k0_off72 v1117) a + S1x16.size a ≤ S64x96.size a)
theorem k0_off69_inb : ∀ (v1117 : BitVec 32) (k0_hw52 : k0_chk52 v1117), ∀ a, (k0_off69 v1117) a + S1x16.size a ≤ S64x96.size a := fun v1117 k0_hw52 => k0_hw52.1
theorem k0_off70_inb : ∀ (v1117 : BitVec 32) (k0_hw52 : k0_chk52 v1117), ∀ a, (k0_off70 v1117) a + S1x16.size a ≤ S64x96.size a := fun v1117 k0_hw52 => k0_hw52.2.1
theorem k0_off71_inb : ∀ (v1117 : BitVec 32) (k0_hw52 : k0_chk52 v1117), ∀ a, (k0_off71 v1117) a + S1x16.size a ≤ S64x96.size a := fun v1117 k0_hw52 => k0_hw52.2.2.1
theorem k0_off72_inb : ∀ (v1117 : BitVec 32) (k0_hw52 : k0_chk52 v1117), ∀ a, (k0_off72 v1117) a + S1x16.size a ≤ S64x96.size a := fun v1117 k0_hw52 => k0_hw52.2.2.2

def k0_chk53 (v1176 : IVec S16 32) : Prop :=
  (∀ a x, ((![v1176] : Fin 1 → IVec S16 32) a x).toNat < S101376.size a)
theorem k0_idx26_inb : ∀ (v1176 : IVec S16 32) (k0_hw53 : k0_chk53 v1176), ∀ a x, ((![v1176] : Fin 1 → IVec S16 32) a x).toNat < S101376.size a := fun v1176 k0_hw53 => k0_hw53

def k0_chk54 (v1190 : IVec S16 32) (v1213 : IVec S16 32) : Prop :=
  (∀ a x, ((![v1190, v1213] : Fin 2 → IVec S16 32) a x).toNat < S64x96.size a)
theorem k0_idx27_inb : ∀ (v1190 : IVec S16 32) (v1213 : IVec S16 32) (k0_hw54 : k0_chk54 v1190 v1213), ∀ a x, ((![v1190, v1213] : Fin 2 → IVec S16 32) a x).toNat < S64x96.size a := fun v1190 v1213 k0_hw54 => k0_hw54

def k0_chk55 (v1190 : IVec S16 32) (v1216 : IVec S16 32) : Prop :=
  (∀ a x, ((![v1190, v1216] : Fin 2 → IVec S16 32) a x).toNat < S64x96.size a)
theorem k0_idx28_inb : ∀ (v1190 : IVec S16 32) (v1216 : IVec S16 32) (k0_hw55 : k0_chk55 v1190 v1216), ∀ a x, ((![v1190, v1216] : Fin 2 → IVec S16 32) a x).toNat < S64x96.size a := fun v1190 v1216 k0_hw55 => k0_hw55

def k0_chk56 (v1190 : IVec S16 32) (v1219 : IVec S16 32) : Prop :=
  (∀ a x, ((![v1190, v1219] : Fin 2 → IVec S16 32) a x).toNat < S64x96.size a)
theorem k0_idx29_inb : ∀ (v1190 : IVec S16 32) (v1219 : IVec S16 32) (k0_hw56 : k0_chk56 v1190 v1219), ∀ a x, ((![v1190, v1219] : Fin 2 → IVec S16 32) a x).toNat < S64x96.size a := fun v1190 v1219 k0_hw56 => k0_hw56

def k0_chk57 (v1190 : IVec S16 32) (v1222 : IVec S16 32) : Prop :=
  (∀ a x, ((![v1190, v1222] : Fin 2 → IVec S16 32) a x).toNat < S64x96.size a)
theorem k0_idx30_inb : ∀ (v1190 : IVec S16 32) (v1222 : IVec S16 32) (k0_hw57 : k0_chk57 v1190 v1222), ∀ a x, ((![v1190, v1222] : Fin 2 → IVec S16 32) a x).toNat < S64x96.size a := fun v1190 v1222 k0_hw57 => k0_hw57
def k0_mult17 (v1230 : BitVec 32) : BitVec 32 :=
  v1230

def k0_off73 (v1230 : BitVec 32) : Fin 1 → Nat :=
  let v1231 : BitVec 32 := v1230
  let v1232 : Index := Scalar.indexCast v1231
  ![v1232.toNat]

def k0_chk58 (v1230 : BitVec 32) : Prop :=
  (8 ∣ (k0_mult17 v1230).toNat) ∧
  (∀ a, (k0_off73 v1230) a + S16.size a ≤ S101376.size a)
theorem k0_mult17_dvd : ∀ (v1230 : BitVec 32) (k0_hw58 : k0_chk58 v1230), 8 ∣ (k0_mult17 v1230).toNat := fun v1230 k0_hw58 => k0_hw58.1
theorem k0_off73_inb : ∀ (v1230 : BitVec 32) (k0_hw58 : k0_chk58 v1230), ∀ a, (k0_off73 v1230) a + S16.size a ≤ S101376.size a := fun v1230 k0_hw58 => k0_hw58.2

def k0_off74 (v1228 : BitVec 32) : Fin 2 → Nat :=
  let v1254 : Index := Scalar.indexCast v1228
  let c0_296 : Index := 0#32
  ![v1254.toNat, 0]

def k0_off75 (v1228 : BitVec 32) : Fin 2 → Nat :=
  let v1260 : Index := Scalar.indexCast v1228
  let c16_298 : Index := 16#32
  ![v1260.toNat, 16]
def k0_off76 (v1228 : BitVec 32) : Fin 2 → Nat :=
  let v1266 : Index := Scalar.indexCast v1228
  let c32_300 : Index := 32#32
  ![v1266.toNat, 32]
def k0_off77 (v1228 : BitVec 32) : Fin 2 → Nat :=
  let v1272 : Index := Scalar.indexCast v1228
  let c48_302 : Index := 48#32
  ![v1272.toNat, 48]

def k0_chk59 (v1228 : BitVec 32) : Prop :=
  (∀ a, (k0_off74 v1228) a + S1x16.size a ≤ S64x96.size a) ∧
  (∀ a, (k0_off75 v1228) a + S1x16.size a ≤ S64x96.size a) ∧
  (∀ a, (k0_off76 v1228) a + S1x16.size a ≤ S64x96.size a) ∧
  (∀ a, (k0_off77 v1228) a + S1x16.size a ≤ S64x96.size a)
theorem k0_off74_inb : ∀ (v1228 : BitVec 32) (k0_hw59 : k0_chk59 v1228), ∀ a, (k0_off74 v1228) a + S1x16.size a ≤ S64x96.size a := fun v1228 k0_hw59 => k0_hw59.1
theorem k0_off75_inb : ∀ (v1228 : BitVec 32) (k0_hw59 : k0_chk59 v1228), ∀ a, (k0_off75 v1228) a + S1x16.size a ≤ S64x96.size a := fun v1228 k0_hw59 => k0_hw59.2.1
theorem k0_off76_inb : ∀ (v1228 : BitVec 32) (k0_hw59 : k0_chk59 v1228), ∀ a, (k0_off76 v1228) a + S1x16.size a ≤ S64x96.size a := fun v1228 k0_hw59 => k0_hw59.2.2.1
theorem k0_off77_inb : ∀ (v1228 : BitVec 32) (k0_hw59 : k0_chk59 v1228), ∀ a, (k0_off77 v1228) a + S1x16.size a ≤ S64x96.size a := fun v1228 k0_hw59 => k0_hw59.2.2.2

def k0_mult18 (v1284 : BitVec 32) : BitVec 32 :=
  v1284

def k0_off78 (v1284 : BitVec 32) : Fin 1 → Nat :=
  let v1285 : BitVec 32 := v1284
  let v1286 : Index := Scalar.indexCast v1285
  ![v1286.toNat]

def k0_chk60 (v1284 : BitVec 32) : Prop :=
  (8 ∣ (k0_mult18 v1284).toNat) ∧
  (∀ a, (k0_off78 v1284) a + S16.size a ≤ S101376.size a)
theorem k0_mult18_dvd : ∀ (v1284 : BitVec 32) (k0_hw60 : k0_chk60 v1284), 8 ∣ (k0_mult18 v1284).toNat := fun v1284 k0_hw60 => k0_hw60.1
theorem k0_off78_inb : ∀ (v1284 : BitVec 32) (k0_hw60 : k0_chk60 v1284), ∀ a, (k0_off78 v1284) a + S16.size a ≤ S101376.size a := fun v1284 k0_hw60 => k0_hw60.2

def k0_off79 (v1282 : BitVec 32) : Fin 2 → Nat :=
  let v1308 : Index := Scalar.indexCast v1282
  let c0_308 : Index := 0#32
  ![v1308.toNat, 0]

def k0_off80 (v1282 : BitVec 32) : Fin 2 → Nat :=
  let v1314 : Index := Scalar.indexCast v1282
  let c16_310 : Index := 16#32
  ![v1314.toNat, 16]
def k0_off81 (v1282 : BitVec 32) : Fin 2 → Nat :=
  let v1320 : Index := Scalar.indexCast v1282
  let c32_312 : Index := 32#32
  ![v1320.toNat, 32]
def k0_off82 (v1282 : BitVec 32) : Fin 2 → Nat :=
  let v1326 : Index := Scalar.indexCast v1282
  let c48_314 : Index := 48#32
  ![v1326.toNat, 48]

def k0_chk61 (v1282 : BitVec 32) : Prop :=
  (∀ a, (k0_off79 v1282) a + S1x16.size a ≤ S64x96.size a) ∧
  (∀ a, (k0_off80 v1282) a + S1x16.size a ≤ S64x96.size a) ∧
  (∀ a, (k0_off81 v1282) a + S1x16.size a ≤ S64x96.size a) ∧
  (∀ a, (k0_off82 v1282) a + S1x16.size a ≤ S64x96.size a)
theorem k0_off79_inb : ∀ (v1282 : BitVec 32) (k0_hw61 : k0_chk61 v1282), ∀ a, (k0_off79 v1282) a + S1x16.size a ≤ S64x96.size a := fun v1282 k0_hw61 => k0_hw61.1
theorem k0_off80_inb : ∀ (v1282 : BitVec 32) (k0_hw61 : k0_chk61 v1282), ∀ a, (k0_off80 v1282) a + S1x16.size a ≤ S64x96.size a := fun v1282 k0_hw61 => k0_hw61.2.1
theorem k0_off81_inb : ∀ (v1282 : BitVec 32) (k0_hw61 : k0_chk61 v1282), ∀ a, (k0_off81 v1282) a + S1x16.size a ≤ S64x96.size a := fun v1282 k0_hw61 => k0_hw61.2.2.1
theorem k0_off82_inb : ∀ (v1282 : BitVec 32) (k0_hw61 : k0_chk61 v1282), ∀ a, (k0_off82 v1282) a + S1x16.size a ≤ S64x96.size a := fun v1282 k0_hw61 => k0_hw61.2.2.2

def k0_chk62 (v1341 : IVec S16 32) : Prop :=
  (∀ a x, ((![v1341] : Fin 1 → IVec S16 32) a x).toNat < S101376.size a)
theorem k0_idx31_inb : ∀ (v1341 : IVec S16 32) (k0_hw62 : k0_chk62 v1341), ∀ a x, ((![v1341] : Fin 1 → IVec S16 32) a x).toNat < S101376.size a := fun v1341 k0_hw62 => k0_hw62

def k0_chk63 (v1355 : IVec S16 32) (v1378 : IVec S16 32) : Prop :=
  (∀ a x, ((![v1355, v1378] : Fin 2 → IVec S16 32) a x).toNat < S64x96.size a)
theorem k0_idx32_inb : ∀ (v1355 : IVec S16 32) (v1378 : IVec S16 32) (k0_hw63 : k0_chk63 v1355 v1378), ∀ a x, ((![v1355, v1378] : Fin 2 → IVec S16 32) a x).toNat < S64x96.size a := fun v1355 v1378 k0_hw63 => k0_hw63

def k0_chk64 (v1355 : IVec S16 32) (v1381 : IVec S16 32) : Prop :=
  (∀ a x, ((![v1355, v1381] : Fin 2 → IVec S16 32) a x).toNat < S64x96.size a)
theorem k0_idx33_inb : ∀ (v1355 : IVec S16 32) (v1381 : IVec S16 32) (k0_hw64 : k0_chk64 v1355 v1381), ∀ a x, ((![v1355, v1381] : Fin 2 → IVec S16 32) a x).toNat < S64x96.size a := fun v1355 v1381 k0_hw64 => k0_hw64

def k0_chk65 (v1355 : IVec S16 32) (v1384 : IVec S16 32) : Prop :=
  (∀ a x, ((![v1355, v1384] : Fin 2 → IVec S16 32) a x).toNat < S64x96.size a)
theorem k0_idx34_inb : ∀ (v1355 : IVec S16 32) (v1384 : IVec S16 32) (k0_hw65 : k0_chk65 v1355 v1384), ∀ a x, ((![v1355, v1384] : Fin 2 → IVec S16 32) a x).toNat < S64x96.size a := fun v1355 v1384 k0_hw65 => k0_hw65

def k0_chk66 (v1355 : IVec S16 32) (v1387 : IVec S16 32) : Prop :=
  (∀ a x, ((![v1355, v1387] : Fin 2 → IVec S16 32) a x).toNat < S64x96.size a)
theorem k0_idx35_inb : ∀ (v1355 : IVec S16 32) (v1387 : IVec S16 32) (k0_hw66 : k0_chk66 v1355 v1387), ∀ a x, ((![v1355, v1387] : Fin 2 → IVec S16 32) a x).toNat < S64x96.size a := fun v1355 v1387 k0_hw66 => k0_hw66
def k0_mult19 (v1395 : BitVec 32) : BitVec 32 :=
  v1395

def k0_off83 (v1395 : BitVec 32) : Fin 1 → Nat :=
  let v1396 : BitVec 32 := v1395
  let v1397 : Index := Scalar.indexCast v1396
  ![v1397.toNat]

def k0_chk67 (v1395 : BitVec 32) : Prop :=
  (8 ∣ (k0_mult19 v1395).toNat) ∧
  (∀ a, (k0_off83 v1395) a + S16.size a ≤ S101376.size a)
theorem k0_mult19_dvd : ∀ (v1395 : BitVec 32) (k0_hw67 : k0_chk67 v1395), 8 ∣ (k0_mult19 v1395).toNat := fun v1395 k0_hw67 => k0_hw67.1
theorem k0_off83_inb : ∀ (v1395 : BitVec 32) (k0_hw67 : k0_chk67 v1395), ∀ a, (k0_off83 v1395) a + S16.size a ≤ S101376.size a := fun v1395 k0_hw67 => k0_hw67.2

def k0_off84 (v1393 : BitVec 32) : Fin 2 → Nat :=
  let v1419 : Index := Scalar.indexCast v1393
  let c0_329 : Index := 0#32
  ![v1419.toNat, 0]

def k0_off85 (v1393 : BitVec 32) : Fin 2 → Nat :=
  let v1425 : Index := Scalar.indexCast v1393
  let c16_331 : Index := 16#32
  ![v1425.toNat, 16]
def k0_off86 (v1393 : BitVec 32) : Fin 2 → Nat :=
  let v1431 : Index := Scalar.indexCast v1393
  let c32_333 : Index := 32#32
  ![v1431.toNat, 32]
def k0_off87 (v1393 : BitVec 32) : Fin 2 → Nat :=
  let v1437 : Index := Scalar.indexCast v1393
  let c48_335 : Index := 48#32
  ![v1437.toNat, 48]

def k0_chk68 (v1393 : BitVec 32) : Prop :=
  (∀ a, (k0_off84 v1393) a + S1x16.size a ≤ S64x96.size a) ∧
  (∀ a, (k0_off85 v1393) a + S1x16.size a ≤ S64x96.size a) ∧
  (∀ a, (k0_off86 v1393) a + S1x16.size a ≤ S64x96.size a) ∧
  (∀ a, (k0_off87 v1393) a + S1x16.size a ≤ S64x96.size a)
theorem k0_off84_inb : ∀ (v1393 : BitVec 32) (k0_hw68 : k0_chk68 v1393), ∀ a, (k0_off84 v1393) a + S1x16.size a ≤ S64x96.size a := fun v1393 k0_hw68 => k0_hw68.1
theorem k0_off85_inb : ∀ (v1393 : BitVec 32) (k0_hw68 : k0_chk68 v1393), ∀ a, (k0_off85 v1393) a + S1x16.size a ≤ S64x96.size a := fun v1393 k0_hw68 => k0_hw68.2.1
theorem k0_off86_inb : ∀ (v1393 : BitVec 32) (k0_hw68 : k0_chk68 v1393), ∀ a, (k0_off86 v1393) a + S1x16.size a ≤ S64x96.size a := fun v1393 k0_hw68 => k0_hw68.2.2.1
theorem k0_off87_inb : ∀ (v1393 : BitVec 32) (k0_hw68 : k0_chk68 v1393), ∀ a, (k0_off87 v1393) a + S1x16.size a ≤ S64x96.size a := fun v1393 k0_hw68 => k0_hw68.2.2.2

def k0_mult20 (v1449 : BitVec 32) : BitVec 32 :=
  v1449

def k0_off88 (v1449 : BitVec 32) : Fin 1 → Nat :=
  let v1450 : BitVec 32 := v1449
  let v1451 : Index := Scalar.indexCast v1450
  ![v1451.toNat]

def k0_chk69 (v1449 : BitVec 32) : Prop :=
  (8 ∣ (k0_mult20 v1449).toNat) ∧
  (∀ a, (k0_off88 v1449) a + S16.size a ≤ S101376.size a)
theorem k0_mult20_dvd : ∀ (v1449 : BitVec 32) (k0_hw69 : k0_chk69 v1449), 8 ∣ (k0_mult20 v1449).toNat := fun v1449 k0_hw69 => k0_hw69.1
theorem k0_off88_inb : ∀ (v1449 : BitVec 32) (k0_hw69 : k0_chk69 v1449), ∀ a, (k0_off88 v1449) a + S16.size a ≤ S101376.size a := fun v1449 k0_hw69 => k0_hw69.2

def k0_off89 (v1447 : BitVec 32) : Fin 2 → Nat :=
  let v1473 : Index := Scalar.indexCast v1447
  let c0_341 : Index := 0#32
  ![v1473.toNat, 0]

def k0_off90 (v1447 : BitVec 32) : Fin 2 → Nat :=
  let v1479 : Index := Scalar.indexCast v1447
  let c16_343 : Index := 16#32
  ![v1479.toNat, 16]
def k0_off91 (v1447 : BitVec 32) : Fin 2 → Nat :=
  let v1485 : Index := Scalar.indexCast v1447
  let c32_345 : Index := 32#32
  ![v1485.toNat, 32]
def k0_off92 (v1447 : BitVec 32) : Fin 2 → Nat :=
  let v1491 : Index := Scalar.indexCast v1447
  let c48_347 : Index := 48#32
  ![v1491.toNat, 48]

def k0_chk70 (v1447 : BitVec 32) : Prop :=
  (∀ a, (k0_off89 v1447) a + S1x16.size a ≤ S64x96.size a) ∧
  (∀ a, (k0_off90 v1447) a + S1x16.size a ≤ S64x96.size a) ∧
  (∀ a, (k0_off91 v1447) a + S1x16.size a ≤ S64x96.size a) ∧
  (∀ a, (k0_off92 v1447) a + S1x16.size a ≤ S64x96.size a)
theorem k0_off89_inb : ∀ (v1447 : BitVec 32) (k0_hw70 : k0_chk70 v1447), ∀ a, (k0_off89 v1447) a + S1x16.size a ≤ S64x96.size a := fun v1447 k0_hw70 => k0_hw70.1
theorem k0_off90_inb : ∀ (v1447 : BitVec 32) (k0_hw70 : k0_chk70 v1447), ∀ a, (k0_off90 v1447) a + S1x16.size a ≤ S64x96.size a := fun v1447 k0_hw70 => k0_hw70.2.1
theorem k0_off91_inb : ∀ (v1447 : BitVec 32) (k0_hw70 : k0_chk70 v1447), ∀ a, (k0_off91 v1447) a + S1x16.size a ≤ S64x96.size a := fun v1447 k0_hw70 => k0_hw70.2.2.1
theorem k0_off92_inb : ∀ (v1447 : BitVec 32) (k0_hw70 : k0_chk70 v1447), ∀ a, (k0_off92 v1447) a + S1x16.size a ≤ S64x96.size a := fun v1447 k0_hw70 => k0_hw70.2.2.2

def k0_chk71 (v1506 : IVec S16 32) : Prop :=
  (∀ a x, ((![v1506] : Fin 1 → IVec S16 32) a x).toNat < S101376.size a)
theorem k0_idx36_inb : ∀ (v1506 : IVec S16 32) (k0_hw71 : k0_chk71 v1506), ∀ a x, ((![v1506] : Fin 1 → IVec S16 32) a x).toNat < S101376.size a := fun v1506 k0_hw71 => k0_hw71

def k0_chk72 (v1520 : IVec S16 32) (v1543 : IVec S16 32) : Prop :=
  (∀ a x, ((![v1520, v1543] : Fin 2 → IVec S16 32) a x).toNat < S64x96.size a)
theorem k0_idx37_inb : ∀ (v1520 : IVec S16 32) (v1543 : IVec S16 32) (k0_hw72 : k0_chk72 v1520 v1543), ∀ a x, ((![v1520, v1543] : Fin 2 → IVec S16 32) a x).toNat < S64x96.size a := fun v1520 v1543 k0_hw72 => k0_hw72

def k0_chk73 (v1520 : IVec S16 32) (v1546 : IVec S16 32) : Prop :=
  (∀ a x, ((![v1520, v1546] : Fin 2 → IVec S16 32) a x).toNat < S64x96.size a)
theorem k0_idx38_inb : ∀ (v1520 : IVec S16 32) (v1546 : IVec S16 32) (k0_hw73 : k0_chk73 v1520 v1546), ∀ a x, ((![v1520, v1546] : Fin 2 → IVec S16 32) a x).toNat < S64x96.size a := fun v1520 v1546 k0_hw73 => k0_hw73

def k0_chk74 (v1520 : IVec S16 32) (v1549 : IVec S16 32) : Prop :=
  (∀ a x, ((![v1520, v1549] : Fin 2 → IVec S16 32) a x).toNat < S64x96.size a)
theorem k0_idx39_inb : ∀ (v1520 : IVec S16 32) (v1549 : IVec S16 32) (k0_hw74 : k0_chk74 v1520 v1549), ∀ a x, ((![v1520, v1549] : Fin 2 → IVec S16 32) a x).toNat < S64x96.size a := fun v1520 v1549 k0_hw74 => k0_hw74

def k0_chk75 (v1520 : IVec S16 32) (v1552 : IVec S16 32) : Prop :=
  (∀ a x, ((![v1520, v1552] : Fin 2 → IVec S16 32) a x).toNat < S64x96.size a)
theorem k0_idx40_inb : ∀ (v1520 : IVec S16 32) (v1552 : IVec S16 32) (k0_hw75 : k0_chk75 v1520 v1552), ∀ a x, ((![v1520, v1552] : Fin 2 → IVec S16 32) a x).toNat < S64x96.size a := fun v1520 v1552 k0_hw75 => k0_hw75
@[reducible] def k0_t5_loop (v50 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v50 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let v202 : BitVec 32 := Scalar.addi c0_i32_92 v201
  let c1_i32_95 : BitVec 32 := 1#32
  ⟨v205, v202, c1_i32_95⟩
def k0_off93 (v50 : BitVec 32) (arg19 : BitVec 32) (k0_t5 : Fin (k0_t5_loop v50 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v50 v190
  let c1024_i32_88 : BitVec 32 := 1024#32
  let v195 : BitVec 32 := Scalar.muli v185 c1024_i32_88
  let v196 : BitVec 32 := Scalar.subi v191 v195
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_95 : BitVec 32 := 1#32
  let arg21 : BitVec 32 := Scf.iv v205 c1_i32_95 k0_t5
  let c16_i32_91 : BitVec 32 := 16#32
  let v206 : BitVec 32 := Scalar.muli arg21 c16_i32_91
  let v207 : BitVec 32 := Scalar.addi v194 v206
  let v208 : Index := Scalar.indexCast v207
  ![v208.toNat]

def k0_chk3 (v50 : BitVec 32) (arg19 : BitVec 32) : Prop :=
  ((k0_t4_loop v50 arg19).OK) ∧
  (∀ k0_t4 : Fin (k0_t4_loop v50 arg19).trips, ∀ a, (k0_off12 v50 arg19 k0_t4) a + S16.size a ≤ S1024.size a) ∧
  ((k0_t5_loop v50 arg19).OK) ∧
  (∀ k0_t5 : Fin (k0_t5_loop v50 arg19).trips, ∀ a, (k0_off93 v50 arg19 k0_t5) a + S16.size a ≤ S1024.size a)
theorem k0_t4_ok : ∀ (v50 : BitVec 32) (arg19 : BitVec 32) (k0_hw3 : k0_chk3 v50 arg19), (k0_t4_loop v50 arg19).OK := fun v50 arg19 k0_hw3 => k0_hw3.1
theorem k0_off12_inb : ∀ (v50 : BitVec 32) (arg19 : BitVec 32) (k0_hw3 : k0_chk3 v50 arg19) (k0_t4 : Fin (k0_t4_loop v50 arg19).trips), ∀ a, (k0_off12 v50 arg19 k0_t4) a + S16.size a ≤ S1024.size a := fun v50 arg19 k0_hw3 k0_t4 => k0_hw3.2.1 k0_t4
theorem k0_t5_ok : ∀ (v50 : BitVec 32) (arg19 : BitVec 32) (k0_hw3 : k0_chk3 v50 arg19), (k0_t5_loop v50 arg19).OK := fun v50 arg19 k0_hw3 => k0_hw3.2.2.1
theorem k0_off93_inb : ∀ (v50 : BitVec 32) (arg19 : BitVec 32) (k0_hw3 : k0_chk3 v50 arg19) (k0_t5 : Fin (k0_t5_loop v50 arg19).trips), ∀ a, (k0_off93 v50 arg19 k0_t5) a + S16.size a ≤ S1024.size a := fun v50 arg19 k0_hw3 k0_t5 => k0_hw3.2.2.2 k0_t5

def k0_mult21 (v240 : BitVec 32) : BitVec 32 :=
  v240

def k0_off94 (v240 : BitVec 32) : Fin 1 → Nat :=
  let v241 : BitVec 32 := v240
  let v242 : Index := Scalar.indexCast v241
  ![v242.toNat]

def k0_chk76 (v240 : BitVec 32) : Prop :=
  (8 ∣ (k0_mult21 v240).toNat) ∧
  (∀ a, (k0_off94 v240) a + S16.size a ≤ S101376.size a)
theorem k0_mult21_dvd : ∀ (v240 : BitVec 32) (k0_hw76 : k0_chk76 v240), 8 ∣ (k0_mult21 v240).toNat := fun v240 k0_hw76 => k0_hw76.1
theorem k0_off94_inb : ∀ (v240 : BitVec 32) (k0_hw76 : k0_chk76 v240), ∀ a, (k0_off94 v240) a + S16.size a ≤ S101376.size a := fun v240 k0_hw76 => k0_hw76.2

def k0_off95 (v238 : BitVec 32) : Fin 2 → Nat :=
  let v264 : Index := Scalar.indexCast v238
  let c0 : Index := 0#32
  ![v264.toNat, 0]

def k0_off96 (v238 : BitVec 32) : Fin 2 → Nat :=
  let v270 : Index := Scalar.indexCast v238
  let c16 : Index := 16#32
  ![v270.toNat, 16]
def k0_off97 (v238 : BitVec 32) : Fin 2 → Nat :=
  let v276 : Index := Scalar.indexCast v238
  let c32 : Index := 32#32
  ![v276.toNat, 32]
def k0_off98 (v238 : BitVec 32) : Fin 2 → Nat :=
  let v282 : Index := Scalar.indexCast v238
  let c48 : Index := 48#32
  ![v282.toNat, 48]

def k0_chk77 (v238 : BitVec 32) : Prop :=
  (∀ a, (k0_off95 v238) a + S1x16.size a ≤ S64x96.size a) ∧
  (∀ a, (k0_off96 v238) a + S1x16.size a ≤ S64x96.size a) ∧
  (∀ a, (k0_off97 v238) a + S1x16.size a ≤ S64x96.size a) ∧
  (∀ a, (k0_off98 v238) a + S1x16.size a ≤ S64x96.size a)
theorem k0_off95_inb : ∀ (v238 : BitVec 32) (k0_hw77 : k0_chk77 v238), ∀ a, (k0_off95 v238) a + S1x16.size a ≤ S64x96.size a := fun v238 k0_hw77 => k0_hw77.1
theorem k0_off96_inb : ∀ (v238 : BitVec 32) (k0_hw77 : k0_chk77 v238), ∀ a, (k0_off96 v238) a + S1x16.size a ≤ S64x96.size a := fun v238 k0_hw77 => k0_hw77.2.1
theorem k0_off97_inb : ∀ (v238 : BitVec 32) (k0_hw77 : k0_chk77 v238), ∀ a, (k0_off97 v238) a + S1x16.size a ≤ S64x96.size a := fun v238 k0_hw77 => k0_hw77.2.2.1
theorem k0_off98_inb : ∀ (v238 : BitVec 32) (k0_hw77 : k0_chk77 v238), ∀ a, (k0_off98 v238) a + S1x16.size a ≤ S64x96.size a := fun v238 k0_hw77 => k0_hw77.2.2.2

def k0_mult22 (v294 : BitVec 32) : BitVec 32 :=
  v294

def k0_off99 (v294 : BitVec 32) : Fin 1 → Nat :=
  let v295 : BitVec 32 := v294
  let v296 : Index := Scalar.indexCast v295
  ![v296.toNat]

def k0_chk78 (v294 : BitVec 32) : Prop :=
  (8 ∣ (k0_mult22 v294).toNat) ∧
  (∀ a, (k0_off99 v294) a + S16.size a ≤ S101376.size a)
theorem k0_mult22_dvd : ∀ (v294 : BitVec 32) (k0_hw78 : k0_chk78 v294), 8 ∣ (k0_mult22 v294).toNat := fun v294 k0_hw78 => k0_hw78.1
theorem k0_off99_inb : ∀ (v294 : BitVec 32) (k0_hw78 : k0_chk78 v294), ∀ a, (k0_off99 v294) a + S16.size a ≤ S101376.size a := fun v294 k0_hw78 => k0_hw78.2

def k0_off100 (v292 : BitVec 32) : Fin 2 → Nat :=
  let v318 : Index := Scalar.indexCast v292
  let c0_113 : Index := 0#32
  ![v318.toNat, 0]

def k0_off101 (v292 : BitVec 32) : Fin 2 → Nat :=
  let v324 : Index := Scalar.indexCast v292
  let c16_115 : Index := 16#32
  ![v324.toNat, 16]
def k0_off102 (v292 : BitVec 32) : Fin 2 → Nat :=
  let v330 : Index := Scalar.indexCast v292
  let c32_117 : Index := 32#32
  ![v330.toNat, 32]
def k0_off103 (v292 : BitVec 32) : Fin 2 → Nat :=
  let v336 : Index := Scalar.indexCast v292
  let c48_119 : Index := 48#32
  ![v336.toNat, 48]

def k0_chk79 (v292 : BitVec 32) : Prop :=
  (∀ a, (k0_off100 v292) a + S1x16.size a ≤ S64x96.size a) ∧
  (∀ a, (k0_off101 v292) a + S1x16.size a ≤ S64x96.size a) ∧
  (∀ a, (k0_off102 v292) a + S1x16.size a ≤ S64x96.size a) ∧
  (∀ a, (k0_off103 v292) a + S1x16.size a ≤ S64x96.size a)
theorem k0_off100_inb : ∀ (v292 : BitVec 32) (k0_hw79 : k0_chk79 v292), ∀ a, (k0_off100 v292) a + S1x16.size a ≤ S64x96.size a := fun v292 k0_hw79 => k0_hw79.1
theorem k0_off101_inb : ∀ (v292 : BitVec 32) (k0_hw79 : k0_chk79 v292), ∀ a, (k0_off101 v292) a + S1x16.size a ≤ S64x96.size a := fun v292 k0_hw79 => k0_hw79.2.1
theorem k0_off102_inb : ∀ (v292 : BitVec 32) (k0_hw79 : k0_chk79 v292), ∀ a, (k0_off102 v292) a + S1x16.size a ≤ S64x96.size a := fun v292 k0_hw79 => k0_hw79.2.2.1
theorem k0_off103_inb : ∀ (v292 : BitVec 32) (k0_hw79 : k0_chk79 v292), ∀ a, (k0_off103 v292) a + S1x16.size a ≤ S64x96.size a := fun v292 k0_hw79 => k0_hw79.2.2.2

def k0_chk80 (v351 : IVec S16 32) : Prop :=
  (∀ a x, ((![v351] : Fin 1 → IVec S16 32) a x).toNat < S101376.size a)
theorem k0_idx41_inb : ∀ (v351 : IVec S16 32) (k0_hw80 : k0_chk80 v351), ∀ a x, ((![v351] : Fin 1 → IVec S16 32) a x).toNat < S101376.size a := fun v351 k0_hw80 => k0_hw80

def k0_chk81 (v365 : IVec S16 32) (v388 : IVec S16 32) : Prop :=
  (∀ a x, ((![v365, v388] : Fin 2 → IVec S16 32) a x).toNat < S64x96.size a)
theorem k0_idx42_inb : ∀ (v365 : IVec S16 32) (v388 : IVec S16 32) (k0_hw81 : k0_chk81 v365 v388), ∀ a x, ((![v365, v388] : Fin 2 → IVec S16 32) a x).toNat < S64x96.size a := fun v365 v388 k0_hw81 => k0_hw81

def k0_chk82 (v365 : IVec S16 32) (v391 : IVec S16 32) : Prop :=
  (∀ a x, ((![v365, v391] : Fin 2 → IVec S16 32) a x).toNat < S64x96.size a)
theorem k0_idx43_inb : ∀ (v365 : IVec S16 32) (v391 : IVec S16 32) (k0_hw82 : k0_chk82 v365 v391), ∀ a x, ((![v365, v391] : Fin 2 → IVec S16 32) a x).toNat < S64x96.size a := fun v365 v391 k0_hw82 => k0_hw82

def k0_chk83 (v365 : IVec S16 32) (v394 : IVec S16 32) : Prop :=
  (∀ a x, ((![v365, v394] : Fin 2 → IVec S16 32) a x).toNat < S64x96.size a)
theorem k0_idx44_inb : ∀ (v365 : IVec S16 32) (v394 : IVec S16 32) (k0_hw83 : k0_chk83 v365 v394), ∀ a x, ((![v365, v394] : Fin 2 → IVec S16 32) a x).toNat < S64x96.size a := fun v365 v394 k0_hw83 => k0_hw83

def k0_chk84 (v365 : IVec S16 32) (v397 : IVec S16 32) : Prop :=
  (∀ a x, ((![v365, v397] : Fin 2 → IVec S16 32) a x).toNat < S64x96.size a)
theorem k0_idx45_inb : ∀ (v365 : IVec S16 32) (v397 : IVec S16 32) (k0_hw84 : k0_chk84 v365 v397), ∀ a x, ((![v365, v397] : Fin 2 → IVec S16 32) a x).toNat < S64x96.size a := fun v365 v397 k0_hw84 => k0_hw84
def k0_mult23 (v405 : BitVec 32) : BitVec 32 :=
  v405

def k0_off104 (v405 : BitVec 32) : Fin 1 → Nat :=
  let v406 : BitVec 32 := v405
  let v407 : Index := Scalar.indexCast v406
  ![v407.toNat]

def k0_chk85 (v405 : BitVec 32) : Prop :=
  (8 ∣ (k0_mult23 v405).toNat) ∧
  (∀ a, (k0_off104 v405) a + S16.size a ≤ S101376.size a)
theorem k0_mult23_dvd : ∀ (v405 : BitVec 32) (k0_hw85 : k0_chk85 v405), 8 ∣ (k0_mult23 v405).toNat := fun v405 k0_hw85 => k0_hw85.1
theorem k0_off104_inb : ∀ (v405 : BitVec 32) (k0_hw85 : k0_chk85 v405), ∀ a, (k0_off104 v405) a + S16.size a ≤ S101376.size a := fun v405 k0_hw85 => k0_hw85.2

def k0_off105 (v403 : BitVec 32) : Fin 2 → Nat :=
  let v429 : Index := Scalar.indexCast v403
  let c0_131 : Index := 0#32
  ![v429.toNat, 0]

def k0_off106 (v403 : BitVec 32) : Fin 2 → Nat :=
  let v435 : Index := Scalar.indexCast v403
  let c16_133 : Index := 16#32
  ![v435.toNat, 16]
def k0_off107 (v403 : BitVec 32) : Fin 2 → Nat :=
  let v441 : Index := Scalar.indexCast v403
  let c32_135 : Index := 32#32
  ![v441.toNat, 32]
def k0_off108 (v403 : BitVec 32) : Fin 2 → Nat :=
  let v447 : Index := Scalar.indexCast v403
  let c48_137 : Index := 48#32
  ![v447.toNat, 48]

def k0_chk86 (v403 : BitVec 32) : Prop :=
  (∀ a, (k0_off105 v403) a + S1x16.size a ≤ S64x96.size a) ∧
  (∀ a, (k0_off106 v403) a + S1x16.size a ≤ S64x96.size a) ∧
  (∀ a, (k0_off107 v403) a + S1x16.size a ≤ S64x96.size a) ∧
  (∀ a, (k0_off108 v403) a + S1x16.size a ≤ S64x96.size a)
theorem k0_off105_inb : ∀ (v403 : BitVec 32) (k0_hw86 : k0_chk86 v403), ∀ a, (k0_off105 v403) a + S1x16.size a ≤ S64x96.size a := fun v403 k0_hw86 => k0_hw86.1
theorem k0_off106_inb : ∀ (v403 : BitVec 32) (k0_hw86 : k0_chk86 v403), ∀ a, (k0_off106 v403) a + S1x16.size a ≤ S64x96.size a := fun v403 k0_hw86 => k0_hw86.2.1
theorem k0_off107_inb : ∀ (v403 : BitVec 32) (k0_hw86 : k0_chk86 v403), ∀ a, (k0_off107 v403) a + S1x16.size a ≤ S64x96.size a := fun v403 k0_hw86 => k0_hw86.2.2.1
theorem k0_off108_inb : ∀ (v403 : BitVec 32) (k0_hw86 : k0_chk86 v403), ∀ a, (k0_off108 v403) a + S1x16.size a ≤ S64x96.size a := fun v403 k0_hw86 => k0_hw86.2.2.2

def k0_mult24 (v459 : BitVec 32) : BitVec 32 :=
  v459

def k0_off109 (v459 : BitVec 32) : Fin 1 → Nat :=
  let v460 : BitVec 32 := v459
  let v461 : Index := Scalar.indexCast v460
  ![v461.toNat]

def k0_chk87 (v459 : BitVec 32) : Prop :=
  (8 ∣ (k0_mult24 v459).toNat) ∧
  (∀ a, (k0_off109 v459) a + S16.size a ≤ S101376.size a)
theorem k0_mult24_dvd : ∀ (v459 : BitVec 32) (k0_hw87 : k0_chk87 v459), 8 ∣ (k0_mult24 v459).toNat := fun v459 k0_hw87 => k0_hw87.1
theorem k0_off109_inb : ∀ (v459 : BitVec 32) (k0_hw87 : k0_chk87 v459), ∀ a, (k0_off109 v459) a + S16.size a ≤ S101376.size a := fun v459 k0_hw87 => k0_hw87.2

def k0_off110 (v457 : BitVec 32) : Fin 2 → Nat :=
  let v483 : Index := Scalar.indexCast v457
  let c0_143 : Index := 0#32
  ![v483.toNat, 0]

def k0_off111 (v457 : BitVec 32) : Fin 2 → Nat :=
  let v489 : Index := Scalar.indexCast v457
  let c16_145 : Index := 16#32
  ![v489.toNat, 16]
def k0_off112 (v457 : BitVec 32) : Fin 2 → Nat :=
  let v495 : Index := Scalar.indexCast v457
  let c32_147 : Index := 32#32
  ![v495.toNat, 32]
def k0_off113 (v457 : BitVec 32) : Fin 2 → Nat :=
  let v501 : Index := Scalar.indexCast v457
  let c48_149 : Index := 48#32
  ![v501.toNat, 48]

def k0_chk88 (v457 : BitVec 32) : Prop :=
  (∀ a, (k0_off110 v457) a + S1x16.size a ≤ S64x96.size a) ∧
  (∀ a, (k0_off111 v457) a + S1x16.size a ≤ S64x96.size a) ∧
  (∀ a, (k0_off112 v457) a + S1x16.size a ≤ S64x96.size a) ∧
  (∀ a, (k0_off113 v457) a + S1x16.size a ≤ S64x96.size a)
theorem k0_off110_inb : ∀ (v457 : BitVec 32) (k0_hw88 : k0_chk88 v457), ∀ a, (k0_off110 v457) a + S1x16.size a ≤ S64x96.size a := fun v457 k0_hw88 => k0_hw88.1
theorem k0_off111_inb : ∀ (v457 : BitVec 32) (k0_hw88 : k0_chk88 v457), ∀ a, (k0_off111 v457) a + S1x16.size a ≤ S64x96.size a := fun v457 k0_hw88 => k0_hw88.2.1
theorem k0_off112_inb : ∀ (v457 : BitVec 32) (k0_hw88 : k0_chk88 v457), ∀ a, (k0_off112 v457) a + S1x16.size a ≤ S64x96.size a := fun v457 k0_hw88 => k0_hw88.2.2.1
theorem k0_off113_inb : ∀ (v457 : BitVec 32) (k0_hw88 : k0_chk88 v457), ∀ a, (k0_off113 v457) a + S1x16.size a ≤ S64x96.size a := fun v457 k0_hw88 => k0_hw88.2.2.2

def k0_chk89 (v516 : IVec S16 32) : Prop :=
  (∀ a x, ((![v516] : Fin 1 → IVec S16 32) a x).toNat < S101376.size a)
theorem k0_idx46_inb : ∀ (v516 : IVec S16 32) (k0_hw89 : k0_chk89 v516), ∀ a x, ((![v516] : Fin 1 → IVec S16 32) a x).toNat < S101376.size a := fun v516 k0_hw89 => k0_hw89

def k0_chk90 (v530 : IVec S16 32) (v553 : IVec S16 32) : Prop :=
  (∀ a x, ((![v530, v553] : Fin 2 → IVec S16 32) a x).toNat < S64x96.size a)
theorem k0_idx47_inb : ∀ (v530 : IVec S16 32) (v553 : IVec S16 32) (k0_hw90 : k0_chk90 v530 v553), ∀ a x, ((![v530, v553] : Fin 2 → IVec S16 32) a x).toNat < S64x96.size a := fun v530 v553 k0_hw90 => k0_hw90

def k0_chk91 (v530 : IVec S16 32) (v556 : IVec S16 32) : Prop :=
  (∀ a x, ((![v530, v556] : Fin 2 → IVec S16 32) a x).toNat < S64x96.size a)
theorem k0_idx48_inb : ∀ (v530 : IVec S16 32) (v556 : IVec S16 32) (k0_hw91 : k0_chk91 v530 v556), ∀ a x, ((![v530, v556] : Fin 2 → IVec S16 32) a x).toNat < S64x96.size a := fun v530 v556 k0_hw91 => k0_hw91

def k0_chk92 (v530 : IVec S16 32) (v559 : IVec S16 32) : Prop :=
  (∀ a x, ((![v530, v559] : Fin 2 → IVec S16 32) a x).toNat < S64x96.size a)
theorem k0_idx49_inb : ∀ (v530 : IVec S16 32) (v559 : IVec S16 32) (k0_hw92 : k0_chk92 v530 v559), ∀ a x, ((![v530, v559] : Fin 2 → IVec S16 32) a x).toNat < S64x96.size a := fun v530 v559 k0_hw92 => k0_hw92

def k0_chk93 (v530 : IVec S16 32) (v562 : IVec S16 32) : Prop :=
  (∀ a x, ((![v530, v562] : Fin 2 → IVec S16 32) a x).toNat < S64x96.size a)
theorem k0_idx50_inb : ∀ (v530 : IVec S16 32) (v562 : IVec S16 32) (k0_hw93 : k0_chk93 v530 v562), ∀ a x, ((![v530, v562] : Fin 2 → IVec S16 32) a x).toNat < S64x96.size a := fun v530 v562 k0_hw93 => k0_hw93
def k0_mult25 (v570 : BitVec 32) : BitVec 32 :=
  v570

def k0_off114 (v570 : BitVec 32) : Fin 1 → Nat :=
  let v571 : BitVec 32 := v570
  let v572 : Index := Scalar.indexCast v571
  ![v572.toNat]

def k0_chk94 (v570 : BitVec 32) : Prop :=
  (8 ∣ (k0_mult25 v570).toNat) ∧
  (∀ a, (k0_off114 v570) a + S16.size a ≤ S101376.size a)
theorem k0_mult25_dvd : ∀ (v570 : BitVec 32) (k0_hw94 : k0_chk94 v570), 8 ∣ (k0_mult25 v570).toNat := fun v570 k0_hw94 => k0_hw94.1
theorem k0_off114_inb : ∀ (v570 : BitVec 32) (k0_hw94 : k0_chk94 v570), ∀ a, (k0_off114 v570) a + S16.size a ≤ S101376.size a := fun v570 k0_hw94 => k0_hw94.2

def k0_off115 (v568 : BitVec 32) : Fin 2 → Nat :=
  let v594 : Index := Scalar.indexCast v568
  let c0_164 : Index := 0#32
  ![v594.toNat, 0]

def k0_off116 (v568 : BitVec 32) : Fin 2 → Nat :=
  let v600 : Index := Scalar.indexCast v568
  let c16_166 : Index := 16#32
  ![v600.toNat, 16]
def k0_off117 (v568 : BitVec 32) : Fin 2 → Nat :=
  let v606 : Index := Scalar.indexCast v568
  let c32_168 : Index := 32#32
  ![v606.toNat, 32]
def k0_off118 (v568 : BitVec 32) : Fin 2 → Nat :=
  let v612 : Index := Scalar.indexCast v568
  let c48_170 : Index := 48#32
  ![v612.toNat, 48]

def k0_chk95 (v568 : BitVec 32) : Prop :=
  (∀ a, (k0_off115 v568) a + S1x16.size a ≤ S64x96.size a) ∧
  (∀ a, (k0_off116 v568) a + S1x16.size a ≤ S64x96.size a) ∧
  (∀ a, (k0_off117 v568) a + S1x16.size a ≤ S64x96.size a) ∧
  (∀ a, (k0_off118 v568) a + S1x16.size a ≤ S64x96.size a)
theorem k0_off115_inb : ∀ (v568 : BitVec 32) (k0_hw95 : k0_chk95 v568), ∀ a, (k0_off115 v568) a + S1x16.size a ≤ S64x96.size a := fun v568 k0_hw95 => k0_hw95.1
theorem k0_off116_inb : ∀ (v568 : BitVec 32) (k0_hw95 : k0_chk95 v568), ∀ a, (k0_off116 v568) a + S1x16.size a ≤ S64x96.size a := fun v568 k0_hw95 => k0_hw95.2.1
theorem k0_off117_inb : ∀ (v568 : BitVec 32) (k0_hw95 : k0_chk95 v568), ∀ a, (k0_off117 v568) a + S1x16.size a ≤ S64x96.size a := fun v568 k0_hw95 => k0_hw95.2.2.1
theorem k0_off118_inb : ∀ (v568 : BitVec 32) (k0_hw95 : k0_chk95 v568), ∀ a, (k0_off118 v568) a + S1x16.size a ≤ S64x96.size a := fun v568 k0_hw95 => k0_hw95.2.2.2

def k0_mult26 (v624 : BitVec 32) : BitVec 32 :=
  v624

def k0_off119 (v624 : BitVec 32) : Fin 1 → Nat :=
  let v625 : BitVec 32 := v624
  let v626 : Index := Scalar.indexCast v625
  ![v626.toNat]

def k0_chk96 (v624 : BitVec 32) : Prop :=
  (8 ∣ (k0_mult26 v624).toNat) ∧
  (∀ a, (k0_off119 v624) a + S16.size a ≤ S101376.size a)
theorem k0_mult26_dvd : ∀ (v624 : BitVec 32) (k0_hw96 : k0_chk96 v624), 8 ∣ (k0_mult26 v624).toNat := fun v624 k0_hw96 => k0_hw96.1
theorem k0_off119_inb : ∀ (v624 : BitVec 32) (k0_hw96 : k0_chk96 v624), ∀ a, (k0_off119 v624) a + S16.size a ≤ S101376.size a := fun v624 k0_hw96 => k0_hw96.2

def k0_off120 (v622 : BitVec 32) : Fin 2 → Nat :=
  let v648 : Index := Scalar.indexCast v622
  let c0_176 : Index := 0#32
  ![v648.toNat, 0]

def k0_off121 (v622 : BitVec 32) : Fin 2 → Nat :=
  let v654 : Index := Scalar.indexCast v622
  let c16_178 : Index := 16#32
  ![v654.toNat, 16]
def k0_off122 (v622 : BitVec 32) : Fin 2 → Nat :=
  let v660 : Index := Scalar.indexCast v622
  let c32_180 : Index := 32#32
  ![v660.toNat, 32]
def k0_off123 (v622 : BitVec 32) : Fin 2 → Nat :=
  let v666 : Index := Scalar.indexCast v622
  let c48_182 : Index := 48#32
  ![v666.toNat, 48]

def k0_chk97 (v622 : BitVec 32) : Prop :=
  (∀ a, (k0_off120 v622) a + S1x16.size a ≤ S64x96.size a) ∧
  (∀ a, (k0_off121 v622) a + S1x16.size a ≤ S64x96.size a) ∧
  (∀ a, (k0_off122 v622) a + S1x16.size a ≤ S64x96.size a) ∧
  (∀ a, (k0_off123 v622) a + S1x16.size a ≤ S64x96.size a)
theorem k0_off120_inb : ∀ (v622 : BitVec 32) (k0_hw97 : k0_chk97 v622), ∀ a, (k0_off120 v622) a + S1x16.size a ≤ S64x96.size a := fun v622 k0_hw97 => k0_hw97.1
theorem k0_off121_inb : ∀ (v622 : BitVec 32) (k0_hw97 : k0_chk97 v622), ∀ a, (k0_off121 v622) a + S1x16.size a ≤ S64x96.size a := fun v622 k0_hw97 => k0_hw97.2.1
theorem k0_off122_inb : ∀ (v622 : BitVec 32) (k0_hw97 : k0_chk97 v622), ∀ a, (k0_off122 v622) a + S1x16.size a ≤ S64x96.size a := fun v622 k0_hw97 => k0_hw97.2.2.1
theorem k0_off123_inb : ∀ (v622 : BitVec 32) (k0_hw97 : k0_chk97 v622), ∀ a, (k0_off123 v622) a + S1x16.size a ≤ S64x96.size a := fun v622 k0_hw97 => k0_hw97.2.2.2

def k0_chk98 (v681 : IVec S16 32) : Prop :=
  (∀ a x, ((![v681] : Fin 1 → IVec S16 32) a x).toNat < S101376.size a)
theorem k0_idx51_inb : ∀ (v681 : IVec S16 32) (k0_hw98 : k0_chk98 v681), ∀ a x, ((![v681] : Fin 1 → IVec S16 32) a x).toNat < S101376.size a := fun v681 k0_hw98 => k0_hw98

def k0_chk99 (v695 : IVec S16 32) (v718 : IVec S16 32) : Prop :=
  (∀ a x, ((![v695, v718] : Fin 2 → IVec S16 32) a x).toNat < S64x96.size a)
theorem k0_idx52_inb : ∀ (v695 : IVec S16 32) (v718 : IVec S16 32) (k0_hw99 : k0_chk99 v695 v718), ∀ a x, ((![v695, v718] : Fin 2 → IVec S16 32) a x).toNat < S64x96.size a := fun v695 v718 k0_hw99 => k0_hw99

def k0_chk100 (v695 : IVec S16 32) (v721 : IVec S16 32) : Prop :=
  (∀ a x, ((![v695, v721] : Fin 2 → IVec S16 32) a x).toNat < S64x96.size a)
theorem k0_idx53_inb : ∀ (v695 : IVec S16 32) (v721 : IVec S16 32) (k0_hw100 : k0_chk100 v695 v721), ∀ a x, ((![v695, v721] : Fin 2 → IVec S16 32) a x).toNat < S64x96.size a := fun v695 v721 k0_hw100 => k0_hw100

def k0_chk101 (v695 : IVec S16 32) (v724 : IVec S16 32) : Prop :=
  (∀ a x, ((![v695, v724] : Fin 2 → IVec S16 32) a x).toNat < S64x96.size a)
theorem k0_idx54_inb : ∀ (v695 : IVec S16 32) (v724 : IVec S16 32) (k0_hw101 : k0_chk101 v695 v724), ∀ a x, ((![v695, v724] : Fin 2 → IVec S16 32) a x).toNat < S64x96.size a := fun v695 v724 k0_hw101 => k0_hw101

def k0_chk102 (v695 : IVec S16 32) (v727 : IVec S16 32) : Prop :=
  (∀ a x, ((![v695, v727] : Fin 2 → IVec S16 32) a x).toNat < S64x96.size a)
theorem k0_idx55_inb : ∀ (v695 : IVec S16 32) (v727 : IVec S16 32) (k0_hw102 : k0_chk102 v695 v727), ∀ a x, ((![v695, v727] : Fin 2 → IVec S16 32) a x).toNat < S64x96.size a := fun v695 v727 k0_hw102 => k0_hw102
def k0_mult27 (v735 : BitVec 32) : BitVec 32 :=
  v735

def k0_off124 (v735 : BitVec 32) : Fin 1 → Nat :=
  let v736 : BitVec 32 := v735
  let v737 : Index := Scalar.indexCast v736
  ![v737.toNat]

def k0_chk103 (v735 : BitVec 32) : Prop :=
  (8 ∣ (k0_mult27 v735).toNat) ∧
  (∀ a, (k0_off124 v735) a + S16.size a ≤ S101376.size a)
theorem k0_mult27_dvd : ∀ (v735 : BitVec 32) (k0_hw103 : k0_chk103 v735), 8 ∣ (k0_mult27 v735).toNat := fun v735 k0_hw103 => k0_hw103.1
theorem k0_off124_inb : ∀ (v735 : BitVec 32) (k0_hw103 : k0_chk103 v735), ∀ a, (k0_off124 v735) a + S16.size a ≤ S101376.size a := fun v735 k0_hw103 => k0_hw103.2

def k0_off125 (v733 : BitVec 32) : Fin 2 → Nat :=
  let v759 : Index := Scalar.indexCast v733
  let c0_197 : Index := 0#32
  ![v759.toNat, 0]

def k0_off126 (v733 : BitVec 32) : Fin 2 → Nat :=
  let v765 : Index := Scalar.indexCast v733
  let c16_199 : Index := 16#32
  ![v765.toNat, 16]
def k0_off127 (v733 : BitVec 32) : Fin 2 → Nat :=
  let v771 : Index := Scalar.indexCast v733
  let c32_201 : Index := 32#32
  ![v771.toNat, 32]
def k0_off128 (v733 : BitVec 32) : Fin 2 → Nat :=
  let v777 : Index := Scalar.indexCast v733
  let c48_203 : Index := 48#32
  ![v777.toNat, 48]

def k0_chk104 (v733 : BitVec 32) : Prop :=
  (∀ a, (k0_off125 v733) a + S1x16.size a ≤ S64x96.size a) ∧
  (∀ a, (k0_off126 v733) a + S1x16.size a ≤ S64x96.size a) ∧
  (∀ a, (k0_off127 v733) a + S1x16.size a ≤ S64x96.size a) ∧
  (∀ a, (k0_off128 v733) a + S1x16.size a ≤ S64x96.size a)
theorem k0_off125_inb : ∀ (v733 : BitVec 32) (k0_hw104 : k0_chk104 v733), ∀ a, (k0_off125 v733) a + S1x16.size a ≤ S64x96.size a := fun v733 k0_hw104 => k0_hw104.1
theorem k0_off126_inb : ∀ (v733 : BitVec 32) (k0_hw104 : k0_chk104 v733), ∀ a, (k0_off126 v733) a + S1x16.size a ≤ S64x96.size a := fun v733 k0_hw104 => k0_hw104.2.1
theorem k0_off127_inb : ∀ (v733 : BitVec 32) (k0_hw104 : k0_chk104 v733), ∀ a, (k0_off127 v733) a + S1x16.size a ≤ S64x96.size a := fun v733 k0_hw104 => k0_hw104.2.2.1
theorem k0_off128_inb : ∀ (v733 : BitVec 32) (k0_hw104 : k0_chk104 v733), ∀ a, (k0_off128 v733) a + S1x16.size a ≤ S64x96.size a := fun v733 k0_hw104 => k0_hw104.2.2.2

def k0_mult28 (v789 : BitVec 32) : BitVec 32 :=
  v789

def k0_off129 (v789 : BitVec 32) : Fin 1 → Nat :=
  let v790 : BitVec 32 := v789
  let v791 : Index := Scalar.indexCast v790
  ![v791.toNat]

def k0_chk105 (v789 : BitVec 32) : Prop :=
  (8 ∣ (k0_mult28 v789).toNat) ∧
  (∀ a, (k0_off129 v789) a + S16.size a ≤ S101376.size a)
theorem k0_mult28_dvd : ∀ (v789 : BitVec 32) (k0_hw105 : k0_chk105 v789), 8 ∣ (k0_mult28 v789).toNat := fun v789 k0_hw105 => k0_hw105.1
theorem k0_off129_inb : ∀ (v789 : BitVec 32) (k0_hw105 : k0_chk105 v789), ∀ a, (k0_off129 v789) a + S16.size a ≤ S101376.size a := fun v789 k0_hw105 => k0_hw105.2

def k0_off130 (v787 : BitVec 32) : Fin 2 → Nat :=
  let v813 : Index := Scalar.indexCast v787
  let c0_209 : Index := 0#32
  ![v813.toNat, 0]

def k0_off131 (v787 : BitVec 32) : Fin 2 → Nat :=
  let v819 : Index := Scalar.indexCast v787
  let c16_211 : Index := 16#32
  ![v819.toNat, 16]
def k0_off132 (v787 : BitVec 32) : Fin 2 → Nat :=
  let v825 : Index := Scalar.indexCast v787
  let c32_213 : Index := 32#32
  ![v825.toNat, 32]
def k0_off133 (v787 : BitVec 32) : Fin 2 → Nat :=
  let v831 : Index := Scalar.indexCast v787
  let c48_215 : Index := 48#32
  ![v831.toNat, 48]

def k0_chk106 (v787 : BitVec 32) : Prop :=
  (∀ a, (k0_off130 v787) a + S1x16.size a ≤ S64x96.size a) ∧
  (∀ a, (k0_off131 v787) a + S1x16.size a ≤ S64x96.size a) ∧
  (∀ a, (k0_off132 v787) a + S1x16.size a ≤ S64x96.size a) ∧
  (∀ a, (k0_off133 v787) a + S1x16.size a ≤ S64x96.size a)
theorem k0_off130_inb : ∀ (v787 : BitVec 32) (k0_hw106 : k0_chk106 v787), ∀ a, (k0_off130 v787) a + S1x16.size a ≤ S64x96.size a := fun v787 k0_hw106 => k0_hw106.1
theorem k0_off131_inb : ∀ (v787 : BitVec 32) (k0_hw106 : k0_chk106 v787), ∀ a, (k0_off131 v787) a + S1x16.size a ≤ S64x96.size a := fun v787 k0_hw106 => k0_hw106.2.1
theorem k0_off132_inb : ∀ (v787 : BitVec 32) (k0_hw106 : k0_chk106 v787), ∀ a, (k0_off132 v787) a + S1x16.size a ≤ S64x96.size a := fun v787 k0_hw106 => k0_hw106.2.2.1
theorem k0_off133_inb : ∀ (v787 : BitVec 32) (k0_hw106 : k0_chk106 v787), ∀ a, (k0_off133 v787) a + S1x16.size a ≤ S64x96.size a := fun v787 k0_hw106 => k0_hw106.2.2.2

def k0_chk107 (v846 : IVec S16 32) : Prop :=
  (∀ a x, ((![v846] : Fin 1 → IVec S16 32) a x).toNat < S101376.size a)
theorem k0_idx56_inb : ∀ (v846 : IVec S16 32) (k0_hw107 : k0_chk107 v846), ∀ a x, ((![v846] : Fin 1 → IVec S16 32) a x).toNat < S101376.size a := fun v846 k0_hw107 => k0_hw107

def k0_chk108 (v860 : IVec S16 32) (v883 : IVec S16 32) : Prop :=
  (∀ a x, ((![v860, v883] : Fin 2 → IVec S16 32) a x).toNat < S64x96.size a)
theorem k0_idx57_inb : ∀ (v860 : IVec S16 32) (v883 : IVec S16 32) (k0_hw108 : k0_chk108 v860 v883), ∀ a x, ((![v860, v883] : Fin 2 → IVec S16 32) a x).toNat < S64x96.size a := fun v860 v883 k0_hw108 => k0_hw108

def k0_chk109 (v860 : IVec S16 32) (v886 : IVec S16 32) : Prop :=
  (∀ a x, ((![v860, v886] : Fin 2 → IVec S16 32) a x).toNat < S64x96.size a)
theorem k0_idx58_inb : ∀ (v860 : IVec S16 32) (v886 : IVec S16 32) (k0_hw109 : k0_chk109 v860 v886), ∀ a x, ((![v860, v886] : Fin 2 → IVec S16 32) a x).toNat < S64x96.size a := fun v860 v886 k0_hw109 => k0_hw109

def k0_chk110 (v860 : IVec S16 32) (v889 : IVec S16 32) : Prop :=
  (∀ a x, ((![v860, v889] : Fin 2 → IVec S16 32) a x).toNat < S64x96.size a)
theorem k0_idx59_inb : ∀ (v860 : IVec S16 32) (v889 : IVec S16 32) (k0_hw110 : k0_chk110 v860 v889), ∀ a x, ((![v860, v889] : Fin 2 → IVec S16 32) a x).toNat < S64x96.size a := fun v860 v889 k0_hw110 => k0_hw110

def k0_chk111 (v860 : IVec S16 32) (v892 : IVec S16 32) : Prop :=
  (∀ a x, ((![v860, v892] : Fin 2 → IVec S16 32) a x).toNat < S64x96.size a)
theorem k0_idx60_inb : ∀ (v860 : IVec S16 32) (v892 : IVec S16 32) (k0_hw111 : k0_chk111 v860 v892), ∀ a x, ((![v860, v892] : Fin 2 → IVec S16 32) a x).toNat < S64x96.size a := fun v860 v892 k0_hw111 => k0_hw111
def k0_mult29 (v900 : BitVec 32) : BitVec 32 :=
  v900

def k0_off134 (v900 : BitVec 32) : Fin 1 → Nat :=
  let v901 : BitVec 32 := v900
  let v902 : Index := Scalar.indexCast v901
  ![v902.toNat]

def k0_chk112 (v900 : BitVec 32) : Prop :=
  (8 ∣ (k0_mult29 v900).toNat) ∧
  (∀ a, (k0_off134 v900) a + S16.size a ≤ S101376.size a)
theorem k0_mult29_dvd : ∀ (v900 : BitVec 32) (k0_hw112 : k0_chk112 v900), 8 ∣ (k0_mult29 v900).toNat := fun v900 k0_hw112 => k0_hw112.1
theorem k0_off134_inb : ∀ (v900 : BitVec 32) (k0_hw112 : k0_chk112 v900), ∀ a, (k0_off134 v900) a + S16.size a ≤ S101376.size a := fun v900 k0_hw112 => k0_hw112.2

def k0_off135 (v898 : BitVec 32) : Fin 2 → Nat :=
  let v924 : Index := Scalar.indexCast v898
  let c0_230 : Index := 0#32
  ![v924.toNat, 0]

def k0_off136 (v898 : BitVec 32) : Fin 2 → Nat :=
  let v930 : Index := Scalar.indexCast v898
  let c16_232 : Index := 16#32
  ![v930.toNat, 16]
def k0_off137 (v898 : BitVec 32) : Fin 2 → Nat :=
  let v936 : Index := Scalar.indexCast v898
  let c32_234 : Index := 32#32
  ![v936.toNat, 32]
def k0_off138 (v898 : BitVec 32) : Fin 2 → Nat :=
  let v942 : Index := Scalar.indexCast v898
  let c48_236 : Index := 48#32
  ![v942.toNat, 48]

def k0_chk113 (v898 : BitVec 32) : Prop :=
  (∀ a, (k0_off135 v898) a + S1x16.size a ≤ S64x96.size a) ∧
  (∀ a, (k0_off136 v898) a + S1x16.size a ≤ S64x96.size a) ∧
  (∀ a, (k0_off137 v898) a + S1x16.size a ≤ S64x96.size a) ∧
  (∀ a, (k0_off138 v898) a + S1x16.size a ≤ S64x96.size a)
theorem k0_off135_inb : ∀ (v898 : BitVec 32) (k0_hw113 : k0_chk113 v898), ∀ a, (k0_off135 v898) a + S1x16.size a ≤ S64x96.size a := fun v898 k0_hw113 => k0_hw113.1
theorem k0_off136_inb : ∀ (v898 : BitVec 32) (k0_hw113 : k0_chk113 v898), ∀ a, (k0_off136 v898) a + S1x16.size a ≤ S64x96.size a := fun v898 k0_hw113 => k0_hw113.2.1
theorem k0_off137_inb : ∀ (v898 : BitVec 32) (k0_hw113 : k0_chk113 v898), ∀ a, (k0_off137 v898) a + S1x16.size a ≤ S64x96.size a := fun v898 k0_hw113 => k0_hw113.2.2.1
theorem k0_off138_inb : ∀ (v898 : BitVec 32) (k0_hw113 : k0_chk113 v898), ∀ a, (k0_off138 v898) a + S1x16.size a ≤ S64x96.size a := fun v898 k0_hw113 => k0_hw113.2.2.2

def k0_mult30 (v954 : BitVec 32) : BitVec 32 :=
  v954

def k0_off139 (v954 : BitVec 32) : Fin 1 → Nat :=
  let v955 : BitVec 32 := v954
  let v956 : Index := Scalar.indexCast v955
  ![v956.toNat]

def k0_chk114 (v954 : BitVec 32) : Prop :=
  (8 ∣ (k0_mult30 v954).toNat) ∧
  (∀ a, (k0_off139 v954) a + S16.size a ≤ S101376.size a)
theorem k0_mult30_dvd : ∀ (v954 : BitVec 32) (k0_hw114 : k0_chk114 v954), 8 ∣ (k0_mult30 v954).toNat := fun v954 k0_hw114 => k0_hw114.1
theorem k0_off139_inb : ∀ (v954 : BitVec 32) (k0_hw114 : k0_chk114 v954), ∀ a, (k0_off139 v954) a + S16.size a ≤ S101376.size a := fun v954 k0_hw114 => k0_hw114.2

def k0_off140 (v952 : BitVec 32) : Fin 2 → Nat :=
  let v978 : Index := Scalar.indexCast v952
  let c0_242 : Index := 0#32
  ![v978.toNat, 0]

def k0_off141 (v952 : BitVec 32) : Fin 2 → Nat :=
  let v984 : Index := Scalar.indexCast v952
  let c16_244 : Index := 16#32
  ![v984.toNat, 16]
def k0_off142 (v952 : BitVec 32) : Fin 2 → Nat :=
  let v990 : Index := Scalar.indexCast v952
  let c32_246 : Index := 32#32
  ![v990.toNat, 32]
def k0_off143 (v952 : BitVec 32) : Fin 2 → Nat :=
  let v996 : Index := Scalar.indexCast v952
  let c48_248 : Index := 48#32
  ![v996.toNat, 48]

def k0_chk115 (v952 : BitVec 32) : Prop :=
  (∀ a, (k0_off140 v952) a + S1x16.size a ≤ S64x96.size a) ∧
  (∀ a, (k0_off141 v952) a + S1x16.size a ≤ S64x96.size a) ∧
  (∀ a, (k0_off142 v952) a + S1x16.size a ≤ S64x96.size a) ∧
  (∀ a, (k0_off143 v952) a + S1x16.size a ≤ S64x96.size a)
theorem k0_off140_inb : ∀ (v952 : BitVec 32) (k0_hw115 : k0_chk115 v952), ∀ a, (k0_off140 v952) a + S1x16.size a ≤ S64x96.size a := fun v952 k0_hw115 => k0_hw115.1
theorem k0_off141_inb : ∀ (v952 : BitVec 32) (k0_hw115 : k0_chk115 v952), ∀ a, (k0_off141 v952) a + S1x16.size a ≤ S64x96.size a := fun v952 k0_hw115 => k0_hw115.2.1
theorem k0_off142_inb : ∀ (v952 : BitVec 32) (k0_hw115 : k0_chk115 v952), ∀ a, (k0_off142 v952) a + S1x16.size a ≤ S64x96.size a := fun v952 k0_hw115 => k0_hw115.2.2.1
theorem k0_off143_inb : ∀ (v952 : BitVec 32) (k0_hw115 : k0_chk115 v952), ∀ a, (k0_off143 v952) a + S1x16.size a ≤ S64x96.size a := fun v952 k0_hw115 => k0_hw115.2.2.2

def k0_chk116 (v1011 : IVec S16 32) : Prop :=
  (∀ a x, ((![v1011] : Fin 1 → IVec S16 32) a x).toNat < S101376.size a)
theorem k0_idx61_inb : ∀ (v1011 : IVec S16 32) (k0_hw116 : k0_chk116 v1011), ∀ a x, ((![v1011] : Fin 1 → IVec S16 32) a x).toNat < S101376.size a := fun v1011 k0_hw116 => k0_hw116

def k0_chk117 (v1025 : IVec S16 32) (v1048 : IVec S16 32) : Prop :=
  (∀ a x, ((![v1025, v1048] : Fin 2 → IVec S16 32) a x).toNat < S64x96.size a)
theorem k0_idx62_inb : ∀ (v1025 : IVec S16 32) (v1048 : IVec S16 32) (k0_hw117 : k0_chk117 v1025 v1048), ∀ a x, ((![v1025, v1048] : Fin 2 → IVec S16 32) a x).toNat < S64x96.size a := fun v1025 v1048 k0_hw117 => k0_hw117

def k0_chk118 (v1025 : IVec S16 32) (v1051 : IVec S16 32) : Prop :=
  (∀ a x, ((![v1025, v1051] : Fin 2 → IVec S16 32) a x).toNat < S64x96.size a)
theorem k0_idx63_inb : ∀ (v1025 : IVec S16 32) (v1051 : IVec S16 32) (k0_hw118 : k0_chk118 v1025 v1051), ∀ a x, ((![v1025, v1051] : Fin 2 → IVec S16 32) a x).toNat < S64x96.size a := fun v1025 v1051 k0_hw118 => k0_hw118

def k0_chk119 (v1025 : IVec S16 32) (v1054 : IVec S16 32) : Prop :=
  (∀ a x, ((![v1025, v1054] : Fin 2 → IVec S16 32) a x).toNat < S64x96.size a)
theorem k0_idx64_inb : ∀ (v1025 : IVec S16 32) (v1054 : IVec S16 32) (k0_hw119 : k0_chk119 v1025 v1054), ∀ a x, ((![v1025, v1054] : Fin 2 → IVec S16 32) a x).toNat < S64x96.size a := fun v1025 v1054 k0_hw119 => k0_hw119

def k0_chk120 (v1025 : IVec S16 32) (v1057 : IVec S16 32) : Prop :=
  (∀ a x, ((![v1025, v1057] : Fin 2 → IVec S16 32) a x).toNat < S64x96.size a)
theorem k0_idx65_inb : ∀ (v1025 : IVec S16 32) (v1057 : IVec S16 32) (k0_hw120 : k0_chk120 v1025 v1057), ∀ a x, ((![v1025, v1057] : Fin 2 → IVec S16 32) a x).toNat < S64x96.size a := fun v1025 v1057 k0_hw120 => k0_hw120
def k0_mult31 (v1065 : BitVec 32) : BitVec 32 :=
  v1065

def k0_off144 (v1065 : BitVec 32) : Fin 1 → Nat :=
  let v1066 : BitVec 32 := v1065
  let v1067 : Index := Scalar.indexCast v1066
  ![v1067.toNat]

def k0_chk121 (v1065 : BitVec 32) : Prop :=
  (8 ∣ (k0_mult31 v1065).toNat) ∧
  (∀ a, (k0_off144 v1065) a + S16.size a ≤ S101376.size a)
theorem k0_mult31_dvd : ∀ (v1065 : BitVec 32) (k0_hw121 : k0_chk121 v1065), 8 ∣ (k0_mult31 v1065).toNat := fun v1065 k0_hw121 => k0_hw121.1
theorem k0_off144_inb : ∀ (v1065 : BitVec 32) (k0_hw121 : k0_chk121 v1065), ∀ a, (k0_off144 v1065) a + S16.size a ≤ S101376.size a := fun v1065 k0_hw121 => k0_hw121.2

def k0_off145 (v1063 : BitVec 32) : Fin 2 → Nat :=
  let v1089 : Index := Scalar.indexCast v1063
  let c0_263 : Index := 0#32
  ![v1089.toNat, 0]

def k0_off146 (v1063 : BitVec 32) : Fin 2 → Nat :=
  let v1095 : Index := Scalar.indexCast v1063
  let c16_265 : Index := 16#32
  ![v1095.toNat, 16]
def k0_off147 (v1063 : BitVec 32) : Fin 2 → Nat :=
  let v1101 : Index := Scalar.indexCast v1063
  let c32_267 : Index := 32#32
  ![v1101.toNat, 32]
def k0_off148 (v1063 : BitVec 32) : Fin 2 → Nat :=
  let v1107 : Index := Scalar.indexCast v1063
  let c48_269 : Index := 48#32
  ![v1107.toNat, 48]

def k0_chk122 (v1063 : BitVec 32) : Prop :=
  (∀ a, (k0_off145 v1063) a + S1x16.size a ≤ S64x96.size a) ∧
  (∀ a, (k0_off146 v1063) a + S1x16.size a ≤ S64x96.size a) ∧
  (∀ a, (k0_off147 v1063) a + S1x16.size a ≤ S64x96.size a) ∧
  (∀ a, (k0_off148 v1063) a + S1x16.size a ≤ S64x96.size a)
theorem k0_off145_inb : ∀ (v1063 : BitVec 32) (k0_hw122 : k0_chk122 v1063), ∀ a, (k0_off145 v1063) a + S1x16.size a ≤ S64x96.size a := fun v1063 k0_hw122 => k0_hw122.1
theorem k0_off146_inb : ∀ (v1063 : BitVec 32) (k0_hw122 : k0_chk122 v1063), ∀ a, (k0_off146 v1063) a + S1x16.size a ≤ S64x96.size a := fun v1063 k0_hw122 => k0_hw122.2.1
theorem k0_off147_inb : ∀ (v1063 : BitVec 32) (k0_hw122 : k0_chk122 v1063), ∀ a, (k0_off147 v1063) a + S1x16.size a ≤ S64x96.size a := fun v1063 k0_hw122 => k0_hw122.2.2.1
theorem k0_off148_inb : ∀ (v1063 : BitVec 32) (k0_hw122 : k0_chk122 v1063), ∀ a, (k0_off148 v1063) a + S1x16.size a ≤ S64x96.size a := fun v1063 k0_hw122 => k0_hw122.2.2.2

def k0_mult32 (v1119 : BitVec 32) : BitVec 32 :=
  v1119

def k0_off149 (v1119 : BitVec 32) : Fin 1 → Nat :=
  let v1120 : BitVec 32 := v1119
  let v1121 : Index := Scalar.indexCast v1120
  ![v1121.toNat]

def k0_chk123 (v1119 : BitVec 32) : Prop :=
  (8 ∣ (k0_mult32 v1119).toNat) ∧
  (∀ a, (k0_off149 v1119) a + S16.size a ≤ S101376.size a)
theorem k0_mult32_dvd : ∀ (v1119 : BitVec 32) (k0_hw123 : k0_chk123 v1119), 8 ∣ (k0_mult32 v1119).toNat := fun v1119 k0_hw123 => k0_hw123.1
theorem k0_off149_inb : ∀ (v1119 : BitVec 32) (k0_hw123 : k0_chk123 v1119), ∀ a, (k0_off149 v1119) a + S16.size a ≤ S101376.size a := fun v1119 k0_hw123 => k0_hw123.2

def k0_off150 (v1117 : BitVec 32) : Fin 2 → Nat :=
  let v1143 : Index := Scalar.indexCast v1117
  let c0_275 : Index := 0#32
  ![v1143.toNat, 0]

def k0_off151 (v1117 : BitVec 32) : Fin 2 → Nat :=
  let v1149 : Index := Scalar.indexCast v1117
  let c16_277 : Index := 16#32
  ![v1149.toNat, 16]
def k0_off152 (v1117 : BitVec 32) : Fin 2 → Nat :=
  let v1155 : Index := Scalar.indexCast v1117
  let c32_279 : Index := 32#32
  ![v1155.toNat, 32]
def k0_off153 (v1117 : BitVec 32) : Fin 2 → Nat :=
  let v1161 : Index := Scalar.indexCast v1117
  let c48_281 : Index := 48#32
  ![v1161.toNat, 48]

def k0_chk124 (v1117 : BitVec 32) : Prop :=
  (∀ a, (k0_off150 v1117) a + S1x16.size a ≤ S64x96.size a) ∧
  (∀ a, (k0_off151 v1117) a + S1x16.size a ≤ S64x96.size a) ∧
  (∀ a, (k0_off152 v1117) a + S1x16.size a ≤ S64x96.size a) ∧
  (∀ a, (k0_off153 v1117) a + S1x16.size a ≤ S64x96.size a)
theorem k0_off150_inb : ∀ (v1117 : BitVec 32) (k0_hw124 : k0_chk124 v1117), ∀ a, (k0_off150 v1117) a + S1x16.size a ≤ S64x96.size a := fun v1117 k0_hw124 => k0_hw124.1
theorem k0_off151_inb : ∀ (v1117 : BitVec 32) (k0_hw124 : k0_chk124 v1117), ∀ a, (k0_off151 v1117) a + S1x16.size a ≤ S64x96.size a := fun v1117 k0_hw124 => k0_hw124.2.1
theorem k0_off152_inb : ∀ (v1117 : BitVec 32) (k0_hw124 : k0_chk124 v1117), ∀ a, (k0_off152 v1117) a + S1x16.size a ≤ S64x96.size a := fun v1117 k0_hw124 => k0_hw124.2.2.1
theorem k0_off153_inb : ∀ (v1117 : BitVec 32) (k0_hw124 : k0_chk124 v1117), ∀ a, (k0_off153 v1117) a + S1x16.size a ≤ S64x96.size a := fun v1117 k0_hw124 => k0_hw124.2.2.2

def k0_chk125 (v1176 : IVec S16 32) : Prop :=
  (∀ a x, ((![v1176] : Fin 1 → IVec S16 32) a x).toNat < S101376.size a)
theorem k0_idx66_inb : ∀ (v1176 : IVec S16 32) (k0_hw125 : k0_chk125 v1176), ∀ a x, ((![v1176] : Fin 1 → IVec S16 32) a x).toNat < S101376.size a := fun v1176 k0_hw125 => k0_hw125

def k0_chk126 (v1190 : IVec S16 32) (v1213 : IVec S16 32) : Prop :=
  (∀ a x, ((![v1190, v1213] : Fin 2 → IVec S16 32) a x).toNat < S64x96.size a)
theorem k0_idx67_inb : ∀ (v1190 : IVec S16 32) (v1213 : IVec S16 32) (k0_hw126 : k0_chk126 v1190 v1213), ∀ a x, ((![v1190, v1213] : Fin 2 → IVec S16 32) a x).toNat < S64x96.size a := fun v1190 v1213 k0_hw126 => k0_hw126

def k0_chk127 (v1190 : IVec S16 32) (v1216 : IVec S16 32) : Prop :=
  (∀ a x, ((![v1190, v1216] : Fin 2 → IVec S16 32) a x).toNat < S64x96.size a)
theorem k0_idx68_inb : ∀ (v1190 : IVec S16 32) (v1216 : IVec S16 32) (k0_hw127 : k0_chk127 v1190 v1216), ∀ a x, ((![v1190, v1216] : Fin 2 → IVec S16 32) a x).toNat < S64x96.size a := fun v1190 v1216 k0_hw127 => k0_hw127

def k0_chk128 (v1190 : IVec S16 32) (v1219 : IVec S16 32) : Prop :=
  (∀ a x, ((![v1190, v1219] : Fin 2 → IVec S16 32) a x).toNat < S64x96.size a)
theorem k0_idx69_inb : ∀ (v1190 : IVec S16 32) (v1219 : IVec S16 32) (k0_hw128 : k0_chk128 v1190 v1219), ∀ a x, ((![v1190, v1219] : Fin 2 → IVec S16 32) a x).toNat < S64x96.size a := fun v1190 v1219 k0_hw128 => k0_hw128

def k0_chk129 (v1190 : IVec S16 32) (v1222 : IVec S16 32) : Prop :=
  (∀ a x, ((![v1190, v1222] : Fin 2 → IVec S16 32) a x).toNat < S64x96.size a)
theorem k0_idx70_inb : ∀ (v1190 : IVec S16 32) (v1222 : IVec S16 32) (k0_hw129 : k0_chk129 v1190 v1222), ∀ a x, ((![v1190, v1222] : Fin 2 → IVec S16 32) a x).toNat < S64x96.size a := fun v1190 v1222 k0_hw129 => k0_hw129
def k0_mult33 (v1230 : BitVec 32) : BitVec 32 :=
  v1230

def k0_off154 (v1230 : BitVec 32) : Fin 1 → Nat :=
  let v1231 : BitVec 32 := v1230
  let v1232 : Index := Scalar.indexCast v1231
  ![v1232.toNat]

def k0_chk130 (v1230 : BitVec 32) : Prop :=
  (8 ∣ (k0_mult33 v1230).toNat) ∧
  (∀ a, (k0_off154 v1230) a + S16.size a ≤ S101376.size a)
theorem k0_mult33_dvd : ∀ (v1230 : BitVec 32) (k0_hw130 : k0_chk130 v1230), 8 ∣ (k0_mult33 v1230).toNat := fun v1230 k0_hw130 => k0_hw130.1
theorem k0_off154_inb : ∀ (v1230 : BitVec 32) (k0_hw130 : k0_chk130 v1230), ∀ a, (k0_off154 v1230) a + S16.size a ≤ S101376.size a := fun v1230 k0_hw130 => k0_hw130.2

def k0_off155 (v1228 : BitVec 32) : Fin 2 → Nat :=
  let v1254 : Index := Scalar.indexCast v1228
  let c0_296 : Index := 0#32
  ![v1254.toNat, 0]

def k0_off156 (v1228 : BitVec 32) : Fin 2 → Nat :=
  let v1260 : Index := Scalar.indexCast v1228
  let c16_298 : Index := 16#32
  ![v1260.toNat, 16]
def k0_off157 (v1228 : BitVec 32) : Fin 2 → Nat :=
  let v1266 : Index := Scalar.indexCast v1228
  let c32_300 : Index := 32#32
  ![v1266.toNat, 32]
def k0_off158 (v1228 : BitVec 32) : Fin 2 → Nat :=
  let v1272 : Index := Scalar.indexCast v1228
  let c48_302 : Index := 48#32
  ![v1272.toNat, 48]

def k0_chk131 (v1228 : BitVec 32) : Prop :=
  (∀ a, (k0_off155 v1228) a + S1x16.size a ≤ S64x96.size a) ∧
  (∀ a, (k0_off156 v1228) a + S1x16.size a ≤ S64x96.size a) ∧
  (∀ a, (k0_off157 v1228) a + S1x16.size a ≤ S64x96.size a) ∧
  (∀ a, (k0_off158 v1228) a + S1x16.size a ≤ S64x96.size a)
theorem k0_off155_inb : ∀ (v1228 : BitVec 32) (k0_hw131 : k0_chk131 v1228), ∀ a, (k0_off155 v1228) a + S1x16.size a ≤ S64x96.size a := fun v1228 k0_hw131 => k0_hw131.1
theorem k0_off156_inb : ∀ (v1228 : BitVec 32) (k0_hw131 : k0_chk131 v1228), ∀ a, (k0_off156 v1228) a + S1x16.size a ≤ S64x96.size a := fun v1228 k0_hw131 => k0_hw131.2.1
theorem k0_off157_inb : ∀ (v1228 : BitVec 32) (k0_hw131 : k0_chk131 v1228), ∀ a, (k0_off157 v1228) a + S1x16.size a ≤ S64x96.size a := fun v1228 k0_hw131 => k0_hw131.2.2.1
theorem k0_off158_inb : ∀ (v1228 : BitVec 32) (k0_hw131 : k0_chk131 v1228), ∀ a, (k0_off158 v1228) a + S1x16.size a ≤ S64x96.size a := fun v1228 k0_hw131 => k0_hw131.2.2.2

def k0_mult34 (v1284 : BitVec 32) : BitVec 32 :=
  v1284

def k0_off159 (v1284 : BitVec 32) : Fin 1 → Nat :=
  let v1285 : BitVec 32 := v1284
  let v1286 : Index := Scalar.indexCast v1285
  ![v1286.toNat]

def k0_chk132 (v1284 : BitVec 32) : Prop :=
  (8 ∣ (k0_mult34 v1284).toNat) ∧
  (∀ a, (k0_off159 v1284) a + S16.size a ≤ S101376.size a)
theorem k0_mult34_dvd : ∀ (v1284 : BitVec 32) (k0_hw132 : k0_chk132 v1284), 8 ∣ (k0_mult34 v1284).toNat := fun v1284 k0_hw132 => k0_hw132.1
theorem k0_off159_inb : ∀ (v1284 : BitVec 32) (k0_hw132 : k0_chk132 v1284), ∀ a, (k0_off159 v1284) a + S16.size a ≤ S101376.size a := fun v1284 k0_hw132 => k0_hw132.2

def k0_off160 (v1282 : BitVec 32) : Fin 2 → Nat :=
  let v1308 : Index := Scalar.indexCast v1282
  let c0_308 : Index := 0#32
  ![v1308.toNat, 0]

def k0_off161 (v1282 : BitVec 32) : Fin 2 → Nat :=
  let v1314 : Index := Scalar.indexCast v1282
  let c16_310 : Index := 16#32
  ![v1314.toNat, 16]
def k0_off162 (v1282 : BitVec 32) : Fin 2 → Nat :=
  let v1320 : Index := Scalar.indexCast v1282
  let c32_312 : Index := 32#32
  ![v1320.toNat, 32]
def k0_off163 (v1282 : BitVec 32) : Fin 2 → Nat :=
  let v1326 : Index := Scalar.indexCast v1282
  let c48_314 : Index := 48#32
  ![v1326.toNat, 48]

def k0_chk133 (v1282 : BitVec 32) : Prop :=
  (∀ a, (k0_off160 v1282) a + S1x16.size a ≤ S64x96.size a) ∧
  (∀ a, (k0_off161 v1282) a + S1x16.size a ≤ S64x96.size a) ∧
  (∀ a, (k0_off162 v1282) a + S1x16.size a ≤ S64x96.size a) ∧
  (∀ a, (k0_off163 v1282) a + S1x16.size a ≤ S64x96.size a)
theorem k0_off160_inb : ∀ (v1282 : BitVec 32) (k0_hw133 : k0_chk133 v1282), ∀ a, (k0_off160 v1282) a + S1x16.size a ≤ S64x96.size a := fun v1282 k0_hw133 => k0_hw133.1
theorem k0_off161_inb : ∀ (v1282 : BitVec 32) (k0_hw133 : k0_chk133 v1282), ∀ a, (k0_off161 v1282) a + S1x16.size a ≤ S64x96.size a := fun v1282 k0_hw133 => k0_hw133.2.1
theorem k0_off162_inb : ∀ (v1282 : BitVec 32) (k0_hw133 : k0_chk133 v1282), ∀ a, (k0_off162 v1282) a + S1x16.size a ≤ S64x96.size a := fun v1282 k0_hw133 => k0_hw133.2.2.1
theorem k0_off163_inb : ∀ (v1282 : BitVec 32) (k0_hw133 : k0_chk133 v1282), ∀ a, (k0_off163 v1282) a + S1x16.size a ≤ S64x96.size a := fun v1282 k0_hw133 => k0_hw133.2.2.2

def k0_chk134 (v1341 : IVec S16 32) : Prop :=
  (∀ a x, ((![v1341] : Fin 1 → IVec S16 32) a x).toNat < S101376.size a)
theorem k0_idx71_inb : ∀ (v1341 : IVec S16 32) (k0_hw134 : k0_chk134 v1341), ∀ a x, ((![v1341] : Fin 1 → IVec S16 32) a x).toNat < S101376.size a := fun v1341 k0_hw134 => k0_hw134

def k0_chk135 (v1355 : IVec S16 32) (v1378 : IVec S16 32) : Prop :=
  (∀ a x, ((![v1355, v1378] : Fin 2 → IVec S16 32) a x).toNat < S64x96.size a)
theorem k0_idx72_inb : ∀ (v1355 : IVec S16 32) (v1378 : IVec S16 32) (k0_hw135 : k0_chk135 v1355 v1378), ∀ a x, ((![v1355, v1378] : Fin 2 → IVec S16 32) a x).toNat < S64x96.size a := fun v1355 v1378 k0_hw135 => k0_hw135

def k0_chk136 (v1355 : IVec S16 32) (v1381 : IVec S16 32) : Prop :=
  (∀ a x, ((![v1355, v1381] : Fin 2 → IVec S16 32) a x).toNat < S64x96.size a)
theorem k0_idx73_inb : ∀ (v1355 : IVec S16 32) (v1381 : IVec S16 32) (k0_hw136 : k0_chk136 v1355 v1381), ∀ a x, ((![v1355, v1381] : Fin 2 → IVec S16 32) a x).toNat < S64x96.size a := fun v1355 v1381 k0_hw136 => k0_hw136

def k0_chk137 (v1355 : IVec S16 32) (v1384 : IVec S16 32) : Prop :=
  (∀ a x, ((![v1355, v1384] : Fin 2 → IVec S16 32) a x).toNat < S64x96.size a)
theorem k0_idx74_inb : ∀ (v1355 : IVec S16 32) (v1384 : IVec S16 32) (k0_hw137 : k0_chk137 v1355 v1384), ∀ a x, ((![v1355, v1384] : Fin 2 → IVec S16 32) a x).toNat < S64x96.size a := fun v1355 v1384 k0_hw137 => k0_hw137

def k0_chk138 (v1355 : IVec S16 32) (v1387 : IVec S16 32) : Prop :=
  (∀ a x, ((![v1355, v1387] : Fin 2 → IVec S16 32) a x).toNat < S64x96.size a)
theorem k0_idx75_inb : ∀ (v1355 : IVec S16 32) (v1387 : IVec S16 32) (k0_hw138 : k0_chk138 v1355 v1387), ∀ a x, ((![v1355, v1387] : Fin 2 → IVec S16 32) a x).toNat < S64x96.size a := fun v1355 v1387 k0_hw138 => k0_hw138
def k0_mult35 (v1395 : BitVec 32) : BitVec 32 :=
  v1395

def k0_off164 (v1395 : BitVec 32) : Fin 1 → Nat :=
  let v1396 : BitVec 32 := v1395
  let v1397 : Index := Scalar.indexCast v1396
  ![v1397.toNat]

def k0_chk139 (v1395 : BitVec 32) : Prop :=
  (8 ∣ (k0_mult35 v1395).toNat) ∧
  (∀ a, (k0_off164 v1395) a + S16.size a ≤ S101376.size a)
theorem k0_mult35_dvd : ∀ (v1395 : BitVec 32) (k0_hw139 : k0_chk139 v1395), 8 ∣ (k0_mult35 v1395).toNat := fun v1395 k0_hw139 => k0_hw139.1
theorem k0_off164_inb : ∀ (v1395 : BitVec 32) (k0_hw139 : k0_chk139 v1395), ∀ a, (k0_off164 v1395) a + S16.size a ≤ S101376.size a := fun v1395 k0_hw139 => k0_hw139.2

def k0_off165 (v1393 : BitVec 32) : Fin 2 → Nat :=
  let v1419 : Index := Scalar.indexCast v1393
  let c0_329 : Index := 0#32
  ![v1419.toNat, 0]

def k0_off166 (v1393 : BitVec 32) : Fin 2 → Nat :=
  let v1425 : Index := Scalar.indexCast v1393
  let c16_331 : Index := 16#32
  ![v1425.toNat, 16]
def k0_off167 (v1393 : BitVec 32) : Fin 2 → Nat :=
  let v1431 : Index := Scalar.indexCast v1393
  let c32_333 : Index := 32#32
  ![v1431.toNat, 32]
def k0_off168 (v1393 : BitVec 32) : Fin 2 → Nat :=
  let v1437 : Index := Scalar.indexCast v1393
  let c48_335 : Index := 48#32
  ![v1437.toNat, 48]

def k0_chk140 (v1393 : BitVec 32) : Prop :=
  (∀ a, (k0_off165 v1393) a + S1x16.size a ≤ S64x96.size a) ∧
  (∀ a, (k0_off166 v1393) a + S1x16.size a ≤ S64x96.size a) ∧
  (∀ a, (k0_off167 v1393) a + S1x16.size a ≤ S64x96.size a) ∧
  (∀ a, (k0_off168 v1393) a + S1x16.size a ≤ S64x96.size a)
theorem k0_off165_inb : ∀ (v1393 : BitVec 32) (k0_hw140 : k0_chk140 v1393), ∀ a, (k0_off165 v1393) a + S1x16.size a ≤ S64x96.size a := fun v1393 k0_hw140 => k0_hw140.1
theorem k0_off166_inb : ∀ (v1393 : BitVec 32) (k0_hw140 : k0_chk140 v1393), ∀ a, (k0_off166 v1393) a + S1x16.size a ≤ S64x96.size a := fun v1393 k0_hw140 => k0_hw140.2.1
theorem k0_off167_inb : ∀ (v1393 : BitVec 32) (k0_hw140 : k0_chk140 v1393), ∀ a, (k0_off167 v1393) a + S1x16.size a ≤ S64x96.size a := fun v1393 k0_hw140 => k0_hw140.2.2.1
theorem k0_off168_inb : ∀ (v1393 : BitVec 32) (k0_hw140 : k0_chk140 v1393), ∀ a, (k0_off168 v1393) a + S1x16.size a ≤ S64x96.size a := fun v1393 k0_hw140 => k0_hw140.2.2.2

def k0_mult36 (v1449 : BitVec 32) : BitVec 32 :=
  v1449

def k0_off169 (v1449 : BitVec 32) : Fin 1 → Nat :=
  let v1450 : BitVec 32 := v1449
  let v1451 : Index := Scalar.indexCast v1450
  ![v1451.toNat]

def k0_chk141 (v1449 : BitVec 32) : Prop :=
  (8 ∣ (k0_mult36 v1449).toNat) ∧
  (∀ a, (k0_off169 v1449) a + S16.size a ≤ S101376.size a)
theorem k0_mult36_dvd : ∀ (v1449 : BitVec 32) (k0_hw141 : k0_chk141 v1449), 8 ∣ (k0_mult36 v1449).toNat := fun v1449 k0_hw141 => k0_hw141.1
theorem k0_off169_inb : ∀ (v1449 : BitVec 32) (k0_hw141 : k0_chk141 v1449), ∀ a, (k0_off169 v1449) a + S16.size a ≤ S101376.size a := fun v1449 k0_hw141 => k0_hw141.2

def k0_off170 (v1447 : BitVec 32) : Fin 2 → Nat :=
  let v1473 : Index := Scalar.indexCast v1447
  let c0_341 : Index := 0#32
  ![v1473.toNat, 0]

def k0_off171 (v1447 : BitVec 32) : Fin 2 → Nat :=
  let v1479 : Index := Scalar.indexCast v1447
  let c16_343 : Index := 16#32
  ![v1479.toNat, 16]
def k0_off172 (v1447 : BitVec 32) : Fin 2 → Nat :=
  let v1485 : Index := Scalar.indexCast v1447
  let c32_345 : Index := 32#32
  ![v1485.toNat, 32]
def k0_off173 (v1447 : BitVec 32) : Fin 2 → Nat :=
  let v1491 : Index := Scalar.indexCast v1447
  let c48_347 : Index := 48#32
  ![v1491.toNat, 48]

def k0_chk142 (v1447 : BitVec 32) : Prop :=
  (∀ a, (k0_off170 v1447) a + S1x16.size a ≤ S64x96.size a) ∧
  (∀ a, (k0_off171 v1447) a + S1x16.size a ≤ S64x96.size a) ∧
  (∀ a, (k0_off172 v1447) a + S1x16.size a ≤ S64x96.size a) ∧
  (∀ a, (k0_off173 v1447) a + S1x16.size a ≤ S64x96.size a)
theorem k0_off170_inb : ∀ (v1447 : BitVec 32) (k0_hw142 : k0_chk142 v1447), ∀ a, (k0_off170 v1447) a + S1x16.size a ≤ S64x96.size a := fun v1447 k0_hw142 => k0_hw142.1
theorem k0_off171_inb : ∀ (v1447 : BitVec 32) (k0_hw142 : k0_chk142 v1447), ∀ a, (k0_off171 v1447) a + S1x16.size a ≤ S64x96.size a := fun v1447 k0_hw142 => k0_hw142.2.1
theorem k0_off172_inb : ∀ (v1447 : BitVec 32) (k0_hw142 : k0_chk142 v1447), ∀ a, (k0_off172 v1447) a + S1x16.size a ≤ S64x96.size a := fun v1447 k0_hw142 => k0_hw142.2.2.1
theorem k0_off173_inb : ∀ (v1447 : BitVec 32) (k0_hw142 : k0_chk142 v1447), ∀ a, (k0_off173 v1447) a + S1x16.size a ≤ S64x96.size a := fun v1447 k0_hw142 => k0_hw142.2.2.2

def k0_chk143 (v1506 : IVec S16 32) : Prop :=
  (∀ a x, ((![v1506] : Fin 1 → IVec S16 32) a x).toNat < S101376.size a)
theorem k0_idx76_inb : ∀ (v1506 : IVec S16 32) (k0_hw143 : k0_chk143 v1506), ∀ a x, ((![v1506] : Fin 1 → IVec S16 32) a x).toNat < S101376.size a := fun v1506 k0_hw143 => k0_hw143

def k0_chk144 (v1520 : IVec S16 32) (v1543 : IVec S16 32) : Prop :=
  (∀ a x, ((![v1520, v1543] : Fin 2 → IVec S16 32) a x).toNat < S64x96.size a)
theorem k0_idx77_inb : ∀ (v1520 : IVec S16 32) (v1543 : IVec S16 32) (k0_hw144 : k0_chk144 v1520 v1543), ∀ a x, ((![v1520, v1543] : Fin 2 → IVec S16 32) a x).toNat < S64x96.size a := fun v1520 v1543 k0_hw144 => k0_hw144

def k0_chk145 (v1520 : IVec S16 32) (v1546 : IVec S16 32) : Prop :=
  (∀ a x, ((![v1520, v1546] : Fin 2 → IVec S16 32) a x).toNat < S64x96.size a)
theorem k0_idx78_inb : ∀ (v1520 : IVec S16 32) (v1546 : IVec S16 32) (k0_hw145 : k0_chk145 v1520 v1546), ∀ a x, ((![v1520, v1546] : Fin 2 → IVec S16 32) a x).toNat < S64x96.size a := fun v1520 v1546 k0_hw145 => k0_hw145

def k0_chk146 (v1520 : IVec S16 32) (v1549 : IVec S16 32) : Prop :=
  (∀ a x, ((![v1520, v1549] : Fin 2 → IVec S16 32) a x).toNat < S64x96.size a)
theorem k0_idx79_inb : ∀ (v1520 : IVec S16 32) (v1549 : IVec S16 32) (k0_hw146 : k0_chk146 v1520 v1549), ∀ a x, ((![v1520, v1549] : Fin 2 → IVec S16 32) a x).toNat < S64x96.size a := fun v1520 v1549 k0_hw146 => k0_hw146

def k0_chk147 (v1520 : IVec S16 32) (v1552 : IVec S16 32) : Prop :=
  (∀ a x, ((![v1520, v1552] : Fin 2 → IVec S16 32) a x).toNat < S64x96.size a)
theorem k0_idx80_inb : ∀ (v1520 : IVec S16 32) (v1552 : IVec S16 32) (k0_hw147 : k0_chk147 v1520 v1552), ∀ a x, ((![v1520, v1552] : Fin 2 → IVec S16 32) a x).toNat < S64x96.size a := fun v1520 v1552 k0_hw147 => k0_hw147
@[reducible] def k0_t6_loop (arg16 : BitVec 32) (v50 : BitVec 32) : Scf.Loop 32 :=
  let c0_i32_36 : BitVec 32 := 0#32
  let v55 : BitVec 1 := Scalar.cmpi .slt arg16 v50
  let c1_i32_20 : BitVec 32 := 1#32
  let v56 : BitVec 32 := Scalar.subi v50 c1_i32_20
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c1024_i32 : BitVec 32 := 1024#32
  let c0_i32_23 : BitVec 32 := 0#32
  let v63 : BitVec 1 := Scalar.cmpi .sgt c1024_i32 c0_i32_23
  let v64 : BitVec 32 := Scalar.extui v63
  let c0_i32_24 : BitVec 32 := 0#32
  let v65 : BitVec 1 := Scalar.cmpi .slt c1024_i32 c0_i32_24
  let v66 : BitVec 32 := Scalar.extui v65
  let v67 : BitVec 32 := Scalar.subi v64 v66
  let v68 : BitVec 1 := Scalar.cmpi .ne v62 v67
  let v69 : BitVec 32 := Scalar.remsi v56 c1024_i32
  let c0_i32_25 : BitVec 32 := 0#32
  let v70 : BitVec 1 := Scalar.cmpi .ne v69 c0_i32_25
  let v71 : BitVec 1 := Scalar.andi v68 v70
  let v57 : BitVec 32 := Scalar.divsi v56 c1024_i32
  let c1_i32_26 : BitVec 32 := 1#32
  let v72 : BitVec 32 := Scalar.subi v57 c1_i32_26
  let v73 : BitVec 32 := Scalar.select v71 v72 v57
  let c0_i32_28 : BitVec 32 := 0#32
  let v75 : BitVec 1 := Scalar.cmpi .sgt arg16 c0_i32_28
  let v76 : BitVec 32 := Scalar.extui v75
  let c0_i32_29 : BitVec 32 := 0#32
  let v77 : BitVec 1 := Scalar.cmpi .slt arg16 c0_i32_29
  let v78 : BitVec 32 := Scalar.extui v77
  let v79 : BitVec 32 := Scalar.subi v76 v78
  let c1024_i32_27 : BitVec 32 := 1024#32
  let c0_i32_30 : BitVec 32 := 0#32
  let v80 : BitVec 1 := Scalar.cmpi .sgt c1024_i32_27 c0_i32_30
  let v81 : BitVec 32 := Scalar.extui v80
  let c0_i32_31 : BitVec 32 := 0#32
  let v82 : BitVec 1 := Scalar.cmpi .slt c1024_i32_27 c0_i32_31
  let v83 : BitVec 32 := Scalar.extui v82
  let v84 : BitVec 32 := Scalar.subi v81 v83
  let v85 : BitVec 1 := Scalar.cmpi .ne v79 v84
  let v86 : BitVec 32 := Scalar.remsi arg16 c1024_i32_27
  let c0_i32_32 : BitVec 32 := 0#32
  let v87 : BitVec 1 := Scalar.cmpi .ne v86 c0_i32_32
  let v88 : BitVec 1 := Scalar.andi v85 v87
  let v74 : BitVec 32 := Scalar.divsi arg16 c1024_i32_27
  let c1_i32_33 : BitVec 32 := 1#32
  let v89 : BitVec 32 := Scalar.subi v74 c1_i32_33
  let v90 : BitVec 32 := Scalar.select v88 v89 v74
  let v91 : BitVec 32 := Scalar.subi v73 v90
  let c1_i32_34 : BitVec 32 := 1#32
  let v92 : BitVec 32 := Scalar.addi v91 c1_i32_34
  let c0_i32_35 : BitVec 32 := 0#32
  let v93 : BitVec 32 := Scalar.select v55 v92 c0_i32_35
  let v94 : BitVec 32 := Scalar.subi v93 c0_i32_36
  let c1_i32_37 : BitVec 32 := 1#32
  let v96 : BitVec 32 := Scalar.divsi v94 c1_i32_37
  let v97 : BitVec 32 := Scalar.muli v96 c1_i32_37
  let v98 : BitVec 32 := Scalar.addi c0_i32_36 v97
  let v95 : BitVec 32 := Scalar.addi c0_i32_36 v94
  let c1_i32_39 : BitVec 32 := 1#32
  ⟨v98, v95, c1_i32_39⟩

def k0_chk1 (arg16 : BitVec 32) (v50 : BitVec 32) : Prop :=
  ((k0_t3_loop arg16 v50).OK) ∧
  ((k0_t6_loop arg16 v50).OK)
theorem k0_t3_ok : ∀ (arg16 : BitVec 32) (v50 : BitVec 32) (k0_hw1 : k0_chk1 arg16 v50), (k0_t3_loop arg16 v50).OK := fun arg16 v50 k0_hw1 => k0_hw1.1
theorem k0_t6_ok : ∀ (arg16 : BitVec 32) (v50 : BitVec 32) (k0_hw1 : k0_chk1 arg16 v50), (k0_t6_loop arg16 v50).OK := fun arg16 v50 k0_hw1 => k0_hw1.2

def k0_mult37 (v33 : BitVec 32) (arg19 : BitVec 32) : BitVec 32 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  v207
def k0_cond3 (arg19 : BitVec 32) (arg20 : BitVec 32) : BitVec 1 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let v186 : BitVec 1 := Scalar.cmpi .ne v185 arg20
  let v187 : BitVec 32 := Scalar.extui v186
  let c0_i32_84 : BitVec 32 := 0#32
  let v188 : BitVec 1 := Scalar.cmpi .ne v187 c0_i32_84
  v188

def k0_off174 (v33 : BitVec 32) (arg19 : BitVec 32) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  let v208 : BitVec 32 := v207
  ![v208.toNat]

def k0_chk148 (v33 : BitVec 32) (arg19 : BitVec 32) (arg20 : BitVec 32) : Prop :=
  (∀ (k0_h3 : k0_cond3 arg19 arg20 = 1#1), 8 ∣ (k0_mult37 v33 arg19).toNat) ∧
  (∀ (k0_h3 : k0_cond3 arg19 arg20 = 1#1), ∀ a, (k0_off174 v33 arg19) a + S1024.size a ≤ S2527488.size a)
theorem k0_mult37_dvd : ∀ (v33 : BitVec 32) (arg19 : BitVec 32) (arg20 : BitVec 32) (k0_hw148 : k0_chk148 v33 arg19 arg20), ∀ (k0_h3 : k0_cond3 arg19 arg20 = 1#1), 8 ∣ (k0_mult37 v33 arg19).toNat := fun v33 arg19 arg20 k0_hw148 k0_h3 => k0_hw148.1 k0_h3
theorem k0_off174_inb : ∀ (v33 : BitVec 32) (arg19 : BitVec 32) (arg20 : BitVec 32) (k0_hw148 : k0_chk148 v33 arg19 arg20), ∀ (k0_h3 : k0_cond3 arg19 arg20 = 1#1), ∀ a, (k0_off174 v33 arg19) a + S1024.size a ≤ S2527488.size a := fun v33 arg19 arg20 k0_hw148 k0_h3 => k0_hw148.2 k0_h3

@[reducible] def k0_t7_loop (v50 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v50 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_94 : BitVec 32 := 1#32
  ⟨c0_i32_92, v205, c1_i32_94⟩

def k0_off175 (v50 : BitVec 32) (arg19 : BitVec 32) (k0_t7 : Fin (k0_t7_loop v50 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_94 : BitVec 32 := 1#32
  let arg21 : BitVec 32 := Scf.iv c0_i32_92 c1_i32_94 k0_t7
  let c16_i32_91 : BitVec 32 := 16#32
  let v206 : BitVec 32 := Scalar.muli arg21 c16_i32_91
  let v207 : BitVec 32 := Scalar.addi v194 v206
  let v208 : Index := Scalar.indexCast v207
  ![v208.toNat]
def k0_mult38 (v240 : BitVec 32) : BitVec 32 :=
  v240

def k0_off176 (v240 : BitVec 32) : Fin 1 → Nat :=
  let v241 : BitVec 32 := v240
  let v242 : Index := Scalar.indexCast v241
  ![v242.toNat]

def k0_chk150 (v240 : BitVec 32) : Prop :=
  (8 ∣ (k0_mult38 v240).toNat) ∧
  (∀ a, (k0_off176 v240) a + S16.size a ≤ S101376.size a)
theorem k0_mult38_dvd : ∀ (v240 : BitVec 32) (k0_hw150 : k0_chk150 v240), 8 ∣ (k0_mult38 v240).toNat := fun v240 k0_hw150 => k0_hw150.1
theorem k0_off176_inb : ∀ (v240 : BitVec 32) (k0_hw150 : k0_chk150 v240), ∀ a, (k0_off176 v240) a + S16.size a ≤ S101376.size a := fun v240 k0_hw150 => k0_hw150.2

def k0_off177 (v238 : BitVec 32) : Fin 2 → Nat :=
  let v264 : Index := Scalar.indexCast v238
  let c0 : Index := 0#32
  ![v264.toNat, 0]

def k0_off178 (v238 : BitVec 32) : Fin 2 → Nat :=
  let v270 : Index := Scalar.indexCast v238
  let c16 : Index := 16#32
  ![v270.toNat, 16]
def k0_off179 (v238 : BitVec 32) : Fin 2 → Nat :=
  let v276 : Index := Scalar.indexCast v238
  let c32 : Index := 32#32
  ![v276.toNat, 32]
def k0_off180 (v238 : BitVec 32) : Fin 2 → Nat :=
  let v282 : Index := Scalar.indexCast v238
  let c48 : Index := 48#32
  ![v282.toNat, 48]

def k0_chk151 (v238 : BitVec 32) : Prop :=
  (∀ a, (k0_off177 v238) a + S1x16.size a ≤ S64x96.size a) ∧
  (∀ a, (k0_off178 v238) a + S1x16.size a ≤ S64x96.size a) ∧
  (∀ a, (k0_off179 v238) a + S1x16.size a ≤ S64x96.size a) ∧
  (∀ a, (k0_off180 v238) a + S1x16.size a ≤ S64x96.size a)
theorem k0_off177_inb : ∀ (v238 : BitVec 32) (k0_hw151 : k0_chk151 v238), ∀ a, (k0_off177 v238) a + S1x16.size a ≤ S64x96.size a := fun v238 k0_hw151 => k0_hw151.1
theorem k0_off178_inb : ∀ (v238 : BitVec 32) (k0_hw151 : k0_chk151 v238), ∀ a, (k0_off178 v238) a + S1x16.size a ≤ S64x96.size a := fun v238 k0_hw151 => k0_hw151.2.1
theorem k0_off179_inb : ∀ (v238 : BitVec 32) (k0_hw151 : k0_chk151 v238), ∀ a, (k0_off179 v238) a + S1x16.size a ≤ S64x96.size a := fun v238 k0_hw151 => k0_hw151.2.2.1
theorem k0_off180_inb : ∀ (v238 : BitVec 32) (k0_hw151 : k0_chk151 v238), ∀ a, (k0_off180 v238) a + S1x16.size a ≤ S64x96.size a := fun v238 k0_hw151 => k0_hw151.2.2.2

def k0_mult39 (v294 : BitVec 32) : BitVec 32 :=
  v294

def k0_off181 (v294 : BitVec 32) : Fin 1 → Nat :=
  let v295 : BitVec 32 := v294
  let v296 : Index := Scalar.indexCast v295
  ![v296.toNat]

def k0_chk152 (v294 : BitVec 32) : Prop :=
  (8 ∣ (k0_mult39 v294).toNat) ∧
  (∀ a, (k0_off181 v294) a + S16.size a ≤ S101376.size a)
theorem k0_mult39_dvd : ∀ (v294 : BitVec 32) (k0_hw152 : k0_chk152 v294), 8 ∣ (k0_mult39 v294).toNat := fun v294 k0_hw152 => k0_hw152.1
theorem k0_off181_inb : ∀ (v294 : BitVec 32) (k0_hw152 : k0_chk152 v294), ∀ a, (k0_off181 v294) a + S16.size a ≤ S101376.size a := fun v294 k0_hw152 => k0_hw152.2

def k0_off182 (v292 : BitVec 32) : Fin 2 → Nat :=
  let v318 : Index := Scalar.indexCast v292
  let c0_113 : Index := 0#32
  ![v318.toNat, 0]

def k0_off183 (v292 : BitVec 32) : Fin 2 → Nat :=
  let v324 : Index := Scalar.indexCast v292
  let c16_115 : Index := 16#32
  ![v324.toNat, 16]
def k0_off184 (v292 : BitVec 32) : Fin 2 → Nat :=
  let v330 : Index := Scalar.indexCast v292
  let c32_117 : Index := 32#32
  ![v330.toNat, 32]
def k0_off185 (v292 : BitVec 32) : Fin 2 → Nat :=
  let v336 : Index := Scalar.indexCast v292
  let c48_119 : Index := 48#32
  ![v336.toNat, 48]

def k0_chk153 (v292 : BitVec 32) : Prop :=
  (∀ a, (k0_off182 v292) a + S1x16.size a ≤ S64x96.size a) ∧
  (∀ a, (k0_off183 v292) a + S1x16.size a ≤ S64x96.size a) ∧
  (∀ a, (k0_off184 v292) a + S1x16.size a ≤ S64x96.size a) ∧
  (∀ a, (k0_off185 v292) a + S1x16.size a ≤ S64x96.size a)
theorem k0_off182_inb : ∀ (v292 : BitVec 32) (k0_hw153 : k0_chk153 v292), ∀ a, (k0_off182 v292) a + S1x16.size a ≤ S64x96.size a := fun v292 k0_hw153 => k0_hw153.1
theorem k0_off183_inb : ∀ (v292 : BitVec 32) (k0_hw153 : k0_chk153 v292), ∀ a, (k0_off183 v292) a + S1x16.size a ≤ S64x96.size a := fun v292 k0_hw153 => k0_hw153.2.1
theorem k0_off184_inb : ∀ (v292 : BitVec 32) (k0_hw153 : k0_chk153 v292), ∀ a, (k0_off184 v292) a + S1x16.size a ≤ S64x96.size a := fun v292 k0_hw153 => k0_hw153.2.2.1
theorem k0_off185_inb : ∀ (v292 : BitVec 32) (k0_hw153 : k0_chk153 v292), ∀ a, (k0_off185 v292) a + S1x16.size a ≤ S64x96.size a := fun v292 k0_hw153 => k0_hw153.2.2.2

def k0_chk154 (v351 : IVec S16 32) : Prop :=
  (∀ a x, ((![v351] : Fin 1 → IVec S16 32) a x).toNat < S101376.size a)
theorem k0_idx81_inb : ∀ (v351 : IVec S16 32) (k0_hw154 : k0_chk154 v351), ∀ a x, ((![v351] : Fin 1 → IVec S16 32) a x).toNat < S101376.size a := fun v351 k0_hw154 => k0_hw154

def k0_chk155 (v365 : IVec S16 32) (v388 : IVec S16 32) : Prop :=
  (∀ a x, ((![v365, v388] : Fin 2 → IVec S16 32) a x).toNat < S64x96.size a)
theorem k0_idx82_inb : ∀ (v365 : IVec S16 32) (v388 : IVec S16 32) (k0_hw155 : k0_chk155 v365 v388), ∀ a x, ((![v365, v388] : Fin 2 → IVec S16 32) a x).toNat < S64x96.size a := fun v365 v388 k0_hw155 => k0_hw155

def k0_chk156 (v365 : IVec S16 32) (v391 : IVec S16 32) : Prop :=
  (∀ a x, ((![v365, v391] : Fin 2 → IVec S16 32) a x).toNat < S64x96.size a)
theorem k0_idx83_inb : ∀ (v365 : IVec S16 32) (v391 : IVec S16 32) (k0_hw156 : k0_chk156 v365 v391), ∀ a x, ((![v365, v391] : Fin 2 → IVec S16 32) a x).toNat < S64x96.size a := fun v365 v391 k0_hw156 => k0_hw156

def k0_chk157 (v365 : IVec S16 32) (v394 : IVec S16 32) : Prop :=
  (∀ a x, ((![v365, v394] : Fin 2 → IVec S16 32) a x).toNat < S64x96.size a)
theorem k0_idx84_inb : ∀ (v365 : IVec S16 32) (v394 : IVec S16 32) (k0_hw157 : k0_chk157 v365 v394), ∀ a x, ((![v365, v394] : Fin 2 → IVec S16 32) a x).toNat < S64x96.size a := fun v365 v394 k0_hw157 => k0_hw157

def k0_chk158 (v365 : IVec S16 32) (v397 : IVec S16 32) : Prop :=
  (∀ a x, ((![v365, v397] : Fin 2 → IVec S16 32) a x).toNat < S64x96.size a)
theorem k0_idx85_inb : ∀ (v365 : IVec S16 32) (v397 : IVec S16 32) (k0_hw158 : k0_chk158 v365 v397), ∀ a x, ((![v365, v397] : Fin 2 → IVec S16 32) a x).toNat < S64x96.size a := fun v365 v397 k0_hw158 => k0_hw158
def k0_mult40 (v405 : BitVec 32) : BitVec 32 :=
  v405

def k0_off186 (v405 : BitVec 32) : Fin 1 → Nat :=
  let v406 : BitVec 32 := v405
  let v407 : Index := Scalar.indexCast v406
  ![v407.toNat]

def k0_chk159 (v405 : BitVec 32) : Prop :=
  (8 ∣ (k0_mult40 v405).toNat) ∧
  (∀ a, (k0_off186 v405) a + S16.size a ≤ S101376.size a)
theorem k0_mult40_dvd : ∀ (v405 : BitVec 32) (k0_hw159 : k0_chk159 v405), 8 ∣ (k0_mult40 v405).toNat := fun v405 k0_hw159 => k0_hw159.1
theorem k0_off186_inb : ∀ (v405 : BitVec 32) (k0_hw159 : k0_chk159 v405), ∀ a, (k0_off186 v405) a + S16.size a ≤ S101376.size a := fun v405 k0_hw159 => k0_hw159.2

def k0_off187 (v403 : BitVec 32) : Fin 2 → Nat :=
  let v429 : Index := Scalar.indexCast v403
  let c0_131 : Index := 0#32
  ![v429.toNat, 0]

def k0_off188 (v403 : BitVec 32) : Fin 2 → Nat :=
  let v435 : Index := Scalar.indexCast v403
  let c16_133 : Index := 16#32
  ![v435.toNat, 16]
def k0_off189 (v403 : BitVec 32) : Fin 2 → Nat :=
  let v441 : Index := Scalar.indexCast v403
  let c32_135 : Index := 32#32
  ![v441.toNat, 32]
def k0_off190 (v403 : BitVec 32) : Fin 2 → Nat :=
  let v447 : Index := Scalar.indexCast v403
  let c48_137 : Index := 48#32
  ![v447.toNat, 48]

def k0_chk160 (v403 : BitVec 32) : Prop :=
  (∀ a, (k0_off187 v403) a + S1x16.size a ≤ S64x96.size a) ∧
  (∀ a, (k0_off188 v403) a + S1x16.size a ≤ S64x96.size a) ∧
  (∀ a, (k0_off189 v403) a + S1x16.size a ≤ S64x96.size a) ∧
  (∀ a, (k0_off190 v403) a + S1x16.size a ≤ S64x96.size a)
theorem k0_off187_inb : ∀ (v403 : BitVec 32) (k0_hw160 : k0_chk160 v403), ∀ a, (k0_off187 v403) a + S1x16.size a ≤ S64x96.size a := fun v403 k0_hw160 => k0_hw160.1
theorem k0_off188_inb : ∀ (v403 : BitVec 32) (k0_hw160 : k0_chk160 v403), ∀ a, (k0_off188 v403) a + S1x16.size a ≤ S64x96.size a := fun v403 k0_hw160 => k0_hw160.2.1
theorem k0_off189_inb : ∀ (v403 : BitVec 32) (k0_hw160 : k0_chk160 v403), ∀ a, (k0_off189 v403) a + S1x16.size a ≤ S64x96.size a := fun v403 k0_hw160 => k0_hw160.2.2.1
theorem k0_off190_inb : ∀ (v403 : BitVec 32) (k0_hw160 : k0_chk160 v403), ∀ a, (k0_off190 v403) a + S1x16.size a ≤ S64x96.size a := fun v403 k0_hw160 => k0_hw160.2.2.2

def k0_mult41 (v459 : BitVec 32) : BitVec 32 :=
  v459

def k0_off191 (v459 : BitVec 32) : Fin 1 → Nat :=
  let v460 : BitVec 32 := v459
  let v461 : Index := Scalar.indexCast v460
  ![v461.toNat]

def k0_chk161 (v459 : BitVec 32) : Prop :=
  (8 ∣ (k0_mult41 v459).toNat) ∧
  (∀ a, (k0_off191 v459) a + S16.size a ≤ S101376.size a)
theorem k0_mult41_dvd : ∀ (v459 : BitVec 32) (k0_hw161 : k0_chk161 v459), 8 ∣ (k0_mult41 v459).toNat := fun v459 k0_hw161 => k0_hw161.1
theorem k0_off191_inb : ∀ (v459 : BitVec 32) (k0_hw161 : k0_chk161 v459), ∀ a, (k0_off191 v459) a + S16.size a ≤ S101376.size a := fun v459 k0_hw161 => k0_hw161.2

def k0_off192 (v457 : BitVec 32) : Fin 2 → Nat :=
  let v483 : Index := Scalar.indexCast v457
  let c0_143 : Index := 0#32
  ![v483.toNat, 0]

def k0_off193 (v457 : BitVec 32) : Fin 2 → Nat :=
  let v489 : Index := Scalar.indexCast v457
  let c16_145 : Index := 16#32
  ![v489.toNat, 16]
def k0_off194 (v457 : BitVec 32) : Fin 2 → Nat :=
  let v495 : Index := Scalar.indexCast v457
  let c32_147 : Index := 32#32
  ![v495.toNat, 32]
def k0_off195 (v457 : BitVec 32) : Fin 2 → Nat :=
  let v501 : Index := Scalar.indexCast v457
  let c48_149 : Index := 48#32
  ![v501.toNat, 48]

def k0_chk162 (v457 : BitVec 32) : Prop :=
  (∀ a, (k0_off192 v457) a + S1x16.size a ≤ S64x96.size a) ∧
  (∀ a, (k0_off193 v457) a + S1x16.size a ≤ S64x96.size a) ∧
  (∀ a, (k0_off194 v457) a + S1x16.size a ≤ S64x96.size a) ∧
  (∀ a, (k0_off195 v457) a + S1x16.size a ≤ S64x96.size a)
theorem k0_off192_inb : ∀ (v457 : BitVec 32) (k0_hw162 : k0_chk162 v457), ∀ a, (k0_off192 v457) a + S1x16.size a ≤ S64x96.size a := fun v457 k0_hw162 => k0_hw162.1
theorem k0_off193_inb : ∀ (v457 : BitVec 32) (k0_hw162 : k0_chk162 v457), ∀ a, (k0_off193 v457) a + S1x16.size a ≤ S64x96.size a := fun v457 k0_hw162 => k0_hw162.2.1
theorem k0_off194_inb : ∀ (v457 : BitVec 32) (k0_hw162 : k0_chk162 v457), ∀ a, (k0_off194 v457) a + S1x16.size a ≤ S64x96.size a := fun v457 k0_hw162 => k0_hw162.2.2.1
theorem k0_off195_inb : ∀ (v457 : BitVec 32) (k0_hw162 : k0_chk162 v457), ∀ a, (k0_off195 v457) a + S1x16.size a ≤ S64x96.size a := fun v457 k0_hw162 => k0_hw162.2.2.2

def k0_chk163 (v516 : IVec S16 32) : Prop :=
  (∀ a x, ((![v516] : Fin 1 → IVec S16 32) a x).toNat < S101376.size a)
theorem k0_idx86_inb : ∀ (v516 : IVec S16 32) (k0_hw163 : k0_chk163 v516), ∀ a x, ((![v516] : Fin 1 → IVec S16 32) a x).toNat < S101376.size a := fun v516 k0_hw163 => k0_hw163

def k0_chk164 (v530 : IVec S16 32) (v553 : IVec S16 32) : Prop :=
  (∀ a x, ((![v530, v553] : Fin 2 → IVec S16 32) a x).toNat < S64x96.size a)
theorem k0_idx87_inb : ∀ (v530 : IVec S16 32) (v553 : IVec S16 32) (k0_hw164 : k0_chk164 v530 v553), ∀ a x, ((![v530, v553] : Fin 2 → IVec S16 32) a x).toNat < S64x96.size a := fun v530 v553 k0_hw164 => k0_hw164

def k0_chk165 (v530 : IVec S16 32) (v556 : IVec S16 32) : Prop :=
  (∀ a x, ((![v530, v556] : Fin 2 → IVec S16 32) a x).toNat < S64x96.size a)
theorem k0_idx88_inb : ∀ (v530 : IVec S16 32) (v556 : IVec S16 32) (k0_hw165 : k0_chk165 v530 v556), ∀ a x, ((![v530, v556] : Fin 2 → IVec S16 32) a x).toNat < S64x96.size a := fun v530 v556 k0_hw165 => k0_hw165

def k0_chk166 (v530 : IVec S16 32) (v559 : IVec S16 32) : Prop :=
  (∀ a x, ((![v530, v559] : Fin 2 → IVec S16 32) a x).toNat < S64x96.size a)
theorem k0_idx89_inb : ∀ (v530 : IVec S16 32) (v559 : IVec S16 32) (k0_hw166 : k0_chk166 v530 v559), ∀ a x, ((![v530, v559] : Fin 2 → IVec S16 32) a x).toNat < S64x96.size a := fun v530 v559 k0_hw166 => k0_hw166

def k0_chk167 (v530 : IVec S16 32) (v562 : IVec S16 32) : Prop :=
  (∀ a x, ((![v530, v562] : Fin 2 → IVec S16 32) a x).toNat < S64x96.size a)
theorem k0_idx90_inb : ∀ (v530 : IVec S16 32) (v562 : IVec S16 32) (k0_hw167 : k0_chk167 v530 v562), ∀ a x, ((![v530, v562] : Fin 2 → IVec S16 32) a x).toNat < S64x96.size a := fun v530 v562 k0_hw167 => k0_hw167
def k0_mult42 (v570 : BitVec 32) : BitVec 32 :=
  v570

def k0_off196 (v570 : BitVec 32) : Fin 1 → Nat :=
  let v571 : BitVec 32 := v570
  let v572 : Index := Scalar.indexCast v571
  ![v572.toNat]

def k0_chk168 (v570 : BitVec 32) : Prop :=
  (8 ∣ (k0_mult42 v570).toNat) ∧
  (∀ a, (k0_off196 v570) a + S16.size a ≤ S101376.size a)
theorem k0_mult42_dvd : ∀ (v570 : BitVec 32) (k0_hw168 : k0_chk168 v570), 8 ∣ (k0_mult42 v570).toNat := fun v570 k0_hw168 => k0_hw168.1
theorem k0_off196_inb : ∀ (v570 : BitVec 32) (k0_hw168 : k0_chk168 v570), ∀ a, (k0_off196 v570) a + S16.size a ≤ S101376.size a := fun v570 k0_hw168 => k0_hw168.2

def k0_off197 (v568 : BitVec 32) : Fin 2 → Nat :=
  let v594 : Index := Scalar.indexCast v568
  let c0_164 : Index := 0#32
  ![v594.toNat, 0]

def k0_off198 (v568 : BitVec 32) : Fin 2 → Nat :=
  let v600 : Index := Scalar.indexCast v568
  let c16_166 : Index := 16#32
  ![v600.toNat, 16]
def k0_off199 (v568 : BitVec 32) : Fin 2 → Nat :=
  let v606 : Index := Scalar.indexCast v568
  let c32_168 : Index := 32#32
  ![v606.toNat, 32]
def k0_off200 (v568 : BitVec 32) : Fin 2 → Nat :=
  let v612 : Index := Scalar.indexCast v568
  let c48_170 : Index := 48#32
  ![v612.toNat, 48]

def k0_chk169 (v568 : BitVec 32) : Prop :=
  (∀ a, (k0_off197 v568) a + S1x16.size a ≤ S64x96.size a) ∧
  (∀ a, (k0_off198 v568) a + S1x16.size a ≤ S64x96.size a) ∧
  (∀ a, (k0_off199 v568) a + S1x16.size a ≤ S64x96.size a) ∧
  (∀ a, (k0_off200 v568) a + S1x16.size a ≤ S64x96.size a)
theorem k0_off197_inb : ∀ (v568 : BitVec 32) (k0_hw169 : k0_chk169 v568), ∀ a, (k0_off197 v568) a + S1x16.size a ≤ S64x96.size a := fun v568 k0_hw169 => k0_hw169.1
theorem k0_off198_inb : ∀ (v568 : BitVec 32) (k0_hw169 : k0_chk169 v568), ∀ a, (k0_off198 v568) a + S1x16.size a ≤ S64x96.size a := fun v568 k0_hw169 => k0_hw169.2.1
theorem k0_off199_inb : ∀ (v568 : BitVec 32) (k0_hw169 : k0_chk169 v568), ∀ a, (k0_off199 v568) a + S1x16.size a ≤ S64x96.size a := fun v568 k0_hw169 => k0_hw169.2.2.1
theorem k0_off200_inb : ∀ (v568 : BitVec 32) (k0_hw169 : k0_chk169 v568), ∀ a, (k0_off200 v568) a + S1x16.size a ≤ S64x96.size a := fun v568 k0_hw169 => k0_hw169.2.2.2

def k0_mult43 (v624 : BitVec 32) : BitVec 32 :=
  v624

def k0_off201 (v624 : BitVec 32) : Fin 1 → Nat :=
  let v625 : BitVec 32 := v624
  let v626 : Index := Scalar.indexCast v625
  ![v626.toNat]

def k0_chk170 (v624 : BitVec 32) : Prop :=
  (8 ∣ (k0_mult43 v624).toNat) ∧
  (∀ a, (k0_off201 v624) a + S16.size a ≤ S101376.size a)
theorem k0_mult43_dvd : ∀ (v624 : BitVec 32) (k0_hw170 : k0_chk170 v624), 8 ∣ (k0_mult43 v624).toNat := fun v624 k0_hw170 => k0_hw170.1
theorem k0_off201_inb : ∀ (v624 : BitVec 32) (k0_hw170 : k0_chk170 v624), ∀ a, (k0_off201 v624) a + S16.size a ≤ S101376.size a := fun v624 k0_hw170 => k0_hw170.2

def k0_off202 (v622 : BitVec 32) : Fin 2 → Nat :=
  let v648 : Index := Scalar.indexCast v622
  let c0_176 : Index := 0#32
  ![v648.toNat, 0]

def k0_off203 (v622 : BitVec 32) : Fin 2 → Nat :=
  let v654 : Index := Scalar.indexCast v622
  let c16_178 : Index := 16#32
  ![v654.toNat, 16]
def k0_off204 (v622 : BitVec 32) : Fin 2 → Nat :=
  let v660 : Index := Scalar.indexCast v622
  let c32_180 : Index := 32#32
  ![v660.toNat, 32]
def k0_off205 (v622 : BitVec 32) : Fin 2 → Nat :=
  let v666 : Index := Scalar.indexCast v622
  let c48_182 : Index := 48#32
  ![v666.toNat, 48]

def k0_chk171 (v622 : BitVec 32) : Prop :=
  (∀ a, (k0_off202 v622) a + S1x16.size a ≤ S64x96.size a) ∧
  (∀ a, (k0_off203 v622) a + S1x16.size a ≤ S64x96.size a) ∧
  (∀ a, (k0_off204 v622) a + S1x16.size a ≤ S64x96.size a) ∧
  (∀ a, (k0_off205 v622) a + S1x16.size a ≤ S64x96.size a)
theorem k0_off202_inb : ∀ (v622 : BitVec 32) (k0_hw171 : k0_chk171 v622), ∀ a, (k0_off202 v622) a + S1x16.size a ≤ S64x96.size a := fun v622 k0_hw171 => k0_hw171.1
theorem k0_off203_inb : ∀ (v622 : BitVec 32) (k0_hw171 : k0_chk171 v622), ∀ a, (k0_off203 v622) a + S1x16.size a ≤ S64x96.size a := fun v622 k0_hw171 => k0_hw171.2.1
theorem k0_off204_inb : ∀ (v622 : BitVec 32) (k0_hw171 : k0_chk171 v622), ∀ a, (k0_off204 v622) a + S1x16.size a ≤ S64x96.size a := fun v622 k0_hw171 => k0_hw171.2.2.1
theorem k0_off205_inb : ∀ (v622 : BitVec 32) (k0_hw171 : k0_chk171 v622), ∀ a, (k0_off205 v622) a + S1x16.size a ≤ S64x96.size a := fun v622 k0_hw171 => k0_hw171.2.2.2

def k0_chk172 (v681 : IVec S16 32) : Prop :=
  (∀ a x, ((![v681] : Fin 1 → IVec S16 32) a x).toNat < S101376.size a)
theorem k0_idx91_inb : ∀ (v681 : IVec S16 32) (k0_hw172 : k0_chk172 v681), ∀ a x, ((![v681] : Fin 1 → IVec S16 32) a x).toNat < S101376.size a := fun v681 k0_hw172 => k0_hw172

def k0_chk173 (v695 : IVec S16 32) (v718 : IVec S16 32) : Prop :=
  (∀ a x, ((![v695, v718] : Fin 2 → IVec S16 32) a x).toNat < S64x96.size a)
theorem k0_idx92_inb : ∀ (v695 : IVec S16 32) (v718 : IVec S16 32) (k0_hw173 : k0_chk173 v695 v718), ∀ a x, ((![v695, v718] : Fin 2 → IVec S16 32) a x).toNat < S64x96.size a := fun v695 v718 k0_hw173 => k0_hw173

def k0_chk174 (v695 : IVec S16 32) (v721 : IVec S16 32) : Prop :=
  (∀ a x, ((![v695, v721] : Fin 2 → IVec S16 32) a x).toNat < S64x96.size a)
theorem k0_idx93_inb : ∀ (v695 : IVec S16 32) (v721 : IVec S16 32) (k0_hw174 : k0_chk174 v695 v721), ∀ a x, ((![v695, v721] : Fin 2 → IVec S16 32) a x).toNat < S64x96.size a := fun v695 v721 k0_hw174 => k0_hw174

def k0_chk175 (v695 : IVec S16 32) (v724 : IVec S16 32) : Prop :=
  (∀ a x, ((![v695, v724] : Fin 2 → IVec S16 32) a x).toNat < S64x96.size a)
theorem k0_idx94_inb : ∀ (v695 : IVec S16 32) (v724 : IVec S16 32) (k0_hw175 : k0_chk175 v695 v724), ∀ a x, ((![v695, v724] : Fin 2 → IVec S16 32) a x).toNat < S64x96.size a := fun v695 v724 k0_hw175 => k0_hw175

def k0_chk176 (v695 : IVec S16 32) (v727 : IVec S16 32) : Prop :=
  (∀ a x, ((![v695, v727] : Fin 2 → IVec S16 32) a x).toNat < S64x96.size a)
theorem k0_idx95_inb : ∀ (v695 : IVec S16 32) (v727 : IVec S16 32) (k0_hw176 : k0_chk176 v695 v727), ∀ a x, ((![v695, v727] : Fin 2 → IVec S16 32) a x).toNat < S64x96.size a := fun v695 v727 k0_hw176 => k0_hw176
def k0_mult44 (v735 : BitVec 32) : BitVec 32 :=
  v735

def k0_off206 (v735 : BitVec 32) : Fin 1 → Nat :=
  let v736 : BitVec 32 := v735
  let v737 : Index := Scalar.indexCast v736
  ![v737.toNat]

def k0_chk177 (v735 : BitVec 32) : Prop :=
  (8 ∣ (k0_mult44 v735).toNat) ∧
  (∀ a, (k0_off206 v735) a + S16.size a ≤ S101376.size a)
theorem k0_mult44_dvd : ∀ (v735 : BitVec 32) (k0_hw177 : k0_chk177 v735), 8 ∣ (k0_mult44 v735).toNat := fun v735 k0_hw177 => k0_hw177.1
theorem k0_off206_inb : ∀ (v735 : BitVec 32) (k0_hw177 : k0_chk177 v735), ∀ a, (k0_off206 v735) a + S16.size a ≤ S101376.size a := fun v735 k0_hw177 => k0_hw177.2

def k0_off207 (v733 : BitVec 32) : Fin 2 → Nat :=
  let v759 : Index := Scalar.indexCast v733
  let c0_197 : Index := 0#32
  ![v759.toNat, 0]

def k0_off208 (v733 : BitVec 32) : Fin 2 → Nat :=
  let v765 : Index := Scalar.indexCast v733
  let c16_199 : Index := 16#32
  ![v765.toNat, 16]
def k0_off209 (v733 : BitVec 32) : Fin 2 → Nat :=
  let v771 : Index := Scalar.indexCast v733
  let c32_201 : Index := 32#32
  ![v771.toNat, 32]
def k0_off210 (v733 : BitVec 32) : Fin 2 → Nat :=
  let v777 : Index := Scalar.indexCast v733
  let c48_203 : Index := 48#32
  ![v777.toNat, 48]

def k0_chk178 (v733 : BitVec 32) : Prop :=
  (∀ a, (k0_off207 v733) a + S1x16.size a ≤ S64x96.size a) ∧
  (∀ a, (k0_off208 v733) a + S1x16.size a ≤ S64x96.size a) ∧
  (∀ a, (k0_off209 v733) a + S1x16.size a ≤ S64x96.size a) ∧
  (∀ a, (k0_off210 v733) a + S1x16.size a ≤ S64x96.size a)
theorem k0_off207_inb : ∀ (v733 : BitVec 32) (k0_hw178 : k0_chk178 v733), ∀ a, (k0_off207 v733) a + S1x16.size a ≤ S64x96.size a := fun v733 k0_hw178 => k0_hw178.1
theorem k0_off208_inb : ∀ (v733 : BitVec 32) (k0_hw178 : k0_chk178 v733), ∀ a, (k0_off208 v733) a + S1x16.size a ≤ S64x96.size a := fun v733 k0_hw178 => k0_hw178.2.1
theorem k0_off209_inb : ∀ (v733 : BitVec 32) (k0_hw178 : k0_chk178 v733), ∀ a, (k0_off209 v733) a + S1x16.size a ≤ S64x96.size a := fun v733 k0_hw178 => k0_hw178.2.2.1
theorem k0_off210_inb : ∀ (v733 : BitVec 32) (k0_hw178 : k0_chk178 v733), ∀ a, (k0_off210 v733) a + S1x16.size a ≤ S64x96.size a := fun v733 k0_hw178 => k0_hw178.2.2.2

def k0_mult45 (v789 : BitVec 32) : BitVec 32 :=
  v789

def k0_off211 (v789 : BitVec 32) : Fin 1 → Nat :=
  let v790 : BitVec 32 := v789
  let v791 : Index := Scalar.indexCast v790
  ![v791.toNat]

def k0_chk179 (v789 : BitVec 32) : Prop :=
  (8 ∣ (k0_mult45 v789).toNat) ∧
  (∀ a, (k0_off211 v789) a + S16.size a ≤ S101376.size a)
theorem k0_mult45_dvd : ∀ (v789 : BitVec 32) (k0_hw179 : k0_chk179 v789), 8 ∣ (k0_mult45 v789).toNat := fun v789 k0_hw179 => k0_hw179.1
theorem k0_off211_inb : ∀ (v789 : BitVec 32) (k0_hw179 : k0_chk179 v789), ∀ a, (k0_off211 v789) a + S16.size a ≤ S101376.size a := fun v789 k0_hw179 => k0_hw179.2

def k0_off212 (v787 : BitVec 32) : Fin 2 → Nat :=
  let v813 : Index := Scalar.indexCast v787
  let c0_209 : Index := 0#32
  ![v813.toNat, 0]

def k0_off213 (v787 : BitVec 32) : Fin 2 → Nat :=
  let v819 : Index := Scalar.indexCast v787
  let c16_211 : Index := 16#32
  ![v819.toNat, 16]
def k0_off214 (v787 : BitVec 32) : Fin 2 → Nat :=
  let v825 : Index := Scalar.indexCast v787
  let c32_213 : Index := 32#32
  ![v825.toNat, 32]
def k0_off215 (v787 : BitVec 32) : Fin 2 → Nat :=
  let v831 : Index := Scalar.indexCast v787
  let c48_215 : Index := 48#32
  ![v831.toNat, 48]

def k0_chk180 (v787 : BitVec 32) : Prop :=
  (∀ a, (k0_off212 v787) a + S1x16.size a ≤ S64x96.size a) ∧
  (∀ a, (k0_off213 v787) a + S1x16.size a ≤ S64x96.size a) ∧
  (∀ a, (k0_off214 v787) a + S1x16.size a ≤ S64x96.size a) ∧
  (∀ a, (k0_off215 v787) a + S1x16.size a ≤ S64x96.size a)
theorem k0_off212_inb : ∀ (v787 : BitVec 32) (k0_hw180 : k0_chk180 v787), ∀ a, (k0_off212 v787) a + S1x16.size a ≤ S64x96.size a := fun v787 k0_hw180 => k0_hw180.1
theorem k0_off213_inb : ∀ (v787 : BitVec 32) (k0_hw180 : k0_chk180 v787), ∀ a, (k0_off213 v787) a + S1x16.size a ≤ S64x96.size a := fun v787 k0_hw180 => k0_hw180.2.1
theorem k0_off214_inb : ∀ (v787 : BitVec 32) (k0_hw180 : k0_chk180 v787), ∀ a, (k0_off214 v787) a + S1x16.size a ≤ S64x96.size a := fun v787 k0_hw180 => k0_hw180.2.2.1
theorem k0_off215_inb : ∀ (v787 : BitVec 32) (k0_hw180 : k0_chk180 v787), ∀ a, (k0_off215 v787) a + S1x16.size a ≤ S64x96.size a := fun v787 k0_hw180 => k0_hw180.2.2.2

def k0_chk181 (v846 : IVec S16 32) : Prop :=
  (∀ a x, ((![v846] : Fin 1 → IVec S16 32) a x).toNat < S101376.size a)
theorem k0_idx96_inb : ∀ (v846 : IVec S16 32) (k0_hw181 : k0_chk181 v846), ∀ a x, ((![v846] : Fin 1 → IVec S16 32) a x).toNat < S101376.size a := fun v846 k0_hw181 => k0_hw181

def k0_chk182 (v860 : IVec S16 32) (v883 : IVec S16 32) : Prop :=
  (∀ a x, ((![v860, v883] : Fin 2 → IVec S16 32) a x).toNat < S64x96.size a)
theorem k0_idx97_inb : ∀ (v860 : IVec S16 32) (v883 : IVec S16 32) (k0_hw182 : k0_chk182 v860 v883), ∀ a x, ((![v860, v883] : Fin 2 → IVec S16 32) a x).toNat < S64x96.size a := fun v860 v883 k0_hw182 => k0_hw182

def k0_chk183 (v860 : IVec S16 32) (v886 : IVec S16 32) : Prop :=
  (∀ a x, ((![v860, v886] : Fin 2 → IVec S16 32) a x).toNat < S64x96.size a)
theorem k0_idx98_inb : ∀ (v860 : IVec S16 32) (v886 : IVec S16 32) (k0_hw183 : k0_chk183 v860 v886), ∀ a x, ((![v860, v886] : Fin 2 → IVec S16 32) a x).toNat < S64x96.size a := fun v860 v886 k0_hw183 => k0_hw183

def k0_chk184 (v860 : IVec S16 32) (v889 : IVec S16 32) : Prop :=
  (∀ a x, ((![v860, v889] : Fin 2 → IVec S16 32) a x).toNat < S64x96.size a)
theorem k0_idx99_inb : ∀ (v860 : IVec S16 32) (v889 : IVec S16 32) (k0_hw184 : k0_chk184 v860 v889), ∀ a x, ((![v860, v889] : Fin 2 → IVec S16 32) a x).toNat < S64x96.size a := fun v860 v889 k0_hw184 => k0_hw184

def k0_chk185 (v860 : IVec S16 32) (v892 : IVec S16 32) : Prop :=
  (∀ a x, ((![v860, v892] : Fin 2 → IVec S16 32) a x).toNat < S64x96.size a)
theorem k0_idx100_inb : ∀ (v860 : IVec S16 32) (v892 : IVec S16 32) (k0_hw185 : k0_chk185 v860 v892), ∀ a x, ((![v860, v892] : Fin 2 → IVec S16 32) a x).toNat < S64x96.size a := fun v860 v892 k0_hw185 => k0_hw185
def k0_mult46 (v900 : BitVec 32) : BitVec 32 :=
  v900

def k0_off216 (v900 : BitVec 32) : Fin 1 → Nat :=
  let v901 : BitVec 32 := v900
  let v902 : Index := Scalar.indexCast v901
  ![v902.toNat]

def k0_chk186 (v900 : BitVec 32) : Prop :=
  (8 ∣ (k0_mult46 v900).toNat) ∧
  (∀ a, (k0_off216 v900) a + S16.size a ≤ S101376.size a)
theorem k0_mult46_dvd : ∀ (v900 : BitVec 32) (k0_hw186 : k0_chk186 v900), 8 ∣ (k0_mult46 v900).toNat := fun v900 k0_hw186 => k0_hw186.1
theorem k0_off216_inb : ∀ (v900 : BitVec 32) (k0_hw186 : k0_chk186 v900), ∀ a, (k0_off216 v900) a + S16.size a ≤ S101376.size a := fun v900 k0_hw186 => k0_hw186.2

def k0_off217 (v898 : BitVec 32) : Fin 2 → Nat :=
  let v924 : Index := Scalar.indexCast v898
  let c0_230 : Index := 0#32
  ![v924.toNat, 0]

def k0_off218 (v898 : BitVec 32) : Fin 2 → Nat :=
  let v930 : Index := Scalar.indexCast v898
  let c16_232 : Index := 16#32
  ![v930.toNat, 16]
def k0_off219 (v898 : BitVec 32) : Fin 2 → Nat :=
  let v936 : Index := Scalar.indexCast v898
  let c32_234 : Index := 32#32
  ![v936.toNat, 32]
def k0_off220 (v898 : BitVec 32) : Fin 2 → Nat :=
  let v942 : Index := Scalar.indexCast v898
  let c48_236 : Index := 48#32
  ![v942.toNat, 48]

def k0_chk187 (v898 : BitVec 32) : Prop :=
  (∀ a, (k0_off217 v898) a + S1x16.size a ≤ S64x96.size a) ∧
  (∀ a, (k0_off218 v898) a + S1x16.size a ≤ S64x96.size a) ∧
  (∀ a, (k0_off219 v898) a + S1x16.size a ≤ S64x96.size a) ∧
  (∀ a, (k0_off220 v898) a + S1x16.size a ≤ S64x96.size a)
theorem k0_off217_inb : ∀ (v898 : BitVec 32) (k0_hw187 : k0_chk187 v898), ∀ a, (k0_off217 v898) a + S1x16.size a ≤ S64x96.size a := fun v898 k0_hw187 => k0_hw187.1
theorem k0_off218_inb : ∀ (v898 : BitVec 32) (k0_hw187 : k0_chk187 v898), ∀ a, (k0_off218 v898) a + S1x16.size a ≤ S64x96.size a := fun v898 k0_hw187 => k0_hw187.2.1
theorem k0_off219_inb : ∀ (v898 : BitVec 32) (k0_hw187 : k0_chk187 v898), ∀ a, (k0_off219 v898) a + S1x16.size a ≤ S64x96.size a := fun v898 k0_hw187 => k0_hw187.2.2.1
theorem k0_off220_inb : ∀ (v898 : BitVec 32) (k0_hw187 : k0_chk187 v898), ∀ a, (k0_off220 v898) a + S1x16.size a ≤ S64x96.size a := fun v898 k0_hw187 => k0_hw187.2.2.2

def k0_mult47 (v954 : BitVec 32) : BitVec 32 :=
  v954

def k0_off221 (v954 : BitVec 32) : Fin 1 → Nat :=
  let v955 : BitVec 32 := v954
  let v956 : Index := Scalar.indexCast v955
  ![v956.toNat]

def k0_chk188 (v954 : BitVec 32) : Prop :=
  (8 ∣ (k0_mult47 v954).toNat) ∧
  (∀ a, (k0_off221 v954) a + S16.size a ≤ S101376.size a)
theorem k0_mult47_dvd : ∀ (v954 : BitVec 32) (k0_hw188 : k0_chk188 v954), 8 ∣ (k0_mult47 v954).toNat := fun v954 k0_hw188 => k0_hw188.1
theorem k0_off221_inb : ∀ (v954 : BitVec 32) (k0_hw188 : k0_chk188 v954), ∀ a, (k0_off221 v954) a + S16.size a ≤ S101376.size a := fun v954 k0_hw188 => k0_hw188.2

def k0_off222 (v952 : BitVec 32) : Fin 2 → Nat :=
  let v978 : Index := Scalar.indexCast v952
  let c0_242 : Index := 0#32
  ![v978.toNat, 0]

def k0_off223 (v952 : BitVec 32) : Fin 2 → Nat :=
  let v984 : Index := Scalar.indexCast v952
  let c16_244 : Index := 16#32
  ![v984.toNat, 16]
def k0_off224 (v952 : BitVec 32) : Fin 2 → Nat :=
  let v990 : Index := Scalar.indexCast v952
  let c32_246 : Index := 32#32
  ![v990.toNat, 32]
def k0_off225 (v952 : BitVec 32) : Fin 2 → Nat :=
  let v996 : Index := Scalar.indexCast v952
  let c48_248 : Index := 48#32
  ![v996.toNat, 48]

def k0_chk189 (v952 : BitVec 32) : Prop :=
  (∀ a, (k0_off222 v952) a + S1x16.size a ≤ S64x96.size a) ∧
  (∀ a, (k0_off223 v952) a + S1x16.size a ≤ S64x96.size a) ∧
  (∀ a, (k0_off224 v952) a + S1x16.size a ≤ S64x96.size a) ∧
  (∀ a, (k0_off225 v952) a + S1x16.size a ≤ S64x96.size a)
theorem k0_off222_inb : ∀ (v952 : BitVec 32) (k0_hw189 : k0_chk189 v952), ∀ a, (k0_off222 v952) a + S1x16.size a ≤ S64x96.size a := fun v952 k0_hw189 => k0_hw189.1
theorem k0_off223_inb : ∀ (v952 : BitVec 32) (k0_hw189 : k0_chk189 v952), ∀ a, (k0_off223 v952) a + S1x16.size a ≤ S64x96.size a := fun v952 k0_hw189 => k0_hw189.2.1
theorem k0_off224_inb : ∀ (v952 : BitVec 32) (k0_hw189 : k0_chk189 v952), ∀ a, (k0_off224 v952) a + S1x16.size a ≤ S64x96.size a := fun v952 k0_hw189 => k0_hw189.2.2.1
theorem k0_off225_inb : ∀ (v952 : BitVec 32) (k0_hw189 : k0_chk189 v952), ∀ a, (k0_off225 v952) a + S1x16.size a ≤ S64x96.size a := fun v952 k0_hw189 => k0_hw189.2.2.2

def k0_chk190 (v1011 : IVec S16 32) : Prop :=
  (∀ a x, ((![v1011] : Fin 1 → IVec S16 32) a x).toNat < S101376.size a)
theorem k0_idx101_inb : ∀ (v1011 : IVec S16 32) (k0_hw190 : k0_chk190 v1011), ∀ a x, ((![v1011] : Fin 1 → IVec S16 32) a x).toNat < S101376.size a := fun v1011 k0_hw190 => k0_hw190

def k0_chk191 (v1025 : IVec S16 32) (v1048 : IVec S16 32) : Prop :=
  (∀ a x, ((![v1025, v1048] : Fin 2 → IVec S16 32) a x).toNat < S64x96.size a)
theorem k0_idx102_inb : ∀ (v1025 : IVec S16 32) (v1048 : IVec S16 32) (k0_hw191 : k0_chk191 v1025 v1048), ∀ a x, ((![v1025, v1048] : Fin 2 → IVec S16 32) a x).toNat < S64x96.size a := fun v1025 v1048 k0_hw191 => k0_hw191

def k0_chk192 (v1025 : IVec S16 32) (v1051 : IVec S16 32) : Prop :=
  (∀ a x, ((![v1025, v1051] : Fin 2 → IVec S16 32) a x).toNat < S64x96.size a)
theorem k0_idx103_inb : ∀ (v1025 : IVec S16 32) (v1051 : IVec S16 32) (k0_hw192 : k0_chk192 v1025 v1051), ∀ a x, ((![v1025, v1051] : Fin 2 → IVec S16 32) a x).toNat < S64x96.size a := fun v1025 v1051 k0_hw192 => k0_hw192

def k0_chk193 (v1025 : IVec S16 32) (v1054 : IVec S16 32) : Prop :=
  (∀ a x, ((![v1025, v1054] : Fin 2 → IVec S16 32) a x).toNat < S64x96.size a)
theorem k0_idx104_inb : ∀ (v1025 : IVec S16 32) (v1054 : IVec S16 32) (k0_hw193 : k0_chk193 v1025 v1054), ∀ a x, ((![v1025, v1054] : Fin 2 → IVec S16 32) a x).toNat < S64x96.size a := fun v1025 v1054 k0_hw193 => k0_hw193

def k0_chk194 (v1025 : IVec S16 32) (v1057 : IVec S16 32) : Prop :=
  (∀ a x, ((![v1025, v1057] : Fin 2 → IVec S16 32) a x).toNat < S64x96.size a)
theorem k0_idx105_inb : ∀ (v1025 : IVec S16 32) (v1057 : IVec S16 32) (k0_hw194 : k0_chk194 v1025 v1057), ∀ a x, ((![v1025, v1057] : Fin 2 → IVec S16 32) a x).toNat < S64x96.size a := fun v1025 v1057 k0_hw194 => k0_hw194
def k0_mult48 (v1065 : BitVec 32) : BitVec 32 :=
  v1065

def k0_off226 (v1065 : BitVec 32) : Fin 1 → Nat :=
  let v1066 : BitVec 32 := v1065
  let v1067 : Index := Scalar.indexCast v1066
  ![v1067.toNat]

def k0_chk195 (v1065 : BitVec 32) : Prop :=
  (8 ∣ (k0_mult48 v1065).toNat) ∧
  (∀ a, (k0_off226 v1065) a + S16.size a ≤ S101376.size a)
theorem k0_mult48_dvd : ∀ (v1065 : BitVec 32) (k0_hw195 : k0_chk195 v1065), 8 ∣ (k0_mult48 v1065).toNat := fun v1065 k0_hw195 => k0_hw195.1
theorem k0_off226_inb : ∀ (v1065 : BitVec 32) (k0_hw195 : k0_chk195 v1065), ∀ a, (k0_off226 v1065) a + S16.size a ≤ S101376.size a := fun v1065 k0_hw195 => k0_hw195.2

def k0_off227 (v1063 : BitVec 32) : Fin 2 → Nat :=
  let v1089 : Index := Scalar.indexCast v1063
  let c0_263 : Index := 0#32
  ![v1089.toNat, 0]

def k0_off228 (v1063 : BitVec 32) : Fin 2 → Nat :=
  let v1095 : Index := Scalar.indexCast v1063
  let c16_265 : Index := 16#32
  ![v1095.toNat, 16]
def k0_off229 (v1063 : BitVec 32) : Fin 2 → Nat :=
  let v1101 : Index := Scalar.indexCast v1063
  let c32_267 : Index := 32#32
  ![v1101.toNat, 32]
def k0_off230 (v1063 : BitVec 32) : Fin 2 → Nat :=
  let v1107 : Index := Scalar.indexCast v1063
  let c48_269 : Index := 48#32
  ![v1107.toNat, 48]

def k0_chk196 (v1063 : BitVec 32) : Prop :=
  (∀ a, (k0_off227 v1063) a + S1x16.size a ≤ S64x96.size a) ∧
  (∀ a, (k0_off228 v1063) a + S1x16.size a ≤ S64x96.size a) ∧
  (∀ a, (k0_off229 v1063) a + S1x16.size a ≤ S64x96.size a) ∧
  (∀ a, (k0_off230 v1063) a + S1x16.size a ≤ S64x96.size a)
theorem k0_off227_inb : ∀ (v1063 : BitVec 32) (k0_hw196 : k0_chk196 v1063), ∀ a, (k0_off227 v1063) a + S1x16.size a ≤ S64x96.size a := fun v1063 k0_hw196 => k0_hw196.1
theorem k0_off228_inb : ∀ (v1063 : BitVec 32) (k0_hw196 : k0_chk196 v1063), ∀ a, (k0_off228 v1063) a + S1x16.size a ≤ S64x96.size a := fun v1063 k0_hw196 => k0_hw196.2.1
theorem k0_off229_inb : ∀ (v1063 : BitVec 32) (k0_hw196 : k0_chk196 v1063), ∀ a, (k0_off229 v1063) a + S1x16.size a ≤ S64x96.size a := fun v1063 k0_hw196 => k0_hw196.2.2.1
theorem k0_off230_inb : ∀ (v1063 : BitVec 32) (k0_hw196 : k0_chk196 v1063), ∀ a, (k0_off230 v1063) a + S1x16.size a ≤ S64x96.size a := fun v1063 k0_hw196 => k0_hw196.2.2.2

def k0_mult49 (v1119 : BitVec 32) : BitVec 32 :=
  v1119

def k0_off231 (v1119 : BitVec 32) : Fin 1 → Nat :=
  let v1120 : BitVec 32 := v1119
  let v1121 : Index := Scalar.indexCast v1120
  ![v1121.toNat]

def k0_chk197 (v1119 : BitVec 32) : Prop :=
  (8 ∣ (k0_mult49 v1119).toNat) ∧
  (∀ a, (k0_off231 v1119) a + S16.size a ≤ S101376.size a)
theorem k0_mult49_dvd : ∀ (v1119 : BitVec 32) (k0_hw197 : k0_chk197 v1119), 8 ∣ (k0_mult49 v1119).toNat := fun v1119 k0_hw197 => k0_hw197.1
theorem k0_off231_inb : ∀ (v1119 : BitVec 32) (k0_hw197 : k0_chk197 v1119), ∀ a, (k0_off231 v1119) a + S16.size a ≤ S101376.size a := fun v1119 k0_hw197 => k0_hw197.2

def k0_off232 (v1117 : BitVec 32) : Fin 2 → Nat :=
  let v1143 : Index := Scalar.indexCast v1117
  let c0_275 : Index := 0#32
  ![v1143.toNat, 0]

def k0_off233 (v1117 : BitVec 32) : Fin 2 → Nat :=
  let v1149 : Index := Scalar.indexCast v1117
  let c16_277 : Index := 16#32
  ![v1149.toNat, 16]
def k0_off234 (v1117 : BitVec 32) : Fin 2 → Nat :=
  let v1155 : Index := Scalar.indexCast v1117
  let c32_279 : Index := 32#32
  ![v1155.toNat, 32]
def k0_off235 (v1117 : BitVec 32) : Fin 2 → Nat :=
  let v1161 : Index := Scalar.indexCast v1117
  let c48_281 : Index := 48#32
  ![v1161.toNat, 48]

def k0_chk198 (v1117 : BitVec 32) : Prop :=
  (∀ a, (k0_off232 v1117) a + S1x16.size a ≤ S64x96.size a) ∧
  (∀ a, (k0_off233 v1117) a + S1x16.size a ≤ S64x96.size a) ∧
  (∀ a, (k0_off234 v1117) a + S1x16.size a ≤ S64x96.size a) ∧
  (∀ a, (k0_off235 v1117) a + S1x16.size a ≤ S64x96.size a)
theorem k0_off232_inb : ∀ (v1117 : BitVec 32) (k0_hw198 : k0_chk198 v1117), ∀ a, (k0_off232 v1117) a + S1x16.size a ≤ S64x96.size a := fun v1117 k0_hw198 => k0_hw198.1
theorem k0_off233_inb : ∀ (v1117 : BitVec 32) (k0_hw198 : k0_chk198 v1117), ∀ a, (k0_off233 v1117) a + S1x16.size a ≤ S64x96.size a := fun v1117 k0_hw198 => k0_hw198.2.1
theorem k0_off234_inb : ∀ (v1117 : BitVec 32) (k0_hw198 : k0_chk198 v1117), ∀ a, (k0_off234 v1117) a + S1x16.size a ≤ S64x96.size a := fun v1117 k0_hw198 => k0_hw198.2.2.1
theorem k0_off235_inb : ∀ (v1117 : BitVec 32) (k0_hw198 : k0_chk198 v1117), ∀ a, (k0_off235 v1117) a + S1x16.size a ≤ S64x96.size a := fun v1117 k0_hw198 => k0_hw198.2.2.2

def k0_chk199 (v1176 : IVec S16 32) : Prop :=
  (∀ a x, ((![v1176] : Fin 1 → IVec S16 32) a x).toNat < S101376.size a)
theorem k0_idx106_inb : ∀ (v1176 : IVec S16 32) (k0_hw199 : k0_chk199 v1176), ∀ a x, ((![v1176] : Fin 1 → IVec S16 32) a x).toNat < S101376.size a := fun v1176 k0_hw199 => k0_hw199

def k0_chk200 (v1190 : IVec S16 32) (v1213 : IVec S16 32) : Prop :=
  (∀ a x, ((![v1190, v1213] : Fin 2 → IVec S16 32) a x).toNat < S64x96.size a)
theorem k0_idx107_inb : ∀ (v1190 : IVec S16 32) (v1213 : IVec S16 32) (k0_hw200 : k0_chk200 v1190 v1213), ∀ a x, ((![v1190, v1213] : Fin 2 → IVec S16 32) a x).toNat < S64x96.size a := fun v1190 v1213 k0_hw200 => k0_hw200

def k0_chk201 (v1190 : IVec S16 32) (v1216 : IVec S16 32) : Prop :=
  (∀ a x, ((![v1190, v1216] : Fin 2 → IVec S16 32) a x).toNat < S64x96.size a)
theorem k0_idx108_inb : ∀ (v1190 : IVec S16 32) (v1216 : IVec S16 32) (k0_hw201 : k0_chk201 v1190 v1216), ∀ a x, ((![v1190, v1216] : Fin 2 → IVec S16 32) a x).toNat < S64x96.size a := fun v1190 v1216 k0_hw201 => k0_hw201

def k0_chk202 (v1190 : IVec S16 32) (v1219 : IVec S16 32) : Prop :=
  (∀ a x, ((![v1190, v1219] : Fin 2 → IVec S16 32) a x).toNat < S64x96.size a)
theorem k0_idx109_inb : ∀ (v1190 : IVec S16 32) (v1219 : IVec S16 32) (k0_hw202 : k0_chk202 v1190 v1219), ∀ a x, ((![v1190, v1219] : Fin 2 → IVec S16 32) a x).toNat < S64x96.size a := fun v1190 v1219 k0_hw202 => k0_hw202

def k0_chk203 (v1190 : IVec S16 32) (v1222 : IVec S16 32) : Prop :=
  (∀ a x, ((![v1190, v1222] : Fin 2 → IVec S16 32) a x).toNat < S64x96.size a)
theorem k0_idx110_inb : ∀ (v1190 : IVec S16 32) (v1222 : IVec S16 32) (k0_hw203 : k0_chk203 v1190 v1222), ∀ a x, ((![v1190, v1222] : Fin 2 → IVec S16 32) a x).toNat < S64x96.size a := fun v1190 v1222 k0_hw203 => k0_hw203
def k0_mult50 (v1230 : BitVec 32) : BitVec 32 :=
  v1230

def k0_off236 (v1230 : BitVec 32) : Fin 1 → Nat :=
  let v1231 : BitVec 32 := v1230
  let v1232 : Index := Scalar.indexCast v1231
  ![v1232.toNat]

def k0_chk204 (v1230 : BitVec 32) : Prop :=
  (8 ∣ (k0_mult50 v1230).toNat) ∧
  (∀ a, (k0_off236 v1230) a + S16.size a ≤ S101376.size a)
theorem k0_mult50_dvd : ∀ (v1230 : BitVec 32) (k0_hw204 : k0_chk204 v1230), 8 ∣ (k0_mult50 v1230).toNat := fun v1230 k0_hw204 => k0_hw204.1
theorem k0_off236_inb : ∀ (v1230 : BitVec 32) (k0_hw204 : k0_chk204 v1230), ∀ a, (k0_off236 v1230) a + S16.size a ≤ S101376.size a := fun v1230 k0_hw204 => k0_hw204.2

def k0_off237 (v1228 : BitVec 32) : Fin 2 → Nat :=
  let v1254 : Index := Scalar.indexCast v1228
  let c0_296 : Index := 0#32
  ![v1254.toNat, 0]

def k0_off238 (v1228 : BitVec 32) : Fin 2 → Nat :=
  let v1260 : Index := Scalar.indexCast v1228
  let c16_298 : Index := 16#32
  ![v1260.toNat, 16]
def k0_off239 (v1228 : BitVec 32) : Fin 2 → Nat :=
  let v1266 : Index := Scalar.indexCast v1228
  let c32_300 : Index := 32#32
  ![v1266.toNat, 32]
def k0_off240 (v1228 : BitVec 32) : Fin 2 → Nat :=
  let v1272 : Index := Scalar.indexCast v1228
  let c48_302 : Index := 48#32
  ![v1272.toNat, 48]

def k0_chk205 (v1228 : BitVec 32) : Prop :=
  (∀ a, (k0_off237 v1228) a + S1x16.size a ≤ S64x96.size a) ∧
  (∀ a, (k0_off238 v1228) a + S1x16.size a ≤ S64x96.size a) ∧
  (∀ a, (k0_off239 v1228) a + S1x16.size a ≤ S64x96.size a) ∧
  (∀ a, (k0_off240 v1228) a + S1x16.size a ≤ S64x96.size a)
theorem k0_off237_inb : ∀ (v1228 : BitVec 32) (k0_hw205 : k0_chk205 v1228), ∀ a, (k0_off237 v1228) a + S1x16.size a ≤ S64x96.size a := fun v1228 k0_hw205 => k0_hw205.1
theorem k0_off238_inb : ∀ (v1228 : BitVec 32) (k0_hw205 : k0_chk205 v1228), ∀ a, (k0_off238 v1228) a + S1x16.size a ≤ S64x96.size a := fun v1228 k0_hw205 => k0_hw205.2.1
theorem k0_off239_inb : ∀ (v1228 : BitVec 32) (k0_hw205 : k0_chk205 v1228), ∀ a, (k0_off239 v1228) a + S1x16.size a ≤ S64x96.size a := fun v1228 k0_hw205 => k0_hw205.2.2.1
theorem k0_off240_inb : ∀ (v1228 : BitVec 32) (k0_hw205 : k0_chk205 v1228), ∀ a, (k0_off240 v1228) a + S1x16.size a ≤ S64x96.size a := fun v1228 k0_hw205 => k0_hw205.2.2.2

def k0_mult51 (v1284 : BitVec 32) : BitVec 32 :=
  v1284

def k0_off241 (v1284 : BitVec 32) : Fin 1 → Nat :=
  let v1285 : BitVec 32 := v1284
  let v1286 : Index := Scalar.indexCast v1285
  ![v1286.toNat]

def k0_chk206 (v1284 : BitVec 32) : Prop :=
  (8 ∣ (k0_mult51 v1284).toNat) ∧
  (∀ a, (k0_off241 v1284) a + S16.size a ≤ S101376.size a)
theorem k0_mult51_dvd : ∀ (v1284 : BitVec 32) (k0_hw206 : k0_chk206 v1284), 8 ∣ (k0_mult51 v1284).toNat := fun v1284 k0_hw206 => k0_hw206.1
theorem k0_off241_inb : ∀ (v1284 : BitVec 32) (k0_hw206 : k0_chk206 v1284), ∀ a, (k0_off241 v1284) a + S16.size a ≤ S101376.size a := fun v1284 k0_hw206 => k0_hw206.2

def k0_off242 (v1282 : BitVec 32) : Fin 2 → Nat :=
  let v1308 : Index := Scalar.indexCast v1282
  let c0_308 : Index := 0#32
  ![v1308.toNat, 0]

def k0_off243 (v1282 : BitVec 32) : Fin 2 → Nat :=
  let v1314 : Index := Scalar.indexCast v1282
  let c16_310 : Index := 16#32
  ![v1314.toNat, 16]
def k0_off244 (v1282 : BitVec 32) : Fin 2 → Nat :=
  let v1320 : Index := Scalar.indexCast v1282
  let c32_312 : Index := 32#32
  ![v1320.toNat, 32]
def k0_off245 (v1282 : BitVec 32) : Fin 2 → Nat :=
  let v1326 : Index := Scalar.indexCast v1282
  let c48_314 : Index := 48#32
  ![v1326.toNat, 48]

def k0_chk207 (v1282 : BitVec 32) : Prop :=
  (∀ a, (k0_off242 v1282) a + S1x16.size a ≤ S64x96.size a) ∧
  (∀ a, (k0_off243 v1282) a + S1x16.size a ≤ S64x96.size a) ∧
  (∀ a, (k0_off244 v1282) a + S1x16.size a ≤ S64x96.size a) ∧
  (∀ a, (k0_off245 v1282) a + S1x16.size a ≤ S64x96.size a)
theorem k0_off242_inb : ∀ (v1282 : BitVec 32) (k0_hw207 : k0_chk207 v1282), ∀ a, (k0_off242 v1282) a + S1x16.size a ≤ S64x96.size a := fun v1282 k0_hw207 => k0_hw207.1
theorem k0_off243_inb : ∀ (v1282 : BitVec 32) (k0_hw207 : k0_chk207 v1282), ∀ a, (k0_off243 v1282) a + S1x16.size a ≤ S64x96.size a := fun v1282 k0_hw207 => k0_hw207.2.1
theorem k0_off244_inb : ∀ (v1282 : BitVec 32) (k0_hw207 : k0_chk207 v1282), ∀ a, (k0_off244 v1282) a + S1x16.size a ≤ S64x96.size a := fun v1282 k0_hw207 => k0_hw207.2.2.1
theorem k0_off245_inb : ∀ (v1282 : BitVec 32) (k0_hw207 : k0_chk207 v1282), ∀ a, (k0_off245 v1282) a + S1x16.size a ≤ S64x96.size a := fun v1282 k0_hw207 => k0_hw207.2.2.2

def k0_chk208 (v1341 : IVec S16 32) : Prop :=
  (∀ a x, ((![v1341] : Fin 1 → IVec S16 32) a x).toNat < S101376.size a)
theorem k0_idx111_inb : ∀ (v1341 : IVec S16 32) (k0_hw208 : k0_chk208 v1341), ∀ a x, ((![v1341] : Fin 1 → IVec S16 32) a x).toNat < S101376.size a := fun v1341 k0_hw208 => k0_hw208

def k0_chk209 (v1355 : IVec S16 32) (v1378 : IVec S16 32) : Prop :=
  (∀ a x, ((![v1355, v1378] : Fin 2 → IVec S16 32) a x).toNat < S64x96.size a)
theorem k0_idx112_inb : ∀ (v1355 : IVec S16 32) (v1378 : IVec S16 32) (k0_hw209 : k0_chk209 v1355 v1378), ∀ a x, ((![v1355, v1378] : Fin 2 → IVec S16 32) a x).toNat < S64x96.size a := fun v1355 v1378 k0_hw209 => k0_hw209

def k0_chk210 (v1355 : IVec S16 32) (v1381 : IVec S16 32) : Prop :=
  (∀ a x, ((![v1355, v1381] : Fin 2 → IVec S16 32) a x).toNat < S64x96.size a)
theorem k0_idx113_inb : ∀ (v1355 : IVec S16 32) (v1381 : IVec S16 32) (k0_hw210 : k0_chk210 v1355 v1381), ∀ a x, ((![v1355, v1381] : Fin 2 → IVec S16 32) a x).toNat < S64x96.size a := fun v1355 v1381 k0_hw210 => k0_hw210

def k0_chk211 (v1355 : IVec S16 32) (v1384 : IVec S16 32) : Prop :=
  (∀ a x, ((![v1355, v1384] : Fin 2 → IVec S16 32) a x).toNat < S64x96.size a)
theorem k0_idx114_inb : ∀ (v1355 : IVec S16 32) (v1384 : IVec S16 32) (k0_hw211 : k0_chk211 v1355 v1384), ∀ a x, ((![v1355, v1384] : Fin 2 → IVec S16 32) a x).toNat < S64x96.size a := fun v1355 v1384 k0_hw211 => k0_hw211

def k0_chk212 (v1355 : IVec S16 32) (v1387 : IVec S16 32) : Prop :=
  (∀ a x, ((![v1355, v1387] : Fin 2 → IVec S16 32) a x).toNat < S64x96.size a)
theorem k0_idx115_inb : ∀ (v1355 : IVec S16 32) (v1387 : IVec S16 32) (k0_hw212 : k0_chk212 v1355 v1387), ∀ a x, ((![v1355, v1387] : Fin 2 → IVec S16 32) a x).toNat < S64x96.size a := fun v1355 v1387 k0_hw212 => k0_hw212
def k0_mult52 (v1395 : BitVec 32) : BitVec 32 :=
  v1395

def k0_off246 (v1395 : BitVec 32) : Fin 1 → Nat :=
  let v1396 : BitVec 32 := v1395
  let v1397 : Index := Scalar.indexCast v1396
  ![v1397.toNat]

def k0_chk213 (v1395 : BitVec 32) : Prop :=
  (8 ∣ (k0_mult52 v1395).toNat) ∧
  (∀ a, (k0_off246 v1395) a + S16.size a ≤ S101376.size a)
theorem k0_mult52_dvd : ∀ (v1395 : BitVec 32) (k0_hw213 : k0_chk213 v1395), 8 ∣ (k0_mult52 v1395).toNat := fun v1395 k0_hw213 => k0_hw213.1
theorem k0_off246_inb : ∀ (v1395 : BitVec 32) (k0_hw213 : k0_chk213 v1395), ∀ a, (k0_off246 v1395) a + S16.size a ≤ S101376.size a := fun v1395 k0_hw213 => k0_hw213.2

def k0_off247 (v1393 : BitVec 32) : Fin 2 → Nat :=
  let v1419 : Index := Scalar.indexCast v1393
  let c0_329 : Index := 0#32
  ![v1419.toNat, 0]

def k0_off248 (v1393 : BitVec 32) : Fin 2 → Nat :=
  let v1425 : Index := Scalar.indexCast v1393
  let c16_331 : Index := 16#32
  ![v1425.toNat, 16]
def k0_off249 (v1393 : BitVec 32) : Fin 2 → Nat :=
  let v1431 : Index := Scalar.indexCast v1393
  let c32_333 : Index := 32#32
  ![v1431.toNat, 32]
def k0_off250 (v1393 : BitVec 32) : Fin 2 → Nat :=
  let v1437 : Index := Scalar.indexCast v1393
  let c48_335 : Index := 48#32
  ![v1437.toNat, 48]

def k0_chk214 (v1393 : BitVec 32) : Prop :=
  (∀ a, (k0_off247 v1393) a + S1x16.size a ≤ S64x96.size a) ∧
  (∀ a, (k0_off248 v1393) a + S1x16.size a ≤ S64x96.size a) ∧
  (∀ a, (k0_off249 v1393) a + S1x16.size a ≤ S64x96.size a) ∧
  (∀ a, (k0_off250 v1393) a + S1x16.size a ≤ S64x96.size a)
theorem k0_off247_inb : ∀ (v1393 : BitVec 32) (k0_hw214 : k0_chk214 v1393), ∀ a, (k0_off247 v1393) a + S1x16.size a ≤ S64x96.size a := fun v1393 k0_hw214 => k0_hw214.1
theorem k0_off248_inb : ∀ (v1393 : BitVec 32) (k0_hw214 : k0_chk214 v1393), ∀ a, (k0_off248 v1393) a + S1x16.size a ≤ S64x96.size a := fun v1393 k0_hw214 => k0_hw214.2.1
theorem k0_off249_inb : ∀ (v1393 : BitVec 32) (k0_hw214 : k0_chk214 v1393), ∀ a, (k0_off249 v1393) a + S1x16.size a ≤ S64x96.size a := fun v1393 k0_hw214 => k0_hw214.2.2.1
theorem k0_off250_inb : ∀ (v1393 : BitVec 32) (k0_hw214 : k0_chk214 v1393), ∀ a, (k0_off250 v1393) a + S1x16.size a ≤ S64x96.size a := fun v1393 k0_hw214 => k0_hw214.2.2.2

def k0_mult53 (v1449 : BitVec 32) : BitVec 32 :=
  v1449

def k0_off251 (v1449 : BitVec 32) : Fin 1 → Nat :=
  let v1450 : BitVec 32 := v1449
  let v1451 : Index := Scalar.indexCast v1450
  ![v1451.toNat]

def k0_chk215 (v1449 : BitVec 32) : Prop :=
  (8 ∣ (k0_mult53 v1449).toNat) ∧
  (∀ a, (k0_off251 v1449) a + S16.size a ≤ S101376.size a)
theorem k0_mult53_dvd : ∀ (v1449 : BitVec 32) (k0_hw215 : k0_chk215 v1449), 8 ∣ (k0_mult53 v1449).toNat := fun v1449 k0_hw215 => k0_hw215.1
theorem k0_off251_inb : ∀ (v1449 : BitVec 32) (k0_hw215 : k0_chk215 v1449), ∀ a, (k0_off251 v1449) a + S16.size a ≤ S101376.size a := fun v1449 k0_hw215 => k0_hw215.2

def k0_off252 (v1447 : BitVec 32) : Fin 2 → Nat :=
  let v1473 : Index := Scalar.indexCast v1447
  let c0_341 : Index := 0#32
  ![v1473.toNat, 0]

def k0_off253 (v1447 : BitVec 32) : Fin 2 → Nat :=
  let v1479 : Index := Scalar.indexCast v1447
  let c16_343 : Index := 16#32
  ![v1479.toNat, 16]
def k0_off254 (v1447 : BitVec 32) : Fin 2 → Nat :=
  let v1485 : Index := Scalar.indexCast v1447
  let c32_345 : Index := 32#32
  ![v1485.toNat, 32]
def k0_off255 (v1447 : BitVec 32) : Fin 2 → Nat :=
  let v1491 : Index := Scalar.indexCast v1447
  let c48_347 : Index := 48#32
  ![v1491.toNat, 48]

def k0_chk216 (v1447 : BitVec 32) : Prop :=
  (∀ a, (k0_off252 v1447) a + S1x16.size a ≤ S64x96.size a) ∧
  (∀ a, (k0_off253 v1447) a + S1x16.size a ≤ S64x96.size a) ∧
  (∀ a, (k0_off254 v1447) a + S1x16.size a ≤ S64x96.size a) ∧
  (∀ a, (k0_off255 v1447) a + S1x16.size a ≤ S64x96.size a)
theorem k0_off252_inb : ∀ (v1447 : BitVec 32) (k0_hw216 : k0_chk216 v1447), ∀ a, (k0_off252 v1447) a + S1x16.size a ≤ S64x96.size a := fun v1447 k0_hw216 => k0_hw216.1
theorem k0_off253_inb : ∀ (v1447 : BitVec 32) (k0_hw216 : k0_chk216 v1447), ∀ a, (k0_off253 v1447) a + S1x16.size a ≤ S64x96.size a := fun v1447 k0_hw216 => k0_hw216.2.1
theorem k0_off254_inb : ∀ (v1447 : BitVec 32) (k0_hw216 : k0_chk216 v1447), ∀ a, (k0_off254 v1447) a + S1x16.size a ≤ S64x96.size a := fun v1447 k0_hw216 => k0_hw216.2.2.1
theorem k0_off255_inb : ∀ (v1447 : BitVec 32) (k0_hw216 : k0_chk216 v1447), ∀ a, (k0_off255 v1447) a + S1x16.size a ≤ S64x96.size a := fun v1447 k0_hw216 => k0_hw216.2.2.2

def k0_chk217 (v1506 : IVec S16 32) : Prop :=
  (∀ a x, ((![v1506] : Fin 1 → IVec S16 32) a x).toNat < S101376.size a)
theorem k0_idx116_inb : ∀ (v1506 : IVec S16 32) (k0_hw217 : k0_chk217 v1506), ∀ a x, ((![v1506] : Fin 1 → IVec S16 32) a x).toNat < S101376.size a := fun v1506 k0_hw217 => k0_hw217

def k0_chk218 (v1520 : IVec S16 32) (v1543 : IVec S16 32) : Prop :=
  (∀ a x, ((![v1520, v1543] : Fin 2 → IVec S16 32) a x).toNat < S64x96.size a)
theorem k0_idx117_inb : ∀ (v1520 : IVec S16 32) (v1543 : IVec S16 32) (k0_hw218 : k0_chk218 v1520 v1543), ∀ a x, ((![v1520, v1543] : Fin 2 → IVec S16 32) a x).toNat < S64x96.size a := fun v1520 v1543 k0_hw218 => k0_hw218

def k0_chk219 (v1520 : IVec S16 32) (v1546 : IVec S16 32) : Prop :=
  (∀ a x, ((![v1520, v1546] : Fin 2 → IVec S16 32) a x).toNat < S64x96.size a)
theorem k0_idx118_inb : ∀ (v1520 : IVec S16 32) (v1546 : IVec S16 32) (k0_hw219 : k0_chk219 v1520 v1546), ∀ a x, ((![v1520, v1546] : Fin 2 → IVec S16 32) a x).toNat < S64x96.size a := fun v1520 v1546 k0_hw219 => k0_hw219

def k0_chk220 (v1520 : IVec S16 32) (v1549 : IVec S16 32) : Prop :=
  (∀ a x, ((![v1520, v1549] : Fin 2 → IVec S16 32) a x).toNat < S64x96.size a)
theorem k0_idx119_inb : ∀ (v1520 : IVec S16 32) (v1549 : IVec S16 32) (k0_hw220 : k0_chk220 v1520 v1549), ∀ a x, ((![v1520, v1549] : Fin 2 → IVec S16 32) a x).toNat < S64x96.size a := fun v1520 v1549 k0_hw220 => k0_hw220

def k0_chk221 (v1520 : IVec S16 32) (v1552 : IVec S16 32) : Prop :=
  (∀ a x, ((![v1520, v1552] : Fin 2 → IVec S16 32) a x).toNat < S64x96.size a)
theorem k0_idx120_inb : ∀ (v1520 : IVec S16 32) (v1552 : IVec S16 32) (k0_hw221 : k0_chk221 v1520 v1552), ∀ a x, ((![v1520, v1552] : Fin 2 → IVec S16 32) a x).toNat < S64x96.size a := fun v1520 v1552 k0_hw221 => k0_hw221
@[reducible] def k0_t8_loop (v50 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v50 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let v202 : BitVec 32 := Scalar.addi c0_i32_92 v201
  let c1_i32_95 : BitVec 32 := 1#32
  ⟨v205, v202, c1_i32_95⟩
def k0_off256 (v50 : BitVec 32) (arg19 : BitVec 32) (k0_t8 : Fin (k0_t8_loop v50 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v50 v190
  let c1024_i32_88 : BitVec 32 := 1024#32
  let v195 : BitVec 32 := Scalar.muli v185 c1024_i32_88
  let v196 : BitVec 32 := Scalar.subi v191 v195
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_95 : BitVec 32 := 1#32
  let arg21 : BitVec 32 := Scf.iv v205 c1_i32_95 k0_t8
  let c16_i32_91 : BitVec 32 := 16#32
  let v206 : BitVec 32 := Scalar.muli arg21 c16_i32_91
  let v207 : BitVec 32 := Scalar.addi v194 v206
  let v208 : Index := Scalar.indexCast v207
  ![v208.toNat]

def k0_chk149 (v50 : BitVec 32) (arg19 : BitVec 32) : Prop :=
  ((k0_t7_loop v50 arg19).OK) ∧
  (∀ k0_t7 : Fin (k0_t7_loop v50 arg19).trips, ∀ a, (k0_off175 v50 arg19 k0_t7) a + S16.size a ≤ S1024.size a) ∧
  ((k0_t8_loop v50 arg19).OK) ∧
  (∀ k0_t8 : Fin (k0_t8_loop v50 arg19).trips, ∀ a, (k0_off256 v50 arg19 k0_t8) a + S16.size a ≤ S1024.size a)
theorem k0_t7_ok : ∀ (v50 : BitVec 32) (arg19 : BitVec 32) (k0_hw149 : k0_chk149 v50 arg19), (k0_t7_loop v50 arg19).OK := fun v50 arg19 k0_hw149 => k0_hw149.1
theorem k0_off175_inb : ∀ (v50 : BitVec 32) (arg19 : BitVec 32) (k0_hw149 : k0_chk149 v50 arg19) (k0_t7 : Fin (k0_t7_loop v50 arg19).trips), ∀ a, (k0_off175 v50 arg19 k0_t7) a + S16.size a ≤ S1024.size a := fun v50 arg19 k0_hw149 k0_t7 => k0_hw149.2.1 k0_t7
theorem k0_t8_ok : ∀ (v50 : BitVec 32) (arg19 : BitVec 32) (k0_hw149 : k0_chk149 v50 arg19), (k0_t8_loop v50 arg19).OK := fun v50 arg19 k0_hw149 => k0_hw149.2.2.1
theorem k0_off256_inb : ∀ (v50 : BitVec 32) (arg19 : BitVec 32) (k0_hw149 : k0_chk149 v50 arg19) (k0_t8 : Fin (k0_t8_loop v50 arg19).trips), ∀ a, (k0_off256 v50 arg19 k0_t8) a + S16.size a ≤ S1024.size a := fun v50 arg19 k0_hw149 k0_t8 => k0_hw149.2.2.2 k0_t8

def k0_mult54 (v240 : BitVec 32) : BitVec 32 :=
  v240

def k0_off257 (v240 : BitVec 32) : Fin 1 → Nat :=
  let v241 : BitVec 32 := v240
  let v242 : Index := Scalar.indexCast v241
  ![v242.toNat]

def k0_chk222 (v240 : BitVec 32) : Prop :=
  (8 ∣ (k0_mult54 v240).toNat) ∧
  (∀ a, (k0_off257 v240) a + S16.size a ≤ S101376.size a)
theorem k0_mult54_dvd : ∀ (v240 : BitVec 32) (k0_hw222 : k0_chk222 v240), 8 ∣ (k0_mult54 v240).toNat := fun v240 k0_hw222 => k0_hw222.1
theorem k0_off257_inb : ∀ (v240 : BitVec 32) (k0_hw222 : k0_chk222 v240), ∀ a, (k0_off257 v240) a + S16.size a ≤ S101376.size a := fun v240 k0_hw222 => k0_hw222.2

def k0_off258 (v238 : BitVec 32) : Fin 2 → Nat :=
  let v264 : Index := Scalar.indexCast v238
  let c0 : Index := 0#32
  ![v264.toNat, 0]

def k0_off259 (v238 : BitVec 32) : Fin 2 → Nat :=
  let v270 : Index := Scalar.indexCast v238
  let c16 : Index := 16#32
  ![v270.toNat, 16]
def k0_off260 (v238 : BitVec 32) : Fin 2 → Nat :=
  let v276 : Index := Scalar.indexCast v238
  let c32 : Index := 32#32
  ![v276.toNat, 32]
def k0_off261 (v238 : BitVec 32) : Fin 2 → Nat :=
  let v282 : Index := Scalar.indexCast v238
  let c48 : Index := 48#32
  ![v282.toNat, 48]

def k0_chk223 (v238 : BitVec 32) : Prop :=
  (∀ a, (k0_off258 v238) a + S1x16.size a ≤ S64x96.size a) ∧
  (∀ a, (k0_off259 v238) a + S1x16.size a ≤ S64x96.size a) ∧
  (∀ a, (k0_off260 v238) a + S1x16.size a ≤ S64x96.size a) ∧
  (∀ a, (k0_off261 v238) a + S1x16.size a ≤ S64x96.size a)
theorem k0_off258_inb : ∀ (v238 : BitVec 32) (k0_hw223 : k0_chk223 v238), ∀ a, (k0_off258 v238) a + S1x16.size a ≤ S64x96.size a := fun v238 k0_hw223 => k0_hw223.1
theorem k0_off259_inb : ∀ (v238 : BitVec 32) (k0_hw223 : k0_chk223 v238), ∀ a, (k0_off259 v238) a + S1x16.size a ≤ S64x96.size a := fun v238 k0_hw223 => k0_hw223.2.1
theorem k0_off260_inb : ∀ (v238 : BitVec 32) (k0_hw223 : k0_chk223 v238), ∀ a, (k0_off260 v238) a + S1x16.size a ≤ S64x96.size a := fun v238 k0_hw223 => k0_hw223.2.2.1
theorem k0_off261_inb : ∀ (v238 : BitVec 32) (k0_hw223 : k0_chk223 v238), ∀ a, (k0_off261 v238) a + S1x16.size a ≤ S64x96.size a := fun v238 k0_hw223 => k0_hw223.2.2.2

def k0_mult55 (v294 : BitVec 32) : BitVec 32 :=
  v294

def k0_off262 (v294 : BitVec 32) : Fin 1 → Nat :=
  let v295 : BitVec 32 := v294
  let v296 : Index := Scalar.indexCast v295
  ![v296.toNat]

def k0_chk224 (v294 : BitVec 32) : Prop :=
  (8 ∣ (k0_mult55 v294).toNat) ∧
  (∀ a, (k0_off262 v294) a + S16.size a ≤ S101376.size a)
theorem k0_mult55_dvd : ∀ (v294 : BitVec 32) (k0_hw224 : k0_chk224 v294), 8 ∣ (k0_mult55 v294).toNat := fun v294 k0_hw224 => k0_hw224.1
theorem k0_off262_inb : ∀ (v294 : BitVec 32) (k0_hw224 : k0_chk224 v294), ∀ a, (k0_off262 v294) a + S16.size a ≤ S101376.size a := fun v294 k0_hw224 => k0_hw224.2

def k0_off263 (v292 : BitVec 32) : Fin 2 → Nat :=
  let v318 : Index := Scalar.indexCast v292
  let c0_113 : Index := 0#32
  ![v318.toNat, 0]

def k0_off264 (v292 : BitVec 32) : Fin 2 → Nat :=
  let v324 : Index := Scalar.indexCast v292
  let c16_115 : Index := 16#32
  ![v324.toNat, 16]
def k0_off265 (v292 : BitVec 32) : Fin 2 → Nat :=
  let v330 : Index := Scalar.indexCast v292
  let c32_117 : Index := 32#32
  ![v330.toNat, 32]
def k0_off266 (v292 : BitVec 32) : Fin 2 → Nat :=
  let v336 : Index := Scalar.indexCast v292
  let c48_119 : Index := 48#32
  ![v336.toNat, 48]

def k0_chk225 (v292 : BitVec 32) : Prop :=
  (∀ a, (k0_off263 v292) a + S1x16.size a ≤ S64x96.size a) ∧
  (∀ a, (k0_off264 v292) a + S1x16.size a ≤ S64x96.size a) ∧
  (∀ a, (k0_off265 v292) a + S1x16.size a ≤ S64x96.size a) ∧
  (∀ a, (k0_off266 v292) a + S1x16.size a ≤ S64x96.size a)
theorem k0_off263_inb : ∀ (v292 : BitVec 32) (k0_hw225 : k0_chk225 v292), ∀ a, (k0_off263 v292) a + S1x16.size a ≤ S64x96.size a := fun v292 k0_hw225 => k0_hw225.1
theorem k0_off264_inb : ∀ (v292 : BitVec 32) (k0_hw225 : k0_chk225 v292), ∀ a, (k0_off264 v292) a + S1x16.size a ≤ S64x96.size a := fun v292 k0_hw225 => k0_hw225.2.1
theorem k0_off265_inb : ∀ (v292 : BitVec 32) (k0_hw225 : k0_chk225 v292), ∀ a, (k0_off265 v292) a + S1x16.size a ≤ S64x96.size a := fun v292 k0_hw225 => k0_hw225.2.2.1
theorem k0_off266_inb : ∀ (v292 : BitVec 32) (k0_hw225 : k0_chk225 v292), ∀ a, (k0_off266 v292) a + S1x16.size a ≤ S64x96.size a := fun v292 k0_hw225 => k0_hw225.2.2.2

def k0_chk226 (v351 : IVec S16 32) : Prop :=
  (∀ a x, ((![v351] : Fin 1 → IVec S16 32) a x).toNat < S101376.size a)
theorem k0_idx121_inb : ∀ (v351 : IVec S16 32) (k0_hw226 : k0_chk226 v351), ∀ a x, ((![v351] : Fin 1 → IVec S16 32) a x).toNat < S101376.size a := fun v351 k0_hw226 => k0_hw226

def k0_chk227 (v365 : IVec S16 32) (v388 : IVec S16 32) : Prop :=
  (∀ a x, ((![v365, v388] : Fin 2 → IVec S16 32) a x).toNat < S64x96.size a)
theorem k0_idx122_inb : ∀ (v365 : IVec S16 32) (v388 : IVec S16 32) (k0_hw227 : k0_chk227 v365 v388), ∀ a x, ((![v365, v388] : Fin 2 → IVec S16 32) a x).toNat < S64x96.size a := fun v365 v388 k0_hw227 => k0_hw227

def k0_chk228 (v365 : IVec S16 32) (v391 : IVec S16 32) : Prop :=
  (∀ a x, ((![v365, v391] : Fin 2 → IVec S16 32) a x).toNat < S64x96.size a)
theorem k0_idx123_inb : ∀ (v365 : IVec S16 32) (v391 : IVec S16 32) (k0_hw228 : k0_chk228 v365 v391), ∀ a x, ((![v365, v391] : Fin 2 → IVec S16 32) a x).toNat < S64x96.size a := fun v365 v391 k0_hw228 => k0_hw228

def k0_chk229 (v365 : IVec S16 32) (v394 : IVec S16 32) : Prop :=
  (∀ a x, ((![v365, v394] : Fin 2 → IVec S16 32) a x).toNat < S64x96.size a)
theorem k0_idx124_inb : ∀ (v365 : IVec S16 32) (v394 : IVec S16 32) (k0_hw229 : k0_chk229 v365 v394), ∀ a x, ((![v365, v394] : Fin 2 → IVec S16 32) a x).toNat < S64x96.size a := fun v365 v394 k0_hw229 => k0_hw229

def k0_chk230 (v365 : IVec S16 32) (v397 : IVec S16 32) : Prop :=
  (∀ a x, ((![v365, v397] : Fin 2 → IVec S16 32) a x).toNat < S64x96.size a)
theorem k0_idx125_inb : ∀ (v365 : IVec S16 32) (v397 : IVec S16 32) (k0_hw230 : k0_chk230 v365 v397), ∀ a x, ((![v365, v397] : Fin 2 → IVec S16 32) a x).toNat < S64x96.size a := fun v365 v397 k0_hw230 => k0_hw230
def k0_mult56 (v405 : BitVec 32) : BitVec 32 :=
  v405

def k0_off267 (v405 : BitVec 32) : Fin 1 → Nat :=
  let v406 : BitVec 32 := v405
  let v407 : Index := Scalar.indexCast v406
  ![v407.toNat]

def k0_chk231 (v405 : BitVec 32) : Prop :=
  (8 ∣ (k0_mult56 v405).toNat) ∧
  (∀ a, (k0_off267 v405) a + S16.size a ≤ S101376.size a)
theorem k0_mult56_dvd : ∀ (v405 : BitVec 32) (k0_hw231 : k0_chk231 v405), 8 ∣ (k0_mult56 v405).toNat := fun v405 k0_hw231 => k0_hw231.1
theorem k0_off267_inb : ∀ (v405 : BitVec 32) (k0_hw231 : k0_chk231 v405), ∀ a, (k0_off267 v405) a + S16.size a ≤ S101376.size a := fun v405 k0_hw231 => k0_hw231.2

def k0_off268 (v403 : BitVec 32) : Fin 2 → Nat :=
  let v429 : Index := Scalar.indexCast v403
  let c0_131 : Index := 0#32
  ![v429.toNat, 0]

def k0_off269 (v403 : BitVec 32) : Fin 2 → Nat :=
  let v435 : Index := Scalar.indexCast v403
  let c16_133 : Index := 16#32
  ![v435.toNat, 16]
def k0_off270 (v403 : BitVec 32) : Fin 2 → Nat :=
  let v441 : Index := Scalar.indexCast v403
  let c32_135 : Index := 32#32
  ![v441.toNat, 32]
def k0_off271 (v403 : BitVec 32) : Fin 2 → Nat :=
  let v447 : Index := Scalar.indexCast v403
  let c48_137 : Index := 48#32
  ![v447.toNat, 48]

def k0_chk232 (v403 : BitVec 32) : Prop :=
  (∀ a, (k0_off268 v403) a + S1x16.size a ≤ S64x96.size a) ∧
  (∀ a, (k0_off269 v403) a + S1x16.size a ≤ S64x96.size a) ∧
  (∀ a, (k0_off270 v403) a + S1x16.size a ≤ S64x96.size a) ∧
  (∀ a, (k0_off271 v403) a + S1x16.size a ≤ S64x96.size a)
theorem k0_off268_inb : ∀ (v403 : BitVec 32) (k0_hw232 : k0_chk232 v403), ∀ a, (k0_off268 v403) a + S1x16.size a ≤ S64x96.size a := fun v403 k0_hw232 => k0_hw232.1
theorem k0_off269_inb : ∀ (v403 : BitVec 32) (k0_hw232 : k0_chk232 v403), ∀ a, (k0_off269 v403) a + S1x16.size a ≤ S64x96.size a := fun v403 k0_hw232 => k0_hw232.2.1
theorem k0_off270_inb : ∀ (v403 : BitVec 32) (k0_hw232 : k0_chk232 v403), ∀ a, (k0_off270 v403) a + S1x16.size a ≤ S64x96.size a := fun v403 k0_hw232 => k0_hw232.2.2.1
theorem k0_off271_inb : ∀ (v403 : BitVec 32) (k0_hw232 : k0_chk232 v403), ∀ a, (k0_off271 v403) a + S1x16.size a ≤ S64x96.size a := fun v403 k0_hw232 => k0_hw232.2.2.2

def k0_mult57 (v459 : BitVec 32) : BitVec 32 :=
  v459

def k0_off272 (v459 : BitVec 32) : Fin 1 → Nat :=
  let v460 : BitVec 32 := v459
  let v461 : Index := Scalar.indexCast v460
  ![v461.toNat]

def k0_chk233 (v459 : BitVec 32) : Prop :=
  (8 ∣ (k0_mult57 v459).toNat) ∧
  (∀ a, (k0_off272 v459) a + S16.size a ≤ S101376.size a)
theorem k0_mult57_dvd : ∀ (v459 : BitVec 32) (k0_hw233 : k0_chk233 v459), 8 ∣ (k0_mult57 v459).toNat := fun v459 k0_hw233 => k0_hw233.1
theorem k0_off272_inb : ∀ (v459 : BitVec 32) (k0_hw233 : k0_chk233 v459), ∀ a, (k0_off272 v459) a + S16.size a ≤ S101376.size a := fun v459 k0_hw233 => k0_hw233.2

def k0_off273 (v457 : BitVec 32) : Fin 2 → Nat :=
  let v483 : Index := Scalar.indexCast v457
  let c0_143 : Index := 0#32
  ![v483.toNat, 0]

def k0_off274 (v457 : BitVec 32) : Fin 2 → Nat :=
  let v489 : Index := Scalar.indexCast v457
  let c16_145 : Index := 16#32
  ![v489.toNat, 16]
def k0_off275 (v457 : BitVec 32) : Fin 2 → Nat :=
  let v495 : Index := Scalar.indexCast v457
  let c32_147 : Index := 32#32
  ![v495.toNat, 32]
def k0_off276 (v457 : BitVec 32) : Fin 2 → Nat :=
  let v501 : Index := Scalar.indexCast v457
  let c48_149 : Index := 48#32
  ![v501.toNat, 48]

def k0_chk234 (v457 : BitVec 32) : Prop :=
  (∀ a, (k0_off273 v457) a + S1x16.size a ≤ S64x96.size a) ∧
  (∀ a, (k0_off274 v457) a + S1x16.size a ≤ S64x96.size a) ∧
  (∀ a, (k0_off275 v457) a + S1x16.size a ≤ S64x96.size a) ∧
  (∀ a, (k0_off276 v457) a + S1x16.size a ≤ S64x96.size a)
theorem k0_off273_inb : ∀ (v457 : BitVec 32) (k0_hw234 : k0_chk234 v457), ∀ a, (k0_off273 v457) a + S1x16.size a ≤ S64x96.size a := fun v457 k0_hw234 => k0_hw234.1
theorem k0_off274_inb : ∀ (v457 : BitVec 32) (k0_hw234 : k0_chk234 v457), ∀ a, (k0_off274 v457) a + S1x16.size a ≤ S64x96.size a := fun v457 k0_hw234 => k0_hw234.2.1
theorem k0_off275_inb : ∀ (v457 : BitVec 32) (k0_hw234 : k0_chk234 v457), ∀ a, (k0_off275 v457) a + S1x16.size a ≤ S64x96.size a := fun v457 k0_hw234 => k0_hw234.2.2.1
theorem k0_off276_inb : ∀ (v457 : BitVec 32) (k0_hw234 : k0_chk234 v457), ∀ a, (k0_off276 v457) a + S1x16.size a ≤ S64x96.size a := fun v457 k0_hw234 => k0_hw234.2.2.2

def k0_chk235 (v516 : IVec S16 32) : Prop :=
  (∀ a x, ((![v516] : Fin 1 → IVec S16 32) a x).toNat < S101376.size a)
theorem k0_idx126_inb : ∀ (v516 : IVec S16 32) (k0_hw235 : k0_chk235 v516), ∀ a x, ((![v516] : Fin 1 → IVec S16 32) a x).toNat < S101376.size a := fun v516 k0_hw235 => k0_hw235

def k0_chk236 (v530 : IVec S16 32) (v553 : IVec S16 32) : Prop :=
  (∀ a x, ((![v530, v553] : Fin 2 → IVec S16 32) a x).toNat < S64x96.size a)
theorem k0_idx127_inb : ∀ (v530 : IVec S16 32) (v553 : IVec S16 32) (k0_hw236 : k0_chk236 v530 v553), ∀ a x, ((![v530, v553] : Fin 2 → IVec S16 32) a x).toNat < S64x96.size a := fun v530 v553 k0_hw236 => k0_hw236

def k0_chk237 (v530 : IVec S16 32) (v556 : IVec S16 32) : Prop :=
  (∀ a x, ((![v530, v556] : Fin 2 → IVec S16 32) a x).toNat < S64x96.size a)
theorem k0_idx128_inb : ∀ (v530 : IVec S16 32) (v556 : IVec S16 32) (k0_hw237 : k0_chk237 v530 v556), ∀ a x, ((![v530, v556] : Fin 2 → IVec S16 32) a x).toNat < S64x96.size a := fun v530 v556 k0_hw237 => k0_hw237

def k0_chk238 (v530 : IVec S16 32) (v559 : IVec S16 32) : Prop :=
  (∀ a x, ((![v530, v559] : Fin 2 → IVec S16 32) a x).toNat < S64x96.size a)
theorem k0_idx129_inb : ∀ (v530 : IVec S16 32) (v559 : IVec S16 32) (k0_hw238 : k0_chk238 v530 v559), ∀ a x, ((![v530, v559] : Fin 2 → IVec S16 32) a x).toNat < S64x96.size a := fun v530 v559 k0_hw238 => k0_hw238

def k0_chk239 (v530 : IVec S16 32) (v562 : IVec S16 32) : Prop :=
  (∀ a x, ((![v530, v562] : Fin 2 → IVec S16 32) a x).toNat < S64x96.size a)
theorem k0_idx130_inb : ∀ (v530 : IVec S16 32) (v562 : IVec S16 32) (k0_hw239 : k0_chk239 v530 v562), ∀ a x, ((![v530, v562] : Fin 2 → IVec S16 32) a x).toNat < S64x96.size a := fun v530 v562 k0_hw239 => k0_hw239
def k0_mult58 (v570 : BitVec 32) : BitVec 32 :=
  v570

def k0_off277 (v570 : BitVec 32) : Fin 1 → Nat :=
  let v571 : BitVec 32 := v570
  let v572 : Index := Scalar.indexCast v571
  ![v572.toNat]

def k0_chk240 (v570 : BitVec 32) : Prop :=
  (8 ∣ (k0_mult58 v570).toNat) ∧
  (∀ a, (k0_off277 v570) a + S16.size a ≤ S101376.size a)
theorem k0_mult58_dvd : ∀ (v570 : BitVec 32) (k0_hw240 : k0_chk240 v570), 8 ∣ (k0_mult58 v570).toNat := fun v570 k0_hw240 => k0_hw240.1
theorem k0_off277_inb : ∀ (v570 : BitVec 32) (k0_hw240 : k0_chk240 v570), ∀ a, (k0_off277 v570) a + S16.size a ≤ S101376.size a := fun v570 k0_hw240 => k0_hw240.2

def k0_off278 (v568 : BitVec 32) : Fin 2 → Nat :=
  let v594 : Index := Scalar.indexCast v568
  let c0_164 : Index := 0#32
  ![v594.toNat, 0]

def k0_off279 (v568 : BitVec 32) : Fin 2 → Nat :=
  let v600 : Index := Scalar.indexCast v568
  let c16_166 : Index := 16#32
  ![v600.toNat, 16]
def k0_off280 (v568 : BitVec 32) : Fin 2 → Nat :=
  let v606 : Index := Scalar.indexCast v568
  let c32_168 : Index := 32#32
  ![v606.toNat, 32]
def k0_off281 (v568 : BitVec 32) : Fin 2 → Nat :=
  let v612 : Index := Scalar.indexCast v568
  let c48_170 : Index := 48#32
  ![v612.toNat, 48]

def k0_chk241 (v568 : BitVec 32) : Prop :=
  (∀ a, (k0_off278 v568) a + S1x16.size a ≤ S64x96.size a) ∧
  (∀ a, (k0_off279 v568) a + S1x16.size a ≤ S64x96.size a) ∧
  (∀ a, (k0_off280 v568) a + S1x16.size a ≤ S64x96.size a) ∧
  (∀ a, (k0_off281 v568) a + S1x16.size a ≤ S64x96.size a)
theorem k0_off278_inb : ∀ (v568 : BitVec 32) (k0_hw241 : k0_chk241 v568), ∀ a, (k0_off278 v568) a + S1x16.size a ≤ S64x96.size a := fun v568 k0_hw241 => k0_hw241.1
theorem k0_off279_inb : ∀ (v568 : BitVec 32) (k0_hw241 : k0_chk241 v568), ∀ a, (k0_off279 v568) a + S1x16.size a ≤ S64x96.size a := fun v568 k0_hw241 => k0_hw241.2.1
theorem k0_off280_inb : ∀ (v568 : BitVec 32) (k0_hw241 : k0_chk241 v568), ∀ a, (k0_off280 v568) a + S1x16.size a ≤ S64x96.size a := fun v568 k0_hw241 => k0_hw241.2.2.1
theorem k0_off281_inb : ∀ (v568 : BitVec 32) (k0_hw241 : k0_chk241 v568), ∀ a, (k0_off281 v568) a + S1x16.size a ≤ S64x96.size a := fun v568 k0_hw241 => k0_hw241.2.2.2

def k0_mult59 (v624 : BitVec 32) : BitVec 32 :=
  v624

def k0_off282 (v624 : BitVec 32) : Fin 1 → Nat :=
  let v625 : BitVec 32 := v624
  let v626 : Index := Scalar.indexCast v625
  ![v626.toNat]

def k0_chk242 (v624 : BitVec 32) : Prop :=
  (8 ∣ (k0_mult59 v624).toNat) ∧
  (∀ a, (k0_off282 v624) a + S16.size a ≤ S101376.size a)
theorem k0_mult59_dvd : ∀ (v624 : BitVec 32) (k0_hw242 : k0_chk242 v624), 8 ∣ (k0_mult59 v624).toNat := fun v624 k0_hw242 => k0_hw242.1
theorem k0_off282_inb : ∀ (v624 : BitVec 32) (k0_hw242 : k0_chk242 v624), ∀ a, (k0_off282 v624) a + S16.size a ≤ S101376.size a := fun v624 k0_hw242 => k0_hw242.2

def k0_off283 (v622 : BitVec 32) : Fin 2 → Nat :=
  let v648 : Index := Scalar.indexCast v622
  let c0_176 : Index := 0#32
  ![v648.toNat, 0]

def k0_off284 (v622 : BitVec 32) : Fin 2 → Nat :=
  let v654 : Index := Scalar.indexCast v622
  let c16_178 : Index := 16#32
  ![v654.toNat, 16]
def k0_off285 (v622 : BitVec 32) : Fin 2 → Nat :=
  let v660 : Index := Scalar.indexCast v622
  let c32_180 : Index := 32#32
  ![v660.toNat, 32]
def k0_off286 (v622 : BitVec 32) : Fin 2 → Nat :=
  let v666 : Index := Scalar.indexCast v622
  let c48_182 : Index := 48#32
  ![v666.toNat, 48]

def k0_chk243 (v622 : BitVec 32) : Prop :=
  (∀ a, (k0_off283 v622) a + S1x16.size a ≤ S64x96.size a) ∧
  (∀ a, (k0_off284 v622) a + S1x16.size a ≤ S64x96.size a) ∧
  (∀ a, (k0_off285 v622) a + S1x16.size a ≤ S64x96.size a) ∧
  (∀ a, (k0_off286 v622) a + S1x16.size a ≤ S64x96.size a)
theorem k0_off283_inb : ∀ (v622 : BitVec 32) (k0_hw243 : k0_chk243 v622), ∀ a, (k0_off283 v622) a + S1x16.size a ≤ S64x96.size a := fun v622 k0_hw243 => k0_hw243.1
theorem k0_off284_inb : ∀ (v622 : BitVec 32) (k0_hw243 : k0_chk243 v622), ∀ a, (k0_off284 v622) a + S1x16.size a ≤ S64x96.size a := fun v622 k0_hw243 => k0_hw243.2.1
theorem k0_off285_inb : ∀ (v622 : BitVec 32) (k0_hw243 : k0_chk243 v622), ∀ a, (k0_off285 v622) a + S1x16.size a ≤ S64x96.size a := fun v622 k0_hw243 => k0_hw243.2.2.1
theorem k0_off286_inb : ∀ (v622 : BitVec 32) (k0_hw243 : k0_chk243 v622), ∀ a, (k0_off286 v622) a + S1x16.size a ≤ S64x96.size a := fun v622 k0_hw243 => k0_hw243.2.2.2

def k0_chk244 (v681 : IVec S16 32) : Prop :=
  (∀ a x, ((![v681] : Fin 1 → IVec S16 32) a x).toNat < S101376.size a)
theorem k0_idx131_inb : ∀ (v681 : IVec S16 32) (k0_hw244 : k0_chk244 v681), ∀ a x, ((![v681] : Fin 1 → IVec S16 32) a x).toNat < S101376.size a := fun v681 k0_hw244 => k0_hw244

def k0_chk245 (v695 : IVec S16 32) (v718 : IVec S16 32) : Prop :=
  (∀ a x, ((![v695, v718] : Fin 2 → IVec S16 32) a x).toNat < S64x96.size a)
theorem k0_idx132_inb : ∀ (v695 : IVec S16 32) (v718 : IVec S16 32) (k0_hw245 : k0_chk245 v695 v718), ∀ a x, ((![v695, v718] : Fin 2 → IVec S16 32) a x).toNat < S64x96.size a := fun v695 v718 k0_hw245 => k0_hw245

def k0_chk246 (v695 : IVec S16 32) (v721 : IVec S16 32) : Prop :=
  (∀ a x, ((![v695, v721] : Fin 2 → IVec S16 32) a x).toNat < S64x96.size a)
theorem k0_idx133_inb : ∀ (v695 : IVec S16 32) (v721 : IVec S16 32) (k0_hw246 : k0_chk246 v695 v721), ∀ a x, ((![v695, v721] : Fin 2 → IVec S16 32) a x).toNat < S64x96.size a := fun v695 v721 k0_hw246 => k0_hw246

def k0_chk247 (v695 : IVec S16 32) (v724 : IVec S16 32) : Prop :=
  (∀ a x, ((![v695, v724] : Fin 2 → IVec S16 32) a x).toNat < S64x96.size a)
theorem k0_idx134_inb : ∀ (v695 : IVec S16 32) (v724 : IVec S16 32) (k0_hw247 : k0_chk247 v695 v724), ∀ a x, ((![v695, v724] : Fin 2 → IVec S16 32) a x).toNat < S64x96.size a := fun v695 v724 k0_hw247 => k0_hw247

def k0_chk248 (v695 : IVec S16 32) (v727 : IVec S16 32) : Prop :=
  (∀ a x, ((![v695, v727] : Fin 2 → IVec S16 32) a x).toNat < S64x96.size a)
theorem k0_idx135_inb : ∀ (v695 : IVec S16 32) (v727 : IVec S16 32) (k0_hw248 : k0_chk248 v695 v727), ∀ a x, ((![v695, v727] : Fin 2 → IVec S16 32) a x).toNat < S64x96.size a := fun v695 v727 k0_hw248 => k0_hw248
def k0_mult60 (v735 : BitVec 32) : BitVec 32 :=
  v735

def k0_off287 (v735 : BitVec 32) : Fin 1 → Nat :=
  let v736 : BitVec 32 := v735
  let v737 : Index := Scalar.indexCast v736
  ![v737.toNat]

def k0_chk249 (v735 : BitVec 32) : Prop :=
  (8 ∣ (k0_mult60 v735).toNat) ∧
  (∀ a, (k0_off287 v735) a + S16.size a ≤ S101376.size a)
theorem k0_mult60_dvd : ∀ (v735 : BitVec 32) (k0_hw249 : k0_chk249 v735), 8 ∣ (k0_mult60 v735).toNat := fun v735 k0_hw249 => k0_hw249.1
theorem k0_off287_inb : ∀ (v735 : BitVec 32) (k0_hw249 : k0_chk249 v735), ∀ a, (k0_off287 v735) a + S16.size a ≤ S101376.size a := fun v735 k0_hw249 => k0_hw249.2

def k0_off288 (v733 : BitVec 32) : Fin 2 → Nat :=
  let v759 : Index := Scalar.indexCast v733
  let c0_197 : Index := 0#32
  ![v759.toNat, 0]

def k0_off289 (v733 : BitVec 32) : Fin 2 → Nat :=
  let v765 : Index := Scalar.indexCast v733
  let c16_199 : Index := 16#32
  ![v765.toNat, 16]
def k0_off290 (v733 : BitVec 32) : Fin 2 → Nat :=
  let v771 : Index := Scalar.indexCast v733
  let c32_201 : Index := 32#32
  ![v771.toNat, 32]
def k0_off291 (v733 : BitVec 32) : Fin 2 → Nat :=
  let v777 : Index := Scalar.indexCast v733
  let c48_203 : Index := 48#32
  ![v777.toNat, 48]

def k0_chk250 (v733 : BitVec 32) : Prop :=
  (∀ a, (k0_off288 v733) a + S1x16.size a ≤ S64x96.size a) ∧
  (∀ a, (k0_off289 v733) a + S1x16.size a ≤ S64x96.size a) ∧
  (∀ a, (k0_off290 v733) a + S1x16.size a ≤ S64x96.size a) ∧
  (∀ a, (k0_off291 v733) a + S1x16.size a ≤ S64x96.size a)
theorem k0_off288_inb : ∀ (v733 : BitVec 32) (k0_hw250 : k0_chk250 v733), ∀ a, (k0_off288 v733) a + S1x16.size a ≤ S64x96.size a := fun v733 k0_hw250 => k0_hw250.1
theorem k0_off289_inb : ∀ (v733 : BitVec 32) (k0_hw250 : k0_chk250 v733), ∀ a, (k0_off289 v733) a + S1x16.size a ≤ S64x96.size a := fun v733 k0_hw250 => k0_hw250.2.1
theorem k0_off290_inb : ∀ (v733 : BitVec 32) (k0_hw250 : k0_chk250 v733), ∀ a, (k0_off290 v733) a + S1x16.size a ≤ S64x96.size a := fun v733 k0_hw250 => k0_hw250.2.2.1
theorem k0_off291_inb : ∀ (v733 : BitVec 32) (k0_hw250 : k0_chk250 v733), ∀ a, (k0_off291 v733) a + S1x16.size a ≤ S64x96.size a := fun v733 k0_hw250 => k0_hw250.2.2.2

def k0_mult61 (v789 : BitVec 32) : BitVec 32 :=
  v789

def k0_off292 (v789 : BitVec 32) : Fin 1 → Nat :=
  let v790 : BitVec 32 := v789
  let v791 : Index := Scalar.indexCast v790
  ![v791.toNat]

def k0_chk251 (v789 : BitVec 32) : Prop :=
  (8 ∣ (k0_mult61 v789).toNat) ∧
  (∀ a, (k0_off292 v789) a + S16.size a ≤ S101376.size a)
theorem k0_mult61_dvd : ∀ (v789 : BitVec 32) (k0_hw251 : k0_chk251 v789), 8 ∣ (k0_mult61 v789).toNat := fun v789 k0_hw251 => k0_hw251.1
theorem k0_off292_inb : ∀ (v789 : BitVec 32) (k0_hw251 : k0_chk251 v789), ∀ a, (k0_off292 v789) a + S16.size a ≤ S101376.size a := fun v789 k0_hw251 => k0_hw251.2

def k0_off293 (v787 : BitVec 32) : Fin 2 → Nat :=
  let v813 : Index := Scalar.indexCast v787
  let c0_209 : Index := 0#32
  ![v813.toNat, 0]

def k0_off294 (v787 : BitVec 32) : Fin 2 → Nat :=
  let v819 : Index := Scalar.indexCast v787
  let c16_211 : Index := 16#32
  ![v819.toNat, 16]
def k0_off295 (v787 : BitVec 32) : Fin 2 → Nat :=
  let v825 : Index := Scalar.indexCast v787
  let c32_213 : Index := 32#32
  ![v825.toNat, 32]
def k0_off296 (v787 : BitVec 32) : Fin 2 → Nat :=
  let v831 : Index := Scalar.indexCast v787
  let c48_215 : Index := 48#32
  ![v831.toNat, 48]

def k0_chk252 (v787 : BitVec 32) : Prop :=
  (∀ a, (k0_off293 v787) a + S1x16.size a ≤ S64x96.size a) ∧
  (∀ a, (k0_off294 v787) a + S1x16.size a ≤ S64x96.size a) ∧
  (∀ a, (k0_off295 v787) a + S1x16.size a ≤ S64x96.size a) ∧
  (∀ a, (k0_off296 v787) a + S1x16.size a ≤ S64x96.size a)
theorem k0_off293_inb : ∀ (v787 : BitVec 32) (k0_hw252 : k0_chk252 v787), ∀ a, (k0_off293 v787) a + S1x16.size a ≤ S64x96.size a := fun v787 k0_hw252 => k0_hw252.1
theorem k0_off294_inb : ∀ (v787 : BitVec 32) (k0_hw252 : k0_chk252 v787), ∀ a, (k0_off294 v787) a + S1x16.size a ≤ S64x96.size a := fun v787 k0_hw252 => k0_hw252.2.1
theorem k0_off295_inb : ∀ (v787 : BitVec 32) (k0_hw252 : k0_chk252 v787), ∀ a, (k0_off295 v787) a + S1x16.size a ≤ S64x96.size a := fun v787 k0_hw252 => k0_hw252.2.2.1
theorem k0_off296_inb : ∀ (v787 : BitVec 32) (k0_hw252 : k0_chk252 v787), ∀ a, (k0_off296 v787) a + S1x16.size a ≤ S64x96.size a := fun v787 k0_hw252 => k0_hw252.2.2.2

def k0_chk253 (v846 : IVec S16 32) : Prop :=
  (∀ a x, ((![v846] : Fin 1 → IVec S16 32) a x).toNat < S101376.size a)
theorem k0_idx136_inb : ∀ (v846 : IVec S16 32) (k0_hw253 : k0_chk253 v846), ∀ a x, ((![v846] : Fin 1 → IVec S16 32) a x).toNat < S101376.size a := fun v846 k0_hw253 => k0_hw253

def k0_chk254 (v860 : IVec S16 32) (v883 : IVec S16 32) : Prop :=
  (∀ a x, ((![v860, v883] : Fin 2 → IVec S16 32) a x).toNat < S64x96.size a)
theorem k0_idx137_inb : ∀ (v860 : IVec S16 32) (v883 : IVec S16 32) (k0_hw254 : k0_chk254 v860 v883), ∀ a x, ((![v860, v883] : Fin 2 → IVec S16 32) a x).toNat < S64x96.size a := fun v860 v883 k0_hw254 => k0_hw254

def k0_chk255 (v860 : IVec S16 32) (v886 : IVec S16 32) : Prop :=
  (∀ a x, ((![v860, v886] : Fin 2 → IVec S16 32) a x).toNat < S64x96.size a)
theorem k0_idx138_inb : ∀ (v860 : IVec S16 32) (v886 : IVec S16 32) (k0_hw255 : k0_chk255 v860 v886), ∀ a x, ((![v860, v886] : Fin 2 → IVec S16 32) a x).toNat < S64x96.size a := fun v860 v886 k0_hw255 => k0_hw255

def k0_chk256 (v860 : IVec S16 32) (v889 : IVec S16 32) : Prop :=
  (∀ a x, ((![v860, v889] : Fin 2 → IVec S16 32) a x).toNat < S64x96.size a)
theorem k0_idx139_inb : ∀ (v860 : IVec S16 32) (v889 : IVec S16 32) (k0_hw256 : k0_chk256 v860 v889), ∀ a x, ((![v860, v889] : Fin 2 → IVec S16 32) a x).toNat < S64x96.size a := fun v860 v889 k0_hw256 => k0_hw256

def k0_chk257 (v860 : IVec S16 32) (v892 : IVec S16 32) : Prop :=
  (∀ a x, ((![v860, v892] : Fin 2 → IVec S16 32) a x).toNat < S64x96.size a)
theorem k0_idx140_inb : ∀ (v860 : IVec S16 32) (v892 : IVec S16 32) (k0_hw257 : k0_chk257 v860 v892), ∀ a x, ((![v860, v892] : Fin 2 → IVec S16 32) a x).toNat < S64x96.size a := fun v860 v892 k0_hw257 => k0_hw257
def k0_mult62 (v900 : BitVec 32) : BitVec 32 :=
  v900

def k0_off297 (v900 : BitVec 32) : Fin 1 → Nat :=
  let v901 : BitVec 32 := v900
  let v902 : Index := Scalar.indexCast v901
  ![v902.toNat]

def k0_chk258 (v900 : BitVec 32) : Prop :=
  (8 ∣ (k0_mult62 v900).toNat) ∧
  (∀ a, (k0_off297 v900) a + S16.size a ≤ S101376.size a)
theorem k0_mult62_dvd : ∀ (v900 : BitVec 32) (k0_hw258 : k0_chk258 v900), 8 ∣ (k0_mult62 v900).toNat := fun v900 k0_hw258 => k0_hw258.1
theorem k0_off297_inb : ∀ (v900 : BitVec 32) (k0_hw258 : k0_chk258 v900), ∀ a, (k0_off297 v900) a + S16.size a ≤ S101376.size a := fun v900 k0_hw258 => k0_hw258.2

def k0_off298 (v898 : BitVec 32) : Fin 2 → Nat :=
  let v924 : Index := Scalar.indexCast v898
  let c0_230 : Index := 0#32
  ![v924.toNat, 0]

def k0_off299 (v898 : BitVec 32) : Fin 2 → Nat :=
  let v930 : Index := Scalar.indexCast v898
  let c16_232 : Index := 16#32
  ![v930.toNat, 16]
def k0_off300 (v898 : BitVec 32) : Fin 2 → Nat :=
  let v936 : Index := Scalar.indexCast v898
  let c32_234 : Index := 32#32
  ![v936.toNat, 32]
def k0_off301 (v898 : BitVec 32) : Fin 2 → Nat :=
  let v942 : Index := Scalar.indexCast v898
  let c48_236 : Index := 48#32
  ![v942.toNat, 48]

def k0_chk259 (v898 : BitVec 32) : Prop :=
  (∀ a, (k0_off298 v898) a + S1x16.size a ≤ S64x96.size a) ∧
  (∀ a, (k0_off299 v898) a + S1x16.size a ≤ S64x96.size a) ∧
  (∀ a, (k0_off300 v898) a + S1x16.size a ≤ S64x96.size a) ∧
  (∀ a, (k0_off301 v898) a + S1x16.size a ≤ S64x96.size a)
theorem k0_off298_inb : ∀ (v898 : BitVec 32) (k0_hw259 : k0_chk259 v898), ∀ a, (k0_off298 v898) a + S1x16.size a ≤ S64x96.size a := fun v898 k0_hw259 => k0_hw259.1
theorem k0_off299_inb : ∀ (v898 : BitVec 32) (k0_hw259 : k0_chk259 v898), ∀ a, (k0_off299 v898) a + S1x16.size a ≤ S64x96.size a := fun v898 k0_hw259 => k0_hw259.2.1
theorem k0_off300_inb : ∀ (v898 : BitVec 32) (k0_hw259 : k0_chk259 v898), ∀ a, (k0_off300 v898) a + S1x16.size a ≤ S64x96.size a := fun v898 k0_hw259 => k0_hw259.2.2.1
theorem k0_off301_inb : ∀ (v898 : BitVec 32) (k0_hw259 : k0_chk259 v898), ∀ a, (k0_off301 v898) a + S1x16.size a ≤ S64x96.size a := fun v898 k0_hw259 => k0_hw259.2.2.2

def k0_mult63 (v954 : BitVec 32) : BitVec 32 :=
  v954

def k0_off302 (v954 : BitVec 32) : Fin 1 → Nat :=
  let v955 : BitVec 32 := v954
  let v956 : Index := Scalar.indexCast v955
  ![v956.toNat]

def k0_chk260 (v954 : BitVec 32) : Prop :=
  (8 ∣ (k0_mult63 v954).toNat) ∧
  (∀ a, (k0_off302 v954) a + S16.size a ≤ S101376.size a)
theorem k0_mult63_dvd : ∀ (v954 : BitVec 32) (k0_hw260 : k0_chk260 v954), 8 ∣ (k0_mult63 v954).toNat := fun v954 k0_hw260 => k0_hw260.1
theorem k0_off302_inb : ∀ (v954 : BitVec 32) (k0_hw260 : k0_chk260 v954), ∀ a, (k0_off302 v954) a + S16.size a ≤ S101376.size a := fun v954 k0_hw260 => k0_hw260.2

def k0_off303 (v952 : BitVec 32) : Fin 2 → Nat :=
  let v978 : Index := Scalar.indexCast v952
  let c0_242 : Index := 0#32
  ![v978.toNat, 0]

def k0_off304 (v952 : BitVec 32) : Fin 2 → Nat :=
  let v984 : Index := Scalar.indexCast v952
  let c16_244 : Index := 16#32
  ![v984.toNat, 16]
def k0_off305 (v952 : BitVec 32) : Fin 2 → Nat :=
  let v990 : Index := Scalar.indexCast v952
  let c32_246 : Index := 32#32
  ![v990.toNat, 32]
def k0_off306 (v952 : BitVec 32) : Fin 2 → Nat :=
  let v996 : Index := Scalar.indexCast v952
  let c48_248 : Index := 48#32
  ![v996.toNat, 48]

def k0_chk261 (v952 : BitVec 32) : Prop :=
  (∀ a, (k0_off303 v952) a + S1x16.size a ≤ S64x96.size a) ∧
  (∀ a, (k0_off304 v952) a + S1x16.size a ≤ S64x96.size a) ∧
  (∀ a, (k0_off305 v952) a + S1x16.size a ≤ S64x96.size a) ∧
  (∀ a, (k0_off306 v952) a + S1x16.size a ≤ S64x96.size a)
theorem k0_off303_inb : ∀ (v952 : BitVec 32) (k0_hw261 : k0_chk261 v952), ∀ a, (k0_off303 v952) a + S1x16.size a ≤ S64x96.size a := fun v952 k0_hw261 => k0_hw261.1
theorem k0_off304_inb : ∀ (v952 : BitVec 32) (k0_hw261 : k0_chk261 v952), ∀ a, (k0_off304 v952) a + S1x16.size a ≤ S64x96.size a := fun v952 k0_hw261 => k0_hw261.2.1
theorem k0_off305_inb : ∀ (v952 : BitVec 32) (k0_hw261 : k0_chk261 v952), ∀ a, (k0_off305 v952) a + S1x16.size a ≤ S64x96.size a := fun v952 k0_hw261 => k0_hw261.2.2.1
theorem k0_off306_inb : ∀ (v952 : BitVec 32) (k0_hw261 : k0_chk261 v952), ∀ a, (k0_off306 v952) a + S1x16.size a ≤ S64x96.size a := fun v952 k0_hw261 => k0_hw261.2.2.2

def k0_chk262 (v1011 : IVec S16 32) : Prop :=
  (∀ a x, ((![v1011] : Fin 1 → IVec S16 32) a x).toNat < S101376.size a)
theorem k0_idx141_inb : ∀ (v1011 : IVec S16 32) (k0_hw262 : k0_chk262 v1011), ∀ a x, ((![v1011] : Fin 1 → IVec S16 32) a x).toNat < S101376.size a := fun v1011 k0_hw262 => k0_hw262

def k0_chk263 (v1025 : IVec S16 32) (v1048 : IVec S16 32) : Prop :=
  (∀ a x, ((![v1025, v1048] : Fin 2 → IVec S16 32) a x).toNat < S64x96.size a)
theorem k0_idx142_inb : ∀ (v1025 : IVec S16 32) (v1048 : IVec S16 32) (k0_hw263 : k0_chk263 v1025 v1048), ∀ a x, ((![v1025, v1048] : Fin 2 → IVec S16 32) a x).toNat < S64x96.size a := fun v1025 v1048 k0_hw263 => k0_hw263

def k0_chk264 (v1025 : IVec S16 32) (v1051 : IVec S16 32) : Prop :=
  (∀ a x, ((![v1025, v1051] : Fin 2 → IVec S16 32) a x).toNat < S64x96.size a)
theorem k0_idx143_inb : ∀ (v1025 : IVec S16 32) (v1051 : IVec S16 32) (k0_hw264 : k0_chk264 v1025 v1051), ∀ a x, ((![v1025, v1051] : Fin 2 → IVec S16 32) a x).toNat < S64x96.size a := fun v1025 v1051 k0_hw264 => k0_hw264

def k0_chk265 (v1025 : IVec S16 32) (v1054 : IVec S16 32) : Prop :=
  (∀ a x, ((![v1025, v1054] : Fin 2 → IVec S16 32) a x).toNat < S64x96.size a)
theorem k0_idx144_inb : ∀ (v1025 : IVec S16 32) (v1054 : IVec S16 32) (k0_hw265 : k0_chk265 v1025 v1054), ∀ a x, ((![v1025, v1054] : Fin 2 → IVec S16 32) a x).toNat < S64x96.size a := fun v1025 v1054 k0_hw265 => k0_hw265

def k0_chk266 (v1025 : IVec S16 32) (v1057 : IVec S16 32) : Prop :=
  (∀ a x, ((![v1025, v1057] : Fin 2 → IVec S16 32) a x).toNat < S64x96.size a)
theorem k0_idx145_inb : ∀ (v1025 : IVec S16 32) (v1057 : IVec S16 32) (k0_hw266 : k0_chk266 v1025 v1057), ∀ a x, ((![v1025, v1057] : Fin 2 → IVec S16 32) a x).toNat < S64x96.size a := fun v1025 v1057 k0_hw266 => k0_hw266
def k0_mult64 (v1065 : BitVec 32) : BitVec 32 :=
  v1065

def k0_off307 (v1065 : BitVec 32) : Fin 1 → Nat :=
  let v1066 : BitVec 32 := v1065
  let v1067 : Index := Scalar.indexCast v1066
  ![v1067.toNat]

def k0_chk267 (v1065 : BitVec 32) : Prop :=
  (8 ∣ (k0_mult64 v1065).toNat) ∧
  (∀ a, (k0_off307 v1065) a + S16.size a ≤ S101376.size a)
theorem k0_mult64_dvd : ∀ (v1065 : BitVec 32) (k0_hw267 : k0_chk267 v1065), 8 ∣ (k0_mult64 v1065).toNat := fun v1065 k0_hw267 => k0_hw267.1
theorem k0_off307_inb : ∀ (v1065 : BitVec 32) (k0_hw267 : k0_chk267 v1065), ∀ a, (k0_off307 v1065) a + S16.size a ≤ S101376.size a := fun v1065 k0_hw267 => k0_hw267.2

def k0_off308 (v1063 : BitVec 32) : Fin 2 → Nat :=
  let v1089 : Index := Scalar.indexCast v1063
  let c0_263 : Index := 0#32
  ![v1089.toNat, 0]

def k0_off309 (v1063 : BitVec 32) : Fin 2 → Nat :=
  let v1095 : Index := Scalar.indexCast v1063
  let c16_265 : Index := 16#32
  ![v1095.toNat, 16]
def k0_off310 (v1063 : BitVec 32) : Fin 2 → Nat :=
  let v1101 : Index := Scalar.indexCast v1063
  let c32_267 : Index := 32#32
  ![v1101.toNat, 32]
def k0_off311 (v1063 : BitVec 32) : Fin 2 → Nat :=
  let v1107 : Index := Scalar.indexCast v1063
  let c48_269 : Index := 48#32
  ![v1107.toNat, 48]

def k0_chk268 (v1063 : BitVec 32) : Prop :=
  (∀ a, (k0_off308 v1063) a + S1x16.size a ≤ S64x96.size a) ∧
  (∀ a, (k0_off309 v1063) a + S1x16.size a ≤ S64x96.size a) ∧
  (∀ a, (k0_off310 v1063) a + S1x16.size a ≤ S64x96.size a) ∧
  (∀ a, (k0_off311 v1063) a + S1x16.size a ≤ S64x96.size a)
theorem k0_off308_inb : ∀ (v1063 : BitVec 32) (k0_hw268 : k0_chk268 v1063), ∀ a, (k0_off308 v1063) a + S1x16.size a ≤ S64x96.size a := fun v1063 k0_hw268 => k0_hw268.1
theorem k0_off309_inb : ∀ (v1063 : BitVec 32) (k0_hw268 : k0_chk268 v1063), ∀ a, (k0_off309 v1063) a + S1x16.size a ≤ S64x96.size a := fun v1063 k0_hw268 => k0_hw268.2.1
theorem k0_off310_inb : ∀ (v1063 : BitVec 32) (k0_hw268 : k0_chk268 v1063), ∀ a, (k0_off310 v1063) a + S1x16.size a ≤ S64x96.size a := fun v1063 k0_hw268 => k0_hw268.2.2.1
theorem k0_off311_inb : ∀ (v1063 : BitVec 32) (k0_hw268 : k0_chk268 v1063), ∀ a, (k0_off311 v1063) a + S1x16.size a ≤ S64x96.size a := fun v1063 k0_hw268 => k0_hw268.2.2.2

def k0_mult65 (v1119 : BitVec 32) : BitVec 32 :=
  v1119

def k0_off312 (v1119 : BitVec 32) : Fin 1 → Nat :=
  let v1120 : BitVec 32 := v1119
  let v1121 : Index := Scalar.indexCast v1120
  ![v1121.toNat]

def k0_chk269 (v1119 : BitVec 32) : Prop :=
  (8 ∣ (k0_mult65 v1119).toNat) ∧
  (∀ a, (k0_off312 v1119) a + S16.size a ≤ S101376.size a)
theorem k0_mult65_dvd : ∀ (v1119 : BitVec 32) (k0_hw269 : k0_chk269 v1119), 8 ∣ (k0_mult65 v1119).toNat := fun v1119 k0_hw269 => k0_hw269.1
theorem k0_off312_inb : ∀ (v1119 : BitVec 32) (k0_hw269 : k0_chk269 v1119), ∀ a, (k0_off312 v1119) a + S16.size a ≤ S101376.size a := fun v1119 k0_hw269 => k0_hw269.2

def k0_off313 (v1117 : BitVec 32) : Fin 2 → Nat :=
  let v1143 : Index := Scalar.indexCast v1117
  let c0_275 : Index := 0#32
  ![v1143.toNat, 0]

def k0_off314 (v1117 : BitVec 32) : Fin 2 → Nat :=
  let v1149 : Index := Scalar.indexCast v1117
  let c16_277 : Index := 16#32
  ![v1149.toNat, 16]
def k0_off315 (v1117 : BitVec 32) : Fin 2 → Nat :=
  let v1155 : Index := Scalar.indexCast v1117
  let c32_279 : Index := 32#32
  ![v1155.toNat, 32]
def k0_off316 (v1117 : BitVec 32) : Fin 2 → Nat :=
  let v1161 : Index := Scalar.indexCast v1117
  let c48_281 : Index := 48#32
  ![v1161.toNat, 48]

def k0_chk270 (v1117 : BitVec 32) : Prop :=
  (∀ a, (k0_off313 v1117) a + S1x16.size a ≤ S64x96.size a) ∧
  (∀ a, (k0_off314 v1117) a + S1x16.size a ≤ S64x96.size a) ∧
  (∀ a, (k0_off315 v1117) a + S1x16.size a ≤ S64x96.size a) ∧
  (∀ a, (k0_off316 v1117) a + S1x16.size a ≤ S64x96.size a)
theorem k0_off313_inb : ∀ (v1117 : BitVec 32) (k0_hw270 : k0_chk270 v1117), ∀ a, (k0_off313 v1117) a + S1x16.size a ≤ S64x96.size a := fun v1117 k0_hw270 => k0_hw270.1
theorem k0_off314_inb : ∀ (v1117 : BitVec 32) (k0_hw270 : k0_chk270 v1117), ∀ a, (k0_off314 v1117) a + S1x16.size a ≤ S64x96.size a := fun v1117 k0_hw270 => k0_hw270.2.1
theorem k0_off315_inb : ∀ (v1117 : BitVec 32) (k0_hw270 : k0_chk270 v1117), ∀ a, (k0_off315 v1117) a + S1x16.size a ≤ S64x96.size a := fun v1117 k0_hw270 => k0_hw270.2.2.1
theorem k0_off316_inb : ∀ (v1117 : BitVec 32) (k0_hw270 : k0_chk270 v1117), ∀ a, (k0_off316 v1117) a + S1x16.size a ≤ S64x96.size a := fun v1117 k0_hw270 => k0_hw270.2.2.2

def k0_chk271 (v1176 : IVec S16 32) : Prop :=
  (∀ a x, ((![v1176] : Fin 1 → IVec S16 32) a x).toNat < S101376.size a)
theorem k0_idx146_inb : ∀ (v1176 : IVec S16 32) (k0_hw271 : k0_chk271 v1176), ∀ a x, ((![v1176] : Fin 1 → IVec S16 32) a x).toNat < S101376.size a := fun v1176 k0_hw271 => k0_hw271

def k0_chk272 (v1190 : IVec S16 32) (v1213 : IVec S16 32) : Prop :=
  (∀ a x, ((![v1190, v1213] : Fin 2 → IVec S16 32) a x).toNat < S64x96.size a)
theorem k0_idx147_inb : ∀ (v1190 : IVec S16 32) (v1213 : IVec S16 32) (k0_hw272 : k0_chk272 v1190 v1213), ∀ a x, ((![v1190, v1213] : Fin 2 → IVec S16 32) a x).toNat < S64x96.size a := fun v1190 v1213 k0_hw272 => k0_hw272

def k0_chk273 (v1190 : IVec S16 32) (v1216 : IVec S16 32) : Prop :=
  (∀ a x, ((![v1190, v1216] : Fin 2 → IVec S16 32) a x).toNat < S64x96.size a)
theorem k0_idx148_inb : ∀ (v1190 : IVec S16 32) (v1216 : IVec S16 32) (k0_hw273 : k0_chk273 v1190 v1216), ∀ a x, ((![v1190, v1216] : Fin 2 → IVec S16 32) a x).toNat < S64x96.size a := fun v1190 v1216 k0_hw273 => k0_hw273

def k0_chk274 (v1190 : IVec S16 32) (v1219 : IVec S16 32) : Prop :=
  (∀ a x, ((![v1190, v1219] : Fin 2 → IVec S16 32) a x).toNat < S64x96.size a)
theorem k0_idx149_inb : ∀ (v1190 : IVec S16 32) (v1219 : IVec S16 32) (k0_hw274 : k0_chk274 v1190 v1219), ∀ a x, ((![v1190, v1219] : Fin 2 → IVec S16 32) a x).toNat < S64x96.size a := fun v1190 v1219 k0_hw274 => k0_hw274

def k0_chk275 (v1190 : IVec S16 32) (v1222 : IVec S16 32) : Prop :=
  (∀ a x, ((![v1190, v1222] : Fin 2 → IVec S16 32) a x).toNat < S64x96.size a)
theorem k0_idx150_inb : ∀ (v1190 : IVec S16 32) (v1222 : IVec S16 32) (k0_hw275 : k0_chk275 v1190 v1222), ∀ a x, ((![v1190, v1222] : Fin 2 → IVec S16 32) a x).toNat < S64x96.size a := fun v1190 v1222 k0_hw275 => k0_hw275
def k0_mult66 (v1230 : BitVec 32) : BitVec 32 :=
  v1230

def k0_off317 (v1230 : BitVec 32) : Fin 1 → Nat :=
  let v1231 : BitVec 32 := v1230
  let v1232 : Index := Scalar.indexCast v1231
  ![v1232.toNat]

def k0_chk276 (v1230 : BitVec 32) : Prop :=
  (8 ∣ (k0_mult66 v1230).toNat) ∧
  (∀ a, (k0_off317 v1230) a + S16.size a ≤ S101376.size a)
theorem k0_mult66_dvd : ∀ (v1230 : BitVec 32) (k0_hw276 : k0_chk276 v1230), 8 ∣ (k0_mult66 v1230).toNat := fun v1230 k0_hw276 => k0_hw276.1
theorem k0_off317_inb : ∀ (v1230 : BitVec 32) (k0_hw276 : k0_chk276 v1230), ∀ a, (k0_off317 v1230) a + S16.size a ≤ S101376.size a := fun v1230 k0_hw276 => k0_hw276.2

def k0_off318 (v1228 : BitVec 32) : Fin 2 → Nat :=
  let v1254 : Index := Scalar.indexCast v1228
  let c0_296 : Index := 0#32
  ![v1254.toNat, 0]

def k0_off319 (v1228 : BitVec 32) : Fin 2 → Nat :=
  let v1260 : Index := Scalar.indexCast v1228
  let c16_298 : Index := 16#32
  ![v1260.toNat, 16]
def k0_off320 (v1228 : BitVec 32) : Fin 2 → Nat :=
  let v1266 : Index := Scalar.indexCast v1228
  let c32_300 : Index := 32#32
  ![v1266.toNat, 32]
def k0_off321 (v1228 : BitVec 32) : Fin 2 → Nat :=
  let v1272 : Index := Scalar.indexCast v1228
  let c48_302 : Index := 48#32
  ![v1272.toNat, 48]

def k0_chk277 (v1228 : BitVec 32) : Prop :=
  (∀ a, (k0_off318 v1228) a + S1x16.size a ≤ S64x96.size a) ∧
  (∀ a, (k0_off319 v1228) a + S1x16.size a ≤ S64x96.size a) ∧
  (∀ a, (k0_off320 v1228) a + S1x16.size a ≤ S64x96.size a) ∧
  (∀ a, (k0_off321 v1228) a + S1x16.size a ≤ S64x96.size a)
theorem k0_off318_inb : ∀ (v1228 : BitVec 32) (k0_hw277 : k0_chk277 v1228), ∀ a, (k0_off318 v1228) a + S1x16.size a ≤ S64x96.size a := fun v1228 k0_hw277 => k0_hw277.1
theorem k0_off319_inb : ∀ (v1228 : BitVec 32) (k0_hw277 : k0_chk277 v1228), ∀ a, (k0_off319 v1228) a + S1x16.size a ≤ S64x96.size a := fun v1228 k0_hw277 => k0_hw277.2.1
theorem k0_off320_inb : ∀ (v1228 : BitVec 32) (k0_hw277 : k0_chk277 v1228), ∀ a, (k0_off320 v1228) a + S1x16.size a ≤ S64x96.size a := fun v1228 k0_hw277 => k0_hw277.2.2.1
theorem k0_off321_inb : ∀ (v1228 : BitVec 32) (k0_hw277 : k0_chk277 v1228), ∀ a, (k0_off321 v1228) a + S1x16.size a ≤ S64x96.size a := fun v1228 k0_hw277 => k0_hw277.2.2.2

def k0_mult67 (v1284 : BitVec 32) : BitVec 32 :=
  v1284

def k0_off322 (v1284 : BitVec 32) : Fin 1 → Nat :=
  let v1285 : BitVec 32 := v1284
  let v1286 : Index := Scalar.indexCast v1285
  ![v1286.toNat]

def k0_chk278 (v1284 : BitVec 32) : Prop :=
  (8 ∣ (k0_mult67 v1284).toNat) ∧
  (∀ a, (k0_off322 v1284) a + S16.size a ≤ S101376.size a)
theorem k0_mult67_dvd : ∀ (v1284 : BitVec 32) (k0_hw278 : k0_chk278 v1284), 8 ∣ (k0_mult67 v1284).toNat := fun v1284 k0_hw278 => k0_hw278.1
theorem k0_off322_inb : ∀ (v1284 : BitVec 32) (k0_hw278 : k0_chk278 v1284), ∀ a, (k0_off322 v1284) a + S16.size a ≤ S101376.size a := fun v1284 k0_hw278 => k0_hw278.2

def k0_off323 (v1282 : BitVec 32) : Fin 2 → Nat :=
  let v1308 : Index := Scalar.indexCast v1282
  let c0_308 : Index := 0#32
  ![v1308.toNat, 0]

def k0_off324 (v1282 : BitVec 32) : Fin 2 → Nat :=
  let v1314 : Index := Scalar.indexCast v1282
  let c16_310 : Index := 16#32
  ![v1314.toNat, 16]
def k0_off325 (v1282 : BitVec 32) : Fin 2 → Nat :=
  let v1320 : Index := Scalar.indexCast v1282
  let c32_312 : Index := 32#32
  ![v1320.toNat, 32]
def k0_off326 (v1282 : BitVec 32) : Fin 2 → Nat :=
  let v1326 : Index := Scalar.indexCast v1282
  let c48_314 : Index := 48#32
  ![v1326.toNat, 48]

def k0_chk279 (v1282 : BitVec 32) : Prop :=
  (∀ a, (k0_off323 v1282) a + S1x16.size a ≤ S64x96.size a) ∧
  (∀ a, (k0_off324 v1282) a + S1x16.size a ≤ S64x96.size a) ∧
  (∀ a, (k0_off325 v1282) a + S1x16.size a ≤ S64x96.size a) ∧
  (∀ a, (k0_off326 v1282) a + S1x16.size a ≤ S64x96.size a)
theorem k0_off323_inb : ∀ (v1282 : BitVec 32) (k0_hw279 : k0_chk279 v1282), ∀ a, (k0_off323 v1282) a + S1x16.size a ≤ S64x96.size a := fun v1282 k0_hw279 => k0_hw279.1
theorem k0_off324_inb : ∀ (v1282 : BitVec 32) (k0_hw279 : k0_chk279 v1282), ∀ a, (k0_off324 v1282) a + S1x16.size a ≤ S64x96.size a := fun v1282 k0_hw279 => k0_hw279.2.1
theorem k0_off325_inb : ∀ (v1282 : BitVec 32) (k0_hw279 : k0_chk279 v1282), ∀ a, (k0_off325 v1282) a + S1x16.size a ≤ S64x96.size a := fun v1282 k0_hw279 => k0_hw279.2.2.1
theorem k0_off326_inb : ∀ (v1282 : BitVec 32) (k0_hw279 : k0_chk279 v1282), ∀ a, (k0_off326 v1282) a + S1x16.size a ≤ S64x96.size a := fun v1282 k0_hw279 => k0_hw279.2.2.2

def k0_chk280 (v1341 : IVec S16 32) : Prop :=
  (∀ a x, ((![v1341] : Fin 1 → IVec S16 32) a x).toNat < S101376.size a)
theorem k0_idx151_inb : ∀ (v1341 : IVec S16 32) (k0_hw280 : k0_chk280 v1341), ∀ a x, ((![v1341] : Fin 1 → IVec S16 32) a x).toNat < S101376.size a := fun v1341 k0_hw280 => k0_hw280

def k0_chk281 (v1355 : IVec S16 32) (v1378 : IVec S16 32) : Prop :=
  (∀ a x, ((![v1355, v1378] : Fin 2 → IVec S16 32) a x).toNat < S64x96.size a)
theorem k0_idx152_inb : ∀ (v1355 : IVec S16 32) (v1378 : IVec S16 32) (k0_hw281 : k0_chk281 v1355 v1378), ∀ a x, ((![v1355, v1378] : Fin 2 → IVec S16 32) a x).toNat < S64x96.size a := fun v1355 v1378 k0_hw281 => k0_hw281

def k0_chk282 (v1355 : IVec S16 32) (v1381 : IVec S16 32) : Prop :=
  (∀ a x, ((![v1355, v1381] : Fin 2 → IVec S16 32) a x).toNat < S64x96.size a)
theorem k0_idx153_inb : ∀ (v1355 : IVec S16 32) (v1381 : IVec S16 32) (k0_hw282 : k0_chk282 v1355 v1381), ∀ a x, ((![v1355, v1381] : Fin 2 → IVec S16 32) a x).toNat < S64x96.size a := fun v1355 v1381 k0_hw282 => k0_hw282

def k0_chk283 (v1355 : IVec S16 32) (v1384 : IVec S16 32) : Prop :=
  (∀ a x, ((![v1355, v1384] : Fin 2 → IVec S16 32) a x).toNat < S64x96.size a)
theorem k0_idx154_inb : ∀ (v1355 : IVec S16 32) (v1384 : IVec S16 32) (k0_hw283 : k0_chk283 v1355 v1384), ∀ a x, ((![v1355, v1384] : Fin 2 → IVec S16 32) a x).toNat < S64x96.size a := fun v1355 v1384 k0_hw283 => k0_hw283

def k0_chk284 (v1355 : IVec S16 32) (v1387 : IVec S16 32) : Prop :=
  (∀ a x, ((![v1355, v1387] : Fin 2 → IVec S16 32) a x).toNat < S64x96.size a)
theorem k0_idx155_inb : ∀ (v1355 : IVec S16 32) (v1387 : IVec S16 32) (k0_hw284 : k0_chk284 v1355 v1387), ∀ a x, ((![v1355, v1387] : Fin 2 → IVec S16 32) a x).toNat < S64x96.size a := fun v1355 v1387 k0_hw284 => k0_hw284
def k0_mult68 (v1395 : BitVec 32) : BitVec 32 :=
  v1395

def k0_off327 (v1395 : BitVec 32) : Fin 1 → Nat :=
  let v1396 : BitVec 32 := v1395
  let v1397 : Index := Scalar.indexCast v1396
  ![v1397.toNat]

def k0_chk285 (v1395 : BitVec 32) : Prop :=
  (8 ∣ (k0_mult68 v1395).toNat) ∧
  (∀ a, (k0_off327 v1395) a + S16.size a ≤ S101376.size a)
theorem k0_mult68_dvd : ∀ (v1395 : BitVec 32) (k0_hw285 : k0_chk285 v1395), 8 ∣ (k0_mult68 v1395).toNat := fun v1395 k0_hw285 => k0_hw285.1
theorem k0_off327_inb : ∀ (v1395 : BitVec 32) (k0_hw285 : k0_chk285 v1395), ∀ a, (k0_off327 v1395) a + S16.size a ≤ S101376.size a := fun v1395 k0_hw285 => k0_hw285.2

def k0_off328 (v1393 : BitVec 32) : Fin 2 → Nat :=
  let v1419 : Index := Scalar.indexCast v1393
  let c0_329 : Index := 0#32
  ![v1419.toNat, 0]

def k0_off329 (v1393 : BitVec 32) : Fin 2 → Nat :=
  let v1425 : Index := Scalar.indexCast v1393
  let c16_331 : Index := 16#32
  ![v1425.toNat, 16]
def k0_off330 (v1393 : BitVec 32) : Fin 2 → Nat :=
  let v1431 : Index := Scalar.indexCast v1393
  let c32_333 : Index := 32#32
  ![v1431.toNat, 32]
def k0_off331 (v1393 : BitVec 32) : Fin 2 → Nat :=
  let v1437 : Index := Scalar.indexCast v1393
  let c48_335 : Index := 48#32
  ![v1437.toNat, 48]

def k0_chk286 (v1393 : BitVec 32) : Prop :=
  (∀ a, (k0_off328 v1393) a + S1x16.size a ≤ S64x96.size a) ∧
  (∀ a, (k0_off329 v1393) a + S1x16.size a ≤ S64x96.size a) ∧
  (∀ a, (k0_off330 v1393) a + S1x16.size a ≤ S64x96.size a) ∧
  (∀ a, (k0_off331 v1393) a + S1x16.size a ≤ S64x96.size a)
theorem k0_off328_inb : ∀ (v1393 : BitVec 32) (k0_hw286 : k0_chk286 v1393), ∀ a, (k0_off328 v1393) a + S1x16.size a ≤ S64x96.size a := fun v1393 k0_hw286 => k0_hw286.1
theorem k0_off329_inb : ∀ (v1393 : BitVec 32) (k0_hw286 : k0_chk286 v1393), ∀ a, (k0_off329 v1393) a + S1x16.size a ≤ S64x96.size a := fun v1393 k0_hw286 => k0_hw286.2.1
theorem k0_off330_inb : ∀ (v1393 : BitVec 32) (k0_hw286 : k0_chk286 v1393), ∀ a, (k0_off330 v1393) a + S1x16.size a ≤ S64x96.size a := fun v1393 k0_hw286 => k0_hw286.2.2.1
theorem k0_off331_inb : ∀ (v1393 : BitVec 32) (k0_hw286 : k0_chk286 v1393), ∀ a, (k0_off331 v1393) a + S1x16.size a ≤ S64x96.size a := fun v1393 k0_hw286 => k0_hw286.2.2.2

def k0_mult69 (v1449 : BitVec 32) : BitVec 32 :=
  v1449

def k0_off332 (v1449 : BitVec 32) : Fin 1 → Nat :=
  let v1450 : BitVec 32 := v1449
  let v1451 : Index := Scalar.indexCast v1450
  ![v1451.toNat]

def k0_chk287 (v1449 : BitVec 32) : Prop :=
  (8 ∣ (k0_mult69 v1449).toNat) ∧
  (∀ a, (k0_off332 v1449) a + S16.size a ≤ S101376.size a)
theorem k0_mult69_dvd : ∀ (v1449 : BitVec 32) (k0_hw287 : k0_chk287 v1449), 8 ∣ (k0_mult69 v1449).toNat := fun v1449 k0_hw287 => k0_hw287.1
theorem k0_off332_inb : ∀ (v1449 : BitVec 32) (k0_hw287 : k0_chk287 v1449), ∀ a, (k0_off332 v1449) a + S16.size a ≤ S101376.size a := fun v1449 k0_hw287 => k0_hw287.2

def k0_off333 (v1447 : BitVec 32) : Fin 2 → Nat :=
  let v1473 : Index := Scalar.indexCast v1447
  let c0_341 : Index := 0#32
  ![v1473.toNat, 0]

def k0_off334 (v1447 : BitVec 32) : Fin 2 → Nat :=
  let v1479 : Index := Scalar.indexCast v1447
  let c16_343 : Index := 16#32
  ![v1479.toNat, 16]
def k0_off335 (v1447 : BitVec 32) : Fin 2 → Nat :=
  let v1485 : Index := Scalar.indexCast v1447
  let c32_345 : Index := 32#32
  ![v1485.toNat, 32]
def k0_off336 (v1447 : BitVec 32) : Fin 2 → Nat :=
  let v1491 : Index := Scalar.indexCast v1447
  let c48_347 : Index := 48#32
  ![v1491.toNat, 48]

def k0_chk288 (v1447 : BitVec 32) : Prop :=
  (∀ a, (k0_off333 v1447) a + S1x16.size a ≤ S64x96.size a) ∧
  (∀ a, (k0_off334 v1447) a + S1x16.size a ≤ S64x96.size a) ∧
  (∀ a, (k0_off335 v1447) a + S1x16.size a ≤ S64x96.size a) ∧
  (∀ a, (k0_off336 v1447) a + S1x16.size a ≤ S64x96.size a)
theorem k0_off333_inb : ∀ (v1447 : BitVec 32) (k0_hw288 : k0_chk288 v1447), ∀ a, (k0_off333 v1447) a + S1x16.size a ≤ S64x96.size a := fun v1447 k0_hw288 => k0_hw288.1
theorem k0_off334_inb : ∀ (v1447 : BitVec 32) (k0_hw288 : k0_chk288 v1447), ∀ a, (k0_off334 v1447) a + S1x16.size a ≤ S64x96.size a := fun v1447 k0_hw288 => k0_hw288.2.1
theorem k0_off335_inb : ∀ (v1447 : BitVec 32) (k0_hw288 : k0_chk288 v1447), ∀ a, (k0_off335 v1447) a + S1x16.size a ≤ S64x96.size a := fun v1447 k0_hw288 => k0_hw288.2.2.1
theorem k0_off336_inb : ∀ (v1447 : BitVec 32) (k0_hw288 : k0_chk288 v1447), ∀ a, (k0_off336 v1447) a + S1x16.size a ≤ S64x96.size a := fun v1447 k0_hw288 => k0_hw288.2.2.2

def k0_chk289 (v1506 : IVec S16 32) : Prop :=
  (∀ a x, ((![v1506] : Fin 1 → IVec S16 32) a x).toNat < S101376.size a)
theorem k0_idx156_inb : ∀ (v1506 : IVec S16 32) (k0_hw289 : k0_chk289 v1506), ∀ a x, ((![v1506] : Fin 1 → IVec S16 32) a x).toNat < S101376.size a := fun v1506 k0_hw289 => k0_hw289

def k0_chk290 (v1520 : IVec S16 32) (v1543 : IVec S16 32) : Prop :=
  (∀ a x, ((![v1520, v1543] : Fin 2 → IVec S16 32) a x).toNat < S64x96.size a)
theorem k0_idx157_inb : ∀ (v1520 : IVec S16 32) (v1543 : IVec S16 32) (k0_hw290 : k0_chk290 v1520 v1543), ∀ a x, ((![v1520, v1543] : Fin 2 → IVec S16 32) a x).toNat < S64x96.size a := fun v1520 v1543 k0_hw290 => k0_hw290

def k0_chk291 (v1520 : IVec S16 32) (v1546 : IVec S16 32) : Prop :=
  (∀ a x, ((![v1520, v1546] : Fin 2 → IVec S16 32) a x).toNat < S64x96.size a)
theorem k0_idx158_inb : ∀ (v1520 : IVec S16 32) (v1546 : IVec S16 32) (k0_hw291 : k0_chk291 v1520 v1546), ∀ a x, ((![v1520, v1546] : Fin 2 → IVec S16 32) a x).toNat < S64x96.size a := fun v1520 v1546 k0_hw291 => k0_hw291

def k0_chk292 (v1520 : IVec S16 32) (v1549 : IVec S16 32) : Prop :=
  (∀ a x, ((![v1520, v1549] : Fin 2 → IVec S16 32) a x).toNat < S64x96.size a)
theorem k0_idx159_inb : ∀ (v1520 : IVec S16 32) (v1549 : IVec S16 32) (k0_hw292 : k0_chk292 v1520 v1549), ∀ a x, ((![v1520, v1549] : Fin 2 → IVec S16 32) a x).toNat < S64x96.size a := fun v1520 v1549 k0_hw292 => k0_hw292

def k0_chk293 (v1520 : IVec S16 32) (v1552 : IVec S16 32) : Prop :=
  (∀ a x, ((![v1520, v1552] : Fin 2 → IVec S16 32) a x).toNat < S64x96.size a)
theorem k0_idx160_inb : ∀ (v1520 : IVec S16 32) (v1552 : IVec S16 32) (k0_hw293 : k0_chk293 v1520 v1552), ∀ a x, ((![v1520, v1552] : Fin 2 → IVec S16 32) a x).toNat < S64x96.size a := fun v1520 v1552 k0_hw293 => k0_hw293
def k0_mult70 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_40 : BitVec 32 := 7168#32
  let v101 : BitVec 32 := Scalar.muli v1 c7168_i32_40
  let c2_i32_14 : BitVec 32 := 2#32
  let c0_i32_6 : BitVec 32 := 0#32
  let c1_i32_7 : BitVec 32 := 1#32
  let arg15 : BitVec 32 := Scf.iv c0_i32_6 c1_i32_7 k0_t1
  let v46 : BitVec 32 := Scalar.muli c2_i32_14 arg15
  let c64_i32_41 : BitVec 32 := 64#32
  let v102 : BitVec 32 := Scalar.muli v46 c64_i32_41
  let v103 : BitVec 32 := Scalar.addi v101 v102
  v103
def k0_off337 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_40 : BitVec 32 := 7168#32
  let v101 : BitVec 32 := Scalar.muli v1 c7168_i32_40
  let c2_i32_14 : BitVec 32 := 2#32
  let c0_i32_6 : BitVec 32 := 0#32
  let c1_i32_7 : BitVec 32 := 1#32
  let arg15 : BitVec 32 := Scf.iv c0_i32_6 c1_i32_7 k0_t1
  let v46 : BitVec 32 := Scalar.muli c2_i32_14 arg15
  let c64_i32_41 : BitVec 32 := 64#32
  let v102 : BitVec 32 := Scalar.muli v46 c64_i32_41
  let v103 : BitVec 32 := Scalar.addi v101 v102
  let v104 : BitVec 32 := v103
  let c0_i32_42 : BitVec 32 := 0#32
  ![v104.toNat, 0]
def k0_off338 (k0_t1 : Fin k0_t1_loop.trips) : Fin 1 → Nat :=
  let c2_i32_44 : BitVec 32 := 2#32
  let c0_i32_6 : BitVec 32 := 0#32
  let c1_i32_7 : BitVec 32 := 1#32
  let arg15 : BitVec 32 := Scf.iv c0_i32_6 c1_i32_7 k0_t1
  let v107 : BitVec 32 := Scalar.muli c2_i32_44 arg15
  let c1_i32_45 : BitVec 32 := 1#32
  let v108 : BitVec 32 := Scalar.addi v107 c1_i32_45
  let v109 : Index := Scalar.indexCast v108
  ![v109.toNat]
def k0_cond4 (k0_t1 : Fin k0_t1_loop.trips) : BitVec 1 :=
  let c2_i32_44 : BitVec 32 := 2#32
  let c0_i32_6 : BitVec 32 := 0#32
  let c1_i32_7 : BitVec 32 := 1#32
  let arg15 : BitVec 32 := Scf.iv c0_i32_6 c1_i32_7 k0_t1
  let v107 : BitVec 32 := Scalar.muli c2_i32_44 arg15
  let c1_i32_45 : BitVec 32 := 1#32
  let v108 : BitVec 32 := Scalar.addi v107 c1_i32_45
  let c2_i32_46 : BitVec 32 := 2#32
  let v113 : BitVec 1 := Scalar.cmpi .sge v108 c2_i32_46
  let v114 : BitVec 32 := Scalar.extui v113
  let c0_i32_47 : BitVec 32 := 0#32
  let v115 : BitVec 1 := Scalar.cmpi .ne v114 c0_i32_47
  v115

def k0_mult71 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_78 : BitVec 32 := 7168#32
  let v170 : BitVec 32 := Scalar.muli v1 c7168_i32_78
  let c2_i32_44 : BitVec 32 := 2#32
  let c0_i32_6 : BitVec 32 := 0#32
  let c1_i32_7 : BitVec 32 := 1#32
  let arg15 : BitVec 32 := Scf.iv c0_i32_6 c1_i32_7 k0_t1
  let v107 : BitVec 32 := Scalar.muli c2_i32_44 arg15
  let c1_i32_45 : BitVec 32 := 1#32
  let v108 : BitVec 32 := Scalar.addi v107 c1_i32_45
  let c2_i32_77 : BitVec 32 := 2#32
  let v169 : BitVec 32 := Scalar.subi v108 c2_i32_77
  let c64_i32_79 : BitVec 32 := 64#32
  let v171 : BitVec 32 := Scalar.muli v169 c64_i32_79
  let v172 : BitVec 32 := Scalar.addi v170 v171
  v172
def k0_off339 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_78 : BitVec 32 := 7168#32
  let v170 : BitVec 32 := Scalar.muli v1 c7168_i32_78
  let c2_i32_44 : BitVec 32 := 2#32
  let c0_i32_6 : BitVec 32 := 0#32
  let c1_i32_7 : BitVec 32 := 1#32
  let arg15 : BitVec 32 := Scf.iv c0_i32_6 c1_i32_7 k0_t1
  let v107 : BitVec 32 := Scalar.muli c2_i32_44 arg15
  let c1_i32_45 : BitVec 32 := 1#32
  let v108 : BitVec 32 := Scalar.addi v107 c1_i32_45
  let c2_i32_77 : BitVec 32 := 2#32
  let v169 : BitVec 32 := Scalar.subi v108 c2_i32_77
  let c64_i32_79 : BitVec 32 := 64#32
  let v171 : BitVec 32 := Scalar.muli v169 c64_i32_79
  let v172 : BitVec 32 := Scalar.addi v170 v171
  let v173 : BitVec 32 := v172
  let c0_i32_80 : BitVec 32 := 0#32
  ![v173.toNat, 0]
@[reducible] def k0_t9_loop : Scf.Loop 32 :=
  let c0_i32_48 : BitVec 32 := 0#32
  let c64_i32_49 : BitVec 32 := 64#32
  let v116 : BitVec 32 := Scalar.addi c0_i32_48 c64_i32_49
  let c1_i32_50 : BitVec 32 := 1#32
  ⟨c0_i32_48, v116, c1_i32_50⟩
def k0_off340 (k0_t9 : Fin k0_t9_loop.trips) : Fin 2 → Nat :=
  let c0_i32_78 : BitVec 32 := 0#32
  let c0_i32_48 : BitVec 32 := 0#32
  let c1_i32_50 : BitVec 32 := 1#32
  let arg18 : BitVec 32 := Scf.iv c0_i32_48 c1_i32_50 k0_t9
  let c1_i32_77 : BitVec 32 := 1#32
  let v169 : BitVec 32 := Scalar.muli arg18 c1_i32_77
  let v170 : BitVec 32 := Scalar.addi c0_i32_78 v169
  let v172 : Index := Scalar.indexCast v170
  let c0 : Index := 0#32
  ![v172.toNat, 0]
def k0_off341 (k0_t9 : Fin k0_t9_loop.trips) : Fin 2 → Nat :=
  let c0_i32_78 : BitVec 32 := 0#32
  let c0_i32_48 : BitVec 32 := 0#32
  let c1_i32_50 : BitVec 32 := 1#32
  let arg18 : BitVec 32 := Scf.iv c0_i32_48 c1_i32_50 k0_t9
  let c1_i32_77 : BitVec 32 := 1#32
  let v169 : BitVec 32 := Scalar.muli arg18 c1_i32_77
  let v170 : BitVec 32 := Scalar.addi c0_i32_78 v169
  let v175 : Index := Scalar.indexCast v170
  let c16 : Index := 16#32
  ![v175.toNat, 16]
def k0_off342 (k0_t9 : Fin k0_t9_loop.trips) : Fin 2 → Nat :=
  let c0_i32_78 : BitVec 32 := 0#32
  let c0_i32_48 : BitVec 32 := 0#32
  let c1_i32_50 : BitVec 32 := 1#32
  let arg18 : BitVec 32 := Scf.iv c0_i32_48 c1_i32_50 k0_t9
  let c1_i32_77 : BitVec 32 := 1#32
  let v169 : BitVec 32 := Scalar.muli arg18 c1_i32_77
  let v170 : BitVec 32 := Scalar.addi c0_i32_78 v169
  let v178 : Index := Scalar.indexCast v170
  let c32 : Index := 32#32
  ![v178.toNat, 32]
def k0_off343 (k0_t9 : Fin k0_t9_loop.trips) : Fin 2 → Nat :=
  let c0_i32_78 : BitVec 32 := 0#32
  let c0_i32_48 : BitVec 32 := 0#32
  let c1_i32_50 : BitVec 32 := 1#32
  let arg18 : BitVec 32 := Scf.iv c0_i32_48 c1_i32_50 k0_t9
  let c1_i32_77 : BitVec 32 := 1#32
  let v169 : BitVec 32 := Scalar.muli arg18 c1_i32_77
  let v170 : BitVec 32 := Scalar.addi c0_i32_78 v169
  let v181 : Index := Scalar.indexCast v170
  let c48 : Index := 48#32
  ![v181.toNat, 48]
def k0_off344 (k0_t9 : Fin k0_t9_loop.trips) : Fin 2 → Nat :=
  let c0_i32_78 : BitVec 32 := 0#32
  let c0_i32_48 : BitVec 32 := 0#32
  let c1_i32_50 : BitVec 32 := 1#32
  let arg18 : BitVec 32 := Scf.iv c0_i32_48 c1_i32_50 k0_t9
  let c1_i32_77 : BitVec 32 := 1#32
  let v169 : BitVec 32 := Scalar.muli arg18 c1_i32_77
  let v170 : BitVec 32 := Scalar.addi c0_i32_78 v169
  let v184 : Index := Scalar.indexCast v170
  let c64 : Index := 64#32
  ![v184.toNat, 64]
def k0_off345 (k0_t9 : Fin k0_t9_loop.trips) : Fin 2 → Nat :=
  let c0_i32_78 : BitVec 32 := 0#32
  let c0_i32_48 : BitVec 32 := 0#32
  let c1_i32_50 : BitVec 32 := 1#32
  let arg18 : BitVec 32 := Scf.iv c0_i32_48 c1_i32_50 k0_t9
  let c1_i32_77 : BitVec 32 := 1#32
  let v169 : BitVec 32 := Scalar.muli arg18 c1_i32_77
  let v170 : BitVec 32 := Scalar.addi c0_i32_78 v169
  let v187 : Index := Scalar.indexCast v170
  let c80 : Index := 80#32
  ![v187.toNat, 80]
@[reducible] def k0_t10_loop (v100_0 : BitVec 32) (v112 : BitVec 32) : Scf.Loop 32 :=
  let c0_i32_69 : BitVec 32 := 0#32
  let v117 : BitVec 1 := Scalar.cmpi .slt v100_0 v112
  let c1_i32_52 : BitVec 32 := 1#32
  let v118 : BitVec 32 := Scalar.subi v112 c1_i32_52
  let c0_i32_54 : BitVec 32 := 0#32
  let v120 : BitVec 1 := Scalar.cmpi .sgt v118 c0_i32_54
  let v121 : BitVec 32 := Scalar.extui v120
  let c0_i32_55 : BitVec 32 := 0#32
  let v122 : BitVec 1 := Scalar.cmpi .slt v118 c0_i32_55
  let v123 : BitVec 32 := Scalar.extui v122
  let v124 : BitVec 32 := Scalar.subi v121 v123
  let c1024_i32_53 : BitVec 32 := 1024#32
  let c0_i32_56 : BitVec 32 := 0#32
  let v125 : BitVec 1 := Scalar.cmpi .sgt c1024_i32_53 c0_i32_56
  let v126 : BitVec 32 := Scalar.extui v125
  let c0_i32_57 : BitVec 32 := 0#32
  let v127 : BitVec 1 := Scalar.cmpi .slt c1024_i32_53 c0_i32_57
  let v128 : BitVec 32 := Scalar.extui v127
  let v129 : BitVec 32 := Scalar.subi v126 v128
  let v130 : BitVec 1 := Scalar.cmpi .ne v124 v129
  let v131 : BitVec 32 := Scalar.remsi v118 c1024_i32_53
  let c0_i32_58 : BitVec 32 := 0#32
  let v132 : BitVec 1 := Scalar.cmpi .ne v131 c0_i32_58
  let v133 : BitVec 1 := Scalar.andi v130 v132
  let v119 : BitVec 32 := Scalar.divsi v118 c1024_i32_53
  let c1_i32_59 : BitVec 32 := 1#32
  let v134 : BitVec 32 := Scalar.subi v119 c1_i32_59
  let v135 : BitVec 32 := Scalar.select v133 v134 v119
  let c0_i32_61 : BitVec 32 := 0#32
  let v137 : BitVec 1 := Scalar.cmpi .sgt v100_0 c0_i32_61
  let v138 : BitVec 32 := Scalar.extui v137
  let c0_i32_62 : BitVec 32 := 0#32
  let v139 : BitVec 1 := Scalar.cmpi .slt v100_0 c0_i32_62
  let v140 : BitVec 32 := Scalar.extui v139
  let v141 : BitVec 32 := Scalar.subi v138 v140
  let c1024_i32_60 : BitVec 32 := 1024#32
  let c0_i32_63 : BitVec 32 := 0#32
  let v142 : BitVec 1 := Scalar.cmpi .sgt c1024_i32_60 c0_i32_63
  let v143 : BitVec 32 := Scalar.extui v142
  let c0_i32_64 : BitVec 32 := 0#32
  let v144 : BitVec 1 := Scalar.cmpi .slt c1024_i32_60 c0_i32_64
  let v145 : BitVec 32 := Scalar.extui v144
  let v146 : BitVec 32 := Scalar.subi v143 v145
  let v147 : BitVec 1 := Scalar.cmpi .ne v141 v146
  let v148 : BitVec 32 := Scalar.remsi v100_0 c1024_i32_60
  let c0_i32_65 : BitVec 32 := 0#32
  let v149 : BitVec 1 := Scalar.cmpi .ne v148 c0_i32_65
  let v150 : BitVec 1 := Scalar.andi v147 v149
  let v136 : BitVec 32 := Scalar.divsi v100_0 c1024_i32_60
  let c1_i32_66 : BitVec 32 := 1#32
  let v151 : BitVec 32 := Scalar.subi v136 c1_i32_66
  let v152 : BitVec 32 := Scalar.select v150 v151 v136
  let v153 : BitVec 32 := Scalar.subi v135 v152
  let c1_i32_67 : BitVec 32 := 1#32
  let v154 : BitVec 32 := Scalar.addi v153 c1_i32_67
  let c0_i32_68 : BitVec 32 := 0#32
  let v155 : BitVec 32 := Scalar.select v117 v154 c0_i32_68
  let v156 : BitVec 32 := Scalar.subi v155 c0_i32_69
  let c1_i32_70 : BitVec 32 := 1#32
  let v158 : BitVec 32 := Scalar.divsi v156 c1_i32_70
  let v159 : BitVec 32 := Scalar.muli v158 c1_i32_70
  let v160 : BitVec 32 := Scalar.addi c0_i32_69 v159
  let c1_i32_71 : BitVec 32 := 1#32
  ⟨c0_i32_69, v160, c1_i32_71⟩

def k0_mult72 (v33 : BitVec 32) (arg19 : BitVec 32) : BitVec 32 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  v207
def k0_cond5 (arg19 : BitVec 32) (arg20 : BitVec 32) : BitVec 1 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let v186 : BitVec 1 := Scalar.cmpi .ne v185 arg20
  let v187 : BitVec 32 := Scalar.extui v186
  let c0_i32_84 : BitVec 32 := 0#32
  let v188 : BitVec 1 := Scalar.cmpi .ne v187 c0_i32_84
  v188

def k0_off346 (v33 : BitVec 32) (arg19 : BitVec 32) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  let v208 : BitVec 32 := v207
  ![v208.toNat]

def k0_chk295 (v33 : BitVec 32) (arg19 : BitVec 32) (arg20 : BitVec 32) : Prop :=
  (∀ (k0_h5 : k0_cond5 arg19 arg20 = 1#1), 8 ∣ (k0_mult72 v33 arg19).toNat) ∧
  (∀ (k0_h5 : k0_cond5 arg19 arg20 = 1#1), ∀ a, (k0_off346 v33 arg19) a + S1024.size a ≤ S2527488.size a)
theorem k0_mult72_dvd : ∀ (v33 : BitVec 32) (arg19 : BitVec 32) (arg20 : BitVec 32) (k0_hw295 : k0_chk295 v33 arg19 arg20), ∀ (k0_h5 : k0_cond5 arg19 arg20 = 1#1), 8 ∣ (k0_mult72 v33 arg19).toNat := fun v33 arg19 arg20 k0_hw295 k0_h5 => k0_hw295.1 k0_h5
theorem k0_off346_inb : ∀ (v33 : BitVec 32) (arg19 : BitVec 32) (arg20 : BitVec 32) (k0_hw295 : k0_chk295 v33 arg19 arg20), ∀ (k0_h5 : k0_cond5 arg19 arg20 = 1#1), ∀ a, (k0_off346 v33 arg19) a + S1024.size a ≤ S2527488.size a := fun v33 arg19 arg20 k0_hw295 k0_h5 => k0_hw295.2 k0_h5

@[reducible] def k0_t11_loop (v112 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v112 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_94 : BitVec 32 := 1#32
  ⟨c0_i32_92, v205, c1_i32_94⟩

def k0_off347 (v112 : BitVec 32) (arg19 : BitVec 32) (k0_t11 : Fin (k0_t11_loop v112 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_94 : BitVec 32 := 1#32
  let arg21 : BitVec 32 := Scf.iv c0_i32_92 c1_i32_94 k0_t11
  let c16_i32_91 : BitVec 32 := 16#32
  let v206 : BitVec 32 := Scalar.muli arg21 c16_i32_91
  let v207 : BitVec 32 := Scalar.addi v194 v206
  let v208 : Index := Scalar.indexCast v207
  ![v208.toNat]
def k0_mult73 (v240 : BitVec 32) : BitVec 32 :=
  v240

def k0_off348 (v240 : BitVec 32) : Fin 1 → Nat :=
  let v241 : BitVec 32 := v240
  let v242 : Index := Scalar.indexCast v241
  ![v242.toNat]

def k0_chk297 (v240 : BitVec 32) : Prop :=
  (8 ∣ (k0_mult73 v240).toNat) ∧
  (∀ a, (k0_off348 v240) a + S16.size a ≤ S101376.size a)
theorem k0_mult73_dvd : ∀ (v240 : BitVec 32) (k0_hw297 : k0_chk297 v240), 8 ∣ (k0_mult73 v240).toNat := fun v240 k0_hw297 => k0_hw297.1
theorem k0_off348_inb : ∀ (v240 : BitVec 32) (k0_hw297 : k0_chk297 v240), ∀ a, (k0_off348 v240) a + S16.size a ≤ S101376.size a := fun v240 k0_hw297 => k0_hw297.2

def k0_off349 (v238 : BitVec 32) : Fin 2 → Nat :=
  let v264 : Index := Scalar.indexCast v238
  let c0 : Index := 0#32
  ![v264.toNat, 0]

def k0_off350 (v238 : BitVec 32) : Fin 2 → Nat :=
  let v270 : Index := Scalar.indexCast v238
  let c16 : Index := 16#32
  ![v270.toNat, 16]
def k0_off351 (v238 : BitVec 32) : Fin 2 → Nat :=
  let v276 : Index := Scalar.indexCast v238
  let c32 : Index := 32#32
  ![v276.toNat, 32]
def k0_off352 (v238 : BitVec 32) : Fin 2 → Nat :=
  let v282 : Index := Scalar.indexCast v238
  let c48 : Index := 48#32
  ![v282.toNat, 48]

def k0_chk298 (v238 : BitVec 32) : Prop :=
  (∀ a, (k0_off349 v238) a + S1x16.size a ≤ S64x96.size a) ∧
  (∀ a, (k0_off350 v238) a + S1x16.size a ≤ S64x96.size a) ∧
  (∀ a, (k0_off351 v238) a + S1x16.size a ≤ S64x96.size a) ∧
  (∀ a, (k0_off352 v238) a + S1x16.size a ≤ S64x96.size a)
theorem k0_off349_inb : ∀ (v238 : BitVec 32) (k0_hw298 : k0_chk298 v238), ∀ a, (k0_off349 v238) a + S1x16.size a ≤ S64x96.size a := fun v238 k0_hw298 => k0_hw298.1
theorem k0_off350_inb : ∀ (v238 : BitVec 32) (k0_hw298 : k0_chk298 v238), ∀ a, (k0_off350 v238) a + S1x16.size a ≤ S64x96.size a := fun v238 k0_hw298 => k0_hw298.2.1
theorem k0_off351_inb : ∀ (v238 : BitVec 32) (k0_hw298 : k0_chk298 v238), ∀ a, (k0_off351 v238) a + S1x16.size a ≤ S64x96.size a := fun v238 k0_hw298 => k0_hw298.2.2.1
theorem k0_off352_inb : ∀ (v238 : BitVec 32) (k0_hw298 : k0_chk298 v238), ∀ a, (k0_off352 v238) a + S1x16.size a ≤ S64x96.size a := fun v238 k0_hw298 => k0_hw298.2.2.2

def k0_mult74 (v294 : BitVec 32) : BitVec 32 :=
  v294

def k0_off353 (v294 : BitVec 32) : Fin 1 → Nat :=
  let v295 : BitVec 32 := v294
  let v296 : Index := Scalar.indexCast v295
  ![v296.toNat]

def k0_chk299 (v294 : BitVec 32) : Prop :=
  (8 ∣ (k0_mult74 v294).toNat) ∧
  (∀ a, (k0_off353 v294) a + S16.size a ≤ S101376.size a)
theorem k0_mult74_dvd : ∀ (v294 : BitVec 32) (k0_hw299 : k0_chk299 v294), 8 ∣ (k0_mult74 v294).toNat := fun v294 k0_hw299 => k0_hw299.1
theorem k0_off353_inb : ∀ (v294 : BitVec 32) (k0_hw299 : k0_chk299 v294), ∀ a, (k0_off353 v294) a + S16.size a ≤ S101376.size a := fun v294 k0_hw299 => k0_hw299.2

def k0_off354 (v292 : BitVec 32) : Fin 2 → Nat :=
  let v318 : Index := Scalar.indexCast v292
  let c0_113 : Index := 0#32
  ![v318.toNat, 0]

def k0_off355 (v292 : BitVec 32) : Fin 2 → Nat :=
  let v324 : Index := Scalar.indexCast v292
  let c16_115 : Index := 16#32
  ![v324.toNat, 16]
def k0_off356 (v292 : BitVec 32) : Fin 2 → Nat :=
  let v330 : Index := Scalar.indexCast v292
  let c32_117 : Index := 32#32
  ![v330.toNat, 32]
def k0_off357 (v292 : BitVec 32) : Fin 2 → Nat :=
  let v336 : Index := Scalar.indexCast v292
  let c48_119 : Index := 48#32
  ![v336.toNat, 48]

def k0_chk300 (v292 : BitVec 32) : Prop :=
  (∀ a, (k0_off354 v292) a + S1x16.size a ≤ S64x96.size a) ∧
  (∀ a, (k0_off355 v292) a + S1x16.size a ≤ S64x96.size a) ∧
  (∀ a, (k0_off356 v292) a + S1x16.size a ≤ S64x96.size a) ∧
  (∀ a, (k0_off357 v292) a + S1x16.size a ≤ S64x96.size a)
theorem k0_off354_inb : ∀ (v292 : BitVec 32) (k0_hw300 : k0_chk300 v292), ∀ a, (k0_off354 v292) a + S1x16.size a ≤ S64x96.size a := fun v292 k0_hw300 => k0_hw300.1
theorem k0_off355_inb : ∀ (v292 : BitVec 32) (k0_hw300 : k0_chk300 v292), ∀ a, (k0_off355 v292) a + S1x16.size a ≤ S64x96.size a := fun v292 k0_hw300 => k0_hw300.2.1
theorem k0_off356_inb : ∀ (v292 : BitVec 32) (k0_hw300 : k0_chk300 v292), ∀ a, (k0_off356 v292) a + S1x16.size a ≤ S64x96.size a := fun v292 k0_hw300 => k0_hw300.2.2.1
theorem k0_off357_inb : ∀ (v292 : BitVec 32) (k0_hw300 : k0_chk300 v292), ∀ a, (k0_off357 v292) a + S1x16.size a ≤ S64x96.size a := fun v292 k0_hw300 => k0_hw300.2.2.2

def k0_chk301 (v351 : IVec S16 32) : Prop :=
  (∀ a x, ((![v351] : Fin 1 → IVec S16 32) a x).toNat < S101376.size a)
theorem k0_idx161_inb : ∀ (v351 : IVec S16 32) (k0_hw301 : k0_chk301 v351), ∀ a x, ((![v351] : Fin 1 → IVec S16 32) a x).toNat < S101376.size a := fun v351 k0_hw301 => k0_hw301

def k0_chk302 (v365 : IVec S16 32) (v388 : IVec S16 32) : Prop :=
  (∀ a x, ((![v365, v388] : Fin 2 → IVec S16 32) a x).toNat < S64x96.size a)
theorem k0_idx162_inb : ∀ (v365 : IVec S16 32) (v388 : IVec S16 32) (k0_hw302 : k0_chk302 v365 v388), ∀ a x, ((![v365, v388] : Fin 2 → IVec S16 32) a x).toNat < S64x96.size a := fun v365 v388 k0_hw302 => k0_hw302

def k0_chk303 (v365 : IVec S16 32) (v391 : IVec S16 32) : Prop :=
  (∀ a x, ((![v365, v391] : Fin 2 → IVec S16 32) a x).toNat < S64x96.size a)
theorem k0_idx163_inb : ∀ (v365 : IVec S16 32) (v391 : IVec S16 32) (k0_hw303 : k0_chk303 v365 v391), ∀ a x, ((![v365, v391] : Fin 2 → IVec S16 32) a x).toNat < S64x96.size a := fun v365 v391 k0_hw303 => k0_hw303

def k0_chk304 (v365 : IVec S16 32) (v394 : IVec S16 32) : Prop :=
  (∀ a x, ((![v365, v394] : Fin 2 → IVec S16 32) a x).toNat < S64x96.size a)
theorem k0_idx164_inb : ∀ (v365 : IVec S16 32) (v394 : IVec S16 32) (k0_hw304 : k0_chk304 v365 v394), ∀ a x, ((![v365, v394] : Fin 2 → IVec S16 32) a x).toNat < S64x96.size a := fun v365 v394 k0_hw304 => k0_hw304

def k0_chk305 (v365 : IVec S16 32) (v397 : IVec S16 32) : Prop :=
  (∀ a x, ((![v365, v397] : Fin 2 → IVec S16 32) a x).toNat < S64x96.size a)
theorem k0_idx165_inb : ∀ (v365 : IVec S16 32) (v397 : IVec S16 32) (k0_hw305 : k0_chk305 v365 v397), ∀ a x, ((![v365, v397] : Fin 2 → IVec S16 32) a x).toNat < S64x96.size a := fun v365 v397 k0_hw305 => k0_hw305
def k0_mult75 (v405 : BitVec 32) : BitVec 32 :=
  v405

def k0_off358 (v405 : BitVec 32) : Fin 1 → Nat :=
  let v406 : BitVec 32 := v405
  let v407 : Index := Scalar.indexCast v406
  ![v407.toNat]

def k0_chk306 (v405 : BitVec 32) : Prop :=
  (8 ∣ (k0_mult75 v405).toNat) ∧
  (∀ a, (k0_off358 v405) a + S16.size a ≤ S101376.size a)
theorem k0_mult75_dvd : ∀ (v405 : BitVec 32) (k0_hw306 : k0_chk306 v405), 8 ∣ (k0_mult75 v405).toNat := fun v405 k0_hw306 => k0_hw306.1
theorem k0_off358_inb : ∀ (v405 : BitVec 32) (k0_hw306 : k0_chk306 v405), ∀ a, (k0_off358 v405) a + S16.size a ≤ S101376.size a := fun v405 k0_hw306 => k0_hw306.2

def k0_off359 (v403 : BitVec 32) : Fin 2 → Nat :=
  let v429 : Index := Scalar.indexCast v403
  let c0_131 : Index := 0#32
  ![v429.toNat, 0]

def k0_off360 (v403 : BitVec 32) : Fin 2 → Nat :=
  let v435 : Index := Scalar.indexCast v403
  let c16_133 : Index := 16#32
  ![v435.toNat, 16]
def k0_off361 (v403 : BitVec 32) : Fin 2 → Nat :=
  let v441 : Index := Scalar.indexCast v403
  let c32_135 : Index := 32#32
  ![v441.toNat, 32]
def k0_off362 (v403 : BitVec 32) : Fin 2 → Nat :=
  let v447 : Index := Scalar.indexCast v403
  let c48_137 : Index := 48#32
  ![v447.toNat, 48]

def k0_chk307 (v403 : BitVec 32) : Prop :=
  (∀ a, (k0_off359 v403) a + S1x16.size a ≤ S64x96.size a) ∧
  (∀ a, (k0_off360 v403) a + S1x16.size a ≤ S64x96.size a) ∧
  (∀ a, (k0_off361 v403) a + S1x16.size a ≤ S64x96.size a) ∧
  (∀ a, (k0_off362 v403) a + S1x16.size a ≤ S64x96.size a)
theorem k0_off359_inb : ∀ (v403 : BitVec 32) (k0_hw307 : k0_chk307 v403), ∀ a, (k0_off359 v403) a + S1x16.size a ≤ S64x96.size a := fun v403 k0_hw307 => k0_hw307.1
theorem k0_off360_inb : ∀ (v403 : BitVec 32) (k0_hw307 : k0_chk307 v403), ∀ a, (k0_off360 v403) a + S1x16.size a ≤ S64x96.size a := fun v403 k0_hw307 => k0_hw307.2.1
theorem k0_off361_inb : ∀ (v403 : BitVec 32) (k0_hw307 : k0_chk307 v403), ∀ a, (k0_off361 v403) a + S1x16.size a ≤ S64x96.size a := fun v403 k0_hw307 => k0_hw307.2.2.1
theorem k0_off362_inb : ∀ (v403 : BitVec 32) (k0_hw307 : k0_chk307 v403), ∀ a, (k0_off362 v403) a + S1x16.size a ≤ S64x96.size a := fun v403 k0_hw307 => k0_hw307.2.2.2

def k0_mult76 (v459 : BitVec 32) : BitVec 32 :=
  v459

def k0_off363 (v459 : BitVec 32) : Fin 1 → Nat :=
  let v460 : BitVec 32 := v459
  let v461 : Index := Scalar.indexCast v460
  ![v461.toNat]

def k0_chk308 (v459 : BitVec 32) : Prop :=
  (8 ∣ (k0_mult76 v459).toNat) ∧
  (∀ a, (k0_off363 v459) a + S16.size a ≤ S101376.size a)
theorem k0_mult76_dvd : ∀ (v459 : BitVec 32) (k0_hw308 : k0_chk308 v459), 8 ∣ (k0_mult76 v459).toNat := fun v459 k0_hw308 => k0_hw308.1
theorem k0_off363_inb : ∀ (v459 : BitVec 32) (k0_hw308 : k0_chk308 v459), ∀ a, (k0_off363 v459) a + S16.size a ≤ S101376.size a := fun v459 k0_hw308 => k0_hw308.2

def k0_off364 (v457 : BitVec 32) : Fin 2 → Nat :=
  let v483 : Index := Scalar.indexCast v457
  let c0_143 : Index := 0#32
  ![v483.toNat, 0]

def k0_off365 (v457 : BitVec 32) : Fin 2 → Nat :=
  let v489 : Index := Scalar.indexCast v457
  let c16_145 : Index := 16#32
  ![v489.toNat, 16]
def k0_off366 (v457 : BitVec 32) : Fin 2 → Nat :=
  let v495 : Index := Scalar.indexCast v457
  let c32_147 : Index := 32#32
  ![v495.toNat, 32]
def k0_off367 (v457 : BitVec 32) : Fin 2 → Nat :=
  let v501 : Index := Scalar.indexCast v457
  let c48_149 : Index := 48#32
  ![v501.toNat, 48]

def k0_chk309 (v457 : BitVec 32) : Prop :=
  (∀ a, (k0_off364 v457) a + S1x16.size a ≤ S64x96.size a) ∧
  (∀ a, (k0_off365 v457) a + S1x16.size a ≤ S64x96.size a) ∧
  (∀ a, (k0_off366 v457) a + S1x16.size a ≤ S64x96.size a) ∧
  (∀ a, (k0_off367 v457) a + S1x16.size a ≤ S64x96.size a)
theorem k0_off364_inb : ∀ (v457 : BitVec 32) (k0_hw309 : k0_chk309 v457), ∀ a, (k0_off364 v457) a + S1x16.size a ≤ S64x96.size a := fun v457 k0_hw309 => k0_hw309.1
theorem k0_off365_inb : ∀ (v457 : BitVec 32) (k0_hw309 : k0_chk309 v457), ∀ a, (k0_off365 v457) a + S1x16.size a ≤ S64x96.size a := fun v457 k0_hw309 => k0_hw309.2.1
theorem k0_off366_inb : ∀ (v457 : BitVec 32) (k0_hw309 : k0_chk309 v457), ∀ a, (k0_off366 v457) a + S1x16.size a ≤ S64x96.size a := fun v457 k0_hw309 => k0_hw309.2.2.1
theorem k0_off367_inb : ∀ (v457 : BitVec 32) (k0_hw309 : k0_chk309 v457), ∀ a, (k0_off367 v457) a + S1x16.size a ≤ S64x96.size a := fun v457 k0_hw309 => k0_hw309.2.2.2

def k0_chk310 (v516 : IVec S16 32) : Prop :=
  (∀ a x, ((![v516] : Fin 1 → IVec S16 32) a x).toNat < S101376.size a)
theorem k0_idx166_inb : ∀ (v516 : IVec S16 32) (k0_hw310 : k0_chk310 v516), ∀ a x, ((![v516] : Fin 1 → IVec S16 32) a x).toNat < S101376.size a := fun v516 k0_hw310 => k0_hw310

def k0_chk311 (v530 : IVec S16 32) (v553 : IVec S16 32) : Prop :=
  (∀ a x, ((![v530, v553] : Fin 2 → IVec S16 32) a x).toNat < S64x96.size a)
theorem k0_idx167_inb : ∀ (v530 : IVec S16 32) (v553 : IVec S16 32) (k0_hw311 : k0_chk311 v530 v553), ∀ a x, ((![v530, v553] : Fin 2 → IVec S16 32) a x).toNat < S64x96.size a := fun v530 v553 k0_hw311 => k0_hw311

def k0_chk312 (v530 : IVec S16 32) (v556 : IVec S16 32) : Prop :=
  (∀ a x, ((![v530, v556] : Fin 2 → IVec S16 32) a x).toNat < S64x96.size a)
theorem k0_idx168_inb : ∀ (v530 : IVec S16 32) (v556 : IVec S16 32) (k0_hw312 : k0_chk312 v530 v556), ∀ a x, ((![v530, v556] : Fin 2 → IVec S16 32) a x).toNat < S64x96.size a := fun v530 v556 k0_hw312 => k0_hw312

def k0_chk313 (v530 : IVec S16 32) (v559 : IVec S16 32) : Prop :=
  (∀ a x, ((![v530, v559] : Fin 2 → IVec S16 32) a x).toNat < S64x96.size a)
theorem k0_idx169_inb : ∀ (v530 : IVec S16 32) (v559 : IVec S16 32) (k0_hw313 : k0_chk313 v530 v559), ∀ a x, ((![v530, v559] : Fin 2 → IVec S16 32) a x).toNat < S64x96.size a := fun v530 v559 k0_hw313 => k0_hw313

def k0_chk314 (v530 : IVec S16 32) (v562 : IVec S16 32) : Prop :=
  (∀ a x, ((![v530, v562] : Fin 2 → IVec S16 32) a x).toNat < S64x96.size a)
theorem k0_idx170_inb : ∀ (v530 : IVec S16 32) (v562 : IVec S16 32) (k0_hw314 : k0_chk314 v530 v562), ∀ a x, ((![v530, v562] : Fin 2 → IVec S16 32) a x).toNat < S64x96.size a := fun v530 v562 k0_hw314 => k0_hw314
def k0_mult77 (v570 : BitVec 32) : BitVec 32 :=
  v570

def k0_off368 (v570 : BitVec 32) : Fin 1 → Nat :=
  let v571 : BitVec 32 := v570
  let v572 : Index := Scalar.indexCast v571
  ![v572.toNat]

def k0_chk315 (v570 : BitVec 32) : Prop :=
  (8 ∣ (k0_mult77 v570).toNat) ∧
  (∀ a, (k0_off368 v570) a + S16.size a ≤ S101376.size a)
theorem k0_mult77_dvd : ∀ (v570 : BitVec 32) (k0_hw315 : k0_chk315 v570), 8 ∣ (k0_mult77 v570).toNat := fun v570 k0_hw315 => k0_hw315.1
theorem k0_off368_inb : ∀ (v570 : BitVec 32) (k0_hw315 : k0_chk315 v570), ∀ a, (k0_off368 v570) a + S16.size a ≤ S101376.size a := fun v570 k0_hw315 => k0_hw315.2

def k0_off369 (v568 : BitVec 32) : Fin 2 → Nat :=
  let v594 : Index := Scalar.indexCast v568
  let c0_164 : Index := 0#32
  ![v594.toNat, 0]

def k0_off370 (v568 : BitVec 32) : Fin 2 → Nat :=
  let v600 : Index := Scalar.indexCast v568
  let c16_166 : Index := 16#32
  ![v600.toNat, 16]
def k0_off371 (v568 : BitVec 32) : Fin 2 → Nat :=
  let v606 : Index := Scalar.indexCast v568
  let c32_168 : Index := 32#32
  ![v606.toNat, 32]
def k0_off372 (v568 : BitVec 32) : Fin 2 → Nat :=
  let v612 : Index := Scalar.indexCast v568
  let c48_170 : Index := 48#32
  ![v612.toNat, 48]

def k0_chk316 (v568 : BitVec 32) : Prop :=
  (∀ a, (k0_off369 v568) a + S1x16.size a ≤ S64x96.size a) ∧
  (∀ a, (k0_off370 v568) a + S1x16.size a ≤ S64x96.size a) ∧
  (∀ a, (k0_off371 v568) a + S1x16.size a ≤ S64x96.size a) ∧
  (∀ a, (k0_off372 v568) a + S1x16.size a ≤ S64x96.size a)
theorem k0_off369_inb : ∀ (v568 : BitVec 32) (k0_hw316 : k0_chk316 v568), ∀ a, (k0_off369 v568) a + S1x16.size a ≤ S64x96.size a := fun v568 k0_hw316 => k0_hw316.1
theorem k0_off370_inb : ∀ (v568 : BitVec 32) (k0_hw316 : k0_chk316 v568), ∀ a, (k0_off370 v568) a + S1x16.size a ≤ S64x96.size a := fun v568 k0_hw316 => k0_hw316.2.1
theorem k0_off371_inb : ∀ (v568 : BitVec 32) (k0_hw316 : k0_chk316 v568), ∀ a, (k0_off371 v568) a + S1x16.size a ≤ S64x96.size a := fun v568 k0_hw316 => k0_hw316.2.2.1
theorem k0_off372_inb : ∀ (v568 : BitVec 32) (k0_hw316 : k0_chk316 v568), ∀ a, (k0_off372 v568) a + S1x16.size a ≤ S64x96.size a := fun v568 k0_hw316 => k0_hw316.2.2.2

def k0_mult78 (v624 : BitVec 32) : BitVec 32 :=
  v624

def k0_off373 (v624 : BitVec 32) : Fin 1 → Nat :=
  let v625 : BitVec 32 := v624
  let v626 : Index := Scalar.indexCast v625
  ![v626.toNat]

def k0_chk317 (v624 : BitVec 32) : Prop :=
  (8 ∣ (k0_mult78 v624).toNat) ∧
  (∀ a, (k0_off373 v624) a + S16.size a ≤ S101376.size a)
theorem k0_mult78_dvd : ∀ (v624 : BitVec 32) (k0_hw317 : k0_chk317 v624), 8 ∣ (k0_mult78 v624).toNat := fun v624 k0_hw317 => k0_hw317.1
theorem k0_off373_inb : ∀ (v624 : BitVec 32) (k0_hw317 : k0_chk317 v624), ∀ a, (k0_off373 v624) a + S16.size a ≤ S101376.size a := fun v624 k0_hw317 => k0_hw317.2

def k0_off374 (v622 : BitVec 32) : Fin 2 → Nat :=
  let v648 : Index := Scalar.indexCast v622
  let c0_176 : Index := 0#32
  ![v648.toNat, 0]

def k0_off375 (v622 : BitVec 32) : Fin 2 → Nat :=
  let v654 : Index := Scalar.indexCast v622
  let c16_178 : Index := 16#32
  ![v654.toNat, 16]
def k0_off376 (v622 : BitVec 32) : Fin 2 → Nat :=
  let v660 : Index := Scalar.indexCast v622
  let c32_180 : Index := 32#32
  ![v660.toNat, 32]
def k0_off377 (v622 : BitVec 32) : Fin 2 → Nat :=
  let v666 : Index := Scalar.indexCast v622
  let c48_182 : Index := 48#32
  ![v666.toNat, 48]

def k0_chk318 (v622 : BitVec 32) : Prop :=
  (∀ a, (k0_off374 v622) a + S1x16.size a ≤ S64x96.size a) ∧
  (∀ a, (k0_off375 v622) a + S1x16.size a ≤ S64x96.size a) ∧
  (∀ a, (k0_off376 v622) a + S1x16.size a ≤ S64x96.size a) ∧
  (∀ a, (k0_off377 v622) a + S1x16.size a ≤ S64x96.size a)
theorem k0_off374_inb : ∀ (v622 : BitVec 32) (k0_hw318 : k0_chk318 v622), ∀ a, (k0_off374 v622) a + S1x16.size a ≤ S64x96.size a := fun v622 k0_hw318 => k0_hw318.1
theorem k0_off375_inb : ∀ (v622 : BitVec 32) (k0_hw318 : k0_chk318 v622), ∀ a, (k0_off375 v622) a + S1x16.size a ≤ S64x96.size a := fun v622 k0_hw318 => k0_hw318.2.1
theorem k0_off376_inb : ∀ (v622 : BitVec 32) (k0_hw318 : k0_chk318 v622), ∀ a, (k0_off376 v622) a + S1x16.size a ≤ S64x96.size a := fun v622 k0_hw318 => k0_hw318.2.2.1
theorem k0_off377_inb : ∀ (v622 : BitVec 32) (k0_hw318 : k0_chk318 v622), ∀ a, (k0_off377 v622) a + S1x16.size a ≤ S64x96.size a := fun v622 k0_hw318 => k0_hw318.2.2.2

def k0_chk319 (v681 : IVec S16 32) : Prop :=
  (∀ a x, ((![v681] : Fin 1 → IVec S16 32) a x).toNat < S101376.size a)
theorem k0_idx171_inb : ∀ (v681 : IVec S16 32) (k0_hw319 : k0_chk319 v681), ∀ a x, ((![v681] : Fin 1 → IVec S16 32) a x).toNat < S101376.size a := fun v681 k0_hw319 => k0_hw319

def k0_chk320 (v695 : IVec S16 32) (v718 : IVec S16 32) : Prop :=
  (∀ a x, ((![v695, v718] : Fin 2 → IVec S16 32) a x).toNat < S64x96.size a)
theorem k0_idx172_inb : ∀ (v695 : IVec S16 32) (v718 : IVec S16 32) (k0_hw320 : k0_chk320 v695 v718), ∀ a x, ((![v695, v718] : Fin 2 → IVec S16 32) a x).toNat < S64x96.size a := fun v695 v718 k0_hw320 => k0_hw320

def k0_chk321 (v695 : IVec S16 32) (v721 : IVec S16 32) : Prop :=
  (∀ a x, ((![v695, v721] : Fin 2 → IVec S16 32) a x).toNat < S64x96.size a)
theorem k0_idx173_inb : ∀ (v695 : IVec S16 32) (v721 : IVec S16 32) (k0_hw321 : k0_chk321 v695 v721), ∀ a x, ((![v695, v721] : Fin 2 → IVec S16 32) a x).toNat < S64x96.size a := fun v695 v721 k0_hw321 => k0_hw321

def k0_chk322 (v695 : IVec S16 32) (v724 : IVec S16 32) : Prop :=
  (∀ a x, ((![v695, v724] : Fin 2 → IVec S16 32) a x).toNat < S64x96.size a)
theorem k0_idx174_inb : ∀ (v695 : IVec S16 32) (v724 : IVec S16 32) (k0_hw322 : k0_chk322 v695 v724), ∀ a x, ((![v695, v724] : Fin 2 → IVec S16 32) a x).toNat < S64x96.size a := fun v695 v724 k0_hw322 => k0_hw322

def k0_chk323 (v695 : IVec S16 32) (v727 : IVec S16 32) : Prop :=
  (∀ a x, ((![v695, v727] : Fin 2 → IVec S16 32) a x).toNat < S64x96.size a)
theorem k0_idx175_inb : ∀ (v695 : IVec S16 32) (v727 : IVec S16 32) (k0_hw323 : k0_chk323 v695 v727), ∀ a x, ((![v695, v727] : Fin 2 → IVec S16 32) a x).toNat < S64x96.size a := fun v695 v727 k0_hw323 => k0_hw323
def k0_mult79 (v735 : BitVec 32) : BitVec 32 :=
  v735

def k0_off378 (v735 : BitVec 32) : Fin 1 → Nat :=
  let v736 : BitVec 32 := v735
  let v737 : Index := Scalar.indexCast v736
  ![v737.toNat]

def k0_chk324 (v735 : BitVec 32) : Prop :=
  (8 ∣ (k0_mult79 v735).toNat) ∧
  (∀ a, (k0_off378 v735) a + S16.size a ≤ S101376.size a)
theorem k0_mult79_dvd : ∀ (v735 : BitVec 32) (k0_hw324 : k0_chk324 v735), 8 ∣ (k0_mult79 v735).toNat := fun v735 k0_hw324 => k0_hw324.1
theorem k0_off378_inb : ∀ (v735 : BitVec 32) (k0_hw324 : k0_chk324 v735), ∀ a, (k0_off378 v735) a + S16.size a ≤ S101376.size a := fun v735 k0_hw324 => k0_hw324.2

def k0_off379 (v733 : BitVec 32) : Fin 2 → Nat :=
  let v759 : Index := Scalar.indexCast v733
  let c0_197 : Index := 0#32
  ![v759.toNat, 0]

def k0_off380 (v733 : BitVec 32) : Fin 2 → Nat :=
  let v765 : Index := Scalar.indexCast v733
  let c16_199 : Index := 16#32
  ![v765.toNat, 16]
def k0_off381 (v733 : BitVec 32) : Fin 2 → Nat :=
  let v771 : Index := Scalar.indexCast v733
  let c32_201 : Index := 32#32
  ![v771.toNat, 32]
def k0_off382 (v733 : BitVec 32) : Fin 2 → Nat :=
  let v777 : Index := Scalar.indexCast v733
  let c48_203 : Index := 48#32
  ![v777.toNat, 48]

def k0_chk325 (v733 : BitVec 32) : Prop :=
  (∀ a, (k0_off379 v733) a + S1x16.size a ≤ S64x96.size a) ∧
  (∀ a, (k0_off380 v733) a + S1x16.size a ≤ S64x96.size a) ∧
  (∀ a, (k0_off381 v733) a + S1x16.size a ≤ S64x96.size a) ∧
  (∀ a, (k0_off382 v733) a + S1x16.size a ≤ S64x96.size a)
theorem k0_off379_inb : ∀ (v733 : BitVec 32) (k0_hw325 : k0_chk325 v733), ∀ a, (k0_off379 v733) a + S1x16.size a ≤ S64x96.size a := fun v733 k0_hw325 => k0_hw325.1
theorem k0_off380_inb : ∀ (v733 : BitVec 32) (k0_hw325 : k0_chk325 v733), ∀ a, (k0_off380 v733) a + S1x16.size a ≤ S64x96.size a := fun v733 k0_hw325 => k0_hw325.2.1
theorem k0_off381_inb : ∀ (v733 : BitVec 32) (k0_hw325 : k0_chk325 v733), ∀ a, (k0_off381 v733) a + S1x16.size a ≤ S64x96.size a := fun v733 k0_hw325 => k0_hw325.2.2.1
theorem k0_off382_inb : ∀ (v733 : BitVec 32) (k0_hw325 : k0_chk325 v733), ∀ a, (k0_off382 v733) a + S1x16.size a ≤ S64x96.size a := fun v733 k0_hw325 => k0_hw325.2.2.2

def k0_mult80 (v789 : BitVec 32) : BitVec 32 :=
  v789

def k0_off383 (v789 : BitVec 32) : Fin 1 → Nat :=
  let v790 : BitVec 32 := v789
  let v791 : Index := Scalar.indexCast v790
  ![v791.toNat]

def k0_chk326 (v789 : BitVec 32) : Prop :=
  (8 ∣ (k0_mult80 v789).toNat) ∧
  (∀ a, (k0_off383 v789) a + S16.size a ≤ S101376.size a)
theorem k0_mult80_dvd : ∀ (v789 : BitVec 32) (k0_hw326 : k0_chk326 v789), 8 ∣ (k0_mult80 v789).toNat := fun v789 k0_hw326 => k0_hw326.1
theorem k0_off383_inb : ∀ (v789 : BitVec 32) (k0_hw326 : k0_chk326 v789), ∀ a, (k0_off383 v789) a + S16.size a ≤ S101376.size a := fun v789 k0_hw326 => k0_hw326.2

def k0_off384 (v787 : BitVec 32) : Fin 2 → Nat :=
  let v813 : Index := Scalar.indexCast v787
  let c0_209 : Index := 0#32
  ![v813.toNat, 0]

def k0_off385 (v787 : BitVec 32) : Fin 2 → Nat :=
  let v819 : Index := Scalar.indexCast v787
  let c16_211 : Index := 16#32
  ![v819.toNat, 16]
def k0_off386 (v787 : BitVec 32) : Fin 2 → Nat :=
  let v825 : Index := Scalar.indexCast v787
  let c32_213 : Index := 32#32
  ![v825.toNat, 32]
def k0_off387 (v787 : BitVec 32) : Fin 2 → Nat :=
  let v831 : Index := Scalar.indexCast v787
  let c48_215 : Index := 48#32
  ![v831.toNat, 48]

def k0_chk327 (v787 : BitVec 32) : Prop :=
  (∀ a, (k0_off384 v787) a + S1x16.size a ≤ S64x96.size a) ∧
  (∀ a, (k0_off385 v787) a + S1x16.size a ≤ S64x96.size a) ∧
  (∀ a, (k0_off386 v787) a + S1x16.size a ≤ S64x96.size a) ∧
  (∀ a, (k0_off387 v787) a + S1x16.size a ≤ S64x96.size a)
theorem k0_off384_inb : ∀ (v787 : BitVec 32) (k0_hw327 : k0_chk327 v787), ∀ a, (k0_off384 v787) a + S1x16.size a ≤ S64x96.size a := fun v787 k0_hw327 => k0_hw327.1
theorem k0_off385_inb : ∀ (v787 : BitVec 32) (k0_hw327 : k0_chk327 v787), ∀ a, (k0_off385 v787) a + S1x16.size a ≤ S64x96.size a := fun v787 k0_hw327 => k0_hw327.2.1
theorem k0_off386_inb : ∀ (v787 : BitVec 32) (k0_hw327 : k0_chk327 v787), ∀ a, (k0_off386 v787) a + S1x16.size a ≤ S64x96.size a := fun v787 k0_hw327 => k0_hw327.2.2.1
theorem k0_off387_inb : ∀ (v787 : BitVec 32) (k0_hw327 : k0_chk327 v787), ∀ a, (k0_off387 v787) a + S1x16.size a ≤ S64x96.size a := fun v787 k0_hw327 => k0_hw327.2.2.2

def k0_chk328 (v846 : IVec S16 32) : Prop :=
  (∀ a x, ((![v846] : Fin 1 → IVec S16 32) a x).toNat < S101376.size a)
theorem k0_idx176_inb : ∀ (v846 : IVec S16 32) (k0_hw328 : k0_chk328 v846), ∀ a x, ((![v846] : Fin 1 → IVec S16 32) a x).toNat < S101376.size a := fun v846 k0_hw328 => k0_hw328

def k0_chk329 (v860 : IVec S16 32) (v883 : IVec S16 32) : Prop :=
  (∀ a x, ((![v860, v883] : Fin 2 → IVec S16 32) a x).toNat < S64x96.size a)
theorem k0_idx177_inb : ∀ (v860 : IVec S16 32) (v883 : IVec S16 32) (k0_hw329 : k0_chk329 v860 v883), ∀ a x, ((![v860, v883] : Fin 2 → IVec S16 32) a x).toNat < S64x96.size a := fun v860 v883 k0_hw329 => k0_hw329

def k0_chk330 (v860 : IVec S16 32) (v886 : IVec S16 32) : Prop :=
  (∀ a x, ((![v860, v886] : Fin 2 → IVec S16 32) a x).toNat < S64x96.size a)
theorem k0_idx178_inb : ∀ (v860 : IVec S16 32) (v886 : IVec S16 32) (k0_hw330 : k0_chk330 v860 v886), ∀ a x, ((![v860, v886] : Fin 2 → IVec S16 32) a x).toNat < S64x96.size a := fun v860 v886 k0_hw330 => k0_hw330

def k0_chk331 (v860 : IVec S16 32) (v889 : IVec S16 32) : Prop :=
  (∀ a x, ((![v860, v889] : Fin 2 → IVec S16 32) a x).toNat < S64x96.size a)
theorem k0_idx179_inb : ∀ (v860 : IVec S16 32) (v889 : IVec S16 32) (k0_hw331 : k0_chk331 v860 v889), ∀ a x, ((![v860, v889] : Fin 2 → IVec S16 32) a x).toNat < S64x96.size a := fun v860 v889 k0_hw331 => k0_hw331

def k0_chk332 (v860 : IVec S16 32) (v892 : IVec S16 32) : Prop :=
  (∀ a x, ((![v860, v892] : Fin 2 → IVec S16 32) a x).toNat < S64x96.size a)
theorem k0_idx180_inb : ∀ (v860 : IVec S16 32) (v892 : IVec S16 32) (k0_hw332 : k0_chk332 v860 v892), ∀ a x, ((![v860, v892] : Fin 2 → IVec S16 32) a x).toNat < S64x96.size a := fun v860 v892 k0_hw332 => k0_hw332
def k0_mult81 (v900 : BitVec 32) : BitVec 32 :=
  v900

def k0_off388 (v900 : BitVec 32) : Fin 1 → Nat :=
  let v901 : BitVec 32 := v900
  let v902 : Index := Scalar.indexCast v901
  ![v902.toNat]

def k0_chk333 (v900 : BitVec 32) : Prop :=
  (8 ∣ (k0_mult81 v900).toNat) ∧
  (∀ a, (k0_off388 v900) a + S16.size a ≤ S101376.size a)
theorem k0_mult81_dvd : ∀ (v900 : BitVec 32) (k0_hw333 : k0_chk333 v900), 8 ∣ (k0_mult81 v900).toNat := fun v900 k0_hw333 => k0_hw333.1
theorem k0_off388_inb : ∀ (v900 : BitVec 32) (k0_hw333 : k0_chk333 v900), ∀ a, (k0_off388 v900) a + S16.size a ≤ S101376.size a := fun v900 k0_hw333 => k0_hw333.2

def k0_off389 (v898 : BitVec 32) : Fin 2 → Nat :=
  let v924 : Index := Scalar.indexCast v898
  let c0_230 : Index := 0#32
  ![v924.toNat, 0]

def k0_off390 (v898 : BitVec 32) : Fin 2 → Nat :=
  let v930 : Index := Scalar.indexCast v898
  let c16_232 : Index := 16#32
  ![v930.toNat, 16]
def k0_off391 (v898 : BitVec 32) : Fin 2 → Nat :=
  let v936 : Index := Scalar.indexCast v898
  let c32_234 : Index := 32#32
  ![v936.toNat, 32]
def k0_off392 (v898 : BitVec 32) : Fin 2 → Nat :=
  let v942 : Index := Scalar.indexCast v898
  let c48_236 : Index := 48#32
  ![v942.toNat, 48]

def k0_chk334 (v898 : BitVec 32) : Prop :=
  (∀ a, (k0_off389 v898) a + S1x16.size a ≤ S64x96.size a) ∧
  (∀ a, (k0_off390 v898) a + S1x16.size a ≤ S64x96.size a) ∧
  (∀ a, (k0_off391 v898) a + S1x16.size a ≤ S64x96.size a) ∧
  (∀ a, (k0_off392 v898) a + S1x16.size a ≤ S64x96.size a)
theorem k0_off389_inb : ∀ (v898 : BitVec 32) (k0_hw334 : k0_chk334 v898), ∀ a, (k0_off389 v898) a + S1x16.size a ≤ S64x96.size a := fun v898 k0_hw334 => k0_hw334.1
theorem k0_off390_inb : ∀ (v898 : BitVec 32) (k0_hw334 : k0_chk334 v898), ∀ a, (k0_off390 v898) a + S1x16.size a ≤ S64x96.size a := fun v898 k0_hw334 => k0_hw334.2.1
theorem k0_off391_inb : ∀ (v898 : BitVec 32) (k0_hw334 : k0_chk334 v898), ∀ a, (k0_off391 v898) a + S1x16.size a ≤ S64x96.size a := fun v898 k0_hw334 => k0_hw334.2.2.1
theorem k0_off392_inb : ∀ (v898 : BitVec 32) (k0_hw334 : k0_chk334 v898), ∀ a, (k0_off392 v898) a + S1x16.size a ≤ S64x96.size a := fun v898 k0_hw334 => k0_hw334.2.2.2

def k0_mult82 (v954 : BitVec 32) : BitVec 32 :=
  v954

def k0_off393 (v954 : BitVec 32) : Fin 1 → Nat :=
  let v955 : BitVec 32 := v954
  let v956 : Index := Scalar.indexCast v955
  ![v956.toNat]

def k0_chk335 (v954 : BitVec 32) : Prop :=
  (8 ∣ (k0_mult82 v954).toNat) ∧
  (∀ a, (k0_off393 v954) a + S16.size a ≤ S101376.size a)
theorem k0_mult82_dvd : ∀ (v954 : BitVec 32) (k0_hw335 : k0_chk335 v954), 8 ∣ (k0_mult82 v954).toNat := fun v954 k0_hw335 => k0_hw335.1
theorem k0_off393_inb : ∀ (v954 : BitVec 32) (k0_hw335 : k0_chk335 v954), ∀ a, (k0_off393 v954) a + S16.size a ≤ S101376.size a := fun v954 k0_hw335 => k0_hw335.2

def k0_off394 (v952 : BitVec 32) : Fin 2 → Nat :=
  let v978 : Index := Scalar.indexCast v952
  let c0_242 : Index := 0#32
  ![v978.toNat, 0]

def k0_off395 (v952 : BitVec 32) : Fin 2 → Nat :=
  let v984 : Index := Scalar.indexCast v952
  let c16_244 : Index := 16#32
  ![v984.toNat, 16]
def k0_off396 (v952 : BitVec 32) : Fin 2 → Nat :=
  let v990 : Index := Scalar.indexCast v952
  let c32_246 : Index := 32#32
  ![v990.toNat, 32]
def k0_off397 (v952 : BitVec 32) : Fin 2 → Nat :=
  let v996 : Index := Scalar.indexCast v952
  let c48_248 : Index := 48#32
  ![v996.toNat, 48]

def k0_chk336 (v952 : BitVec 32) : Prop :=
  (∀ a, (k0_off394 v952) a + S1x16.size a ≤ S64x96.size a) ∧
  (∀ a, (k0_off395 v952) a + S1x16.size a ≤ S64x96.size a) ∧
  (∀ a, (k0_off396 v952) a + S1x16.size a ≤ S64x96.size a) ∧
  (∀ a, (k0_off397 v952) a + S1x16.size a ≤ S64x96.size a)
theorem k0_off394_inb : ∀ (v952 : BitVec 32) (k0_hw336 : k0_chk336 v952), ∀ a, (k0_off394 v952) a + S1x16.size a ≤ S64x96.size a := fun v952 k0_hw336 => k0_hw336.1
theorem k0_off395_inb : ∀ (v952 : BitVec 32) (k0_hw336 : k0_chk336 v952), ∀ a, (k0_off395 v952) a + S1x16.size a ≤ S64x96.size a := fun v952 k0_hw336 => k0_hw336.2.1
theorem k0_off396_inb : ∀ (v952 : BitVec 32) (k0_hw336 : k0_chk336 v952), ∀ a, (k0_off396 v952) a + S1x16.size a ≤ S64x96.size a := fun v952 k0_hw336 => k0_hw336.2.2.1
theorem k0_off397_inb : ∀ (v952 : BitVec 32) (k0_hw336 : k0_chk336 v952), ∀ a, (k0_off397 v952) a + S1x16.size a ≤ S64x96.size a := fun v952 k0_hw336 => k0_hw336.2.2.2

def k0_chk337 (v1011 : IVec S16 32) : Prop :=
  (∀ a x, ((![v1011] : Fin 1 → IVec S16 32) a x).toNat < S101376.size a)
theorem k0_idx181_inb : ∀ (v1011 : IVec S16 32) (k0_hw337 : k0_chk337 v1011), ∀ a x, ((![v1011] : Fin 1 → IVec S16 32) a x).toNat < S101376.size a := fun v1011 k0_hw337 => k0_hw337

def k0_chk338 (v1025 : IVec S16 32) (v1048 : IVec S16 32) : Prop :=
  (∀ a x, ((![v1025, v1048] : Fin 2 → IVec S16 32) a x).toNat < S64x96.size a)
theorem k0_idx182_inb : ∀ (v1025 : IVec S16 32) (v1048 : IVec S16 32) (k0_hw338 : k0_chk338 v1025 v1048), ∀ a x, ((![v1025, v1048] : Fin 2 → IVec S16 32) a x).toNat < S64x96.size a := fun v1025 v1048 k0_hw338 => k0_hw338

def k0_chk339 (v1025 : IVec S16 32) (v1051 : IVec S16 32) : Prop :=
  (∀ a x, ((![v1025, v1051] : Fin 2 → IVec S16 32) a x).toNat < S64x96.size a)
theorem k0_idx183_inb : ∀ (v1025 : IVec S16 32) (v1051 : IVec S16 32) (k0_hw339 : k0_chk339 v1025 v1051), ∀ a x, ((![v1025, v1051] : Fin 2 → IVec S16 32) a x).toNat < S64x96.size a := fun v1025 v1051 k0_hw339 => k0_hw339

def k0_chk340 (v1025 : IVec S16 32) (v1054 : IVec S16 32) : Prop :=
  (∀ a x, ((![v1025, v1054] : Fin 2 → IVec S16 32) a x).toNat < S64x96.size a)
theorem k0_idx184_inb : ∀ (v1025 : IVec S16 32) (v1054 : IVec S16 32) (k0_hw340 : k0_chk340 v1025 v1054), ∀ a x, ((![v1025, v1054] : Fin 2 → IVec S16 32) a x).toNat < S64x96.size a := fun v1025 v1054 k0_hw340 => k0_hw340

def k0_chk341 (v1025 : IVec S16 32) (v1057 : IVec S16 32) : Prop :=
  (∀ a x, ((![v1025, v1057] : Fin 2 → IVec S16 32) a x).toNat < S64x96.size a)
theorem k0_idx185_inb : ∀ (v1025 : IVec S16 32) (v1057 : IVec S16 32) (k0_hw341 : k0_chk341 v1025 v1057), ∀ a x, ((![v1025, v1057] : Fin 2 → IVec S16 32) a x).toNat < S64x96.size a := fun v1025 v1057 k0_hw341 => k0_hw341
def k0_mult83 (v1065 : BitVec 32) : BitVec 32 :=
  v1065

def k0_off398 (v1065 : BitVec 32) : Fin 1 → Nat :=
  let v1066 : BitVec 32 := v1065
  let v1067 : Index := Scalar.indexCast v1066
  ![v1067.toNat]

def k0_chk342 (v1065 : BitVec 32) : Prop :=
  (8 ∣ (k0_mult83 v1065).toNat) ∧
  (∀ a, (k0_off398 v1065) a + S16.size a ≤ S101376.size a)
theorem k0_mult83_dvd : ∀ (v1065 : BitVec 32) (k0_hw342 : k0_chk342 v1065), 8 ∣ (k0_mult83 v1065).toNat := fun v1065 k0_hw342 => k0_hw342.1
theorem k0_off398_inb : ∀ (v1065 : BitVec 32) (k0_hw342 : k0_chk342 v1065), ∀ a, (k0_off398 v1065) a + S16.size a ≤ S101376.size a := fun v1065 k0_hw342 => k0_hw342.2

def k0_off399 (v1063 : BitVec 32) : Fin 2 → Nat :=
  let v1089 : Index := Scalar.indexCast v1063
  let c0_263 : Index := 0#32
  ![v1089.toNat, 0]

def k0_off400 (v1063 : BitVec 32) : Fin 2 → Nat :=
  let v1095 : Index := Scalar.indexCast v1063
  let c16_265 : Index := 16#32
  ![v1095.toNat, 16]
def k0_off401 (v1063 : BitVec 32) : Fin 2 → Nat :=
  let v1101 : Index := Scalar.indexCast v1063
  let c32_267 : Index := 32#32
  ![v1101.toNat, 32]
def k0_off402 (v1063 : BitVec 32) : Fin 2 → Nat :=
  let v1107 : Index := Scalar.indexCast v1063
  let c48_269 : Index := 48#32
  ![v1107.toNat, 48]

def k0_chk343 (v1063 : BitVec 32) : Prop :=
  (∀ a, (k0_off399 v1063) a + S1x16.size a ≤ S64x96.size a) ∧
  (∀ a, (k0_off400 v1063) a + S1x16.size a ≤ S64x96.size a) ∧
  (∀ a, (k0_off401 v1063) a + S1x16.size a ≤ S64x96.size a) ∧
  (∀ a, (k0_off402 v1063) a + S1x16.size a ≤ S64x96.size a)
theorem k0_off399_inb : ∀ (v1063 : BitVec 32) (k0_hw343 : k0_chk343 v1063), ∀ a, (k0_off399 v1063) a + S1x16.size a ≤ S64x96.size a := fun v1063 k0_hw343 => k0_hw343.1
theorem k0_off400_inb : ∀ (v1063 : BitVec 32) (k0_hw343 : k0_chk343 v1063), ∀ a, (k0_off400 v1063) a + S1x16.size a ≤ S64x96.size a := fun v1063 k0_hw343 => k0_hw343.2.1
theorem k0_off401_inb : ∀ (v1063 : BitVec 32) (k0_hw343 : k0_chk343 v1063), ∀ a, (k0_off401 v1063) a + S1x16.size a ≤ S64x96.size a := fun v1063 k0_hw343 => k0_hw343.2.2.1
theorem k0_off402_inb : ∀ (v1063 : BitVec 32) (k0_hw343 : k0_chk343 v1063), ∀ a, (k0_off402 v1063) a + S1x16.size a ≤ S64x96.size a := fun v1063 k0_hw343 => k0_hw343.2.2.2

def k0_mult84 (v1119 : BitVec 32) : BitVec 32 :=
  v1119

def k0_off403 (v1119 : BitVec 32) : Fin 1 → Nat :=
  let v1120 : BitVec 32 := v1119
  let v1121 : Index := Scalar.indexCast v1120
  ![v1121.toNat]

def k0_chk344 (v1119 : BitVec 32) : Prop :=
  (8 ∣ (k0_mult84 v1119).toNat) ∧
  (∀ a, (k0_off403 v1119) a + S16.size a ≤ S101376.size a)
theorem k0_mult84_dvd : ∀ (v1119 : BitVec 32) (k0_hw344 : k0_chk344 v1119), 8 ∣ (k0_mult84 v1119).toNat := fun v1119 k0_hw344 => k0_hw344.1
theorem k0_off403_inb : ∀ (v1119 : BitVec 32) (k0_hw344 : k0_chk344 v1119), ∀ a, (k0_off403 v1119) a + S16.size a ≤ S101376.size a := fun v1119 k0_hw344 => k0_hw344.2

def k0_off404 (v1117 : BitVec 32) : Fin 2 → Nat :=
  let v1143 : Index := Scalar.indexCast v1117
  let c0_275 : Index := 0#32
  ![v1143.toNat, 0]

def k0_off405 (v1117 : BitVec 32) : Fin 2 → Nat :=
  let v1149 : Index := Scalar.indexCast v1117
  let c16_277 : Index := 16#32
  ![v1149.toNat, 16]
def k0_off406 (v1117 : BitVec 32) : Fin 2 → Nat :=
  let v1155 : Index := Scalar.indexCast v1117
  let c32_279 : Index := 32#32
  ![v1155.toNat, 32]
def k0_off407 (v1117 : BitVec 32) : Fin 2 → Nat :=
  let v1161 : Index := Scalar.indexCast v1117
  let c48_281 : Index := 48#32
  ![v1161.toNat, 48]

def k0_chk345 (v1117 : BitVec 32) : Prop :=
  (∀ a, (k0_off404 v1117) a + S1x16.size a ≤ S64x96.size a) ∧
  (∀ a, (k0_off405 v1117) a + S1x16.size a ≤ S64x96.size a) ∧
  (∀ a, (k0_off406 v1117) a + S1x16.size a ≤ S64x96.size a) ∧
  (∀ a, (k0_off407 v1117) a + S1x16.size a ≤ S64x96.size a)
theorem k0_off404_inb : ∀ (v1117 : BitVec 32) (k0_hw345 : k0_chk345 v1117), ∀ a, (k0_off404 v1117) a + S1x16.size a ≤ S64x96.size a := fun v1117 k0_hw345 => k0_hw345.1
theorem k0_off405_inb : ∀ (v1117 : BitVec 32) (k0_hw345 : k0_chk345 v1117), ∀ a, (k0_off405 v1117) a + S1x16.size a ≤ S64x96.size a := fun v1117 k0_hw345 => k0_hw345.2.1
theorem k0_off406_inb : ∀ (v1117 : BitVec 32) (k0_hw345 : k0_chk345 v1117), ∀ a, (k0_off406 v1117) a + S1x16.size a ≤ S64x96.size a := fun v1117 k0_hw345 => k0_hw345.2.2.1
theorem k0_off407_inb : ∀ (v1117 : BitVec 32) (k0_hw345 : k0_chk345 v1117), ∀ a, (k0_off407 v1117) a + S1x16.size a ≤ S64x96.size a := fun v1117 k0_hw345 => k0_hw345.2.2.2

def k0_chk346 (v1176 : IVec S16 32) : Prop :=
  (∀ a x, ((![v1176] : Fin 1 → IVec S16 32) a x).toNat < S101376.size a)
theorem k0_idx186_inb : ∀ (v1176 : IVec S16 32) (k0_hw346 : k0_chk346 v1176), ∀ a x, ((![v1176] : Fin 1 → IVec S16 32) a x).toNat < S101376.size a := fun v1176 k0_hw346 => k0_hw346

def k0_chk347 (v1190 : IVec S16 32) (v1213 : IVec S16 32) : Prop :=
  (∀ a x, ((![v1190, v1213] : Fin 2 → IVec S16 32) a x).toNat < S64x96.size a)
theorem k0_idx187_inb : ∀ (v1190 : IVec S16 32) (v1213 : IVec S16 32) (k0_hw347 : k0_chk347 v1190 v1213), ∀ a x, ((![v1190, v1213] : Fin 2 → IVec S16 32) a x).toNat < S64x96.size a := fun v1190 v1213 k0_hw347 => k0_hw347

def k0_chk348 (v1190 : IVec S16 32) (v1216 : IVec S16 32) : Prop :=
  (∀ a x, ((![v1190, v1216] : Fin 2 → IVec S16 32) a x).toNat < S64x96.size a)
theorem k0_idx188_inb : ∀ (v1190 : IVec S16 32) (v1216 : IVec S16 32) (k0_hw348 : k0_chk348 v1190 v1216), ∀ a x, ((![v1190, v1216] : Fin 2 → IVec S16 32) a x).toNat < S64x96.size a := fun v1190 v1216 k0_hw348 => k0_hw348

def k0_chk349 (v1190 : IVec S16 32) (v1219 : IVec S16 32) : Prop :=
  (∀ a x, ((![v1190, v1219] : Fin 2 → IVec S16 32) a x).toNat < S64x96.size a)
theorem k0_idx189_inb : ∀ (v1190 : IVec S16 32) (v1219 : IVec S16 32) (k0_hw349 : k0_chk349 v1190 v1219), ∀ a x, ((![v1190, v1219] : Fin 2 → IVec S16 32) a x).toNat < S64x96.size a := fun v1190 v1219 k0_hw349 => k0_hw349

def k0_chk350 (v1190 : IVec S16 32) (v1222 : IVec S16 32) : Prop :=
  (∀ a x, ((![v1190, v1222] : Fin 2 → IVec S16 32) a x).toNat < S64x96.size a)
theorem k0_idx190_inb : ∀ (v1190 : IVec S16 32) (v1222 : IVec S16 32) (k0_hw350 : k0_chk350 v1190 v1222), ∀ a x, ((![v1190, v1222] : Fin 2 → IVec S16 32) a x).toNat < S64x96.size a := fun v1190 v1222 k0_hw350 => k0_hw350
def k0_mult85 (v1230 : BitVec 32) : BitVec 32 :=
  v1230

def k0_off408 (v1230 : BitVec 32) : Fin 1 → Nat :=
  let v1231 : BitVec 32 := v1230
  let v1232 : Index := Scalar.indexCast v1231
  ![v1232.toNat]

def k0_chk351 (v1230 : BitVec 32) : Prop :=
  (8 ∣ (k0_mult85 v1230).toNat) ∧
  (∀ a, (k0_off408 v1230) a + S16.size a ≤ S101376.size a)
theorem k0_mult85_dvd : ∀ (v1230 : BitVec 32) (k0_hw351 : k0_chk351 v1230), 8 ∣ (k0_mult85 v1230).toNat := fun v1230 k0_hw351 => k0_hw351.1
theorem k0_off408_inb : ∀ (v1230 : BitVec 32) (k0_hw351 : k0_chk351 v1230), ∀ a, (k0_off408 v1230) a + S16.size a ≤ S101376.size a := fun v1230 k0_hw351 => k0_hw351.2

def k0_off409 (v1228 : BitVec 32) : Fin 2 → Nat :=
  let v1254 : Index := Scalar.indexCast v1228
  let c0_296 : Index := 0#32
  ![v1254.toNat, 0]

def k0_off410 (v1228 : BitVec 32) : Fin 2 → Nat :=
  let v1260 : Index := Scalar.indexCast v1228
  let c16_298 : Index := 16#32
  ![v1260.toNat, 16]
def k0_off411 (v1228 : BitVec 32) : Fin 2 → Nat :=
  let v1266 : Index := Scalar.indexCast v1228
  let c32_300 : Index := 32#32
  ![v1266.toNat, 32]
def k0_off412 (v1228 : BitVec 32) : Fin 2 → Nat :=
  let v1272 : Index := Scalar.indexCast v1228
  let c48_302 : Index := 48#32
  ![v1272.toNat, 48]

def k0_chk352 (v1228 : BitVec 32) : Prop :=
  (∀ a, (k0_off409 v1228) a + S1x16.size a ≤ S64x96.size a) ∧
  (∀ a, (k0_off410 v1228) a + S1x16.size a ≤ S64x96.size a) ∧
  (∀ a, (k0_off411 v1228) a + S1x16.size a ≤ S64x96.size a) ∧
  (∀ a, (k0_off412 v1228) a + S1x16.size a ≤ S64x96.size a)
theorem k0_off409_inb : ∀ (v1228 : BitVec 32) (k0_hw352 : k0_chk352 v1228), ∀ a, (k0_off409 v1228) a + S1x16.size a ≤ S64x96.size a := fun v1228 k0_hw352 => k0_hw352.1
theorem k0_off410_inb : ∀ (v1228 : BitVec 32) (k0_hw352 : k0_chk352 v1228), ∀ a, (k0_off410 v1228) a + S1x16.size a ≤ S64x96.size a := fun v1228 k0_hw352 => k0_hw352.2.1
theorem k0_off411_inb : ∀ (v1228 : BitVec 32) (k0_hw352 : k0_chk352 v1228), ∀ a, (k0_off411 v1228) a + S1x16.size a ≤ S64x96.size a := fun v1228 k0_hw352 => k0_hw352.2.2.1
theorem k0_off412_inb : ∀ (v1228 : BitVec 32) (k0_hw352 : k0_chk352 v1228), ∀ a, (k0_off412 v1228) a + S1x16.size a ≤ S64x96.size a := fun v1228 k0_hw352 => k0_hw352.2.2.2

def k0_mult86 (v1284 : BitVec 32) : BitVec 32 :=
  v1284

def k0_off413 (v1284 : BitVec 32) : Fin 1 → Nat :=
  let v1285 : BitVec 32 := v1284
  let v1286 : Index := Scalar.indexCast v1285
  ![v1286.toNat]

def k0_chk353 (v1284 : BitVec 32) : Prop :=
  (8 ∣ (k0_mult86 v1284).toNat) ∧
  (∀ a, (k0_off413 v1284) a + S16.size a ≤ S101376.size a)
theorem k0_mult86_dvd : ∀ (v1284 : BitVec 32) (k0_hw353 : k0_chk353 v1284), 8 ∣ (k0_mult86 v1284).toNat := fun v1284 k0_hw353 => k0_hw353.1
theorem k0_off413_inb : ∀ (v1284 : BitVec 32) (k0_hw353 : k0_chk353 v1284), ∀ a, (k0_off413 v1284) a + S16.size a ≤ S101376.size a := fun v1284 k0_hw353 => k0_hw353.2

def k0_off414 (v1282 : BitVec 32) : Fin 2 → Nat :=
  let v1308 : Index := Scalar.indexCast v1282
  let c0_308 : Index := 0#32
  ![v1308.toNat, 0]

def k0_off415 (v1282 : BitVec 32) : Fin 2 → Nat :=
  let v1314 : Index := Scalar.indexCast v1282
  let c16_310 : Index := 16#32
  ![v1314.toNat, 16]
def k0_off416 (v1282 : BitVec 32) : Fin 2 → Nat :=
  let v1320 : Index := Scalar.indexCast v1282
  let c32_312 : Index := 32#32
  ![v1320.toNat, 32]
def k0_off417 (v1282 : BitVec 32) : Fin 2 → Nat :=
  let v1326 : Index := Scalar.indexCast v1282
  let c48_314 : Index := 48#32
  ![v1326.toNat, 48]

def k0_chk354 (v1282 : BitVec 32) : Prop :=
  (∀ a, (k0_off414 v1282) a + S1x16.size a ≤ S64x96.size a) ∧
  (∀ a, (k0_off415 v1282) a + S1x16.size a ≤ S64x96.size a) ∧
  (∀ a, (k0_off416 v1282) a + S1x16.size a ≤ S64x96.size a) ∧
  (∀ a, (k0_off417 v1282) a + S1x16.size a ≤ S64x96.size a)
theorem k0_off414_inb : ∀ (v1282 : BitVec 32) (k0_hw354 : k0_chk354 v1282), ∀ a, (k0_off414 v1282) a + S1x16.size a ≤ S64x96.size a := fun v1282 k0_hw354 => k0_hw354.1
theorem k0_off415_inb : ∀ (v1282 : BitVec 32) (k0_hw354 : k0_chk354 v1282), ∀ a, (k0_off415 v1282) a + S1x16.size a ≤ S64x96.size a := fun v1282 k0_hw354 => k0_hw354.2.1
theorem k0_off416_inb : ∀ (v1282 : BitVec 32) (k0_hw354 : k0_chk354 v1282), ∀ a, (k0_off416 v1282) a + S1x16.size a ≤ S64x96.size a := fun v1282 k0_hw354 => k0_hw354.2.2.1
theorem k0_off417_inb : ∀ (v1282 : BitVec 32) (k0_hw354 : k0_chk354 v1282), ∀ a, (k0_off417 v1282) a + S1x16.size a ≤ S64x96.size a := fun v1282 k0_hw354 => k0_hw354.2.2.2

def k0_chk355 (v1341 : IVec S16 32) : Prop :=
  (∀ a x, ((![v1341] : Fin 1 → IVec S16 32) a x).toNat < S101376.size a)
theorem k0_idx191_inb : ∀ (v1341 : IVec S16 32) (k0_hw355 : k0_chk355 v1341), ∀ a x, ((![v1341] : Fin 1 → IVec S16 32) a x).toNat < S101376.size a := fun v1341 k0_hw355 => k0_hw355

def k0_chk356 (v1355 : IVec S16 32) (v1378 : IVec S16 32) : Prop :=
  (∀ a x, ((![v1355, v1378] : Fin 2 → IVec S16 32) a x).toNat < S64x96.size a)
theorem k0_idx192_inb : ∀ (v1355 : IVec S16 32) (v1378 : IVec S16 32) (k0_hw356 : k0_chk356 v1355 v1378), ∀ a x, ((![v1355, v1378] : Fin 2 → IVec S16 32) a x).toNat < S64x96.size a := fun v1355 v1378 k0_hw356 => k0_hw356

def k0_chk357 (v1355 : IVec S16 32) (v1381 : IVec S16 32) : Prop :=
  (∀ a x, ((![v1355, v1381] : Fin 2 → IVec S16 32) a x).toNat < S64x96.size a)
theorem k0_idx193_inb : ∀ (v1355 : IVec S16 32) (v1381 : IVec S16 32) (k0_hw357 : k0_chk357 v1355 v1381), ∀ a x, ((![v1355, v1381] : Fin 2 → IVec S16 32) a x).toNat < S64x96.size a := fun v1355 v1381 k0_hw357 => k0_hw357

def k0_chk358 (v1355 : IVec S16 32) (v1384 : IVec S16 32) : Prop :=
  (∀ a x, ((![v1355, v1384] : Fin 2 → IVec S16 32) a x).toNat < S64x96.size a)
theorem k0_idx194_inb : ∀ (v1355 : IVec S16 32) (v1384 : IVec S16 32) (k0_hw358 : k0_chk358 v1355 v1384), ∀ a x, ((![v1355, v1384] : Fin 2 → IVec S16 32) a x).toNat < S64x96.size a := fun v1355 v1384 k0_hw358 => k0_hw358

def k0_chk359 (v1355 : IVec S16 32) (v1387 : IVec S16 32) : Prop :=
  (∀ a x, ((![v1355, v1387] : Fin 2 → IVec S16 32) a x).toNat < S64x96.size a)
theorem k0_idx195_inb : ∀ (v1355 : IVec S16 32) (v1387 : IVec S16 32) (k0_hw359 : k0_chk359 v1355 v1387), ∀ a x, ((![v1355, v1387] : Fin 2 → IVec S16 32) a x).toNat < S64x96.size a := fun v1355 v1387 k0_hw359 => k0_hw359
def k0_mult87 (v1395 : BitVec 32) : BitVec 32 :=
  v1395

def k0_off418 (v1395 : BitVec 32) : Fin 1 → Nat :=
  let v1396 : BitVec 32 := v1395
  let v1397 : Index := Scalar.indexCast v1396
  ![v1397.toNat]

def k0_chk360 (v1395 : BitVec 32) : Prop :=
  (8 ∣ (k0_mult87 v1395).toNat) ∧
  (∀ a, (k0_off418 v1395) a + S16.size a ≤ S101376.size a)
theorem k0_mult87_dvd : ∀ (v1395 : BitVec 32) (k0_hw360 : k0_chk360 v1395), 8 ∣ (k0_mult87 v1395).toNat := fun v1395 k0_hw360 => k0_hw360.1
theorem k0_off418_inb : ∀ (v1395 : BitVec 32) (k0_hw360 : k0_chk360 v1395), ∀ a, (k0_off418 v1395) a + S16.size a ≤ S101376.size a := fun v1395 k0_hw360 => k0_hw360.2

def k0_off419 (v1393 : BitVec 32) : Fin 2 → Nat :=
  let v1419 : Index := Scalar.indexCast v1393
  let c0_329 : Index := 0#32
  ![v1419.toNat, 0]

def k0_off420 (v1393 : BitVec 32) : Fin 2 → Nat :=
  let v1425 : Index := Scalar.indexCast v1393
  let c16_331 : Index := 16#32
  ![v1425.toNat, 16]
def k0_off421 (v1393 : BitVec 32) : Fin 2 → Nat :=
  let v1431 : Index := Scalar.indexCast v1393
  let c32_333 : Index := 32#32
  ![v1431.toNat, 32]
def k0_off422 (v1393 : BitVec 32) : Fin 2 → Nat :=
  let v1437 : Index := Scalar.indexCast v1393
  let c48_335 : Index := 48#32
  ![v1437.toNat, 48]

def k0_chk361 (v1393 : BitVec 32) : Prop :=
  (∀ a, (k0_off419 v1393) a + S1x16.size a ≤ S64x96.size a) ∧
  (∀ a, (k0_off420 v1393) a + S1x16.size a ≤ S64x96.size a) ∧
  (∀ a, (k0_off421 v1393) a + S1x16.size a ≤ S64x96.size a) ∧
  (∀ a, (k0_off422 v1393) a + S1x16.size a ≤ S64x96.size a)
theorem k0_off419_inb : ∀ (v1393 : BitVec 32) (k0_hw361 : k0_chk361 v1393), ∀ a, (k0_off419 v1393) a + S1x16.size a ≤ S64x96.size a := fun v1393 k0_hw361 => k0_hw361.1
theorem k0_off420_inb : ∀ (v1393 : BitVec 32) (k0_hw361 : k0_chk361 v1393), ∀ a, (k0_off420 v1393) a + S1x16.size a ≤ S64x96.size a := fun v1393 k0_hw361 => k0_hw361.2.1
theorem k0_off421_inb : ∀ (v1393 : BitVec 32) (k0_hw361 : k0_chk361 v1393), ∀ a, (k0_off421 v1393) a + S1x16.size a ≤ S64x96.size a := fun v1393 k0_hw361 => k0_hw361.2.2.1
theorem k0_off422_inb : ∀ (v1393 : BitVec 32) (k0_hw361 : k0_chk361 v1393), ∀ a, (k0_off422 v1393) a + S1x16.size a ≤ S64x96.size a := fun v1393 k0_hw361 => k0_hw361.2.2.2

def k0_mult88 (v1449 : BitVec 32) : BitVec 32 :=
  v1449

def k0_off423 (v1449 : BitVec 32) : Fin 1 → Nat :=
  let v1450 : BitVec 32 := v1449
  let v1451 : Index := Scalar.indexCast v1450
  ![v1451.toNat]

def k0_chk362 (v1449 : BitVec 32) : Prop :=
  (8 ∣ (k0_mult88 v1449).toNat) ∧
  (∀ a, (k0_off423 v1449) a + S16.size a ≤ S101376.size a)
theorem k0_mult88_dvd : ∀ (v1449 : BitVec 32) (k0_hw362 : k0_chk362 v1449), 8 ∣ (k0_mult88 v1449).toNat := fun v1449 k0_hw362 => k0_hw362.1
theorem k0_off423_inb : ∀ (v1449 : BitVec 32) (k0_hw362 : k0_chk362 v1449), ∀ a, (k0_off423 v1449) a + S16.size a ≤ S101376.size a := fun v1449 k0_hw362 => k0_hw362.2

def k0_off424 (v1447 : BitVec 32) : Fin 2 → Nat :=
  let v1473 : Index := Scalar.indexCast v1447
  let c0_341 : Index := 0#32
  ![v1473.toNat, 0]

def k0_off425 (v1447 : BitVec 32) : Fin 2 → Nat :=
  let v1479 : Index := Scalar.indexCast v1447
  let c16_343 : Index := 16#32
  ![v1479.toNat, 16]
def k0_off426 (v1447 : BitVec 32) : Fin 2 → Nat :=
  let v1485 : Index := Scalar.indexCast v1447
  let c32_345 : Index := 32#32
  ![v1485.toNat, 32]
def k0_off427 (v1447 : BitVec 32) : Fin 2 → Nat :=
  let v1491 : Index := Scalar.indexCast v1447
  let c48_347 : Index := 48#32
  ![v1491.toNat, 48]

def k0_chk363 (v1447 : BitVec 32) : Prop :=
  (∀ a, (k0_off424 v1447) a + S1x16.size a ≤ S64x96.size a) ∧
  (∀ a, (k0_off425 v1447) a + S1x16.size a ≤ S64x96.size a) ∧
  (∀ a, (k0_off426 v1447) a + S1x16.size a ≤ S64x96.size a) ∧
  (∀ a, (k0_off427 v1447) a + S1x16.size a ≤ S64x96.size a)
theorem k0_off424_inb : ∀ (v1447 : BitVec 32) (k0_hw363 : k0_chk363 v1447), ∀ a, (k0_off424 v1447) a + S1x16.size a ≤ S64x96.size a := fun v1447 k0_hw363 => k0_hw363.1
theorem k0_off425_inb : ∀ (v1447 : BitVec 32) (k0_hw363 : k0_chk363 v1447), ∀ a, (k0_off425 v1447) a + S1x16.size a ≤ S64x96.size a := fun v1447 k0_hw363 => k0_hw363.2.1
theorem k0_off426_inb : ∀ (v1447 : BitVec 32) (k0_hw363 : k0_chk363 v1447), ∀ a, (k0_off426 v1447) a + S1x16.size a ≤ S64x96.size a := fun v1447 k0_hw363 => k0_hw363.2.2.1
theorem k0_off427_inb : ∀ (v1447 : BitVec 32) (k0_hw363 : k0_chk363 v1447), ∀ a, (k0_off427 v1447) a + S1x16.size a ≤ S64x96.size a := fun v1447 k0_hw363 => k0_hw363.2.2.2

def k0_chk364 (v1506 : IVec S16 32) : Prop :=
  (∀ a x, ((![v1506] : Fin 1 → IVec S16 32) a x).toNat < S101376.size a)
theorem k0_idx196_inb : ∀ (v1506 : IVec S16 32) (k0_hw364 : k0_chk364 v1506), ∀ a x, ((![v1506] : Fin 1 → IVec S16 32) a x).toNat < S101376.size a := fun v1506 k0_hw364 => k0_hw364

def k0_chk365 (v1520 : IVec S16 32) (v1543 : IVec S16 32) : Prop :=
  (∀ a x, ((![v1520, v1543] : Fin 2 → IVec S16 32) a x).toNat < S64x96.size a)
theorem k0_idx197_inb : ∀ (v1520 : IVec S16 32) (v1543 : IVec S16 32) (k0_hw365 : k0_chk365 v1520 v1543), ∀ a x, ((![v1520, v1543] : Fin 2 → IVec S16 32) a x).toNat < S64x96.size a := fun v1520 v1543 k0_hw365 => k0_hw365

def k0_chk366 (v1520 : IVec S16 32) (v1546 : IVec S16 32) : Prop :=
  (∀ a x, ((![v1520, v1546] : Fin 2 → IVec S16 32) a x).toNat < S64x96.size a)
theorem k0_idx198_inb : ∀ (v1520 : IVec S16 32) (v1546 : IVec S16 32) (k0_hw366 : k0_chk366 v1520 v1546), ∀ a x, ((![v1520, v1546] : Fin 2 → IVec S16 32) a x).toNat < S64x96.size a := fun v1520 v1546 k0_hw366 => k0_hw366

def k0_chk367 (v1520 : IVec S16 32) (v1549 : IVec S16 32) : Prop :=
  (∀ a x, ((![v1520, v1549] : Fin 2 → IVec S16 32) a x).toNat < S64x96.size a)
theorem k0_idx199_inb : ∀ (v1520 : IVec S16 32) (v1549 : IVec S16 32) (k0_hw367 : k0_chk367 v1520 v1549), ∀ a x, ((![v1520, v1549] : Fin 2 → IVec S16 32) a x).toNat < S64x96.size a := fun v1520 v1549 k0_hw367 => k0_hw367

def k0_chk368 (v1520 : IVec S16 32) (v1552 : IVec S16 32) : Prop :=
  (∀ a x, ((![v1520, v1552] : Fin 2 → IVec S16 32) a x).toNat < S64x96.size a)
theorem k0_idx200_inb : ∀ (v1520 : IVec S16 32) (v1552 : IVec S16 32) (k0_hw368 : k0_chk368 v1520 v1552), ∀ a x, ((![v1520, v1552] : Fin 2 → IVec S16 32) a x).toNat < S64x96.size a := fun v1520 v1552 k0_hw368 => k0_hw368
@[reducible] def k0_t12_loop (v112 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v112 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let v202 : BitVec 32 := Scalar.addi c0_i32_92 v201
  let c1_i32_95 : BitVec 32 := 1#32
  ⟨v205, v202, c1_i32_95⟩
def k0_off428 (v112 : BitVec 32) (arg19 : BitVec 32) (k0_t12 : Fin (k0_t12_loop v112 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v112 v190
  let c1024_i32_88 : BitVec 32 := 1024#32
  let v195 : BitVec 32 := Scalar.muli v185 c1024_i32_88
  let v196 : BitVec 32 := Scalar.subi v191 v195
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_95 : BitVec 32 := 1#32
  let arg21 : BitVec 32 := Scf.iv v205 c1_i32_95 k0_t12
  let c16_i32_91 : BitVec 32 := 16#32
  let v206 : BitVec 32 := Scalar.muli arg21 c16_i32_91
  let v207 : BitVec 32 := Scalar.addi v194 v206
  let v208 : Index := Scalar.indexCast v207
  ![v208.toNat]

def k0_chk296 (v112 : BitVec 32) (arg19 : BitVec 32) : Prop :=
  ((k0_t11_loop v112 arg19).OK) ∧
  (∀ k0_t11 : Fin (k0_t11_loop v112 arg19).trips, ∀ a, (k0_off347 v112 arg19 k0_t11) a + S16.size a ≤ S1024.size a) ∧
  ((k0_t12_loop v112 arg19).OK) ∧
  (∀ k0_t12 : Fin (k0_t12_loop v112 arg19).trips, ∀ a, (k0_off428 v112 arg19 k0_t12) a + S16.size a ≤ S1024.size a)
theorem k0_t11_ok : ∀ (v112 : BitVec 32) (arg19 : BitVec 32) (k0_hw296 : k0_chk296 v112 arg19), (k0_t11_loop v112 arg19).OK := fun v112 arg19 k0_hw296 => k0_hw296.1
theorem k0_off347_inb : ∀ (v112 : BitVec 32) (arg19 : BitVec 32) (k0_hw296 : k0_chk296 v112 arg19) (k0_t11 : Fin (k0_t11_loop v112 arg19).trips), ∀ a, (k0_off347 v112 arg19 k0_t11) a + S16.size a ≤ S1024.size a := fun v112 arg19 k0_hw296 k0_t11 => k0_hw296.2.1 k0_t11
theorem k0_t12_ok : ∀ (v112 : BitVec 32) (arg19 : BitVec 32) (k0_hw296 : k0_chk296 v112 arg19), (k0_t12_loop v112 arg19).OK := fun v112 arg19 k0_hw296 => k0_hw296.2.2.1
theorem k0_off428_inb : ∀ (v112 : BitVec 32) (arg19 : BitVec 32) (k0_hw296 : k0_chk296 v112 arg19) (k0_t12 : Fin (k0_t12_loop v112 arg19).trips), ∀ a, (k0_off428 v112 arg19 k0_t12) a + S16.size a ≤ S1024.size a := fun v112 arg19 k0_hw296 k0_t12 => k0_hw296.2.2.2 k0_t12

def k0_mult89 (v240 : BitVec 32) : BitVec 32 :=
  v240

def k0_off429 (v240 : BitVec 32) : Fin 1 → Nat :=
  let v241 : BitVec 32 := v240
  let v242 : Index := Scalar.indexCast v241
  ![v242.toNat]

def k0_chk369 (v240 : BitVec 32) : Prop :=
  (8 ∣ (k0_mult89 v240).toNat) ∧
  (∀ a, (k0_off429 v240) a + S16.size a ≤ S101376.size a)
theorem k0_mult89_dvd : ∀ (v240 : BitVec 32) (k0_hw369 : k0_chk369 v240), 8 ∣ (k0_mult89 v240).toNat := fun v240 k0_hw369 => k0_hw369.1
theorem k0_off429_inb : ∀ (v240 : BitVec 32) (k0_hw369 : k0_chk369 v240), ∀ a, (k0_off429 v240) a + S16.size a ≤ S101376.size a := fun v240 k0_hw369 => k0_hw369.2

def k0_off430 (v238 : BitVec 32) : Fin 2 → Nat :=
  let v264 : Index := Scalar.indexCast v238
  let c0 : Index := 0#32
  ![v264.toNat, 0]

def k0_off431 (v238 : BitVec 32) : Fin 2 → Nat :=
  let v270 : Index := Scalar.indexCast v238
  let c16 : Index := 16#32
  ![v270.toNat, 16]
def k0_off432 (v238 : BitVec 32) : Fin 2 → Nat :=
  let v276 : Index := Scalar.indexCast v238
  let c32 : Index := 32#32
  ![v276.toNat, 32]
def k0_off433 (v238 : BitVec 32) : Fin 2 → Nat :=
  let v282 : Index := Scalar.indexCast v238
  let c48 : Index := 48#32
  ![v282.toNat, 48]

def k0_chk370 (v238 : BitVec 32) : Prop :=
  (∀ a, (k0_off430 v238) a + S1x16.size a ≤ S64x96.size a) ∧
  (∀ a, (k0_off431 v238) a + S1x16.size a ≤ S64x96.size a) ∧
  (∀ a, (k0_off432 v238) a + S1x16.size a ≤ S64x96.size a) ∧
  (∀ a, (k0_off433 v238) a + S1x16.size a ≤ S64x96.size a)
theorem k0_off430_inb : ∀ (v238 : BitVec 32) (k0_hw370 : k0_chk370 v238), ∀ a, (k0_off430 v238) a + S1x16.size a ≤ S64x96.size a := fun v238 k0_hw370 => k0_hw370.1
theorem k0_off431_inb : ∀ (v238 : BitVec 32) (k0_hw370 : k0_chk370 v238), ∀ a, (k0_off431 v238) a + S1x16.size a ≤ S64x96.size a := fun v238 k0_hw370 => k0_hw370.2.1
theorem k0_off432_inb : ∀ (v238 : BitVec 32) (k0_hw370 : k0_chk370 v238), ∀ a, (k0_off432 v238) a + S1x16.size a ≤ S64x96.size a := fun v238 k0_hw370 => k0_hw370.2.2.1
theorem k0_off433_inb : ∀ (v238 : BitVec 32) (k0_hw370 : k0_chk370 v238), ∀ a, (k0_off433 v238) a + S1x16.size a ≤ S64x96.size a := fun v238 k0_hw370 => k0_hw370.2.2.2

def k0_mult90 (v294 : BitVec 32) : BitVec 32 :=
  v294

def k0_off434 (v294 : BitVec 32) : Fin 1 → Nat :=
  let v295 : BitVec 32 := v294
  let v296 : Index := Scalar.indexCast v295
  ![v296.toNat]

def k0_chk371 (v294 : BitVec 32) : Prop :=
  (8 ∣ (k0_mult90 v294).toNat) ∧
  (∀ a, (k0_off434 v294) a + S16.size a ≤ S101376.size a)
theorem k0_mult90_dvd : ∀ (v294 : BitVec 32) (k0_hw371 : k0_chk371 v294), 8 ∣ (k0_mult90 v294).toNat := fun v294 k0_hw371 => k0_hw371.1
theorem k0_off434_inb : ∀ (v294 : BitVec 32) (k0_hw371 : k0_chk371 v294), ∀ a, (k0_off434 v294) a + S16.size a ≤ S101376.size a := fun v294 k0_hw371 => k0_hw371.2

def k0_off435 (v292 : BitVec 32) : Fin 2 → Nat :=
  let v318 : Index := Scalar.indexCast v292
  let c0_113 : Index := 0#32
  ![v318.toNat, 0]

def k0_off436 (v292 : BitVec 32) : Fin 2 → Nat :=
  let v324 : Index := Scalar.indexCast v292
  let c16_115 : Index := 16#32
  ![v324.toNat, 16]
def k0_off437 (v292 : BitVec 32) : Fin 2 → Nat :=
  let v330 : Index := Scalar.indexCast v292
  let c32_117 : Index := 32#32
  ![v330.toNat, 32]
def k0_off438 (v292 : BitVec 32) : Fin 2 → Nat :=
  let v336 : Index := Scalar.indexCast v292
  let c48_119 : Index := 48#32
  ![v336.toNat, 48]

def k0_chk372 (v292 : BitVec 32) : Prop :=
  (∀ a, (k0_off435 v292) a + S1x16.size a ≤ S64x96.size a) ∧
  (∀ a, (k0_off436 v292) a + S1x16.size a ≤ S64x96.size a) ∧
  (∀ a, (k0_off437 v292) a + S1x16.size a ≤ S64x96.size a) ∧
  (∀ a, (k0_off438 v292) a + S1x16.size a ≤ S64x96.size a)
theorem k0_off435_inb : ∀ (v292 : BitVec 32) (k0_hw372 : k0_chk372 v292), ∀ a, (k0_off435 v292) a + S1x16.size a ≤ S64x96.size a := fun v292 k0_hw372 => k0_hw372.1
theorem k0_off436_inb : ∀ (v292 : BitVec 32) (k0_hw372 : k0_chk372 v292), ∀ a, (k0_off436 v292) a + S1x16.size a ≤ S64x96.size a := fun v292 k0_hw372 => k0_hw372.2.1
theorem k0_off437_inb : ∀ (v292 : BitVec 32) (k0_hw372 : k0_chk372 v292), ∀ a, (k0_off437 v292) a + S1x16.size a ≤ S64x96.size a := fun v292 k0_hw372 => k0_hw372.2.2.1
theorem k0_off438_inb : ∀ (v292 : BitVec 32) (k0_hw372 : k0_chk372 v292), ∀ a, (k0_off438 v292) a + S1x16.size a ≤ S64x96.size a := fun v292 k0_hw372 => k0_hw372.2.2.2

def k0_chk373 (v351 : IVec S16 32) : Prop :=
  (∀ a x, ((![v351] : Fin 1 → IVec S16 32) a x).toNat < S101376.size a)
theorem k0_idx201_inb : ∀ (v351 : IVec S16 32) (k0_hw373 : k0_chk373 v351), ∀ a x, ((![v351] : Fin 1 → IVec S16 32) a x).toNat < S101376.size a := fun v351 k0_hw373 => k0_hw373

def k0_chk374 (v365 : IVec S16 32) (v388 : IVec S16 32) : Prop :=
  (∀ a x, ((![v365, v388] : Fin 2 → IVec S16 32) a x).toNat < S64x96.size a)
theorem k0_idx202_inb : ∀ (v365 : IVec S16 32) (v388 : IVec S16 32) (k0_hw374 : k0_chk374 v365 v388), ∀ a x, ((![v365, v388] : Fin 2 → IVec S16 32) a x).toNat < S64x96.size a := fun v365 v388 k0_hw374 => k0_hw374

def k0_chk375 (v365 : IVec S16 32) (v391 : IVec S16 32) : Prop :=
  (∀ a x, ((![v365, v391] : Fin 2 → IVec S16 32) a x).toNat < S64x96.size a)
theorem k0_idx203_inb : ∀ (v365 : IVec S16 32) (v391 : IVec S16 32) (k0_hw375 : k0_chk375 v365 v391), ∀ a x, ((![v365, v391] : Fin 2 → IVec S16 32) a x).toNat < S64x96.size a := fun v365 v391 k0_hw375 => k0_hw375

def k0_chk376 (v365 : IVec S16 32) (v394 : IVec S16 32) : Prop :=
  (∀ a x, ((![v365, v394] : Fin 2 → IVec S16 32) a x).toNat < S64x96.size a)
theorem k0_idx204_inb : ∀ (v365 : IVec S16 32) (v394 : IVec S16 32) (k0_hw376 : k0_chk376 v365 v394), ∀ a x, ((![v365, v394] : Fin 2 → IVec S16 32) a x).toNat < S64x96.size a := fun v365 v394 k0_hw376 => k0_hw376

def k0_chk377 (v365 : IVec S16 32) (v397 : IVec S16 32) : Prop :=
  (∀ a x, ((![v365, v397] : Fin 2 → IVec S16 32) a x).toNat < S64x96.size a)
theorem k0_idx205_inb : ∀ (v365 : IVec S16 32) (v397 : IVec S16 32) (k0_hw377 : k0_chk377 v365 v397), ∀ a x, ((![v365, v397] : Fin 2 → IVec S16 32) a x).toNat < S64x96.size a := fun v365 v397 k0_hw377 => k0_hw377
def k0_mult91 (v405 : BitVec 32) : BitVec 32 :=
  v405

def k0_off439 (v405 : BitVec 32) : Fin 1 → Nat :=
  let v406 : BitVec 32 := v405
  let v407 : Index := Scalar.indexCast v406
  ![v407.toNat]

def k0_chk378 (v405 : BitVec 32) : Prop :=
  (8 ∣ (k0_mult91 v405).toNat) ∧
  (∀ a, (k0_off439 v405) a + S16.size a ≤ S101376.size a)
theorem k0_mult91_dvd : ∀ (v405 : BitVec 32) (k0_hw378 : k0_chk378 v405), 8 ∣ (k0_mult91 v405).toNat := fun v405 k0_hw378 => k0_hw378.1
theorem k0_off439_inb : ∀ (v405 : BitVec 32) (k0_hw378 : k0_chk378 v405), ∀ a, (k0_off439 v405) a + S16.size a ≤ S101376.size a := fun v405 k0_hw378 => k0_hw378.2

def k0_off440 (v403 : BitVec 32) : Fin 2 → Nat :=
  let v429 : Index := Scalar.indexCast v403
  let c0_131 : Index := 0#32
  ![v429.toNat, 0]

def k0_off441 (v403 : BitVec 32) : Fin 2 → Nat :=
  let v435 : Index := Scalar.indexCast v403
  let c16_133 : Index := 16#32
  ![v435.toNat, 16]
def k0_off442 (v403 : BitVec 32) : Fin 2 → Nat :=
  let v441 : Index := Scalar.indexCast v403
  let c32_135 : Index := 32#32
  ![v441.toNat, 32]
def k0_off443 (v403 : BitVec 32) : Fin 2 → Nat :=
  let v447 : Index := Scalar.indexCast v403
  let c48_137 : Index := 48#32
  ![v447.toNat, 48]

def k0_chk379 (v403 : BitVec 32) : Prop :=
  (∀ a, (k0_off440 v403) a + S1x16.size a ≤ S64x96.size a) ∧
  (∀ a, (k0_off441 v403) a + S1x16.size a ≤ S64x96.size a) ∧
  (∀ a, (k0_off442 v403) a + S1x16.size a ≤ S64x96.size a) ∧
  (∀ a, (k0_off443 v403) a + S1x16.size a ≤ S64x96.size a)
theorem k0_off440_inb : ∀ (v403 : BitVec 32) (k0_hw379 : k0_chk379 v403), ∀ a, (k0_off440 v403) a + S1x16.size a ≤ S64x96.size a := fun v403 k0_hw379 => k0_hw379.1
theorem k0_off441_inb : ∀ (v403 : BitVec 32) (k0_hw379 : k0_chk379 v403), ∀ a, (k0_off441 v403) a + S1x16.size a ≤ S64x96.size a := fun v403 k0_hw379 => k0_hw379.2.1
theorem k0_off442_inb : ∀ (v403 : BitVec 32) (k0_hw379 : k0_chk379 v403), ∀ a, (k0_off442 v403) a + S1x16.size a ≤ S64x96.size a := fun v403 k0_hw379 => k0_hw379.2.2.1
theorem k0_off443_inb : ∀ (v403 : BitVec 32) (k0_hw379 : k0_chk379 v403), ∀ a, (k0_off443 v403) a + S1x16.size a ≤ S64x96.size a := fun v403 k0_hw379 => k0_hw379.2.2.2

def k0_mult92 (v459 : BitVec 32) : BitVec 32 :=
  v459

def k0_off444 (v459 : BitVec 32) : Fin 1 → Nat :=
  let v460 : BitVec 32 := v459
  let v461 : Index := Scalar.indexCast v460
  ![v461.toNat]

def k0_chk380 (v459 : BitVec 32) : Prop :=
  (8 ∣ (k0_mult92 v459).toNat) ∧
  (∀ a, (k0_off444 v459) a + S16.size a ≤ S101376.size a)
theorem k0_mult92_dvd : ∀ (v459 : BitVec 32) (k0_hw380 : k0_chk380 v459), 8 ∣ (k0_mult92 v459).toNat := fun v459 k0_hw380 => k0_hw380.1
theorem k0_off444_inb : ∀ (v459 : BitVec 32) (k0_hw380 : k0_chk380 v459), ∀ a, (k0_off444 v459) a + S16.size a ≤ S101376.size a := fun v459 k0_hw380 => k0_hw380.2

def k0_off445 (v457 : BitVec 32) : Fin 2 → Nat :=
  let v483 : Index := Scalar.indexCast v457
  let c0_143 : Index := 0#32
  ![v483.toNat, 0]

def k0_off446 (v457 : BitVec 32) : Fin 2 → Nat :=
  let v489 : Index := Scalar.indexCast v457
  let c16_145 : Index := 16#32
  ![v489.toNat, 16]
def k0_off447 (v457 : BitVec 32) : Fin 2 → Nat :=
  let v495 : Index := Scalar.indexCast v457
  let c32_147 : Index := 32#32
  ![v495.toNat, 32]
def k0_off448 (v457 : BitVec 32) : Fin 2 → Nat :=
  let v501 : Index := Scalar.indexCast v457
  let c48_149 : Index := 48#32
  ![v501.toNat, 48]

def k0_chk381 (v457 : BitVec 32) : Prop :=
  (∀ a, (k0_off445 v457) a + S1x16.size a ≤ S64x96.size a) ∧
  (∀ a, (k0_off446 v457) a + S1x16.size a ≤ S64x96.size a) ∧
  (∀ a, (k0_off447 v457) a + S1x16.size a ≤ S64x96.size a) ∧
  (∀ a, (k0_off448 v457) a + S1x16.size a ≤ S64x96.size a)
theorem k0_off445_inb : ∀ (v457 : BitVec 32) (k0_hw381 : k0_chk381 v457), ∀ a, (k0_off445 v457) a + S1x16.size a ≤ S64x96.size a := fun v457 k0_hw381 => k0_hw381.1
theorem k0_off446_inb : ∀ (v457 : BitVec 32) (k0_hw381 : k0_chk381 v457), ∀ a, (k0_off446 v457) a + S1x16.size a ≤ S64x96.size a := fun v457 k0_hw381 => k0_hw381.2.1
theorem k0_off447_inb : ∀ (v457 : BitVec 32) (k0_hw381 : k0_chk381 v457), ∀ a, (k0_off447 v457) a + S1x16.size a ≤ S64x96.size a := fun v457 k0_hw381 => k0_hw381.2.2.1
theorem k0_off448_inb : ∀ (v457 : BitVec 32) (k0_hw381 : k0_chk381 v457), ∀ a, (k0_off448 v457) a + S1x16.size a ≤ S64x96.size a := fun v457 k0_hw381 => k0_hw381.2.2.2

def k0_chk382 (v516 : IVec S16 32) : Prop :=
  (∀ a x, ((![v516] : Fin 1 → IVec S16 32) a x).toNat < S101376.size a)
theorem k0_idx206_inb : ∀ (v516 : IVec S16 32) (k0_hw382 : k0_chk382 v516), ∀ a x, ((![v516] : Fin 1 → IVec S16 32) a x).toNat < S101376.size a := fun v516 k0_hw382 => k0_hw382

def k0_chk383 (v530 : IVec S16 32) (v553 : IVec S16 32) : Prop :=
  (∀ a x, ((![v530, v553] : Fin 2 → IVec S16 32) a x).toNat < S64x96.size a)
theorem k0_idx207_inb : ∀ (v530 : IVec S16 32) (v553 : IVec S16 32) (k0_hw383 : k0_chk383 v530 v553), ∀ a x, ((![v530, v553] : Fin 2 → IVec S16 32) a x).toNat < S64x96.size a := fun v530 v553 k0_hw383 => k0_hw383

def k0_chk384 (v530 : IVec S16 32) (v556 : IVec S16 32) : Prop :=
  (∀ a x, ((![v530, v556] : Fin 2 → IVec S16 32) a x).toNat < S64x96.size a)
theorem k0_idx208_inb : ∀ (v530 : IVec S16 32) (v556 : IVec S16 32) (k0_hw384 : k0_chk384 v530 v556), ∀ a x, ((![v530, v556] : Fin 2 → IVec S16 32) a x).toNat < S64x96.size a := fun v530 v556 k0_hw384 => k0_hw384

def k0_chk385 (v530 : IVec S16 32) (v559 : IVec S16 32) : Prop :=
  (∀ a x, ((![v530, v559] : Fin 2 → IVec S16 32) a x).toNat < S64x96.size a)
theorem k0_idx209_inb : ∀ (v530 : IVec S16 32) (v559 : IVec S16 32) (k0_hw385 : k0_chk385 v530 v559), ∀ a x, ((![v530, v559] : Fin 2 → IVec S16 32) a x).toNat < S64x96.size a := fun v530 v559 k0_hw385 => k0_hw385

def k0_chk386 (v530 : IVec S16 32) (v562 : IVec S16 32) : Prop :=
  (∀ a x, ((![v530, v562] : Fin 2 → IVec S16 32) a x).toNat < S64x96.size a)
theorem k0_idx210_inb : ∀ (v530 : IVec S16 32) (v562 : IVec S16 32) (k0_hw386 : k0_chk386 v530 v562), ∀ a x, ((![v530, v562] : Fin 2 → IVec S16 32) a x).toNat < S64x96.size a := fun v530 v562 k0_hw386 => k0_hw386
def k0_mult93 (v570 : BitVec 32) : BitVec 32 :=
  v570

def k0_off449 (v570 : BitVec 32) : Fin 1 → Nat :=
  let v571 : BitVec 32 := v570
  let v572 : Index := Scalar.indexCast v571
  ![v572.toNat]

def k0_chk387 (v570 : BitVec 32) : Prop :=
  (8 ∣ (k0_mult93 v570).toNat) ∧
  (∀ a, (k0_off449 v570) a + S16.size a ≤ S101376.size a)
theorem k0_mult93_dvd : ∀ (v570 : BitVec 32) (k0_hw387 : k0_chk387 v570), 8 ∣ (k0_mult93 v570).toNat := fun v570 k0_hw387 => k0_hw387.1
theorem k0_off449_inb : ∀ (v570 : BitVec 32) (k0_hw387 : k0_chk387 v570), ∀ a, (k0_off449 v570) a + S16.size a ≤ S101376.size a := fun v570 k0_hw387 => k0_hw387.2

def k0_off450 (v568 : BitVec 32) : Fin 2 → Nat :=
  let v594 : Index := Scalar.indexCast v568
  let c0_164 : Index := 0#32
  ![v594.toNat, 0]

def k0_off451 (v568 : BitVec 32) : Fin 2 → Nat :=
  let v600 : Index := Scalar.indexCast v568
  let c16_166 : Index := 16#32
  ![v600.toNat, 16]
def k0_off452 (v568 : BitVec 32) : Fin 2 → Nat :=
  let v606 : Index := Scalar.indexCast v568
  let c32_168 : Index := 32#32
  ![v606.toNat, 32]
def k0_off453 (v568 : BitVec 32) : Fin 2 → Nat :=
  let v612 : Index := Scalar.indexCast v568
  let c48_170 : Index := 48#32
  ![v612.toNat, 48]

def k0_chk388 (v568 : BitVec 32) : Prop :=
  (∀ a, (k0_off450 v568) a + S1x16.size a ≤ S64x96.size a) ∧
  (∀ a, (k0_off451 v568) a + S1x16.size a ≤ S64x96.size a) ∧
  (∀ a, (k0_off452 v568) a + S1x16.size a ≤ S64x96.size a) ∧
  (∀ a, (k0_off453 v568) a + S1x16.size a ≤ S64x96.size a)
theorem k0_off450_inb : ∀ (v568 : BitVec 32) (k0_hw388 : k0_chk388 v568), ∀ a, (k0_off450 v568) a + S1x16.size a ≤ S64x96.size a := fun v568 k0_hw388 => k0_hw388.1
theorem k0_off451_inb : ∀ (v568 : BitVec 32) (k0_hw388 : k0_chk388 v568), ∀ a, (k0_off451 v568) a + S1x16.size a ≤ S64x96.size a := fun v568 k0_hw388 => k0_hw388.2.1
theorem k0_off452_inb : ∀ (v568 : BitVec 32) (k0_hw388 : k0_chk388 v568), ∀ a, (k0_off452 v568) a + S1x16.size a ≤ S64x96.size a := fun v568 k0_hw388 => k0_hw388.2.2.1
theorem k0_off453_inb : ∀ (v568 : BitVec 32) (k0_hw388 : k0_chk388 v568), ∀ a, (k0_off453 v568) a + S1x16.size a ≤ S64x96.size a := fun v568 k0_hw388 => k0_hw388.2.2.2

def k0_mult94 (v624 : BitVec 32) : BitVec 32 :=
  v624

def k0_off454 (v624 : BitVec 32) : Fin 1 → Nat :=
  let v625 : BitVec 32 := v624
  let v626 : Index := Scalar.indexCast v625
  ![v626.toNat]

def k0_chk389 (v624 : BitVec 32) : Prop :=
  (8 ∣ (k0_mult94 v624).toNat) ∧
  (∀ a, (k0_off454 v624) a + S16.size a ≤ S101376.size a)
theorem k0_mult94_dvd : ∀ (v624 : BitVec 32) (k0_hw389 : k0_chk389 v624), 8 ∣ (k0_mult94 v624).toNat := fun v624 k0_hw389 => k0_hw389.1
theorem k0_off454_inb : ∀ (v624 : BitVec 32) (k0_hw389 : k0_chk389 v624), ∀ a, (k0_off454 v624) a + S16.size a ≤ S101376.size a := fun v624 k0_hw389 => k0_hw389.2

def k0_off455 (v622 : BitVec 32) : Fin 2 → Nat :=
  let v648 : Index := Scalar.indexCast v622
  let c0_176 : Index := 0#32
  ![v648.toNat, 0]

def k0_off456 (v622 : BitVec 32) : Fin 2 → Nat :=
  let v654 : Index := Scalar.indexCast v622
  let c16_178 : Index := 16#32
  ![v654.toNat, 16]
def k0_off457 (v622 : BitVec 32) : Fin 2 → Nat :=
  let v660 : Index := Scalar.indexCast v622
  let c32_180 : Index := 32#32
  ![v660.toNat, 32]
def k0_off458 (v622 : BitVec 32) : Fin 2 → Nat :=
  let v666 : Index := Scalar.indexCast v622
  let c48_182 : Index := 48#32
  ![v666.toNat, 48]

def k0_chk390 (v622 : BitVec 32) : Prop :=
  (∀ a, (k0_off455 v622) a + S1x16.size a ≤ S64x96.size a) ∧
  (∀ a, (k0_off456 v622) a + S1x16.size a ≤ S64x96.size a) ∧
  (∀ a, (k0_off457 v622) a + S1x16.size a ≤ S64x96.size a) ∧
  (∀ a, (k0_off458 v622) a + S1x16.size a ≤ S64x96.size a)
theorem k0_off455_inb : ∀ (v622 : BitVec 32) (k0_hw390 : k0_chk390 v622), ∀ a, (k0_off455 v622) a + S1x16.size a ≤ S64x96.size a := fun v622 k0_hw390 => k0_hw390.1
theorem k0_off456_inb : ∀ (v622 : BitVec 32) (k0_hw390 : k0_chk390 v622), ∀ a, (k0_off456 v622) a + S1x16.size a ≤ S64x96.size a := fun v622 k0_hw390 => k0_hw390.2.1
theorem k0_off457_inb : ∀ (v622 : BitVec 32) (k0_hw390 : k0_chk390 v622), ∀ a, (k0_off457 v622) a + S1x16.size a ≤ S64x96.size a := fun v622 k0_hw390 => k0_hw390.2.2.1
theorem k0_off458_inb : ∀ (v622 : BitVec 32) (k0_hw390 : k0_chk390 v622), ∀ a, (k0_off458 v622) a + S1x16.size a ≤ S64x96.size a := fun v622 k0_hw390 => k0_hw390.2.2.2

def k0_chk391 (v681 : IVec S16 32) : Prop :=
  (∀ a x, ((![v681] : Fin 1 → IVec S16 32) a x).toNat < S101376.size a)
theorem k0_idx211_inb : ∀ (v681 : IVec S16 32) (k0_hw391 : k0_chk391 v681), ∀ a x, ((![v681] : Fin 1 → IVec S16 32) a x).toNat < S101376.size a := fun v681 k0_hw391 => k0_hw391

def k0_chk392 (v695 : IVec S16 32) (v718 : IVec S16 32) : Prop :=
  (∀ a x, ((![v695, v718] : Fin 2 → IVec S16 32) a x).toNat < S64x96.size a)
theorem k0_idx212_inb : ∀ (v695 : IVec S16 32) (v718 : IVec S16 32) (k0_hw392 : k0_chk392 v695 v718), ∀ a x, ((![v695, v718] : Fin 2 → IVec S16 32) a x).toNat < S64x96.size a := fun v695 v718 k0_hw392 => k0_hw392

def k0_chk393 (v695 : IVec S16 32) (v721 : IVec S16 32) : Prop :=
  (∀ a x, ((![v695, v721] : Fin 2 → IVec S16 32) a x).toNat < S64x96.size a)
theorem k0_idx213_inb : ∀ (v695 : IVec S16 32) (v721 : IVec S16 32) (k0_hw393 : k0_chk393 v695 v721), ∀ a x, ((![v695, v721] : Fin 2 → IVec S16 32) a x).toNat < S64x96.size a := fun v695 v721 k0_hw393 => k0_hw393

def k0_chk394 (v695 : IVec S16 32) (v724 : IVec S16 32) : Prop :=
  (∀ a x, ((![v695, v724] : Fin 2 → IVec S16 32) a x).toNat < S64x96.size a)
theorem k0_idx214_inb : ∀ (v695 : IVec S16 32) (v724 : IVec S16 32) (k0_hw394 : k0_chk394 v695 v724), ∀ a x, ((![v695, v724] : Fin 2 → IVec S16 32) a x).toNat < S64x96.size a := fun v695 v724 k0_hw394 => k0_hw394

def k0_chk395 (v695 : IVec S16 32) (v727 : IVec S16 32) : Prop :=
  (∀ a x, ((![v695, v727] : Fin 2 → IVec S16 32) a x).toNat < S64x96.size a)
theorem k0_idx215_inb : ∀ (v695 : IVec S16 32) (v727 : IVec S16 32) (k0_hw395 : k0_chk395 v695 v727), ∀ a x, ((![v695, v727] : Fin 2 → IVec S16 32) a x).toNat < S64x96.size a := fun v695 v727 k0_hw395 => k0_hw395
def k0_mult95 (v735 : BitVec 32) : BitVec 32 :=
  v735

def k0_off459 (v735 : BitVec 32) : Fin 1 → Nat :=
  let v736 : BitVec 32 := v735
  let v737 : Index := Scalar.indexCast v736
  ![v737.toNat]

def k0_chk396 (v735 : BitVec 32) : Prop :=
  (8 ∣ (k0_mult95 v735).toNat) ∧
  (∀ a, (k0_off459 v735) a + S16.size a ≤ S101376.size a)
theorem k0_mult95_dvd : ∀ (v735 : BitVec 32) (k0_hw396 : k0_chk396 v735), 8 ∣ (k0_mult95 v735).toNat := fun v735 k0_hw396 => k0_hw396.1
theorem k0_off459_inb : ∀ (v735 : BitVec 32) (k0_hw396 : k0_chk396 v735), ∀ a, (k0_off459 v735) a + S16.size a ≤ S101376.size a := fun v735 k0_hw396 => k0_hw396.2

def k0_off460 (v733 : BitVec 32) : Fin 2 → Nat :=
  let v759 : Index := Scalar.indexCast v733
  let c0_197 : Index := 0#32
  ![v759.toNat, 0]

def k0_off461 (v733 : BitVec 32) : Fin 2 → Nat :=
  let v765 : Index := Scalar.indexCast v733
  let c16_199 : Index := 16#32
  ![v765.toNat, 16]
def k0_off462 (v733 : BitVec 32) : Fin 2 → Nat :=
  let v771 : Index := Scalar.indexCast v733
  let c32_201 : Index := 32#32
  ![v771.toNat, 32]
def k0_off463 (v733 : BitVec 32) : Fin 2 → Nat :=
  let v777 : Index := Scalar.indexCast v733
  let c48_203 : Index := 48#32
  ![v777.toNat, 48]

def k0_chk397 (v733 : BitVec 32) : Prop :=
  (∀ a, (k0_off460 v733) a + S1x16.size a ≤ S64x96.size a) ∧
  (∀ a, (k0_off461 v733) a + S1x16.size a ≤ S64x96.size a) ∧
  (∀ a, (k0_off462 v733) a + S1x16.size a ≤ S64x96.size a) ∧
  (∀ a, (k0_off463 v733) a + S1x16.size a ≤ S64x96.size a)
theorem k0_off460_inb : ∀ (v733 : BitVec 32) (k0_hw397 : k0_chk397 v733), ∀ a, (k0_off460 v733) a + S1x16.size a ≤ S64x96.size a := fun v733 k0_hw397 => k0_hw397.1
theorem k0_off461_inb : ∀ (v733 : BitVec 32) (k0_hw397 : k0_chk397 v733), ∀ a, (k0_off461 v733) a + S1x16.size a ≤ S64x96.size a := fun v733 k0_hw397 => k0_hw397.2.1
theorem k0_off462_inb : ∀ (v733 : BitVec 32) (k0_hw397 : k0_chk397 v733), ∀ a, (k0_off462 v733) a + S1x16.size a ≤ S64x96.size a := fun v733 k0_hw397 => k0_hw397.2.2.1
theorem k0_off463_inb : ∀ (v733 : BitVec 32) (k0_hw397 : k0_chk397 v733), ∀ a, (k0_off463 v733) a + S1x16.size a ≤ S64x96.size a := fun v733 k0_hw397 => k0_hw397.2.2.2

def k0_mult96 (v789 : BitVec 32) : BitVec 32 :=
  v789

def k0_off464 (v789 : BitVec 32) : Fin 1 → Nat :=
  let v790 : BitVec 32 := v789
  let v791 : Index := Scalar.indexCast v790
  ![v791.toNat]

def k0_chk398 (v789 : BitVec 32) : Prop :=
  (8 ∣ (k0_mult96 v789).toNat) ∧
  (∀ a, (k0_off464 v789) a + S16.size a ≤ S101376.size a)
theorem k0_mult96_dvd : ∀ (v789 : BitVec 32) (k0_hw398 : k0_chk398 v789), 8 ∣ (k0_mult96 v789).toNat := fun v789 k0_hw398 => k0_hw398.1
theorem k0_off464_inb : ∀ (v789 : BitVec 32) (k0_hw398 : k0_chk398 v789), ∀ a, (k0_off464 v789) a + S16.size a ≤ S101376.size a := fun v789 k0_hw398 => k0_hw398.2

def k0_off465 (v787 : BitVec 32) : Fin 2 → Nat :=
  let v813 : Index := Scalar.indexCast v787
  let c0_209 : Index := 0#32
  ![v813.toNat, 0]

def k0_off466 (v787 : BitVec 32) : Fin 2 → Nat :=
  let v819 : Index := Scalar.indexCast v787
  let c16_211 : Index := 16#32
  ![v819.toNat, 16]
def k0_off467 (v787 : BitVec 32) : Fin 2 → Nat :=
  let v825 : Index := Scalar.indexCast v787
  let c32_213 : Index := 32#32
  ![v825.toNat, 32]
def k0_off468 (v787 : BitVec 32) : Fin 2 → Nat :=
  let v831 : Index := Scalar.indexCast v787
  let c48_215 : Index := 48#32
  ![v831.toNat, 48]

def k0_chk399 (v787 : BitVec 32) : Prop :=
  (∀ a, (k0_off465 v787) a + S1x16.size a ≤ S64x96.size a) ∧
  (∀ a, (k0_off466 v787) a + S1x16.size a ≤ S64x96.size a) ∧
  (∀ a, (k0_off467 v787) a + S1x16.size a ≤ S64x96.size a) ∧
  (∀ a, (k0_off468 v787) a + S1x16.size a ≤ S64x96.size a)
theorem k0_off465_inb : ∀ (v787 : BitVec 32) (k0_hw399 : k0_chk399 v787), ∀ a, (k0_off465 v787) a + S1x16.size a ≤ S64x96.size a := fun v787 k0_hw399 => k0_hw399.1
theorem k0_off466_inb : ∀ (v787 : BitVec 32) (k0_hw399 : k0_chk399 v787), ∀ a, (k0_off466 v787) a + S1x16.size a ≤ S64x96.size a := fun v787 k0_hw399 => k0_hw399.2.1
theorem k0_off467_inb : ∀ (v787 : BitVec 32) (k0_hw399 : k0_chk399 v787), ∀ a, (k0_off467 v787) a + S1x16.size a ≤ S64x96.size a := fun v787 k0_hw399 => k0_hw399.2.2.1
theorem k0_off468_inb : ∀ (v787 : BitVec 32) (k0_hw399 : k0_chk399 v787), ∀ a, (k0_off468 v787) a + S1x16.size a ≤ S64x96.size a := fun v787 k0_hw399 => k0_hw399.2.2.2

def k0_chk400 (v846 : IVec S16 32) : Prop :=
  (∀ a x, ((![v846] : Fin 1 → IVec S16 32) a x).toNat < S101376.size a)
theorem k0_idx216_inb : ∀ (v846 : IVec S16 32) (k0_hw400 : k0_chk400 v846), ∀ a x, ((![v846] : Fin 1 → IVec S16 32) a x).toNat < S101376.size a := fun v846 k0_hw400 => k0_hw400

def k0_chk401 (v860 : IVec S16 32) (v883 : IVec S16 32) : Prop :=
  (∀ a x, ((![v860, v883] : Fin 2 → IVec S16 32) a x).toNat < S64x96.size a)
theorem k0_idx217_inb : ∀ (v860 : IVec S16 32) (v883 : IVec S16 32) (k0_hw401 : k0_chk401 v860 v883), ∀ a x, ((![v860, v883] : Fin 2 → IVec S16 32) a x).toNat < S64x96.size a := fun v860 v883 k0_hw401 => k0_hw401

def k0_chk402 (v860 : IVec S16 32) (v886 : IVec S16 32) : Prop :=
  (∀ a x, ((![v860, v886] : Fin 2 → IVec S16 32) a x).toNat < S64x96.size a)
theorem k0_idx218_inb : ∀ (v860 : IVec S16 32) (v886 : IVec S16 32) (k0_hw402 : k0_chk402 v860 v886), ∀ a x, ((![v860, v886] : Fin 2 → IVec S16 32) a x).toNat < S64x96.size a := fun v860 v886 k0_hw402 => k0_hw402

def k0_chk403 (v860 : IVec S16 32) (v889 : IVec S16 32) : Prop :=
  (∀ a x, ((![v860, v889] : Fin 2 → IVec S16 32) a x).toNat < S64x96.size a)
theorem k0_idx219_inb : ∀ (v860 : IVec S16 32) (v889 : IVec S16 32) (k0_hw403 : k0_chk403 v860 v889), ∀ a x, ((![v860, v889] : Fin 2 → IVec S16 32) a x).toNat < S64x96.size a := fun v860 v889 k0_hw403 => k0_hw403

def k0_chk404 (v860 : IVec S16 32) (v892 : IVec S16 32) : Prop :=
  (∀ a x, ((![v860, v892] : Fin 2 → IVec S16 32) a x).toNat < S64x96.size a)
theorem k0_idx220_inb : ∀ (v860 : IVec S16 32) (v892 : IVec S16 32) (k0_hw404 : k0_chk404 v860 v892), ∀ a x, ((![v860, v892] : Fin 2 → IVec S16 32) a x).toNat < S64x96.size a := fun v860 v892 k0_hw404 => k0_hw404
def k0_mult97 (v900 : BitVec 32) : BitVec 32 :=
  v900

def k0_off469 (v900 : BitVec 32) : Fin 1 → Nat :=
  let v901 : BitVec 32 := v900
  let v902 : Index := Scalar.indexCast v901
  ![v902.toNat]

def k0_chk405 (v900 : BitVec 32) : Prop :=
  (8 ∣ (k0_mult97 v900).toNat) ∧
  (∀ a, (k0_off469 v900) a + S16.size a ≤ S101376.size a)
theorem k0_mult97_dvd : ∀ (v900 : BitVec 32) (k0_hw405 : k0_chk405 v900), 8 ∣ (k0_mult97 v900).toNat := fun v900 k0_hw405 => k0_hw405.1
theorem k0_off469_inb : ∀ (v900 : BitVec 32) (k0_hw405 : k0_chk405 v900), ∀ a, (k0_off469 v900) a + S16.size a ≤ S101376.size a := fun v900 k0_hw405 => k0_hw405.2

def k0_off470 (v898 : BitVec 32) : Fin 2 → Nat :=
  let v924 : Index := Scalar.indexCast v898
  let c0_230 : Index := 0#32
  ![v924.toNat, 0]

def k0_off471 (v898 : BitVec 32) : Fin 2 → Nat :=
  let v930 : Index := Scalar.indexCast v898
  let c16_232 : Index := 16#32
  ![v930.toNat, 16]
def k0_off472 (v898 : BitVec 32) : Fin 2 → Nat :=
  let v936 : Index := Scalar.indexCast v898
  let c32_234 : Index := 32#32
  ![v936.toNat, 32]
def k0_off473 (v898 : BitVec 32) : Fin 2 → Nat :=
  let v942 : Index := Scalar.indexCast v898
  let c48_236 : Index := 48#32
  ![v942.toNat, 48]

def k0_chk406 (v898 : BitVec 32) : Prop :=
  (∀ a, (k0_off470 v898) a + S1x16.size a ≤ S64x96.size a) ∧
  (∀ a, (k0_off471 v898) a + S1x16.size a ≤ S64x96.size a) ∧
  (∀ a, (k0_off472 v898) a + S1x16.size a ≤ S64x96.size a) ∧
  (∀ a, (k0_off473 v898) a + S1x16.size a ≤ S64x96.size a)
theorem k0_off470_inb : ∀ (v898 : BitVec 32) (k0_hw406 : k0_chk406 v898), ∀ a, (k0_off470 v898) a + S1x16.size a ≤ S64x96.size a := fun v898 k0_hw406 => k0_hw406.1
theorem k0_off471_inb : ∀ (v898 : BitVec 32) (k0_hw406 : k0_chk406 v898), ∀ a, (k0_off471 v898) a + S1x16.size a ≤ S64x96.size a := fun v898 k0_hw406 => k0_hw406.2.1
theorem k0_off472_inb : ∀ (v898 : BitVec 32) (k0_hw406 : k0_chk406 v898), ∀ a, (k0_off472 v898) a + S1x16.size a ≤ S64x96.size a := fun v898 k0_hw406 => k0_hw406.2.2.1
theorem k0_off473_inb : ∀ (v898 : BitVec 32) (k0_hw406 : k0_chk406 v898), ∀ a, (k0_off473 v898) a + S1x16.size a ≤ S64x96.size a := fun v898 k0_hw406 => k0_hw406.2.2.2

def k0_mult98 (v954 : BitVec 32) : BitVec 32 :=
  v954

def k0_off474 (v954 : BitVec 32) : Fin 1 → Nat :=
  let v955 : BitVec 32 := v954
  let v956 : Index := Scalar.indexCast v955
  ![v956.toNat]

def k0_chk407 (v954 : BitVec 32) : Prop :=
  (8 ∣ (k0_mult98 v954).toNat) ∧
  (∀ a, (k0_off474 v954) a + S16.size a ≤ S101376.size a)
theorem k0_mult98_dvd : ∀ (v954 : BitVec 32) (k0_hw407 : k0_chk407 v954), 8 ∣ (k0_mult98 v954).toNat := fun v954 k0_hw407 => k0_hw407.1
theorem k0_off474_inb : ∀ (v954 : BitVec 32) (k0_hw407 : k0_chk407 v954), ∀ a, (k0_off474 v954) a + S16.size a ≤ S101376.size a := fun v954 k0_hw407 => k0_hw407.2

def k0_off475 (v952 : BitVec 32) : Fin 2 → Nat :=
  let v978 : Index := Scalar.indexCast v952
  let c0_242 : Index := 0#32
  ![v978.toNat, 0]

def k0_off476 (v952 : BitVec 32) : Fin 2 → Nat :=
  let v984 : Index := Scalar.indexCast v952
  let c16_244 : Index := 16#32
  ![v984.toNat, 16]
def k0_off477 (v952 : BitVec 32) : Fin 2 → Nat :=
  let v990 : Index := Scalar.indexCast v952
  let c32_246 : Index := 32#32
  ![v990.toNat, 32]
def k0_off478 (v952 : BitVec 32) : Fin 2 → Nat :=
  let v996 : Index := Scalar.indexCast v952
  let c48_248 : Index := 48#32
  ![v996.toNat, 48]

def k0_chk408 (v952 : BitVec 32) : Prop :=
  (∀ a, (k0_off475 v952) a + S1x16.size a ≤ S64x96.size a) ∧
  (∀ a, (k0_off476 v952) a + S1x16.size a ≤ S64x96.size a) ∧
  (∀ a, (k0_off477 v952) a + S1x16.size a ≤ S64x96.size a) ∧
  (∀ a, (k0_off478 v952) a + S1x16.size a ≤ S64x96.size a)
theorem k0_off475_inb : ∀ (v952 : BitVec 32) (k0_hw408 : k0_chk408 v952), ∀ a, (k0_off475 v952) a + S1x16.size a ≤ S64x96.size a := fun v952 k0_hw408 => k0_hw408.1
theorem k0_off476_inb : ∀ (v952 : BitVec 32) (k0_hw408 : k0_chk408 v952), ∀ a, (k0_off476 v952) a + S1x16.size a ≤ S64x96.size a := fun v952 k0_hw408 => k0_hw408.2.1
theorem k0_off477_inb : ∀ (v952 : BitVec 32) (k0_hw408 : k0_chk408 v952), ∀ a, (k0_off477 v952) a + S1x16.size a ≤ S64x96.size a := fun v952 k0_hw408 => k0_hw408.2.2.1
theorem k0_off478_inb : ∀ (v952 : BitVec 32) (k0_hw408 : k0_chk408 v952), ∀ a, (k0_off478 v952) a + S1x16.size a ≤ S64x96.size a := fun v952 k0_hw408 => k0_hw408.2.2.2

def k0_chk409 (v1011 : IVec S16 32) : Prop :=
  (∀ a x, ((![v1011] : Fin 1 → IVec S16 32) a x).toNat < S101376.size a)
theorem k0_idx221_inb : ∀ (v1011 : IVec S16 32) (k0_hw409 : k0_chk409 v1011), ∀ a x, ((![v1011] : Fin 1 → IVec S16 32) a x).toNat < S101376.size a := fun v1011 k0_hw409 => k0_hw409

def k0_chk410 (v1025 : IVec S16 32) (v1048 : IVec S16 32) : Prop :=
  (∀ a x, ((![v1025, v1048] : Fin 2 → IVec S16 32) a x).toNat < S64x96.size a)
theorem k0_idx222_inb : ∀ (v1025 : IVec S16 32) (v1048 : IVec S16 32) (k0_hw410 : k0_chk410 v1025 v1048), ∀ a x, ((![v1025, v1048] : Fin 2 → IVec S16 32) a x).toNat < S64x96.size a := fun v1025 v1048 k0_hw410 => k0_hw410

def k0_chk411 (v1025 : IVec S16 32) (v1051 : IVec S16 32) : Prop :=
  (∀ a x, ((![v1025, v1051] : Fin 2 → IVec S16 32) a x).toNat < S64x96.size a)
theorem k0_idx223_inb : ∀ (v1025 : IVec S16 32) (v1051 : IVec S16 32) (k0_hw411 : k0_chk411 v1025 v1051), ∀ a x, ((![v1025, v1051] : Fin 2 → IVec S16 32) a x).toNat < S64x96.size a := fun v1025 v1051 k0_hw411 => k0_hw411

def k0_chk412 (v1025 : IVec S16 32) (v1054 : IVec S16 32) : Prop :=
  (∀ a x, ((![v1025, v1054] : Fin 2 → IVec S16 32) a x).toNat < S64x96.size a)
theorem k0_idx224_inb : ∀ (v1025 : IVec S16 32) (v1054 : IVec S16 32) (k0_hw412 : k0_chk412 v1025 v1054), ∀ a x, ((![v1025, v1054] : Fin 2 → IVec S16 32) a x).toNat < S64x96.size a := fun v1025 v1054 k0_hw412 => k0_hw412

def k0_chk413 (v1025 : IVec S16 32) (v1057 : IVec S16 32) : Prop :=
  (∀ a x, ((![v1025, v1057] : Fin 2 → IVec S16 32) a x).toNat < S64x96.size a)
theorem k0_idx225_inb : ∀ (v1025 : IVec S16 32) (v1057 : IVec S16 32) (k0_hw413 : k0_chk413 v1025 v1057), ∀ a x, ((![v1025, v1057] : Fin 2 → IVec S16 32) a x).toNat < S64x96.size a := fun v1025 v1057 k0_hw413 => k0_hw413
def k0_mult99 (v1065 : BitVec 32) : BitVec 32 :=
  v1065

def k0_off479 (v1065 : BitVec 32) : Fin 1 → Nat :=
  let v1066 : BitVec 32 := v1065
  let v1067 : Index := Scalar.indexCast v1066
  ![v1067.toNat]

def k0_chk414 (v1065 : BitVec 32) : Prop :=
  (8 ∣ (k0_mult99 v1065).toNat) ∧
  (∀ a, (k0_off479 v1065) a + S16.size a ≤ S101376.size a)
theorem k0_mult99_dvd : ∀ (v1065 : BitVec 32) (k0_hw414 : k0_chk414 v1065), 8 ∣ (k0_mult99 v1065).toNat := fun v1065 k0_hw414 => k0_hw414.1
theorem k0_off479_inb : ∀ (v1065 : BitVec 32) (k0_hw414 : k0_chk414 v1065), ∀ a, (k0_off479 v1065) a + S16.size a ≤ S101376.size a := fun v1065 k0_hw414 => k0_hw414.2

def k0_off480 (v1063 : BitVec 32) : Fin 2 → Nat :=
  let v1089 : Index := Scalar.indexCast v1063
  let c0_263 : Index := 0#32
  ![v1089.toNat, 0]

def k0_off481 (v1063 : BitVec 32) : Fin 2 → Nat :=
  let v1095 : Index := Scalar.indexCast v1063
  let c16_265 : Index := 16#32
  ![v1095.toNat, 16]
def k0_off482 (v1063 : BitVec 32) : Fin 2 → Nat :=
  let v1101 : Index := Scalar.indexCast v1063
  let c32_267 : Index := 32#32
  ![v1101.toNat, 32]
def k0_off483 (v1063 : BitVec 32) : Fin 2 → Nat :=
  let v1107 : Index := Scalar.indexCast v1063
  let c48_269 : Index := 48#32
  ![v1107.toNat, 48]

def k0_chk415 (v1063 : BitVec 32) : Prop :=
  (∀ a, (k0_off480 v1063) a + S1x16.size a ≤ S64x96.size a) ∧
  (∀ a, (k0_off481 v1063) a + S1x16.size a ≤ S64x96.size a) ∧
  (∀ a, (k0_off482 v1063) a + S1x16.size a ≤ S64x96.size a) ∧
  (∀ a, (k0_off483 v1063) a + S1x16.size a ≤ S64x96.size a)
theorem k0_off480_inb : ∀ (v1063 : BitVec 32) (k0_hw415 : k0_chk415 v1063), ∀ a, (k0_off480 v1063) a + S1x16.size a ≤ S64x96.size a := fun v1063 k0_hw415 => k0_hw415.1
theorem k0_off481_inb : ∀ (v1063 : BitVec 32) (k0_hw415 : k0_chk415 v1063), ∀ a, (k0_off481 v1063) a + S1x16.size a ≤ S64x96.size a := fun v1063 k0_hw415 => k0_hw415.2.1
theorem k0_off482_inb : ∀ (v1063 : BitVec 32) (k0_hw415 : k0_chk415 v1063), ∀ a, (k0_off482 v1063) a + S1x16.size a ≤ S64x96.size a := fun v1063 k0_hw415 => k0_hw415.2.2.1
theorem k0_off483_inb : ∀ (v1063 : BitVec 32) (k0_hw415 : k0_chk415 v1063), ∀ a, (k0_off483 v1063) a + S1x16.size a ≤ S64x96.size a := fun v1063 k0_hw415 => k0_hw415.2.2.2

def k0_mult100 (v1119 : BitVec 32) : BitVec 32 :=
  v1119

def k0_off484 (v1119 : BitVec 32) : Fin 1 → Nat :=
  let v1120 : BitVec 32 := v1119
  let v1121 : Index := Scalar.indexCast v1120
  ![v1121.toNat]

def k0_chk416 (v1119 : BitVec 32) : Prop :=
  (8 ∣ (k0_mult100 v1119).toNat) ∧
  (∀ a, (k0_off484 v1119) a + S16.size a ≤ S101376.size a)
theorem k0_mult100_dvd : ∀ (v1119 : BitVec 32) (k0_hw416 : k0_chk416 v1119), 8 ∣ (k0_mult100 v1119).toNat := fun v1119 k0_hw416 => k0_hw416.1
theorem k0_off484_inb : ∀ (v1119 : BitVec 32) (k0_hw416 : k0_chk416 v1119), ∀ a, (k0_off484 v1119) a + S16.size a ≤ S101376.size a := fun v1119 k0_hw416 => k0_hw416.2

def k0_off485 (v1117 : BitVec 32) : Fin 2 → Nat :=
  let v1143 : Index := Scalar.indexCast v1117
  let c0_275 : Index := 0#32
  ![v1143.toNat, 0]

def k0_off486 (v1117 : BitVec 32) : Fin 2 → Nat :=
  let v1149 : Index := Scalar.indexCast v1117
  let c16_277 : Index := 16#32
  ![v1149.toNat, 16]
def k0_off487 (v1117 : BitVec 32) : Fin 2 → Nat :=
  let v1155 : Index := Scalar.indexCast v1117
  let c32_279 : Index := 32#32
  ![v1155.toNat, 32]
def k0_off488 (v1117 : BitVec 32) : Fin 2 → Nat :=
  let v1161 : Index := Scalar.indexCast v1117
  let c48_281 : Index := 48#32
  ![v1161.toNat, 48]

def k0_chk417 (v1117 : BitVec 32) : Prop :=
  (∀ a, (k0_off485 v1117) a + S1x16.size a ≤ S64x96.size a) ∧
  (∀ a, (k0_off486 v1117) a + S1x16.size a ≤ S64x96.size a) ∧
  (∀ a, (k0_off487 v1117) a + S1x16.size a ≤ S64x96.size a) ∧
  (∀ a, (k0_off488 v1117) a + S1x16.size a ≤ S64x96.size a)
theorem k0_off485_inb : ∀ (v1117 : BitVec 32) (k0_hw417 : k0_chk417 v1117), ∀ a, (k0_off485 v1117) a + S1x16.size a ≤ S64x96.size a := fun v1117 k0_hw417 => k0_hw417.1
theorem k0_off486_inb : ∀ (v1117 : BitVec 32) (k0_hw417 : k0_chk417 v1117), ∀ a, (k0_off486 v1117) a + S1x16.size a ≤ S64x96.size a := fun v1117 k0_hw417 => k0_hw417.2.1
theorem k0_off487_inb : ∀ (v1117 : BitVec 32) (k0_hw417 : k0_chk417 v1117), ∀ a, (k0_off487 v1117) a + S1x16.size a ≤ S64x96.size a := fun v1117 k0_hw417 => k0_hw417.2.2.1
theorem k0_off488_inb : ∀ (v1117 : BitVec 32) (k0_hw417 : k0_chk417 v1117), ∀ a, (k0_off488 v1117) a + S1x16.size a ≤ S64x96.size a := fun v1117 k0_hw417 => k0_hw417.2.2.2

def k0_chk418 (v1176 : IVec S16 32) : Prop :=
  (∀ a x, ((![v1176] : Fin 1 → IVec S16 32) a x).toNat < S101376.size a)
theorem k0_idx226_inb : ∀ (v1176 : IVec S16 32) (k0_hw418 : k0_chk418 v1176), ∀ a x, ((![v1176] : Fin 1 → IVec S16 32) a x).toNat < S101376.size a := fun v1176 k0_hw418 => k0_hw418

def k0_chk419 (v1190 : IVec S16 32) (v1213 : IVec S16 32) : Prop :=
  (∀ a x, ((![v1190, v1213] : Fin 2 → IVec S16 32) a x).toNat < S64x96.size a)
theorem k0_idx227_inb : ∀ (v1190 : IVec S16 32) (v1213 : IVec S16 32) (k0_hw419 : k0_chk419 v1190 v1213), ∀ a x, ((![v1190, v1213] : Fin 2 → IVec S16 32) a x).toNat < S64x96.size a := fun v1190 v1213 k0_hw419 => k0_hw419

def k0_chk420 (v1190 : IVec S16 32) (v1216 : IVec S16 32) : Prop :=
  (∀ a x, ((![v1190, v1216] : Fin 2 → IVec S16 32) a x).toNat < S64x96.size a)
theorem k0_idx228_inb : ∀ (v1190 : IVec S16 32) (v1216 : IVec S16 32) (k0_hw420 : k0_chk420 v1190 v1216), ∀ a x, ((![v1190, v1216] : Fin 2 → IVec S16 32) a x).toNat < S64x96.size a := fun v1190 v1216 k0_hw420 => k0_hw420

def k0_chk421 (v1190 : IVec S16 32) (v1219 : IVec S16 32) : Prop :=
  (∀ a x, ((![v1190, v1219] : Fin 2 → IVec S16 32) a x).toNat < S64x96.size a)
theorem k0_idx229_inb : ∀ (v1190 : IVec S16 32) (v1219 : IVec S16 32) (k0_hw421 : k0_chk421 v1190 v1219), ∀ a x, ((![v1190, v1219] : Fin 2 → IVec S16 32) a x).toNat < S64x96.size a := fun v1190 v1219 k0_hw421 => k0_hw421

def k0_chk422 (v1190 : IVec S16 32) (v1222 : IVec S16 32) : Prop :=
  (∀ a x, ((![v1190, v1222] : Fin 2 → IVec S16 32) a x).toNat < S64x96.size a)
theorem k0_idx230_inb : ∀ (v1190 : IVec S16 32) (v1222 : IVec S16 32) (k0_hw422 : k0_chk422 v1190 v1222), ∀ a x, ((![v1190, v1222] : Fin 2 → IVec S16 32) a x).toNat < S64x96.size a := fun v1190 v1222 k0_hw422 => k0_hw422
def k0_mult101 (v1230 : BitVec 32) : BitVec 32 :=
  v1230

def k0_off489 (v1230 : BitVec 32) : Fin 1 → Nat :=
  let v1231 : BitVec 32 := v1230
  let v1232 : Index := Scalar.indexCast v1231
  ![v1232.toNat]

def k0_chk423 (v1230 : BitVec 32) : Prop :=
  (8 ∣ (k0_mult101 v1230).toNat) ∧
  (∀ a, (k0_off489 v1230) a + S16.size a ≤ S101376.size a)
theorem k0_mult101_dvd : ∀ (v1230 : BitVec 32) (k0_hw423 : k0_chk423 v1230), 8 ∣ (k0_mult101 v1230).toNat := fun v1230 k0_hw423 => k0_hw423.1
theorem k0_off489_inb : ∀ (v1230 : BitVec 32) (k0_hw423 : k0_chk423 v1230), ∀ a, (k0_off489 v1230) a + S16.size a ≤ S101376.size a := fun v1230 k0_hw423 => k0_hw423.2

def k0_off490 (v1228 : BitVec 32) : Fin 2 → Nat :=
  let v1254 : Index := Scalar.indexCast v1228
  let c0_296 : Index := 0#32
  ![v1254.toNat, 0]

def k0_off491 (v1228 : BitVec 32) : Fin 2 → Nat :=
  let v1260 : Index := Scalar.indexCast v1228
  let c16_298 : Index := 16#32
  ![v1260.toNat, 16]
def k0_off492 (v1228 : BitVec 32) : Fin 2 → Nat :=
  let v1266 : Index := Scalar.indexCast v1228
  let c32_300 : Index := 32#32
  ![v1266.toNat, 32]
def k0_off493 (v1228 : BitVec 32) : Fin 2 → Nat :=
  let v1272 : Index := Scalar.indexCast v1228
  let c48_302 : Index := 48#32
  ![v1272.toNat, 48]

def k0_chk424 (v1228 : BitVec 32) : Prop :=
  (∀ a, (k0_off490 v1228) a + S1x16.size a ≤ S64x96.size a) ∧
  (∀ a, (k0_off491 v1228) a + S1x16.size a ≤ S64x96.size a) ∧
  (∀ a, (k0_off492 v1228) a + S1x16.size a ≤ S64x96.size a) ∧
  (∀ a, (k0_off493 v1228) a + S1x16.size a ≤ S64x96.size a)
theorem k0_off490_inb : ∀ (v1228 : BitVec 32) (k0_hw424 : k0_chk424 v1228), ∀ a, (k0_off490 v1228) a + S1x16.size a ≤ S64x96.size a := fun v1228 k0_hw424 => k0_hw424.1
theorem k0_off491_inb : ∀ (v1228 : BitVec 32) (k0_hw424 : k0_chk424 v1228), ∀ a, (k0_off491 v1228) a + S1x16.size a ≤ S64x96.size a := fun v1228 k0_hw424 => k0_hw424.2.1
theorem k0_off492_inb : ∀ (v1228 : BitVec 32) (k0_hw424 : k0_chk424 v1228), ∀ a, (k0_off492 v1228) a + S1x16.size a ≤ S64x96.size a := fun v1228 k0_hw424 => k0_hw424.2.2.1
theorem k0_off493_inb : ∀ (v1228 : BitVec 32) (k0_hw424 : k0_chk424 v1228), ∀ a, (k0_off493 v1228) a + S1x16.size a ≤ S64x96.size a := fun v1228 k0_hw424 => k0_hw424.2.2.2

def k0_mult102 (v1284 : BitVec 32) : BitVec 32 :=
  v1284

def k0_off494 (v1284 : BitVec 32) : Fin 1 → Nat :=
  let v1285 : BitVec 32 := v1284
  let v1286 : Index := Scalar.indexCast v1285
  ![v1286.toNat]

def k0_chk425 (v1284 : BitVec 32) : Prop :=
  (8 ∣ (k0_mult102 v1284).toNat) ∧
  (∀ a, (k0_off494 v1284) a + S16.size a ≤ S101376.size a)
theorem k0_mult102_dvd : ∀ (v1284 : BitVec 32) (k0_hw425 : k0_chk425 v1284), 8 ∣ (k0_mult102 v1284).toNat := fun v1284 k0_hw425 => k0_hw425.1
theorem k0_off494_inb : ∀ (v1284 : BitVec 32) (k0_hw425 : k0_chk425 v1284), ∀ a, (k0_off494 v1284) a + S16.size a ≤ S101376.size a := fun v1284 k0_hw425 => k0_hw425.2

def k0_off495 (v1282 : BitVec 32) : Fin 2 → Nat :=
  let v1308 : Index := Scalar.indexCast v1282
  let c0_308 : Index := 0#32
  ![v1308.toNat, 0]

def k0_off496 (v1282 : BitVec 32) : Fin 2 → Nat :=
  let v1314 : Index := Scalar.indexCast v1282
  let c16_310 : Index := 16#32
  ![v1314.toNat, 16]
def k0_off497 (v1282 : BitVec 32) : Fin 2 → Nat :=
  let v1320 : Index := Scalar.indexCast v1282
  let c32_312 : Index := 32#32
  ![v1320.toNat, 32]
def k0_off498 (v1282 : BitVec 32) : Fin 2 → Nat :=
  let v1326 : Index := Scalar.indexCast v1282
  let c48_314 : Index := 48#32
  ![v1326.toNat, 48]

def k0_chk426 (v1282 : BitVec 32) : Prop :=
  (∀ a, (k0_off495 v1282) a + S1x16.size a ≤ S64x96.size a) ∧
  (∀ a, (k0_off496 v1282) a + S1x16.size a ≤ S64x96.size a) ∧
  (∀ a, (k0_off497 v1282) a + S1x16.size a ≤ S64x96.size a) ∧
  (∀ a, (k0_off498 v1282) a + S1x16.size a ≤ S64x96.size a)
theorem k0_off495_inb : ∀ (v1282 : BitVec 32) (k0_hw426 : k0_chk426 v1282), ∀ a, (k0_off495 v1282) a + S1x16.size a ≤ S64x96.size a := fun v1282 k0_hw426 => k0_hw426.1
theorem k0_off496_inb : ∀ (v1282 : BitVec 32) (k0_hw426 : k0_chk426 v1282), ∀ a, (k0_off496 v1282) a + S1x16.size a ≤ S64x96.size a := fun v1282 k0_hw426 => k0_hw426.2.1
theorem k0_off497_inb : ∀ (v1282 : BitVec 32) (k0_hw426 : k0_chk426 v1282), ∀ a, (k0_off497 v1282) a + S1x16.size a ≤ S64x96.size a := fun v1282 k0_hw426 => k0_hw426.2.2.1
theorem k0_off498_inb : ∀ (v1282 : BitVec 32) (k0_hw426 : k0_chk426 v1282), ∀ a, (k0_off498 v1282) a + S1x16.size a ≤ S64x96.size a := fun v1282 k0_hw426 => k0_hw426.2.2.2

def k0_chk427 (v1341 : IVec S16 32) : Prop :=
  (∀ a x, ((![v1341] : Fin 1 → IVec S16 32) a x).toNat < S101376.size a)
theorem k0_idx231_inb : ∀ (v1341 : IVec S16 32) (k0_hw427 : k0_chk427 v1341), ∀ a x, ((![v1341] : Fin 1 → IVec S16 32) a x).toNat < S101376.size a := fun v1341 k0_hw427 => k0_hw427

def k0_chk428 (v1355 : IVec S16 32) (v1378 : IVec S16 32) : Prop :=
  (∀ a x, ((![v1355, v1378] : Fin 2 → IVec S16 32) a x).toNat < S64x96.size a)
theorem k0_idx232_inb : ∀ (v1355 : IVec S16 32) (v1378 : IVec S16 32) (k0_hw428 : k0_chk428 v1355 v1378), ∀ a x, ((![v1355, v1378] : Fin 2 → IVec S16 32) a x).toNat < S64x96.size a := fun v1355 v1378 k0_hw428 => k0_hw428

def k0_chk429 (v1355 : IVec S16 32) (v1381 : IVec S16 32) : Prop :=
  (∀ a x, ((![v1355, v1381] : Fin 2 → IVec S16 32) a x).toNat < S64x96.size a)
theorem k0_idx233_inb : ∀ (v1355 : IVec S16 32) (v1381 : IVec S16 32) (k0_hw429 : k0_chk429 v1355 v1381), ∀ a x, ((![v1355, v1381] : Fin 2 → IVec S16 32) a x).toNat < S64x96.size a := fun v1355 v1381 k0_hw429 => k0_hw429

def k0_chk430 (v1355 : IVec S16 32) (v1384 : IVec S16 32) : Prop :=
  (∀ a x, ((![v1355, v1384] : Fin 2 → IVec S16 32) a x).toNat < S64x96.size a)
theorem k0_idx234_inb : ∀ (v1355 : IVec S16 32) (v1384 : IVec S16 32) (k0_hw430 : k0_chk430 v1355 v1384), ∀ a x, ((![v1355, v1384] : Fin 2 → IVec S16 32) a x).toNat < S64x96.size a := fun v1355 v1384 k0_hw430 => k0_hw430

def k0_chk431 (v1355 : IVec S16 32) (v1387 : IVec S16 32) : Prop :=
  (∀ a x, ((![v1355, v1387] : Fin 2 → IVec S16 32) a x).toNat < S64x96.size a)
theorem k0_idx235_inb : ∀ (v1355 : IVec S16 32) (v1387 : IVec S16 32) (k0_hw431 : k0_chk431 v1355 v1387), ∀ a x, ((![v1355, v1387] : Fin 2 → IVec S16 32) a x).toNat < S64x96.size a := fun v1355 v1387 k0_hw431 => k0_hw431
def k0_mult103 (v1395 : BitVec 32) : BitVec 32 :=
  v1395

def k0_off499 (v1395 : BitVec 32) : Fin 1 → Nat :=
  let v1396 : BitVec 32 := v1395
  let v1397 : Index := Scalar.indexCast v1396
  ![v1397.toNat]

def k0_chk432 (v1395 : BitVec 32) : Prop :=
  (8 ∣ (k0_mult103 v1395).toNat) ∧
  (∀ a, (k0_off499 v1395) a + S16.size a ≤ S101376.size a)
theorem k0_mult103_dvd : ∀ (v1395 : BitVec 32) (k0_hw432 : k0_chk432 v1395), 8 ∣ (k0_mult103 v1395).toNat := fun v1395 k0_hw432 => k0_hw432.1
theorem k0_off499_inb : ∀ (v1395 : BitVec 32) (k0_hw432 : k0_chk432 v1395), ∀ a, (k0_off499 v1395) a + S16.size a ≤ S101376.size a := fun v1395 k0_hw432 => k0_hw432.2

def k0_off500 (v1393 : BitVec 32) : Fin 2 → Nat :=
  let v1419 : Index := Scalar.indexCast v1393
  let c0_329 : Index := 0#32
  ![v1419.toNat, 0]

def k0_off501 (v1393 : BitVec 32) : Fin 2 → Nat :=
  let v1425 : Index := Scalar.indexCast v1393
  let c16_331 : Index := 16#32
  ![v1425.toNat, 16]
def k0_off502 (v1393 : BitVec 32) : Fin 2 → Nat :=
  let v1431 : Index := Scalar.indexCast v1393
  let c32_333 : Index := 32#32
  ![v1431.toNat, 32]
def k0_off503 (v1393 : BitVec 32) : Fin 2 → Nat :=
  let v1437 : Index := Scalar.indexCast v1393
  let c48_335 : Index := 48#32
  ![v1437.toNat, 48]

def k0_chk433 (v1393 : BitVec 32) : Prop :=
  (∀ a, (k0_off500 v1393) a + S1x16.size a ≤ S64x96.size a) ∧
  (∀ a, (k0_off501 v1393) a + S1x16.size a ≤ S64x96.size a) ∧
  (∀ a, (k0_off502 v1393) a + S1x16.size a ≤ S64x96.size a) ∧
  (∀ a, (k0_off503 v1393) a + S1x16.size a ≤ S64x96.size a)
theorem k0_off500_inb : ∀ (v1393 : BitVec 32) (k0_hw433 : k0_chk433 v1393), ∀ a, (k0_off500 v1393) a + S1x16.size a ≤ S64x96.size a := fun v1393 k0_hw433 => k0_hw433.1
theorem k0_off501_inb : ∀ (v1393 : BitVec 32) (k0_hw433 : k0_chk433 v1393), ∀ a, (k0_off501 v1393) a + S1x16.size a ≤ S64x96.size a := fun v1393 k0_hw433 => k0_hw433.2.1
theorem k0_off502_inb : ∀ (v1393 : BitVec 32) (k0_hw433 : k0_chk433 v1393), ∀ a, (k0_off502 v1393) a + S1x16.size a ≤ S64x96.size a := fun v1393 k0_hw433 => k0_hw433.2.2.1
theorem k0_off503_inb : ∀ (v1393 : BitVec 32) (k0_hw433 : k0_chk433 v1393), ∀ a, (k0_off503 v1393) a + S1x16.size a ≤ S64x96.size a := fun v1393 k0_hw433 => k0_hw433.2.2.2

def k0_mult104 (v1449 : BitVec 32) : BitVec 32 :=
  v1449

def k0_off504 (v1449 : BitVec 32) : Fin 1 → Nat :=
  let v1450 : BitVec 32 := v1449
  let v1451 : Index := Scalar.indexCast v1450
  ![v1451.toNat]

def k0_chk434 (v1449 : BitVec 32) : Prop :=
  (8 ∣ (k0_mult104 v1449).toNat) ∧
  (∀ a, (k0_off504 v1449) a + S16.size a ≤ S101376.size a)
theorem k0_mult104_dvd : ∀ (v1449 : BitVec 32) (k0_hw434 : k0_chk434 v1449), 8 ∣ (k0_mult104 v1449).toNat := fun v1449 k0_hw434 => k0_hw434.1
theorem k0_off504_inb : ∀ (v1449 : BitVec 32) (k0_hw434 : k0_chk434 v1449), ∀ a, (k0_off504 v1449) a + S16.size a ≤ S101376.size a := fun v1449 k0_hw434 => k0_hw434.2

def k0_off505 (v1447 : BitVec 32) : Fin 2 → Nat :=
  let v1473 : Index := Scalar.indexCast v1447
  let c0_341 : Index := 0#32
  ![v1473.toNat, 0]

def k0_off506 (v1447 : BitVec 32) : Fin 2 → Nat :=
  let v1479 : Index := Scalar.indexCast v1447
  let c16_343 : Index := 16#32
  ![v1479.toNat, 16]
def k0_off507 (v1447 : BitVec 32) : Fin 2 → Nat :=
  let v1485 : Index := Scalar.indexCast v1447
  let c32_345 : Index := 32#32
  ![v1485.toNat, 32]
def k0_off508 (v1447 : BitVec 32) : Fin 2 → Nat :=
  let v1491 : Index := Scalar.indexCast v1447
  let c48_347 : Index := 48#32
  ![v1491.toNat, 48]

def k0_chk435 (v1447 : BitVec 32) : Prop :=
  (∀ a, (k0_off505 v1447) a + S1x16.size a ≤ S64x96.size a) ∧
  (∀ a, (k0_off506 v1447) a + S1x16.size a ≤ S64x96.size a) ∧
  (∀ a, (k0_off507 v1447) a + S1x16.size a ≤ S64x96.size a) ∧
  (∀ a, (k0_off508 v1447) a + S1x16.size a ≤ S64x96.size a)
theorem k0_off505_inb : ∀ (v1447 : BitVec 32) (k0_hw435 : k0_chk435 v1447), ∀ a, (k0_off505 v1447) a + S1x16.size a ≤ S64x96.size a := fun v1447 k0_hw435 => k0_hw435.1
theorem k0_off506_inb : ∀ (v1447 : BitVec 32) (k0_hw435 : k0_chk435 v1447), ∀ a, (k0_off506 v1447) a + S1x16.size a ≤ S64x96.size a := fun v1447 k0_hw435 => k0_hw435.2.1
theorem k0_off507_inb : ∀ (v1447 : BitVec 32) (k0_hw435 : k0_chk435 v1447), ∀ a, (k0_off507 v1447) a + S1x16.size a ≤ S64x96.size a := fun v1447 k0_hw435 => k0_hw435.2.2.1
theorem k0_off508_inb : ∀ (v1447 : BitVec 32) (k0_hw435 : k0_chk435 v1447), ∀ a, (k0_off508 v1447) a + S1x16.size a ≤ S64x96.size a := fun v1447 k0_hw435 => k0_hw435.2.2.2

def k0_chk436 (v1506 : IVec S16 32) : Prop :=
  (∀ a x, ((![v1506] : Fin 1 → IVec S16 32) a x).toNat < S101376.size a)
theorem k0_idx236_inb : ∀ (v1506 : IVec S16 32) (k0_hw436 : k0_chk436 v1506), ∀ a x, ((![v1506] : Fin 1 → IVec S16 32) a x).toNat < S101376.size a := fun v1506 k0_hw436 => k0_hw436

def k0_chk437 (v1520 : IVec S16 32) (v1543 : IVec S16 32) : Prop :=
  (∀ a x, ((![v1520, v1543] : Fin 2 → IVec S16 32) a x).toNat < S64x96.size a)
theorem k0_idx237_inb : ∀ (v1520 : IVec S16 32) (v1543 : IVec S16 32) (k0_hw437 : k0_chk437 v1520 v1543), ∀ a x, ((![v1520, v1543] : Fin 2 → IVec S16 32) a x).toNat < S64x96.size a := fun v1520 v1543 k0_hw437 => k0_hw437

def k0_chk438 (v1520 : IVec S16 32) (v1546 : IVec S16 32) : Prop :=
  (∀ a x, ((![v1520, v1546] : Fin 2 → IVec S16 32) a x).toNat < S64x96.size a)
theorem k0_idx238_inb : ∀ (v1520 : IVec S16 32) (v1546 : IVec S16 32) (k0_hw438 : k0_chk438 v1520 v1546), ∀ a x, ((![v1520, v1546] : Fin 2 → IVec S16 32) a x).toNat < S64x96.size a := fun v1520 v1546 k0_hw438 => k0_hw438

def k0_chk439 (v1520 : IVec S16 32) (v1549 : IVec S16 32) : Prop :=
  (∀ a x, ((![v1520, v1549] : Fin 2 → IVec S16 32) a x).toNat < S64x96.size a)
theorem k0_idx239_inb : ∀ (v1520 : IVec S16 32) (v1549 : IVec S16 32) (k0_hw439 : k0_chk439 v1520 v1549), ∀ a x, ((![v1520, v1549] : Fin 2 → IVec S16 32) a x).toNat < S64x96.size a := fun v1520 v1549 k0_hw439 => k0_hw439

def k0_chk440 (v1520 : IVec S16 32) (v1552 : IVec S16 32) : Prop :=
  (∀ a x, ((![v1520, v1552] : Fin 2 → IVec S16 32) a x).toNat < S64x96.size a)
theorem k0_idx240_inb : ∀ (v1520 : IVec S16 32) (v1552 : IVec S16 32) (k0_hw440 : k0_chk440 v1520 v1552), ∀ a x, ((![v1520, v1552] : Fin 2 → IVec S16 32) a x).toNat < S64x96.size a := fun v1520 v1552 k0_hw440 => k0_hw440
@[reducible] def k0_t13_loop (v100_0 : BitVec 32) (v112 : BitVec 32) : Scf.Loop 32 :=
  let c0_i32_69 : BitVec 32 := 0#32
  let v117 : BitVec 1 := Scalar.cmpi .slt v100_0 v112
  let c1_i32_52 : BitVec 32 := 1#32
  let v118 : BitVec 32 := Scalar.subi v112 c1_i32_52
  let c0_i32_54 : BitVec 32 := 0#32
  let v120 : BitVec 1 := Scalar.cmpi .sgt v118 c0_i32_54
  let v121 : BitVec 32 := Scalar.extui v120
  let c0_i32_55 : BitVec 32 := 0#32
  let v122 : BitVec 1 := Scalar.cmpi .slt v118 c0_i32_55
  let v123 : BitVec 32 := Scalar.extui v122
  let v124 : BitVec 32 := Scalar.subi v121 v123
  let c1024_i32_53 : BitVec 32 := 1024#32
  let c0_i32_56 : BitVec 32 := 0#32
  let v125 : BitVec 1 := Scalar.cmpi .sgt c1024_i32_53 c0_i32_56
  let v126 : BitVec 32 := Scalar.extui v125
  let c0_i32_57 : BitVec 32 := 0#32
  let v127 : BitVec 1 := Scalar.cmpi .slt c1024_i32_53 c0_i32_57
  let v128 : BitVec 32 := Scalar.extui v127
  let v129 : BitVec 32 := Scalar.subi v126 v128
  let v130 : BitVec 1 := Scalar.cmpi .ne v124 v129
  let v131 : BitVec 32 := Scalar.remsi v118 c1024_i32_53
  let c0_i32_58 : BitVec 32 := 0#32
  let v132 : BitVec 1 := Scalar.cmpi .ne v131 c0_i32_58
  let v133 : BitVec 1 := Scalar.andi v130 v132
  let v119 : BitVec 32 := Scalar.divsi v118 c1024_i32_53
  let c1_i32_59 : BitVec 32 := 1#32
  let v134 : BitVec 32 := Scalar.subi v119 c1_i32_59
  let v135 : BitVec 32 := Scalar.select v133 v134 v119
  let c0_i32_61 : BitVec 32 := 0#32
  let v137 : BitVec 1 := Scalar.cmpi .sgt v100_0 c0_i32_61
  let v138 : BitVec 32 := Scalar.extui v137
  let c0_i32_62 : BitVec 32 := 0#32
  let v139 : BitVec 1 := Scalar.cmpi .slt v100_0 c0_i32_62
  let v140 : BitVec 32 := Scalar.extui v139
  let v141 : BitVec 32 := Scalar.subi v138 v140
  let c1024_i32_60 : BitVec 32 := 1024#32
  let c0_i32_63 : BitVec 32 := 0#32
  let v142 : BitVec 1 := Scalar.cmpi .sgt c1024_i32_60 c0_i32_63
  let v143 : BitVec 32 := Scalar.extui v142
  let c0_i32_64 : BitVec 32 := 0#32
  let v144 : BitVec 1 := Scalar.cmpi .slt c1024_i32_60 c0_i32_64
  let v145 : BitVec 32 := Scalar.extui v144
  let v146 : BitVec 32 := Scalar.subi v143 v145
  let v147 : BitVec 1 := Scalar.cmpi .ne v141 v146
  let v148 : BitVec 32 := Scalar.remsi v100_0 c1024_i32_60
  let c0_i32_65 : BitVec 32 := 0#32
  let v149 : BitVec 1 := Scalar.cmpi .ne v148 c0_i32_65
  let v150 : BitVec 1 := Scalar.andi v147 v149
  let v136 : BitVec 32 := Scalar.divsi v100_0 c1024_i32_60
  let c1_i32_66 : BitVec 32 := 1#32
  let v151 : BitVec 32 := Scalar.subi v136 c1_i32_66
  let v152 : BitVec 32 := Scalar.select v150 v151 v136
  let v153 : BitVec 32 := Scalar.subi v135 v152
  let c1_i32_67 : BitVec 32 := 1#32
  let v154 : BitVec 32 := Scalar.addi v153 c1_i32_67
  let c0_i32_68 : BitVec 32 := 0#32
  let v155 : BitVec 32 := Scalar.select v117 v154 c0_i32_68
  let v156 : BitVec 32 := Scalar.subi v155 c0_i32_69
  let c1_i32_70 : BitVec 32 := 1#32
  let v158 : BitVec 32 := Scalar.divsi v156 c1_i32_70
  let v159 : BitVec 32 := Scalar.muli v158 c1_i32_70
  let v160 : BitVec 32 := Scalar.addi c0_i32_69 v159
  let v157 : BitVec 32 := Scalar.addi c0_i32_69 v156
  let c1_i32_72 : BitVec 32 := 1#32
  ⟨v160, v157, c1_i32_72⟩

def k0_chk294 (v100_0 : BitVec 32) (v112 : BitVec 32) : Prop :=
  ((k0_t10_loop v100_0 v112).OK) ∧
  ((k0_t13_loop v100_0 v112).OK)
theorem k0_t10_ok : ∀ (v100_0 : BitVec 32) (v112 : BitVec 32) (k0_hw294 : k0_chk294 v100_0 v112), (k0_t10_loop v100_0 v112).OK := fun v100_0 v112 k0_hw294 => k0_hw294.1
theorem k0_t13_ok : ∀ (v100_0 : BitVec 32) (v112 : BitVec 32) (k0_hw294 : k0_chk294 v100_0 v112), (k0_t13_loop v100_0 v112).OK := fun v100_0 v112 k0_hw294 => k0_hw294.2

def k0_mult105 (v33 : BitVec 32) (arg19 : BitVec 32) : BitVec 32 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  v207
def k0_cond6 (arg19 : BitVec 32) (arg20 : BitVec 32) : BitVec 1 :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let v186 : BitVec 1 := Scalar.cmpi .ne v185 arg20
  let v187 : BitVec 32 := Scalar.extui v186
  let c0_i32_84 : BitVec 32 := 0#32
  let v188 : BitVec 1 := Scalar.cmpi .ne v187 c0_i32_84
  v188

def k0_off509 (v33 : BitVec 32) (arg19 : BitVec 32) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_96 : BitVec 32 := 1024#32
  let v206 : BitVec 32 := Scalar.muli v185 c1024_i32_96
  let v207 : BitVec 32 := Scalar.addi v33 v206
  let v208 : BitVec 32 := v207
  ![v208.toNat]

def k0_chk441 (v33 : BitVec 32) (arg19 : BitVec 32) (arg20 : BitVec 32) : Prop :=
  (∀ (k0_h6 : k0_cond6 arg19 arg20 = 1#1), 8 ∣ (k0_mult105 v33 arg19).toNat) ∧
  (∀ (k0_h6 : k0_cond6 arg19 arg20 = 1#1), ∀ a, (k0_off509 v33 arg19) a + S1024.size a ≤ S2527488.size a)
theorem k0_mult105_dvd : ∀ (v33 : BitVec 32) (arg19 : BitVec 32) (arg20 : BitVec 32) (k0_hw441 : k0_chk441 v33 arg19 arg20), ∀ (k0_h6 : k0_cond6 arg19 arg20 = 1#1), 8 ∣ (k0_mult105 v33 arg19).toNat := fun v33 arg19 arg20 k0_hw441 k0_h6 => k0_hw441.1 k0_h6
theorem k0_off509_inb : ∀ (v33 : BitVec 32) (arg19 : BitVec 32) (arg20 : BitVec 32) (k0_hw441 : k0_chk441 v33 arg19 arg20), ∀ (k0_h6 : k0_cond6 arg19 arg20 = 1#1), ∀ a, (k0_off509 v33 arg19) a + S1024.size a ≤ S2527488.size a := fun v33 arg19 arg20 k0_hw441 k0_h6 => k0_hw441.2 k0_h6

@[reducible] def k0_t14_loop (v112 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v112 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_94 : BitVec 32 := 1#32
  ⟨c0_i32_92, v205, c1_i32_94⟩

def k0_off510 (v112 : BitVec 32) (arg19 : BitVec 32) (k0_t14 : Fin (k0_t14_loop v112 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_94 : BitVec 32 := 1#32
  let arg21 : BitVec 32 := Scf.iv c0_i32_92 c1_i32_94 k0_t14
  let c16_i32_91 : BitVec 32 := 16#32
  let v206 : BitVec 32 := Scalar.muli arg21 c16_i32_91
  let v207 : BitVec 32 := Scalar.addi v194 v206
  let v208 : Index := Scalar.indexCast v207
  ![v208.toNat]
def k0_mult106 (v240 : BitVec 32) : BitVec 32 :=
  v240

def k0_off511 (v240 : BitVec 32) : Fin 1 → Nat :=
  let v241 : BitVec 32 := v240
  let v242 : Index := Scalar.indexCast v241
  ![v242.toNat]

def k0_chk443 (v240 : BitVec 32) : Prop :=
  (8 ∣ (k0_mult106 v240).toNat) ∧
  (∀ a, (k0_off511 v240) a + S16.size a ≤ S101376.size a)
theorem k0_mult106_dvd : ∀ (v240 : BitVec 32) (k0_hw443 : k0_chk443 v240), 8 ∣ (k0_mult106 v240).toNat := fun v240 k0_hw443 => k0_hw443.1
theorem k0_off511_inb : ∀ (v240 : BitVec 32) (k0_hw443 : k0_chk443 v240), ∀ a, (k0_off511 v240) a + S16.size a ≤ S101376.size a := fun v240 k0_hw443 => k0_hw443.2

def k0_off512 (v238 : BitVec 32) : Fin 2 → Nat :=
  let v264 : Index := Scalar.indexCast v238
  let c0 : Index := 0#32
  ![v264.toNat, 0]

def k0_off513 (v238 : BitVec 32) : Fin 2 → Nat :=
  let v270 : Index := Scalar.indexCast v238
  let c16 : Index := 16#32
  ![v270.toNat, 16]
def k0_off514 (v238 : BitVec 32) : Fin 2 → Nat :=
  let v276 : Index := Scalar.indexCast v238
  let c32 : Index := 32#32
  ![v276.toNat, 32]
def k0_off515 (v238 : BitVec 32) : Fin 2 → Nat :=
  let v282 : Index := Scalar.indexCast v238
  let c48 : Index := 48#32
  ![v282.toNat, 48]

def k0_chk444 (v238 : BitVec 32) : Prop :=
  (∀ a, (k0_off512 v238) a + S1x16.size a ≤ S64x96.size a) ∧
  (∀ a, (k0_off513 v238) a + S1x16.size a ≤ S64x96.size a) ∧
  (∀ a, (k0_off514 v238) a + S1x16.size a ≤ S64x96.size a) ∧
  (∀ a, (k0_off515 v238) a + S1x16.size a ≤ S64x96.size a)
theorem k0_off512_inb : ∀ (v238 : BitVec 32) (k0_hw444 : k0_chk444 v238), ∀ a, (k0_off512 v238) a + S1x16.size a ≤ S64x96.size a := fun v238 k0_hw444 => k0_hw444.1
theorem k0_off513_inb : ∀ (v238 : BitVec 32) (k0_hw444 : k0_chk444 v238), ∀ a, (k0_off513 v238) a + S1x16.size a ≤ S64x96.size a := fun v238 k0_hw444 => k0_hw444.2.1
theorem k0_off514_inb : ∀ (v238 : BitVec 32) (k0_hw444 : k0_chk444 v238), ∀ a, (k0_off514 v238) a + S1x16.size a ≤ S64x96.size a := fun v238 k0_hw444 => k0_hw444.2.2.1
theorem k0_off515_inb : ∀ (v238 : BitVec 32) (k0_hw444 : k0_chk444 v238), ∀ a, (k0_off515 v238) a + S1x16.size a ≤ S64x96.size a := fun v238 k0_hw444 => k0_hw444.2.2.2

def k0_mult107 (v294 : BitVec 32) : BitVec 32 :=
  v294

def k0_off516 (v294 : BitVec 32) : Fin 1 → Nat :=
  let v295 : BitVec 32 := v294
  let v296 : Index := Scalar.indexCast v295
  ![v296.toNat]

def k0_chk445 (v294 : BitVec 32) : Prop :=
  (8 ∣ (k0_mult107 v294).toNat) ∧
  (∀ a, (k0_off516 v294) a + S16.size a ≤ S101376.size a)
theorem k0_mult107_dvd : ∀ (v294 : BitVec 32) (k0_hw445 : k0_chk445 v294), 8 ∣ (k0_mult107 v294).toNat := fun v294 k0_hw445 => k0_hw445.1
theorem k0_off516_inb : ∀ (v294 : BitVec 32) (k0_hw445 : k0_chk445 v294), ∀ a, (k0_off516 v294) a + S16.size a ≤ S101376.size a := fun v294 k0_hw445 => k0_hw445.2

def k0_off517 (v292 : BitVec 32) : Fin 2 → Nat :=
  let v318 : Index := Scalar.indexCast v292
  let c0_113 : Index := 0#32
  ![v318.toNat, 0]

def k0_off518 (v292 : BitVec 32) : Fin 2 → Nat :=
  let v324 : Index := Scalar.indexCast v292
  let c16_115 : Index := 16#32
  ![v324.toNat, 16]
def k0_off519 (v292 : BitVec 32) : Fin 2 → Nat :=
  let v330 : Index := Scalar.indexCast v292
  let c32_117 : Index := 32#32
  ![v330.toNat, 32]
def k0_off520 (v292 : BitVec 32) : Fin 2 → Nat :=
  let v336 : Index := Scalar.indexCast v292
  let c48_119 : Index := 48#32
  ![v336.toNat, 48]

def k0_chk446 (v292 : BitVec 32) : Prop :=
  (∀ a, (k0_off517 v292) a + S1x16.size a ≤ S64x96.size a) ∧
  (∀ a, (k0_off518 v292) a + S1x16.size a ≤ S64x96.size a) ∧
  (∀ a, (k0_off519 v292) a + S1x16.size a ≤ S64x96.size a) ∧
  (∀ a, (k0_off520 v292) a + S1x16.size a ≤ S64x96.size a)
theorem k0_off517_inb : ∀ (v292 : BitVec 32) (k0_hw446 : k0_chk446 v292), ∀ a, (k0_off517 v292) a + S1x16.size a ≤ S64x96.size a := fun v292 k0_hw446 => k0_hw446.1
theorem k0_off518_inb : ∀ (v292 : BitVec 32) (k0_hw446 : k0_chk446 v292), ∀ a, (k0_off518 v292) a + S1x16.size a ≤ S64x96.size a := fun v292 k0_hw446 => k0_hw446.2.1
theorem k0_off519_inb : ∀ (v292 : BitVec 32) (k0_hw446 : k0_chk446 v292), ∀ a, (k0_off519 v292) a + S1x16.size a ≤ S64x96.size a := fun v292 k0_hw446 => k0_hw446.2.2.1
theorem k0_off520_inb : ∀ (v292 : BitVec 32) (k0_hw446 : k0_chk446 v292), ∀ a, (k0_off520 v292) a + S1x16.size a ≤ S64x96.size a := fun v292 k0_hw446 => k0_hw446.2.2.2

def k0_chk447 (v351 : IVec S16 32) : Prop :=
  (∀ a x, ((![v351] : Fin 1 → IVec S16 32) a x).toNat < S101376.size a)
theorem k0_idx241_inb : ∀ (v351 : IVec S16 32) (k0_hw447 : k0_chk447 v351), ∀ a x, ((![v351] : Fin 1 → IVec S16 32) a x).toNat < S101376.size a := fun v351 k0_hw447 => k0_hw447

def k0_chk448 (v365 : IVec S16 32) (v388 : IVec S16 32) : Prop :=
  (∀ a x, ((![v365, v388] : Fin 2 → IVec S16 32) a x).toNat < S64x96.size a)
theorem k0_idx242_inb : ∀ (v365 : IVec S16 32) (v388 : IVec S16 32) (k0_hw448 : k0_chk448 v365 v388), ∀ a x, ((![v365, v388] : Fin 2 → IVec S16 32) a x).toNat < S64x96.size a := fun v365 v388 k0_hw448 => k0_hw448

def k0_chk449 (v365 : IVec S16 32) (v391 : IVec S16 32) : Prop :=
  (∀ a x, ((![v365, v391] : Fin 2 → IVec S16 32) a x).toNat < S64x96.size a)
theorem k0_idx243_inb : ∀ (v365 : IVec S16 32) (v391 : IVec S16 32) (k0_hw449 : k0_chk449 v365 v391), ∀ a x, ((![v365, v391] : Fin 2 → IVec S16 32) a x).toNat < S64x96.size a := fun v365 v391 k0_hw449 => k0_hw449

def k0_chk450 (v365 : IVec S16 32) (v394 : IVec S16 32) : Prop :=
  (∀ a x, ((![v365, v394] : Fin 2 → IVec S16 32) a x).toNat < S64x96.size a)
theorem k0_idx244_inb : ∀ (v365 : IVec S16 32) (v394 : IVec S16 32) (k0_hw450 : k0_chk450 v365 v394), ∀ a x, ((![v365, v394] : Fin 2 → IVec S16 32) a x).toNat < S64x96.size a := fun v365 v394 k0_hw450 => k0_hw450

def k0_chk451 (v365 : IVec S16 32) (v397 : IVec S16 32) : Prop :=
  (∀ a x, ((![v365, v397] : Fin 2 → IVec S16 32) a x).toNat < S64x96.size a)
theorem k0_idx245_inb : ∀ (v365 : IVec S16 32) (v397 : IVec S16 32) (k0_hw451 : k0_chk451 v365 v397), ∀ a x, ((![v365, v397] : Fin 2 → IVec S16 32) a x).toNat < S64x96.size a := fun v365 v397 k0_hw451 => k0_hw451
def k0_mult108 (v405 : BitVec 32) : BitVec 32 :=
  v405

def k0_off521 (v405 : BitVec 32) : Fin 1 → Nat :=
  let v406 : BitVec 32 := v405
  let v407 : Index := Scalar.indexCast v406
  ![v407.toNat]

def k0_chk452 (v405 : BitVec 32) : Prop :=
  (8 ∣ (k0_mult108 v405).toNat) ∧
  (∀ a, (k0_off521 v405) a + S16.size a ≤ S101376.size a)
theorem k0_mult108_dvd : ∀ (v405 : BitVec 32) (k0_hw452 : k0_chk452 v405), 8 ∣ (k0_mult108 v405).toNat := fun v405 k0_hw452 => k0_hw452.1
theorem k0_off521_inb : ∀ (v405 : BitVec 32) (k0_hw452 : k0_chk452 v405), ∀ a, (k0_off521 v405) a + S16.size a ≤ S101376.size a := fun v405 k0_hw452 => k0_hw452.2

def k0_off522 (v403 : BitVec 32) : Fin 2 → Nat :=
  let v429 : Index := Scalar.indexCast v403
  let c0_131 : Index := 0#32
  ![v429.toNat, 0]

def k0_off523 (v403 : BitVec 32) : Fin 2 → Nat :=
  let v435 : Index := Scalar.indexCast v403
  let c16_133 : Index := 16#32
  ![v435.toNat, 16]
def k0_off524 (v403 : BitVec 32) : Fin 2 → Nat :=
  let v441 : Index := Scalar.indexCast v403
  let c32_135 : Index := 32#32
  ![v441.toNat, 32]
def k0_off525 (v403 : BitVec 32) : Fin 2 → Nat :=
  let v447 : Index := Scalar.indexCast v403
  let c48_137 : Index := 48#32
  ![v447.toNat, 48]

def k0_chk453 (v403 : BitVec 32) : Prop :=
  (∀ a, (k0_off522 v403) a + S1x16.size a ≤ S64x96.size a) ∧
  (∀ a, (k0_off523 v403) a + S1x16.size a ≤ S64x96.size a) ∧
  (∀ a, (k0_off524 v403) a + S1x16.size a ≤ S64x96.size a) ∧
  (∀ a, (k0_off525 v403) a + S1x16.size a ≤ S64x96.size a)
theorem k0_off522_inb : ∀ (v403 : BitVec 32) (k0_hw453 : k0_chk453 v403), ∀ a, (k0_off522 v403) a + S1x16.size a ≤ S64x96.size a := fun v403 k0_hw453 => k0_hw453.1
theorem k0_off523_inb : ∀ (v403 : BitVec 32) (k0_hw453 : k0_chk453 v403), ∀ a, (k0_off523 v403) a + S1x16.size a ≤ S64x96.size a := fun v403 k0_hw453 => k0_hw453.2.1
theorem k0_off524_inb : ∀ (v403 : BitVec 32) (k0_hw453 : k0_chk453 v403), ∀ a, (k0_off524 v403) a + S1x16.size a ≤ S64x96.size a := fun v403 k0_hw453 => k0_hw453.2.2.1
theorem k0_off525_inb : ∀ (v403 : BitVec 32) (k0_hw453 : k0_chk453 v403), ∀ a, (k0_off525 v403) a + S1x16.size a ≤ S64x96.size a := fun v403 k0_hw453 => k0_hw453.2.2.2

def k0_mult109 (v459 : BitVec 32) : BitVec 32 :=
  v459

def k0_off526 (v459 : BitVec 32) : Fin 1 → Nat :=
  let v460 : BitVec 32 := v459
  let v461 : Index := Scalar.indexCast v460
  ![v461.toNat]

def k0_chk454 (v459 : BitVec 32) : Prop :=
  (8 ∣ (k0_mult109 v459).toNat) ∧
  (∀ a, (k0_off526 v459) a + S16.size a ≤ S101376.size a)
theorem k0_mult109_dvd : ∀ (v459 : BitVec 32) (k0_hw454 : k0_chk454 v459), 8 ∣ (k0_mult109 v459).toNat := fun v459 k0_hw454 => k0_hw454.1
theorem k0_off526_inb : ∀ (v459 : BitVec 32) (k0_hw454 : k0_chk454 v459), ∀ a, (k0_off526 v459) a + S16.size a ≤ S101376.size a := fun v459 k0_hw454 => k0_hw454.2

def k0_off527 (v457 : BitVec 32) : Fin 2 → Nat :=
  let v483 : Index := Scalar.indexCast v457
  let c0_143 : Index := 0#32
  ![v483.toNat, 0]

def k0_off528 (v457 : BitVec 32) : Fin 2 → Nat :=
  let v489 : Index := Scalar.indexCast v457
  let c16_145 : Index := 16#32
  ![v489.toNat, 16]
def k0_off529 (v457 : BitVec 32) : Fin 2 → Nat :=
  let v495 : Index := Scalar.indexCast v457
  let c32_147 : Index := 32#32
  ![v495.toNat, 32]
def k0_off530 (v457 : BitVec 32) : Fin 2 → Nat :=
  let v501 : Index := Scalar.indexCast v457
  let c48_149 : Index := 48#32
  ![v501.toNat, 48]

def k0_chk455 (v457 : BitVec 32) : Prop :=
  (∀ a, (k0_off527 v457) a + S1x16.size a ≤ S64x96.size a) ∧
  (∀ a, (k0_off528 v457) a + S1x16.size a ≤ S64x96.size a) ∧
  (∀ a, (k0_off529 v457) a + S1x16.size a ≤ S64x96.size a) ∧
  (∀ a, (k0_off530 v457) a + S1x16.size a ≤ S64x96.size a)
theorem k0_off527_inb : ∀ (v457 : BitVec 32) (k0_hw455 : k0_chk455 v457), ∀ a, (k0_off527 v457) a + S1x16.size a ≤ S64x96.size a := fun v457 k0_hw455 => k0_hw455.1
theorem k0_off528_inb : ∀ (v457 : BitVec 32) (k0_hw455 : k0_chk455 v457), ∀ a, (k0_off528 v457) a + S1x16.size a ≤ S64x96.size a := fun v457 k0_hw455 => k0_hw455.2.1
theorem k0_off529_inb : ∀ (v457 : BitVec 32) (k0_hw455 : k0_chk455 v457), ∀ a, (k0_off529 v457) a + S1x16.size a ≤ S64x96.size a := fun v457 k0_hw455 => k0_hw455.2.2.1
theorem k0_off530_inb : ∀ (v457 : BitVec 32) (k0_hw455 : k0_chk455 v457), ∀ a, (k0_off530 v457) a + S1x16.size a ≤ S64x96.size a := fun v457 k0_hw455 => k0_hw455.2.2.2

def k0_chk456 (v516 : IVec S16 32) : Prop :=
  (∀ a x, ((![v516] : Fin 1 → IVec S16 32) a x).toNat < S101376.size a)
theorem k0_idx246_inb : ∀ (v516 : IVec S16 32) (k0_hw456 : k0_chk456 v516), ∀ a x, ((![v516] : Fin 1 → IVec S16 32) a x).toNat < S101376.size a := fun v516 k0_hw456 => k0_hw456

def k0_chk457 (v530 : IVec S16 32) (v553 : IVec S16 32) : Prop :=
  (∀ a x, ((![v530, v553] : Fin 2 → IVec S16 32) a x).toNat < S64x96.size a)
theorem k0_idx247_inb : ∀ (v530 : IVec S16 32) (v553 : IVec S16 32) (k0_hw457 : k0_chk457 v530 v553), ∀ a x, ((![v530, v553] : Fin 2 → IVec S16 32) a x).toNat < S64x96.size a := fun v530 v553 k0_hw457 => k0_hw457

def k0_chk458 (v530 : IVec S16 32) (v556 : IVec S16 32) : Prop :=
  (∀ a x, ((![v530, v556] : Fin 2 → IVec S16 32) a x).toNat < S64x96.size a)
theorem k0_idx248_inb : ∀ (v530 : IVec S16 32) (v556 : IVec S16 32) (k0_hw458 : k0_chk458 v530 v556), ∀ a x, ((![v530, v556] : Fin 2 → IVec S16 32) a x).toNat < S64x96.size a := fun v530 v556 k0_hw458 => k0_hw458

def k0_chk459 (v530 : IVec S16 32) (v559 : IVec S16 32) : Prop :=
  (∀ a x, ((![v530, v559] : Fin 2 → IVec S16 32) a x).toNat < S64x96.size a)
theorem k0_idx249_inb : ∀ (v530 : IVec S16 32) (v559 : IVec S16 32) (k0_hw459 : k0_chk459 v530 v559), ∀ a x, ((![v530, v559] : Fin 2 → IVec S16 32) a x).toNat < S64x96.size a := fun v530 v559 k0_hw459 => k0_hw459

def k0_chk460 (v530 : IVec S16 32) (v562 : IVec S16 32) : Prop :=
  (∀ a x, ((![v530, v562] : Fin 2 → IVec S16 32) a x).toNat < S64x96.size a)
theorem k0_idx250_inb : ∀ (v530 : IVec S16 32) (v562 : IVec S16 32) (k0_hw460 : k0_chk460 v530 v562), ∀ a x, ((![v530, v562] : Fin 2 → IVec S16 32) a x).toNat < S64x96.size a := fun v530 v562 k0_hw460 => k0_hw460
def k0_mult110 (v570 : BitVec 32) : BitVec 32 :=
  v570

def k0_off531 (v570 : BitVec 32) : Fin 1 → Nat :=
  let v571 : BitVec 32 := v570
  let v572 : Index := Scalar.indexCast v571
  ![v572.toNat]

def k0_chk461 (v570 : BitVec 32) : Prop :=
  (8 ∣ (k0_mult110 v570).toNat) ∧
  (∀ a, (k0_off531 v570) a + S16.size a ≤ S101376.size a)
theorem k0_mult110_dvd : ∀ (v570 : BitVec 32) (k0_hw461 : k0_chk461 v570), 8 ∣ (k0_mult110 v570).toNat := fun v570 k0_hw461 => k0_hw461.1
theorem k0_off531_inb : ∀ (v570 : BitVec 32) (k0_hw461 : k0_chk461 v570), ∀ a, (k0_off531 v570) a + S16.size a ≤ S101376.size a := fun v570 k0_hw461 => k0_hw461.2

def k0_off532 (v568 : BitVec 32) : Fin 2 → Nat :=
  let v594 : Index := Scalar.indexCast v568
  let c0_164 : Index := 0#32
  ![v594.toNat, 0]

def k0_off533 (v568 : BitVec 32) : Fin 2 → Nat :=
  let v600 : Index := Scalar.indexCast v568
  let c16_166 : Index := 16#32
  ![v600.toNat, 16]
def k0_off534 (v568 : BitVec 32) : Fin 2 → Nat :=
  let v606 : Index := Scalar.indexCast v568
  let c32_168 : Index := 32#32
  ![v606.toNat, 32]
def k0_off535 (v568 : BitVec 32) : Fin 2 → Nat :=
  let v612 : Index := Scalar.indexCast v568
  let c48_170 : Index := 48#32
  ![v612.toNat, 48]

def k0_chk462 (v568 : BitVec 32) : Prop :=
  (∀ a, (k0_off532 v568) a + S1x16.size a ≤ S64x96.size a) ∧
  (∀ a, (k0_off533 v568) a + S1x16.size a ≤ S64x96.size a) ∧
  (∀ a, (k0_off534 v568) a + S1x16.size a ≤ S64x96.size a) ∧
  (∀ a, (k0_off535 v568) a + S1x16.size a ≤ S64x96.size a)
theorem k0_off532_inb : ∀ (v568 : BitVec 32) (k0_hw462 : k0_chk462 v568), ∀ a, (k0_off532 v568) a + S1x16.size a ≤ S64x96.size a := fun v568 k0_hw462 => k0_hw462.1
theorem k0_off533_inb : ∀ (v568 : BitVec 32) (k0_hw462 : k0_chk462 v568), ∀ a, (k0_off533 v568) a + S1x16.size a ≤ S64x96.size a := fun v568 k0_hw462 => k0_hw462.2.1
theorem k0_off534_inb : ∀ (v568 : BitVec 32) (k0_hw462 : k0_chk462 v568), ∀ a, (k0_off534 v568) a + S1x16.size a ≤ S64x96.size a := fun v568 k0_hw462 => k0_hw462.2.2.1
theorem k0_off535_inb : ∀ (v568 : BitVec 32) (k0_hw462 : k0_chk462 v568), ∀ a, (k0_off535 v568) a + S1x16.size a ≤ S64x96.size a := fun v568 k0_hw462 => k0_hw462.2.2.2

def k0_mult111 (v624 : BitVec 32) : BitVec 32 :=
  v624

def k0_off536 (v624 : BitVec 32) : Fin 1 → Nat :=
  let v625 : BitVec 32 := v624
  let v626 : Index := Scalar.indexCast v625
  ![v626.toNat]

def k0_chk463 (v624 : BitVec 32) : Prop :=
  (8 ∣ (k0_mult111 v624).toNat) ∧
  (∀ a, (k0_off536 v624) a + S16.size a ≤ S101376.size a)
theorem k0_mult111_dvd : ∀ (v624 : BitVec 32) (k0_hw463 : k0_chk463 v624), 8 ∣ (k0_mult111 v624).toNat := fun v624 k0_hw463 => k0_hw463.1
theorem k0_off536_inb : ∀ (v624 : BitVec 32) (k0_hw463 : k0_chk463 v624), ∀ a, (k0_off536 v624) a + S16.size a ≤ S101376.size a := fun v624 k0_hw463 => k0_hw463.2

def k0_off537 (v622 : BitVec 32) : Fin 2 → Nat :=
  let v648 : Index := Scalar.indexCast v622
  let c0_176 : Index := 0#32
  ![v648.toNat, 0]

def k0_off538 (v622 : BitVec 32) : Fin 2 → Nat :=
  let v654 : Index := Scalar.indexCast v622
  let c16_178 : Index := 16#32
  ![v654.toNat, 16]
def k0_off539 (v622 : BitVec 32) : Fin 2 → Nat :=
  let v660 : Index := Scalar.indexCast v622
  let c32_180 : Index := 32#32
  ![v660.toNat, 32]
def k0_off540 (v622 : BitVec 32) : Fin 2 → Nat :=
  let v666 : Index := Scalar.indexCast v622
  let c48_182 : Index := 48#32
  ![v666.toNat, 48]

def k0_chk464 (v622 : BitVec 32) : Prop :=
  (∀ a, (k0_off537 v622) a + S1x16.size a ≤ S64x96.size a) ∧
  (∀ a, (k0_off538 v622) a + S1x16.size a ≤ S64x96.size a) ∧
  (∀ a, (k0_off539 v622) a + S1x16.size a ≤ S64x96.size a) ∧
  (∀ a, (k0_off540 v622) a + S1x16.size a ≤ S64x96.size a)
theorem k0_off537_inb : ∀ (v622 : BitVec 32) (k0_hw464 : k0_chk464 v622), ∀ a, (k0_off537 v622) a + S1x16.size a ≤ S64x96.size a := fun v622 k0_hw464 => k0_hw464.1
theorem k0_off538_inb : ∀ (v622 : BitVec 32) (k0_hw464 : k0_chk464 v622), ∀ a, (k0_off538 v622) a + S1x16.size a ≤ S64x96.size a := fun v622 k0_hw464 => k0_hw464.2.1
theorem k0_off539_inb : ∀ (v622 : BitVec 32) (k0_hw464 : k0_chk464 v622), ∀ a, (k0_off539 v622) a + S1x16.size a ≤ S64x96.size a := fun v622 k0_hw464 => k0_hw464.2.2.1
theorem k0_off540_inb : ∀ (v622 : BitVec 32) (k0_hw464 : k0_chk464 v622), ∀ a, (k0_off540 v622) a + S1x16.size a ≤ S64x96.size a := fun v622 k0_hw464 => k0_hw464.2.2.2

def k0_chk465 (v681 : IVec S16 32) : Prop :=
  (∀ a x, ((![v681] : Fin 1 → IVec S16 32) a x).toNat < S101376.size a)
theorem k0_idx251_inb : ∀ (v681 : IVec S16 32) (k0_hw465 : k0_chk465 v681), ∀ a x, ((![v681] : Fin 1 → IVec S16 32) a x).toNat < S101376.size a := fun v681 k0_hw465 => k0_hw465

def k0_chk466 (v695 : IVec S16 32) (v718 : IVec S16 32) : Prop :=
  (∀ a x, ((![v695, v718] : Fin 2 → IVec S16 32) a x).toNat < S64x96.size a)
theorem k0_idx252_inb : ∀ (v695 : IVec S16 32) (v718 : IVec S16 32) (k0_hw466 : k0_chk466 v695 v718), ∀ a x, ((![v695, v718] : Fin 2 → IVec S16 32) a x).toNat < S64x96.size a := fun v695 v718 k0_hw466 => k0_hw466

def k0_chk467 (v695 : IVec S16 32) (v721 : IVec S16 32) : Prop :=
  (∀ a x, ((![v695, v721] : Fin 2 → IVec S16 32) a x).toNat < S64x96.size a)
theorem k0_idx253_inb : ∀ (v695 : IVec S16 32) (v721 : IVec S16 32) (k0_hw467 : k0_chk467 v695 v721), ∀ a x, ((![v695, v721] : Fin 2 → IVec S16 32) a x).toNat < S64x96.size a := fun v695 v721 k0_hw467 => k0_hw467

def k0_chk468 (v695 : IVec S16 32) (v724 : IVec S16 32) : Prop :=
  (∀ a x, ((![v695, v724] : Fin 2 → IVec S16 32) a x).toNat < S64x96.size a)
theorem k0_idx254_inb : ∀ (v695 : IVec S16 32) (v724 : IVec S16 32) (k0_hw468 : k0_chk468 v695 v724), ∀ a x, ((![v695, v724] : Fin 2 → IVec S16 32) a x).toNat < S64x96.size a := fun v695 v724 k0_hw468 => k0_hw468

def k0_chk469 (v695 : IVec S16 32) (v727 : IVec S16 32) : Prop :=
  (∀ a x, ((![v695, v727] : Fin 2 → IVec S16 32) a x).toNat < S64x96.size a)
theorem k0_idx255_inb : ∀ (v695 : IVec S16 32) (v727 : IVec S16 32) (k0_hw469 : k0_chk469 v695 v727), ∀ a x, ((![v695, v727] : Fin 2 → IVec S16 32) a x).toNat < S64x96.size a := fun v695 v727 k0_hw469 => k0_hw469
def k0_mult112 (v735 : BitVec 32) : BitVec 32 :=
  v735

def k0_off541 (v735 : BitVec 32) : Fin 1 → Nat :=
  let v736 : BitVec 32 := v735
  let v737 : Index := Scalar.indexCast v736
  ![v737.toNat]

def k0_chk470 (v735 : BitVec 32) : Prop :=
  (8 ∣ (k0_mult112 v735).toNat) ∧
  (∀ a, (k0_off541 v735) a + S16.size a ≤ S101376.size a)
theorem k0_mult112_dvd : ∀ (v735 : BitVec 32) (k0_hw470 : k0_chk470 v735), 8 ∣ (k0_mult112 v735).toNat := fun v735 k0_hw470 => k0_hw470.1
theorem k0_off541_inb : ∀ (v735 : BitVec 32) (k0_hw470 : k0_chk470 v735), ∀ a, (k0_off541 v735) a + S16.size a ≤ S101376.size a := fun v735 k0_hw470 => k0_hw470.2

def k0_off542 (v733 : BitVec 32) : Fin 2 → Nat :=
  let v759 : Index := Scalar.indexCast v733
  let c0_197 : Index := 0#32
  ![v759.toNat, 0]

def k0_off543 (v733 : BitVec 32) : Fin 2 → Nat :=
  let v765 : Index := Scalar.indexCast v733
  let c16_199 : Index := 16#32
  ![v765.toNat, 16]
def k0_off544 (v733 : BitVec 32) : Fin 2 → Nat :=
  let v771 : Index := Scalar.indexCast v733
  let c32_201 : Index := 32#32
  ![v771.toNat, 32]
def k0_off545 (v733 : BitVec 32) : Fin 2 → Nat :=
  let v777 : Index := Scalar.indexCast v733
  let c48_203 : Index := 48#32
  ![v777.toNat, 48]

def k0_chk471 (v733 : BitVec 32) : Prop :=
  (∀ a, (k0_off542 v733) a + S1x16.size a ≤ S64x96.size a) ∧
  (∀ a, (k0_off543 v733) a + S1x16.size a ≤ S64x96.size a) ∧
  (∀ a, (k0_off544 v733) a + S1x16.size a ≤ S64x96.size a) ∧
  (∀ a, (k0_off545 v733) a + S1x16.size a ≤ S64x96.size a)
theorem k0_off542_inb : ∀ (v733 : BitVec 32) (k0_hw471 : k0_chk471 v733), ∀ a, (k0_off542 v733) a + S1x16.size a ≤ S64x96.size a := fun v733 k0_hw471 => k0_hw471.1
theorem k0_off543_inb : ∀ (v733 : BitVec 32) (k0_hw471 : k0_chk471 v733), ∀ a, (k0_off543 v733) a + S1x16.size a ≤ S64x96.size a := fun v733 k0_hw471 => k0_hw471.2.1
theorem k0_off544_inb : ∀ (v733 : BitVec 32) (k0_hw471 : k0_chk471 v733), ∀ a, (k0_off544 v733) a + S1x16.size a ≤ S64x96.size a := fun v733 k0_hw471 => k0_hw471.2.2.1
theorem k0_off545_inb : ∀ (v733 : BitVec 32) (k0_hw471 : k0_chk471 v733), ∀ a, (k0_off545 v733) a + S1x16.size a ≤ S64x96.size a := fun v733 k0_hw471 => k0_hw471.2.2.2

def k0_mult113 (v789 : BitVec 32) : BitVec 32 :=
  v789

def k0_off546 (v789 : BitVec 32) : Fin 1 → Nat :=
  let v790 : BitVec 32 := v789
  let v791 : Index := Scalar.indexCast v790
  ![v791.toNat]

def k0_chk472 (v789 : BitVec 32) : Prop :=
  (8 ∣ (k0_mult113 v789).toNat) ∧
  (∀ a, (k0_off546 v789) a + S16.size a ≤ S101376.size a)
theorem k0_mult113_dvd : ∀ (v789 : BitVec 32) (k0_hw472 : k0_chk472 v789), 8 ∣ (k0_mult113 v789).toNat := fun v789 k0_hw472 => k0_hw472.1
theorem k0_off546_inb : ∀ (v789 : BitVec 32) (k0_hw472 : k0_chk472 v789), ∀ a, (k0_off546 v789) a + S16.size a ≤ S101376.size a := fun v789 k0_hw472 => k0_hw472.2

def k0_off547 (v787 : BitVec 32) : Fin 2 → Nat :=
  let v813 : Index := Scalar.indexCast v787
  let c0_209 : Index := 0#32
  ![v813.toNat, 0]

def k0_off548 (v787 : BitVec 32) : Fin 2 → Nat :=
  let v819 : Index := Scalar.indexCast v787
  let c16_211 : Index := 16#32
  ![v819.toNat, 16]
def k0_off549 (v787 : BitVec 32) : Fin 2 → Nat :=
  let v825 : Index := Scalar.indexCast v787
  let c32_213 : Index := 32#32
  ![v825.toNat, 32]
def k0_off550 (v787 : BitVec 32) : Fin 2 → Nat :=
  let v831 : Index := Scalar.indexCast v787
  let c48_215 : Index := 48#32
  ![v831.toNat, 48]

def k0_chk473 (v787 : BitVec 32) : Prop :=
  (∀ a, (k0_off547 v787) a + S1x16.size a ≤ S64x96.size a) ∧
  (∀ a, (k0_off548 v787) a + S1x16.size a ≤ S64x96.size a) ∧
  (∀ a, (k0_off549 v787) a + S1x16.size a ≤ S64x96.size a) ∧
  (∀ a, (k0_off550 v787) a + S1x16.size a ≤ S64x96.size a)
theorem k0_off547_inb : ∀ (v787 : BitVec 32) (k0_hw473 : k0_chk473 v787), ∀ a, (k0_off547 v787) a + S1x16.size a ≤ S64x96.size a := fun v787 k0_hw473 => k0_hw473.1
theorem k0_off548_inb : ∀ (v787 : BitVec 32) (k0_hw473 : k0_chk473 v787), ∀ a, (k0_off548 v787) a + S1x16.size a ≤ S64x96.size a := fun v787 k0_hw473 => k0_hw473.2.1
theorem k0_off549_inb : ∀ (v787 : BitVec 32) (k0_hw473 : k0_chk473 v787), ∀ a, (k0_off549 v787) a + S1x16.size a ≤ S64x96.size a := fun v787 k0_hw473 => k0_hw473.2.2.1
theorem k0_off550_inb : ∀ (v787 : BitVec 32) (k0_hw473 : k0_chk473 v787), ∀ a, (k0_off550 v787) a + S1x16.size a ≤ S64x96.size a := fun v787 k0_hw473 => k0_hw473.2.2.2

def k0_chk474 (v846 : IVec S16 32) : Prop :=
  (∀ a x, ((![v846] : Fin 1 → IVec S16 32) a x).toNat < S101376.size a)
theorem k0_idx256_inb : ∀ (v846 : IVec S16 32) (k0_hw474 : k0_chk474 v846), ∀ a x, ((![v846] : Fin 1 → IVec S16 32) a x).toNat < S101376.size a := fun v846 k0_hw474 => k0_hw474

def k0_chk475 (v860 : IVec S16 32) (v883 : IVec S16 32) : Prop :=
  (∀ a x, ((![v860, v883] : Fin 2 → IVec S16 32) a x).toNat < S64x96.size a)
theorem k0_idx257_inb : ∀ (v860 : IVec S16 32) (v883 : IVec S16 32) (k0_hw475 : k0_chk475 v860 v883), ∀ a x, ((![v860, v883] : Fin 2 → IVec S16 32) a x).toNat < S64x96.size a := fun v860 v883 k0_hw475 => k0_hw475

def k0_chk476 (v860 : IVec S16 32) (v886 : IVec S16 32) : Prop :=
  (∀ a x, ((![v860, v886] : Fin 2 → IVec S16 32) a x).toNat < S64x96.size a)
theorem k0_idx258_inb : ∀ (v860 : IVec S16 32) (v886 : IVec S16 32) (k0_hw476 : k0_chk476 v860 v886), ∀ a x, ((![v860, v886] : Fin 2 → IVec S16 32) a x).toNat < S64x96.size a := fun v860 v886 k0_hw476 => k0_hw476

def k0_chk477 (v860 : IVec S16 32) (v889 : IVec S16 32) : Prop :=
  (∀ a x, ((![v860, v889] : Fin 2 → IVec S16 32) a x).toNat < S64x96.size a)
theorem k0_idx259_inb : ∀ (v860 : IVec S16 32) (v889 : IVec S16 32) (k0_hw477 : k0_chk477 v860 v889), ∀ a x, ((![v860, v889] : Fin 2 → IVec S16 32) a x).toNat < S64x96.size a := fun v860 v889 k0_hw477 => k0_hw477

def k0_chk478 (v860 : IVec S16 32) (v892 : IVec S16 32) : Prop :=
  (∀ a x, ((![v860, v892] : Fin 2 → IVec S16 32) a x).toNat < S64x96.size a)
theorem k0_idx260_inb : ∀ (v860 : IVec S16 32) (v892 : IVec S16 32) (k0_hw478 : k0_chk478 v860 v892), ∀ a x, ((![v860, v892] : Fin 2 → IVec S16 32) a x).toNat < S64x96.size a := fun v860 v892 k0_hw478 => k0_hw478
def k0_mult114 (v900 : BitVec 32) : BitVec 32 :=
  v900

def k0_off551 (v900 : BitVec 32) : Fin 1 → Nat :=
  let v901 : BitVec 32 := v900
  let v902 : Index := Scalar.indexCast v901
  ![v902.toNat]

def k0_chk479 (v900 : BitVec 32) : Prop :=
  (8 ∣ (k0_mult114 v900).toNat) ∧
  (∀ a, (k0_off551 v900) a + S16.size a ≤ S101376.size a)
theorem k0_mult114_dvd : ∀ (v900 : BitVec 32) (k0_hw479 : k0_chk479 v900), 8 ∣ (k0_mult114 v900).toNat := fun v900 k0_hw479 => k0_hw479.1
theorem k0_off551_inb : ∀ (v900 : BitVec 32) (k0_hw479 : k0_chk479 v900), ∀ a, (k0_off551 v900) a + S16.size a ≤ S101376.size a := fun v900 k0_hw479 => k0_hw479.2

def k0_off552 (v898 : BitVec 32) : Fin 2 → Nat :=
  let v924 : Index := Scalar.indexCast v898
  let c0_230 : Index := 0#32
  ![v924.toNat, 0]

def k0_off553 (v898 : BitVec 32) : Fin 2 → Nat :=
  let v930 : Index := Scalar.indexCast v898
  let c16_232 : Index := 16#32
  ![v930.toNat, 16]
def k0_off554 (v898 : BitVec 32) : Fin 2 → Nat :=
  let v936 : Index := Scalar.indexCast v898
  let c32_234 : Index := 32#32
  ![v936.toNat, 32]
def k0_off555 (v898 : BitVec 32) : Fin 2 → Nat :=
  let v942 : Index := Scalar.indexCast v898
  let c48_236 : Index := 48#32
  ![v942.toNat, 48]

def k0_chk480 (v898 : BitVec 32) : Prop :=
  (∀ a, (k0_off552 v898) a + S1x16.size a ≤ S64x96.size a) ∧
  (∀ a, (k0_off553 v898) a + S1x16.size a ≤ S64x96.size a) ∧
  (∀ a, (k0_off554 v898) a + S1x16.size a ≤ S64x96.size a) ∧
  (∀ a, (k0_off555 v898) a + S1x16.size a ≤ S64x96.size a)
theorem k0_off552_inb : ∀ (v898 : BitVec 32) (k0_hw480 : k0_chk480 v898), ∀ a, (k0_off552 v898) a + S1x16.size a ≤ S64x96.size a := fun v898 k0_hw480 => k0_hw480.1
theorem k0_off553_inb : ∀ (v898 : BitVec 32) (k0_hw480 : k0_chk480 v898), ∀ a, (k0_off553 v898) a + S1x16.size a ≤ S64x96.size a := fun v898 k0_hw480 => k0_hw480.2.1
theorem k0_off554_inb : ∀ (v898 : BitVec 32) (k0_hw480 : k0_chk480 v898), ∀ a, (k0_off554 v898) a + S1x16.size a ≤ S64x96.size a := fun v898 k0_hw480 => k0_hw480.2.2.1
theorem k0_off555_inb : ∀ (v898 : BitVec 32) (k0_hw480 : k0_chk480 v898), ∀ a, (k0_off555 v898) a + S1x16.size a ≤ S64x96.size a := fun v898 k0_hw480 => k0_hw480.2.2.2

def k0_mult115 (v954 : BitVec 32) : BitVec 32 :=
  v954

def k0_off556 (v954 : BitVec 32) : Fin 1 → Nat :=
  let v955 : BitVec 32 := v954
  let v956 : Index := Scalar.indexCast v955
  ![v956.toNat]

def k0_chk481 (v954 : BitVec 32) : Prop :=
  (8 ∣ (k0_mult115 v954).toNat) ∧
  (∀ a, (k0_off556 v954) a + S16.size a ≤ S101376.size a)
theorem k0_mult115_dvd : ∀ (v954 : BitVec 32) (k0_hw481 : k0_chk481 v954), 8 ∣ (k0_mult115 v954).toNat := fun v954 k0_hw481 => k0_hw481.1
theorem k0_off556_inb : ∀ (v954 : BitVec 32) (k0_hw481 : k0_chk481 v954), ∀ a, (k0_off556 v954) a + S16.size a ≤ S101376.size a := fun v954 k0_hw481 => k0_hw481.2

def k0_off557 (v952 : BitVec 32) : Fin 2 → Nat :=
  let v978 : Index := Scalar.indexCast v952
  let c0_242 : Index := 0#32
  ![v978.toNat, 0]

def k0_off558 (v952 : BitVec 32) : Fin 2 → Nat :=
  let v984 : Index := Scalar.indexCast v952
  let c16_244 : Index := 16#32
  ![v984.toNat, 16]
def k0_off559 (v952 : BitVec 32) : Fin 2 → Nat :=
  let v990 : Index := Scalar.indexCast v952
  let c32_246 : Index := 32#32
  ![v990.toNat, 32]
def k0_off560 (v952 : BitVec 32) : Fin 2 → Nat :=
  let v996 : Index := Scalar.indexCast v952
  let c48_248 : Index := 48#32
  ![v996.toNat, 48]

def k0_chk482 (v952 : BitVec 32) : Prop :=
  (∀ a, (k0_off557 v952) a + S1x16.size a ≤ S64x96.size a) ∧
  (∀ a, (k0_off558 v952) a + S1x16.size a ≤ S64x96.size a) ∧
  (∀ a, (k0_off559 v952) a + S1x16.size a ≤ S64x96.size a) ∧
  (∀ a, (k0_off560 v952) a + S1x16.size a ≤ S64x96.size a)
theorem k0_off557_inb : ∀ (v952 : BitVec 32) (k0_hw482 : k0_chk482 v952), ∀ a, (k0_off557 v952) a + S1x16.size a ≤ S64x96.size a := fun v952 k0_hw482 => k0_hw482.1
theorem k0_off558_inb : ∀ (v952 : BitVec 32) (k0_hw482 : k0_chk482 v952), ∀ a, (k0_off558 v952) a + S1x16.size a ≤ S64x96.size a := fun v952 k0_hw482 => k0_hw482.2.1
theorem k0_off559_inb : ∀ (v952 : BitVec 32) (k0_hw482 : k0_chk482 v952), ∀ a, (k0_off559 v952) a + S1x16.size a ≤ S64x96.size a := fun v952 k0_hw482 => k0_hw482.2.2.1
theorem k0_off560_inb : ∀ (v952 : BitVec 32) (k0_hw482 : k0_chk482 v952), ∀ a, (k0_off560 v952) a + S1x16.size a ≤ S64x96.size a := fun v952 k0_hw482 => k0_hw482.2.2.2

def k0_chk483 (v1011 : IVec S16 32) : Prop :=
  (∀ a x, ((![v1011] : Fin 1 → IVec S16 32) a x).toNat < S101376.size a)
theorem k0_idx261_inb : ∀ (v1011 : IVec S16 32) (k0_hw483 : k0_chk483 v1011), ∀ a x, ((![v1011] : Fin 1 → IVec S16 32) a x).toNat < S101376.size a := fun v1011 k0_hw483 => k0_hw483

def k0_chk484 (v1025 : IVec S16 32) (v1048 : IVec S16 32) : Prop :=
  (∀ a x, ((![v1025, v1048] : Fin 2 → IVec S16 32) a x).toNat < S64x96.size a)
theorem k0_idx262_inb : ∀ (v1025 : IVec S16 32) (v1048 : IVec S16 32) (k0_hw484 : k0_chk484 v1025 v1048), ∀ a x, ((![v1025, v1048] : Fin 2 → IVec S16 32) a x).toNat < S64x96.size a := fun v1025 v1048 k0_hw484 => k0_hw484

def k0_chk485 (v1025 : IVec S16 32) (v1051 : IVec S16 32) : Prop :=
  (∀ a x, ((![v1025, v1051] : Fin 2 → IVec S16 32) a x).toNat < S64x96.size a)
theorem k0_idx263_inb : ∀ (v1025 : IVec S16 32) (v1051 : IVec S16 32) (k0_hw485 : k0_chk485 v1025 v1051), ∀ a x, ((![v1025, v1051] : Fin 2 → IVec S16 32) a x).toNat < S64x96.size a := fun v1025 v1051 k0_hw485 => k0_hw485

def k0_chk486 (v1025 : IVec S16 32) (v1054 : IVec S16 32) : Prop :=
  (∀ a x, ((![v1025, v1054] : Fin 2 → IVec S16 32) a x).toNat < S64x96.size a)
theorem k0_idx264_inb : ∀ (v1025 : IVec S16 32) (v1054 : IVec S16 32) (k0_hw486 : k0_chk486 v1025 v1054), ∀ a x, ((![v1025, v1054] : Fin 2 → IVec S16 32) a x).toNat < S64x96.size a := fun v1025 v1054 k0_hw486 => k0_hw486

def k0_chk487 (v1025 : IVec S16 32) (v1057 : IVec S16 32) : Prop :=
  (∀ a x, ((![v1025, v1057] : Fin 2 → IVec S16 32) a x).toNat < S64x96.size a)
theorem k0_idx265_inb : ∀ (v1025 : IVec S16 32) (v1057 : IVec S16 32) (k0_hw487 : k0_chk487 v1025 v1057), ∀ a x, ((![v1025, v1057] : Fin 2 → IVec S16 32) a x).toNat < S64x96.size a := fun v1025 v1057 k0_hw487 => k0_hw487
def k0_mult116 (v1065 : BitVec 32) : BitVec 32 :=
  v1065

def k0_off561 (v1065 : BitVec 32) : Fin 1 → Nat :=
  let v1066 : BitVec 32 := v1065
  let v1067 : Index := Scalar.indexCast v1066
  ![v1067.toNat]

def k0_chk488 (v1065 : BitVec 32) : Prop :=
  (8 ∣ (k0_mult116 v1065).toNat) ∧
  (∀ a, (k0_off561 v1065) a + S16.size a ≤ S101376.size a)
theorem k0_mult116_dvd : ∀ (v1065 : BitVec 32) (k0_hw488 : k0_chk488 v1065), 8 ∣ (k0_mult116 v1065).toNat := fun v1065 k0_hw488 => k0_hw488.1
theorem k0_off561_inb : ∀ (v1065 : BitVec 32) (k0_hw488 : k0_chk488 v1065), ∀ a, (k0_off561 v1065) a + S16.size a ≤ S101376.size a := fun v1065 k0_hw488 => k0_hw488.2

def k0_off562 (v1063 : BitVec 32) : Fin 2 → Nat :=
  let v1089 : Index := Scalar.indexCast v1063
  let c0_263 : Index := 0#32
  ![v1089.toNat, 0]

def k0_off563 (v1063 : BitVec 32) : Fin 2 → Nat :=
  let v1095 : Index := Scalar.indexCast v1063
  let c16_265 : Index := 16#32
  ![v1095.toNat, 16]
def k0_off564 (v1063 : BitVec 32) : Fin 2 → Nat :=
  let v1101 : Index := Scalar.indexCast v1063
  let c32_267 : Index := 32#32
  ![v1101.toNat, 32]
def k0_off565 (v1063 : BitVec 32) : Fin 2 → Nat :=
  let v1107 : Index := Scalar.indexCast v1063
  let c48_269 : Index := 48#32
  ![v1107.toNat, 48]

def k0_chk489 (v1063 : BitVec 32) : Prop :=
  (∀ a, (k0_off562 v1063) a + S1x16.size a ≤ S64x96.size a) ∧
  (∀ a, (k0_off563 v1063) a + S1x16.size a ≤ S64x96.size a) ∧
  (∀ a, (k0_off564 v1063) a + S1x16.size a ≤ S64x96.size a) ∧
  (∀ a, (k0_off565 v1063) a + S1x16.size a ≤ S64x96.size a)
theorem k0_off562_inb : ∀ (v1063 : BitVec 32) (k0_hw489 : k0_chk489 v1063), ∀ a, (k0_off562 v1063) a + S1x16.size a ≤ S64x96.size a := fun v1063 k0_hw489 => k0_hw489.1
theorem k0_off563_inb : ∀ (v1063 : BitVec 32) (k0_hw489 : k0_chk489 v1063), ∀ a, (k0_off563 v1063) a + S1x16.size a ≤ S64x96.size a := fun v1063 k0_hw489 => k0_hw489.2.1
theorem k0_off564_inb : ∀ (v1063 : BitVec 32) (k0_hw489 : k0_chk489 v1063), ∀ a, (k0_off564 v1063) a + S1x16.size a ≤ S64x96.size a := fun v1063 k0_hw489 => k0_hw489.2.2.1
theorem k0_off565_inb : ∀ (v1063 : BitVec 32) (k0_hw489 : k0_chk489 v1063), ∀ a, (k0_off565 v1063) a + S1x16.size a ≤ S64x96.size a := fun v1063 k0_hw489 => k0_hw489.2.2.2

def k0_mult117 (v1119 : BitVec 32) : BitVec 32 :=
  v1119

def k0_off566 (v1119 : BitVec 32) : Fin 1 → Nat :=
  let v1120 : BitVec 32 := v1119
  let v1121 : Index := Scalar.indexCast v1120
  ![v1121.toNat]

def k0_chk490 (v1119 : BitVec 32) : Prop :=
  (8 ∣ (k0_mult117 v1119).toNat) ∧
  (∀ a, (k0_off566 v1119) a + S16.size a ≤ S101376.size a)
theorem k0_mult117_dvd : ∀ (v1119 : BitVec 32) (k0_hw490 : k0_chk490 v1119), 8 ∣ (k0_mult117 v1119).toNat := fun v1119 k0_hw490 => k0_hw490.1
theorem k0_off566_inb : ∀ (v1119 : BitVec 32) (k0_hw490 : k0_chk490 v1119), ∀ a, (k0_off566 v1119) a + S16.size a ≤ S101376.size a := fun v1119 k0_hw490 => k0_hw490.2

def k0_off567 (v1117 : BitVec 32) : Fin 2 → Nat :=
  let v1143 : Index := Scalar.indexCast v1117
  let c0_275 : Index := 0#32
  ![v1143.toNat, 0]

def k0_off568 (v1117 : BitVec 32) : Fin 2 → Nat :=
  let v1149 : Index := Scalar.indexCast v1117
  let c16_277 : Index := 16#32
  ![v1149.toNat, 16]
def k0_off569 (v1117 : BitVec 32) : Fin 2 → Nat :=
  let v1155 : Index := Scalar.indexCast v1117
  let c32_279 : Index := 32#32
  ![v1155.toNat, 32]
def k0_off570 (v1117 : BitVec 32) : Fin 2 → Nat :=
  let v1161 : Index := Scalar.indexCast v1117
  let c48_281 : Index := 48#32
  ![v1161.toNat, 48]

def k0_chk491 (v1117 : BitVec 32) : Prop :=
  (∀ a, (k0_off567 v1117) a + S1x16.size a ≤ S64x96.size a) ∧
  (∀ a, (k0_off568 v1117) a + S1x16.size a ≤ S64x96.size a) ∧
  (∀ a, (k0_off569 v1117) a + S1x16.size a ≤ S64x96.size a) ∧
  (∀ a, (k0_off570 v1117) a + S1x16.size a ≤ S64x96.size a)
theorem k0_off567_inb : ∀ (v1117 : BitVec 32) (k0_hw491 : k0_chk491 v1117), ∀ a, (k0_off567 v1117) a + S1x16.size a ≤ S64x96.size a := fun v1117 k0_hw491 => k0_hw491.1
theorem k0_off568_inb : ∀ (v1117 : BitVec 32) (k0_hw491 : k0_chk491 v1117), ∀ a, (k0_off568 v1117) a + S1x16.size a ≤ S64x96.size a := fun v1117 k0_hw491 => k0_hw491.2.1
theorem k0_off569_inb : ∀ (v1117 : BitVec 32) (k0_hw491 : k0_chk491 v1117), ∀ a, (k0_off569 v1117) a + S1x16.size a ≤ S64x96.size a := fun v1117 k0_hw491 => k0_hw491.2.2.1
theorem k0_off570_inb : ∀ (v1117 : BitVec 32) (k0_hw491 : k0_chk491 v1117), ∀ a, (k0_off570 v1117) a + S1x16.size a ≤ S64x96.size a := fun v1117 k0_hw491 => k0_hw491.2.2.2

def k0_chk492 (v1176 : IVec S16 32) : Prop :=
  (∀ a x, ((![v1176] : Fin 1 → IVec S16 32) a x).toNat < S101376.size a)
theorem k0_idx266_inb : ∀ (v1176 : IVec S16 32) (k0_hw492 : k0_chk492 v1176), ∀ a x, ((![v1176] : Fin 1 → IVec S16 32) a x).toNat < S101376.size a := fun v1176 k0_hw492 => k0_hw492

def k0_chk493 (v1190 : IVec S16 32) (v1213 : IVec S16 32) : Prop :=
  (∀ a x, ((![v1190, v1213] : Fin 2 → IVec S16 32) a x).toNat < S64x96.size a)
theorem k0_idx267_inb : ∀ (v1190 : IVec S16 32) (v1213 : IVec S16 32) (k0_hw493 : k0_chk493 v1190 v1213), ∀ a x, ((![v1190, v1213] : Fin 2 → IVec S16 32) a x).toNat < S64x96.size a := fun v1190 v1213 k0_hw493 => k0_hw493

def k0_chk494 (v1190 : IVec S16 32) (v1216 : IVec S16 32) : Prop :=
  (∀ a x, ((![v1190, v1216] : Fin 2 → IVec S16 32) a x).toNat < S64x96.size a)
theorem k0_idx268_inb : ∀ (v1190 : IVec S16 32) (v1216 : IVec S16 32) (k0_hw494 : k0_chk494 v1190 v1216), ∀ a x, ((![v1190, v1216] : Fin 2 → IVec S16 32) a x).toNat < S64x96.size a := fun v1190 v1216 k0_hw494 => k0_hw494

def k0_chk495 (v1190 : IVec S16 32) (v1219 : IVec S16 32) : Prop :=
  (∀ a x, ((![v1190, v1219] : Fin 2 → IVec S16 32) a x).toNat < S64x96.size a)
theorem k0_idx269_inb : ∀ (v1190 : IVec S16 32) (v1219 : IVec S16 32) (k0_hw495 : k0_chk495 v1190 v1219), ∀ a x, ((![v1190, v1219] : Fin 2 → IVec S16 32) a x).toNat < S64x96.size a := fun v1190 v1219 k0_hw495 => k0_hw495

def k0_chk496 (v1190 : IVec S16 32) (v1222 : IVec S16 32) : Prop :=
  (∀ a x, ((![v1190, v1222] : Fin 2 → IVec S16 32) a x).toNat < S64x96.size a)
theorem k0_idx270_inb : ∀ (v1190 : IVec S16 32) (v1222 : IVec S16 32) (k0_hw496 : k0_chk496 v1190 v1222), ∀ a x, ((![v1190, v1222] : Fin 2 → IVec S16 32) a x).toNat < S64x96.size a := fun v1190 v1222 k0_hw496 => k0_hw496
def k0_mult118 (v1230 : BitVec 32) : BitVec 32 :=
  v1230

def k0_off571 (v1230 : BitVec 32) : Fin 1 → Nat :=
  let v1231 : BitVec 32 := v1230
  let v1232 : Index := Scalar.indexCast v1231
  ![v1232.toNat]

def k0_chk497 (v1230 : BitVec 32) : Prop :=
  (8 ∣ (k0_mult118 v1230).toNat) ∧
  (∀ a, (k0_off571 v1230) a + S16.size a ≤ S101376.size a)
theorem k0_mult118_dvd : ∀ (v1230 : BitVec 32) (k0_hw497 : k0_chk497 v1230), 8 ∣ (k0_mult118 v1230).toNat := fun v1230 k0_hw497 => k0_hw497.1
theorem k0_off571_inb : ∀ (v1230 : BitVec 32) (k0_hw497 : k0_chk497 v1230), ∀ a, (k0_off571 v1230) a + S16.size a ≤ S101376.size a := fun v1230 k0_hw497 => k0_hw497.2

def k0_off572 (v1228 : BitVec 32) : Fin 2 → Nat :=
  let v1254 : Index := Scalar.indexCast v1228
  let c0_296 : Index := 0#32
  ![v1254.toNat, 0]

def k0_off573 (v1228 : BitVec 32) : Fin 2 → Nat :=
  let v1260 : Index := Scalar.indexCast v1228
  let c16_298 : Index := 16#32
  ![v1260.toNat, 16]
def k0_off574 (v1228 : BitVec 32) : Fin 2 → Nat :=
  let v1266 : Index := Scalar.indexCast v1228
  let c32_300 : Index := 32#32
  ![v1266.toNat, 32]
def k0_off575 (v1228 : BitVec 32) : Fin 2 → Nat :=
  let v1272 : Index := Scalar.indexCast v1228
  let c48_302 : Index := 48#32
  ![v1272.toNat, 48]

def k0_chk498 (v1228 : BitVec 32) : Prop :=
  (∀ a, (k0_off572 v1228) a + S1x16.size a ≤ S64x96.size a) ∧
  (∀ a, (k0_off573 v1228) a + S1x16.size a ≤ S64x96.size a) ∧
  (∀ a, (k0_off574 v1228) a + S1x16.size a ≤ S64x96.size a) ∧
  (∀ a, (k0_off575 v1228) a + S1x16.size a ≤ S64x96.size a)
theorem k0_off572_inb : ∀ (v1228 : BitVec 32) (k0_hw498 : k0_chk498 v1228), ∀ a, (k0_off572 v1228) a + S1x16.size a ≤ S64x96.size a := fun v1228 k0_hw498 => k0_hw498.1
theorem k0_off573_inb : ∀ (v1228 : BitVec 32) (k0_hw498 : k0_chk498 v1228), ∀ a, (k0_off573 v1228) a + S1x16.size a ≤ S64x96.size a := fun v1228 k0_hw498 => k0_hw498.2.1
theorem k0_off574_inb : ∀ (v1228 : BitVec 32) (k0_hw498 : k0_chk498 v1228), ∀ a, (k0_off574 v1228) a + S1x16.size a ≤ S64x96.size a := fun v1228 k0_hw498 => k0_hw498.2.2.1
theorem k0_off575_inb : ∀ (v1228 : BitVec 32) (k0_hw498 : k0_chk498 v1228), ∀ a, (k0_off575 v1228) a + S1x16.size a ≤ S64x96.size a := fun v1228 k0_hw498 => k0_hw498.2.2.2

def k0_mult119 (v1284 : BitVec 32) : BitVec 32 :=
  v1284

def k0_off576 (v1284 : BitVec 32) : Fin 1 → Nat :=
  let v1285 : BitVec 32 := v1284
  let v1286 : Index := Scalar.indexCast v1285
  ![v1286.toNat]

def k0_chk499 (v1284 : BitVec 32) : Prop :=
  (8 ∣ (k0_mult119 v1284).toNat) ∧
  (∀ a, (k0_off576 v1284) a + S16.size a ≤ S101376.size a)
theorem k0_mult119_dvd : ∀ (v1284 : BitVec 32) (k0_hw499 : k0_chk499 v1284), 8 ∣ (k0_mult119 v1284).toNat := fun v1284 k0_hw499 => k0_hw499.1
theorem k0_off576_inb : ∀ (v1284 : BitVec 32) (k0_hw499 : k0_chk499 v1284), ∀ a, (k0_off576 v1284) a + S16.size a ≤ S101376.size a := fun v1284 k0_hw499 => k0_hw499.2

def k0_off577 (v1282 : BitVec 32) : Fin 2 → Nat :=
  let v1308 : Index := Scalar.indexCast v1282
  let c0_308 : Index := 0#32
  ![v1308.toNat, 0]

def k0_off578 (v1282 : BitVec 32) : Fin 2 → Nat :=
  let v1314 : Index := Scalar.indexCast v1282
  let c16_310 : Index := 16#32
  ![v1314.toNat, 16]
def k0_off579 (v1282 : BitVec 32) : Fin 2 → Nat :=
  let v1320 : Index := Scalar.indexCast v1282
  let c32_312 : Index := 32#32
  ![v1320.toNat, 32]
def k0_off580 (v1282 : BitVec 32) : Fin 2 → Nat :=
  let v1326 : Index := Scalar.indexCast v1282
  let c48_314 : Index := 48#32
  ![v1326.toNat, 48]

def k0_chk500 (v1282 : BitVec 32) : Prop :=
  (∀ a, (k0_off577 v1282) a + S1x16.size a ≤ S64x96.size a) ∧
  (∀ a, (k0_off578 v1282) a + S1x16.size a ≤ S64x96.size a) ∧
  (∀ a, (k0_off579 v1282) a + S1x16.size a ≤ S64x96.size a) ∧
  (∀ a, (k0_off580 v1282) a + S1x16.size a ≤ S64x96.size a)
theorem k0_off577_inb : ∀ (v1282 : BitVec 32) (k0_hw500 : k0_chk500 v1282), ∀ a, (k0_off577 v1282) a + S1x16.size a ≤ S64x96.size a := fun v1282 k0_hw500 => k0_hw500.1
theorem k0_off578_inb : ∀ (v1282 : BitVec 32) (k0_hw500 : k0_chk500 v1282), ∀ a, (k0_off578 v1282) a + S1x16.size a ≤ S64x96.size a := fun v1282 k0_hw500 => k0_hw500.2.1
theorem k0_off579_inb : ∀ (v1282 : BitVec 32) (k0_hw500 : k0_chk500 v1282), ∀ a, (k0_off579 v1282) a + S1x16.size a ≤ S64x96.size a := fun v1282 k0_hw500 => k0_hw500.2.2.1
theorem k0_off580_inb : ∀ (v1282 : BitVec 32) (k0_hw500 : k0_chk500 v1282), ∀ a, (k0_off580 v1282) a + S1x16.size a ≤ S64x96.size a := fun v1282 k0_hw500 => k0_hw500.2.2.2

def k0_chk501 (v1341 : IVec S16 32) : Prop :=
  (∀ a x, ((![v1341] : Fin 1 → IVec S16 32) a x).toNat < S101376.size a)
theorem k0_idx271_inb : ∀ (v1341 : IVec S16 32) (k0_hw501 : k0_chk501 v1341), ∀ a x, ((![v1341] : Fin 1 → IVec S16 32) a x).toNat < S101376.size a := fun v1341 k0_hw501 => k0_hw501

def k0_chk502 (v1355 : IVec S16 32) (v1378 : IVec S16 32) : Prop :=
  (∀ a x, ((![v1355, v1378] : Fin 2 → IVec S16 32) a x).toNat < S64x96.size a)
theorem k0_idx272_inb : ∀ (v1355 : IVec S16 32) (v1378 : IVec S16 32) (k0_hw502 : k0_chk502 v1355 v1378), ∀ a x, ((![v1355, v1378] : Fin 2 → IVec S16 32) a x).toNat < S64x96.size a := fun v1355 v1378 k0_hw502 => k0_hw502

def k0_chk503 (v1355 : IVec S16 32) (v1381 : IVec S16 32) : Prop :=
  (∀ a x, ((![v1355, v1381] : Fin 2 → IVec S16 32) a x).toNat < S64x96.size a)
theorem k0_idx273_inb : ∀ (v1355 : IVec S16 32) (v1381 : IVec S16 32) (k0_hw503 : k0_chk503 v1355 v1381), ∀ a x, ((![v1355, v1381] : Fin 2 → IVec S16 32) a x).toNat < S64x96.size a := fun v1355 v1381 k0_hw503 => k0_hw503

def k0_chk504 (v1355 : IVec S16 32) (v1384 : IVec S16 32) : Prop :=
  (∀ a x, ((![v1355, v1384] : Fin 2 → IVec S16 32) a x).toNat < S64x96.size a)
theorem k0_idx274_inb : ∀ (v1355 : IVec S16 32) (v1384 : IVec S16 32) (k0_hw504 : k0_chk504 v1355 v1384), ∀ a x, ((![v1355, v1384] : Fin 2 → IVec S16 32) a x).toNat < S64x96.size a := fun v1355 v1384 k0_hw504 => k0_hw504

def k0_chk505 (v1355 : IVec S16 32) (v1387 : IVec S16 32) : Prop :=
  (∀ a x, ((![v1355, v1387] : Fin 2 → IVec S16 32) a x).toNat < S64x96.size a)
theorem k0_idx275_inb : ∀ (v1355 : IVec S16 32) (v1387 : IVec S16 32) (k0_hw505 : k0_chk505 v1355 v1387), ∀ a x, ((![v1355, v1387] : Fin 2 → IVec S16 32) a x).toNat < S64x96.size a := fun v1355 v1387 k0_hw505 => k0_hw505
def k0_mult120 (v1395 : BitVec 32) : BitVec 32 :=
  v1395

def k0_off581 (v1395 : BitVec 32) : Fin 1 → Nat :=
  let v1396 : BitVec 32 := v1395
  let v1397 : Index := Scalar.indexCast v1396
  ![v1397.toNat]

def k0_chk506 (v1395 : BitVec 32) : Prop :=
  (8 ∣ (k0_mult120 v1395).toNat) ∧
  (∀ a, (k0_off581 v1395) a + S16.size a ≤ S101376.size a)
theorem k0_mult120_dvd : ∀ (v1395 : BitVec 32) (k0_hw506 : k0_chk506 v1395), 8 ∣ (k0_mult120 v1395).toNat := fun v1395 k0_hw506 => k0_hw506.1
theorem k0_off581_inb : ∀ (v1395 : BitVec 32) (k0_hw506 : k0_chk506 v1395), ∀ a, (k0_off581 v1395) a + S16.size a ≤ S101376.size a := fun v1395 k0_hw506 => k0_hw506.2

def k0_off582 (v1393 : BitVec 32) : Fin 2 → Nat :=
  let v1419 : Index := Scalar.indexCast v1393
  let c0_329 : Index := 0#32
  ![v1419.toNat, 0]

def k0_off583 (v1393 : BitVec 32) : Fin 2 → Nat :=
  let v1425 : Index := Scalar.indexCast v1393
  let c16_331 : Index := 16#32
  ![v1425.toNat, 16]
def k0_off584 (v1393 : BitVec 32) : Fin 2 → Nat :=
  let v1431 : Index := Scalar.indexCast v1393
  let c32_333 : Index := 32#32
  ![v1431.toNat, 32]
def k0_off585 (v1393 : BitVec 32) : Fin 2 → Nat :=
  let v1437 : Index := Scalar.indexCast v1393
  let c48_335 : Index := 48#32
  ![v1437.toNat, 48]

def k0_chk507 (v1393 : BitVec 32) : Prop :=
  (∀ a, (k0_off582 v1393) a + S1x16.size a ≤ S64x96.size a) ∧
  (∀ a, (k0_off583 v1393) a + S1x16.size a ≤ S64x96.size a) ∧
  (∀ a, (k0_off584 v1393) a + S1x16.size a ≤ S64x96.size a) ∧
  (∀ a, (k0_off585 v1393) a + S1x16.size a ≤ S64x96.size a)
theorem k0_off582_inb : ∀ (v1393 : BitVec 32) (k0_hw507 : k0_chk507 v1393), ∀ a, (k0_off582 v1393) a + S1x16.size a ≤ S64x96.size a := fun v1393 k0_hw507 => k0_hw507.1
theorem k0_off583_inb : ∀ (v1393 : BitVec 32) (k0_hw507 : k0_chk507 v1393), ∀ a, (k0_off583 v1393) a + S1x16.size a ≤ S64x96.size a := fun v1393 k0_hw507 => k0_hw507.2.1
theorem k0_off584_inb : ∀ (v1393 : BitVec 32) (k0_hw507 : k0_chk507 v1393), ∀ a, (k0_off584 v1393) a + S1x16.size a ≤ S64x96.size a := fun v1393 k0_hw507 => k0_hw507.2.2.1
theorem k0_off585_inb : ∀ (v1393 : BitVec 32) (k0_hw507 : k0_chk507 v1393), ∀ a, (k0_off585 v1393) a + S1x16.size a ≤ S64x96.size a := fun v1393 k0_hw507 => k0_hw507.2.2.2

def k0_mult121 (v1449 : BitVec 32) : BitVec 32 :=
  v1449

def k0_off586 (v1449 : BitVec 32) : Fin 1 → Nat :=
  let v1450 : BitVec 32 := v1449
  let v1451 : Index := Scalar.indexCast v1450
  ![v1451.toNat]

def k0_chk508 (v1449 : BitVec 32) : Prop :=
  (8 ∣ (k0_mult121 v1449).toNat) ∧
  (∀ a, (k0_off586 v1449) a + S16.size a ≤ S101376.size a)
theorem k0_mult121_dvd : ∀ (v1449 : BitVec 32) (k0_hw508 : k0_chk508 v1449), 8 ∣ (k0_mult121 v1449).toNat := fun v1449 k0_hw508 => k0_hw508.1
theorem k0_off586_inb : ∀ (v1449 : BitVec 32) (k0_hw508 : k0_chk508 v1449), ∀ a, (k0_off586 v1449) a + S16.size a ≤ S101376.size a := fun v1449 k0_hw508 => k0_hw508.2

def k0_off587 (v1447 : BitVec 32) : Fin 2 → Nat :=
  let v1473 : Index := Scalar.indexCast v1447
  let c0_341 : Index := 0#32
  ![v1473.toNat, 0]

def k0_off588 (v1447 : BitVec 32) : Fin 2 → Nat :=
  let v1479 : Index := Scalar.indexCast v1447
  let c16_343 : Index := 16#32
  ![v1479.toNat, 16]
def k0_off589 (v1447 : BitVec 32) : Fin 2 → Nat :=
  let v1485 : Index := Scalar.indexCast v1447
  let c32_345 : Index := 32#32
  ![v1485.toNat, 32]
def k0_off590 (v1447 : BitVec 32) : Fin 2 → Nat :=
  let v1491 : Index := Scalar.indexCast v1447
  let c48_347 : Index := 48#32
  ![v1491.toNat, 48]

def k0_chk509 (v1447 : BitVec 32) : Prop :=
  (∀ a, (k0_off587 v1447) a + S1x16.size a ≤ S64x96.size a) ∧
  (∀ a, (k0_off588 v1447) a + S1x16.size a ≤ S64x96.size a) ∧
  (∀ a, (k0_off589 v1447) a + S1x16.size a ≤ S64x96.size a) ∧
  (∀ a, (k0_off590 v1447) a + S1x16.size a ≤ S64x96.size a)
theorem k0_off587_inb : ∀ (v1447 : BitVec 32) (k0_hw509 : k0_chk509 v1447), ∀ a, (k0_off587 v1447) a + S1x16.size a ≤ S64x96.size a := fun v1447 k0_hw509 => k0_hw509.1
theorem k0_off588_inb : ∀ (v1447 : BitVec 32) (k0_hw509 : k0_chk509 v1447), ∀ a, (k0_off588 v1447) a + S1x16.size a ≤ S64x96.size a := fun v1447 k0_hw509 => k0_hw509.2.1
theorem k0_off589_inb : ∀ (v1447 : BitVec 32) (k0_hw509 : k0_chk509 v1447), ∀ a, (k0_off589 v1447) a + S1x16.size a ≤ S64x96.size a := fun v1447 k0_hw509 => k0_hw509.2.2.1
theorem k0_off590_inb : ∀ (v1447 : BitVec 32) (k0_hw509 : k0_chk509 v1447), ∀ a, (k0_off590 v1447) a + S1x16.size a ≤ S64x96.size a := fun v1447 k0_hw509 => k0_hw509.2.2.2

def k0_chk510 (v1506 : IVec S16 32) : Prop :=
  (∀ a x, ((![v1506] : Fin 1 → IVec S16 32) a x).toNat < S101376.size a)
theorem k0_idx276_inb : ∀ (v1506 : IVec S16 32) (k0_hw510 : k0_chk510 v1506), ∀ a x, ((![v1506] : Fin 1 → IVec S16 32) a x).toNat < S101376.size a := fun v1506 k0_hw510 => k0_hw510

def k0_chk511 (v1520 : IVec S16 32) (v1543 : IVec S16 32) : Prop :=
  (∀ a x, ((![v1520, v1543] : Fin 2 → IVec S16 32) a x).toNat < S64x96.size a)
theorem k0_idx277_inb : ∀ (v1520 : IVec S16 32) (v1543 : IVec S16 32) (k0_hw511 : k0_chk511 v1520 v1543), ∀ a x, ((![v1520, v1543] : Fin 2 → IVec S16 32) a x).toNat < S64x96.size a := fun v1520 v1543 k0_hw511 => k0_hw511

def k0_chk512 (v1520 : IVec S16 32) (v1546 : IVec S16 32) : Prop :=
  (∀ a x, ((![v1520, v1546] : Fin 2 → IVec S16 32) a x).toNat < S64x96.size a)
theorem k0_idx278_inb : ∀ (v1520 : IVec S16 32) (v1546 : IVec S16 32) (k0_hw512 : k0_chk512 v1520 v1546), ∀ a x, ((![v1520, v1546] : Fin 2 → IVec S16 32) a x).toNat < S64x96.size a := fun v1520 v1546 k0_hw512 => k0_hw512

def k0_chk513 (v1520 : IVec S16 32) (v1549 : IVec S16 32) : Prop :=
  (∀ a x, ((![v1520, v1549] : Fin 2 → IVec S16 32) a x).toNat < S64x96.size a)
theorem k0_idx279_inb : ∀ (v1520 : IVec S16 32) (v1549 : IVec S16 32) (k0_hw513 : k0_chk513 v1520 v1549), ∀ a x, ((![v1520, v1549] : Fin 2 → IVec S16 32) a x).toNat < S64x96.size a := fun v1520 v1549 k0_hw513 => k0_hw513

def k0_chk514 (v1520 : IVec S16 32) (v1552 : IVec S16 32) : Prop :=
  (∀ a x, ((![v1520, v1552] : Fin 2 → IVec S16 32) a x).toNat < S64x96.size a)
theorem k0_idx280_inb : ∀ (v1520 : IVec S16 32) (v1552 : IVec S16 32) (k0_hw514 : k0_chk514 v1520 v1552), ∀ a x, ((![v1520, v1552] : Fin 2 → IVec S16 32) a x).toNat < S64x96.size a := fun v1520 v1552 k0_hw514 => k0_hw514
@[reducible] def k0_t15_loop (v112 : BitVec 32) (arg19 : BitVec 32) : Scf.Loop 32 :=
  let c0_i32_92 : BitVec 32 := 0#32
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v112 v190
  let c1024_i32_88 : BitVec 32 := 1024#32
  let v195 : BitVec 32 := Scalar.muli v185 c1024_i32_88
  let v196 : BitVec 32 := Scalar.subi v191 v195
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let v202 : BitVec 32 := Scalar.addi c0_i32_92 v201
  let c1_i32_95 : BitVec 32 := 1#32
  ⟨v205, v202, c1_i32_95⟩
def k0_off591 (v112 : BitVec 32) (arg19 : BitVec 32) (k0_t15 : Fin (k0_t15_loop v112 arg19).trips) : Fin 1 → Nat :=
  let c0_i32_78 : BitVec 32 := 0#32
  let v170 : BitVec 1 := Scalar.cmpi .sgt arg19 c0_i32_78
  let v171 : BitVec 32 := Scalar.extui v170
  let c0_i32_79 : BitVec 32 := 0#32
  let v172 : BitVec 1 := Scalar.cmpi .slt arg19 c0_i32_79
  let v173 : BitVec 32 := Scalar.extui v172
  let v174 : BitVec 32 := Scalar.subi v171 v173
  let c1024_i32_77 : BitVec 32 := 1024#32
  let c0_i32_80 : BitVec 32 := 0#32
  let v175 : BitVec 1 := Scalar.cmpi .sgt c1024_i32_77 c0_i32_80
  let v176 : BitVec 32 := Scalar.extui v175
  let c0_i32_81 : BitVec 32 := 0#32
  let v177 : BitVec 1 := Scalar.cmpi .slt c1024_i32_77 c0_i32_81
  let v178 : BitVec 32 := Scalar.extui v177
  let v179 : BitVec 32 := Scalar.subi v176 v178
  let v180 : BitVec 1 := Scalar.cmpi .ne v174 v179
  let v181 : BitVec 32 := Scalar.remsi arg19 c1024_i32_77
  let c0_i32_82 : BitVec 32 := 0#32
  let v182 : BitVec 1 := Scalar.cmpi .ne v181 c0_i32_82
  let v183 : BitVec 1 := Scalar.andi v180 v182
  let v169 : BitVec 32 := Scalar.divsi arg19 c1024_i32_77
  let c1_i32_83 : BitVec 32 := 1#32
  let v184 : BitVec 32 := Scalar.subi v169 c1_i32_83
  let v185 : BitVec 32 := Scalar.select v183 v184 v169
  let c1024_i32_87 : BitVec 32 := 1024#32
  let v192 : BitVec 32 := Scalar.muli v185 c1024_i32_87
  let v193 : BitVec 32 := Scalar.subi arg19 v192
  let c_m16_i32 : BitVec 32 := 4294967280#32
  let v194 : BitVec 32 := Scalar.andi v193 c_m16_i32
  let c0_i32_92 : BitVec 32 := 0#32
  let c1_i32_85 : BitVec 32 := 1#32
  let v189 : BitVec 32 := Scalar.addi v185 c1_i32_85
  let c1024_i32_86 : BitVec 32 := 1024#32
  let v190 : BitVec 32 := Scalar.muli v189 c1024_i32_86
  let v191 : BitVec 32 := Scalar.minsi v112 v190
  let c1024_i32_88 : BitVec 32 := 1024#32
  let v195 : BitVec 32 := Scalar.muli v185 c1024_i32_88
  let v196 : BitVec 32 := Scalar.subi v191 v195
  let v197 : BitVec 32 := Scalar.subi v196 v194
  let c16_i32 : BitVec 32 := 16#32
  let c1_i32_89 : BitVec 32 := 1#32
  let v198 : BitVec 32 := Scalar.subi c16_i32 c1_i32_89
  let v199 : BitVec 32 := Scalar.addi v197 v198
  let c16_i32_90 : BitVec 32 := 16#32
  let v200 : BitVec 32 := Scalar.divsi v199 c16_i32_90
  let v201 : BitVec 32 := Scalar.subi v200 c0_i32_92
  let c1_i32_93 : BitVec 32 := 1#32
  let v203 : BitVec 32 := Scalar.divsi v201 c1_i32_93
  let v204 : BitVec 32 := Scalar.muli v203 c1_i32_93
  let v205 : BitVec 32 := Scalar.addi c0_i32_92 v204
  let c1_i32_95 : BitVec 32 := 1#32
  let arg21 : BitVec 32 := Scf.iv v205 c1_i32_95 k0_t15
  let c16_i32_91 : BitVec 32 := 16#32
  let v206 : BitVec 32 := Scalar.muli arg21 c16_i32_91
  let v207 : BitVec 32 := Scalar.addi v194 v206
  let v208 : Index := Scalar.indexCast v207
  ![v208.toNat]

def k0_chk442 (v112 : BitVec 32) (arg19 : BitVec 32) : Prop :=
  ((k0_t14_loop v112 arg19).OK) ∧
  (∀ k0_t14 : Fin (k0_t14_loop v112 arg19).trips, ∀ a, (k0_off510 v112 arg19 k0_t14) a + S16.size a ≤ S1024.size a) ∧
  ((k0_t15_loop v112 arg19).OK) ∧
  (∀ k0_t15 : Fin (k0_t15_loop v112 arg19).trips, ∀ a, (k0_off591 v112 arg19 k0_t15) a + S16.size a ≤ S1024.size a)
theorem k0_t14_ok : ∀ (v112 : BitVec 32) (arg19 : BitVec 32) (k0_hw442 : k0_chk442 v112 arg19), (k0_t14_loop v112 arg19).OK := fun v112 arg19 k0_hw442 => k0_hw442.1
theorem k0_off510_inb : ∀ (v112 : BitVec 32) (arg19 : BitVec 32) (k0_hw442 : k0_chk442 v112 arg19) (k0_t14 : Fin (k0_t14_loop v112 arg19).trips), ∀ a, (k0_off510 v112 arg19 k0_t14) a + S16.size a ≤ S1024.size a := fun v112 arg19 k0_hw442 k0_t14 => k0_hw442.2.1 k0_t14
theorem k0_t15_ok : ∀ (v112 : BitVec 32) (arg19 : BitVec 32) (k0_hw442 : k0_chk442 v112 arg19), (k0_t15_loop v112 arg19).OK := fun v112 arg19 k0_hw442 => k0_hw442.2.2.1
theorem k0_off591_inb : ∀ (v112 : BitVec 32) (arg19 : BitVec 32) (k0_hw442 : k0_chk442 v112 arg19) (k0_t15 : Fin (k0_t15_loop v112 arg19).trips), ∀ a, (k0_off591 v112 arg19 k0_t15) a + S16.size a ≤ S1024.size a := fun v112 arg19 k0_hw442 k0_t15 => k0_hw442.2.2.2 k0_t15

def k0_mult122 (v240 : BitVec 32) : BitVec 32 :=
  v240

def k0_off592 (v240 : BitVec 32) : Fin 1 → Nat :=
  let v241 : BitVec 32 := v240
  let v242 : Index := Scalar.indexCast v241
  ![v242.toNat]

def k0_chk515 (v240 : BitVec 32) : Prop :=
  (8 ∣ (k0_mult122 v240).toNat) ∧
  (∀ a, (k0_off592 v240) a + S16.size a ≤ S101376.size a)
theorem k0_mult122_dvd : ∀ (v240 : BitVec 32) (k0_hw515 : k0_chk515 v240), 8 ∣ (k0_mult122 v240).toNat := fun v240 k0_hw515 => k0_hw515.1
theorem k0_off592_inb : ∀ (v240 : BitVec 32) (k0_hw515 : k0_chk515 v240), ∀ a, (k0_off592 v240) a + S16.size a ≤ S101376.size a := fun v240 k0_hw515 => k0_hw515.2

def k0_off593 (v238 : BitVec 32) : Fin 2 → Nat :=
  let v264 : Index := Scalar.indexCast v238
  let c0 : Index := 0#32
  ![v264.toNat, 0]

def k0_off594 (v238 : BitVec 32) : Fin 2 → Nat :=
  let v270 : Index := Scalar.indexCast v238
  let c16 : Index := 16#32
  ![v270.toNat, 16]
def k0_off595 (v238 : BitVec 32) : Fin 2 → Nat :=
  let v276 : Index := Scalar.indexCast v238
  let c32 : Index := 32#32
  ![v276.toNat, 32]
def k0_off596 (v238 : BitVec 32) : Fin 2 → Nat :=
  let v282 : Index := Scalar.indexCast v238
  let c48 : Index := 48#32
  ![v282.toNat, 48]

def k0_chk516 (v238 : BitVec 32) : Prop :=
  (∀ a, (k0_off593 v238) a + S1x16.size a ≤ S64x96.size a) ∧
  (∀ a, (k0_off594 v238) a + S1x16.size a ≤ S64x96.size a) ∧
  (∀ a, (k0_off595 v238) a + S1x16.size a ≤ S64x96.size a) ∧
  (∀ a, (k0_off596 v238) a + S1x16.size a ≤ S64x96.size a)
theorem k0_off593_inb : ∀ (v238 : BitVec 32) (k0_hw516 : k0_chk516 v238), ∀ a, (k0_off593 v238) a + S1x16.size a ≤ S64x96.size a := fun v238 k0_hw516 => k0_hw516.1
theorem k0_off594_inb : ∀ (v238 : BitVec 32) (k0_hw516 : k0_chk516 v238), ∀ a, (k0_off594 v238) a + S1x16.size a ≤ S64x96.size a := fun v238 k0_hw516 => k0_hw516.2.1
theorem k0_off595_inb : ∀ (v238 : BitVec 32) (k0_hw516 : k0_chk516 v238), ∀ a, (k0_off595 v238) a + S1x16.size a ≤ S64x96.size a := fun v238 k0_hw516 => k0_hw516.2.2.1
theorem k0_off596_inb : ∀ (v238 : BitVec 32) (k0_hw516 : k0_chk516 v238), ∀ a, (k0_off596 v238) a + S1x16.size a ≤ S64x96.size a := fun v238 k0_hw516 => k0_hw516.2.2.2

def k0_mult123 (v294 : BitVec 32) : BitVec 32 :=
  v294

def k0_off597 (v294 : BitVec 32) : Fin 1 → Nat :=
  let v295 : BitVec 32 := v294
  let v296 : Index := Scalar.indexCast v295
  ![v296.toNat]

def k0_chk517 (v294 : BitVec 32) : Prop :=
  (8 ∣ (k0_mult123 v294).toNat) ∧
  (∀ a, (k0_off597 v294) a + S16.size a ≤ S101376.size a)
theorem k0_mult123_dvd : ∀ (v294 : BitVec 32) (k0_hw517 : k0_chk517 v294), 8 ∣ (k0_mult123 v294).toNat := fun v294 k0_hw517 => k0_hw517.1
theorem k0_off597_inb : ∀ (v294 : BitVec 32) (k0_hw517 : k0_chk517 v294), ∀ a, (k0_off597 v294) a + S16.size a ≤ S101376.size a := fun v294 k0_hw517 => k0_hw517.2

def k0_off598 (v292 : BitVec 32) : Fin 2 → Nat :=
  let v318 : Index := Scalar.indexCast v292
  let c0_113 : Index := 0#32
  ![v318.toNat, 0]

def k0_off599 (v292 : BitVec 32) : Fin 2 → Nat :=
  let v324 : Index := Scalar.indexCast v292
  let c16_115 : Index := 16#32
  ![v324.toNat, 16]
def k0_off600 (v292 : BitVec 32) : Fin 2 → Nat :=
  let v330 : Index := Scalar.indexCast v292
  let c32_117 : Index := 32#32
  ![v330.toNat, 32]
def k0_off601 (v292 : BitVec 32) : Fin 2 → Nat :=
  let v336 : Index := Scalar.indexCast v292
  let c48_119 : Index := 48#32
  ![v336.toNat, 48]

def k0_chk518 (v292 : BitVec 32) : Prop :=
  (∀ a, (k0_off598 v292) a + S1x16.size a ≤ S64x96.size a) ∧
  (∀ a, (k0_off599 v292) a + S1x16.size a ≤ S64x96.size a) ∧
  (∀ a, (k0_off600 v292) a + S1x16.size a ≤ S64x96.size a) ∧
  (∀ a, (k0_off601 v292) a + S1x16.size a ≤ S64x96.size a)
theorem k0_off598_inb : ∀ (v292 : BitVec 32) (k0_hw518 : k0_chk518 v292), ∀ a, (k0_off598 v292) a + S1x16.size a ≤ S64x96.size a := fun v292 k0_hw518 => k0_hw518.1
theorem k0_off599_inb : ∀ (v292 : BitVec 32) (k0_hw518 : k0_chk518 v292), ∀ a, (k0_off599 v292) a + S1x16.size a ≤ S64x96.size a := fun v292 k0_hw518 => k0_hw518.2.1
theorem k0_off600_inb : ∀ (v292 : BitVec 32) (k0_hw518 : k0_chk518 v292), ∀ a, (k0_off600 v292) a + S1x16.size a ≤ S64x96.size a := fun v292 k0_hw518 => k0_hw518.2.2.1
theorem k0_off601_inb : ∀ (v292 : BitVec 32) (k0_hw518 : k0_chk518 v292), ∀ a, (k0_off601 v292) a + S1x16.size a ≤ S64x96.size a := fun v292 k0_hw518 => k0_hw518.2.2.2

def k0_chk519 (v351 : IVec S16 32) : Prop :=
  (∀ a x, ((![v351] : Fin 1 → IVec S16 32) a x).toNat < S101376.size a)
theorem k0_idx281_inb : ∀ (v351 : IVec S16 32) (k0_hw519 : k0_chk519 v351), ∀ a x, ((![v351] : Fin 1 → IVec S16 32) a x).toNat < S101376.size a := fun v351 k0_hw519 => k0_hw519

def k0_chk520 (v365 : IVec S16 32) (v388 : IVec S16 32) : Prop :=
  (∀ a x, ((![v365, v388] : Fin 2 → IVec S16 32) a x).toNat < S64x96.size a)
theorem k0_idx282_inb : ∀ (v365 : IVec S16 32) (v388 : IVec S16 32) (k0_hw520 : k0_chk520 v365 v388), ∀ a x, ((![v365, v388] : Fin 2 → IVec S16 32) a x).toNat < S64x96.size a := fun v365 v388 k0_hw520 => k0_hw520

def k0_chk521 (v365 : IVec S16 32) (v391 : IVec S16 32) : Prop :=
  (∀ a x, ((![v365, v391] : Fin 2 → IVec S16 32) a x).toNat < S64x96.size a)
theorem k0_idx283_inb : ∀ (v365 : IVec S16 32) (v391 : IVec S16 32) (k0_hw521 : k0_chk521 v365 v391), ∀ a x, ((![v365, v391] : Fin 2 → IVec S16 32) a x).toNat < S64x96.size a := fun v365 v391 k0_hw521 => k0_hw521

def k0_chk522 (v365 : IVec S16 32) (v394 : IVec S16 32) : Prop :=
  (∀ a x, ((![v365, v394] : Fin 2 → IVec S16 32) a x).toNat < S64x96.size a)
theorem k0_idx284_inb : ∀ (v365 : IVec S16 32) (v394 : IVec S16 32) (k0_hw522 : k0_chk522 v365 v394), ∀ a x, ((![v365, v394] : Fin 2 → IVec S16 32) a x).toNat < S64x96.size a := fun v365 v394 k0_hw522 => k0_hw522

def k0_chk523 (v365 : IVec S16 32) (v397 : IVec S16 32) : Prop :=
  (∀ a x, ((![v365, v397] : Fin 2 → IVec S16 32) a x).toNat < S64x96.size a)
theorem k0_idx285_inb : ∀ (v365 : IVec S16 32) (v397 : IVec S16 32) (k0_hw523 : k0_chk523 v365 v397), ∀ a x, ((![v365, v397] : Fin 2 → IVec S16 32) a x).toNat < S64x96.size a := fun v365 v397 k0_hw523 => k0_hw523
def k0_mult124 (v405 : BitVec 32) : BitVec 32 :=
  v405

def k0_off602 (v405 : BitVec 32) : Fin 1 → Nat :=
  let v406 : BitVec 32 := v405
  let v407 : Index := Scalar.indexCast v406
  ![v407.toNat]

def k0_chk524 (v405 : BitVec 32) : Prop :=
  (8 ∣ (k0_mult124 v405).toNat) ∧
  (∀ a, (k0_off602 v405) a + S16.size a ≤ S101376.size a)
theorem k0_mult124_dvd : ∀ (v405 : BitVec 32) (k0_hw524 : k0_chk524 v405), 8 ∣ (k0_mult124 v405).toNat := fun v405 k0_hw524 => k0_hw524.1
theorem k0_off602_inb : ∀ (v405 : BitVec 32) (k0_hw524 : k0_chk524 v405), ∀ a, (k0_off602 v405) a + S16.size a ≤ S101376.size a := fun v405 k0_hw524 => k0_hw524.2

def k0_off603 (v403 : BitVec 32) : Fin 2 → Nat :=
  let v429 : Index := Scalar.indexCast v403
  let c0_131 : Index := 0#32
  ![v429.toNat, 0]

def k0_off604 (v403 : BitVec 32) : Fin 2 → Nat :=
  let v435 : Index := Scalar.indexCast v403
  let c16_133 : Index := 16#32
  ![v435.toNat, 16]
def k0_off605 (v403 : BitVec 32) : Fin 2 → Nat :=
  let v441 : Index := Scalar.indexCast v403
  let c32_135 : Index := 32#32
  ![v441.toNat, 32]
def k0_off606 (v403 : BitVec 32) : Fin 2 → Nat :=
  let v447 : Index := Scalar.indexCast v403
  let c48_137 : Index := 48#32
  ![v447.toNat, 48]

def k0_chk525 (v403 : BitVec 32) : Prop :=
  (∀ a, (k0_off603 v403) a + S1x16.size a ≤ S64x96.size a) ∧
  (∀ a, (k0_off604 v403) a + S1x16.size a ≤ S64x96.size a) ∧
  (∀ a, (k0_off605 v403) a + S1x16.size a ≤ S64x96.size a) ∧
  (∀ a, (k0_off606 v403) a + S1x16.size a ≤ S64x96.size a)
theorem k0_off603_inb : ∀ (v403 : BitVec 32) (k0_hw525 : k0_chk525 v403), ∀ a, (k0_off603 v403) a + S1x16.size a ≤ S64x96.size a := fun v403 k0_hw525 => k0_hw525.1
theorem k0_off604_inb : ∀ (v403 : BitVec 32) (k0_hw525 : k0_chk525 v403), ∀ a, (k0_off604 v403) a + S1x16.size a ≤ S64x96.size a := fun v403 k0_hw525 => k0_hw525.2.1
theorem k0_off605_inb : ∀ (v403 : BitVec 32) (k0_hw525 : k0_chk525 v403), ∀ a, (k0_off605 v403) a + S1x16.size a ≤ S64x96.size a := fun v403 k0_hw525 => k0_hw525.2.2.1
theorem k0_off606_inb : ∀ (v403 : BitVec 32) (k0_hw525 : k0_chk525 v403), ∀ a, (k0_off606 v403) a + S1x16.size a ≤ S64x96.size a := fun v403 k0_hw525 => k0_hw525.2.2.2

def k0_mult125 (v459 : BitVec 32) : BitVec 32 :=
  v459

def k0_off607 (v459 : BitVec 32) : Fin 1 → Nat :=
  let v460 : BitVec 32 := v459
  let v461 : Index := Scalar.indexCast v460
  ![v461.toNat]

def k0_chk526 (v459 : BitVec 32) : Prop :=
  (8 ∣ (k0_mult125 v459).toNat) ∧
  (∀ a, (k0_off607 v459) a + S16.size a ≤ S101376.size a)
theorem k0_mult125_dvd : ∀ (v459 : BitVec 32) (k0_hw526 : k0_chk526 v459), 8 ∣ (k0_mult125 v459).toNat := fun v459 k0_hw526 => k0_hw526.1
theorem k0_off607_inb : ∀ (v459 : BitVec 32) (k0_hw526 : k0_chk526 v459), ∀ a, (k0_off607 v459) a + S16.size a ≤ S101376.size a := fun v459 k0_hw526 => k0_hw526.2

def k0_off608 (v457 : BitVec 32) : Fin 2 → Nat :=
  let v483 : Index := Scalar.indexCast v457
  let c0_143 : Index := 0#32
  ![v483.toNat, 0]

def k0_off609 (v457 : BitVec 32) : Fin 2 → Nat :=
  let v489 : Index := Scalar.indexCast v457
  let c16_145 : Index := 16#32
  ![v489.toNat, 16]
def k0_off610 (v457 : BitVec 32) : Fin 2 → Nat :=
  let v495 : Index := Scalar.indexCast v457
  let c32_147 : Index := 32#32
  ![v495.toNat, 32]
def k0_off611 (v457 : BitVec 32) : Fin 2 → Nat :=
  let v501 : Index := Scalar.indexCast v457
  let c48_149 : Index := 48#32
  ![v501.toNat, 48]

def k0_chk527 (v457 : BitVec 32) : Prop :=
  (∀ a, (k0_off608 v457) a + S1x16.size a ≤ S64x96.size a) ∧
  (∀ a, (k0_off609 v457) a + S1x16.size a ≤ S64x96.size a) ∧
  (∀ a, (k0_off610 v457) a + S1x16.size a ≤ S64x96.size a) ∧
  (∀ a, (k0_off611 v457) a + S1x16.size a ≤ S64x96.size a)
theorem k0_off608_inb : ∀ (v457 : BitVec 32) (k0_hw527 : k0_chk527 v457), ∀ a, (k0_off608 v457) a + S1x16.size a ≤ S64x96.size a := fun v457 k0_hw527 => k0_hw527.1
theorem k0_off609_inb : ∀ (v457 : BitVec 32) (k0_hw527 : k0_chk527 v457), ∀ a, (k0_off609 v457) a + S1x16.size a ≤ S64x96.size a := fun v457 k0_hw527 => k0_hw527.2.1
theorem k0_off610_inb : ∀ (v457 : BitVec 32) (k0_hw527 : k0_chk527 v457), ∀ a, (k0_off610 v457) a + S1x16.size a ≤ S64x96.size a := fun v457 k0_hw527 => k0_hw527.2.2.1
theorem k0_off611_inb : ∀ (v457 : BitVec 32) (k0_hw527 : k0_chk527 v457), ∀ a, (k0_off611 v457) a + S1x16.size a ≤ S64x96.size a := fun v457 k0_hw527 => k0_hw527.2.2.2

def k0_chk528 (v516 : IVec S16 32) : Prop :=
  (∀ a x, ((![v516] : Fin 1 → IVec S16 32) a x).toNat < S101376.size a)
theorem k0_idx286_inb : ∀ (v516 : IVec S16 32) (k0_hw528 : k0_chk528 v516), ∀ a x, ((![v516] : Fin 1 → IVec S16 32) a x).toNat < S101376.size a := fun v516 k0_hw528 => k0_hw528

def k0_chk529 (v530 : IVec S16 32) (v553 : IVec S16 32) : Prop :=
  (∀ a x, ((![v530, v553] : Fin 2 → IVec S16 32) a x).toNat < S64x96.size a)
theorem k0_idx287_inb : ∀ (v530 : IVec S16 32) (v553 : IVec S16 32) (k0_hw529 : k0_chk529 v530 v553), ∀ a x, ((![v530, v553] : Fin 2 → IVec S16 32) a x).toNat < S64x96.size a := fun v530 v553 k0_hw529 => k0_hw529

def k0_chk530 (v530 : IVec S16 32) (v556 : IVec S16 32) : Prop :=
  (∀ a x, ((![v530, v556] : Fin 2 → IVec S16 32) a x).toNat < S64x96.size a)
theorem k0_idx288_inb : ∀ (v530 : IVec S16 32) (v556 : IVec S16 32) (k0_hw530 : k0_chk530 v530 v556), ∀ a x, ((![v530, v556] : Fin 2 → IVec S16 32) a x).toNat < S64x96.size a := fun v530 v556 k0_hw530 => k0_hw530

def k0_chk531 (v530 : IVec S16 32) (v559 : IVec S16 32) : Prop :=
  (∀ a x, ((![v530, v559] : Fin 2 → IVec S16 32) a x).toNat < S64x96.size a)
theorem k0_idx289_inb : ∀ (v530 : IVec S16 32) (v559 : IVec S16 32) (k0_hw531 : k0_chk531 v530 v559), ∀ a x, ((![v530, v559] : Fin 2 → IVec S16 32) a x).toNat < S64x96.size a := fun v530 v559 k0_hw531 => k0_hw531

def k0_chk532 (v530 : IVec S16 32) (v562 : IVec S16 32) : Prop :=
  (∀ a x, ((![v530, v562] : Fin 2 → IVec S16 32) a x).toNat < S64x96.size a)
theorem k0_idx290_inb : ∀ (v530 : IVec S16 32) (v562 : IVec S16 32) (k0_hw532 : k0_chk532 v530 v562), ∀ a x, ((![v530, v562] : Fin 2 → IVec S16 32) a x).toNat < S64x96.size a := fun v530 v562 k0_hw532 => k0_hw532
def k0_mult126 (v570 : BitVec 32) : BitVec 32 :=
  v570

def k0_off612 (v570 : BitVec 32) : Fin 1 → Nat :=
  let v571 : BitVec 32 := v570
  let v572 : Index := Scalar.indexCast v571
  ![v572.toNat]

def k0_chk533 (v570 : BitVec 32) : Prop :=
  (8 ∣ (k0_mult126 v570).toNat) ∧
  (∀ a, (k0_off612 v570) a + S16.size a ≤ S101376.size a)
theorem k0_mult126_dvd : ∀ (v570 : BitVec 32) (k0_hw533 : k0_chk533 v570), 8 ∣ (k0_mult126 v570).toNat := fun v570 k0_hw533 => k0_hw533.1
theorem k0_off612_inb : ∀ (v570 : BitVec 32) (k0_hw533 : k0_chk533 v570), ∀ a, (k0_off612 v570) a + S16.size a ≤ S101376.size a := fun v570 k0_hw533 => k0_hw533.2

def k0_off613 (v568 : BitVec 32) : Fin 2 → Nat :=
  let v594 : Index := Scalar.indexCast v568
  let c0_164 : Index := 0#32
  ![v594.toNat, 0]

def k0_off614 (v568 : BitVec 32) : Fin 2 → Nat :=
  let v600 : Index := Scalar.indexCast v568
  let c16_166 : Index := 16#32
  ![v600.toNat, 16]
def k0_off615 (v568 : BitVec 32) : Fin 2 → Nat :=
  let v606 : Index := Scalar.indexCast v568
  let c32_168 : Index := 32#32
  ![v606.toNat, 32]
def k0_off616 (v568 : BitVec 32) : Fin 2 → Nat :=
  let v612 : Index := Scalar.indexCast v568
  let c48_170 : Index := 48#32
  ![v612.toNat, 48]

def k0_chk534 (v568 : BitVec 32) : Prop :=
  (∀ a, (k0_off613 v568) a + S1x16.size a ≤ S64x96.size a) ∧
  (∀ a, (k0_off614 v568) a + S1x16.size a ≤ S64x96.size a) ∧
  (∀ a, (k0_off615 v568) a + S1x16.size a ≤ S64x96.size a) ∧
  (∀ a, (k0_off616 v568) a + S1x16.size a ≤ S64x96.size a)
theorem k0_off613_inb : ∀ (v568 : BitVec 32) (k0_hw534 : k0_chk534 v568), ∀ a, (k0_off613 v568) a + S1x16.size a ≤ S64x96.size a := fun v568 k0_hw534 => k0_hw534.1
theorem k0_off614_inb : ∀ (v568 : BitVec 32) (k0_hw534 : k0_chk534 v568), ∀ a, (k0_off614 v568) a + S1x16.size a ≤ S64x96.size a := fun v568 k0_hw534 => k0_hw534.2.1
theorem k0_off615_inb : ∀ (v568 : BitVec 32) (k0_hw534 : k0_chk534 v568), ∀ a, (k0_off615 v568) a + S1x16.size a ≤ S64x96.size a := fun v568 k0_hw534 => k0_hw534.2.2.1
theorem k0_off616_inb : ∀ (v568 : BitVec 32) (k0_hw534 : k0_chk534 v568), ∀ a, (k0_off616 v568) a + S1x16.size a ≤ S64x96.size a := fun v568 k0_hw534 => k0_hw534.2.2.2

def k0_mult127 (v624 : BitVec 32) : BitVec 32 :=
  v624

def k0_off617 (v624 : BitVec 32) : Fin 1 → Nat :=
  let v625 : BitVec 32 := v624
  let v626 : Index := Scalar.indexCast v625
  ![v626.toNat]

def k0_chk535 (v624 : BitVec 32) : Prop :=
  (8 ∣ (k0_mult127 v624).toNat) ∧
  (∀ a, (k0_off617 v624) a + S16.size a ≤ S101376.size a)
theorem k0_mult127_dvd : ∀ (v624 : BitVec 32) (k0_hw535 : k0_chk535 v624), 8 ∣ (k0_mult127 v624).toNat := fun v624 k0_hw535 => k0_hw535.1
theorem k0_off617_inb : ∀ (v624 : BitVec 32) (k0_hw535 : k0_chk535 v624), ∀ a, (k0_off617 v624) a + S16.size a ≤ S101376.size a := fun v624 k0_hw535 => k0_hw535.2

def k0_off618 (v622 : BitVec 32) : Fin 2 → Nat :=
  let v648 : Index := Scalar.indexCast v622
  let c0_176 : Index := 0#32
  ![v648.toNat, 0]

def k0_off619 (v622 : BitVec 32) : Fin 2 → Nat :=
  let v654 : Index := Scalar.indexCast v622
  let c16_178 : Index := 16#32
  ![v654.toNat, 16]
def k0_off620 (v622 : BitVec 32) : Fin 2 → Nat :=
  let v660 : Index := Scalar.indexCast v622
  let c32_180 : Index := 32#32
  ![v660.toNat, 32]
def k0_off621 (v622 : BitVec 32) : Fin 2 → Nat :=
  let v666 : Index := Scalar.indexCast v622
  let c48_182 : Index := 48#32
  ![v666.toNat, 48]

def k0_chk536 (v622 : BitVec 32) : Prop :=
  (∀ a, (k0_off618 v622) a + S1x16.size a ≤ S64x96.size a) ∧
  (∀ a, (k0_off619 v622) a + S1x16.size a ≤ S64x96.size a) ∧
  (∀ a, (k0_off620 v622) a + S1x16.size a ≤ S64x96.size a) ∧
  (∀ a, (k0_off621 v622) a + S1x16.size a ≤ S64x96.size a)
theorem k0_off618_inb : ∀ (v622 : BitVec 32) (k0_hw536 : k0_chk536 v622), ∀ a, (k0_off618 v622) a + S1x16.size a ≤ S64x96.size a := fun v622 k0_hw536 => k0_hw536.1
theorem k0_off619_inb : ∀ (v622 : BitVec 32) (k0_hw536 : k0_chk536 v622), ∀ a, (k0_off619 v622) a + S1x16.size a ≤ S64x96.size a := fun v622 k0_hw536 => k0_hw536.2.1
theorem k0_off620_inb : ∀ (v622 : BitVec 32) (k0_hw536 : k0_chk536 v622), ∀ a, (k0_off620 v622) a + S1x16.size a ≤ S64x96.size a := fun v622 k0_hw536 => k0_hw536.2.2.1
theorem k0_off621_inb : ∀ (v622 : BitVec 32) (k0_hw536 : k0_chk536 v622), ∀ a, (k0_off621 v622) a + S1x16.size a ≤ S64x96.size a := fun v622 k0_hw536 => k0_hw536.2.2.2

def k0_chk537 (v681 : IVec S16 32) : Prop :=
  (∀ a x, ((![v681] : Fin 1 → IVec S16 32) a x).toNat < S101376.size a)
theorem k0_idx291_inb : ∀ (v681 : IVec S16 32) (k0_hw537 : k0_chk537 v681), ∀ a x, ((![v681] : Fin 1 → IVec S16 32) a x).toNat < S101376.size a := fun v681 k0_hw537 => k0_hw537

def k0_chk538 (v695 : IVec S16 32) (v718 : IVec S16 32) : Prop :=
  (∀ a x, ((![v695, v718] : Fin 2 → IVec S16 32) a x).toNat < S64x96.size a)
theorem k0_idx292_inb : ∀ (v695 : IVec S16 32) (v718 : IVec S16 32) (k0_hw538 : k0_chk538 v695 v718), ∀ a x, ((![v695, v718] : Fin 2 → IVec S16 32) a x).toNat < S64x96.size a := fun v695 v718 k0_hw538 => k0_hw538

def k0_chk539 (v695 : IVec S16 32) (v721 : IVec S16 32) : Prop :=
  (∀ a x, ((![v695, v721] : Fin 2 → IVec S16 32) a x).toNat < S64x96.size a)
theorem k0_idx293_inb : ∀ (v695 : IVec S16 32) (v721 : IVec S16 32) (k0_hw539 : k0_chk539 v695 v721), ∀ a x, ((![v695, v721] : Fin 2 → IVec S16 32) a x).toNat < S64x96.size a := fun v695 v721 k0_hw539 => k0_hw539

def k0_chk540 (v695 : IVec S16 32) (v724 : IVec S16 32) : Prop :=
  (∀ a x, ((![v695, v724] : Fin 2 → IVec S16 32) a x).toNat < S64x96.size a)
theorem k0_idx294_inb : ∀ (v695 : IVec S16 32) (v724 : IVec S16 32) (k0_hw540 : k0_chk540 v695 v724), ∀ a x, ((![v695, v724] : Fin 2 → IVec S16 32) a x).toNat < S64x96.size a := fun v695 v724 k0_hw540 => k0_hw540

def k0_chk541 (v695 : IVec S16 32) (v727 : IVec S16 32) : Prop :=
  (∀ a x, ((![v695, v727] : Fin 2 → IVec S16 32) a x).toNat < S64x96.size a)
theorem k0_idx295_inb : ∀ (v695 : IVec S16 32) (v727 : IVec S16 32) (k0_hw541 : k0_chk541 v695 v727), ∀ a x, ((![v695, v727] : Fin 2 → IVec S16 32) a x).toNat < S64x96.size a := fun v695 v727 k0_hw541 => k0_hw541
def k0_mult128 (v735 : BitVec 32) : BitVec 32 :=
  v735

def k0_off622 (v735 : BitVec 32) : Fin 1 → Nat :=
  let v736 : BitVec 32 := v735
  let v737 : Index := Scalar.indexCast v736
  ![v737.toNat]

def k0_chk542 (v735 : BitVec 32) : Prop :=
  (8 ∣ (k0_mult128 v735).toNat) ∧
  (∀ a, (k0_off622 v735) a + S16.size a ≤ S101376.size a)
theorem k0_mult128_dvd : ∀ (v735 : BitVec 32) (k0_hw542 : k0_chk542 v735), 8 ∣ (k0_mult128 v735).toNat := fun v735 k0_hw542 => k0_hw542.1
theorem k0_off622_inb : ∀ (v735 : BitVec 32) (k0_hw542 : k0_chk542 v735), ∀ a, (k0_off622 v735) a + S16.size a ≤ S101376.size a := fun v735 k0_hw542 => k0_hw542.2

def k0_off623 (v733 : BitVec 32) : Fin 2 → Nat :=
  let v759 : Index := Scalar.indexCast v733
  let c0_197 : Index := 0#32
  ![v759.toNat, 0]

def k0_off624 (v733 : BitVec 32) : Fin 2 → Nat :=
  let v765 : Index := Scalar.indexCast v733
  let c16_199 : Index := 16#32
  ![v765.toNat, 16]
def k0_off625 (v733 : BitVec 32) : Fin 2 → Nat :=
  let v771 : Index := Scalar.indexCast v733
  let c32_201 : Index := 32#32
  ![v771.toNat, 32]
def k0_off626 (v733 : BitVec 32) : Fin 2 → Nat :=
  let v777 : Index := Scalar.indexCast v733
  let c48_203 : Index := 48#32
  ![v777.toNat, 48]

def k0_chk543 (v733 : BitVec 32) : Prop :=
  (∀ a, (k0_off623 v733) a + S1x16.size a ≤ S64x96.size a) ∧
  (∀ a, (k0_off624 v733) a + S1x16.size a ≤ S64x96.size a) ∧
  (∀ a, (k0_off625 v733) a + S1x16.size a ≤ S64x96.size a) ∧
  (∀ a, (k0_off626 v733) a + S1x16.size a ≤ S64x96.size a)
theorem k0_off623_inb : ∀ (v733 : BitVec 32) (k0_hw543 : k0_chk543 v733), ∀ a, (k0_off623 v733) a + S1x16.size a ≤ S64x96.size a := fun v733 k0_hw543 => k0_hw543.1
theorem k0_off624_inb : ∀ (v733 : BitVec 32) (k0_hw543 : k0_chk543 v733), ∀ a, (k0_off624 v733) a + S1x16.size a ≤ S64x96.size a := fun v733 k0_hw543 => k0_hw543.2.1
theorem k0_off625_inb : ∀ (v733 : BitVec 32) (k0_hw543 : k0_chk543 v733), ∀ a, (k0_off625 v733) a + S1x16.size a ≤ S64x96.size a := fun v733 k0_hw543 => k0_hw543.2.2.1
theorem k0_off626_inb : ∀ (v733 : BitVec 32) (k0_hw543 : k0_chk543 v733), ∀ a, (k0_off626 v733) a + S1x16.size a ≤ S64x96.size a := fun v733 k0_hw543 => k0_hw543.2.2.2

def k0_mult129 (v789 : BitVec 32) : BitVec 32 :=
  v789

def k0_off627 (v789 : BitVec 32) : Fin 1 → Nat :=
  let v790 : BitVec 32 := v789
  let v791 : Index := Scalar.indexCast v790
  ![v791.toNat]

def k0_chk544 (v789 : BitVec 32) : Prop :=
  (8 ∣ (k0_mult129 v789).toNat) ∧
  (∀ a, (k0_off627 v789) a + S16.size a ≤ S101376.size a)
theorem k0_mult129_dvd : ∀ (v789 : BitVec 32) (k0_hw544 : k0_chk544 v789), 8 ∣ (k0_mult129 v789).toNat := fun v789 k0_hw544 => k0_hw544.1
theorem k0_off627_inb : ∀ (v789 : BitVec 32) (k0_hw544 : k0_chk544 v789), ∀ a, (k0_off627 v789) a + S16.size a ≤ S101376.size a := fun v789 k0_hw544 => k0_hw544.2

def k0_off628 (v787 : BitVec 32) : Fin 2 → Nat :=
  let v813 : Index := Scalar.indexCast v787
  let c0_209 : Index := 0#32
  ![v813.toNat, 0]

def k0_off629 (v787 : BitVec 32) : Fin 2 → Nat :=
  let v819 : Index := Scalar.indexCast v787
  let c16_211 : Index := 16#32
  ![v819.toNat, 16]
def k0_off630 (v787 : BitVec 32) : Fin 2 → Nat :=
  let v825 : Index := Scalar.indexCast v787
  let c32_213 : Index := 32#32
  ![v825.toNat, 32]
def k0_off631 (v787 : BitVec 32) : Fin 2 → Nat :=
  let v831 : Index := Scalar.indexCast v787
  let c48_215 : Index := 48#32
  ![v831.toNat, 48]

def k0_chk545 (v787 : BitVec 32) : Prop :=
  (∀ a, (k0_off628 v787) a + S1x16.size a ≤ S64x96.size a) ∧
  (∀ a, (k0_off629 v787) a + S1x16.size a ≤ S64x96.size a) ∧
  (∀ a, (k0_off630 v787) a + S1x16.size a ≤ S64x96.size a) ∧
  (∀ a, (k0_off631 v787) a + S1x16.size a ≤ S64x96.size a)
theorem k0_off628_inb : ∀ (v787 : BitVec 32) (k0_hw545 : k0_chk545 v787), ∀ a, (k0_off628 v787) a + S1x16.size a ≤ S64x96.size a := fun v787 k0_hw545 => k0_hw545.1
theorem k0_off629_inb : ∀ (v787 : BitVec 32) (k0_hw545 : k0_chk545 v787), ∀ a, (k0_off629 v787) a + S1x16.size a ≤ S64x96.size a := fun v787 k0_hw545 => k0_hw545.2.1
theorem k0_off630_inb : ∀ (v787 : BitVec 32) (k0_hw545 : k0_chk545 v787), ∀ a, (k0_off630 v787) a + S1x16.size a ≤ S64x96.size a := fun v787 k0_hw545 => k0_hw545.2.2.1
theorem k0_off631_inb : ∀ (v787 : BitVec 32) (k0_hw545 : k0_chk545 v787), ∀ a, (k0_off631 v787) a + S1x16.size a ≤ S64x96.size a := fun v787 k0_hw545 => k0_hw545.2.2.2

def k0_chk546 (v846 : IVec S16 32) : Prop :=
  (∀ a x, ((![v846] : Fin 1 → IVec S16 32) a x).toNat < S101376.size a)
theorem k0_idx296_inb : ∀ (v846 : IVec S16 32) (k0_hw546 : k0_chk546 v846), ∀ a x, ((![v846] : Fin 1 → IVec S16 32) a x).toNat < S101376.size a := fun v846 k0_hw546 => k0_hw546

def k0_chk547 (v860 : IVec S16 32) (v883 : IVec S16 32) : Prop :=
  (∀ a x, ((![v860, v883] : Fin 2 → IVec S16 32) a x).toNat < S64x96.size a)
theorem k0_idx297_inb : ∀ (v860 : IVec S16 32) (v883 : IVec S16 32) (k0_hw547 : k0_chk547 v860 v883), ∀ a x, ((![v860, v883] : Fin 2 → IVec S16 32) a x).toNat < S64x96.size a := fun v860 v883 k0_hw547 => k0_hw547

def k0_chk548 (v860 : IVec S16 32) (v886 : IVec S16 32) : Prop :=
  (∀ a x, ((![v860, v886] : Fin 2 → IVec S16 32) a x).toNat < S64x96.size a)
theorem k0_idx298_inb : ∀ (v860 : IVec S16 32) (v886 : IVec S16 32) (k0_hw548 : k0_chk548 v860 v886), ∀ a x, ((![v860, v886] : Fin 2 → IVec S16 32) a x).toNat < S64x96.size a := fun v860 v886 k0_hw548 => k0_hw548

def k0_chk549 (v860 : IVec S16 32) (v889 : IVec S16 32) : Prop :=
  (∀ a x, ((![v860, v889] : Fin 2 → IVec S16 32) a x).toNat < S64x96.size a)
theorem k0_idx299_inb : ∀ (v860 : IVec S16 32) (v889 : IVec S16 32) (k0_hw549 : k0_chk549 v860 v889), ∀ a x, ((![v860, v889] : Fin 2 → IVec S16 32) a x).toNat < S64x96.size a := fun v860 v889 k0_hw549 => k0_hw549

def k0_chk550 (v860 : IVec S16 32) (v892 : IVec S16 32) : Prop :=
  (∀ a x, ((![v860, v892] : Fin 2 → IVec S16 32) a x).toNat < S64x96.size a)
theorem k0_idx300_inb : ∀ (v860 : IVec S16 32) (v892 : IVec S16 32) (k0_hw550 : k0_chk550 v860 v892), ∀ a x, ((![v860, v892] : Fin 2 → IVec S16 32) a x).toNat < S64x96.size a := fun v860 v892 k0_hw550 => k0_hw550
def k0_mult130 (v900 : BitVec 32) : BitVec 32 :=
  v900

def k0_off632 (v900 : BitVec 32) : Fin 1 → Nat :=
  let v901 : BitVec 32 := v900
  let v902 : Index := Scalar.indexCast v901
  ![v902.toNat]

def k0_chk551 (v900 : BitVec 32) : Prop :=
  (8 ∣ (k0_mult130 v900).toNat) ∧
  (∀ a, (k0_off632 v900) a + S16.size a ≤ S101376.size a)
theorem k0_mult130_dvd : ∀ (v900 : BitVec 32) (k0_hw551 : k0_chk551 v900), 8 ∣ (k0_mult130 v900).toNat := fun v900 k0_hw551 => k0_hw551.1
theorem k0_off632_inb : ∀ (v900 : BitVec 32) (k0_hw551 : k0_chk551 v900), ∀ a, (k0_off632 v900) a + S16.size a ≤ S101376.size a := fun v900 k0_hw551 => k0_hw551.2

def k0_off633 (v898 : BitVec 32) : Fin 2 → Nat :=
  let v924 : Index := Scalar.indexCast v898
  let c0_230 : Index := 0#32
  ![v924.toNat, 0]

def k0_off634 (v898 : BitVec 32) : Fin 2 → Nat :=
  let v930 : Index := Scalar.indexCast v898
  let c16_232 : Index := 16#32
  ![v930.toNat, 16]
def k0_off635 (v898 : BitVec 32) : Fin 2 → Nat :=
  let v936 : Index := Scalar.indexCast v898
  let c32_234 : Index := 32#32
  ![v936.toNat, 32]
def k0_off636 (v898 : BitVec 32) : Fin 2 → Nat :=
  let v942 : Index := Scalar.indexCast v898
  let c48_236 : Index := 48#32
  ![v942.toNat, 48]

def k0_chk552 (v898 : BitVec 32) : Prop :=
  (∀ a, (k0_off633 v898) a + S1x16.size a ≤ S64x96.size a) ∧
  (∀ a, (k0_off634 v898) a + S1x16.size a ≤ S64x96.size a) ∧
  (∀ a, (k0_off635 v898) a + S1x16.size a ≤ S64x96.size a) ∧
  (∀ a, (k0_off636 v898) a + S1x16.size a ≤ S64x96.size a)
theorem k0_off633_inb : ∀ (v898 : BitVec 32) (k0_hw552 : k0_chk552 v898), ∀ a, (k0_off633 v898) a + S1x16.size a ≤ S64x96.size a := fun v898 k0_hw552 => k0_hw552.1
theorem k0_off634_inb : ∀ (v898 : BitVec 32) (k0_hw552 : k0_chk552 v898), ∀ a, (k0_off634 v898) a + S1x16.size a ≤ S64x96.size a := fun v898 k0_hw552 => k0_hw552.2.1
theorem k0_off635_inb : ∀ (v898 : BitVec 32) (k0_hw552 : k0_chk552 v898), ∀ a, (k0_off635 v898) a + S1x16.size a ≤ S64x96.size a := fun v898 k0_hw552 => k0_hw552.2.2.1
theorem k0_off636_inb : ∀ (v898 : BitVec 32) (k0_hw552 : k0_chk552 v898), ∀ a, (k0_off636 v898) a + S1x16.size a ≤ S64x96.size a := fun v898 k0_hw552 => k0_hw552.2.2.2

def k0_mult131 (v954 : BitVec 32) : BitVec 32 :=
  v954

def k0_off637 (v954 : BitVec 32) : Fin 1 → Nat :=
  let v955 : BitVec 32 := v954
  let v956 : Index := Scalar.indexCast v955
  ![v956.toNat]

def k0_chk553 (v954 : BitVec 32) : Prop :=
  (8 ∣ (k0_mult131 v954).toNat) ∧
  (∀ a, (k0_off637 v954) a + S16.size a ≤ S101376.size a)
theorem k0_mult131_dvd : ∀ (v954 : BitVec 32) (k0_hw553 : k0_chk553 v954), 8 ∣ (k0_mult131 v954).toNat := fun v954 k0_hw553 => k0_hw553.1
theorem k0_off637_inb : ∀ (v954 : BitVec 32) (k0_hw553 : k0_chk553 v954), ∀ a, (k0_off637 v954) a + S16.size a ≤ S101376.size a := fun v954 k0_hw553 => k0_hw553.2

def k0_off638 (v952 : BitVec 32) : Fin 2 → Nat :=
  let v978 : Index := Scalar.indexCast v952
  let c0_242 : Index := 0#32
  ![v978.toNat, 0]

def k0_off639 (v952 : BitVec 32) : Fin 2 → Nat :=
  let v984 : Index := Scalar.indexCast v952
  let c16_244 : Index := 16#32
  ![v984.toNat, 16]
def k0_off640 (v952 : BitVec 32) : Fin 2 → Nat :=
  let v990 : Index := Scalar.indexCast v952
  let c32_246 : Index := 32#32
  ![v990.toNat, 32]
def k0_off641 (v952 : BitVec 32) : Fin 2 → Nat :=
  let v996 : Index := Scalar.indexCast v952
  let c48_248 : Index := 48#32
  ![v996.toNat, 48]

def k0_chk554 (v952 : BitVec 32) : Prop :=
  (∀ a, (k0_off638 v952) a + S1x16.size a ≤ S64x96.size a) ∧
  (∀ a, (k0_off639 v952) a + S1x16.size a ≤ S64x96.size a) ∧
  (∀ a, (k0_off640 v952) a + S1x16.size a ≤ S64x96.size a) ∧
  (∀ a, (k0_off641 v952) a + S1x16.size a ≤ S64x96.size a)
theorem k0_off638_inb : ∀ (v952 : BitVec 32) (k0_hw554 : k0_chk554 v952), ∀ a, (k0_off638 v952) a + S1x16.size a ≤ S64x96.size a := fun v952 k0_hw554 => k0_hw554.1
theorem k0_off639_inb : ∀ (v952 : BitVec 32) (k0_hw554 : k0_chk554 v952), ∀ a, (k0_off639 v952) a + S1x16.size a ≤ S64x96.size a := fun v952 k0_hw554 => k0_hw554.2.1
theorem k0_off640_inb : ∀ (v952 : BitVec 32) (k0_hw554 : k0_chk554 v952), ∀ a, (k0_off640 v952) a + S1x16.size a ≤ S64x96.size a := fun v952 k0_hw554 => k0_hw554.2.2.1
theorem k0_off641_inb : ∀ (v952 : BitVec 32) (k0_hw554 : k0_chk554 v952), ∀ a, (k0_off641 v952) a + S1x16.size a ≤ S64x96.size a := fun v952 k0_hw554 => k0_hw554.2.2.2

def k0_chk555 (v1011 : IVec S16 32) : Prop :=
  (∀ a x, ((![v1011] : Fin 1 → IVec S16 32) a x).toNat < S101376.size a)
theorem k0_idx301_inb : ∀ (v1011 : IVec S16 32) (k0_hw555 : k0_chk555 v1011), ∀ a x, ((![v1011] : Fin 1 → IVec S16 32) a x).toNat < S101376.size a := fun v1011 k0_hw555 => k0_hw555

def k0_chk556 (v1025 : IVec S16 32) (v1048 : IVec S16 32) : Prop :=
  (∀ a x, ((![v1025, v1048] : Fin 2 → IVec S16 32) a x).toNat < S64x96.size a)
theorem k0_idx302_inb : ∀ (v1025 : IVec S16 32) (v1048 : IVec S16 32) (k0_hw556 : k0_chk556 v1025 v1048), ∀ a x, ((![v1025, v1048] : Fin 2 → IVec S16 32) a x).toNat < S64x96.size a := fun v1025 v1048 k0_hw556 => k0_hw556

def k0_chk557 (v1025 : IVec S16 32) (v1051 : IVec S16 32) : Prop :=
  (∀ a x, ((![v1025, v1051] : Fin 2 → IVec S16 32) a x).toNat < S64x96.size a)
theorem k0_idx303_inb : ∀ (v1025 : IVec S16 32) (v1051 : IVec S16 32) (k0_hw557 : k0_chk557 v1025 v1051), ∀ a x, ((![v1025, v1051] : Fin 2 → IVec S16 32) a x).toNat < S64x96.size a := fun v1025 v1051 k0_hw557 => k0_hw557

def k0_chk558 (v1025 : IVec S16 32) (v1054 : IVec S16 32) : Prop :=
  (∀ a x, ((![v1025, v1054] : Fin 2 → IVec S16 32) a x).toNat < S64x96.size a)
theorem k0_idx304_inb : ∀ (v1025 : IVec S16 32) (v1054 : IVec S16 32) (k0_hw558 : k0_chk558 v1025 v1054), ∀ a x, ((![v1025, v1054] : Fin 2 → IVec S16 32) a x).toNat < S64x96.size a := fun v1025 v1054 k0_hw558 => k0_hw558

def k0_chk559 (v1025 : IVec S16 32) (v1057 : IVec S16 32) : Prop :=
  (∀ a x, ((![v1025, v1057] : Fin 2 → IVec S16 32) a x).toNat < S64x96.size a)
theorem k0_idx305_inb : ∀ (v1025 : IVec S16 32) (v1057 : IVec S16 32) (k0_hw559 : k0_chk559 v1025 v1057), ∀ a x, ((![v1025, v1057] : Fin 2 → IVec S16 32) a x).toNat < S64x96.size a := fun v1025 v1057 k0_hw559 => k0_hw559
def k0_mult132 (v1065 : BitVec 32) : BitVec 32 :=
  v1065

def k0_off642 (v1065 : BitVec 32) : Fin 1 → Nat :=
  let v1066 : BitVec 32 := v1065
  let v1067 : Index := Scalar.indexCast v1066
  ![v1067.toNat]

def k0_chk560 (v1065 : BitVec 32) : Prop :=
  (8 ∣ (k0_mult132 v1065).toNat) ∧
  (∀ a, (k0_off642 v1065) a + S16.size a ≤ S101376.size a)
theorem k0_mult132_dvd : ∀ (v1065 : BitVec 32) (k0_hw560 : k0_chk560 v1065), 8 ∣ (k0_mult132 v1065).toNat := fun v1065 k0_hw560 => k0_hw560.1
theorem k0_off642_inb : ∀ (v1065 : BitVec 32) (k0_hw560 : k0_chk560 v1065), ∀ a, (k0_off642 v1065) a + S16.size a ≤ S101376.size a := fun v1065 k0_hw560 => k0_hw560.2

def k0_off643 (v1063 : BitVec 32) : Fin 2 → Nat :=
  let v1089 : Index := Scalar.indexCast v1063
  let c0_263 : Index := 0#32
  ![v1089.toNat, 0]

def k0_off644 (v1063 : BitVec 32) : Fin 2 → Nat :=
  let v1095 : Index := Scalar.indexCast v1063
  let c16_265 : Index := 16#32
  ![v1095.toNat, 16]
def k0_off645 (v1063 : BitVec 32) : Fin 2 → Nat :=
  let v1101 : Index := Scalar.indexCast v1063
  let c32_267 : Index := 32#32
  ![v1101.toNat, 32]
def k0_off646 (v1063 : BitVec 32) : Fin 2 → Nat :=
  let v1107 : Index := Scalar.indexCast v1063
  let c48_269 : Index := 48#32
  ![v1107.toNat, 48]

def k0_chk561 (v1063 : BitVec 32) : Prop :=
  (∀ a, (k0_off643 v1063) a + S1x16.size a ≤ S64x96.size a) ∧
  (∀ a, (k0_off644 v1063) a + S1x16.size a ≤ S64x96.size a) ∧
  (∀ a, (k0_off645 v1063) a + S1x16.size a ≤ S64x96.size a) ∧
  (∀ a, (k0_off646 v1063) a + S1x16.size a ≤ S64x96.size a)
theorem k0_off643_inb : ∀ (v1063 : BitVec 32) (k0_hw561 : k0_chk561 v1063), ∀ a, (k0_off643 v1063) a + S1x16.size a ≤ S64x96.size a := fun v1063 k0_hw561 => k0_hw561.1
theorem k0_off644_inb : ∀ (v1063 : BitVec 32) (k0_hw561 : k0_chk561 v1063), ∀ a, (k0_off644 v1063) a + S1x16.size a ≤ S64x96.size a := fun v1063 k0_hw561 => k0_hw561.2.1
theorem k0_off645_inb : ∀ (v1063 : BitVec 32) (k0_hw561 : k0_chk561 v1063), ∀ a, (k0_off645 v1063) a + S1x16.size a ≤ S64x96.size a := fun v1063 k0_hw561 => k0_hw561.2.2.1
theorem k0_off646_inb : ∀ (v1063 : BitVec 32) (k0_hw561 : k0_chk561 v1063), ∀ a, (k0_off646 v1063) a + S1x16.size a ≤ S64x96.size a := fun v1063 k0_hw561 => k0_hw561.2.2.2

def k0_mult133 (v1119 : BitVec 32) : BitVec 32 :=
  v1119

def k0_off647 (v1119 : BitVec 32) : Fin 1 → Nat :=
  let v1120 : BitVec 32 := v1119
  let v1121 : Index := Scalar.indexCast v1120
  ![v1121.toNat]

def k0_chk562 (v1119 : BitVec 32) : Prop :=
  (8 ∣ (k0_mult133 v1119).toNat) ∧
  (∀ a, (k0_off647 v1119) a + S16.size a ≤ S101376.size a)
theorem k0_mult133_dvd : ∀ (v1119 : BitVec 32) (k0_hw562 : k0_chk562 v1119), 8 ∣ (k0_mult133 v1119).toNat := fun v1119 k0_hw562 => k0_hw562.1
theorem k0_off647_inb : ∀ (v1119 : BitVec 32) (k0_hw562 : k0_chk562 v1119), ∀ a, (k0_off647 v1119) a + S16.size a ≤ S101376.size a := fun v1119 k0_hw562 => k0_hw562.2

def k0_off648 (v1117 : BitVec 32) : Fin 2 → Nat :=
  let v1143 : Index := Scalar.indexCast v1117
  let c0_275 : Index := 0#32
  ![v1143.toNat, 0]

def k0_off649 (v1117 : BitVec 32) : Fin 2 → Nat :=
  let v1149 : Index := Scalar.indexCast v1117
  let c16_277 : Index := 16#32
  ![v1149.toNat, 16]
def k0_off650 (v1117 : BitVec 32) : Fin 2 → Nat :=
  let v1155 : Index := Scalar.indexCast v1117
  let c32_279 : Index := 32#32
  ![v1155.toNat, 32]
def k0_off651 (v1117 : BitVec 32) : Fin 2 → Nat :=
  let v1161 : Index := Scalar.indexCast v1117
  let c48_281 : Index := 48#32
  ![v1161.toNat, 48]

def k0_chk563 (v1117 : BitVec 32) : Prop :=
  (∀ a, (k0_off648 v1117) a + S1x16.size a ≤ S64x96.size a) ∧
  (∀ a, (k0_off649 v1117) a + S1x16.size a ≤ S64x96.size a) ∧
  (∀ a, (k0_off650 v1117) a + S1x16.size a ≤ S64x96.size a) ∧
  (∀ a, (k0_off651 v1117) a + S1x16.size a ≤ S64x96.size a)
theorem k0_off648_inb : ∀ (v1117 : BitVec 32) (k0_hw563 : k0_chk563 v1117), ∀ a, (k0_off648 v1117) a + S1x16.size a ≤ S64x96.size a := fun v1117 k0_hw563 => k0_hw563.1
theorem k0_off649_inb : ∀ (v1117 : BitVec 32) (k0_hw563 : k0_chk563 v1117), ∀ a, (k0_off649 v1117) a + S1x16.size a ≤ S64x96.size a := fun v1117 k0_hw563 => k0_hw563.2.1
theorem k0_off650_inb : ∀ (v1117 : BitVec 32) (k0_hw563 : k0_chk563 v1117), ∀ a, (k0_off650 v1117) a + S1x16.size a ≤ S64x96.size a := fun v1117 k0_hw563 => k0_hw563.2.2.1
theorem k0_off651_inb : ∀ (v1117 : BitVec 32) (k0_hw563 : k0_chk563 v1117), ∀ a, (k0_off651 v1117) a + S1x16.size a ≤ S64x96.size a := fun v1117 k0_hw563 => k0_hw563.2.2.2

def k0_chk564 (v1176 : IVec S16 32) : Prop :=
  (∀ a x, ((![v1176] : Fin 1 → IVec S16 32) a x).toNat < S101376.size a)
theorem k0_idx306_inb : ∀ (v1176 : IVec S16 32) (k0_hw564 : k0_chk564 v1176), ∀ a x, ((![v1176] : Fin 1 → IVec S16 32) a x).toNat < S101376.size a := fun v1176 k0_hw564 => k0_hw564

def k0_chk565 (v1190 : IVec S16 32) (v1213 : IVec S16 32) : Prop :=
  (∀ a x, ((![v1190, v1213] : Fin 2 → IVec S16 32) a x).toNat < S64x96.size a)
theorem k0_idx307_inb : ∀ (v1190 : IVec S16 32) (v1213 : IVec S16 32) (k0_hw565 : k0_chk565 v1190 v1213), ∀ a x, ((![v1190, v1213] : Fin 2 → IVec S16 32) a x).toNat < S64x96.size a := fun v1190 v1213 k0_hw565 => k0_hw565

def k0_chk566 (v1190 : IVec S16 32) (v1216 : IVec S16 32) : Prop :=
  (∀ a x, ((![v1190, v1216] : Fin 2 → IVec S16 32) a x).toNat < S64x96.size a)
theorem k0_idx308_inb : ∀ (v1190 : IVec S16 32) (v1216 : IVec S16 32) (k0_hw566 : k0_chk566 v1190 v1216), ∀ a x, ((![v1190, v1216] : Fin 2 → IVec S16 32) a x).toNat < S64x96.size a := fun v1190 v1216 k0_hw566 => k0_hw566

def k0_chk567 (v1190 : IVec S16 32) (v1219 : IVec S16 32) : Prop :=
  (∀ a x, ((![v1190, v1219] : Fin 2 → IVec S16 32) a x).toNat < S64x96.size a)
theorem k0_idx309_inb : ∀ (v1190 : IVec S16 32) (v1219 : IVec S16 32) (k0_hw567 : k0_chk567 v1190 v1219), ∀ a x, ((![v1190, v1219] : Fin 2 → IVec S16 32) a x).toNat < S64x96.size a := fun v1190 v1219 k0_hw567 => k0_hw567

def k0_chk568 (v1190 : IVec S16 32) (v1222 : IVec S16 32) : Prop :=
  (∀ a x, ((![v1190, v1222] : Fin 2 → IVec S16 32) a x).toNat < S64x96.size a)
theorem k0_idx310_inb : ∀ (v1190 : IVec S16 32) (v1222 : IVec S16 32) (k0_hw568 : k0_chk568 v1190 v1222), ∀ a x, ((![v1190, v1222] : Fin 2 → IVec S16 32) a x).toNat < S64x96.size a := fun v1190 v1222 k0_hw568 => k0_hw568
def k0_mult134 (v1230 : BitVec 32) : BitVec 32 :=
  v1230

def k0_off652 (v1230 : BitVec 32) : Fin 1 → Nat :=
  let v1231 : BitVec 32 := v1230
  let v1232 : Index := Scalar.indexCast v1231
  ![v1232.toNat]

def k0_chk569 (v1230 : BitVec 32) : Prop :=
  (8 ∣ (k0_mult134 v1230).toNat) ∧
  (∀ a, (k0_off652 v1230) a + S16.size a ≤ S101376.size a)
theorem k0_mult134_dvd : ∀ (v1230 : BitVec 32) (k0_hw569 : k0_chk569 v1230), 8 ∣ (k0_mult134 v1230).toNat := fun v1230 k0_hw569 => k0_hw569.1
theorem k0_off652_inb : ∀ (v1230 : BitVec 32) (k0_hw569 : k0_chk569 v1230), ∀ a, (k0_off652 v1230) a + S16.size a ≤ S101376.size a := fun v1230 k0_hw569 => k0_hw569.2

def k0_off653 (v1228 : BitVec 32) : Fin 2 → Nat :=
  let v1254 : Index := Scalar.indexCast v1228
  let c0_296 : Index := 0#32
  ![v1254.toNat, 0]

def k0_off654 (v1228 : BitVec 32) : Fin 2 → Nat :=
  let v1260 : Index := Scalar.indexCast v1228
  let c16_298 : Index := 16#32
  ![v1260.toNat, 16]
def k0_off655 (v1228 : BitVec 32) : Fin 2 → Nat :=
  let v1266 : Index := Scalar.indexCast v1228
  let c32_300 : Index := 32#32
  ![v1266.toNat, 32]
def k0_off656 (v1228 : BitVec 32) : Fin 2 → Nat :=
  let v1272 : Index := Scalar.indexCast v1228
  let c48_302 : Index := 48#32
  ![v1272.toNat, 48]

def k0_chk570 (v1228 : BitVec 32) : Prop :=
  (∀ a, (k0_off653 v1228) a + S1x16.size a ≤ S64x96.size a) ∧
  (∀ a, (k0_off654 v1228) a + S1x16.size a ≤ S64x96.size a) ∧
  (∀ a, (k0_off655 v1228) a + S1x16.size a ≤ S64x96.size a) ∧
  (∀ a, (k0_off656 v1228) a + S1x16.size a ≤ S64x96.size a)
theorem k0_off653_inb : ∀ (v1228 : BitVec 32) (k0_hw570 : k0_chk570 v1228), ∀ a, (k0_off653 v1228) a + S1x16.size a ≤ S64x96.size a := fun v1228 k0_hw570 => k0_hw570.1
theorem k0_off654_inb : ∀ (v1228 : BitVec 32) (k0_hw570 : k0_chk570 v1228), ∀ a, (k0_off654 v1228) a + S1x16.size a ≤ S64x96.size a := fun v1228 k0_hw570 => k0_hw570.2.1
theorem k0_off655_inb : ∀ (v1228 : BitVec 32) (k0_hw570 : k0_chk570 v1228), ∀ a, (k0_off655 v1228) a + S1x16.size a ≤ S64x96.size a := fun v1228 k0_hw570 => k0_hw570.2.2.1
theorem k0_off656_inb : ∀ (v1228 : BitVec 32) (k0_hw570 : k0_chk570 v1228), ∀ a, (k0_off656 v1228) a + S1x16.size a ≤ S64x96.size a := fun v1228 k0_hw570 => k0_hw570.2.2.2

def k0_mult135 (v1284 : BitVec 32) : BitVec 32 :=
  v1284

def k0_off657 (v1284 : BitVec 32) : Fin 1 → Nat :=
  let v1285 : BitVec 32 := v1284
  let v1286 : Index := Scalar.indexCast v1285
  ![v1286.toNat]

def k0_chk571 (v1284 : BitVec 32) : Prop :=
  (8 ∣ (k0_mult135 v1284).toNat) ∧
  (∀ a, (k0_off657 v1284) a + S16.size a ≤ S101376.size a)
theorem k0_mult135_dvd : ∀ (v1284 : BitVec 32) (k0_hw571 : k0_chk571 v1284), 8 ∣ (k0_mult135 v1284).toNat := fun v1284 k0_hw571 => k0_hw571.1
theorem k0_off657_inb : ∀ (v1284 : BitVec 32) (k0_hw571 : k0_chk571 v1284), ∀ a, (k0_off657 v1284) a + S16.size a ≤ S101376.size a := fun v1284 k0_hw571 => k0_hw571.2

def k0_off658 (v1282 : BitVec 32) : Fin 2 → Nat :=
  let v1308 : Index := Scalar.indexCast v1282
  let c0_308 : Index := 0#32
  ![v1308.toNat, 0]

def k0_off659 (v1282 : BitVec 32) : Fin 2 → Nat :=
  let v1314 : Index := Scalar.indexCast v1282
  let c16_310 : Index := 16#32
  ![v1314.toNat, 16]
def k0_off660 (v1282 : BitVec 32) : Fin 2 → Nat :=
  let v1320 : Index := Scalar.indexCast v1282
  let c32_312 : Index := 32#32
  ![v1320.toNat, 32]
def k0_off661 (v1282 : BitVec 32) : Fin 2 → Nat :=
  let v1326 : Index := Scalar.indexCast v1282
  let c48_314 : Index := 48#32
  ![v1326.toNat, 48]

def k0_chk572 (v1282 : BitVec 32) : Prop :=
  (∀ a, (k0_off658 v1282) a + S1x16.size a ≤ S64x96.size a) ∧
  (∀ a, (k0_off659 v1282) a + S1x16.size a ≤ S64x96.size a) ∧
  (∀ a, (k0_off660 v1282) a + S1x16.size a ≤ S64x96.size a) ∧
  (∀ a, (k0_off661 v1282) a + S1x16.size a ≤ S64x96.size a)
theorem k0_off658_inb : ∀ (v1282 : BitVec 32) (k0_hw572 : k0_chk572 v1282), ∀ a, (k0_off658 v1282) a + S1x16.size a ≤ S64x96.size a := fun v1282 k0_hw572 => k0_hw572.1
theorem k0_off659_inb : ∀ (v1282 : BitVec 32) (k0_hw572 : k0_chk572 v1282), ∀ a, (k0_off659 v1282) a + S1x16.size a ≤ S64x96.size a := fun v1282 k0_hw572 => k0_hw572.2.1
theorem k0_off660_inb : ∀ (v1282 : BitVec 32) (k0_hw572 : k0_chk572 v1282), ∀ a, (k0_off660 v1282) a + S1x16.size a ≤ S64x96.size a := fun v1282 k0_hw572 => k0_hw572.2.2.1
theorem k0_off661_inb : ∀ (v1282 : BitVec 32) (k0_hw572 : k0_chk572 v1282), ∀ a, (k0_off661 v1282) a + S1x16.size a ≤ S64x96.size a := fun v1282 k0_hw572 => k0_hw572.2.2.2

def k0_chk573 (v1341 : IVec S16 32) : Prop :=
  (∀ a x, ((![v1341] : Fin 1 → IVec S16 32) a x).toNat < S101376.size a)
theorem k0_idx311_inb : ∀ (v1341 : IVec S16 32) (k0_hw573 : k0_chk573 v1341), ∀ a x, ((![v1341] : Fin 1 → IVec S16 32) a x).toNat < S101376.size a := fun v1341 k0_hw573 => k0_hw573

def k0_chk574 (v1355 : IVec S16 32) (v1378 : IVec S16 32) : Prop :=
  (∀ a x, ((![v1355, v1378] : Fin 2 → IVec S16 32) a x).toNat < S64x96.size a)
theorem k0_idx312_inb : ∀ (v1355 : IVec S16 32) (v1378 : IVec S16 32) (k0_hw574 : k0_chk574 v1355 v1378), ∀ a x, ((![v1355, v1378] : Fin 2 → IVec S16 32) a x).toNat < S64x96.size a := fun v1355 v1378 k0_hw574 => k0_hw574

def k0_chk575 (v1355 : IVec S16 32) (v1381 : IVec S16 32) : Prop :=
  (∀ a x, ((![v1355, v1381] : Fin 2 → IVec S16 32) a x).toNat < S64x96.size a)
theorem k0_idx313_inb : ∀ (v1355 : IVec S16 32) (v1381 : IVec S16 32) (k0_hw575 : k0_chk575 v1355 v1381), ∀ a x, ((![v1355, v1381] : Fin 2 → IVec S16 32) a x).toNat < S64x96.size a := fun v1355 v1381 k0_hw575 => k0_hw575

def k0_chk576 (v1355 : IVec S16 32) (v1384 : IVec S16 32) : Prop :=
  (∀ a x, ((![v1355, v1384] : Fin 2 → IVec S16 32) a x).toNat < S64x96.size a)
theorem k0_idx314_inb : ∀ (v1355 : IVec S16 32) (v1384 : IVec S16 32) (k0_hw576 : k0_chk576 v1355 v1384), ∀ a x, ((![v1355, v1384] : Fin 2 → IVec S16 32) a x).toNat < S64x96.size a := fun v1355 v1384 k0_hw576 => k0_hw576

def k0_chk577 (v1355 : IVec S16 32) (v1387 : IVec S16 32) : Prop :=
  (∀ a x, ((![v1355, v1387] : Fin 2 → IVec S16 32) a x).toNat < S64x96.size a)
theorem k0_idx315_inb : ∀ (v1355 : IVec S16 32) (v1387 : IVec S16 32) (k0_hw577 : k0_chk577 v1355 v1387), ∀ a x, ((![v1355, v1387] : Fin 2 → IVec S16 32) a x).toNat < S64x96.size a := fun v1355 v1387 k0_hw577 => k0_hw577
def k0_mult136 (v1395 : BitVec 32) : BitVec 32 :=
  v1395

def k0_off662 (v1395 : BitVec 32) : Fin 1 → Nat :=
  let v1396 : BitVec 32 := v1395
  let v1397 : Index := Scalar.indexCast v1396
  ![v1397.toNat]

def k0_chk578 (v1395 : BitVec 32) : Prop :=
  (8 ∣ (k0_mult136 v1395).toNat) ∧
  (∀ a, (k0_off662 v1395) a + S16.size a ≤ S101376.size a)
theorem k0_mult136_dvd : ∀ (v1395 : BitVec 32) (k0_hw578 : k0_chk578 v1395), 8 ∣ (k0_mult136 v1395).toNat := fun v1395 k0_hw578 => k0_hw578.1
theorem k0_off662_inb : ∀ (v1395 : BitVec 32) (k0_hw578 : k0_chk578 v1395), ∀ a, (k0_off662 v1395) a + S16.size a ≤ S101376.size a := fun v1395 k0_hw578 => k0_hw578.2

def k0_off663 (v1393 : BitVec 32) : Fin 2 → Nat :=
  let v1419 : Index := Scalar.indexCast v1393
  let c0_329 : Index := 0#32
  ![v1419.toNat, 0]

def k0_off664 (v1393 : BitVec 32) : Fin 2 → Nat :=
  let v1425 : Index := Scalar.indexCast v1393
  let c16_331 : Index := 16#32
  ![v1425.toNat, 16]
def k0_off665 (v1393 : BitVec 32) : Fin 2 → Nat :=
  let v1431 : Index := Scalar.indexCast v1393
  let c32_333 : Index := 32#32
  ![v1431.toNat, 32]
def k0_off666 (v1393 : BitVec 32) : Fin 2 → Nat :=
  let v1437 : Index := Scalar.indexCast v1393
  let c48_335 : Index := 48#32
  ![v1437.toNat, 48]

def k0_chk579 (v1393 : BitVec 32) : Prop :=
  (∀ a, (k0_off663 v1393) a + S1x16.size a ≤ S64x96.size a) ∧
  (∀ a, (k0_off664 v1393) a + S1x16.size a ≤ S64x96.size a) ∧
  (∀ a, (k0_off665 v1393) a + S1x16.size a ≤ S64x96.size a) ∧
  (∀ a, (k0_off666 v1393) a + S1x16.size a ≤ S64x96.size a)
theorem k0_off663_inb : ∀ (v1393 : BitVec 32) (k0_hw579 : k0_chk579 v1393), ∀ a, (k0_off663 v1393) a + S1x16.size a ≤ S64x96.size a := fun v1393 k0_hw579 => k0_hw579.1
theorem k0_off664_inb : ∀ (v1393 : BitVec 32) (k0_hw579 : k0_chk579 v1393), ∀ a, (k0_off664 v1393) a + S1x16.size a ≤ S64x96.size a := fun v1393 k0_hw579 => k0_hw579.2.1
theorem k0_off665_inb : ∀ (v1393 : BitVec 32) (k0_hw579 : k0_chk579 v1393), ∀ a, (k0_off665 v1393) a + S1x16.size a ≤ S64x96.size a := fun v1393 k0_hw579 => k0_hw579.2.2.1
theorem k0_off666_inb : ∀ (v1393 : BitVec 32) (k0_hw579 : k0_chk579 v1393), ∀ a, (k0_off666 v1393) a + S1x16.size a ≤ S64x96.size a := fun v1393 k0_hw579 => k0_hw579.2.2.2

def k0_mult137 (v1449 : BitVec 32) : BitVec 32 :=
  v1449

def k0_off667 (v1449 : BitVec 32) : Fin 1 → Nat :=
  let v1450 : BitVec 32 := v1449
  let v1451 : Index := Scalar.indexCast v1450
  ![v1451.toNat]

def k0_chk580 (v1449 : BitVec 32) : Prop :=
  (8 ∣ (k0_mult137 v1449).toNat) ∧
  (∀ a, (k0_off667 v1449) a + S16.size a ≤ S101376.size a)
theorem k0_mult137_dvd : ∀ (v1449 : BitVec 32) (k0_hw580 : k0_chk580 v1449), 8 ∣ (k0_mult137 v1449).toNat := fun v1449 k0_hw580 => k0_hw580.1
theorem k0_off667_inb : ∀ (v1449 : BitVec 32) (k0_hw580 : k0_chk580 v1449), ∀ a, (k0_off667 v1449) a + S16.size a ≤ S101376.size a := fun v1449 k0_hw580 => k0_hw580.2

def k0_off668 (v1447 : BitVec 32) : Fin 2 → Nat :=
  let v1473 : Index := Scalar.indexCast v1447
  let c0_341 : Index := 0#32
  ![v1473.toNat, 0]

def k0_off669 (v1447 : BitVec 32) : Fin 2 → Nat :=
  let v1479 : Index := Scalar.indexCast v1447
  let c16_343 : Index := 16#32
  ![v1479.toNat, 16]
def k0_off670 (v1447 : BitVec 32) : Fin 2 → Nat :=
  let v1485 : Index := Scalar.indexCast v1447
  let c32_345 : Index := 32#32
  ![v1485.toNat, 32]
def k0_off671 (v1447 : BitVec 32) : Fin 2 → Nat :=
  let v1491 : Index := Scalar.indexCast v1447
  let c48_347 : Index := 48#32
  ![v1491.toNat, 48]

def k0_chk581 (v1447 : BitVec 32) : Prop :=
  (∀ a, (k0_off668 v1447) a + S1x16.size a ≤ S64x96.size a) ∧
  (∀ a, (k0_off669 v1447) a + S1x16.size a ≤ S64x96.size a) ∧
  (∀ a, (k0_off670 v1447) a + S1x16.size a ≤ S64x96.size a) ∧
  (∀ a, (k0_off671 v1447) a + S1x16.size a ≤ S64x96.size a)
theorem k0_off668_inb : ∀ (v1447 : BitVec 32) (k0_hw581 : k0_chk581 v1447), ∀ a, (k0_off668 v1447) a + S1x16.size a ≤ S64x96.size a := fun v1447 k0_hw581 => k0_hw581.1
theorem k0_off669_inb : ∀ (v1447 : BitVec 32) (k0_hw581 : k0_chk581 v1447), ∀ a, (k0_off669 v1447) a + S1x16.size a ≤ S64x96.size a := fun v1447 k0_hw581 => k0_hw581.2.1
theorem k0_off670_inb : ∀ (v1447 : BitVec 32) (k0_hw581 : k0_chk581 v1447), ∀ a, (k0_off670 v1447) a + S1x16.size a ≤ S64x96.size a := fun v1447 k0_hw581 => k0_hw581.2.2.1
theorem k0_off671_inb : ∀ (v1447 : BitVec 32) (k0_hw581 : k0_chk581 v1447), ∀ a, (k0_off671 v1447) a + S1x16.size a ≤ S64x96.size a := fun v1447 k0_hw581 => k0_hw581.2.2.2

def k0_chk582 (v1506 : IVec S16 32) : Prop :=
  (∀ a x, ((![v1506] : Fin 1 → IVec S16 32) a x).toNat < S101376.size a)
theorem k0_idx316_inb : ∀ (v1506 : IVec S16 32) (k0_hw582 : k0_chk582 v1506), ∀ a x, ((![v1506] : Fin 1 → IVec S16 32) a x).toNat < S101376.size a := fun v1506 k0_hw582 => k0_hw582

def k0_chk583 (v1520 : IVec S16 32) (v1543 : IVec S16 32) : Prop :=
  (∀ a x, ((![v1520, v1543] : Fin 2 → IVec S16 32) a x).toNat < S64x96.size a)
theorem k0_idx317_inb : ∀ (v1520 : IVec S16 32) (v1543 : IVec S16 32) (k0_hw583 : k0_chk583 v1520 v1543), ∀ a x, ((![v1520, v1543] : Fin 2 → IVec S16 32) a x).toNat < S64x96.size a := fun v1520 v1543 k0_hw583 => k0_hw583

def k0_chk584 (v1520 : IVec S16 32) (v1546 : IVec S16 32) : Prop :=
  (∀ a x, ((![v1520, v1546] : Fin 2 → IVec S16 32) a x).toNat < S64x96.size a)
theorem k0_idx318_inb : ∀ (v1520 : IVec S16 32) (v1546 : IVec S16 32) (k0_hw584 : k0_chk584 v1520 v1546), ∀ a x, ((![v1520, v1546] : Fin 2 → IVec S16 32) a x).toNat < S64x96.size a := fun v1520 v1546 k0_hw584 => k0_hw584

def k0_chk585 (v1520 : IVec S16 32) (v1549 : IVec S16 32) : Prop :=
  (∀ a x, ((![v1520, v1549] : Fin 2 → IVec S16 32) a x).toNat < S64x96.size a)
theorem k0_idx319_inb : ∀ (v1520 : IVec S16 32) (v1549 : IVec S16 32) (k0_hw585 : k0_chk585 v1520 v1549), ∀ a x, ((![v1520, v1549] : Fin 2 → IVec S16 32) a x).toNat < S64x96.size a := fun v1520 v1549 k0_hw585 => k0_hw585

def k0_chk586 (v1520 : IVec S16 32) (v1552 : IVec S16 32) : Prop :=
  (∀ a x, ((![v1520, v1552] : Fin 2 → IVec S16 32) a x).toNat < S64x96.size a)
theorem k0_idx320_inb : ∀ (v1520 : IVec S16 32) (v1552 : IVec S16 32) (k0_hw586 : k0_chk586 v1520 v1552), ∀ a x, ((![v1520, v1552] : Fin 2 → IVec S16 32) a x).toNat < S64x96.size a := fun v1520 v1552 k0_hw586 => k0_hw586
def k0_mult138 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_73 : BitVec 32 := 7168#32
  let v163 : BitVec 32 := Scalar.muli v1 c7168_i32_73
  let c2_i32_44 : BitVec 32 := 2#32
  let c0_i32_6 : BitVec 32 := 0#32
  let c1_i32_7 : BitVec 32 := 1#32
  let arg15 : BitVec 32 := Scf.iv c0_i32_6 c1_i32_7 k0_t1
  let v107 : BitVec 32 := Scalar.muli c2_i32_44 arg15
  let c1_i32_45 : BitVec 32 := 1#32
  let v108 : BitVec 32 := Scalar.addi v107 c1_i32_45
  let c64_i32_74 : BitVec 32 := 64#32
  let v164 : BitVec 32 := Scalar.muli v108 c64_i32_74
  let v165 : BitVec 32 := Scalar.addi v163 v164
  v165
def k0_off672 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_73 : BitVec 32 := 7168#32
  let v163 : BitVec 32 := Scalar.muli v1 c7168_i32_73
  let c2_i32_44 : BitVec 32 := 2#32
  let c0_i32_6 : BitVec 32 := 0#32
  let c1_i32_7 : BitVec 32 := 1#32
  let arg15 : BitVec 32 := Scf.iv c0_i32_6 c1_i32_7 k0_t1
  let v107 : BitVec 32 := Scalar.muli c2_i32_44 arg15
  let c1_i32_45 : BitVec 32 := 1#32
  let v108 : BitVec 32 := Scalar.addi v107 c1_i32_45
  let c64_i32_74 : BitVec 32 := 64#32
  let v164 : BitVec 32 := Scalar.muli v108 c64_i32_74
  let v165 : BitVec 32 := Scalar.addi v163 v164
  let v166 : BitVec 32 := v165
  let c0_i32_75 : BitVec 32 := 0#32
  ![v166.toNat, 0]
def k0_mult139 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32 : BitVec 32 := 7168#32
  let v36 : BitVec 32 := Scalar.muli v1 c7168_i32
  let c7040_i32 : BitVec 32 := 7040#32
  let v37 : BitVec 32 := Scalar.addi v36 c7040_i32
  v37
def k0_off673 (i : grid0.Coords) (c7040_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32 : BitVec 32 := 7168#32
  let v36 : BitVec 32 := Scalar.muli v1 c7168_i32
  let v37 : BitVec 32 := Scalar.addi v36 c7040_i32
  let v38 : BitVec 32 := v37
  let c0_i32_9 : BitVec 32 := 0#32
  ![v38.toNat, 0]
def k0_mult140 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32_11 : BitVec 32 := 7168#32
  let v41 : BitVec 32 := Scalar.muli v1 c7168_i32_11
  let c7104_i32 : BitVec 32 := 7104#32
  let v42 : BitVec 32 := Scalar.addi v41 c7104_i32
  v42
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1622016 : Shape := ⟨1, ![1622016]⟩
abbrev S2527488 : Shape := ⟨1, ![2527488]⟩
abbrev S4096 : Shape := ⟨1, ![4096]⟩
abbrev S67584x24 : Shape := ⟨2, ![67584, 24]⟩
abbrev S67584x16 : Shape := ⟨2, ![67584, 16]⟩
abbrev S_ : Shape := ⟨0, ![]⟩
abbrev S67584x8 : Shape := ⟨2, ![67584, 8]⟩
abbrev S67584x96 : Shape := ⟨2, ![67584, 96]⟩
abbrev S32x2527488 : Shape := ⟨2, ![32, 2527488]⟩
abbrev S32x2527488x1 : Shape := ⟨3, ![32, 2527488, 1]⟩
abbrev S1x2527488 : Shape := ⟨2, ![1, 2527488]⟩
abbrev S1x2527488x1 : Shape := ⟨3, ![1, 2527488, 1]⟩
abbrev S32x2527488x96 : Shape := ⟨3, ![32, 2527488, 96]⟩
abbrev S229376x96 : Shape := ⟨2, ![229376, 96]⟩

abbrev nBuf : Space → Nat
  | .hbm => 105
  | .vmem => 2
  | .smem => 0
  | _ => 0

abbrev bufTy : (tb : Table) → Fin (tcTables nBuf tb) → BufTy
  | .hbm, ⟨0, _⟩ => ⟨S1622016, .i32⟩
  | .hbm, ⟨1, _⟩ => ⟨S2527488, .f32⟩
  | .hbm, ⟨2, _⟩ => ⟨S2527488, .i32⟩
  | .hbm, ⟨3, _⟩ => ⟨S4096, .i32⟩
  | .hbm, ⟨4, _⟩ => ⟨S67584x24, .i32⟩
  | .hbm, ⟨5, _⟩ => ⟨S67584x16, .i32⟩
  | .hbm, ⟨6, _⟩ => ⟨S_, .i32⟩
  | .hbm, ⟨7, _⟩ => ⟨S67584x16, .i32⟩
  | .hbm, ⟨8, _⟩ => ⟨S67584x16, .i32⟩
  | .hbm, ⟨9, _⟩ => ⟨S67584x16, .i32⟩
  | .hbm, ⟨10, _⟩ => ⟨S_, .i32⟩
  | .hbm, ⟨11, _⟩ => ⟨S67584x16, .i32⟩
  | .hbm, ⟨12, _⟩ => ⟨S67584x16, .i32⟩
  | .hbm, ⟨13, _⟩ => ⟨S67584x16, .i32⟩
  | .hbm, ⟨14, _⟩ => ⟨S_, .i32⟩
  | .hbm, ⟨15, _⟩ => ⟨S67584x16, .i32⟩
  | .hbm, ⟨16, _⟩ => ⟨S67584x16, .i32⟩
  | .hbm, ⟨17, _⟩ => ⟨S67584x16, .i32⟩
  | .hbm, ⟨18, _⟩ => ⟨S_, .i32⟩
  | .hbm, ⟨19, _⟩ => ⟨S67584x16, .i32⟩
  | .hbm, ⟨20, _⟩ => ⟨S67584x16, .i32⟩
  | .hbm, ⟨21, _⟩ => ⟨S67584x8, .i32⟩
  | .hbm, ⟨22, _⟩ => ⟨S_, .i32⟩
  | .hbm, ⟨23, _⟩ => ⟨S67584x8, .i32⟩
  | .hbm, ⟨24, _⟩ => ⟨S67584x8, .i32⟩
  | .hbm, ⟨25, _⟩ => ⟨S67584x8, .i32⟩
  | .hbm, ⟨26, _⟩ => ⟨S_, .i32⟩
  | .hbm, ⟨27, _⟩ => ⟨S67584x8, .i32⟩
  | .hbm, ⟨28, _⟩ => ⟨S67584x8, .i32⟩
  | .hbm, ⟨29, _⟩ => ⟨S67584x8, .i32⟩
  | .hbm, ⟨30, _⟩ => ⟨S_, .i32⟩
  | .hbm, ⟨31, _⟩ => ⟨S67584x8, .i32⟩
  | .hbm, ⟨32, _⟩ => ⟨S67584x8, .i32⟩
  | .hbm, ⟨33, _⟩ => ⟨S67584x8, .i32⟩
  | .hbm, ⟨34, _⟩ => ⟨S_, .i32⟩
  | .hbm, ⟨35, _⟩ => ⟨S67584x8, .i32⟩
  | .hbm, ⟨36, _⟩ => ⟨S67584x8, .i32⟩
  | .hbm, ⟨37, _⟩ => ⟨S67584x96, .i32⟩
  | .hbm, ⟨38, _⟩ => ⟨S67584x96, .f32⟩
  | .hbm, ⟨39, _⟩ => ⟨S32x2527488, .i32⟩
  | .hbm, ⟨40, _⟩ => ⟨S32x2527488, .i32⟩
  | .hbm, ⟨41, _⟩ => ⟨S_, .i32⟩
  | .hbm, ⟨42, _⟩ => ⟨S32x2527488, .i32⟩
  | .hbm, ⟨43, _⟩ => ⟨S32x2527488, .i32⟩
  | .hbm, ⟨44, _⟩ => ⟨S_, .i32⟩
  | .hbm, ⟨45, _⟩ => ⟨S32x2527488, .i32⟩
  | .hbm, ⟨46, _⟩ => ⟨S32x2527488, .i32⟩
  | .hbm, ⟨47, _⟩ => ⟨S32x2527488x1, .i32⟩
  | .hbm, ⟨48, _⟩ => ⟨S32x2527488, .i32⟩
  | .hbm, ⟨49, _⟩ => ⟨S32x2527488, .i32⟩
  | .hbm, ⟨50, _⟩ => ⟨S_, .i32⟩
  | .hbm, ⟨51, _⟩ => ⟨S32x2527488, .i32⟩
  | .hbm, ⟨52, _⟩ => ⟨S32x2527488, .i1⟩
  | .hbm, ⟨53, _⟩ => ⟨S_, .i32⟩
  | .hbm, ⟨54, _⟩ => ⟨S32x2527488, .i32⟩
  | .hbm, ⟨55, _⟩ => ⟨S32x2527488, .i32⟩
  | .hbm, ⟨56, _⟩ => ⟨S_, .i32⟩
  | .hbm, ⟨57, _⟩ => ⟨S32x2527488, .i32⟩
  | .hbm, ⟨58, _⟩ => ⟨S32x2527488, .i32⟩
  | .hbm, ⟨59, _⟩ => ⟨S_, .i32⟩
  | .hbm, ⟨60, _⟩ => ⟨S32x2527488, .i32⟩
  | .hbm, ⟨61, _⟩ => ⟨S32x2527488, .i32⟩
  | .hbm, ⟨62, _⟩ => ⟨S32x2527488x1, .i32⟩
  | .hbm, ⟨63, _⟩ => ⟨S32x2527488, .i32⟩
  | .hbm, ⟨64, _⟩ => ⟨S32x2527488, .i1⟩
  | .hbm, ⟨65, _⟩ => ⟨S32x2527488, .i1⟩
  | .hbm, ⟨66, _⟩ => ⟨S1x2527488, .i32⟩
  | .hbm, ⟨67, _⟩ => ⟨S32x2527488, .i32⟩
  | .hbm, ⟨68, _⟩ => ⟨S_, .i32⟩
  | .hbm, ⟨69, _⟩ => ⟨S32x2527488, .i32⟩
  | .hbm, ⟨70, _⟩ => ⟨S32x2527488, .i32⟩
  | .hbm, ⟨71, _⟩ => ⟨S_, .i32⟩
  | .hbm, ⟨72, _⟩ => ⟨S32x2527488, .i32⟩
  | .hbm, ⟨73, _⟩ => ⟨S32x2527488, .i32⟩
  | .hbm, ⟨74, _⟩ => ⟨S32x2527488, .i32⟩
  | .hbm, ⟨75, _⟩ => ⟨S_, .i32⟩
  | .hbm, ⟨76, _⟩ => ⟨S_, .i32⟩
  | .hbm, ⟨77, _⟩ => ⟨S32x2527488, .i32⟩
  | .hbm, ⟨78, _⟩ => ⟨S32x2527488, .i32⟩
  | .hbm, ⟨79, _⟩ => ⟨S_, .i32⟩
  | .hbm, ⟨80, _⟩ => ⟨S32x2527488, .i32⟩
  | .hbm, ⟨81, _⟩ => ⟨S32x2527488, .i32⟩
  | .hbm, ⟨82, _⟩ => ⟨S_, .i32⟩
  | .hbm, ⟨83, _⟩ => ⟨S32x2527488, .i32⟩
  | .hbm, ⟨84, _⟩ => ⟨S32x2527488, .i32⟩
  | .hbm, ⟨85, _⟩ => ⟨S_, .i32⟩
  | .hbm, ⟨86, _⟩ => ⟨S32x2527488, .i32⟩
  | .hbm, ⟨87, _⟩ => ⟨S32x2527488, .i32⟩
  | .hbm, ⟨88, _⟩ => ⟨S32x2527488, .i32⟩
  | .hbm, ⟨89, _⟩ => ⟨S1x2527488x1, .f32⟩
  | .hbm, ⟨90, _⟩ => ⟨S32x2527488x1, .i32⟩
  | .hbm, ⟨91, _⟩ => ⟨S32x2527488x96, .f32⟩
  | .hbm, ⟨92, _⟩ => ⟨S32x2527488x96, .f32⟩
  | .hbm, ⟨93, _⟩ => ⟨S32x2527488x96, .f32⟩
  | .hbm, ⟨94, _⟩ => ⟨S_, .f32⟩
  | .hbm, ⟨95, _⟩ => ⟨S229376x96, .f32⟩
  | .hbm, ⟨96, _⟩ => ⟨S_, .i32⟩
  | .hbm, ⟨97, _⟩ => ⟨S32x2527488, .i32⟩
  | .hbm, ⟨98, _⟩ => ⟨S32x2527488, .i1⟩
  | .hbm, ⟨99, _⟩ => ⟨S_, .i32⟩
  | .hbm, ⟨100, _⟩ => ⟨S32x2527488, .i32⟩
  | .hbm, ⟨101, _⟩ => ⟨S32x2527488, .i32⟩
  | .hbm, ⟨102, _⟩ => ⟨S32x2527488, .i32⟩
  | .hbm, ⟨103, _⟩ => ⟨S32x2527488x1, .i32⟩
  | .hbm, ⟨104, _⟩ => ⟨S229376x96, .f32⟩
  | .local _ .vmem, ⟨0, _⟩ => ⟨S67584x96, .i32⟩
  | .local _ .vmem, ⟨1, _⟩ => ⟨S67584x96, .f32⟩
  | _, _ => ⟨S1622016, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_c_12 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_13 : Ref sig .tc := ⟨.hbm, 68, rfl⟩
abbrev main_v48 : Ref sig .tc := ⟨.hbm, 69, rfl⟩
abbrev main_v49 : Ref sig .tc := ⟨.hbm, 70, rfl⟩
abbrev main_c_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_15 : Ref sig .tc := ⟨.hbm, 75, rfl⟩
abbrev main_call2_v0 : Ref sig .tc := ⟨.hbm, 76, rfl⟩
abbrev main_call2_v1 : Ref sig .tc := ⟨.hbm, 77, rfl⟩
abbrev main_v53 : Ref sig .tc := ⟨.hbm, 78, rfl⟩
abbrev main_c_16 : Ref sig .tc := ⟨.hbm, 79, rfl⟩
abbrev main_v54 : Ref sig .tc := ⟨.hbm, 80, rfl⟩
abbrev main_v55 : Ref sig .tc := ⟨.hbm, 81, rfl⟩
abbrev main_c_17 : Ref sig .tc := ⟨.hbm, 82, rfl⟩
abbrev main_v56 : Ref sig .tc := ⟨.hbm, 83, rfl⟩
abbrev main_v57 : Ref sig .tc := ⟨.hbm, 84, rfl⟩
abbrev main_c_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call3_v0 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst : Ref sig .tc := ⟨.hbm, 94, rfl⟩
abbrev main_v65 : Ref sig .tc := ⟨.hbm, 95, rfl⟩
abbrev main_c_19 : Ref sig .tc := ⟨.hbm, 96, rfl⟩
abbrev main_v66 : Ref sig .tc := ⟨.hbm, 97, rfl⟩
abbrev main_v67 : Ref sig .tc := ⟨.hbm, 98, rfl⟩
abbrev main_c_20 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S67584x96 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S67584x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Model.lean ====
module

public import proofs.«01_k».proof.Proof.Gen.Kernel.Skeleton

@[expose] public section

noncomputable section

namespace Cert.Kernel.Pool

open Idealize.ShloMosaic Idealize.SL.Sem
open Cert.Kernel Cert.Kernel.Gen

variable {F : FTy → Type} [FloatOps F]

/-! # The inner part of the pool, said once

The printed body spells out every lane of a group of sixteen list entries; the definitions here say
one lane, one pair of lanes and one group, and `t4_eq`, `t11_eq` state that the two printed group
bodies (one per accumulator) are the group. -/

/-- Byte `n` (shift `8 n`) of each word, read as an fp8 code and widened. -/
def byte (sh : BitVec 32) (v : IVec S16 32) : FVec F S16 .f32 :=
  extf .f32 (bitcastToFloat .fp8e4m3 (trunci 8 (shrui v (broadcast S16 sh)) natLt_8_32)) bitsLt_fp8e4m3_f32

abbrev PT (i : grid0.Coords) (F : FTy → Type) [FloatOps F] (α : Type) : Type 1 :=
  Prog (TpuEff nD τ sig (Elt F) Λ₀ (.scVector ((i 0).castLE hcore0) ((i 1).castLE hsub0))) α

variable (i : grid0.Coords)

/-- One row of sixteen channels of the accumulator, plus `x`. -/
def rmw (st : Memref sig .scVector .vmem S64x96 .f32) (off : Fin 2 → ℕ) (inb : ∀ a, off a + S1x16.size a ≤ S64x96.size a)
    (x : FVec F S16 .f32) : PT i F PUnit := do
  let ld : Vec F S1x16 .f32 ← Prog.lift (.load st (Rect.unit (s := S64x96) off S1x16.size inb).toLoadRect (View.loadsAt_vmem h_S1x16))
  let _ ← Prog.lift (.load st (Rect.unit (s := S64x96) off S1x16.size inb).toLoadRect (View.loadsAt_vmem h_S1x16))
  Prog.lift (.store st (Rect.unit (s := S64x96) off S1x16.size inb)
    (shapeCast S1x16 (addf (shapeCast S16 ld shapeCasts_S1x16_S16) x) shapeCasts_S16_S1x16) Finset.univ
    (View.stores_vmem_bits_univ h_S1x16 rfl) (.inl rfl))

/-- One lane: the pixel's first sixteen words, their four bytes into the four rows of sixteen channels. -/
def lane (st : Memref sig .scVector .vmem S64x96 .f32) (tb : Memref sig .scVector .vmem S101376 .i32)
    (w : FVec F S16 .f32) (r p : BitVec 32) : PT i F PUnit := do
  have hr : k0_chk5 r := (← Prog.lift (TpuEff.assume (k0_chk5 r) (k0_chk5.dec r))).down
  have hp : k0_chk4 p := (← Prog.lift (TpuEff.assume (k0_chk4 p) (k0_chk4.dec p))).down
  let v : Vec F S16 .i32 ← Prog.lift (.load tb (Rect.unit (s := S101376) (k0_off13 p) S16.size (k0_off13_inb p hp)).toLoadRect (View.loadsAt_vmem h_S16))
  rmw i st (k0_off14 r) (k0_off14_inb r hr) (mulf (byte 0#32 v) w)
  rmw i st (k0_off15 r) (k0_off15_inb r hr) (mulf (byte 8#32 v) w)
  rmw i st (k0_off16 r) (k0_off16_inb r hr) (mulf (byte 16#32 v) w)
  rmw i st (k0_off17 r) (k0_off17_inb r hr) (mulf (byte 24#32 v) w)

/-- One scatter-add of sixteen products at columns `v23 + c`. -/
def scat (st : Memref sig .scVector .vmem S64x96 .f32) (v23 : IVec S16 32) (c : BitVec 32) (rq : IVec S16 32) (x : FVec F S16 .f32) : PT i F PUnit := do
  have h : k0_chk9 rq (addi v23 (broadcast S16 c)) := (← Prog.lift (TpuEff.assume (k0_chk9 rq (addi v23 (broadcast S16 c))) (k0_chk9.dec rq (addi v23 (broadcast S16 c))))).down
  SparseCore.vectorStoreIdx st ![rq, addi v23 (broadcast S16 c)] x (fun _ => 1#1) true (k0_idx2_inb rq (addi v23 (broadcast S16 c)) h) (View.stores_vmem_bits_univ h_S64x96 rfl)

/-- Two lanes' last eight words, gathered side by side, their four bytes scattered to the last thirty-two channels. -/
def pair (st : Memref sig .scVector .vmem S64x96 .f32) (tb : Memref sig .scVector .vmem S101376 .i32) (v21 : IVec S16 1) (v23 : IVec S16 32)
    (w0 w1 : FVec F S16 .f32) (r0 r1 p0 p1 : IVec S16 32) : PT i F PUnit := do
  have h : k0_chk8 (addi (select v21 p0 p1) (addi v23 (broadcast S16 16#32))) :=
    (← Prog.lift (TpuEff.assume (k0_chk8 (addi (select v21 p0 p1) (addi v23 (broadcast S16 16#32)))) (k0_chk8.dec (addi (select v21 p0 p1) (addi v23 (broadcast S16 16#32)))))).down
  let v : Vec F S16 .i32 ← SparseCore.vectorLoadIdx tb ![addi (select v21 p0 p1) (addi v23 (broadcast S16 16#32))] (k0_idx1_inb _ h) (View.loads_vmem h_S101376)
  scat i st v23 64#32 (select v21 r0 r1) (mulf (byte 0#32 v) (select v21 w0 w1))
  scat i st v23 72#32 (select v21 r0 r1) (mulf (byte 8#32 v) (select v21 w0 w1))
  scat i st v23 80#32 (select v21 r0 r1) (mulf (byte 16#32 v) (select v21 w0 w1))
  scat i st v23 88#32 (select v21 r0 r1) (mulf (byte 24#32 v) (select v21 w0 w1))

/-- Lane at offset `o` of a vector of words; of a vector of floats. -/
abbrev exI (o : Fin 1 → ℕ) (h : S16.Slices o S1) (v : IVec S16 32) : BitVec 32 := extractAt ![0] (extractStridedSlice S1 o v h : IVec S1 32) inpos_S1_p0
abbrev exF (o : Fin 1 → ℕ) (h : S16.Slices o S1) (v : Vec F S16 .f32) : F .f32 := extractAt ![0] (extractStridedSlice S1 o v h : FVec F S1 .f32) inpos_S1_p0

/-- Two lanes and their pair. -/
def two (st : Memref sig .scVector .vmem S64x96 .f32) (tb : Memref sig .scVector .vmem S101376 .i32) (v21 : IVec S16 1) (v23 : IVec S16 32)
    (o0 o1 : Fin 1 → ℕ) (h0 : S16.Slices o0 S1) (h1 : S16.Slices o1 S1) (rv pv : IVec S16 32) (ww : Vec F S16 .f32) : PT i F PUnit := do
  lane i st tb (broadcast S16 (exF o0 h0 ww)) (exI o0 h0 rv) (exI o0 h0 pv)
  lane i st tb (broadcast S16 (exF o1 h1 ww)) (exI o1 h1 rv) (exI o1 h1 pv)
  pair i st tb v21 v23 (broadcast S16 (exF o0 h0 ww)) (broadcast S16 (exF o1 h1 ww))
    (broadcast S16 (exI o0 h0 rv)) (broadcast S16 (exI o1 h1 rv)) (broadcast S16 (exI o0 h0 pv)) (broadcast S16 (exI o1 h1 pv))

/-- The sixteen lanes of a group, given their rows, pixels' offsets and weights. -/
def lanes (st : Memref sig .scVector .vmem S64x96 .f32) (tb : Memref sig .scVector .vmem S101376 .i32) (v21 : IVec S16 1) (v23 : IVec S16 32)
    (rv pv : IVec S16 32) (ww : Vec F S16 .f32) : PT i F PUnit := do
  two i st tb v21 v23 ![0] ![1] slices_S16_o0_S1 slices_S16_o1_S1 rv pv ww
  two i st tb v21 v23 ![2] ![3] slices_S16_o2_S1 slices_S16_o3_S1 rv pv ww
  two i st tb v21 v23 ![4] ![5] slices_S16_o4_S1 slices_S16_o5_S1 rv pv ww
  two i st tb v21 v23 ![6] ![7] slices_S16_o6_S1 slices_S16_o7_S1 rv pv ww
  two i st tb v21 v23 ![8] ![9] slices_S16_o8_S1 slices_S16_o9_S1 rv pv ww
  two i st tb v21 v23 ![10] ![11] slices_S16_o10_S1 slices_S16_o11_S1 rv pv ww
  two i st tb v21 v23 ![12] ![13] slices_S16_o12_S1 slices_S16_o13_S1 rv pv ww
  two i st tb v21 v23 ![14] ![15] slices_S16_o14_S1 slices_S16_o15_S1 rv pv ww

/-- Which of the positions `b .. b + 15` lie in `[lo, hi)`. -/
def live (v19 : IVec S16 32) (b lo hi : BitVec 32) : IVec S16 1 :=
  andi (cmpi .sge (addi (broadcast S16 b) v19) (broadcast S16 lo)) (cmpi .slt (addi (broadcast S16 b) v19) (broadcast S16 hi))
/-- Row of the window of each entry, zero where not live. -/
def rowv (lv : IVec S16 1) (k64 : BitVec 32) (pk : IVec S16 32) : IVec S16 32 :=
  select lv (subi (andi pk (broadcast S16 65535#32)) (broadcast S16 k64)) (broadcast S16 0#32)
/-- Offset of each entry's pixel in the table. -/
def pixv (pk : IVec S16 32) : IVec S16 32 := muli (shrui pk (broadcast S16 16#32)) (broadcast S16 24#32)
/-- Weight of each entry, zero where not live. -/
def wv (lv : IVec S16 1) (w : Vec F S16 .f32) : Vec F S16 .f32 := select lv w (broadcast S16 (Scalar.ofBits .f32 0x00000000#32))

/-- A group of sixteen positions, at `off` of the staged list. -/
def group (st : Memref sig .scVector .vmem S64x96 .f32) (tb : Memref sig .scVector .vmem S101376 .i32)
    (pkb : Memref sig .scVector .vmem S1024 .i32) (wb : Memref sig .scVector .vmem S1024 .f32)
    (v19 : IVec S16 32) (v21 : IVec S16 1) (v23 : IVec S16 32) (off : Fin 1 → ℕ) (inb : ∀ a, off a + S16.size a ≤ S1024.size a)
    (b lo hi k64 : BitVec 32) : PT i F PUnit := do
  let pk : Vec F S16 .i32 ← Prog.lift (.load pkb (Rect.unit (s := S1024) off S16.size inb).toLoadRect (View.loadsAt_vmem h_S16))
  let w : Vec F S16 .f32 ← Prog.lift (.load wb (Rect.unit (s := S1024) off S16.size inb).toLoadRect (View.loadsAt_vmem h_S16))
  lanes i st tb v21 v23 (rowv (live v19 b lo hi) k64 pk) (pixv pk) (wv (live v19 b lo hi) w)

end Cert.Kernel.Pool
-- ==== Proof.Inner.lean ====
module

public import proofs.«01_k».proof.Proof.Model
public import Idealize.ShloMosaic.Lib.SparseCore.Quiescent
public import Idealize.ShloMosaic.Lib.SparseCore.Ops
public import Idealize.ShloMosaic.Lib.VecWindow
public import Idealize.ShloMosaic.Lib.LaneScatter.Casts
public import Idealize.ShloMosaic.Lib.Memref
public import Idealize.ShloMosaic.Lib.Tactic

@[expose] public section

set_option maxRecDepth 8000

noncomputable section

namespace Cert.Kernel.Pool

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Kernel Cert.Kernel.Gen

/-! # What the inner part does to the accumulator, exactly -/

section Fun
variable {F : FTy → Type} [FloatOps F]

/-- The index of lane `j`. -/
def ln (j : Fin 16) : S16.Idx := fun | 0 => j

/-- Word `n` of the table, zero past its end. -/
def tabAt (T : Vec F S101376 .i32) (n : ℕ) : BitVec 32 := if h : n < 101376 then T (fun | 0 => ⟨n, h⟩) else 0#32

/-- `x` added to the sixteen elements of row `r` from column `c`. -/
def rowAdd (g : Vec F S64x96 .f32) (r c : ℕ) (x : FVec F S16 .f32) : Vec F S64x96 .f32 := fun y =>
  if h : (y 0).val = r ∧ c ≤ (y 1).val ∧ (y 1).val < c + 16 then FloatOps.addf (g y) (x (ln ⟨(y 1).val - c, by omega⟩)) else g y

/-- The sixteen words from word `n` of the table. -/
def words (T : Vec F S101376 .i32) (n : ℕ) : IVec S16 32 := fun x => tabAt T (n + (x 0).val)

/-- One lane's four row additions. -/
def laneG (T : Vec F S101376 .i32) (w : FVec F S16 .f32) (r p : ℕ) (g : Vec F S64x96 .f32) : Vec F S64x96 .f32 :=
  rowAdd (rowAdd (rowAdd (rowAdd g r 0 (mulf (byte 0#32 (words T p)) w)) r 16 (mulf (byte 8#32 (words T p)) w))
    r 32 (mulf (byte 16#32 (words T p)) w)) r 48 (mulf (byte 24#32 (words T p)) w)

/-- One scatter-add, where it is in range. -/
def scatG (rq cv : IVec S16 32) (x : FVec F S16 .f32) (g : Vec F S64x96 .f32) : Vec F S64x96 .f32 := by
  classical exact if h : ∀ a y, ((![rq, cv] : Fin 2 → IVec S16 32) a y).toNat < S64x96.size a then
    storeIdx g ![rq, cv] x (fun _ => 1#1) true h else g

/-- The words a vector of indices names. -/
def gath (T : Vec F S101376 .i32) (iv : IVec S16 32) : IVec S16 32 := fun x => tabAt T (iv x).toNat

/-- A pair's four scatter-adds. -/
def pairG (T : Vec F S101376 .i32) (v21 : IVec S16 1) (v23 : IVec S16 32) (w0 w1 : FVec F S16 .f32) (r0 r1 p0 p1 : IVec S16 32)
    (g : Vec F S64x96 .f32) : Vec F S64x96 .f32 :=
  let v := gath T (addi (select v21 p0 p1) (addi v23 (broadcast S16 16#32)))
  let w := select v21 w0 w1
  let r := select v21 r0 r1
  scatG r (addi v23 (broadcast S16 88#32)) (mulf (byte 24#32 v) w)
    (scatG r (addi v23 (broadcast S16 80#32)) (mulf (byte 16#32 v) w)
      (scatG r (addi v23 (broadcast S16 72#32)) (mulf (byte 8#32 v) w)
        (scatG r (addi v23 (broadcast S16 64#32)) (mulf (byte 0#32 v) w) g)))

/-- Two lanes `a`, `b` of a group. -/
def twoG (T : Vec F S101376 .i32) (v21 : IVec S16 1) (v23 : IVec S16 32) (rv pv : IVec S16 32) (ww : Vec F S16 .f32) (a b : S16.Idx)
    (g : Vec F S64x96 .f32) : Vec F S64x96 .f32 :=
  pairG T v21 v23 (broadcast S16 (ww a)) (broadcast S16 (ww b)) (broadcast S16 (rv a)) (broadcast S16 (rv b))
    (broadcast S16 (pv a)) (broadcast S16 (pv b))
    (laneG T (broadcast S16 (ww b)) (rv b).toNat (pv b).toNat (laneG T (broadcast S16 (ww a)) (rv a).toNat (pv a).toNat g))

/-- The sixteen lanes of a group. -/
def lanesG (T : Vec F S101376 .i32) (v21 : IVec S16 1) (v23 : IVec S16 32) (rv pv : IVec S16 32) (ww : Vec F S16 .f32)
    (g : Vec F S64x96 .f32) : Vec F S64x96 .f32 :=
  let t := twoG T v21 v23 rv pv ww
  t (ln 14) (ln 15) (t (ln 12) (ln 13) (t (ln 10) (ln 11) (t (ln 8) (ln 9) (t (ln 6) (ln 7) (t (ln 4) (ln 5) (t (ln 2) (ln 3) (t (ln 0) (ln 1) g)))))))

/-- Rows, table offsets and columns in range. -/
structure InRange (v21 : IVec S16 1) (v23 rv pv : IVec S16 32) : Prop where
  row : ∀ x, (rv x).toNat < 64
  pix : ∀ x, 8 ∣ (pv x).toNat ∧ (pv x).toNat + 24 ≤ 101376
  col : ∀ x, (v23 x).toNat < 8

end Fun

variable {nD' : Nat} {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (bd : Option 𝒱.V) (E : Set Name)
variable (d : Dev nD) (i : grid0.Coords)

local notation "𝕄" => MT nD τ sig Ix (Elt F) Name U Lvl

abbrev VT (d : Dev nD) (i : grid0.Coords) : Thread nD τ := V d ((i 0).castLE hcore0) ((i 1).castLE hsub0)

theorem wp_seq {P R : sProp 𝕄} {β : Type} {x : PT i F PUnit} {y : PT i F β} {Q : β → sProp 𝕄}
    (hx : P ⊢ wp frame (wpE defs 𝒱 (VT d i) bd) E x fun _ => R) (hy : R ⊢ wp frame (wpE defs 𝒱 (VT d i) bd) E y Q) :
    P ⊢ wp frame (wpE defs 𝒱 (VT d i) bd) E (x >>= fun _ => y) Q := by
  rw [wp_bind]; exact hx.trans (wp_mono _ _ _ fun _ => hy)

theorem wp_fr {P R G : sProp 𝕄} {x : PT i F PUnit} (hx : P ⊢ wp frame (wpE defs 𝒱 (VT d i) bd) E x fun _ => R) :
    iprop(P ∗ G) ⊢ wp frame (wpE defs 𝒱 (VT d i) bd) E x fun _ => iprop(R ∗ G) :=
  (sep_mono_left hx).trans (wp_frame_r _ _ _)

abbrev Own (st : Memref sig .scVector .vmem S64x96 .f32) (g : Vec F S64x96 .f32) : sProp 𝕄 := owns (VT d i) st fullShare g

theorem wp_ld {α : Type} {Q : α → sProp 𝕄} {s : Shape} {e : EltTy} (m : Memref sig .scVector .vmem s e) {off size : Fin s.rank → ℕ} {inb : ∀ a, off a + size a ≤ s.size a} {hl}
    {k : ((Rect.unit off size inb).toLoadRect.shape.Idx → Elt F e) → PT i F α} {q : PosShare TreeShare} {X : s.Idx → Elt F e} :
    (owns (VT d i) m q X : sProp 𝕄) ⊢ iprop((owns (VT d i) m q X -∗ wp frame (wpE defs 𝒱 (VT d i) bd) E (k (VecWindow.window X off size inb)) Q)
      -∗ wp frame (wpE defs 𝒱 (VT d i) bd) E (.op (.load m (Rect.unit off size inb).toLoadRect hl) k) Q) := by
  unfold owns
  iintro ⟨%f, %hf, H⟩ Hk
  iapply (wp_load (defs := defs) 𝒱 (VT d i) bd E (Q := Q) (m := m) (q := q) (f := f) (S := m.view.set) (View.setOn_subset_set _ _)) $$ H
  iintro H
  rw [View.readAt_unit m.view f inb rfl inb, hf]
  iapply Hk
  iexists f
  isplitr
  · ipureintro; exact hf
  · iexact H

theorem wp_st {α : Type} {Q : α → sProp 𝕄} {s : Shape} {e : EltTy} (m : Memref sig .scVector .vmem s e) {off size : Fin s.rank → ℕ} {inb : ∀ a, off a + size a ≤ s.size a} {hx hm}
    {w : (Rect.unit off size inb).shape.Idx → Elt F e} {k : PUnit → PT i F α} {X : s.Idx → Elt F e} :
    (owns (VT d i) m fullShare X : sProp 𝕄) ⊢ iprop((owns (VT d i) m fullShare (VecWindow.put X off size w) -∗ wp frame (wpE defs 𝒱 (VT d i) bd) E (k ⟨⟩) Q)
      -∗ wp frame (wpE defs 𝒱 (VT d i) bd) E (.op (.store m (Rect.unit off size inb) w Finset.univ hx hm) k) Q) := by
  unfold owns
  iintro ⟨%f, %hf, H⟩ Hk
  iapply (wp_store (defs := defs) 𝒱 (VT d i) bd E (Q := Q) (m := m) (r := Rect.unit off size inb) (f := f) (S := m.view.set) (by
    rw [View.setOn_univ]; exact View.set_slice_subset _ _)) $$ H
  iintro H
  iapply Hk
  iexists _
  isplitr
  · ipureintro
    have := View.read_writes_cons_put (Val := Elt F) m.view f inb w [] rfl
    rw [View.writes_nil, hf] at this
    exact this
  · iexact H

theorem wp_ldx (c : Thread nD τ) {α : Type} {Q : α → sProp 𝕄} {s t : Shape} {e : EltTy} (m : Memref sig c.2.kind .vmem s e) {idxs : Fin s.rank → IVec t 32} {h : ∀ a x, (idxs a x).toNat < s.size a} {hl}
    {k : Vec F t e → Prog (TpuEff nD τ sig (Elt F) Λ₀ c.2) α} {q : PosShare TreeShare} {X : Vec F s e} :
    (owns c m q X : sProp 𝕄) ⊢ iprop((owns c m q X -∗ wp frame (wpE defs 𝒱 c bd) E (k (loadIdx X idxs h)) Q)
      -∗ wp frame (wpE defs 𝒱 c bd) E (SparseCore.vectorLoadIdx m idxs h hl >>= k) Q) := by
  rw [SparseCore.vectorLoadIdx_bind]
  unfold owns
  iintro ⟨%f, %hf, H⟩ Hk
  iapply (wp_load (defs := defs) 𝒱 c bd E (Q := Q) (m := m) (q := q) (f := f) (S := m.view.set) (View.setOn_subset_set _ _)) $$ H
  iintro H
  have e : m.view.readAt (Elt F) (LoadRect.whole s) f = X := by
    rw [← hf]; funext y
    exact congrArg (m.view.read (Elt F) f) (Rect.emb_whole_apply _ y)
  rw [e]
  iapply Hk
  iexists f
  isplitr
  · ipureintro; exact hf
  · iexact H

theorem wp_stx (c : Thread nD τ) {Q : PUnit → sProp 𝕄} {s : Shape} {e : EltTy} {dd : Fin 1 → ℕ} (m : Memref sig c.2.kind .vmem s e) {idxs : Fin s.rank → IVec ⟨1, dd⟩ 32} {h : ∀ a x, (idxs a x).toNat < s.size a} {hs}
    {v : Vec F ⟨1, dd⟩ e} {mask : IVec ⟨1, dd⟩ 1} {add : Bool} {X : Vec F s e} :
    (owns c m fullShare X : sProp 𝕄) ⊢ iprop((owns c m fullShare (storeIdx X idxs v mask add h) -∗ Q ⟨⟩)
      -∗ wp frame (wpE defs 𝒱 c bd) E (SparseCore.vectorStoreIdx (F := F) m idxs v mask add h hs) Q) := by
  rw [← Prog.bind_pure (SparseCore.vectorStoreIdx (F := F) m idxs v mask add h hs), SparseCore.vectorStoreIdx_bind]
  unfold owns
  iintro ⟨%f, %hf, H⟩ Hk
  iapply (wp_load (defs := defs) 𝒱 c bd E (Q := Q) (m := m) (q := fullShare) (f := f) (S := m.view.set) (View.setOn_subset_set _ _)) $$ H
  iintro H
  have e : m.view.readAt (Elt F) (LoadRect.whole s) f = X := by
    rw [← hf]; funext y
    exact congrArg (m.view.read (Elt F) f) (Rect.emb_whole_apply _ y)
  rw [e]
  iapply (wp_store (defs := defs) 𝒱 c bd E (Q := Q) (m := m) (r := Rect.whole s) (f := f) (S := m.view.set) (by
    rw [View.setOn_univ]; exact View.set_slice_subset _ _)) $$ H
  iintro H
  rw [Prog.pure_eq_ret, wp_ret]
  imodintro
  iapply Hk
  iexists _
  isplitr
  · ipureintro
    have h2 := View.read_write_univ (Val := Elt F) (v := (m.access (Rect.whole s))) f (storeIdx X idxs v mask add h)
    refine (funext fun y => ?_).trans h2
    exact congrArg (m.view.read (Elt F) _) (Rect.emb_whole_apply _ y).symm
  · iexact H

/-- One row of sixteen channels, loaded and stored back with `x` added. -/
theorem wp_rmw (st : Memref sig .scVector .vmem S64x96 .f32) (off : Fin 2 → ℕ) (inb) (r c : ℕ) (ho : off = ![r, c]) (x : FVec F S16 .f32) (g : Vec F S64x96 .f32) :
    (Own d i st g : sProp 𝕄) ⊢ wp frame (wpE defs 𝒱 (VT d i) bd) E (rmw i st off inb x) fun _ => Own d i st (rowAdd g r c x) := by
  subst ho
  unfold rmw
  simp only [Prog.lift, Prog.bind_op, Prog.bind_ret]
  unfold Own
  iintro H
  iapply (wp_ld (defs := defs) 𝒱 bd E d i st) $$ H
  iintro H
  iapply (wp_ld (defs := defs) 𝒱 bd E d i st) $$ H
  iintro H
  iapply (wp_st (defs := defs) 𝒱 bd E d i st) $$ H
  iintro H
  rw [wp_ret]
  imodintro
  have e : VecWindow.put g ![r, c] S1x16.size (shapeCast S1x16 (addf (shapeCast S16 (VecWindow.window g ![r, c] S1x16.size inb : FVec F S1x16 .f32) shapeCasts_S1x16_S16) x) shapeCasts_S16_S1x16 : FVec F S1x16 .f32)
      = rowAdd g r c x := by
    funext y
    unfold VecWindow.put rowAdd
    by_cases h : (y 0).val = r ∧ c ≤ (y 1).val ∧ (y 1).val < c + 16
    · have h' : ∀ a : Fin 2, ((![r, c] : Fin 2 → ℕ) a) ≤ (y a).val ∧ (y a).val < (![r, c] : Fin 2 → ℕ) a + S1x16.size a := by
        intro a; fin_cases a
        · exact ⟨h.1.ge, h.1.le.trans_lt (Nat.lt_succ_self _)⟩
        · exact h.2
      rw [dif_pos h, dif_pos h']
      refine (LaneScatter.cast_row_apply (Ln := 16) _ shapeCasts_S16_S1x16 _).trans ?_
      refine congrArg₂ FloatOps.addf ?_ (congrArg x ?_)
      · refine (LaneScatter.cast_vec_apply (Ln := 16) _ shapeCasts_S1x16_S16 _).trans ?_
        refine congrArg g (funext fun a => Fin.ext ?_)
        fin_cases a
        · show r + 1 * 0 = (y 0).val
          omega
        · show c + 1 * ((y 1).val - c) = (y 1).val
          omega
      · funext a; fin_cases a; rfl
    · have h' : ¬ ∀ a : Fin 2, ((![r, c] : Fin 2 → ℕ) a) ≤ (y a).val ∧ (y a).val < (![r, c] : Fin 2 → ℕ) a + S1x16.size a := by
        intro h'; have h0 := h' 0; have h1 := h' 1
        have e0 : S1x16.size 0 = 1 := rfl
        have e1 : S1x16.size 1 = 16 := rfl
        simp only [Matrix.cons_val_zero, Matrix.cons_val_one] at h0 h1
        exact h ⟨by omega, by omega⟩
      rw [dif_neg h, dif_neg h']
  rw [← e]
  iexact H

theorem wp_as {α : Type} {Q : α → sProp 𝕄} {P : Prop} {dd} (h : P) {k : PLift P → PT i F α} :
    wp frame (wpE defs 𝒱 (VT d i) bd) E (k ⟨h⟩) Q ⊢ (wp frame (wpE defs 𝒱 (VT d i) bd) E (.op (.assume P dd) k) Q : sProp 𝕄) :=
  wp_assume 𝒱 (VT d i) bd E h

section Checks
theorem chk5_of {r : BitVec 32} (h : r.toNat < 64) : k0_chk5 r := by
  have e : ∀ c : ℕ, c + 16 ≤ 96 → ∀ a : Fin 2, (![r.toNat, c] : Fin 2 → ℕ) a + S1x16.size a ≤ S64x96.size a := by
    intro c hc a; fin_cases a
    · show r.toNat + 1 ≤ 64; omega
    · show c + 16 ≤ 96; omega
  exact ⟨e 0 (by omega), e 16 (by omega), e 32 (by omega), e 48 (by omega)⟩
theorem chk4_of {p : BitVec 32} (h : 8 ∣ p.toNat ∧ p.toNat + 24 ≤ 101376) : k0_chk4 p := by
  refine ⟨h.1, fun a => ?_⟩
  fin_cases a
  show p.toNat + 16 ≤ 101376
  omega
end Checks

variable (T : Vec F S101376 .i32)

abbrev OwnT (tb : Memref sig .scVector .vmem S101376 .i32) : sProp 𝕄 := owns (VT d i) tb fullShare T

theorem wp_lane (st : Memref sig .scVector .vmem S64x96 .f32) (tb : Memref sig .scVector .vmem S101376 .i32) (w : FVec F S16 .f32) (r p : BitVec 32)
    (hr : r.toNat < 64) (hp : 8 ∣ p.toNat ∧ p.toNat + 24 ≤ 101376) (g : Vec F S64x96 .f32) :
    iprop(Own d i st g ∗ OwnT d i T tb : sProp 𝕄) ⊢ wp frame (wpE defs 𝒱 (VT d i) bd) E (lane i st tb w r p)
      fun _ => iprop(Own d i st (laneG T w r.toNat p.toNat g) ∗ OwnT d i T tb) := by
  unfold lane
  simp only [Prog.lift, Prog.bind_op, Prog.bind_ret]
  refine .trans ?_ (wp_as 𝒱 bd E d i (chk5_of hr))
  refine .trans ?_ (wp_as 𝒱 bd E d i (chk4_of hp))
  iintro ⟨H, HT⟩
  iapply (wp_ld (defs := defs) 𝒱 bd E d i tb) $$ HT
  iintro HT
  have e : VecWindow.window T (k0_off13 p) S16.size (k0_off13_inb p (chk4_of hp)) = (words T p.toNat : IVec S16 32) := by
    funext x
    have hx : (x 0).val < 16 := (x 0).isLt
    unfold VecWindow.window words tabAt
    rw [dif_pos (by omega)]
    refine congrArg T (funext fun a => Fin.ext ?_)
    fin_cases a
    show p.toNat + 1 * (x 0).val = p.toNat + (x 0).val
    omega
  rw [e]
  have k := fun (c : ℕ) off inb ho x g => wp_rmw (Ix := Ix) (Name := Name) (U := U) (Lvl := Lvl) (defs := defs) 𝒱 bd E d i st off inb r.toNat c ho x g
  have kk := wp_seq 𝒱 bd E d i (k 0 _ (k0_off14_inb r (chk5_of hr)) rfl (mulf (byte 0#32 (words T p.toNat)) w) g)
    (wp_seq 𝒱 bd E d i (k 16 _ (k0_off15_inb r (chk5_of hr)) rfl (mulf (byte 8#32 (words T p.toNat)) w) _)
    (wp_seq 𝒱 bd E d i (k 32 _ (k0_off16_inb r (chk5_of hr)) rfl (mulf (byte 16#32 (words T p.toNat)) w) _)
    (k 48 _ (k0_off17_inb r (chk5_of hr)) rfl (mulf (byte 24#32 (words T p.toNat)) w) _)))
  iapply (wp_fr 𝒱 bd E d i (G := OwnT d i T tb) kk)
  isplitl [H]
  · iexact H
  · iexact HT

theorem addi_toNat {a b : BitVec 32} (h : a.toNat + b.toNat < 4294967296) : (a + b).toNat = a.toNat + b.toNat := by
  rw [BitVec.toNat_add]; exact Nat.mod_eq_of_lt h

theorem wp_scat (st : Memref sig .scVector .vmem S64x96 .f32) (v23 : IVec S16 32) (c : BitVec 32) (rq : IVec S16 32) (x : FVec F S16 .f32)
    (hr : ∀ y, (rq y).toNat < 64) (hc : ∀ y, (v23 y).toNat < 8) (hcc : c.toNat ≤ 88) (g : Vec F S64x96 .f32) :
    (Own d i st g : sProp 𝕄) ⊢ wp frame (wpE defs 𝒱 (VT d i) bd) E (scat i st v23 c rq x) fun _ => Own d i st (scatG rq (addi v23 (broadcast S16 c)) x g) := by
  have hk : k0_chk9 rq (addi v23 (broadcast S16 c)) := by
    intro a y
    fin_cases a
    · exact hr y
    · show (v23 y + c).toNat < 96
      have := hc y
      rw [addi_toNat (by omega)]; omega
  unfold scat
  simp only [Prog.lift, Prog.bind_op, Prog.bind_ret]
  refine .trans ?_ (wp_as 𝒱 bd E d i hk)
  have e : scatG rq (addi v23 (broadcast S16 c)) x g = storeIdx g ![rq, addi v23 (broadcast S16 c)] x (fun _ => 1#1) true hk := by
    unfold scatG; exact dif_pos hk
  rw [e]
  unfold Own
  iintro H
  iapply (wp_stx (defs := defs) 𝒱 bd E (VT d i) st) $$ H
  iintro H
  iexact H

theorem sel_of {α : Type} {P : α → Prop} (c : IVec S16 1) (a b : S16.Idx → α) (y : S16.Idx) (ha : P (a y)) (hb : P (b y)) : P (select c a b y) := by
  show P (Scalar.select (c y) (a y) (b y))
  unfold Scalar.select
  split <;> assumption

theorem wp_pair (st : Memref sig .scVector .vmem S64x96 .f32) (tb : Memref sig .scVector .vmem S101376 .i32) (v21 : IVec S16 1) (v23 : IVec S16 32)
    (w0 w1 : FVec F S16 .f32) (r0 r1 p0 p1 : IVec S16 32)
    (hr0 : ∀ y, (r0 y).toNat < 64) (hr1 : ∀ y, (r1 y).toNat < 64) (hp0 : ∀ y, (p0 y).toNat + 24 ≤ 101376) (hp1 : ∀ y, (p1 y).toNat + 24 ≤ 101376)
    (hc : ∀ y, (v23 y).toNat < 8) (g : Vec F S64x96 .f32) :
    iprop(Own d i st g ∗ OwnT d i T tb : sProp 𝕄) ⊢ wp frame (wpE defs 𝒱 (VT d i) bd) E (pair i st tb v21 v23 w0 w1 r0 r1 p0 p1)
      fun _ => iprop(Own d i st (pairG T v21 v23 w0 w1 r0 r1 p0 p1 g) ∗ OwnT d i T tb) := by
  have hr : ∀ y, (select v21 r0 r1 y).toNat < 64 := by
    intro y; exact sel_of (P := fun v : BitVec 32 => v.toNat < 64) _ _ _ y (hr0 y) (hr1 y)
  have hk : k0_chk8 (addi (select v21 p0 p1) (addi v23 (broadcast S16 16#32))) := by
    intro a y
    fin_cases a
    have h1 := sel_of (P := fun v : BitVec 32 => v.toNat + 24 ≤ 101376) v21 _ _ y (hp0 y) (hp1 y)
    have := hc y
    show (select v21 p0 p1 y + (v23 y + 16#32)).toNat < 101376
    have e16 : (16#32 : BitVec 32).toNat = 16 := rfl
    have e1 : (v23 y + 16#32).toNat = (v23 y).toNat + 16 := by rw [addi_toNat (by omega)]; rfl
    rw [addi_toNat (by omega)]; omega
  unfold pair
  simp only [Prog.lift, Prog.bind_op, Prog.bind_ret]
  refine .trans ?_ (wp_as 𝒱 bd E d i hk)
  have e : loadIdx T ![addi (select v21 p0 p1) (addi v23 (broadcast S16 16#32))] (k0_idx1_inb _ hk) = gath T (addi (select v21 p0 p1) (addi v23 (broadcast S16 16#32))) := by
    funext x
    have := hk 0 x
    refine Eq.trans ?_ (dif_pos (show (addi (select v21 p0 p1) (addi v23 (broadcast S16 16#32)) x).toNat < 101376 from this)).symm
    refine congrArg T (funext fun a => Fin.ext ?_)
    fin_cases a
    rfl
  have k := fun (c : BitVec 32) (hcc : c.toNat ≤ 88) x g => wp_scat (Ix := Ix) (Name := Name) (U := U) (Lvl := Lvl) (defs := defs) 𝒱 bd E d i st v23 c (select v21 r0 r1) x hr hc hcc g
  have kk := fun v : IVec S16 32 => wp_seq 𝒱 bd E d i (k 64#32 (by decide) (mulf (byte 0#32 v) (select v21 w0 w1)) g)
    (wp_seq 𝒱 bd E d i (k 72#32 (by decide) (mulf (byte 8#32 v) (select v21 w0 w1)) _)
    (wp_seq 𝒱 bd E d i (k 80#32 (by decide) (mulf (byte 16#32 v) (select v21 w0 w1)) _)
    (k 88#32 (by decide) (mulf (byte 24#32 v) (select v21 w0 w1)) _)))
  unfold OwnT
  iintro ⟨H, HT⟩
  iapply (wp_ldx (defs := defs) 𝒱 bd E (VT d i) tb) $$ HT
  iintro HT
  rw [e]
  iapply (wp_fr 𝒱 bd E d i (G := OwnT d i T tb) (kk _))
  isplitl [H]
  · iexact H
  · iexact HT

theorem exI_eq (j : Fin 16) (o : Fin 1 → ℕ) (ho : o = ![j.val]) (h : S16.Slices o S1) (v : IVec S16 32) : exI o h v = v (ln j) := by
  subst ho
  refine congrArg v (funext fun a => Fin.ext ?_)
  fin_cases a
  show j.val + 0 = j.val
  rfl
theorem exF_eq (j : Fin 16) (o : Fin 1 → ℕ) (ho : o = ![j.val]) (h : S16.Slices o S1) (v : Vec F S16 .f32) : exF o h v = v (ln j) := by
  subst ho
  refine congrArg v (funext fun a => Fin.ext ?_)
  fin_cases a
  show j.val + 0 = j.val
  rfl

theorem wp_two (st : Memref sig .scVector .vmem S64x96 .f32) (tb : Memref sig .scVector .vmem S101376 .i32) {v21 : IVec S16 1} {v23 : IVec S16 32}
    (a b : Fin 16) (o0 o1 : Fin 1 → ℕ) (ho0 : o0 = ![a.val]) (ho1 : o1 = ![b.val]) (h0 : S16.Slices o0 S1) (h1 : S16.Slices o1 S1) {rv pv : IVec S16 32} (ww : Vec F S16 .f32)
    (hg : InRange v21 v23 rv pv) (g : Vec F S64x96 .f32) :
    iprop(Own d i st g ∗ OwnT d i T tb : sProp 𝕄) ⊢ wp frame (wpE defs 𝒱 (VT d i) bd) E (two i st tb v21 v23 o0 o1 h0 h1 rv pv ww)
      fun _ => iprop(Own d i st (twoG T v21 v23 rv pv ww (ln a) (ln b) g) ∗ OwnT d i T tb) := by
  unfold two twoG
  rw [exI_eq a o0 ho0, exI_eq a o0 ho0, exI_eq b o1 ho1, exI_eq b o1 ho1, exF_eq a o0 ho0, exF_eq b o1 ho1]
  exact wp_seq 𝒱 bd E d i (wp_lane 𝒱 bd E d i T st tb _ _ _ (hg.row _) (hg.pix _) _)
    (wp_seq 𝒱 bd E d i (wp_lane 𝒱 bd E d i T st tb _ _ _ (hg.row _) (hg.pix _) _)
    (wp_pair 𝒱 bd E d i T st tb _ _ _ _ _ _ _ _ (fun _ => hg.row _) (fun _ => hg.row _) (fun _ => (hg.pix _).2) (fun _ => (hg.pix _).2) hg.col _))

theorem wp_lanes (st : Memref sig .scVector .vmem S64x96 .f32) (tb : Memref sig .scVector .vmem S101376 .i32) {v21 : IVec S16 1} {v23 : IVec S16 32}
    {rv pv : IVec S16 32} (ww : Vec F S16 .f32) (hg : InRange v21 v23 rv pv) (g : Vec F S64x96 .f32) :
    iprop(Own d i st g ∗ OwnT d i T tb : sProp 𝕄) ⊢ wp frame (wpE defs 𝒱 (VT d i) bd) E (lanes i st tb v21 v23 rv pv ww)
      fun _ => iprop(Own d i st (lanesG T v21 v23 rv pv ww g) ∗ OwnT d i T tb) := by
  unfold lanes lanesG
  have t := fun (a b : Fin 16) o0 o1 ho0 ho1 h0 h1 g => wp_two (Ix := Ix) (Name := Name) (U := U) (Lvl := Lvl) (defs := defs) 𝒱 bd E d i T st tb a b o0 o1 ho0 ho1 h0 h1 ww hg g
  exact wp_seq 𝒱 bd E d i (t 0 1 _ _ rfl rfl _ _ _) (wp_seq 𝒱 bd E d i (t 2 3 _ _ rfl rfl _ _ _) (wp_seq 𝒱 bd E d i (t 4 5 _ _ rfl rfl _ _ _)
    (wp_seq 𝒱 bd E d i (t 6 7 _ _ rfl rfl _ _ _) (wp_seq 𝒱 bd E d i (t 8 9 _ _ rfl rfl _ _ _) (wp_seq 𝒱 bd E d i (t 10 11 _ _ rfl rfl _ _ _)
    (wp_seq 𝒱 bd E d i (t 12 13 _ _ rfl rfl _ _ _) (t 14 15 _ _ rfl rfl _ _ _)))))))

/-- Sixteen elements of a staged list from `n`. -/
def win16 {α : Type} (X : S1024.Idx → α) (n : ℕ) (h : n + 16 ≤ 1024) : S16.Idx → α := fun x => X (fun | 0 => ⟨n + (x 0).val, by have : (x 0).val < 16 := (x 0).isLt; show _ < 1024; omega⟩)

/-- A group's effect. -/
def groupG (PK : Vec F S1024 .i32) (W : Vec F S1024 .f32) (v19 : IVec S16 32) (v21 : IVec S16 1) (v23 : IVec S16 32) (n : ℕ) (h : n + 16 ≤ 1024)
    (b lo hi k64 : BitVec 32) (g : Vec F S64x96 .f32) : Vec F S64x96 .f32 :=
  lanesG T v21 v23 (rowv (live v19 b lo hi) k64 (win16 PK n h)) (pixv (win16 PK n h)) (wv (live v19 b lo hi) (win16 W n h)) g

theorem wp_group (st : Memref sig .scVector .vmem S64x96 .f32) (tb : Memref sig .scVector .vmem S101376 .i32)
    (pkb : Memref sig .scVector .vmem S1024 .i32) (wb : Memref sig .scVector .vmem S1024 .f32) (PK : Vec F S1024 .i32) (W : Vec F S1024 .f32)
    (v19 : IVec S16 32) (v21 : IVec S16 1) (v23 : IVec S16 32) (off : Fin 1 → ℕ) (inb) (n : ℕ) (h : n + 16 ≤ 1024) (ho : off = ![n]) (b lo hi k64 : BitVec 32)
    (hg : InRange v21 v23 (rowv (live v19 b lo hi) k64 (win16 PK n h)) (pixv (win16 PK n h))) (g : Vec F S64x96 .f32) :
    iprop(Own d i st g ∗ OwnT d i T tb ∗ owns (VT d i) pkb fullShare PK ∗ owns (VT d i) wb fullShare W : sProp 𝕄)
      ⊢ wp frame (wpE defs 𝒱 (VT d i) bd) E (group i st tb pkb wb v19 v21 v23 off inb b lo hi k64)
      fun _ => iprop(Own d i st (groupG T PK W v19 v21 v23 n h b lo hi k64 g) ∗ OwnT d i T tb ∗ owns (VT d i) pkb fullShare PK ∗ owns (VT d i) wb fullShare W) := by
  subst ho
  unfold group
  simp only [Prog.lift, Prog.bind_op, Prog.bind_ret]
  iintro ⟨H, HT, HP, HW⟩
  iapply (wp_ld (defs := defs) 𝒱 bd E d i pkb) $$ HP
  iintro HP
  iapply (wp_ld (defs := defs) 𝒱 bd E d i wb) $$ HW
  iintro HW
  have e1 : VecWindow.window PK ![n] S16.size inb = win16 PK n h := by
    funext x
    refine congrArg PK (funext fun a => Fin.ext ?_)
    fin_cases a
    show n + 1 * (x 0).val = n + (x 0).val
    omega
  have e2 : VecWindow.window W ![n] S16.size inb = win16 W n h := by
    funext x
    refine congrArg W (funext fun a => Fin.ext ?_)
    fin_cases a
    show n + 1 * (x 0).val = n + (x 0).val
    omega
  rw [e1, e2]
  have := wp_fr 𝒱 bd E d i (G := iprop(owns (VT d i) pkb fullShare PK ∗ owns (VT d i) wb fullShare W)) (wp_lanes (Ix := Ix) (Name := Name) (U := U) (Lvl := Lvl) (defs := defs) 𝒱 bd E d i T st tb
    (wv (live v19 b lo hi) (win16 W n h)) hg g)
  have reassoc : ∀ A : sProp 𝕄, iprop((A ∗ OwnT d i T tb) ∗ owns (VT d i) pkb fullShare PK ∗ owns (VT d i) wb fullShare W)
      ⊢ iprop(A ∗ OwnT d i T tb ∗ owns (VT d i) pkb fullShare PK ∗ owns (VT d i) wb fullShare W) := by
    intro A
    iintro ⟨⟨H, HT⟩, HP, HW⟩
    isplitl [H]
    · iexact H
    isplitl [HT]
    · iexact HT
    isplitl [HP]
    · iexact HP
    · iexact HW
  iapply (this.trans (wp_mono _ _ _ fun _ => reassoc _))
  isplitl [H HT]
  · isplitl [H]
    · iexact H
    · iexact HT
  · isplitl [HP]
    · iexact HP
    · iexact HW

end Cert.Kernel.Pool
-- ==== Proof.Words.lean ====
module

public import proofs.«01_k».proof.Proof.Gen.Kernel.Skeleton
public import Idealize.ShloMosaic.Lib.Affine
public import Idealize.ShloMosaic.Lib.LoopRemainder
public import Idealize.ShloMosaic.Lib.WordArith

@[expose] public section

set_option maxRecDepth 8000

noncomputable section

namespace Cert.Kernel.Pool

open Idealize.ShloMosaic Idealize.SL.Sem
open Idealize.ShloMosaic.Affine
open Cert.Kernel Cert.Kernel.Gen

/-! # The integer chains of the pool, read as integers -/

/-- The chunk of a position: its floor quotient by 1024, as the kernel computes it. -/
def fl (x : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt 1024#32 0#32)) (Scalar.extui (Scalar.cmpi .slt 1024#32 0#32))))
      (Scalar.cmpi .ne (Scalar.remsi x 1024#32) 0#32))
    (Scalar.subi (Scalar.divsi x 1024#32) 1#32) (Scalar.divsi x 1024#32)

/-- Where a piece ends: the window's end or the chunk's. -/
def hiW (q1 q : BitVec 32) : BitVec 32 := Scalar.minsi q1 (Scalar.muli (Scalar.addi (fl q) 1#32) 1024#32)
/-- Where a piece's first group starts in its chunk. -/
def bsW (q : BitVec 32) : BitVec 32 := Scalar.andi (Scalar.subi q (Scalar.muli (fl q) 1024#32)) 4294967280#32
/-- How many groups a piece has. -/
def cntW (q1 q : BitVec 32) : BitVec 32 :=
  Scalar.divsi (Scalar.addi (Scalar.subi (Scalar.subi (hiW q1 q) (Scalar.muli (fl q) 1024#32)) (bsW q)) (Scalar.subi 16#32 1#32)) 16#32
/-- How many pieces a window has. -/
def pcsW (q q1 : BitVec 32) : BitVec 32 :=
  Scalar.select (Scalar.cmpi .slt q q1) (Scalar.addi (Scalar.subi (fl (Scalar.subi q1 1#32)) (fl q)) 1#32) 0#32

def mainLoop (n : BitVec 32) : Scf.Loop 32 := ⟨0#32, Scalar.addi 0#32 (Scalar.muli (Scalar.divsi (Scalar.subi n 0#32) 1#32) 1#32), 1#32⟩
def restLoop (n : BitVec 32) : Scf.Loop 32 := ⟨Scalar.addi 0#32 (Scalar.muli (Scalar.divsi (Scalar.subi n 0#32) 1#32) 1#32), Scalar.addi 0#32 (Scalar.subi n 0#32), 1#32⟩

theorem t3_loop_eq (q q1 : BitVec 32) : k0_t3_loop q q1 = mainLoop (pcsW q q1) := rfl
theorem t6_loop_eq (q q1 : BitVec 32) : k0_t6_loop q q1 = restLoop (pcsW q q1) := rfl
theorem t10_loop_eq (q q1 : BitVec 32) : k0_t10_loop q q1 = mainLoop (pcsW q q1) := rfl
theorem t13_loop_eq (q q1 : BitVec 32) : k0_t13_loop q q1 = restLoop (pcsW q q1) := rfl
theorem t4_loop_eq (q1 q : BitVec 32) : k0_t4_loop q1 q = mainLoop (cntW q1 q) := rfl
theorem t5_loop_eq (q1 q : BitVec 32) : k0_t5_loop q1 q = restLoop (cntW q1 q) := rfl
theorem t11_loop_eq (q1 q : BitVec 32) : k0_t11_loop q1 q = mainLoop (cntW q1 q) := rfl
theorem t12_loop_eq (q1 q : BitVec 32) : k0_t12_loop q1 q = restLoop (cntW q1 q) := rfl

theorem lit (n : ℕ) (h : n < 2 ^ 31 := by decide) : IsInt (BitVec.ofNat 32 n) (n : ℤ) := Affine.ofNat n ⟨rfl, h⟩

theorem fl_isInt {x : BitVec 32} {e : ℤ} (hx : IsInt x e) (h : 0 ≤ e) (h2 : e < 2 ^ 31) : IsInt (fl x) (e / 1024) := by
  unfold fl
  have h0 := lit 0
  have h1024 := lit 1024
  have hq : IsInt (Scalar.divsi x 1024#32) (e / 1024) := Affine.divsi hx h1024 ⟨rfl, h, by decide⟩
  have h1 := lit 1
  have hq1 : IsInt (Scalar.subi (Scalar.divsi x 1024#32) 1#32) (e / 1024 - 1) := Affine.subi hq h1 ⟨rfl, by omega, by omega⟩
  refine Affine.select_fails ?_ hq1 hq rfl
  have hs : IsInt (Scalar.subi (Scalar.extui (Scalar.cmpi .sgt 1024#32 0#32)) (Scalar.extui (Scalar.cmpi .slt 1024#32 0#32))) 1 :=
    Affine.subi (Affine.extui_holds (Affine.sgt_holds h1024 h0 (by decide)) rfl) (Affine.extui_fails (Affine.slt_fails h1024 h0 (by decide)) rfl) (by decide)
  by_cases hp : 0 < e
  · have hs' : IsInt (Scalar.subi (Scalar.extui (Scalar.cmpi .sgt x 0#32)) (Scalar.extui (Scalar.cmpi .slt x 0#32))) 1 :=
      Affine.subi (Affine.extui_holds (Affine.sgt_holds hx h0 (by simpa using hp)) rfl) (Affine.extui_fails (Affine.slt_fails hx h0 (by push_cast; omega)) rfl) (by decide)
    exact Affine.andi_fails_left (Affine.ne_fails hs' hs rfl) trivial
  · have he : e = 0 := by omega
    subst he
    have hr : IsInt (Scalar.remsi x 1024#32) 0 := Affine.remsi hx h1024 ⟨rfl, h, by decide⟩
    exact Affine.andi_fails_right trivial (Affine.ne_fails hr h0 rfl)

theorem mask_isInt {x : BitVec 32} {e : ℤ} (hx : IsInt x e) (h : 0 ≤ e) : IsInt (Scalar.andi x 4294967280#32) (e / 16 * 16) := by
  have h1 : (x.toNat : ℤ) = e := Affine.toNat_of hx h
  have h2 : (Scalar.andi x 4294967280#32).toNat = x.toNat / 16 * 16 := WordArith.toNat_andi_mask16 x
  have h3 := Affine.word_range x
  unfold IsInt at hx ⊢
  rw [BitVec.toInt_eq_toNat_of_lt (by omega), h2]
  push_cast
  omega

section Piece
variable {q1 q : BitVec 32} {e1 e : ℤ} (h1 : IsInt q1 e1) (h : IsInt q e) (h0 : 0 ≤ e) (hlt : e < e1) (hb : e1 < 2 ^ 24)
include h1 h h0 hlt hb

theorem fl_q : IsInt (fl q) (e / 1024) := fl_isInt h h0 (by omega)
theorem flm_q : IsInt (Scalar.muli (fl q) 1024#32) (e / 1024 * 1024) :=
  Affine.muli (fl_q h1 h h0 hlt hb) (lit 1024) ⟨rfl, by omega, by omega⟩
theorem hi_isInt : IsInt (hiW q1 q) (min e1 ((e / 1024 + 1) * 1024)) := by
  have a : IsInt (Scalar.addi (fl q) 1#32) (e / 1024 + 1) := Affine.addi (fl_q h1 h h0 hlt hb) (lit 1) ⟨rfl, by omega, by omega⟩
  exact Affine.minsi h1 (Affine.muli a (lit 1024) ⟨rfl, by omega, by omega⟩) rfl
theorem bs_isInt : IsInt (bsW q) (e % 1024 / 16 * 16) := by
  have a : IsInt (Scalar.subi q (Scalar.muli (fl q) 1024#32)) (e % 1024) := Affine.subi h (flm_q h1 h h0 hlt hb) ⟨by omega, by omega, by omega⟩
  exact mask_isInt a (by omega)
theorem cnt_isInt : IsInt (cntW q1 q) ((min e1 ((e / 1024 + 1) * 1024) - e / 16 * 16 + 15) / 16) := by
  have a := Affine.subi (hi_isInt h1 h h0 hlt hb) (flm_q h1 h h0 hlt hb) ⟨rfl, by omega, by omega⟩
  have b := Affine.subi a (bs_isInt h1 h h0 hlt hb) ⟨rfl, by omega, by omega⟩
  have c := Affine.addi b (Affine.subi (lit 16) (lit 1) (e := 15) (by decide)) ⟨rfl, by omega, by omega⟩
  exact Affine.divsi c (lit 16) ⟨by push_cast; omega, by omega, by decide⟩
theorem pcs_isInt : IsInt (pcsW q q1) ((e1 - 1) / 1024 - e / 1024 + 1) := by
  have a : IsInt (Scalar.subi q1 1#32) (e1 - 1) := Affine.subi h1 (lit 1) ⟨rfl, by omega, by omega⟩
  have b := fl_isInt a (by omega) (by omega)
  have c := Affine.subi b (fl_q h1 h h0 hlt hb) ⟨rfl, by omega, by omega⟩
  have d := Affine.addi c (lit 1) ⟨rfl, by push_cast; omega, by push_cast; omega⟩
  exact Affine.select_holds (Affine.slt_holds h h1 hlt) d (lit 0) rfl

end Piece

theorem pcs_zero {q1 q : BitVec 32} {e1 e : ℤ} (h1 : IsInt q1 e1) (h : IsInt q e) (hle : e1 ≤ e) : pcsW q q1 = 0#32 := by
  have : ¬ Scalar.cmpi .slt q q1 = 1#1 := Affine.slt_fails h h1 (by omega)
  unfold pcsW Scalar.select
  exact if_neg this

theorem mainLoop_ub (n : BitVec 32) : (mainLoop n).ub = n := by
  show Scalar.addi 0#32 (Scalar.muli (Scalar.divsi (Scalar.subi n 0#32) 1#32) 1#32) = n
  rw [Scalar.muli_divsi_one]
  show 0#32 + (n - 0#32) = n
  simp

theorem mainLoop_trips {n : BitVec 32} {e : ℕ} (h : IsInt n (e : ℤ)) : (mainLoop n).trips = e := by
  show Scf.trips (mainLoop n).lb (mainLoop n).ub (mainLoop n).st = e
  rw [mainLoop_ub]
  exact Affine.trips_eq (lit 0) h (lit 1) e ⟨by decide, by push_cast; omega⟩
theorem mainLoop_ok {n : BitVec 32} {e : ℕ} (h : IsInt n (e : ℤ)) (hb : e < 2 ^ 30) : (mainLoop n).OK := by
  show Scf.OK (mainLoop n).lb (mainLoop n).ub (mainLoop n).st
  rw [mainLoop_ub]
  exact Affine.ok (lit 0) h (lit 1) ⟨by decide, by push_cast; omega⟩
theorem restLoop_ok (n : BitVec 32) : (restLoop n).OK := Scf.rem_ok 0#32 (Scalar.subi n 0#32)
theorem restLoop_trips (n : BitVec 32) : (restLoop n).trips = 0 := Scf.rem_trips 0#32 (Scalar.subi n 0#32)
universe w in
theorem for_rest {E : Type → Type w} {σ : Type} (L : Scf.Loop 32) (n : BitVec 32) (hL : L = restLoop n) (hok : L.OK) (init : σ)
    (body : Fin L.trips → σ → Prog E σ) : Scf.Loop.for L hok init body = .ret init := by
  subst hL; exact Scf.for_rem_eq 0#32 (Scalar.subi n 0#32) hok init body

end Cert.Kernel.Pool
-- ==== Proof.Spec.lean ====
module

public import proofs.«01_k».proof.Proof.Inner
public import proofs.«01_k».proof.Proof.Words

@[expose] public section

set_option maxRecDepth 8000

noncomputable section

namespace Cert.Kernel.Pool

open Idealize.ShloMosaic Idealize.SL.Sem
open Idealize.ShloMosaic.Affine
open Cert.Kernel Cert.Kernel.Gen

/-! # The pool's loops as functions of list positions -/

/-- Element `n` of a list, its first past the end. -/
def atN {α : Type} (X : S2527488.Idx → α) (n : ℕ) : α :=
  if h : n < 2527488 then X (fun | 0 => ⟨n, h⟩) else X (fun | 0 => ⟨0, by decide⟩)
/-- Chunk `c` of the list from `ob`. -/
def chunk {α : Type} (X : S2527488.Idx → α) (ob c : ℕ) : S1024.Idx → α := fun x => atN X (ob + (1024 * c + (x 0).val))
/-- Sixteen elements from `n`. -/
def vec16 {α : Type} (X : S2527488.Idx → α) (n : ℕ) : S16.Idx → α := fun x => atN X (n + (x 0).val)

/-- `f 0`, then `f 1`, up to `f (n - 1)`. -/
def foldN {β : Type} (f : ℕ → β → β) : ℕ → β → β
  | 0, b => b
  | n + 1, b => f n (foldN f n b)

def hiN (q1 q : ℕ) : ℕ := min q1 ((q / 1024 + 1) * 1024)
def cntN (q1 q : ℕ) : ℕ := (hiN q1 q - q / 16 * 16 + 15) / 16

variable {F : FTy → Type} [FloatOps F]

section
variable (T : Vec F S101376 .i32) (P : Vec F S2527488 .i32) (W : Vec F S2527488 .f32)
  (v19 : IVec S16 32) (v21 : IVec S16 1) (v23 : IVec S16 32)

/-- The group at positions `b .. b + 15` of the list at `ob`, of which `[lo, hi)` belongs to window `k`. -/
def grpN (ob b lo hi k : ℕ) (g : Vec F S64x96 .f32) : Vec F S64x96 .f32 :=
  lanesG T v21 v23 (rowv (live v19 (BitVec.ofNat 32 b) (BitVec.ofNat 32 lo) (BitVec.ofNat 32 hi)) (BitVec.ofNat 32 (64 * k)) (vec16 P (ob + b)))
    (pixv (vec16 P (ob + b))) (wv (live v19 (BitVec.ofNat 32 b) (BitVec.ofNat 32 lo) (BitVec.ofNat 32 hi)) (vec16 W (ob + b))) g

/-- The piece at `q` of a window ending at `q1`. -/
def pieceG (ob q1 q k : ℕ) (g : Vec F S64x96 .f32) : Vec F S64x96 .f32 :=
  foldN (fun t g => grpN T P W v19 v21 v23 ob (q / 16 * 16 + 16 * t) q (hiN q1 q) k g) (cntN q1 q) g
end

/-- Every word of the list's groups of sixteen names a pixel of the table. -/
abbrev PixOK (P : Vec F S2527488 .i32) (ob e : ℕ) : Prop := ∀ n, n < (e + 15) / 16 * 16 → (atN P (ob + n)).toNat / 65536 < 4224

/-- What a tile's list must satisfy: aligned, inside the lists, every pixel in the table. -/
structure TileOK (P : Vec F S2527488 .i32) (ob e : ℕ) : Prop where
  al : 8 ∣ ob
  inb : ∀ c, 1024 * c < e → ob + (1024 * c + 1024) ≤ 2527488
  lt : e < 2 ^ 24
  pix : PixOK P ob e

/-- The entries from `q0` to `q1` lie in window `k`. -/
def InWin (P : Vec F S2527488 .i32) (ob q0 q1 k : ℕ) : Prop := ∀ x, q0 ≤ x → x < q1 → (atN P (ob + x)).toNat % 65536 / 64 = k

theorem live_iff {v19 : IVec S16 32} (h19 : ∀ x, v19 x = BitVec.ofNat 32 (x 0).val) {b lo hi : ℕ} (hb : b < 2 ^ 25) (hlo : lo < 2 ^ 25) (hhi : hi < 2 ^ 25) (x : S16.Idx) :
    live v19 (BitVec.ofNat 32 b) (BitVec.ofNat 32 lo) (BitVec.ofNat 32 hi) x = 1#1 ↔ lo ≤ b + (x 0).val ∧ b + (x 0).val < hi := by
  have hx : (x 0).val < 16 := (x 0).isLt
  have a : IsInt (Scalar.addi (BitVec.ofNat 32 b) (v19 x)) ((b + (x 0).val : ℕ) : ℤ) := by
    rw [h19]
    exact Affine.addi (lit b (by omega)) (lit (x 0).val (by omega)) ⟨by push_cast; rfl, by omega, by omega⟩
  have e : live v19 (BitVec.ofNat 32 b) (BitVec.ofNat 32 lo) (BitVec.ofNat 32 hi) x
      = Scalar.andi (Scalar.cmpi .sge (Scalar.addi (BitVec.ofNat 32 b) (v19 x)) (BitVec.ofNat 32 lo)) (Scalar.cmpi .slt (Scalar.addi (BitVec.ofNat 32 b) (v19 x)) (BitVec.ofNat 32 hi)) := rfl
  rw [e]
  have il := lit lo (by omega)
  have ih := lit hi (by omega)
  by_cases h1 : lo ≤ b + (x 0).val
  · by_cases h2 : b + (x 0).val < hi
    · exact ⟨fun _ => ⟨h1, h2⟩, fun _ => Affine.andi_holds (Affine.sge_holds a il (by omega)) (Affine.slt_holds a ih (by omega))⟩
    · exact ⟨fun h => absurd h (Affine.andi_fails_right trivial (Affine.slt_fails a ih (by omega))), fun h => absurd h.2 h2⟩
  · exact ⟨fun h => absurd h (Affine.andi_fails_left (Affine.sge_fails a il (by omega)) trivial), fun h => absurd h.1 h1⟩

theorem low_toNat (p : BitVec 32) : (p &&& 65535#32).toNat = p.toNat % 65536 := by
  rw [BitVec.toNat_and]
  exact Nat.and_two_pow_sub_one_eq_mod p.toNat 16

/-- The row of a live entry of window `k`; zero where not live. -/
theorem rowv_toNat {lv : IVec S16 1} {k : ℕ} (hk : k < 1024) (pk : IVec S16 32) (x : S16.Idx) :
    (lv x ≠ 1#1 → (rowv lv (BitVec.ofNat 32 (64 * k)) pk x).toNat = 0) ∧
    (lv x = 1#1 → (pk x).toNat % 65536 / 64 = k → (rowv lv (BitVec.ofNat 32 (64 * k)) pk x).toNat = (pk x).toNat % 65536 - 64 * k) := by
  have e : rowv lv (BitVec.ofNat 32 (64 * k)) pk x = if lv x = 1#1 then (pk x &&& 65535#32) - BitVec.ofNat 32 (64 * k) else 0#32 := rfl
  rw [e]
  constructor
  · intro h; rw [if_neg h]; rfl
  · intro h hw
    rw [if_pos h, BitVec.toNat_sub, low_toNat, BitVec.toNat_ofNat]
    omega

theorem pixv_toNat {pk : IVec S16 32} {x : S16.Idx} (h : (pk x).toNat / 65536 < 4224) : (pixv pk x).toNat = (pk x).toNat / 65536 * 24 := by
  have e : pixv pk x = (if h : (16#32 : BitVec 32).toNat < 32 then (pk x >>> 16) else 0#32) * 24#32 := by
    show Scalar.muli (Scalar.shrui (pk x) 16#32) 24#32 = _
    rfl
  rw [e, dif_pos (by decide), BitVec.toNat_mul, BitVec.toNat_ushiftRight, Nat.shiftRight_eq_div_pow]
  show (pk x).toNat / 65536 * 24 % 4294967296 = _
  omega

theorem inRange {P : Vec F S2527488 .i32} {v19 : IVec S16 32} (h19 : ∀ x, v19 x = BitVec.ofNat 32 (x 0).val) {v21 : IVec S16 1} {v23 : IVec S16 32} (h23 : ∀ x, (v23 x).toNat < 8)
    {ob b lo hi k : ℕ} (hp : ∀ j, j < 16 → (atN P (ob + b + j)).toNat / 65536 < 4224) (hb : b < 2 ^ 25) (hlo : lo < 2 ^ 25) (hhi : hi < 2 ^ 25) (hk : k < 1024) (hw : InWin P ob lo hi k) :
    InRange v21 v23 (rowv (live v19 (BitVec.ofNat 32 b) (BitVec.ofNat 32 lo) (BitVec.ofNat 32 hi)) (BitVec.ofNat 32 (64 * k)) (vec16 P (ob + b))) (pixv (vec16 P (ob + b))) where
  row x := by
    by_cases h : live v19 (BitVec.ofNat 32 b) (BitVec.ofNat 32 lo) (BitVec.ofNat 32 hi) x = 1#1
    · have h2 := (live_iff h19 hb hlo hhi x).1 h
      have h3 := hw _ h2.1 h2.2
      have h4 : (vec16 P (ob + b) x).toNat % 65536 / 64 = k := by unfold vec16; rw [Nat.add_assoc]; exact h3
      rw [(rowv_toNat hk _ x).2 h h4]
      omega
    · rw [(rowv_toNat hk _ x).1 h]; omega
  pix x := by
    have h := hp (x 0).val (x 0).isLt
    have h2 : (pixv (vec16 P (ob + b)) x).toNat = (vec16 P (ob + b) x).toNat / 65536 * 24 := pixv_toNat h
    have h3 : (vec16 P (ob + b) x).toNat / 65536 < 4224 := h
    rw [h2]
    exact ⟨⟨(vec16 P (ob + b) x).toNat / 65536 * 3, by omega⟩, by omega⟩
  col x := h23 x

/-- Sixteen elements of a chunk are sixteen of the list. -/
theorem win16_chunk {α : Type} (X : S2527488.Idx → α) (ob c n : ℕ) (h : n + 16 ≤ 1024) : win16 (chunk X ob c) n h = vec16 X (ob + (1024 * c + n)) := by
  funext x
  unfold win16 chunk vec16
  exact congrArg (atN X) (by show ob + (1024 * c + (n + (x 0).val)) = _; omega)

end Cert.Kernel.Pool
-- ==== Proof.Lane.lean ====
module

public import proofs.«01_k».proof.Proof.Spec
public import Idealize.ShloMosaic.PureOps.Ideal

@[expose] public section

set_option maxRecDepth 8000

noncomputable section

namespace Cert.Kernel.Pool

open Idealize.ShloMosaic Idealize.SL.Sem
open Cert.Kernel Cert.Kernel.Gen

/-! # Over the reals: what sixteen lanes add to the accumulator -/

/-- The value of byte `sh / 8` of a word. -/
def fv (w sh : BitVec 32) : EReal := byte (F := Ideal) sh (fun _ => w) (ln 0)

theorem byte_apply (sh : BitVec 32) (v : IVec S16 32) (x : S16.Idx) : byte (F := Ideal) sh v x = fv (v x) sh := rfl

/-- The word of a pixel that holds channel `c`, and the place of its byte. -/
def chWord (c : ℕ) : ℕ := if c < 64 then c % 16 else 16 + c % 8
def chSh (c : ℕ) : BitVec 32 := BitVec.ofNat 32 (8 * (if c < 64 then c / 16 else (c - 64) / 8))

/-- Channel `c` of the pixel whose words begin at word `p`. -/
def code (T : Vec Ideal S101376 .i32) (p c : ℕ) : EReal := fv (tabAt (F := Ideal) T (p + chWord c)) (chSh c)

theorem rowAdd_apply (g : Vec Ideal S64x96 .f32) (r c : ℕ) (x : FVec Ideal S16 .f32) (y : S64x96.Idx) :
    (rowAdd (F := Ideal) g r c x y : EReal) = g y + (if h : (y 0).val = r ∧ c ≤ (y 1).val ∧ (y 1).val < c + 16 then x (ln ⟨(y 1).val - c, by omega⟩) else (0 : EReal)) := by
  unfold rowAdd
  split
  · rfl
  · exact (add_zero _).symm

theorem laneG_apply (T : Vec Ideal S101376 .i32) (w : EReal) (r p : ℕ) (g : Vec Ideal S64x96 .f32) (y : S64x96.Idx) :
    (laneG (F := Ideal) T (broadcast S16 w) r p g y : EReal) = g y + (if (y 0).val = r ∧ (y 1).val < 64 then code T p (y 1).val * w else 0) := by
  unfold laneG
  rw [rowAdd_apply, rowAdd_apply, rowAdd_apply, rowAdd_apply]
  have key : ∀ (n : ℕ) (sh : BitVec 32) (hn : 16 * n ≤ (y 1).val ∧ (y 1).val < 16 * n + 16) (h4 : n < 4) (hsh : sh = BitVec.ofNat 32 (8 * n)),
      (mulf (F := Ideal) (byte (F := Ideal) sh (words (F := Ideal) T p)) (broadcast S16 w) (ln ⟨(y 1).val - 16 * n, by omega⟩) : EReal) = code T p (y 1).val * w := by
    intro n sh hn h4 hsh
    show fv (tabAt (F := Ideal) T (p + ((y 1).val - 16 * n))) sh * w = code T p (y 1).val * w
    unfold code chWord chSh
    rw [if_pos (by omega), if_pos (by omega), hsh, show (y 1).val / 16 = n by omega, show (y 1).val % 16 = (y 1).val - 16 * n by omega]
  by_cases hr : (y 0).val = r
  · by_cases h : (y 1).val < 64
    · rw [if_pos ⟨hr, h⟩]
      rcases (show (y 1).val < 16 ∨ (16 ≤ (y 1).val ∧ (y 1).val < 32) ∨ (32 ≤ (y 1).val ∧ (y 1).val < 48) ∨ (48 ≤ (y 1).val ∧ (y 1).val < 64) by omega) with h1 | h1 | h1 | h1
      · rw [dif_pos ⟨hr, by omega, by omega⟩, dif_neg (by omega), dif_neg (by omega), dif_neg (by omega), add_zero, add_zero, add_zero]
        exact congrArg (g y + ·) (key 0 0#32 (by omega) (by omega) rfl)
      · rw [dif_neg (by omega), dif_pos ⟨hr, by omega, by omega⟩, dif_neg (by omega), dif_neg (by omega), add_zero, add_zero, add_zero]
        exact congrArg (g y + ·) (key 1 8#32 (by omega) (by omega) rfl)
      · rw [dif_neg (by omega), dif_neg (by omega), dif_pos ⟨hr, by omega, by omega⟩, dif_neg (by omega), add_zero, add_zero, add_zero]
        exact congrArg (g y + ·) (key 2 16#32 (by omega) (by omega) rfl)
      · rw [dif_neg (by omega), dif_neg (by omega), dif_neg (by omega), dif_pos ⟨hr, by omega, by omega⟩, add_zero, add_zero, add_zero]
        exact congrArg (g y + ·) (key 3 24#32 (by omega) (by omega) rfl)
    · rw [if_neg (by omega), dif_neg (by omega), dif_neg (by omega), dif_neg (by omega), dif_neg (by omega)]
      simp only [add_zero]
  · rw [if_neg (by omega), dif_neg (by omega), dif_neg (by omega), dif_neg (by omega), dif_neg (by omega)]
    simp only [add_zero]

theorem foldl_sum {ι β : Type} (step : (β → EReal) → ι → β → EReal) (f : ι → EReal) (y : β) (hs : ∀ g k, step g k y = g y + f k) (l : List ι) (g : β → EReal) :
    List.foldl step g l y = g y + (l.map f).sum := by
  induction l generalizing g with
  | nil => exact (add_zero (g y)).symm
  | cons k l ih =>
    rw [List.map_cons, List.sum_cons, ← add_assoc]
    exact (ih _).trans (congrArg (· + (l.map f).sum) (hs g k))

/-- A scatter-add, read at one element: the lanes that name it. -/
theorem storeIdx_apply {idxs : Fin S64x96.rank → IVec S16 32} (h : ∀ a x, (idxs a x).toNat < S64x96.size a) (v : Vec Ideal S16 .f32) (g : Vec Ideal S64x96 .f32) (y : S64x96.Idx) :
    (storeIdx (F := Ideal) (e := .f32) g idxs v (fun _ => 1#1) true h y : EReal)
      = g y + ∑ k : Fin 16, (if (y 0).val = (idxs 0 (ln k)).toNat ∧ (y 1).val = (idxs 1 (ln k)).toNat then (v (ln k) : EReal) else 0) := by
  unfold storeIdx
  rw [Fin.sum_univ_def]
  refine foldl_sum _ _ y (fun g k => ?_) (List.finRange 16) g
  have e : Shape.ofLane (d := ![16]) k = ln k := by
    funext a
    match a with
    | 0 => rfl
  refine (congrFun (if_pos rfl) y).trans ?_
  by_cases hh : (y 0).val = (idxs 0 (ln k)).toNat ∧ (y 1).val = (idxs 1 (ln k)).toNat
  · rw [if_pos hh]
    have hy : y = idxAt idxs h (ln k) := by
      funext a
      match a with
      | 0 => exact Fin.ext hh.1
      | 1 => exact Fin.ext hh.2
    rw [e]
    refine (if_pos (fun a => congrArg (fun z : S64x96.Idx => (z a).val) hy)).trans ?_
    show (g (idxAt idxs h (ln k)) + v (ln k) : EReal) = _
    rw [← hy]
  · rw [if_neg hh, add_zero, e]
    exact if_neg (fun q => hh ⟨q 0, q 1⟩)

section Pair
variable {v21 : IVec S16 1} {v23 : IVec S16 32} (h21 : ∀ k : Fin 16, v21 (ln k) = if k.val < 8 then 1#1 else 0#1) (h23 : ∀ k : Fin 16, v23 (ln k) = BitVec.ofNat 32 (k.val % 8))
include h21 h23

theorem sel_apply {α : Type} (a b : S16.Idx → α) (k : Fin 16) : select v21 a b (ln k) = if k.val < 8 then a (ln k) else b (ln k) := by
  show (if v21 (ln k) = 1#1 then a (ln k) else b (ln k)) = _
  rw [h21]
  by_cases h : k.val < 8
  · rw [if_pos h, if_pos h]; rfl
  · rw [if_neg h, if_neg h]; rfl

omit h21 h23 in
theorem eq_ln (x : S16.Idx) : ∃ k : Fin 16, x = ln k :=
  ⟨x 0, funext fun a => match a with | 0 => rfl⟩

/-- One of a pair's four scatter-adds: the two lanes' products at the channels it covers. -/
theorem scat_pair (T : Vec Ideal S101376 .i32) (w0 w1 : EReal) (r0 r1 p0 p1 : BitVec 32) (hr0 : r0.toNat < 64) (hr1 : r1.toNat < 64) (hp0 : p0.toNat + 24 ≤ 101376) (hp1 : p1.toNat + 24 ≤ 101376)
    (n : ℕ) (hn : n < 4) (c sh : BitVec 32) (hc : c = BitVec.ofNat 32 (64 + 8 * n)) (hsh : sh = BitVec.ofNat 32 (8 * n)) (g : Vec Ideal S64x96 .f32) (y : S64x96.Idx) :
    (scatG (F := Ideal) (select v21 (broadcast S16 r0) (broadcast S16 r1)) (addi v23 (broadcast S16 c))
      (mulf (F := Ideal) (φ := .f32) (byte (F := Ideal) sh (gath (F := Ideal) T (addi (select v21 (broadcast S16 p0) (broadcast S16 p1)) (addi v23 (broadcast S16 16#32)))))
        (select v21 (broadcast S16 w0) (broadcast S16 w1))) g y : EReal)
      = g y + (if 64 + 8 * n ≤ (y 1).val ∧ (y 1).val < 64 + 8 * n + 8 then
          (if (y 0).val = r0.toNat then code T p0.toNat (y 1).val * w0 else 0) + (if (y 0).val = r1.toNat then code T p1.toNat (y 1).val * w1 else 0) else 0) := by
  have hr : ∀ k : Fin 16, select v21 (broadcast S16 r0) (broadcast S16 r1) (ln k) = if k.val < 8 then r0 else r1 := fun k => sel_apply h21 h23 _ _ k
  have hcol : ∀ k : Fin 16, (addi v23 (broadcast S16 c) (ln k)).toNat = 64 + 8 * n + k.val % 8 := by
    intro k
    show (v23 (ln k) + c).toNat = _
    rw [h23, hc, BitVec.toNat_add, BitVec.toNat_ofNat, BitVec.toNat_ofNat]; omega
  have hin : ∀ a x, ((![select v21 (broadcast S16 r0) (broadcast S16 r1), addi v23 (broadcast S16 c)] : Fin 2 → IVec S16 32) a x).toNat < S64x96.size a := by
    intro a x
    obtain ⟨k, rfl⟩ := eq_ln x
    match a with
    | 0 =>
      show (select v21 (broadcast S16 r0) (broadcast S16 r1) (ln k)).toNat < 64
      rw [hr]; split <;> assumption
    | 1 =>
      show (addi v23 (broadcast S16 c) (ln k)).toNat < 96
      rw [hcol]; omega
  unfold scatG
  rw [dif_pos hin, storeIdx_apply]
  refine congrArg (g y + ·) ?_
  have hv : ∀ k : Fin 16, (mulf (F := Ideal) (φ := .f32) (byte (F := Ideal) sh (gath (F := Ideal) T (addi (select v21 (broadcast S16 p0) (broadcast S16 p1)) (addi v23 (broadcast S16 16#32)))))
        (select v21 (broadcast S16 w0) (broadcast S16 w1)) (ln k) : EReal)
      = fv (tabAt (F := Ideal) T ((if k.val < 8 then p0 else p1).toNat + (16 + k.val % 8))) sh * (if k.val < 8 then w0 else w1) := by
    intro k
    have e1 : (addi (select v21 (broadcast S16 p0) (broadcast S16 p1)) (addi v23 (broadcast S16 16#32)) (ln k)).toNat = (if k.val < 8 then p0 else p1).toNat + (16 + k.val % 8) := by
      show (select v21 (broadcast S16 p0) (broadcast S16 p1) (ln k) + (v23 (ln k) + 16#32)).toNat = _
      rw [sel_apply h21 h23, h23]
      show ((if k.val < 8 then p0 else p1) + _).toNat = _
      have : (if k.val < 8 then p0 else p1).toNat + 24 ≤ 101376 := by split <;> assumption
      rw [BitVec.toNat_add, BitVec.toNat_add, BitVec.toNat_ofNat, BitVec.toNat_ofNat]; omega
    show (byte (F := Ideal) sh (gath (F := Ideal) T (addi (select v21 (broadcast S16 p0) (broadcast S16 p1)) (addi v23 (broadcast S16 16#32)))) (ln k)
      * select v21 (broadcast S16 w0) (broadcast S16 w1) (ln k) : EReal) = _
    rw [byte_apply]
    have e2 : gath (F := Ideal) T (addi (select v21 (broadcast S16 p0) (broadcast S16 p1)) (addi v23 (broadcast S16 16#32))) (ln k)
        = tabAt (F := Ideal) T ((if k.val < 8 then p0 else p1).toNat + (16 + k.val % 8)) := congrArg (tabAt (F := Ideal) T) e1
    rw [e2, sel_apply h21 h23]
    rfl
  have hterm : ∀ k : Fin 16, (if (y 0).val = ((![select v21 (broadcast S16 r0) (broadcast S16 r1), addi v23 (broadcast S16 c)] : Fin 2 → IVec S16 32) 0 (ln k)).toNat
        ∧ (y 1).val = ((![select v21 (broadcast S16 r0) (broadcast S16 r1), addi v23 (broadcast S16 c)] : Fin 2 → IVec S16 32) 1 (ln k)).toNat then
        (mulf (F := Ideal) (φ := .f32) (byte (F := Ideal) sh (gath (F := Ideal) T (addi (select v21 (broadcast S16 p0) (broadcast S16 p1)) (addi v23 (broadcast S16 16#32)))))
        (select v21 (broadcast S16 w0) (broadcast S16 w1)) (ln k) : EReal) else 0)
      = if (y 0).val = (if k.val < 8 then r0 else r1).toNat ∧ (y 1).val = 64 + 8 * n + k.val % 8 then
          code T (if k.val < 8 then p0 else p1).toNat (y 1).val * (if k.val < 8 then w0 else w1) else 0 := by
    intro k
    show (if (y 0).val = (select v21 (broadcast S16 r0) (broadcast S16 r1) (ln k)).toNat ∧ (y 1).val = (addi v23 (broadcast S16 c) (ln k)).toNat then _ else _) = _
    rw [hr, hcol, hv]
    by_cases hh : (y 0).val = (if k.val < 8 then r0 else r1).toNat ∧ (y 1).val = 64 + 8 * n + k.val % 8
    · rw [if_pos hh, if_pos hh]
      have h1 := hh.2
      unfold code chWord chSh
      have h2 : ¬ (y 1).val < 64 := by omega
      rw [if_neg h2, if_neg h2, hsh, show ((y 1).val - 64) / 8 = n by omega, show (y 1).val % 8 = k.val % 8 by omega]
    · rw [if_neg hh, if_neg hh]
  rw [Finset.sum_congr rfl fun k _ => hterm k]
  by_cases hy : 64 + 8 * n ≤ (y 1).val ∧ (y 1).val < 64 + 8 * n + 8
  · rw [if_pos hy]
    obtain ⟨hy1, hy2⟩ := hy
    rw [Fintype.sum_eq_add (⟨(y 1).val - (64 + 8 * n), by omega⟩ : Fin 16) (⟨(y 1).val - (64 + 8 * n) + 8, by omega⟩ : Fin 16)
      (fun h => by have := congrArg Fin.val h; simp only at this; omega)
      (fun k hk => by
        rw [if_neg]
        rintro ⟨-, h2⟩
        have h3 : k.val ≠ (y 1).val - (64 + 8 * n) := fun h => hk.1 (Fin.ext h)
        have h4 : k.val ≠ (y 1).val - (64 + 8 * n) + 8 := fun h => hk.2 (Fin.ext h)
        have := k.isLt
        omega)]
    simp only
    have a1 : (y 1).val - (64 + 8 * n) < 8 := by omega
    have a2 : ¬ (y 1).val - (64 + 8 * n) + 8 < 8 := by omega
    have a3 : (y 1).val = 64 + 8 * n + ((y 1).val - (64 + 8 * n)) % 8 := by omega
    have a4 : (y 1).val = 64 + 8 * n + ((y 1).val - (64 + 8 * n) + 8) % 8 := by omega
    simp only [if_pos a1, if_neg a2, ← a3, ← a4, and_true]
  · rw [if_neg hy]
    refine Finset.sum_eq_zero fun k _ => ?_
    rw [if_neg]
    rintro ⟨-, h2⟩
    omega

theorem twoG_apply (T : Vec Ideal S101376 .i32) (rv pv : IVec S16 32) (ww : Vec Ideal S16 .f32) (hr : ∀ x, (rv x).toNat < 64) (hp : ∀ x, (pv x).toNat + 24 ≤ 101376)
    (a b : S16.Idx) (g : Vec Ideal S64x96 .f32) (y : S64x96.Idx) :
    (twoG (F := Ideal) T v21 v23 rv pv ww a b g y : EReal) = g y + ((if (y 0).val = (rv a).toNat then code T (pv a).toNat (y 1).val * ww a else 0)
      + (if (y 0).val = (rv b).toNat then code T (pv b).toNat (y 1).val * ww b else 0)) := by
  have hy : (y 1).val < 96 := (y 1).isLt
  unfold twoG pairG
  simp only
  rw [scat_pair h21 h23 T (ww a) (ww b) (rv a) (rv b) (pv a) (pv b) (hr a) (hr b) (hp a) (hp b) 3 (by omega) 88#32 24#32 rfl rfl,
    scat_pair h21 h23 T (ww a) (ww b) (rv a) (rv b) (pv a) (pv b) (hr a) (hr b) (hp a) (hp b) 2 (by omega) 80#32 16#32 rfl rfl,
    scat_pair h21 h23 T (ww a) (ww b) (rv a) (rv b) (pv a) (pv b) (hr a) (hr b) (hp a) (hp b) 1 (by omega) 72#32 8#32 rfl rfl,
    scat_pair h21 h23 T (ww a) (ww b) (rv a) (rv b) (pv a) (pv b) (hr a) (hr b) (hp a) (hp b) 0 (by omega) 64#32 0#32 rfl rfl,
    laneG_apply, laneG_apply]
  generalize hA : (code T (pv a).toNat (y 1).val * ww a : EReal) = A
  generalize hB : (code T (pv b).toNat (y 1).val * ww b : EReal) = B
  generalize (g y : EReal) = G
  by_cases h : (y 1).val < 64
  · rw [if_neg (show ¬ (64 + 8 * 0 ≤ (y 1).val ∧ _) by omega), if_neg (show ¬ (64 + 8 * 1 ≤ (y 1).val ∧ _) by omega), if_neg (show ¬ (64 + 8 * 2 ≤ (y 1).val ∧ _) by omega),
      if_neg (show ¬ (64 + 8 * 3 ≤ (y 1).val ∧ _) by omega)]
    simp only [h, and_true, add_zero, add_assoc]
  · simp only [h, and_false, if_false, add_zero]
    rcases (show (64 ≤ (y 1).val ∧ (y 1).val < 72) ∨ (72 ≤ (y 1).val ∧ (y 1).val < 80) ∨ (80 ≤ (y 1).val ∧ (y 1).val < 88) ∨ (88 ≤ (y 1).val ∧ (y 1).val < 96) by omega) with q | q | q | q
    · rw [if_pos (show 64 + 8 * 0 ≤ (y 1).val ∧ _ by omega), if_neg (show ¬ (64 + 8 * 1 ≤ (y 1).val ∧ _) by omega), if_neg (show ¬ (64 + 8 * 2 ≤ (y 1).val ∧ _) by omega),
        if_neg (show ¬ (64 + 8 * 3 ≤ (y 1).val ∧ _) by omega)]
      simp only [add_zero]
    · rw [if_neg (show ¬ (64 + 8 * 0 ≤ (y 1).val ∧ _) by omega), if_pos (show 64 + 8 * 1 ≤ (y 1).val ∧ _ by omega), if_neg (show ¬ (64 + 8 * 2 ≤ (y 1).val ∧ _) by omega),
        if_neg (show ¬ (64 + 8 * 3 ≤ (y 1).val ∧ _) by omega)]
      simp only [add_zero]
    · rw [if_neg (show ¬ (64 + 8 * 0 ≤ (y 1).val ∧ _) by omega), if_neg (show ¬ (64 + 8 * 1 ≤ (y 1).val ∧ _) by omega), if_pos (show 64 + 8 * 2 ≤ (y 1).val ∧ _ by omega),
        if_neg (show ¬ (64 + 8 * 3 ≤ (y 1).val ∧ _) by omega)]
      simp only [add_zero]
    · rw [if_neg (show ¬ (64 + 8 * 0 ≤ (y 1).val ∧ _) by omega), if_neg (show ¬ (64 + 8 * 1 ≤ (y 1).val ∧ _) by omega), if_neg (show ¬ (64 + 8 * 2 ≤ (y 1).val ∧ _) by omega),
        if_pos (show 64 + 8 * 3 ≤ (y 1).val ∧ _ by omega)]
      simp only [add_zero]

theorem lanesG_apply (T : Vec Ideal S101376 .i32) (rv pv : IVec S16 32) (ww : Vec Ideal S16 .f32) (hr : ∀ x, (rv x).toNat < 64) (hp : ∀ x, (pv x).toNat + 24 ≤ 101376)
    (g : Vec Ideal S64x96 .f32) (y : S64x96.Idx) :
    (lanesG (F := Ideal) T v21 v23 rv pv ww g y : EReal)
      = g y + ∑ k : Fin 16, (if (y 0).val = (rv (ln k)).toNat then code T (pv (ln k)).toNat (y 1).val * ww (ln k) else 0) := by
  unfold lanesG
  simp only
  rw [twoG_apply h21 h23 T rv pv ww hr hp, twoG_apply h21 h23 T rv pv ww hr hp, twoG_apply h21 h23 T rv pv ww hr hp, twoG_apply h21 h23 T rv pv ww hr hp,
    twoG_apply h21 h23 T rv pv ww hr hp, twoG_apply h21 h23 T rv pv ww hr hp, twoG_apply h21 h23 T rv pv ww hr hp, twoG_apply h21 h23 T rv pv ww hr hp]
  generalize hf : (fun k : Fin 16 => ((if (y 0).val = (rv (ln k)).toNat then code T (pv (ln k)).toNat (y 1).val * ww (ln k) else 0 : EReal))) = f
  have e : ∀ k : Fin 16, (if (y 0).val = (rv (ln k)).toNat then code T (pv (ln k)).toNat (y 1).val * ww (ln k) else 0 : EReal) = f k := fun k => congrFun hf k
  simp only [e]
  rw [Fin.sum_univ_def, show List.finRange 16 = [0, 1, 2, 3, 4, 5, 6, 7, 8, 9, 10, 11, 12, 13, 14, 15] from rfl]
  simp only [List.map_cons, List.map_nil, List.sum_cons, List.sum_nil, add_zero, add_assoc]

end Pair

end Cert.Kernel.Pool
-- ==== Proof.Region.lean ====
module

public import proofs.«01_k».proof.Proof.Gen.ReferenceIdeal.Run
public import proofs.«01_k».proof.Proof.Lane
public import Idealize.ShloMosaic.Lib.Pipeline.Value

@[expose] public section

set_option maxRecDepth 8000

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.Pipeline (Dat)
open Cert.Kernel.Pool (fv chWord chSh)

/-! # The reference's decoded pixels: every byte of the table at its channel -/

variable (m : (ℓ : Loc nD τ sig) → Buf (Elt Ideal) ℓ)

theorem hz2 : (![0, 0] : Fin 2 → Nat) = fun _ => 0 := funext fun a => by fin_cases a <;> rfl

theorem out_eq (x : Vec Ideal S67584x96 .i32) : out0_1 (F := Ideal) x = k0_pay1 (F := Ideal) x := by
  unfold out0_1
  rw [View.ld_unit_zero hz2, View.canon_unit_zero hz2]

/-- What the region leaves: its input's every word decoded. -/
abbrev G (c : Dev nD) : Buf (Elt Ideal) ((c : Thread nD τ).loc main_v26) := k0_pay1 (F := Ideal) (V m c main_v25)

theorem flushed_eq (c : Dev nD) (t : Fin cfg0.N) : (dats m 0 c).flushed 1 t = (win0_1.blk t).view.read (Elt Ideal) (G m c) := by
  show (cfg0.win 1).cut (grid0.coords t) ((dats m 0 c).after 1 t) = _
  rw [after0_1, out_eq]
  have h : iblk m c 0 t = V m c main_v25 := by
    unfold iblk
    exact View.ld_unit_zero (Val := Elt Ideal) (e := .i32) (S := S67584x96) (off := fun a => 0 * S67584x96.size a) (funext fun a => Nat.zero_mul _) (fun a => by rw [Nat.zero_mul, Nat.zero_add]) (V m c main_v25)
  rw [h]
  exact (View.ld_unit_zero (Val := Elt Ideal) (e := .f32) (S := S67584x96) (off := fun a => 0 * S67584x96.size a) (funext fun a => Nat.zero_mul _) (fun a => by rw [Nat.zero_mul, Nat.zero_add]) (G m c)).symm

theorem cover (i : S67584x96.Idx) : ∃ t : Fin cfg0.N, (cfg0.win 1).flush t = true ∧ i ∈ ((cfg0.win 1).blk t).view.set := by
  refine ⟨t0_0, flush0_1 _, ?_⟩
  show i ∈ ((View.whole main_v26).slice (win0_1.rect t0_0)).set
  rw [View.set_slice_whole, Rect.mem_set_unit]
  have e : ∀ a, win0_1.index t0_0 a * win0_1.size a = 0 ∧ win0_1.xsize (grid0.coords t0_0) a = S67584x96.size a := by
    decide +kernel
  intro a
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, (i a).isLt⟩

theorem reg_eq (c : Dev nD) : reg_main_v26 m c = G m c :=
  (dats m 0 c).arrAt_eq_of_cover 1 (G m c) (fun t _ => flushed_eq m c t) cover

/-! ## Its input -/

/-- The table as rows of 24 words. -/
abbrev rows (A : IVec S1622016 32) : IVec S67584x24 32 := shapeCast S67584x24 A shapeCasts_S1622016_S67584x24
/-- The first sixteen words of every pixel, shifted. -/
abbrev lo16 (A : IVec S1622016 32) (n : BitVec 32) : IVec S67584x16 32 :=
  Host.shrui (extractStridedSlice S67584x16 ![0, 0] (rows A) slices_S67584x24_S67584x16_0_0) (broadcastInDim S67584x16 ![] bcast_S_S67584x16 (constantI S_ 32 n))
/-- The last eight words of every pixel, shifted. -/
abbrev hi8 (A : IVec S1622016 32) (n : BitVec 32) : IVec S67584x8 32 :=
  Host.shrui (extractStridedSlice S67584x8 ![0, 16] (rows A) slices_S67584x24_S67584x8_0_16) (broadcastInDim S67584x8 ![] bcast_S_S67584x8 (constantI S_ 32 n))

abbrev pieces (A : IVec S1622016 32) : List ((s : Shape) × (s.Idx → BitVec 32)) :=
  [⟨S67584x16, lo16 A 0#32⟩, ⟨S67584x16, lo16 A 8#32⟩, ⟨S67584x16, lo16 A 16#32⟩, ⟨S67584x16, lo16 A 24#32⟩,
   ⟨S67584x8, hi8 A 0#32⟩, ⟨S67584x8, hi8 A 8#32⟩, ⟨S67584x8, hi8 A 16#32⟩, ⟨S67584x8, hi8 A 24#32⟩]

theorem cat (A : IVec S1622016 32) : Shape.Concatenates ((pieces A).map (·.1)) S67584x96 1 :=
  concatenates_S67584x16_S67584x16_S67584x16_S67584x16_S67584x8_S67584x8_S67584x8_S67584x8_S67584x96_d1

theorem v25_eq (c : Dev nD) : (V m c main_v25 : IVec S67584x96 32) = concatenate S67584x96 1 (pieces (m ((c : Thread nD τ).loc main_arg0))) (cat _) := by
  show after (List.flatten [hostOps0]) (fun b => m (c, b)) (Proc.devRef .tc main_v25) = _
  simp only [List.flatten_cons, List.flatten_nil, List.append_nil, hostOps0]
  after_results_simp
  all_goals rfl

/-- Word `n` of the whole table. -/
def wordAt (A : IVec S1622016 32) (n : ℕ) : BitVec 32 := if h : n < 1622016 then A (fun | 0 => ⟨n, h⟩) else 0#32

theorem rows_apply (A : IVec S1622016 32) (y : S67584x24.Idx) : rows A y = wordAt A (24 * (y 0).val + (y 1).val) := by
  have h0 : (y 0).val < 67584 := (y 0).isLt
  have h1 : (y 1).val < 24 := (y 1).isLt
  have h : 24 * (y 0).val + (y 1).val < 1622016 := by omega
  unfold wordAt
  rw [dif_pos h]
  refine shapeCast_apply A _ y (fun | 0 => ⟨_, h⟩) ?_
  rw [Shape.rowMajor_val_one, Shape.rowMajor_val_two]
  show 24 * (y 0).val + (y 1).val = (y 0).val * 24 + (y 1).val
  omega

theorem shr_eq (w n : BitVec 32) (h : n.toNat < 32) : IntOp.shrui .host w n = IntOp.shrui .vector w n := by
  unfold IntOp.shrui
  rw [if_pos h, if_pos h]

theorem lo16_apply (A : IVec S1622016 32) {n : BitVec 32} (h : n.toNat < 32) (y : S67584x16.Idx) :
    lo16 A n y = IntOp.shrui .vector (wordAt A (24 * (y 0).val + (y 1).val)) n := by
  rw [← shr_eq _ _ h]
  refine congrArg (fun w => IntOp.shrui .host w n) ((rows_apply A _).trans ?_)
  show wordAt A (24 * (0 + (y 0).val) + (0 + (y 1).val)) = _
  rw [Nat.zero_add, Nat.zero_add]

theorem hi8_apply (A : IVec S1622016 32) {n : BitVec 32} (h : n.toNat < 32) (y : S67584x8.Idx) :
    hi8 A n y = IntOp.shrui .vector (wordAt A (24 * (y 0).val + (16 + (y 1).val))) n := by
  rw [← shr_eq _ _ h]
  refine congrArg (fun w => IntOp.shrui .host w n) ((rows_apply A _).trans ?_)
  show wordAt A (24 * (0 + (y 0).val) + (16 + (y 1).val)) = _
  rw [Nat.zero_add]

theorem cat_lo (A : IVec S1622016 32) (x : S67584x96.Idx) (k : ℕ) (hk : k < 4) (h : (x 1).val < 64) (hx : (x 1).val / 16 = k) (hk' : k < (pieces A).length)
    (hp : (pieces A)[k] = ⟨S67584x16, lo16 A (BitVec.ofNat 32 (8 * k))⟩)
    (hpre : ((((pieces A).take k).map (·.1)).map fun s => if h : s.rank = S67584x96.rank then s.size ((1 : Fin S67584x96.rank).cast h.symm) else 0).sum = 16 * k) :
    concatenate S67584x96 1 (pieces A) (cat A) x = IntOp.shrui .vector (wordAt A (24 * (x 0).val + chWord (x 1).val)) (chSh (x 1).val) := by
  have h0 : (x 0).val < 67584 := (x 0).isLt
  let y : S67584x16.Idx := fun | 0 => ⟨(x 0).val, h0⟩ | 1 => ⟨(x 1).val % 16, Nat.mod_lt _ (by decide)⟩
  refine (concatenate_apply_piece (1 : Fin S67584x96.rank) (pieces A) (cat A) x k hk' S67584x16 _ hp rfl (16 * k) hpre y ?_ ?_).trans ?_
  · intro b hb
    match b with
    | 0 => rfl
    | 1 => exact absurd rfl hb
  · show 16 * k + (x 1).val % 16 = (x 1).val
    omega
  · have hsh : chSh (x 1).val = BitVec.ofNat 32 (8 * k) := by unfold chSh; rw [if_pos h, hx]
    have hw : chWord (x 1).val = (x 1).val % 16 := by unfold chWord; rw [if_pos h]
    rw [hsh, hw]
    exact lo16_apply A (by rw [BitVec.toNat_ofNat]; omega) y

theorem cat_hi (A : IVec S1622016 32) (x : S67584x96.Idx) (k : ℕ) (hk : k < 4) (h : ¬ (x 1).val < 64) (hx : ((x 1).val - 64) / 8 = k) (hk' : 4 + k < (pieces A).length)
    (hp : (pieces A)[4 + k] = ⟨S67584x8, hi8 A (BitVec.ofNat 32 (8 * k))⟩)
    (hpre : ((((pieces A).take (4 + k)).map (·.1)).map fun s => if h : s.rank = S67584x96.rank then s.size ((1 : Fin S67584x96.rank).cast h.symm) else 0).sum = 64 + 8 * k) :
    concatenate S67584x96 1 (pieces A) (cat A) x = IntOp.shrui .vector (wordAt A (24 * (x 0).val + chWord (x 1).val)) (chSh (x 1).val) := by
  have h0 : (x 0).val < 67584 := (x 0).isLt
  let y : S67584x8.Idx := fun | 0 => ⟨(x 0).val, h0⟩ | 1 => ⟨(x 1).val % 8, Nat.mod_lt _ (by decide)⟩
  refine (concatenate_apply_piece (1 : Fin S67584x96.rank) (pieces A) (cat A) x (4 + k) hk' S67584x8 _ hp rfl (64 + 8 * k) hpre y ?_ ?_).trans ?_
  · intro b hb
    match b with
    | 0 => rfl
    | 1 => exact absurd rfl hb
  · show 64 + 8 * k + (x 1).val % 8 = (x 1).val
    omega
  · have hsh : chSh (x 1).val = BitVec.ofNat 32 (8 * k) := by unfold chSh; rw [if_neg h, hx]
    have hw : chWord (x 1).val = 16 + (x 1).val % 8 := by unfold chWord; rw [if_neg h]
    rw [hsh, hw]
    exact hi8_apply A (by rw [BitVec.toNat_ofNat]; omega) y

theorem cat_apply (A : IVec S1622016 32) (x : S67584x96.Idx) :
    concatenate S67584x96 1 (pieces A) (cat A) x = IntOp.shrui .vector (wordAt A (24 * (x 0).val + chWord (x 1).val)) (chSh (x 1).val) := by
  have h1 : (x 1).val < 96 := (x 1).isLt
  by_cases h : (x 1).val < 64
  · have hc : (x 1).val / 16 = 0 ∨ (x 1).val / 16 = 1 ∨ (x 1).val / 16 = 2 ∨ (x 1).val / 16 = 3 := by omega
    rcases hc with hc | hc | hc | hc
    · exact cat_lo A x 0 (by decide) h hc (by show 0 < 8; decide) rfl rfl
    · exact cat_lo A x 1 (by decide) h hc (by show 1 < 8; decide) rfl rfl
    · exact cat_lo A x 2 (by decide) h hc (by show 2 < 8; decide) rfl rfl
    · exact cat_lo A x 3 (by decide) h hc (by show 3 < 8; decide) rfl rfl
  · have hc : ((x 1).val - 64) / 8 = 0 ∨ ((x 1).val - 64) / 8 = 1 ∨ ((x 1).val - 64) / 8 = 2 ∨ ((x 1).val - 64) / 8 = 3 := by omega
    rcases hc with hc | hc | hc | hc
    · exact cat_hi A x 0 (by decide) h hc (by show 4 < 8; decide) rfl rfl
    · exact cat_hi A x 1 (by decide) h hc (by show 5 < 8; decide) rfl rfl
    · exact cat_hi A x 2 (by decide) h hc (by show 6 < 8; decide) rfl rfl
    · exact cat_hi A x 3 (by decide) h hc (by show 7 < 8; decide) rfl rfl

theorem pay_apply (v : IVec S67584x96 32) (x : S67584x96.Idx) (w sh : BitVec 32) (h : v x = IntOp.shrui .vector w sh) :
    (k0_pay1 (F := Ideal) v x : EReal) = fv w sh := by
  have e : (k0_pay1 (F := Ideal) v x : EReal) = k0_pay1 (F := Ideal) (fun _ => v x) x := by
    unfold k0_pay1
    rw [shapeCast_self, shapeCast_self]
    rfl
  rw [e, h]
  rfl

/-- A decoded pixel's channel. -/
theorem reg_apply (c : Dev nD) (x : S67584x96.Idx) :
    (reg_main_v26 m c x : EReal) = fv (wordAt (m ((c : Thread nD τ).loc main_arg0)) (24 * (x 0).val + chWord (x 1).val)) (chSh (x 1).val) := by
  rw [reg_eq]
  refine pay_apply _ x _ _ ?_
  rw [v25_eq]
  exact cat_apply _ x

end Cert.ReferenceIdeal.Value
-- ==== Proof.Copy.lean ====
module

public import proofs.«01_k».proof.Proof.Inner
public import Idealize.ShloMosaic.Lib.Transfers
public import Idealize.ShloMosaic.Lib.Pipeline.Kit

@[expose] public section

set_option maxRecDepth 8000

noncomputable section

namespace Cert.Kernel.Pool

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

/-! # Copies that are waited for at once -/

abbrev UH : Type := URounds (GSem nD τ sig) ℕ
abbrev UU : Type := UH × Counters

variable {F : FTy → Type} [FloatOps F]

local notation "𝕄" => MT nD τ sig (HIx 1) (Elt F) ℕ UU ℕ

abbrev EC : UEmb Counters (MT nD τ sig (HIx 1) (Elt F) ℕ UU ℕ) := (UEmb.inr : UEmb Counters UU).trans uEmb

variable {defs : Defs nD τ sig (Elt F) Λ₀} (𝒱 : Variants) (bd : Option 𝒱.V)
variable (d : Dev nD) (i : grid0.Coords)

/-- A copy of a slice of `m` into all of `dst`, waited for: `dst` then holds the slice. -/
theorem wp_copy {α : Type} {Q : α → sProp 𝕄} {s₀ : Shape} {e : EltTy} {sp sp' : Space} (m : Memref sig .scVector sp s₀ e) (r : Rect s₀) (hr : ∀ a, r.stride a = 1)
    (dst : Memref sig .scVector sp' r.shape e) (sm : DmaSem sig) {hs hd ht hs' hd'} (hn : 0 < r.shape.numel)
    {k : PUnit → PT i F α} {q : PosShare TreeShare} {X : s₀.Idx → Elt F e} {O : CellTallies nD τ sig (HIx 1)} :
    iprop(Transfers.MayWaits (VT d i) (default : HIx 1) O ∗ owns (VT d i) m q X ∗ (∃ Y, owns (VT d i) dst fullShare Y) ∗ semVal (VT d i, .dma sm) 0 ∗ (∃ W, owes (VT d i) O W) : sProp 𝕄)
      ⊢ iprop((iprop(owns (VT d i) m q X ∗ owns (VT d i) dst fullShare (fun x => X (r.emb x)) ∗ semVal (VT d i, .dma sm) 0 ∗ (∃ W, owes (VT d i) O W))
          -∗ wp frame (wpE defs 𝒱 (VT d i) bd) Set.univ (k ⟨⟩) Q)
        -∗ wp frame (wpE defs 𝒱 (VT d i) bd) Set.univ
          (.op (.enqueueDma (m.slice r hr) (.here dst) (.dma sm) hs hd ht) fun _ => .op (.waitDma2 sm (m.slice r hr) dst hs' hd') k) Q) := by
  unfold owns
  iintro ⟨#Hmw, ⟨%f, %hf, Hm⟩, ⟨%Y, %fd, %hfd, Hd⟩, Hs, ⟨%W, HO⟩⟩ Hk
  have hsub : (m.slice r hr).view.set ⊆ m.view.set := View.set_slice_subset _ _
  ihave Hm2 := (pointsTo_split_subset (ℓ := m.view.loc (VT d i)) (q := q) (f := f) hsub).1 $$ Hm
  icases Hm2 with ⟨Hm, Hrest⟩
  iapply (Transfers.wp_dmaLocal EC 𝒱 (VT d i) bd (src := m.slice r hr) (dst := dst) (sm := .dma sm) (q := q) (fs := f) (Sd := dst.view.set) (fd := fd)
    (default : HIx 1) (dst.view.amount (.dma sm)) rfl (View.amount_pos _ _ hn) subset_rfl) $$ [Hm Hd Hs]
  · isplitl [Hm]
    · iexact Hm
    isplitl [Hd]
    · iexact Hd
    · iexact Hs
  iintro HF
  ihave Hw := (Transfers.MayWaits.elim (c := VT d i) (ι := (default : HIx 1)) (O := O) (.dma sm)) $$ Hmw
  iapply (Transfers.wp_waitLocalO EC 𝒱 (VT d i) bd (default : HIx 1) (N := dst.view.amount (.dma sm)) rfl) $$ [HF HO Hw]
  · isplitl [HF]
    · iexact HF
    isplitl [HO]
    · iexact HO
    · iexact Hw
  iintro ⟨⟨Hd, Hm⟩, Hs, HO⟩
  iapply Hk
  isplitl [Hm Hrest]
  · iexists f
    isplitr
    · ipureintro; exact hf
    iapply (pointsTo_split_subset (ℓ := m.view.loc (VT d i)) (q := q) (f := f) hsub).2
    isplitl [Hm]
    · iexact Hm
    · iexact Hrest
  isplitl [Hd]
  · iexists _
    isplitr
    rotate_left
    · iexact Hd
    · ipureintro
      rw [View.read_write_univ]
      funext x
      subst hf
      rfl
  isplitl [Hs]
  · iexact Hs
  · iexists _
    iexact HO

end Cert.Kernel.Pool
-- ==== Proof.Piece.lean ====
module

public import proofs.«01_k».proof.Proof.Model
public import proofs.«01_k».proof.Proof.Words

@[expose] public section

noncomputable section

namespace Cert.Kernel.Pool

open Idealize.ShloMosaic Idealize.SL.Sem
open Cert.Kernel Cert.Kernel.Gen

variable {F : FTy → Type} [FloatOps F]

variable (i : grid0.Coords)

/-- The chunk a piece needs is brought in if it is not there, and the piece's integers are computed. -/
def stage (arg3 : Memref sig .scVector .hbm S2527488 .f32) (arg4 : Memref sig .scVector .hbm S2527488 .i32)
    (arg10 : Memref sig .scVector .vmem S1024 .i32) (harg10 : arg10.IsWhole) (arg11 : Memref sig .scVector .vmem S1024 .f32) (harg11 : arg11.IsWhole)
    (s2 s3 : DmaSems sig S_) (v33 q1 q cl : BitVec 32) :
    PT i F (Σ' (k0_hw3 : k0_chk3 q1 q) (v185 : BitVec 32) (v191 : BitVec 32) (v194 : BitVec 32) (c16_i32_91 : BitVec 32) (c0_i32_92 : BitVec 32), BitVec 32) := do
  have k0_hw3 : k0_chk3 q1 q := (← Prog.lift (TpuEff.assume (k0_chk3 q1 q) (k0_chk3.dec q1 q))).down
  have k0_hw2 : k0_chk2 v33 q cl := (← Prog.lift (TpuEff.assume (k0_chk2 v33 q cl) (k0_chk2.dec v33 q cl))).down
  if k0_h2 : k0_cond2 q cl = 1#1 then do
    Prog.lift (.enqueueDma (arg4.slice (Rect.unit (s := S2527488) (k0_off11 v33 q) S1024.size (k0_off11_inb v33 q cl k0_hw2 k0_h2)) (fun _ => rfl)) (.here arg10) (.dma s2.sem) (View.wordExact_bits rfl) harg10.wordExact ⟨Or.inl rfl, trivial⟩)
    Prog.lift (.waitDma2 s2.sem (arg4.slice (Rect.unit (s := S2527488) (k0_off11 v33 q) S1024.size (k0_off11_inb v33 q cl k0_hw2 k0_h2)) (fun _ => rfl)) arg10 (View.wordExact_bits rfl) harg10.wordExact)
    Prog.lift (.enqueueDma (arg3.slice (Rect.unit (s := S2527488) (k0_off11 v33 q) S1024.size (k0_off11_inb v33 q cl k0_hw2 k0_h2)) (fun _ => rfl)) (.here arg11) (.dma s3.sem) (View.wordExact_bits rfl) harg11.wordExact ⟨Or.inl rfl, trivial⟩)
    Prog.lift (.waitDma2 s3.sem (arg3.slice (Rect.unit (s := S2527488) (k0_off11 v33 q) S1024.size (k0_off11_inb v33 q cl k0_hw2 k0_h2)) (fun _ => rfl)) arg11 (View.wordExact_bits rfl) harg11.wordExact)
    pure ⟨⟩
  else do
    pure ⟨⟩
  pure ⟨k0_hw3, fl q, hiW q1 q, bsW q, 16#32, 0#32, (mainLoop (cntW q1 q)).ub⟩

/-- A piece of a window: its chunk, then its groups; it hands on where it stopped and which chunk is there. -/
def piece (st : Memref sig .scVector .vmem S64x96 .f32) (tb : Memref sig .scVector .vmem S101376 .i32)
    (arg3 : Memref sig .scVector .hbm S2527488 .f32) (arg4 : Memref sig .scVector .hbm S2527488 .i32)
    (arg10 : Memref sig .scVector .vmem S1024 .i32) (harg10 : arg10.IsWhole) (arg11 : Memref sig .scVector .vmem S1024 .f32) (harg11 : arg11.IsWhole)
    (s2 s3 : DmaSems sig S_) (v19 : IVec S16 32) (v21 : IVec S16 1) (v23 : IVec S16 32) (v33 q1 k : BitVec 32)
    (rest : ∀ (q : BitVec 32) (h : k0_chk3 q1 q) (v185 v191 v194 c16 v205 : BitVec 32), Fin (k0_t5_loop q1 q).trips → Unit → PT i F Unit) :
    BitVec 32 × BitVec 32 → PT i F (BitVec 32 × BitVec 32) := fun (q, cl) => do
  let ⟨k0_hw3, v185, v191, v194, c16_i32_91, c0_i32_92, v205⟩ : Σ' (k0_hw3 : k0_chk3 q1 q) (v185 : BitVec 32) (v191 : BitVec 32) (v194 : BitVec 32) (c16_i32_91 : BitVec 32) (c0_i32_92 : BitVec 32), BitVec 32 ← stage i arg3 arg4 arg10 harg10 arg11 harg11 s2 s3 v33 q1 q cl
  Scf.Loop.for (k0_t4_loop q1 q) (k0_t4_ok q1 q k0_hw3) ⟨⟩ (fun t _ => group i st tb arg10 arg11 v19 v21 v23 (k0_off12 q1 q t) (k0_off12_inb q1 q k0_hw3 t)
    (Scalar.addi (Scalar.muli v185 1024#32) (Scalar.addi v194 (Scalar.muli (Scf.iv c0_i32_92 1#32 t) c16_i32_91))) q v191 (Scalar.muli k 64#32))
  Scf.Loop.for (k0_t5_loop q1 q) (k0_t5_ok q1 q k0_hw3) ⟨⟩ (rest q k0_hw3 v185 v191 v194 c16_i32_91 v205)
  pure (v191, v185)

end Cert.Kernel.Pool
-- ==== Proof.PieceWp.lean ====
module

public import proofs.«01_k».proof.Proof.Copy
public import proofs.«01_k».proof.Proof.Spec
public import proofs.«01_k».proof.Proof.Piece

@[expose] public section

set_option maxRecDepth 8000

noncomputable section

namespace Cert.Kernel.Pool

open Idealize.ShloMosaic
open Idealize.ShloMosaic.Affine (IsInt)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig (HIx 1) (Elt F) ℕ UU ℕ

variable {defs : Defs nD τ sig (Elt F) Λ₀} (𝒱 : Variants) (bd : Option 𝒱.V)
variable (d : Dev nD) (i : grid0.Coords)

theorem n1024 : 0 < S1024.numel := by decide

theorem chk3_of {q1w qw : BitVec 32} {q1 q : ℕ} (h1 : IsInt q1w (q1 : ℤ)) (h : IsInt qw (q : ℤ)) (hlt : q < q1) (hb : q1 < 2 ^ 24) :
    k0_chk3 q1w qw ∧ (k0_t4_loop q1w qw).trips = cntN q1 q ∧
      ∀ t : Fin (k0_t4_loop q1w qw).trips, k0_off12 q1w qw t = ![q % 1024 / 16 * 16 + 16 * t.val] ∧ q % 1024 / 16 * 16 + 16 * t.val + 16 ≤ 1024 := by
  have hc := cnt_isInt h1 h (by omega) (by omega) (by omega)
  have hb' := bs_isInt h1 h (by omega) (by omega) (by omega)
  have ec : ((min (q1 : ℤ) (((q : ℤ) / 1024 + 1) * 1024) - (q : ℤ) / 16 * 16 + 15) / 16) = (cntN q1 q : ℕ) := by
    unfold cntN hiN; omega
  rw [ec] at hc
  have hcb : cntN q1 q ≤ 64 := by unfold cntN hiN; omega
  have ht : (k0_t4_loop q1w qw).trips = cntN q1 q := mainLoop_trips hc
  have hoff : ∀ t : Fin (k0_t4_loop q1w qw).trips, k0_off12 q1w qw t = ![q % 1024 / 16 * 16 + 16 * t.val] ∧ q % 1024 / 16 * 16 + 16 * t.val + 16 ≤ 1024 := by
    intro t
    have htl : t.val < cntN q1 q := ht ▸ t.isLt
    have hbd : q % 1024 / 16 * 16 + 16 * t.val + 16 ≤ 1024 := by
      unfold cntN hiN at htl; omega
    have iv : IsInt (Scf.iv 0#32 1#32 t.val) (t.val : ℤ) := Affine.iv (lit 0) (lit 1) t.val ⟨by push_cast; omega, by omega, by omega⟩
    have a := Affine.addi hb' (Affine.muli iv (lit 16) (e := ((16 * t.val : ℕ) : ℤ)) ⟨by push_cast; omega, by omega, by omega⟩)
      (e := ((q % 1024 / 16 * 16 + 16 * t.val : ℕ) : ℤ)) ⟨by push_cast; omega, by omega, by omega⟩
    have hn := Affine.nat_eq a _ rfl
    refine ⟨?_, hbd⟩
    exact congrArg (fun n => (![n] : Fin 1 → ℕ)) hn
  refine ⟨⟨mainLoop_ok hc (by omega), ?_, restLoop_ok _, ?_⟩, ht, hoff⟩
  · intro t a
    fin_cases a
    rw [(hoff t).1]
    exact (hoff t).2
  · intro t
    exact (Nat.not_lt_zero _ (lt_of_lt_of_eq t.isLt ((congrArg Scf.Loop.trips (t5_loop_eq q1w qw)).trans (restLoop_trips (cntW q1w qw))))).elim

theorem cond2_iff {qw clw : BitVec 32} {q : ℕ} {cl : ℤ} (h : IsInt qw (q : ℤ)) (hq : q < 2 ^ 24) (hc : IsInt clw cl) :
    k0_cond2 qw clw = 1#1 ↔ (q / 1024 : ℕ) ≠ cl := by
  have hf := fl_isInt h (by omega) (by omega)
  have e : k0_cond2 qw clw = Scalar.cmpi .ne (Scalar.extui (Scalar.cmpi .ne (fl qw) clw)) 0#32 := rfl
  rw [e]
  by_cases hh : ((q / 1024 : ℕ) : ℤ) = cl
  · refine ⟨fun h' => absurd h' (Affine.ne_fails (Affine.extui_fails (Affine.ne_fails hf hc (by push_cast at hh; omega)) rfl) (lit 0) rfl), fun h' => absurd hh h'⟩
  · exact ⟨fun _ => hh, fun _ => Affine.ne_holds (Affine.extui_holds (Affine.ne_holds hf hc (by push_cast at hh; omega)) rfl) (lit 0) (by decide)⟩

theorem off11_eq {v33 qw : BitVec 32} {ob q : ℕ} (ho : IsInt v33 (ob : ℤ)) (h : IsInt qw (q : ℤ)) (hob : ob < 2 ^ 25) (hq : q < 2 ^ 24) :
    (k0_mult4 v33 qw).toNat = ob + 1024 * (q / 1024) ∧ k0_off11 v33 qw = ![ob + 1024 * (q / 1024)] := by
  have hf := fl_isInt h (by omega) (by omega)
  have a := Affine.addi ho (Affine.muli hf (lit 1024) (e := ((1024 * (q / 1024) : ℕ) : ℤ)) ⟨by push_cast; omega, by omega, by omega⟩)
      (e := ((ob + 1024 * (q / 1024) : ℕ) : ℤ)) ⟨by push_cast; omega, by omega, by omega⟩
  have hn := Affine.nat_eq a _ rfl
  exact ⟨hn, congrArg (fun n => (![n] : Fin 1 → ℕ)) hn⟩

section
variable (P : Vec F S2527488 .i32) (W : Vec F S2527488 .f32)

/-- The staged chunk: chunk `c` if the carried chunk number is `c`. -/
def Held (pkb : Memref sig .scVector .vmem S1024 .i32) (wb : Memref sig .scVector .vmem S1024 .f32) (ob : ℕ) (cl : ℤ) : sProp 𝕄 :=
  iprop(∃ PB WB, ⌜∀ c : ℕ, cl = c → PB = chunk P ob c ∧ WB = chunk W ob c⌝ ∗ owns (VT d i) pkb fullShare PB ∗ owns (VT d i) wb fullShare WB)

/-- The lists (shares), the two copies' semaphores at zero and the waits so far. -/
def Feed (arg3 : Memref sig .scVector .hbm S2527488 .f32) (arg4 : Memref sig .scVector .hbm S2527488 .i32) (s2 s3 : DmaSem sig)
    (sh3 sh4 : PosShare TreeShare) (O : CellTallies nD τ sig (HIx 1)) : sProp 𝕄 :=
  iprop(owns (VT d i) arg3 sh3 W ∗ owns (VT d i) arg4 sh4 P ∗ semVal (VT d i, .dma s2) 0 ∗ semVal (VT d i, .dma s3) 0 ∗ (∃ Ws, owes (VT d i) O Ws))

theorem chunk_slice {α : Type} (X : S2527488.Idx → α) (ob c : ℕ) (h : ob + (1024 * c + 1024) ≤ 2527488) (off : Fin 1 → ℕ) (ho : off = ![ob + 1024 * c]) (inb : ∀ a, off a + S1024.size a ≤ S2527488.size a) :
    (fun x => X ((Rect.unit (s := S2527488) off S1024.size inb).emb x)) = chunk X ob c := by
  subst ho
  funext x
  have hx : (x 0).val < 1024 := (x 0).isLt
  unfold chunk atN
  rw [dif_pos (by omega)]
  refine congrArg X (funext fun a => Fin.ext ?_)
  fin_cases a
  show ob + 1024 * c + 1 * (x 0).val = ob + (1024 * c + (x 0).val)
  omega

theorem wp_stage (arg3 : Memref sig .scVector .hbm S2527488 .f32) (arg4 : Memref sig .scVector .hbm S2527488 .i32)
    (pkb : Memref sig .scVector .vmem S1024 .i32) (hpkb : pkb.IsWhole) (wb : Memref sig .scVector .vmem S1024 .f32) (hwb : wb.IsWhole)
    (s2 s3 : DmaSems sig S_) (sh3 sh4 : PosShare TreeShare) {O : CellTallies nD τ sig (HIx 1)}
    {v33 q1w qw clw : BitVec 32} {ob q1 q : ℕ} {cl : ℤ} (ho : IsInt v33 (ob : ℤ)) (h1 : IsInt q1w (q1 : ℤ)) (h : IsInt qw (q : ℤ)) (hc : IsInt clw cl)
    (hlt : q < q1) (hP : TileOK P ob q1) :
    iprop(Transfers.MayWaits (VT d i) (default : HIx 1) O ∗ Held d i P W pkb wb ob cl ∗ Feed d i P W arg3 arg4 s2.sem s3.sem sh3 sh4 O : sProp 𝕄)
      ⊢ wp frame (wpE defs 𝒱 (VT d i) bd) Set.univ (stage i arg3 arg4 pkb hpkb wb hwb s2 s3 v33 q1w qw clw)
        fun r => iprop(⌜∃ h3, r = ⟨h3, fl qw, hiW q1w qw, bsW qw, 16#32, 0#32, (mainLoop (cntW q1w qw)).ub⟩⌝
          ∗ owns (VT d i) pkb fullShare (chunk P ob (q / 1024)) ∗ owns (VT d i) wb fullShare (chunk W ob (q / 1024))
          ∗ Feed d i P W arg3 arg4 s2.sem s3.sem sh3 sh4 O) := by
  have hbd := hP.lt
  have hin := hP.inb (q / 1024) (by omega)
  have hoff := off11_eq ho h (by omega) (by omega)
  have hk3 := (chk3_of h1 h hlt (by omega)).1
  have hk2 : k0_chk2 v33 qw clw := by
    refine ⟨fun _ => ?_, fun _ a => ?_⟩
    · rw [hoff.1]; have := hP.al; omega
    · fin_cases a
      rw [hoff.2]
      show ob + 1024 * (q / 1024) + 1024 ≤ 2527488
      omega
  unfold stage
  simp only [Prog.lift, Prog.bind_op, Prog.bind_ret]
  refine .trans ?_ (wp_as 𝒱 bd Set.univ d i hk3)
  refine .trans ?_ (wp_as 𝒱 bd Set.univ d i hk2)
  by_cases hcd : k0_cond2 qw clw = 1#1
  · rw [dif_pos hcd]
    simp only [Prog.pure_eq_ret, Prog.bind_op, Prog.bind_ret]
    unfold Held Feed
    iintro ⟨#Hmw, ⟨%PB, %WB, -, HP, HW⟩, H3, H4, Hs2, Hs3, HO⟩
    iapply (wp_copy (defs := defs) 𝒱 bd d i arg4 (Rect.unit (s := S2527488) (k0_off11 v33 qw) S1024.size (k0_off11_inb v33 qw clw hk2 hcd)) (fun _ => rfl) pkb s2.sem (X := P) (q := sh4) (O := O) n1024) $$ [H4 HP Hs2 HO]
    · isplitr; · iexact Hmw
      isplitl [H4]; · iexact H4
      isplitl [HP]; · iexists _; iexact HP
      isplitl [Hs2]; · iexact Hs2
      iexact HO
    iintro ⟨H4, HP, Hs2, HO⟩
    iapply (wp_copy (defs := defs) 𝒱 bd d i arg3 (Rect.unit (s := S2527488) (k0_off11 v33 qw) S1024.size (k0_off11_inb v33 qw clw hk2 hcd)) (fun _ => rfl) wb s3.sem (X := W) (q := sh3) (O := O) n1024) $$ [H3 HW Hs3 HO]
    · isplitr; · iexact Hmw
      isplitl [H3]; · iexact H3
      isplitl [HW]; · iexists _; iexact HW
      isplitl [Hs3]; · iexact Hs3
      iexact HO
    iintro ⟨H3, HW, Hs3, HO⟩
    rw [wp_ret]
    imodintro
    isplitr
    · ipureintro; exact ⟨_, rfl⟩
    rw [chunk_slice P ob (q / 1024) hin _ hoff.2, chunk_slice W ob (q / 1024) hin _ hoff.2]
    isplitl [HP]; · iexact HP
    isplitl [HW]; · iexact HW
    isplitl [H3]; · iexact H3
    isplitl [H4]; · iexact H4
    isplitl [Hs2]; · iexact Hs2
    isplitl [Hs3]; · iexact Hs3
    iexact HO
  · rw [dif_neg hcd]
    simp only [Prog.pure_eq_ret, Prog.bind_op, Prog.bind_ret]
    unfold Held Feed
    have hcl : cl = ((q / 1024 : ℕ) : ℤ) := by
      by_contra hne; exact hcd ((cond2_iff h (by omega) hc).2 (fun e => hne e.symm))
    iintro ⟨#Hmw, ⟨%PB, %WB, %hB, HP, HW⟩, H3, H4, Hs2, Hs3, HO⟩
    obtain ⟨rfl, rfl⟩ := hB _ hcl
    rw [wp_ret]
    imodintro
    isplitr
    · ipureintro; exact ⟨_, rfl⟩
    isplitl [HP]; · iexact HP
    isplitl [HW]; · iexact HW
    isplitl [H3]; · iexact H3
    isplitl [H4]; · iexact H4
    isplitl [Hs2]; · iexact Hs2
    isplitl [Hs3]; · iexact Hs3
    iexact HO

variable (Tb : Vec F S101376 .i32)

theorem grp_words {v19 : IVec S16 32} {v21 : IVec S16 1} {v23 : IVec S16 32} {bw lw hw kw : BitVec 32} {ob b lo hi k : ℕ} {g : Vec F S64x96 .f32}
    (eb : bw = BitVec.ofNat 32 b) (el : lw = BitVec.ofNat 32 lo) (eh : hw = BitVec.ofNat 32 hi) (ek : kw = BitVec.ofNat 32 (64 * k)) :
    lanesG Tb v21 v23 (rowv (live v19 bw lw hw) kw (vec16 P (ob + b))) (pixv (vec16 P (ob + b))) (wv (live v19 bw lw hw) (vec16 W (ob + b))) g
      = grpN Tb P W v19 v21 v23 ob b lo hi k g := by
  subst eb el eh ek; rfl

theorem wp_piece (st : Memref sig .scVector .vmem S64x96 .f32) (tb : Memref sig .scVector .vmem S101376 .i32)
    (arg3 : Memref sig .scVector .hbm S2527488 .f32) (arg4 : Memref sig .scVector .hbm S2527488 .i32)
    (pkb : Memref sig .scVector .vmem S1024 .i32) (hpkb : pkb.IsWhole) (wb : Memref sig .scVector .vmem S1024 .f32) (hwb : wb.IsWhole)
    (s2 s3 : DmaSems sig S_) (sh3 sh4 : PosShare TreeShare) {O : CellTallies nD τ sig (HIx 1)}
    {v19 : IVec S16 32} (v21 : IVec S16 1) {v23 : IVec S16 32} (h19 : ∀ x, v19 x = BitVec.ofNat 32 (x 0).val) (h23 : ∀ x, (v23 x).toNat < 8)
    {v33 q1w qw clw kw : BitVec 32} {ob q1 q k : ℕ} {cl : ℤ} (ho : IsInt v33 (ob : ℤ)) (h1 : IsInt q1w (q1 : ℤ)) (h : IsInt qw (q : ℤ)) (hc : IsInt clw cl)
    (hkw : IsInt kw (k : ℤ)) (hk : k < 1024)
    (hlt : q < q1) (hP : TileOK P ob q1) (hw : InWin P ob q q1 k) (rest) (g : Vec F S64x96 .f32) :
    iprop(Transfers.MayWaits (VT d i) (default : HIx 1) O ∗ Own d i st g ∗ OwnT d i Tb tb ∗ Held d i P W pkb wb ob cl ∗ Feed d i P W arg3 arg4 s2.sem s3.sem sh3 sh4 O : sProp 𝕄)
      ⊢ wp frame (wpE defs 𝒱 (VT d i) bd) Set.univ (piece i st tb arg3 arg4 pkb hpkb wb hwb s2 s3 v19 v21 v23 v33 q1w kw rest (qw, clw))
        fun r => iprop(⌜IsInt r.1 (hiN q1 q : ℕ) ∧ IsInt r.2 (q / 1024 : ℕ)⌝
          ∗ Own d i st (pieceG Tb P W v19 v21 v23 ob q1 q k g) ∗ OwnT d i Tb tb ∗ Held d i P W pkb wb ob ((q / 1024 : ℕ) : ℤ)
          ∗ Feed d i P W arg3 arg4 s2.sem s3.sem sh3 sh4 O) := by
  have hbd := hP.lt
  have hin := hP.inb (q / 1024) (by omega)
  obtain ⟨hk3, htr, hoff⟩ := chk3_of h1 h hlt (by omega)
  have hhi : IsInt (hiW q1w qw) ((hiN q1 q : ℕ) : ℤ) := by
    have := hi_isInt h1 h (by omega) (by omega) (by omega)
    have e : (min (q1 : ℤ) (((q : ℤ) / 1024 + 1) * 1024)) = ((hiN q1 q : ℕ) : ℤ) := by unfold hiN; omega
    rwa [e] at this
  have hfl : IsInt (fl qw) ((q / 1024 : ℕ) : ℤ) := by
    have := fl_isInt h (by omega) (by omega)
    push_cast; exact this
  have hhb : hiN q1 q ≤ q1 := by unfold hiN; omega
  unfold piece
  iintro ⟨#Hmw, HS, HT, HH, HF⟩
  rw [wp_bind]
  iapply (wp_wand_r frame (wpE defs 𝒱 (VT d i) bd) Set.univ)
  isplitl [HH HF]
  · iapply (wp_stage (defs := defs) 𝒱 bd d i P W arg3 arg4 pkb hpkb wb hwb s2 s3 sh3 sh4 ho h1 h hc hlt hP)
    isplitr; · iexact Hmw
    isplitl [HH]; · iexact HH
    iexact HF
  iintro %r ⟨%hr, HP, HW, HF⟩
  obtain ⟨h3, rfl⟩ := hr
  dsimp only
  let I : ℕ → Unit → sProp 𝕄 := fun n _ => iprop(Own d i st (foldN (fun t g => grpN Tb P W v19 v21 v23 ob (q / 16 * 16 + 16 * t) q (hiN q1 q) k g) n g)
    ∗ OwnT d i Tb tb ∗ owns (VT d i) pkb fullShare (chunk P ob (q / 1024)) ∗ owns (VT d i) wb fullShare (chunk W ob (q / 1024)))
  have hbody : ∀ (t : Fin (k0_t4_loop q1w qw).trips) (u : Unit), I t.val u ⊢ wp frame (wpE defs 𝒱 (VT d i) bd) Set.univ
      (group i st tb pkb wb v19 v21 v23 (k0_off12 q1w qw t) (k0_off12_inb q1w qw h3 t)
        (Scalar.addi (Scalar.muli (fl qw) 1024#32) (Scalar.addi (bsW qw) (Scalar.muli (Scf.iv 0#32 1#32 t) 16#32))) qw (hiW q1w qw) (Scalar.muli kw 64#32)) (I (t.val + 1)) := by
    intro t u
    have ht : t.val < cntN q1 q := htr ▸ t.isLt
    have ht64 : t.val < 64 := by unfold cntN hiN at ht; omega
    obtain ⟨e12, hn⟩ := hoff t
    have iv : IsInt (Scf.iv 0#32 1#32 t.val) (t.val : ℤ) := Affine.iv (lit 0) (lit 1) t.val ⟨by push_cast; omega, by omega, by omega⟩
    have hbs := bs_isInt h1 h (by omega) (by omega) (by omega)
    have a := Affine.addi hbs (Affine.muli iv (lit 16) (e := ((16 * t.val : ℕ) : ℤ)) ⟨by push_cast; omega, by omega, by omega⟩)
      (e := ((q % 1024 / 16 * 16 + 16 * t.val : ℕ) : ℤ)) ⟨by push_cast; omega, by omega, by omega⟩
    have b := Affine.addi (Affine.muli hfl (lit 1024) (e := ((1024 * (q / 1024) : ℕ) : ℤ)) ⟨by push_cast; omega, by omega, by omega⟩) a
      (e := ((q / 16 * 16 + 16 * t.val : ℕ) : ℤ)) ⟨by push_cast; omega, by omega, by omega⟩
    have c64 := Affine.muli hkw (lit 64) (e := ((64 * k : ℕ) : ℤ)) ⟨by push_cast; omega, by omega, by omega⟩
    have eb := Affine.eq_of b (q / 16 * 16 + 16 * t.val) rfl
    have e64 := Affine.eq_of c64 (64 * k) rfl
    have ehi := Affine.eq_of hhi (hiN q1 q) rfl
    have eq' := Affine.eq_of h q rfl
    have e1 := win16_chunk P ob (q / 1024) (q % 1024 / 16 * 16 + 16 * t.val) hn
    have e2 := win16_chunk W ob (q / 1024) (q % 1024 / 16 * 16 + 16 * t.val) hn
    have eo : 1024 * (q / 1024) + (q % 1024 / 16 * 16 + 16 * t.val) = q / 16 * 16 + 16 * t.val := by omega
    rw [eo] at e1 e2
    have hpx : ∀ j, j < 16 → (atN P (ob + (q / 16 * 16 + 16 * t.val) + j)).toNat / 65536 < 4224 := fun j hj => by
      have := hP.pix (q / 16 * 16 + 16 * t.val + j) (by unfold cntN at ht; omega)
      rwa [← Nat.add_assoc] at this
    have hg := inRange (v21 := v21) h19 h23 hpx (ob := ob) (b := q / 16 * 16 + 16 * t.val) (lo := q) (hi := hiN q1 q) (k := k) (by omega) (by omega) (by omega) hk
      (fun x hx hx2 => hw x hx (by omega))
    rw [← e1] at hg
    rw [← eb, ← e64, ← ehi, ← eq'] at hg
    have := wp_group (Ix := HIx 1) (Name := ℕ) (U := UU) (Lvl := ℕ) (defs := defs) 𝒱 bd Set.univ d i Tb st tb pkb wb (chunk P ob (q / 1024)) (chunk W ob (q / 1024)) v19 v21 v23 (k0_off12 q1w qw t) (k0_off12_inb q1w qw h3 t) _ hn e12 _ _ _ _ hg
      (foldN (fun t g => grpN Tb P W v19 v21 v23 ob (q / 16 * 16 + 16 * t) q (hiN q1 q) k g) t.val g)
    unfold groupG at this
    rw [e1, e2] at this
    rw [grp_words P W Tb eb eq' ehi e64] at this
    exact this
  rw [wp_bind]
  iapply (Scf.wp_for frame (wpE defs 𝒱 (VT d i) bd) Set.univ _ _ _ (k0_t4_ok q1w qw h3) ⟨⟩ _ I hbody)
  isplitl [HS HT HP HW]
  · isplitl [HS]; · iexact HS
    isplitl [HT]; · iexact HT
    isplitl [HP]; · iexact HP
    iexact HW
  iintro %_ ⟨HS, HT, HP, HW⟩
  rw [for_rest _ (cntW q1w qw) (t5_loop_eq q1w qw)]
  simp only [Prog.pure_eq_ret, Prog.bind_ret]
  rw [wp_ret]
  imodintro
  isplitr
  · ipureintro; exact ⟨hhi, hfl⟩
  have ee : (k0_t4_loop q1w qw).trips = cntN q1 q := htr
  rw [show Scf.trips (k0_t4_loop q1w qw).lb (k0_t4_loop q1w qw).ub (k0_t4_loop q1w qw).st = cntN q1 q from htr]
  isplitl [HS]; · iexact HS
  isplitl [HT]; · iexact HT
  isplitl [HP HW]
  · unfold Held
    iexists _, _
    isplitr
    rotate_left
    · isplitl [HP]; · iexact HP
      iexact HW
    · ipureintro; intro c hcc
      have : c = q / 1024 := by exact_mod_cast hcc.symm
      subst this; exact ⟨rfl, rfl⟩
  iexact HF

end

end Cert.Kernel.Pool
-- ==== Proof.Window.lean ====
module

public import proofs.«01_k».proof.Proof.PieceWp

@[expose] public section

set_option maxRecDepth 8000

noncomputable section

namespace Cert.Kernel.Pool

open Idealize.ShloMosaic
open Idealize.ShloMosaic.Affine (IsInt)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig (HIx 1) (Elt F) ℕ UU ℕ

/-! # One window: its pieces, the zeroed accumulator, the copy out -/

/-- Pieces of the window from `q0` to `q1`. -/
def pcsN (q0 q1 : ℕ) : ℕ := if q0 < q1 then (q1 - 1) / 1024 - q0 / 1024 + 1 else 0
/-- Position after `n` pieces. -/
def posN (q0 q1 n : ℕ) : ℕ := if n = 0 then q0 else min q1 ((q0 / 1024 + n) * 1024)

section
variable (T : Vec F S101376 .i32) (P : Vec F S2527488 .i32) (W : Vec F S2527488 .f32)
  (v19 : IVec S16 32) (v21 : IVec S16 1) (v23 : IVec S16 32)
/-- Window `k`, entries from `q0` to `q1` of the list at `ob`. -/
def windowG (ob q0 q1 k : ℕ) (g : Vec F S64x96 .f32) : Vec F S64x96 .f32 :=
  foldN (fun n g => pieceG T P W v19 v21 v23 ob q1 (posN q0 q1 n) k g) (pcsN q0 q1) g
end

variable {defs : Defs nD τ sig (Elt F) Λ₀} (𝒱 : Variants) (bd : Option 𝒱.V)
variable (d : Dev nD) (i : grid0.Coords)

theorem pcs_val {q0w q1w : BitVec 32} {q0 q1 : ℕ} (h0 : IsInt q0w (q0 : ℤ)) (h1 : IsInt q1w (q1 : ℤ)) (hb : q1 < 2 ^ 24) (hb0 : q0 < 2 ^ 24) :
    IsInt (pcsW q0w q1w) ((pcsN q0 q1 : ℕ) : ℤ) := by
  unfold pcsN
  by_cases h : q0 < q1
  · rw [if_pos h]
    have := pcs_isInt h1 h0 (by omega) (by omega) (by omega)
    have e : ((q1 : ℤ) - 1) / 1024 - (q0 : ℤ) / 1024 + 1 = (((q1 - 1) / 1024 - q0 / 1024 + 1 : ℕ) : ℤ) := by omega
    rwa [e] at this
  · rw [if_neg h, pcs_zero h1 h0 (by omega)]
    exact lit 0

section
variable (P : Vec F S2527488 .i32) (W : Vec F S2527488 .f32) (Tb : Vec F S101376 .i32)

theorem wp_window (st : Memref sig .scVector .vmem S64x96 .f32) (tb : Memref sig .scVector .vmem S101376 .i32)
    (arg3 : Memref sig .scVector .hbm S2527488 .f32) (arg4 : Memref sig .scVector .hbm S2527488 .i32)
    (pkb : Memref sig .scVector .vmem S1024 .i32) (hpkb : pkb.IsWhole) (wb : Memref sig .scVector .vmem S1024 .f32) (hwb : wb.IsWhole)
    (s2 s3 : DmaSems sig S_) (sh3 sh4 : PosShare TreeShare) {O : CellTallies nD τ sig (HIx 1)}
    {v19 : IVec S16 32} (v21 : IVec S16 1) {v23 : IVec S16 32} (h19 : ∀ x, v19 x = BitVec.ofNat 32 (x 0).val) (h23 : ∀ x, (v23 x).toNat < 8)
    {v33 q1w q0w kw : BitVec 32} {ob q1 q0 k : ℕ} (ho : IsInt v33 (ob : ℤ)) (h1 : IsInt q1w (q1 : ℤ)) (h0 : IsInt q0w (q0 : ℤ))
    (hkw : IsInt kw (k : ℤ)) (hk : k < 1024) (hle : q0 ≤ q1) (hP : TileOK P ob q1) (hw : InWin P ob q0 q1 k)
    {L : Scf.Loop 32} (hL : L = mainLoop (pcsW q0w q1w)) (hok : L.OK) (clw : BitVec 32) (body : Fin L.trips → BitVec 32 × BitVec 32 → PT i F (BitVec 32 × BitVec 32))
    (hb : ∀ t p, ∃ rest, body t p = piece i st tb arg3 arg4 pkb hpkb wb hwb s2 s3 v19 v21 v23 v33 q1w kw rest p) (g : Vec F S64x96 .f32) :
    iprop(Transfers.MayWaits (VT d i) (default : HIx 1) O ∗ Own d i st g ∗ OwnT d i Tb tb ∗ (∃ cl, ⌜IsInt clw cl⌝ ∗ Held d i P W pkb wb ob cl) ∗ Feed d i P W arg3 arg4 s2.sem s3.sem sh3 sh4 O : sProp 𝕄)
      ⊢ wp frame (wpE defs 𝒱 (VT d i) bd) Set.univ (Scf.Loop.for L hok (q0w, clw) body)
        fun r => iprop(⌜IsInt r.1 (q1 : ℤ)⌝
          ∗ Own d i st (windowG Tb P W v19 v21 v23 ob q0 q1 k g) ∗ OwnT d i Tb tb ∗ (∃ cl, ⌜IsInt r.2 cl⌝ ∗ Held d i P W pkb wb ob cl)
          ∗ Feed d i P W arg3 arg4 s2.sem s3.sem sh3 sh4 O) := by
  have hbd := hP.lt
  have htr : L.trips = pcsN q0 q1 := by subst hL; exact mainLoop_trips (pcs_val h0 h1 (by omega) (by omega))
  let I : ℕ → BitVec 32 × BitVec 32 → sProp 𝕄 := fun n r => iprop(Transfers.MayWaits (VT d i) (default : HIx 1) O ∗ ⌜IsInt r.1 (posN q0 q1 n : ℕ)⌝
    ∗ Own d i st (foldN (fun n g => pieceG Tb P W v19 v21 v23 ob q1 (posN q0 q1 n) k g) n g) ∗ OwnT d i Tb tb ∗ (∃ cl, ⌜IsInt r.2 cl⌝ ∗ Held d i P W pkb wb ob cl)
    ∗ Feed d i P W arg3 arg4 s2.sem s3.sem sh3 sh4 O)
  have hbody : ∀ (t : Fin L.trips) (p : BitVec 32 × BitVec 32), I t.val p ⊢ wp frame (wpE defs 𝒱 (VT d i) bd) Set.univ (body t p) (I (t.val + 1)) := by
    rintro t ⟨qw, cw⟩
    obtain ⟨rest, hr⟩ := hb t (qw, cw)
    rw [hr]
    have ht : t.val < pcsN q0 q1 := htr ▸ t.isLt
    have hq : q0 < q1 := by unfold pcsN at ht; by_contra h; rw [if_neg h] at ht; omega
    have ht' : t.val < (q1 - 1) / 1024 - q0 / 1024 + 1 := by unfold pcsN at ht; rwa [if_pos hq] at ht
    have hp : posN q0 q1 t.val < q1 ∧ q0 ≤ posN q0 q1 t.val ∧ hiN q1 (posN q0 q1 t.val) = posN q0 q1 (t.val + 1) := by
      unfold hiN posN
      rw [if_neg (Nat.succ_ne_zero _)]
      by_cases h : t.val = 0
      · rw [if_pos h, h]; exact ⟨hq, le_rfl, rfl⟩
      · rw [if_neg h]; omega
    iintro ⟨#Hmw, %hi, HS, HT, ⟨%cl, %hc, HH⟩, HF⟩
    iapply (wp_wand_r frame (wpE defs 𝒱 (VT d i) bd) Set.univ)
    isplitl [HS HT HH HF]
    · iapply (wp_piece (defs := defs) 𝒱 bd d i P W Tb st tb arg3 arg4 pkb hpkb wb hwb s2 s3 sh3 sh4 v21 h19 h23 ho h1 hi hc hkw hk hp.1 hP
        (fun x hx hx2 => hw x (hp.2.1.trans hx) hx2) rest (foldN (fun n g => pieceG Tb P W v19 v21 v23 ob q1 (posN q0 q1 n) k g) t.val g))
      isplitr; · iexact Hmw
      isplitl [HS]; · iexact HS
      isplitl [HT]; · iexact HT
      isplitl [HH]; · iexact HH
      iexact HF
    iintro %r ⟨%hr, HS, HT, HH, HF⟩
    isplitr; · iexact Hmw
    isplitr
    · ipureintro; rw [← hp.2.2]; exact hr.1
    isplitl [HS]; · iexact HS
    isplitl [HT]; · iexact HT
    isplitl [HH]
    · iexists _
      isplitr
      rotate_left
      · iexact HH
      · ipureintro; exact hr.2
    iexact HF
  iintro ⟨#Hmw, HS, HT, HH, HF⟩
  iapply (Scf.wp_for frame (wpE defs 𝒱 (VT d i) bd) Set.univ _ _ _ hok (q0w, clw) _ I hbody)
  isplitl [HS HT HH HF]
  · isplitr; · iexact Hmw
    isplitr
    · ipureintro; exact h0
    isplitl [HS]; · iexact HS
    isplitl [HT]; · iexact HT
    isplitl [HH]; · iexact HH
    iexact HF
  iintro %r
  rw [show Scf.trips L.lb L.ub L.st = pcsN q0 q1 from htr]
  have hend : posN q0 q1 (pcsN q0 q1) = q1 := by
    unfold posN pcsN
    by_cases h : q0 < q1
    · rw [if_pos h, if_neg (Nat.succ_ne_zero _)]; omega
    · rw [if_neg h, if_pos rfl]; omega
  iintro ⟨-, %hi, HS, HT, HH, HF⟩
  isplitr
  · ipureintro; rw [← hend]; exact hi
  isplitl [HS]; · iexact HS
  isplitl [HT]; · iexact HT
  isplitl [HH]; · iexact HH
  iexact HF

end

/-! ## The zeroed accumulator -/

/-- The zero the accumulator starts from. -/
abbrev z0 : F .f32 := Scalar.ofBits .f32 0x00000000#32

/-- Sixteen channels of a row overwritten with zero. -/
def zput (st : Memref sig .scVector .vmem S64x96 .f32) (off : Fin 2 → ℕ) (inb : ∀ a, off a + S1x16.size a ≤ S64x96.size a) : PT i F PUnit := do
  let _ ← Prog.lift (.load st (Rect.unit (s := S64x96) off S1x16.size inb).toLoadRect (View.loadsAt_vmem h_S1x16))
  Prog.lift (.store st (Rect.unit (s := S64x96) off S1x16.size inb) (shapeCast S1x16 (broadcast S16 (z0 (F := F)) : FVec F S16 .f32) shapeCasts_S16_S1x16) Finset.univ
    (View.stores_vmem_bits_univ h_S1x16 rfl) (.inl rfl))

def zrow (st : Memref sig .scVector .vmem S64x96 .f32) (o0 o1 o2 o3 o4 o5 : Fin 2 → ℕ) (h0 : ∀ a, o0 a + S1x16.size a ≤ S64x96.size a) (h1 : ∀ a, o1 a + S1x16.size a ≤ S64x96.size a)
    (h2 : ∀ a, o2 a + S1x16.size a ≤ S64x96.size a) (h3 : ∀ a, o3 a + S1x16.size a ≤ S64x96.size a) (h4 : ∀ a, o4 a + S1x16.size a ≤ S64x96.size a) (h5 : ∀ a, o5 a + S1x16.size a ≤ S64x96.size a) :
    PT i F PUnit := do
  zput i st o0 h0
  zput i st o1 h1
  zput i st o2 h2
  zput i st o3 h3
  zput i st o4 h4
  zput i st o5 h5
  pure ⟨⟩

/-- Channels from `a` to `b` of row `r` zero. -/
def zr (r a b : ℕ) (g : Vec F S64x96 .f32) : Vec F S64x96 .f32 := fun y => if (y 0).val = r ∧ a ≤ (y 1).val ∧ (y 1).val < b then z0 else g y

theorem wp_zput (st : Memref sig .scVector .vmem S64x96 .f32) (off : Fin 2 → ℕ) (inb) (r c : ℕ) (ho : off = ![r, c]) (g : Vec F S64x96 .f32) :
    (Own d i st g : sProp 𝕄) ⊢ wp frame (wpE defs 𝒱 (VT d i) bd) Set.univ (zput i st off inb) fun _ => Own d i st (zr r c (c + 16) g) := by
  subst ho
  unfold zput
  simp only [Prog.lift, Prog.bind_op, Prog.bind_ret]
  unfold Own
  iintro H
  iapply (wp_ld (defs := defs) 𝒱 bd Set.univ d i st) $$ H
  iintro H
  iapply (wp_st (defs := defs) 𝒱 bd Set.univ d i st) $$ H
  iintro H
  rw [wp_ret]
  imodintro
  have e : VecWindow.put g ![r, c] S1x16.size (shapeCast S1x16 (broadcast S16 (z0 (F := F)) : FVec F S16 .f32) shapeCasts_S16_S1x16 : FVec F S1x16 .f32) = zr r c (c + 16) g := by
    funext y
    unfold VecWindow.put zr
    by_cases h : (y 0).val = r ∧ c ≤ (y 1).val ∧ (y 1).val < c + 16
    · have h' : ∀ a : Fin 2, ((![r, c] : Fin 2 → ℕ) a) ≤ (y a).val ∧ (y a).val < (![r, c] : Fin 2 → ℕ) a + S1x16.size a := by
        intro a; fin_cases a
        · exact ⟨h.1.ge, h.1.le.trans_lt (Nat.lt_succ_self _)⟩
        · exact h.2
      rw [dif_pos h', if_pos h]
      rfl
    · rw [dif_neg, if_neg h]
      intro h'
      have a := h' 0
      have b := h' 1
      exact h ⟨Nat.le_antisymm (Nat.lt_succ_iff.1 a.2) a.1, b⟩
  rw [e]
  iexact H

theorem wp_zrow (st : Memref sig .scVector .vmem S64x96 .f32) {o0 o1 o2 o3 o4 o5 : Fin 2 → ℕ} {h0 h1 h2 h3 h4 h5} (r : ℕ)
    (e0 : o0 = ![r, 0]) (e1 : o1 = ![r, 16]) (e2 : o2 = ![r, 32]) (e3 : o3 = ![r, 48]) (e4 : o4 = ![r, 64]) (e5 : o5 = ![r, 80]) (g : Vec F S64x96 .f32) :
    (Own d i st g : sProp 𝕄) ⊢ wp frame (wpE defs 𝒱 (VT d i) bd) Set.univ (zrow i st o0 o1 o2 o3 o4 o5 h0 h1 h2 h3 h4 h5) fun _ => Own d i st (zr r 0 96 g) := by
  have e : zr r 0 96 g = zr r 80 (80 + 16) (zr r 64 (64 + 16) (zr r 48 (48 + 16) (zr r 32 (32 + 16) (zr r 16 (16 + 16) (zr r 0 (0 + 16) g))))) := by
    funext y
    have hy : (y 1).val < 96 := (y 1).isLt
    unfold zr
    by_cases h : (y 0).val = r
    · simp only [h, true_and]
      repeat' split
      all_goals first | rfl | (exfalso; omega)
    · simp only [h, false_and, if_false]
  unfold zrow
  refine wp_seq 𝒱 bd _ d i (wp_zput 𝒱 bd d i st o0 h0 r 0 e0 g) ?_
  refine wp_seq 𝒱 bd _ d i (wp_zput 𝒱 bd d i st o1 h1 r 16 e1 _) ?_
  refine wp_seq 𝒱 bd _ d i (wp_zput 𝒱 bd d i st o2 h2 r 32 e2 _) ?_
  refine wp_seq 𝒱 bd _ d i (wp_zput 𝒱 bd d i st o3 h3 r 48 e3 _) ?_
  refine wp_seq 𝒱 bd _ d i (wp_zput 𝒱 bd d i st o4 h4 r 64 e4 _) ?_
  refine wp_seq 𝒱 bd _ d i (wp_zput 𝒱 bd d i st o5 h5 r 80 e5 _) ?_
  rw [Prog.pure_eq_ret, wp_ret, e]
  iintro H
  imodintro
  iexact H

theorem zr_all (g : Vec F S64x96 .f32) : foldN (fun r g => zr r 0 96 g) 64 g = fun _ => z0 := by
  have h : ∀ n, foldN (fun r g => zr r 0 96 g) n g = fun y => if (y 0).val < n then z0 else g y := by
    intro n
    induction n with
    | zero => funext y; simp [foldN]
    | succ n ih =>
      funext y
      have hy : (y 1).val < 96 := (y 1).isLt
      show zr n 0 96 (foldN (fun r g => zr r 0 96 g) n g) y = _
      rw [ih]
      unfold zr
      dsimp only
      by_cases h : (y 0).val = n
      · rw [if_pos ⟨h, Nat.zero_le _, hy⟩, if_pos (by omega)]
      · rw [if_neg (fun h' => h h'.1)]
        by_cases h2 : (y 0).val < n
        · rw [if_pos h2, if_pos (by omega)]
        · rw [if_neg h2, if_neg (by omega)]
  rw [h]
  funext y
  exact if_pos (y 0).isLt

/-- A counted loop of 64 rows zeroes the accumulator. -/
theorem wp_zero (st : Memref sig .scVector .vmem S64x96 .f32) {L : Scf.Loop 32} (hok : L.OK) (htr : L.trips = 64) (body : Fin L.trips → Unit → PT i F Unit)
    (hb : ∀ t u (g : Vec F S64x96 .f32), (Own d i st g : sProp 𝕄) ⊢ wp frame (wpE defs 𝒱 (VT d i) bd) Set.univ (body t u) fun _ => Own d i st (zr t.val 0 96 g)) :
    iprop(∃ g, Own d i st g : sProp 𝕄) ⊢ wp frame (wpE defs 𝒱 (VT d i) bd) Set.univ (Scf.Loop.for L hok ⟨⟩ body) fun _ => Own d i st (fun _ => z0) := by
  iintro ⟨%g, H⟩
  iapply (Scf.wp_for frame (wpE defs 𝒱 (VT d i) bd) Set.univ _ _ _ hok ⟨⟩ _ (fun n _ => Own d i st (foldN (fun r g => zr r 0 96 g) n g))
    (fun t u => hb t u (foldN (fun r g => zr r 0 96 g) t.val g)))
  isplitl [H]
  · iexact H
  iintro %_
  rw [show Scf.trips L.lb L.ub L.st = 64 from htr, zr_all]
  iintro H
  iexact H

/-! ## The copy out -/

section
variable (arg6 : Memref sig .scVector .hbm S229376x96 .f32)

/-- Offset of window `k` of the zone at row `z`. -/
abbrev bo (z k : ℕ) : Fin 2 → ℕ := ![z + 64 * k, 0]
theorem bo_inb {z k : ℕ} (hz : z + 7168 ≤ 229376) (hk : k < 112) : ∀ a, bo z k a + S64x96.size a ≤ S229376x96.size a := by
  intro a; fin_cases a
  · show z + 64 * k + 64 ≤ 229376; omega
  · exact le_rfl

/-- Window of the output at `off`. -/
abbrev blk (off : Fin 2 → ℕ) (inb : ∀ a, off a + S64x96.size a ≤ S229376x96.size a) : Memref sig .scVector .hbm S64x96 .f32 :=
  arg6.slice (Rect.unit (s := S229376x96) off S64x96.size inb) (fun _ => rfl)

/-- The copy out under way. -/
def Fly (st : Memref sig .scVector .vmem S64x96 .f32) (sm : DmaSem sig) (off : Fin 2 → ℕ) (inb : ∀ a, off a + S64x96.size a ≤ S229376x96.size a) (g : Vec F S64x96 .f32) : sProp 𝕄 :=
  Transfers.Flight EC (VT d i) (.dma sm) (default : HIx 1) (blk arg6 off inb).view.dmaCredit
    iprop(Own d i st g ∗ owns (VT d i) (blk arg6 off inb) fullShare g)

theorem n6144 : 0 < S64x96.numel := by decide

theorem wp_send {α : Type} {Q : α → sProp 𝕄} (st : Memref sig .scVector .vmem S64x96 .f32) (sm : DmaSem sig) (off : Fin 2 → ℕ) (inb : ∀ a, off a + S64x96.size a ≤ S229376x96.size a) (g : Vec F S64x96 .f32) {hs hd ht}
    {k : PUnit → PT i F α} :
    iprop(Own d i st g ∗ (∃ Y, owns (VT d i) (blk arg6 off inb) fullShare Y) ∗ semVal (VT d i, .dma sm) 0 : sProp 𝕄)
      ⊢ iprop((Fly d i arg6 st sm off inb g -∗ wp frame (wpE defs 𝒱 (VT d i) bd) Set.univ (k ⟨⟩) Q)
        -∗ wp frame (wpE defs 𝒱 (VT d i) bd) Set.univ (.op (.enqueueDma st (.here (blk arg6 off inb)) (.dma sm) hs hd ht) k) Q) := by
  unfold Own owns
  iintro ⟨⟨%f, %hf, Hm⟩, ⟨%Y, %fd, %hfd, Hd⟩, Hs⟩ Hk
  iapply (Transfers.wp_dmaLocal EC 𝒱 (VT d i) bd (src := st) (dst := blk arg6 off inb) (sm := .dma sm) (q := fullShare) (fs := f) (Sd := (blk arg6 off inb).view.set) (fd := fd)
    (default : HIx 1) ((blk arg6 off inb).view.amount (.dma sm)) rfl (View.amount_pos _ _ n6144) subset_rfl) $$ [Hm Hd Hs]
  · isplitl [Hm]
    · iexact Hm
    isplitl [Hd]
    · iexact Hd
    · iexact Hs
  iintro HF
  iapply Hk
  unfold Fly Own owns
  have hw : (blk arg6 off inb).view.read (Elt F) ((blk arg6 off inb).view.write (Elt F) fd (st.view.read (Elt F) f) Finset.univ) = g := by
    rw [View.read_write_univ]; exact hf
  have hj : ∀ w, (blk arg6 off inb).view.read (Elt F) w = g →
      (iprop(((blk arg6 off inb).view.loc (VT d i) ↦[(blk arg6 off inb).view.set]{fullShare} w) ∗ (st.view.loc (VT d i) ↦[st.view.set]{fullShare} f)) : sProp 𝕄)
        ⊢ iprop((∃ f, ⌜st.view.read (Elt F) f = g⌝ ∗ (st.view.loc (VT d i) ↦[st.view.set]{fullShare} f))
          ∗ (∃ f, ⌜(blk arg6 off inb).view.read (Elt F) f = g⌝ ∗ ((blk arg6 off inb).view.loc (VT d i) ↦[(blk arg6 off inb).view.set]{fullShare} f))) := by
    intro w hw
    iintro ⟨Hd, Hm⟩
    isplitl [Hm]
    · iexists f
      isplitr
      · ipureintro; exact hf
      · iexact Hm
    · iexists w
      isplitr
      · ipureintro; exact hw
      · iexact Hd
  iapply (Transfers.Flight_mono EC (VT d i) (hj _ hw))
  iexact HF

theorem wp_land {α : Type} {Q : α → sProp 𝕄} (st : Memref sig .scVector .vmem S64x96 .f32) (sm : DmaSem sig) (off : Fin 2 → ℕ) (inb : ∀ a, off a + S64x96.size a ≤ S229376x96.size a) (g : Vec F S64x96 .f32)
    {k : PUnit → PT i F α} {O : CellTallies nD τ sig (HIx 1)} (off' : Fin 2 → ℕ) (inb' : ∀ a, off' a + S64x96.size a ≤ S229376x96.size a) (ho : off' = off) {hs hd} :
    iprop(Transfers.MayWaits (VT d i) (default : HIx 1) O ∗ Fly d i arg6 st sm off inb g ∗ (∃ Ws, owes (VT d i) O Ws) : sProp 𝕄)
      ⊢ iprop((iprop(Own d i st g ∗ owns (VT d i) (blk arg6 off inb) fullShare g ∗ semVal (VT d i, .dma sm) 0 ∗ (∃ Ws, owes (VT d i) O Ws))
          -∗ wp frame (wpE defs 𝒱 (VT d i) bd) Set.univ (k ⟨⟩) Q)
        -∗ wp frame (wpE defs 𝒱 (VT d i) bd) Set.univ (.op (.waitDma2 sm st (blk arg6 off' inb') hs hd) k) Q) := by
  subst ho
  unfold Fly
  iintro ⟨#Hmw, HF, ⟨%Ws, HO⟩⟩ Hk
  ihave Hw := (Transfers.MayWaits.elim (c := VT d i) (ι := (default : HIx 1)) (O := O) (.dma sm)) $$ Hmw
  iapply (Transfers.wp_waitLocalO EC 𝒱 (VT d i) bd (default : HIx 1) (N := (blk arg6 off' inb).view.dmaCredit) rfl) $$ [HF HO Hw]
  · isplitl [HF]
    · iexact HF
    isplitl [HO]
    · iexact HO
    · iexact Hw
  iintro ⟨⟨Hm, Hd⟩, Hs, HO⟩
  iapply Hk
  isplitl [Hm]; · iexact Hm
  isplitl [Hd]; · iexact Hd
  isplitl [Hs]; · iexact Hs
  iexists _
  iexact HO

end

end Cert.Kernel.Pool
-- ==== Proof.ModelEq.lean ====
module

public import proofs.«01_k».proof.Proof.Model

@[expose] public section

noncomputable section

namespace Cert.Kernel.Pool

open Idealize.ShloMosaic Idealize.SL.Sem
open Cert.Kernel Cert.Kernel.Gen

variable {F : FTy → Type} [FloatOps F]

variable (i : grid0.Coords) (arg2 : Memref sig .scVector .hbm S1622016 .i32) (harg2 : arg2.IsWhole) (arg3 : Memref sig .scVector .hbm S2527488 .f32) (harg3 : arg3.IsWhole) (arg4 : Memref sig .scVector .hbm S2527488 .i32) (harg4 : arg4.IsWhole) (arg5 : Memref sig .scVector .hbm S4096 .i32) (harg5 : arg5.IsWhole) (arg6 : Memref sig .scVector .hbm S229376x96 .f32) (harg6 : arg6.IsWhole) (arg7 : Memref sig .scVector .vmem S101376 .i32) (harg7 : arg7.IsWhole) (arg8 : Memref sig .scVector .vmem S64x96 .f32) (harg8 : arg8.IsWhole) (arg9 : Memref sig .scVector .vmem S64x96 .f32) (harg9 : arg9.IsWhole) (arg10 : Memref sig .scVector .vmem S1024 .i32) (harg10 : arg10.IsWhole) (arg11 : Memref sig .scVector .vmem S1024 .f32) (harg11 : arg11.IsWhole) (arg12 : Memref sig .scVector .vmem S144 .i32) (harg12 : arg12.IsWhole) (arg13 : DmaSems sig S_) (arg14 : DmaSems sig S_) (v46_r0 : DmaSems sig S_) (v46_r1 : DmaSems sig S_) (v209_r2 : DmaSems sig S_) (v209_r3 : DmaSems sig S_) (v209_r4 : DmaSems sig S_) (v209_r5 : DmaSems sig S_) (v209_r6 : DmaSems sig S_) (v209_r7 : DmaSems sig S_) (v209_r8 : DmaSems sig S_) (v209_r9 : DmaSems sig S_)

set_option maxRecDepth 100000 in
set_option maxHeartbeats 0 in
/-- The printed body of a group of the even windows is `group` at the first accumulator. -/
theorem t4_eq (v1 : BitVec 32) (v19 : IVec S16 32) (v21 : IVec S16 1) (v23 : IVec S16 32) (v33 : BitVec 32) (k0_t1 : Fin k0_t1_loop.trips) (arg16 : BitVec 32) (arg17 : BitVec 32) (arg15 : BitVec 32) (v46 : BitVec 32) (v50 : BitVec 32) (k0_hw1 : k0_chk1 arg16 v50) (v55 : BitVec 1) (v73 : BitVec 32) (c1024_i32_27 : BitVec 32) (v74 : BitVec 32) (v79 : BitVec 32) (v81 : BitVec 32) (c0_i32_31 : BitVec 32) (arg19 : BitVec 32) (k0_hw3 : k0_chk3 v50 arg19) (v185 : BitVec 32) (v191 : BitVec 32) (v194 : BitVec 32) (c16_i32_91 : BitVec 32) (c0_i32_92 : BitVec 32) (k0_t4 : Fin (k0_t4_loop v50 arg19).trips) :
    k0_t4_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 k0_t1 arg16 arg17 arg15 v46 v50 k0_hw1 v55 v73 c1024_i32_27 v74 v79 v81 c0_i32_31 arg19 k0_hw3 v185 v191 v194 c16_i32_91 c0_i32_92 k0_t4 ⟨⟩
      = group i arg8 arg7 arg10 arg11 v19 v21 v23 (k0_off12 v50 arg19 k0_t4) (k0_off12_inb v50 arg19 k0_hw3 k0_t4)
          (Scalar.addi (Scalar.muli v185 1024#32) (Scalar.addi v194 (Scalar.muli (Scf.iv c0_i32_92 1#32 k0_t4) c16_i32_91))) arg19 v191 (Scalar.muli v46 64#32) := rfl
-- ==== Proof.PieceA.lean ====
module

public import proofs.«01_k».proof.Proof.ModelEq
public import proofs.«01_k».proof.Proof.Piece

@[expose] public section

noncomputable section

namespace Cert.Kernel.Pool

open Idealize.ShloMosaic Idealize.SL.Sem
open Cert.Kernel Cert.Kernel.Gen

variable {F : FTy → Type} [FloatOps F]

variable (i : grid0.Coords) (arg2 : Memref sig .scVector .hbm S1622016 .i32) (harg2 : arg2.IsWhole) (arg3 : Memref sig .scVector .hbm S2527488 .f32) (harg3 : arg3.IsWhole) (arg4 : Memref sig .scVector .hbm S2527488 .i32) (harg4 : arg4.IsWhole) (arg5 : Memref sig .scVector .hbm S4096 .i32) (harg5 : arg5.IsWhole) (arg6 : Memref sig .scVector .hbm S229376x96 .f32) (harg6 : arg6.IsWhole) (arg7 : Memref sig .scVector .vmem S101376 .i32) (harg7 : arg7.IsWhole) (arg8 : Memref sig .scVector .vmem S64x96 .f32) (harg8 : arg8.IsWhole) (arg9 : Memref sig .scVector .vmem S64x96 .f32) (harg9 : arg9.IsWhole) (arg10 : Memref sig .scVector .vmem S1024 .i32) (harg10 : arg10.IsWhole) (arg11 : Memref sig .scVector .vmem S1024 .f32) (harg11 : arg11.IsWhole) (arg12 : Memref sig .scVector .vmem S144 .i32) (harg12 : arg12.IsWhole) (arg13 : DmaSems sig S_) (arg14 : DmaSems sig S_) (v46_r0 : DmaSems sig S_) (v46_r1 : DmaSems sig S_) (v209_r2 : DmaSems sig S_) (v209_r3 : DmaSems sig S_) (v209_r4 : DmaSems sig S_) (v209_r5 : DmaSems sig S_) (v209_r6 : DmaSems sig S_) (v209_r7 : DmaSems sig S_) (v209_r8 : DmaSems sig S_) (v209_r9 : DmaSems sig S_)

set_option maxRecDepth 100000 in
set_option maxHeartbeats 0 in
/-- The printed body of a piece of the even windows is `piece` at the first accumulator. -/
theorem t3_eq (v1 : BitVec 32) (v19 : IVec S16 32) (v21 : IVec S16 1) (v23 : IVec S16 32) (v33 : BitVec 32) (k0_t1 : Fin k0_t1_loop.trips) (arg16 : BitVec 32) (arg17 : BitVec 32) (arg15 : BitVec 32) (v46 : BitVec 32) (v50 : BitVec 32) (k0_hw1 : k0_chk1 arg16 v50) (v55 : BitVec 1) (v73 : BitVec 32) (c1024_i32_27 : BitVec 32) (v74 : BitVec 32) (v79 : BitVec 32) (v81 : BitVec 32) (c0_i32_31 : BitVec 32) (t : Fin (k0_t3_loop arg16 v50).trips) (p : BitVec 32 × BitVec 32) :
    k0_t3_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 k0_t1 arg16 arg17 arg15 v46 v50 k0_hw1 v55 v73 c1024_i32_27 v74 v79 v81 c0_i32_31 t p
      = piece i arg8 arg7 arg3 arg4 arg10 harg10 arg11 harg11 v209_r2 v209_r3 v19 v21 v23 v33 v50 v46
          (fun arg19 h v185 v191 v194 c16 v205 => k0_t5_body i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 k0_t1 arg16 arg17 arg15 v46 v50 k0_hw1 v55 v73 c1024_i32_27 v74 v79 v81 c0_i32_31 arg19 h v185 v191 v194 c16 v205) p := by
  obtain ⟨arg19, arg20⟩ := p
  have e : ∀ k0_hw3 v185 v191 v194 c16_i32_91 c0_i32_92, k0_t4_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 k0_t1 arg16 arg17 arg15 v46 v50 k0_hw1 v55 v73 c1024_i32_27 v74 v79 v81 c0_i32_31 arg19 k0_hw3 v185 v191 v194 c16_i32_91 c0_i32_92
      = fun t _ => group i arg8 arg7 arg10 arg11 v19 v21 v23 (k0_off12 v50 arg19 t) (k0_off12_inb v50 arg19 k0_hw3 t)
          (Scalar.addi (Scalar.muli v185 1024#32) (Scalar.addi v194 (Scalar.muli (Scf.iv c0_i32_92 1#32 t) c16_i32_91))) arg19 v191 (Scalar.muli v46 64#32) :=
    fun _ _ _ _ _ _ => funext fun _ => funext fun _ => t4_eq ..
  unfold k0_t3_body
  simp only [e]
  rfl

end Cert.Kernel.Pool
-- ==== Proof.ModelEqB.lean ====
module

public import proofs.«01_k».proof.Proof.Model

@[expose] public section

noncomputable section

namespace Cert.Kernel.Pool

open Idealize.ShloMosaic Idealize.SL.Sem
open Cert.Kernel Cert.Kernel.Gen

variable {F : FTy → Type} [FloatOps F]

variable (i : grid0.Coords) (arg2 : Memref sig .scVector .hbm S1622016 .i32) (harg2 : arg2.IsWhole) (arg3 : Memref sig .scVector .hbm S2527488 .f32) (harg3 : arg3.IsWhole) (arg4 : Memref sig .scVector .hbm S2527488 .i32) (harg4 : arg4.IsWhole) (arg5 : Memref sig .scVector .hbm S4096 .i32) (harg5 : arg5.IsWhole) (arg6 : Memref sig .scVector .hbm S229376x96 .f32) (harg6 : arg6.IsWhole) (arg7 : Memref sig .scVector .vmem S101376 .i32) (harg7 : arg7.IsWhole) (arg8 : Memref sig .scVector .vmem S64x96 .f32) (harg8 : arg8.IsWhole) (arg9 : Memref sig .scVector .vmem S64x96 .f32) (harg9 : arg9.IsWhole) (arg10 : Memref sig .scVector .vmem S1024 .i32) (harg10 : arg10.IsWhole) (arg11 : Memref sig .scVector .vmem S1024 .f32) (harg11 : arg11.IsWhole) (arg12 : Memref sig .scVector .vmem S144 .i32) (harg12 : arg12.IsWhole) (arg13 : DmaSems sig S_) (arg14 : DmaSems sig S_) (v46_r0 : DmaSems sig S_) (v46_r1 : DmaSems sig S_) (v209_r2 : DmaSems sig S_) (v209_r3 : DmaSems sig S_) (v209_r4 : DmaSems sig S_) (v209_r5 : DmaSems sig S_) (v209_r6 : DmaSems sig S_) (v209_r7 : DmaSems sig S_) (v209_r8 : DmaSems sig S_) (v209_r9 : DmaSems sig S_)

set_option maxRecDepth 100000 in
set_option maxHeartbeats 0 in
/-- The printed body of a group of the odd windows is `group` at the second accumulator. -/
theorem t11_eq (v19 : IVec S16 32) (v21 : IVec S16 1) (v23 : IVec S16 32) (v108 : BitVec 32) (v112 : BitVec 32) (arg19 : BitVec 32) (k0_hw296 : k0_chk296 v112 arg19) (v185 : BitVec 32) (v191 : BitVec 32) (v194 : BitVec 32) (c16_i32_91 : BitVec 32) (c0_i32_92 : BitVec 32) (k0_t11 : Fin (k0_t11_loop v112 arg19).trips) :
    k0_t11_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v19 v21 v23 v108 v112 arg19 k0_hw296 v185 v191 v194 c16_i32_91 c0_i32_92 k0_t11 ⟨⟩
      = group i arg9 arg7 arg10 arg11 v19 v21 v23 (k0_off347 v112 arg19 k0_t11) (k0_off347_inb v112 arg19 k0_hw296 k0_t11)
          (Scalar.addi (Scalar.muli v185 1024#32) (Scalar.addi v194 (Scalar.muli (Scf.iv c0_i32_92 1#32 k0_t11) c16_i32_91))) arg19 v191 (Scalar.muli v108 64#32) := rfl
-- ==== Proof.PieceB.lean ====
module

public import proofs.«01_k».proof.Proof.ModelEqB
public import proofs.«01_k».proof.Proof.Piece

@[expose] public section

noncomputable section

namespace Cert.Kernel.Pool

open Idealize.ShloMosaic Idealize.SL.Sem
open Cert.Kernel Cert.Kernel.Gen

variable {F : FTy → Type} [FloatOps F]

variable (i : grid0.Coords) (arg2 : Memref sig .scVector .hbm S1622016 .i32) (harg2 : arg2.IsWhole) (arg3 : Memref sig .scVector .hbm S2527488 .f32) (harg3 : arg3.IsWhole) (arg4 : Memref sig .scVector .hbm S2527488 .i32) (harg4 : arg4.IsWhole) (arg5 : Memref sig .scVector .hbm S4096 .i32) (harg5 : arg5.IsWhole) (arg6 : Memref sig .scVector .hbm S229376x96 .f32) (harg6 : arg6.IsWhole) (arg7 : Memref sig .scVector .vmem S101376 .i32) (harg7 : arg7.IsWhole) (arg8 : Memref sig .scVector .vmem S64x96 .f32) (harg8 : arg8.IsWhole) (arg9 : Memref sig .scVector .vmem S64x96 .f32) (harg9 : arg9.IsWhole) (arg10 : Memref sig .scVector .vmem S1024 .i32) (harg10 : arg10.IsWhole) (arg11 : Memref sig .scVector .vmem S1024 .f32) (harg11 : arg11.IsWhole) (arg12 : Memref sig .scVector .vmem S144 .i32) (harg12 : arg12.IsWhole) (arg13 : DmaSems sig S_) (arg14 : DmaSems sig S_) (v46_r0 : DmaSems sig S_) (v46_r1 : DmaSems sig S_) (v209_r2 : DmaSems sig S_) (v209_r3 : DmaSems sig S_) (v209_r4 : DmaSems sig S_) (v209_r5 : DmaSems sig S_) (v209_r6 : DmaSems sig S_) (v209_r7 : DmaSems sig S_) (v209_r8 : DmaSems sig S_) (v209_r9 : DmaSems sig S_)

set_option maxRecDepth 100000 in
set_option maxHeartbeats 0 in
/-- The printed body of a piece of the odd windows is `piece` at the second accumulator. -/
theorem t10_eq (v19 : IVec S16 32) (v21 : IVec S16 1) (v23 : IVec S16 32) (v33 : BitVec 32) (v100_0 : BitVec 32) (v108 : BitVec 32) (v112 : BitVec 32) (k0_hw294 : k0_chk294 v100_0 v112) (c0_i32_69 : BitVec 32) (t : Fin (k0_t10_loop v100_0 v112).trips) (p : BitVec 32 × BitVec 32) :
    k0_t10_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v19 v21 v23 v33 v100_0 v108 v112 k0_hw294 c0_i32_69 t p
      = piece i arg9 arg7 arg3 arg4 arg10 harg10 arg11 harg11 v209_r6 v209_r7 v19 v21 v23 v33 v112 v108
          (fun arg19 h v185 v191 v194 c16 v205 => k0_t12_body i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v19 v21 v23 v108 v112 arg19 h v185 v191 v194 c16 v205) p := by
  obtain ⟨arg19, arg20⟩ := p
  have e : ∀ k0_hw296 v185 v191 v194 c16_i32_91 c0_i32_92, k0_t11_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v19 v21 v23 v108 v112 arg19 k0_hw296 v185 v191 v194 c16_i32_91 c0_i32_92
      = fun t _ => group i arg9 arg7 arg10 arg11 v19 v21 v23 (k0_off347 v112 arg19 t) (k0_off347_inb v112 arg19 k0_hw296 t)
          (Scalar.addi (Scalar.muli v185 1024#32) (Scalar.addi v194 (Scalar.muli (Scf.iv c0_i32_92 1#32 t) c16_i32_91))) arg19 v191 (Scalar.muli v108 64#32) :=
    fun _ _ _ _ _ _ => funext fun _ => funext fun _ => t11_eq ..
  unfold k0_t10_body
  simp only [e]
  rfl

end Cert.Kernel.Pool
-- ==== Proof.Tile.lean ====
module

public import proofs.«01_k».proof.Proof.Window
public import proofs.«01_k».proof.Proof.PieceA
public import proofs.«01_k».proof.Proof.PieceB

@[expose] public section

set_option maxRecDepth 8000

noncomputable section

namespace Cert.Kernel.Pool

open Idealize.ShloMosaic
open Idealize.ShloMosaic.Affine (IsInt)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig (HIx 1) (Elt F) ℕ UU ℕ

/-! # The tile: its windows two at a time -/

/-- The tile's number and the first row of its part of the output. -/
def tno (i : grid0.Coords) : ℕ := 2 * (i 1).val + (i 0).val
def zn (i : grid0.Coords) : ℕ := tno i * 7168
theorem tno_lt (i : grid0.Coords) : tno i < 32 := by
  have h0 : (i 0).val < 2 := (i 0).isLt
  have h1 : (i 1).val < 16 := (i 1).isLt
  unfold tno; omega
theorem zn_le (i : grid0.Coords) : zn i + 7168 ≤ 229376 := by have := tno_lt i; unfold zn; omega

/-- The tile's number as a word. -/
abbrev tw (i : grid0.Coords) : BitVec 32 := Scalar.addi (Scalar.muli (BitVec.ofNat 32 (i 1).val) 2#32) (BitVec.ofNat 32 (i 0).val)
theorem tw_isInt (i : grid0.Coords) : IsInt (tw i) ((tno i : ℕ) : ℤ) := by
  have h0 : (i 0).val < 2 := (i 0).isLt
  have h1 : (i 1).val < 16 := (i 1).isLt
  exact Affine.addi (Affine.muli (lit (i 1).val (by omega)) (lit 2) (e := ((2 * (i 1).val : ℕ) : ℤ)) ⟨by push_cast; omega, by omega, by omega⟩) (lit (i 0).val (by omega))
    ⟨by unfold tno; push_cast; rfl, by omega, by unfold tno; omega⟩

theorem t1_trips : k0_t1_loop.trips = 56 := by decide
theorem t1_lt (t : Fin k0_t1_loop.trips) : t.val < 56 := lt_of_lt_of_eq t.isLt t1_trips

abbrev ivw (t : Fin k0_t1_loop.trips) : BitVec 32 := Scf.iv 0#32 1#32 t
theorem ivw_isInt (t : Fin k0_t1_loop.trips) : IsInt (ivw t) (t.val : ℤ) := by
  have := t1_lt t
  exact Affine.iv (lit 0) (lit 1) t.val ⟨by push_cast; omega, by omega, by omega⟩
theorem ev_isInt (t : Fin k0_t1_loop.trips) : IsInt (Scalar.muli 2#32 (ivw t)) ((2 * t.val : ℕ) : ℤ) := by
  have := t1_lt t
  exact Affine.muli (lit 2) (ivw_isInt t) ⟨by push_cast; omega, by omega, by omega⟩
theorem od_isInt (t : Fin k0_t1_loop.trips) : IsInt (Scalar.addi (Scalar.muli 2#32 (ivw t)) 1#32) ((2 * t.val + 1 : ℕ) : ℤ) := by
  have := t1_lt t
  exact Affine.addi (ev_isInt t) (lit 1) ⟨by push_cast; omega, by omega, by omega⟩

/-- A window's offset from its number. -/
theorem off_of (i : grid0.Coords) {kw : BitVec 32} {k : ℕ} (hk : IsInt kw (k : ℤ)) (hb : k < 112) :
    (![(Scalar.addi (Scalar.muli (tw i) 7168#32) (Scalar.muli kw 64#32)).toNat, 0] : Fin 2 → ℕ) = bo (zn i) k := by
  have := tno_lt i
  have a := Affine.addi (Affine.muli (tw_isInt i) (lit 7168) (e := ((zn i : ℕ) : ℤ)) ⟨by unfold zn; push_cast; rfl, by omega, by unfold zn; omega⟩)
    (Affine.muli hk (lit 64) (e := ((64 * k : ℕ) : ℤ)) ⟨by push_cast; omega, by omega, by omega⟩)
    (e := ((zn i + 64 * k : ℕ) : ℤ)) ⟨by push_cast; rfl, by omega, by unfold zn; omega⟩
  exact congrArg (fun n => (![n, 0] : Fin 2 → ℕ)) (Affine.nat_eq a _ rfl)

theorem off337_eq (i : grid0.Coords) (t : Fin k0_t1_loop.trips) : k0_off337 i t = bo (zn i) (2 * t.val) :=
  off_of i (ev_isInt t) (by have := t1_lt t; omega)
theorem off672_eq (i : grid0.Coords) (t : Fin k0_t1_loop.trips) : k0_off672 i t = bo (zn i) (2 * t.val + 1) :=
  off_of i (od_isInt t) (by have := t1_lt t; omega)
theorem off4_eq (i : grid0.Coords) (t : Fin k0_t1_loop.trips) (h : 2 ≤ 2 * t.val) : k0_off4 i t = bo (zn i) (2 * t.val - 2) := by
  have := t1_lt t
  exact off_of i (Affine.subi (ev_isInt t) (lit 2) (e := ((2 * t.val - 2 : ℕ) : ℤ)) ⟨by omega, by omega, by omega⟩) (by omega)
theorem off339_eq (i : grid0.Coords) (t : Fin k0_t1_loop.trips) (h : 2 ≤ 2 * t.val + 1) : k0_off339 i t = bo (zn i) (2 * t.val + 1 - 2) := by
  have := t1_lt t
  exact off_of i (Affine.subi (od_isInt t) (lit 2) (e := ((2 * t.val + 1 - 2 : ℕ) : ℤ)) ⟨by omega, by omega, by omega⟩) (by omega)
theorem off673_eq (i : grid0.Coords) (c : BitVec 32) (k : ℕ) (hc : c = BitVec.ofNat 32 (64 * k)) (hk : k < 112) : k0_off673 i c = bo (zn i) k := by
  have := tno_lt i
  subst hc
  have a := Affine.addi (Affine.muli (tw_isInt i) (lit 7168) (e := ((zn i : ℕ) : ℤ)) ⟨by unfold zn; push_cast; rfl, by omega, by unfold zn; omega⟩)
    (lit (64 * k) (by omega)) (e := ((zn i + 64 * k : ℕ) : ℤ)) ⟨by push_cast; rfl, by omega, by unfold zn; omega⟩
  exact congrArg (fun n => (![n, 0] : Fin 2 → ℕ)) (Affine.nat_eq a _ rfl)

theorem cond1_iff (t : Fin k0_t1_loop.trips) : k0_cond1 t = 1#1 ↔ 2 ≤ 2 * t.val := by
  have e : k0_cond1 t = Scalar.cmpi .ne (Scalar.extui (Scalar.cmpi .sge (Scalar.muli 2#32 (ivw t)) 2#32)) 0#32 := rfl
  rw [e]
  by_cases h : 2 ≤ 2 * t.val
  · exact ⟨fun _ => h, fun _ => Affine.ne_holds (Affine.extui_holds (Affine.sge_holds (ev_isInt t) (lit 2) (by push_cast; omega)) rfl) (lit 0) (by decide)⟩
  · exact ⟨fun h' => absurd h' (Affine.ne_fails (Affine.extui_fails (Affine.sge_fails (ev_isInt t) (lit 2) (by push_cast; omega)) rfl) (lit 0) rfl), fun h' => absurd h' h⟩
theorem cond4_iff (t : Fin k0_t1_loop.trips) : k0_cond4 t = 1#1 ↔ 2 ≤ 2 * t.val + 1 := by
  have e : k0_cond4 t = Scalar.cmpi .ne (Scalar.extui (Scalar.cmpi .sge (Scalar.addi (Scalar.muli 2#32 (ivw t)) 1#32) 2#32)) 0#32 := rfl
  rw [e]
  by_cases h : 2 ≤ 2 * t.val + 1
  · exact ⟨fun _ => h, fun _ => Affine.ne_holds (Affine.extui_holds (Affine.sge_holds (od_isInt t) (lit 2) (by push_cast; omega)) rfl) (lit 0) (by decide)⟩
  · exact ⟨fun h' => absurd h' (Affine.ne_fails (Affine.extui_fails (Affine.sge_fails (od_isInt t) (lit 2) (by push_cast; omega)) rfl) (lit 0) rfl), fun h' => absurd h' h⟩

theorem off3_eq (t : Fin k0_t1_loop.trips) : k0_off3 t = ![2 * t.val] :=
  congrArg (fun n => (![n] : Fin 1 → ℕ)) (Affine.nat_eq (ev_isInt t) _ rfl)
theorem off338_eq (t : Fin k0_t1_loop.trips) : k0_off338 t = ![2 * t.val + 1] :=
  congrArg (fun n => (![n] : Fin 1 → ℕ)) (Affine.nat_eq (od_isInt t) _ rfl)

/-- The first of sixteen words of the tile's table of ends. -/
theorem meta_lane {M : Vec F S144 .i32} (off : Fin 1 → ℕ) (inb : ∀ a, off a + S16.size a ≤ S144.size a) (n : ℕ) (hn : n < 144) (ho : off = ![n]) :
    extractAt ![0] (k0_pay2194 (F := F) (VecWindow.window M off S16.size inb)) inpos_S1_p0 = M (fun | 0 => ⟨n, hn⟩) := by
  subst ho
  refine congrArg M (funext fun a => Fin.ext ?_)
  fin_cases a
  rfl

variable {defs : Defs nD τ sig (Elt F) Λ₀} (𝒱 : Variants) (bd : Option 𝒱.V)
variable (d : Dev nD) (i : grid0.Coords)

section
variable (arg6 : Memref sig .scVector .hbm S229376x96 .f32) (G : ℕ → Vec F S64x96 .f32)

/-- An accumulator before window `n`: free if no earlier window used it, else its copy out under way. -/
def SInv (st : Memref sig .scVector .vmem S64x96 .f32) (sm : DmaSem sig) (n : ℕ) : sProp 𝕄 :=
  if n < 2 then iprop((∃ g, Own d i st g) ∗ semVal (VT d i, .dma sm) 0) else iprop(∃ h, Fly d i arg6 st sm (bo (zn i) (n - 2)) h (G (n - 2)))

/-- The first `n` windows of the tile's output written. -/
def DoneB : ℕ → sProp 𝕄
  | 0 => iprop(emp)
  | n + 1 => iprop(DoneB n ∗ ∃ h, owns (VT d i) (blk arg6 (bo (zn i) n) h) fullShare (G n))
/-- The last `m` windows of the tile's output as they are. -/
def RawB : ℕ → sProp 𝕄
  | 0 => iprop(emp)
  | m + 1 => iprop((∃ h, ∃ Y : Vec F S64x96 .f32, owns (VT d i) (blk arg6 (bo (zn i) (111 - m)) h) fullShare Y) ∗ RawB m)

theorem DoneB_succ (n : ℕ) : DoneB d i arg6 G (n + 1) = iprop(DoneB d i arg6 G n ∗ ∃ h, owns (VT d i) (blk arg6 (bo (zn i) n) h) fullShare (G n)) := rfl
theorem RawB_succ (m : ℕ) : RawB (F := F) d i arg6 (m + 1)
    = iprop((∃ h, ∃ Y : Vec F S64x96 .f32, owns (VT d i) (blk arg6 (bo (zn i) (111 - m)) h) fullShare Y) ∗ RawB (F := F) d i arg6 m) := rfl

theorem wp_idle (st : Memref sig .scVector .vmem S64x96 .f32) (sm : DmaSem sig) (n : ℕ) (c : BitVec 1) (hc : c = 1#1 ↔ 2 ≤ n) (offP : Fin 2 → ℕ)
    (inbP : c = 1#1 → ∀ a, offP a + S64x96.size a ≤ S229376x96.size a) (ho : 2 ≤ n → offP = bo (zn i) (n - 2)) (hs) (hd : ∀ h, (blk arg6 offP (inbP h)).view.WordExact) {O : CellTallies nD τ sig (HIx 1)} :
    iprop(Transfers.MayWaits (VT d i) (default : HIx 1) O ∗ SInv d i arg6 G st sm n ∗ DoneB d i arg6 G (n - 2) ∗ (∃ Ws, owes (VT d i) O Ws) : sProp 𝕄)
      ⊢ wp frame (wpE defs 𝒱 (VT d i) bd) Set.univ
        (if h : c = 1#1 then (.op (.waitDma2 sm st (blk arg6 offP (inbP h)) hs (hd h)) fun _ => .ret ⟨⟩ : PT i F PUnit) else .ret ⟨⟩)
        fun _ => iprop((∃ g, Own d i st g) ∗ semVal (VT d i, .dma sm) 0 ∗ DoneB d i arg6 G (n - 1) ∗ (∃ Ws, owes (VT d i) O Ws)) := by
  unfold SInv
  by_cases h : c = 1#1
  · have h2 := hc.1 h
    rw [dif_pos h, if_neg (by omega)]
    iintro ⟨#Hmw, ⟨%hi, HF⟩, HD, HO⟩
    iapply (wp_land (defs := defs) 𝒱 bd d i arg6 st sm (bo (zn i) (n - 2)) hi (G (n - 2)) offP (inbP h) (ho h2)) $$ [HF HO]
    · isplitr; · iexact Hmw
      isplitl [HF]; · iexact HF
      iexact HO
    iintro ⟨HS, HB, Hs, HO⟩
    rw [wp_ret]
    imodintro
    isplitl [HS]
    · iexists _; iexact HS
    isplitl [Hs]; · iexact Hs
    isplitl [HD HB]
    · rw [show n - 1 = (n - 2) + 1 by omega, DoneB_succ]
      isplitl [HD]; · iexact HD
      iexists hi
      iexact HB
    iexact HO
  · have h2 : ¬ 2 ≤ n := fun h' => h (hc.2 h')
    rw [dif_neg h, if_pos (by omega)]
    iintro ⟨-, ⟨HS, Hs⟩, HD, HO⟩
    rw [wp_ret]
    imodintro
    isplitl [HS]; · iexact HS
    isplitl [Hs]; · iexact Hs
    isplitl [HD]
    · rw [show n - 1 = n - 2 by omega]
      iexact HD
    iexact HO

theorem wp_emit {α : Type} {Q : α → sProp 𝕄} (st : Memref sig .scVector .vmem S64x96 .f32) (sm : DmaSem sig) (n : ℕ) (hn : n < 112) (off : Fin 2 → ℕ)
    (inb : ∀ a, off a + S64x96.size a ≤ S229376x96.size a) (ho : off = bo (zn i) n) {hs hd ht} {k : PUnit → PT i F α} :
    iprop(Own d i st (G n) ∗ semVal (VT d i, .dma sm) 0 ∗ RawB (F := F) d i arg6 (112 - n) : sProp 𝕄)
      ⊢ iprop((iprop(SInv d i arg6 G st sm (n + 2) ∗ RawB (F := F) d i arg6 (112 - (n + 1))) -∗ wp frame (wpE defs 𝒱 (VT d i) bd) Set.univ (k ⟨⟩) Q)
        -∗ wp frame (wpE defs 𝒱 (VT d i) bd) Set.univ (.op (.enqueueDma st (.here (blk arg6 off inb)) (.dma sm) hs hd ht) k) Q) := by
  subst ho
  rw [show 112 - n = (112 - (n + 1)) + 1 by omega, RawB_succ]
  have e : 111 - (112 - (n + 1)) = n := by omega
  rw [e]
  iintro ⟨HS, Hs, ⟨⟨%hi, %Y, HB⟩, HR⟩⟩ Hk
  iapply (wp_send (defs := defs) 𝒱 bd d i arg6 st sm (bo (zn i) n) inb (G n)) $$ [HS Hs HB]
  · isplitl [HS]; · iexact HS
    isplitl [HB]
    · iexists Y; iexact HB
    iexact Hs
  iintro HF
  iapply Hk
  isplitl [HF]
  · unfold SInv
    rw [if_neg (by omega)]
    iexists inb
    iexact HF
  iexact HR

end

end Cert.Kernel.Pool
-- ==== Proof.Trip.lean ====
module

public import proofs.«01_k».proof.Proof.Tile

@[expose] public section

set_option maxRecDepth 8000

noncomputable section

namespace Cert.Kernel.Pool

open Idealize.ShloMosaic
open Idealize.ShloMosaic.Affine (IsInt)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig (HIx 1) (Elt F) ℕ UU ℕ

/-! # A trip of the tile's loop: two windows -/

/-- What a tile's list and its table of ends must satisfy: window `k` has positions `e k` to `e (k + 1)`. -/
structure TileCtx (P : Vec F S2527488 .i32) (M : Vec F S144 .i32) (ob : ℕ) (e : ℕ → ℕ) : Prop where
  mono : ∀ k, k < 112 → e k ≤ e (k + 1)
  ok : TileOK P ob (e 112)
  win : ∀ k, k < 112 → InWin P ob (e k) (e (k + 1)) k
  ends : ∀ n (h : n < 144), n < 112 → IsInt (M (fun | 0 => ⟨n, h⟩)) (e (n + 1) : ℤ)

theorem TileCtx.le {P : Vec F S2527488 .i32} {M : Vec F S144 .i32} {ob : ℕ} {e : ℕ → ℕ} (h : TileCtx P M ob e) : ∀ k, k ≤ 112 → e k ≤ e 112 := by
  have a : ∀ m, m ≤ 112 → e (112 - m) ≤ e 112 := by
    intro m
    induction m with
    | zero => intro _; exact le_rfl
    | succ m ih =>
      intro hm
      have := h.mono (112 - (m + 1)) (by omega)
      rw [show 112 - (m + 1) + 1 = 112 - m by omega] at this
      exact this.trans (ih (by omega))
  intro k hk
  have := a (112 - k) (by omega)
  rwa [show 112 - (112 - k) = k by omega] at this

theorem TileCtx.tileOK {P : Vec F S2527488 .i32} {M : Vec F S144 .i32} {ob : ℕ} {e : ℕ → ℕ} (h : TileCtx P M ob e) (k : ℕ) (hk : k ≤ 112) : TileOK P ob (e k) where
  al := h.ok.al
  inb c hc := h.ok.inb c (hc.trans_le (h.le k hk))
  lt := (h.le k hk).trans_lt h.ok.lt
  pix n hn := h.ok.pix n (by have := h.le k hk; omega)

/-- The accumulator of window `k`. -/
def winG (T : Vec F S101376 .i32) (P : Vec F S2527488 .i32) (W : Vec F S2527488 .f32) (v19 : IVec S16 32) (v21 : IVec S16 1) (v23 : IVec S16 32) (ob : ℕ) (e : ℕ → ℕ) (k : ℕ) : Vec F S64x96 .f32 :=
  windowG T P W v19 v21 v23 ob (e k) (e (k + 1)) k (fun _ => z0)

variable {defs : Defs nD τ sig (Elt F) Λ₀} (𝒱 : Variants) (bd : Option 𝒱.V)
variable (d : Dev nD) (i : grid0.Coords)
variable (arg2 : Memref sig .scVector .hbm S1622016 .i32) (harg2 : arg2.IsWhole) (arg3 : Memref sig .scVector .hbm S2527488 .f32) (harg3 : arg3.IsWhole) (arg4 : Memref sig .scVector .hbm S2527488 .i32) (harg4 : arg4.IsWhole) (arg5 : Memref sig .scVector .hbm S4096 .i32) (harg5 : arg5.IsWhole) (arg6 : Memref sig .scVector .hbm S229376x96 .f32) (harg6 : arg6.IsWhole) (arg7 : Memref sig .scVector .vmem S101376 .i32) (harg7 : arg7.IsWhole) (arg8 : Memref sig .scVector .vmem S64x96 .f32) (harg8 : arg8.IsWhole) (arg9 : Memref sig .scVector .vmem S64x96 .f32) (harg9 : arg9.IsWhole) (arg10 : Memref sig .scVector .vmem S1024 .i32) (harg10 : arg10.IsWhole) (arg11 : Memref sig .scVector .vmem S1024 .f32) (harg11 : arg11.IsWhole) (arg12 : Memref sig .scVector .vmem S144 .i32) (harg12 : arg12.IsWhole) (arg13 : DmaSems sig S_) (arg14 : DmaSems sig S_) (v46_r0 : DmaSems sig S_) (v46_r1 : DmaSems sig S_) (v209_r2 : DmaSems sig S_) (v209_r3 : DmaSems sig S_) (v209_r4 : DmaSems sig S_) (v209_r5 : DmaSems sig S_) (v209_r6 : DmaSems sig S_) (v209_r7 : DmaSems sig S_) (v209_r8 : DmaSems sig S_) (v209_r9 : DmaSems sig S_)

/-- The conditional wait with its continuation on both branches. -/
theorem wp_idle_k {α : Type} {Q : α → sProp 𝕄} (arg6 : Memref sig .scVector .hbm S229376x96 .f32) (G : ℕ → Vec F S64x96 .f32) (st : Memref sig .scVector .vmem S64x96 .f32) (sm : DmaSem sig) (n : ℕ) (c : BitVec 1) (hc : c = 1#1 ↔ 2 ≤ n) (offP : Fin 2 → ℕ)
    (inbP : c = 1#1 → ∀ a, offP a + S64x96.size a ≤ S229376x96.size a) (ho : 2 ≤ n → offP = bo (zn i) (n - 2)) {hs} {hd : ∀ h, (blk arg6 offP (inbP h)).view.WordExact} {O : CellTallies nD τ sig (HIx 1)} {K : PT i F α} :
    iprop(Transfers.MayWaits (VT d i) (default : HIx 1) O ∗ SInv d i arg6 G st sm n ∗ DoneB d i arg6 G (n - 2) ∗ (∃ Ws, owes (VT d i) O Ws) : sProp 𝕄)
      ⊢ iprop((iprop((∃ g, Own d i st g) ∗ semVal (VT d i, .dma sm) 0 ∗ DoneB d i arg6 G (n - 1) ∗ (∃ Ws, owes (VT d i) O Ws)) -∗ wp frame (wpE defs 𝒱 (VT d i) bd) Set.univ K Q)
        -∗ wp frame (wpE defs 𝒱 (VT d i) bd) Set.univ
        (if h : c = 1#1 then (.op (.waitDma2 sm st (blk arg6 offP (inbP h)) hs (hd h)) fun _ => K) else K) Q) := by
  have e : (if h : c = 1#1 then (.op (.waitDma2 sm st (blk arg6 offP (inbP h)) hs (hd h)) fun _ => K) else K : PT i F α)
      = ((if h : c = 1#1 then (.op (.waitDma2 sm st (blk arg6 offP (inbP h)) hs (hd h)) fun _ => .ret ⟨⟩ : PT i F PUnit) else .ret ⟨⟩) >>= fun _ => K) := by
    split <;> rfl
  rw [e, wp_bind]
  iintro H Hk
  iapply (wp_wand_r frame (wpE defs 𝒱 (VT d i) bd) Set.univ)
  isplitl [H]
  · iapply (wp_idle (defs := defs) 𝒱 bd d i arg6 G st sm n c hc offP inbP ho hs hd)
    iexact H
  iintro %_ H
  iapply Hk
  iexact H

theorem t2_eq (v1 c0 c1 : BitVec 32) (t : Fin k0_t1_loop.trips) (arg16 : BitVec 32) (s : Fin k0_t2_loop.trips) (u : Unit) :
    k0_t2_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 c0 c1 t arg16 s u
      = zrow i arg8 (k0_off5 s) (k0_off6 s) (k0_off7 s) (k0_off8 s) (k0_off9 s) (k0_off10 s) (k0_off5_inb s) (k0_off6_inb s) (k0_off7_inb s) (k0_off8_inb s) (k0_off9_inb s) (k0_off10_inb s) := rfl

theorem t9_eq (v1 : BitVec 32) (v19 : IVec S16 32) (v21 : IVec S16 1) (v23 : IVec S16 32) (v33 : BitVec 32) (k0_t1 : Fin k0_t1_loop.trips) (arg16 : BitVec 32) (arg17 : BitVec 32) (arg15 : BitVec 32) (v46 : BitVec 32) (v50 : BitVec 32) (k0_hw1 : k0_chk1 arg16 v50) (v55 : BitVec 1) (v73 : BitVec 32) (c1024_i32_27 : BitVec 32) (v74 : BitVec 32) (v79 : BitVec 32) (v81 : BitVec 32) (c0_i32_31 : BitVec 32) (s : Fin k0_t9_loop.trips) (u : Unit) :
    k0_t9_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 k0_t1 arg16 arg17 arg15 v46 v50 k0_hw1 v55 v73 c1024_i32_27 v74 v79 v81 c0_i32_31 s u
      = zrow i arg9 (k0_off340 s) (k0_off341 s) (k0_off342 s) (k0_off343 s) (k0_off344 s) (k0_off345 s) (k0_off340_inb s) (k0_off341_inb s) (k0_off342_inb s) (k0_off343_inb s) (k0_off344_inb s) (k0_off345_inb s) := rfl

theorem t2_trips : k0_t2_loop.trips = 64 := by decide
theorem t9_trips : k0_t9_loop.trips = 64 := by decide

/-- The row a trip of a zeroing loop names. -/
theorem zoff (n c : ℕ) (hn : n < 64) : (![(Scalar.addi 0#32 (Scalar.muli (Scf.iv 0#32 1#32 n) 1#32)).toNat, c] : Fin 2 → ℕ) = ![n, c] := by
  have iv : IsInt (Scf.iv 0#32 1#32 n) (n : ℤ) := Affine.iv (lit 0) (lit 1) n ⟨by push_cast; omega, by omega, by omega⟩
  have a := Affine.addi (lit 0) (Affine.muli iv (lit 1) (e := ((n : ℕ) : ℤ)) ⟨by push_cast; omega, by omega, by omega⟩) (e := ((n : ℕ) : ℤ)) ⟨by push_cast; omega, by omega, by omega⟩
  exact congrArg (fun m => (![m, c] : Fin 2 → ℕ)) (Affine.nat_eq a _ rfl)

theorem wp_261 (v1 : BitVec 32) (t : Fin k0_t1_loop.trips) (arg16 : BitVec 32) {P : Vec F S2527488 .i32} {M : Vec F S144 .i32} {ob : ℕ} {e : ℕ → ℕ} (hc : TileCtx P M ob e)
    (h16 : IsInt arg16 (e (2 * t.val) : ℤ)) (G : ℕ → Vec F S64x96 .f32) {O : CellTallies nD τ sig (HIx 1)} :
    iprop(Transfers.MayWaits (VT d i) (default : HIx 1) O ∗ owns (VT d i) arg12 fullShare M ∗ SInv d i arg6 G arg8 arg13.sem (2 * t.val) ∗ DoneB d i arg6 G (2 * t.val - 2)
        ∗ (∃ Ws, owes (VT d i) O Ws) : sProp 𝕄)
      ⊢ wp frame (wpE defs 𝒱 (VT d i) bd) Set.univ (k0_part261 (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 0#32 1#32 t arg16)
        fun r => iprop(⌜r.1 = ivw t ∧ r.2.1 = Scalar.muli 2#32 (ivw t) ∧ IsInt r.2.2.1 (e (2 * t.val + 1) : ℤ)⌝
          ∗ owns (VT d i) arg12 fullShare M ∗ Own d i arg8 (fun _ => z0) ∗ semVal (VT d i, .dma arg13.sem) 0 ∗ DoneB d i arg6 G (2 * t.val - 1) ∗ (∃ Ws, owes (VT d i) O Ws)) := by
  have ht := t1_lt t
  rw [k0_part261_eq_skeleton]
  unfold k0_part261_skel
  simp only [Prog.lift, Prog.bind_op, Prog.bind_ret]
  iintro ⟨#Hmw, HM, HS, HD, HO⟩
  iapply (wp_ld (defs := defs) 𝒱 bd Set.univ d i arg12) $$ HM
  iintro HM
  have hl := meta_lane (M := M) (k0_off3 t) (k0_off3_inb t) (2 * t.val) (by omega) (off3_eq t)
  have hi : IsInt (extractAt ![0] (k0_pay2194 (F := F) (VecWindow.window M (k0_off3 t) S16.size (k0_off3_inb t))) inpos_S1_p0) (e (2 * t.val + 1) : ℤ) :=
    (congrArg (fun z => IsInt z (e (2 * t.val + 1) : ℤ)) hl).mpr (hc.ends (2 * t.val) (by omega) (by omega))
  have hp := pcs_val h16 hi ((hc.le _ (by omega)).trans_lt hc.ok.lt) ((hc.le _ (by omega)).trans_lt hc.ok.lt)
  have hpb : pcsN (e (2 * t.val)) (e (2 * t.val + 1)) < 2 ^ 30 := by
    have := (hc.le (2 * t.val + 1) (by omega)).trans_lt hc.ok.lt
    unfold pcsN; split <;> omega
  have hk : k0_chk1 arg16 (extractAt ![0] (k0_pay2194 (F := F) (VecWindow.window M (k0_off3 t) S16.size (k0_off3_inb t))) inpos_S1_p0) :=
    ⟨by rw [t3_loop_eq]; exact mainLoop_ok hp hpb, by rw [t6_loop_eq]; exact restLoop_ok _⟩
  iapply (wp_as (defs := defs) 𝒱 bd Set.univ d i hk)
  iapply (wp_idle_k (defs := defs) 𝒱 bd d i arg6 G arg8 arg13.sem (2 * t.val) (k0_cond1 t) (cond1_iff t) (k0_off4 i t) (k0_off4_inb i t) (off4_eq i t) (O := O)) $$ [HS HD HO]
  · isplitr; · iexact Hmw
    isplitl [HS]; · iexact HS
    isplitl [HD]; · iexact HD
    iexact HO
  iintro ⟨HS, Hs, HD, HO⟩
  rw [wp_bind]
  iapply (wp_wand_r frame (wpE defs 𝒱 (VT d i) bd) Set.univ)
  isplitl [HS]
  · iapply (wp_zero (defs := defs) 𝒱 bd d i arg8 k0_t2_ok t2_trips _ (fun s u g => by
      have hs : s.val < 64 := lt_of_lt_of_eq s.isLt t2_trips
      rw [t2_eq]
      exact wp_zrow 𝒱 bd d i arg8 s.val (zoff _ 0 hs) (zoff _ 16 hs) (zoff _ 32 hs) (zoff _ 48 hs) (zoff _ 64 hs) (zoff _ 80 hs) g))
    iexact HS
  iintro %_ HS
  simp only [Prog.pure_eq_ret]
  rw [wp_ret]
  imodintro
  isplitr
  · ipureintro; exact ⟨rfl, rfl, hi⟩
  isplitl [HM]; · iexact HM
  isplitl [HS]; · iexact HS
  isplitl [Hs]; · iexact Hs
  isplitl [HD]; · iexact HD
  iexact HO

/-- The staged chunk for the carried chunk number. -/
abbrev HeldE (P : Vec F S2527488 .i32) (W : Vec F S2527488 .f32) (ob : ℕ) (w : BitVec 32) : sProp 𝕄 := iprop(∃ cl, ⌜IsInt w cl⌝ ∗ Held d i P W arg10 arg11 ob cl)

section
variable {P : Vec F S2527488 .i32} {W : Vec F S2527488 .f32} {Tb : Vec F S101376 .i32} {M : Vec F S144 .i32} {ob : ℕ} {e : ℕ → ℕ} (hc : TileCtx P M ob e)
variable {v19 : IVec S16 32} (v21 : IVec S16 1) {v23 : IVec S16 32} (h19 : ∀ x, v19 x = BitVec.ofNat 32 (x 0).val) (h23 : ∀ x, (v23 x).toNat < 8)
variable {v33 : BitVec 32} (ho : IsInt v33 (ob : ℤ)) (sh3 sh4 : PosShare TreeShare) {O : CellTallies nD τ sig (HIx 1)}

include hc h19 h23 ho

theorem wp_262 (v1 : BitVec 32) (k0_t1 : Fin k0_t1_loop.trips) (arg16 : BitVec 32) (arg17 : BitVec 32) (arg15 : BitVec 32) (v46 : BitVec 32) (v50 : BitVec 32) (k0_hw1 : k0_chk1 arg16 v50) (v55 : BitVec 1) (v73 : BitVec 32) (c1024_i32_27 : BitVec 32) (v74 : BitVec 32) (v79 : BitVec 32) (v81 : BitVec 32) (c0_i32_31 : BitVec 32)
    (h16 : IsInt arg16 (e (2 * k0_t1.val) : ℤ)) (h15 : arg15 = ivw k0_t1) (h46 : v46 = Scalar.muli 2#32 (ivw k0_t1)) (h50 : IsInt v50 (e (2 * k0_t1.val + 1) : ℤ)) :
    iprop(Transfers.MayWaits (VT d i) (default : HIx 1) O ∗ owns (VT d i) arg12 fullShare M ∗ Own d i arg8 (fun _ => z0) ∗ semVal (VT d i, .dma arg13.sem) 0
        ∗ DoneB d i arg6 (winG Tb P W v19 v21 v23 ob e) (2 * k0_t1.val - 1) ∗ OwnT d i Tb arg7 ∗ HeldE d i arg10 arg11 P W ob arg17 ∗ Feed d i P W arg3 arg4 v209_r2.sem v209_r3.sem sh3 sh4 O
        ∗ RawB (F := F) d i arg6 (112 - 2 * k0_t1.val) ∗ SInv d i arg6 (winG Tb P W v19 v21 v23 ob e) arg9 arg14.sem (2 * k0_t1.val + 1) : sProp 𝕄)
      ⊢ wp frame (wpE defs 𝒱 (VT d i) bd) Set.univ (k0_part262 (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 k0_t1 arg16 arg17 arg15 v46 v50 k0_hw1 v55 v73 c1024_i32_27 v74 v79 v81 c0_i32_31)
        fun r => iprop(⌜IsInt r.1 (e (2 * k0_t1.val + 1) : ℤ) ∧ IsInt r.2.2.1 ((2 * k0_t1.val + 1 : ℕ) : ℤ) ∧ IsInt r.2.2.2.1 (e (2 * k0_t1.val + 1 + 1) : ℤ)⌝
          ∗ owns (VT d i) arg12 fullShare M ∗ Own d i arg9 (fun _ => z0) ∗ semVal (VT d i, .dma arg14.sem) 0
          ∗ DoneB d i arg6 (winG Tb P W v19 v21 v23 ob e) (2 * k0_t1.val + 1 - 1) ∗ OwnT d i Tb arg7 ∗ HeldE d i arg10 arg11 P W ob r.2.1 ∗ Feed d i P W arg3 arg4 v209_r2.sem v209_r3.sem sh3 sh4 O
          ∗ RawB (F := F) d i arg6 (112 - (2 * k0_t1.val + 1)) ∗ SInv d i arg6 (winG Tb P W v19 v21 v23 ob e) arg8 arg13.sem (2 * k0_t1.val + 2)) := by
  have ht := t1_lt k0_t1
  subst h15 h46
  rw [k0_part262_eq_skeleton]
  unfold k0_part262_skel
  simp only [Prog.lift, Prog.bind_op, Prog.bind_ret]
  iintro ⟨#Hmw, HM, HS, Hs, HD, HT, HH, HF, HR, HS9⟩
  rw [wp_bind]
  iapply (wp_wand_r frame (wpE defs 𝒱 (VT d i) bd) Set.univ)
  isplitl [HS HT HH HF]
  · iapply (wp_window (defs := defs) 𝒱 bd d i P W Tb arg8 arg7 arg3 arg4 arg10 harg10 arg11 harg11 v209_r2 v209_r3 sh3 sh4 v21 h19 h23 ho h50 h16 (ev_isInt k0_t1) (by omega)
      (hc.mono _ (by omega)) (hc.tileOK _ (by omega)) (hc.win _ (by omega)) (t3_loop_eq arg16 v50) (k0_t3_ok arg16 v50 k0_hw1) arg17 _
      (fun t p => ⟨_, t3_eq i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 k0_t1 arg16 arg17 (ivw k0_t1) (Scalar.muli 2#32 (ivw k0_t1)) v50 k0_hw1 v55 v73 c1024_i32_27 v74 v79 v81 c0_i32_31 t p⟩) (fun _ => z0))
    isplitr; · iexact Hmw
    isplitl [HS]; · iexact HS
    isplitl [HT]; · iexact HT
    isplitl [HH]; · iexact HH
    iexact HF
  iintro %r ⟨%hr, HS, HT, HH, HF⟩
  obtain ⟨a, b⟩ := r
  dsimp only
  rw [for_rest _ (pcsW arg16 v50) (t6_loop_eq arg16 v50)]
  simp only [Prog.bind_ret]
  iapply (wp_emit (defs := defs) 𝒱 bd d i arg6 (winG Tb P W v19 v21 v23 ob e) arg8 arg13.sem (2 * k0_t1.val) (by omega) (k0_off337 i k0_t1) (k0_off337_inb i k0_t1) (off337_eq i k0_t1)) $$ [HS Hs HR]
  · isplitl [HS]; · iexact HS
    isplitl [Hs]; · iexact Hs
    iexact HR
  iintro ⟨HS8, HR⟩
  iapply (wp_ld (defs := defs) 𝒱 bd Set.univ d i arg12) $$ HM
  iintro HM
  have hl := meta_lane (M := M) (k0_off338 k0_t1) (k0_off338_inb k0_t1) (2 * k0_t1.val + 1) (by omega) (off338_eq k0_t1)
  have hi : IsInt (extractAt ![0] (k0_pay2233 (F := F) (VecWindow.window M (k0_off338 k0_t1) S16.size (k0_off338_inb k0_t1))) inpos_S1_p0) (e (2 * k0_t1.val + 1 + 1) : ℤ) :=
    (congrArg (fun z => IsInt z (e (2 * k0_t1.val + 1 + 1) : ℤ)) hl).mpr (hc.ends (2 * k0_t1.val + 1) (by omega) (by omega))
  have hp := pcs_val hr hi ((hc.le _ (by omega)).trans_lt hc.ok.lt) ((hc.le _ (by omega)).trans_lt hc.ok.lt)
  have hpb : pcsN (e (2 * k0_t1.val + 1)) (e (2 * k0_t1.val + 1 + 1)) < 2 ^ 30 := by
    have := (hc.le (2 * k0_t1.val + 1 + 1) (by omega)).trans_lt hc.ok.lt
    unfold pcsN; split <;> omega
  have hk : k0_chk294 a (extractAt ![0] (k0_pay2233 (F := F) (VecWindow.window M (k0_off338 k0_t1) S16.size (k0_off338_inb k0_t1))) inpos_S1_p0) :=
    ⟨by rw [t10_loop_eq]; exact mainLoop_ok hp hpb, by rw [t13_loop_eq]; exact restLoop_ok _⟩
  iapply (wp_as (defs := defs) 𝒱 bd Set.univ d i hk)
  unfold Feed
  icases HF with ⟨H3, H4, Hs2, Hs3, HO⟩
  iapply (wp_idle_k (defs := defs) 𝒱 bd d i arg6 (winG Tb P W v19 v21 v23 ob e) arg9 arg14.sem (2 * k0_t1.val + 1) (k0_cond4 k0_t1) (cond4_iff k0_t1) (k0_off339 i k0_t1) (k0_off339_inb i k0_t1) (off339_eq i k0_t1) (O := O)) $$ [HS9 HD HO]
  · isplitr; · iexact Hmw
    isplitl [HS9]; · iexact HS9
    isplitl [HD]; · iexact HD
    iexact HO
  iintro ⟨HS, Hs, HD, HO⟩
  rw [wp_bind]
  iapply (wp_wand_r frame (wpE defs 𝒱 (VT d i) bd) Set.univ)
  isplitl [HS]
  · iapply (wp_zero (defs := defs) 𝒱 bd d i arg9 k0_t9_ok t9_trips _ (fun s u g => by
      have hs : s.val < 64 := lt_of_lt_of_eq s.isLt t9_trips
      rw [t9_eq]
      exact wp_zrow 𝒱 bd d i arg9 s.val (zoff _ 0 hs) (zoff _ 16 hs) (zoff _ 32 hs) (zoff _ 48 hs) (zoff _ 64 hs) (zoff _ 80 hs) g))
    iexact HS
  iintro %_ HS
  simp only [Prog.pure_eq_ret]
  rw [wp_ret]
  imodintro
  isplitr
  · ipureintro; exact ⟨hr, od_isInt k0_t1, hi⟩
  isplitl [HM]; · iexact HM
  isplitl [HS]; · iexact HS
  isplitl [Hs]; · iexact Hs
  isplitl [HD]; · iexact HD
  isplitl [HT]; · iexact HT
  isplitl [HH]; · iexact HH
  isplitl [H3 H4 Hs2 Hs3 HO]
  · isplitl [H3]; · iexact H3
    isplitl [H4]; · iexact H4
    isplitl [Hs2]; · iexact Hs2
    isplitl [Hs3]; · iexact Hs3
    iexact HO
  isplitl [HR]; · iexact HR
  iexact HS8

/-- What the tile holds before trip `n` with the carried position and chunk `p`. -/
def TInv (P : Vec F S2527488 .i32) (W : Vec F S2527488 .f32) (Tb : Vec F S101376 .i32) (M : Vec F S144 .i32) (ob : ℕ) (e : ℕ → ℕ) (v19 : IVec S16 32) (v21 : IVec S16 1) (v23 : IVec S16 32)
    (sh3 sh4 : PosShare TreeShare) (O : CellTallies nD τ sig (HIx 1)) (n : ℕ) (p : BitVec 32 × BitVec 32) : sProp 𝕄 :=
  iprop(⌜IsInt p.1 (e (2 * n) : ℤ)⌝ ∗ Transfers.MayWaits (VT d i) (default : HIx 1) O ∗ owns (VT d i) arg12 fullShare M
    ∗ SInv d i arg6 (winG Tb P W v19 v21 v23 ob e) arg8 arg13.sem (2 * n) ∗ SInv d i arg6 (winG Tb P W v19 v21 v23 ob e) arg9 arg14.sem (2 * n + 1)
    ∗ DoneB d i arg6 (winG Tb P W v19 v21 v23 ob e) (2 * n - 2) ∗ RawB (F := F) d i arg6 (112 - 2 * n) ∗ OwnT d i Tb arg7 ∗ HeldE d i arg10 arg11 P W ob p.2
    ∗ Feed d i P W arg3 arg4 v209_r2.sem v209_r3.sem sh3 sh4 O ∗ semVal (VT d i, .dma v209_r6.sem) 0 ∗ semVal (VT d i, .dma v209_r7.sem) 0)

theorem wp_t1 (v1 : BitVec 32) (t : Fin k0_t1_loop.trips) (p : BitVec 32 × BitVec 32) :
    TInv d i arg3 arg4 arg6 arg7 arg8 arg9 arg10 arg11 arg12 arg13 arg14 v209_r2 v209_r3 v209_r6 v209_r7 P W Tb M ob e v19 v21 v23 sh3 sh4 O t.val p
      ⊢ wp frame (wpE defs 𝒱 (VT d i) bd) Set.univ (k0_t1_body (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 v19 v21 v23 v33 t p)
        (TInv d i arg3 arg4 arg6 arg7 arg8 arg9 arg10 arg11 arg12 arg13 arg14 v209_r2 v209_r3 v209_r6 v209_r7 P W Tb M ob e v19 v21 v23 sh3 sh4 O (t.val + 1)) := by
  have ht := t1_lt t
  obtain ⟨arg16, arg17⟩ := p
  unfold k0_t1_body
  dsimp only
  unfold TInv
  iintro ⟨%h16, #Hmw, HM, HS8, HS9, HD, HR, HT, HH, HF, Hs6, Hs7⟩
  unfold Feed
  icases HF with ⟨H3, H4, Hs2, Hs3, HO⟩
  rw [wp_bind]
  iapply (wp_wand_r frame (wpE defs 𝒱 (VT d i) bd) Set.univ)
  isplitl [HM HS8 HD HO]
  · iapply (wp_261 (defs := defs) 𝒱 bd d i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v1 t arg16 hc h16 (winG Tb P W v19 v21 v23 ob e))
    isplitr; · iexact Hmw
    isplitl [HM]; · iexact HM
    isplitl [HS8]; · iexact HS8
    isplitl [HD]; · iexact HD
    iexact HO
  iintro %r ⟨%hr, HM, HS8, Hs8, HD, HO⟩
  obtain ⟨arg15, v46, v50, k0_hw1, v55, v73, c1024_i32_27, v74, v79, v81, c0_i32_31⟩ := r
  dsimp only at hr ⊢
  rw [wp_bind]
  iapply (wp_wand_r frame (wpE defs 𝒱 (VT d i) bd) Set.univ)
  isplitl [HM HS8 Hs8 HD HT HH H3 H4 Hs2 Hs3 HO HR HS9]
  · iapply (wp_262 (defs := defs) 𝒱 bd d i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 hc v21 h19 h23 ho sh3 sh4 v1 t arg16 arg17 arg15 v46 v50 k0_hw1 v55 v73 c1024_i32_27 v74 v79 v81 c0_i32_31 h16 hr.1 hr.2.1 hr.2.2)
    isplitr; · iexact Hmw
    isplitl [HM]; · iexact HM
    isplitl [HS8]; · iexact HS8
    isplitl [Hs8]; · iexact Hs8
    isplitl [HD]; · iexact HD
    isplitl [HT]; · iexact HT
    isplitl [HH]; · iexact HH
    isplitl [H3 H4 Hs2 Hs3 HO]
    · unfold Feed
      isplitl [H3]; · iexact H3
      isplitl [H4]; · iexact H4
      isplitl [Hs2]; · iexact Hs2
      isplitl [Hs3]; · iexact Hs3
      iexact HO
    isplitl [HR]; · iexact HR
    iexact HS9
  iintro %r ⟨%hr, HM, HS9, Hs9, HD, HT, HH, HF, HR, HS8⟩
  obtain ⟨v100_0, v100_1, v108, v112, k0_hw294, v117⟩ := r
  dsimp only at hr ⊢
  rw [k0_part263_eq_skeleton]
  unfold k0_part263_skel
  simp only [Prog.pure_eq_ret, Prog.bind_ret]
  unfold Feed
  icases HF with ⟨H3, H4, Hs2, Hs3, HO⟩
  rw [wp_bind]
  iapply (wp_wand_r frame (wpE defs 𝒱 (VT d i) bd) Set.univ)
  isplitl [HS9 HT HH H3 H4 Hs6 Hs7 HO]
  · iapply (wp_window (defs := defs) 𝒱 bd d i P W Tb arg9 arg7 arg3 arg4 arg10 harg10 arg11 harg11 v209_r6 v209_r7 sh3 sh4 v21 h19 h23 ho hr.2.2 hr.1 hr.2.1 (by omega)
      (hc.mono _ (by omega)) (hc.tileOK _ (by omega)) (hc.win _ (by omega)) (t10_loop_eq v100_0 v112) (k0_t10_ok v100_0 v112 k0_hw294) v100_1 _
      (fun t p => ⟨_, t10_eq i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 v19 v21 v23 v33 v100_0 v108 v112 k0_hw294 0#32 t p⟩) (fun _ => z0))
    isplitr; · iexact Hmw
    isplitl [HS9]; · iexact HS9
    isplitl [HT]; · iexact HT
    isplitl [HH]; · iexact HH
    unfold Feed
    isplitl [H3]; · iexact H3
    isplitl [H4]; · iexact H4
    isplitl [Hs6]; · iexact Hs6
    isplitl [Hs7]; · iexact Hs7
    iexact HO
  iintro %r ⟨%hq, HS9, HT, HH, HF⟩
  obtain ⟨a, b⟩ := r
  dsimp only at hq ⊢
  rw [for_rest _ (pcsW v100_0 v112) (t13_loop_eq v100_0 v112)]
  simp only [Prog.lift, Prog.bind_op, Prog.bind_ret, Prog.pure_eq_ret]
  iapply (wp_emit (defs := defs) 𝒱 bd d i arg6 (winG Tb P W v19 v21 v23 ob e) arg9 arg14.sem (2 * t.val + 1) (by omega) (k0_off672 i t) (k0_off672_inb i t) (off672_eq i t)) $$ [HS9 Hs9 HR]
  · isplitl [HS9]; · iexact HS9
    isplitl [Hs9]; · iexact Hs9
    iexact HR
  iintro ⟨HS9, HR⟩
  unfold Feed
  icases HF with ⟨H3, H4, Hs6, Hs7, HO⟩
  rw [wp_ret]
  imodintro
  rw [show 2 * (t.val + 1) = 2 * t.val + 1 + 1 by omega]
  isplitr
  · ipureintro; exact hq
  isplitr; · iexact Hmw
  isplitl [HM]; · iexact HM
  isplitl [HS8]; · iexact HS8
  isplitl [HS9]; · iexact HS9
  isplitl [HD]
  · rw [show 2 * t.val + 1 + 1 - 2 = 2 * t.val + 1 - 1 by omega]
    iexact HD
  isplitl [HR]; · iexact HR
  isplitl [HT]; · iexact HT
  isplitl [HH]; · iexact HH
  isplitl [H3 H4 Hs2 Hs3 HO]
  · isplitl [H3]; · iexact H3
    isplitl [H4]; · iexact H4
    isplitl [Hs2]; · iexact Hs2
    isplitl [Hs3]; · iexact Hs3
    iexact HO
  isplitl [Hs6]; · iexact Hs6
  iexact Hs7

end

end Cert.Kernel.Pool
-- ==== Proof.Body.lean ====
module

public import proofs.«01_k».proof.Proof.Trip

@[expose] public section

set_option maxRecDepth 8000

noncomputable section

namespace Cert.Kernel.Pool

open Idealize.ShloMosaic
open Idealize.ShloMosaic.Affine (IsInt)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig (HIx 1) (Elt F) ℕ UU ℕ

/-! # The whole program of one tile -/

variable {defs : Defs nD τ sig (Elt F) Λ₀} (𝒱 : Variants) (bd : Option 𝒱.V)
variable (d : Dev nD) (i : grid0.Coords)

theorem SInv_fly (arg6 : Memref sig .scVector .hbm S229376x96 .f32) (G : ℕ → Vec F S64x96 .f32) (st : Memref sig .scVector .vmem S64x96 .f32) (sm : DmaSem sig) (n : ℕ) (h : 2 ≤ n) :
    SInv d i arg6 G st sm n = iprop(∃ h, Fly d i arg6 st sm (bo (zn i) (n - 2)) h (G (n - 2))) := by
  unfold SInv
  rw [if_neg (by omega)]

theorem n101376 : 0 < S101376.numel := by decide

/-- The tile's part of the table of ends, copied into the first 128 words of the tile's own. -/
theorem wp_copyM {α : Type} {Q : α → sProp 𝕄} (m : Memref sig .scVector .hbm S4096 .i32) (off : Fin 1 → ℕ) (inb : ∀ a, off a + S128.size a ≤ S4096.size a)
    (dst : Memref sig .scVector .vmem S144 .i32) (sm : DmaSem sig) {hs hd ht hs' hd'}
    {k : PUnit → PT i F α} {q : PosShare TreeShare} {X : S4096.Idx → Elt F .i32} {O : CellTallies nD τ sig (HIx 1)} :
    iprop(Transfers.MayWaits (VT d i) (default : HIx 1) O ∗ owns (VT d i) m q X ∗ (∃ Y, owns (VT d i) dst fullShare Y) ∗ semVal (VT d i, .dma sm) 0 ∗ (∃ W, owes (VT d i) O W) : sProp 𝕄)
      ⊢ iprop((iprop(owns (VT d i) m q X
            ∗ (∃ M : Vec F S144 .i32, ⌜∀ x : S128.Idx, M ((Rect.unit (s := S144) ![0] S128.size inb_S144_S128_0).emb x) = X ((Rect.unit (s := S4096) off S128.size inb).emb x)⌝ ∗ owns (VT d i) dst fullShare M)
            ∗ semVal (VT d i, .dma sm) 0 ∗ (∃ W, owes (VT d i) O W))
          -∗ wp frame (wpE defs 𝒱 (VT d i) bd) Set.univ (k ⟨⟩) Q)
        -∗ wp frame (wpE defs 𝒱 (VT d i) bd) Set.univ
          (.op (.enqueueDma (m.slice (Rect.unit (s := S4096) off S128.size inb) (fun _ => rfl)) (.here (dst.slice (Rect.unit (s := S144) ![0] S128.size inb_S144_S128_0) (fun _ => rfl))) (.dma sm) hs hd ht)
            fun _ => .op (.waitDma2 sm (m.slice (Rect.unit (s := S4096) off S128.size inb) (fun _ => rfl)) (dst.slice (Rect.unit (s := S144) ![0] S128.size inb_S144_S128_0) (fun _ => rfl)) hs' hd') k) Q) := by
  unfold owns
  iintro ⟨#Hmw, ⟨%f, %hf, Hm⟩, ⟨%Y, %fd, %hfd, Hd⟩, Hs, ⟨%W, HO⟩⟩ Hk
  have hsub : (m.slice (Rect.unit (s := S4096) off S128.size inb) (fun _ => rfl)).view.set ⊆ m.view.set := View.set_slice_subset _ _
  have hsub' : (dst.slice (Rect.unit (s := S144) ![0] S128.size inb_S144_S128_0) (fun _ => rfl)).view.set ⊆ dst.view.set := View.set_slice_subset _ _
  ihave Hm2 := (pointsTo_split_subset (ℓ := m.view.loc (VT d i)) (q := q) (f := f) hsub).1 $$ Hm
  icases Hm2 with ⟨Hm, Hrest⟩
  iapply (Transfers.wp_dmaLocal EC 𝒱 (VT d i) bd (src := m.slice (Rect.unit (s := S4096) off S128.size inb) (fun _ => rfl)) (dst := dst.slice (Rect.unit (s := S144) ![0] S128.size inb_S144_S128_0) (fun _ => rfl)) (sm := .dma sm) (q := q) (fs := f) (Sd := dst.view.set) (fd := fd)
    (default : HIx 1) ((dst.slice (Rect.unit (s := S144) ![0] S128.size inb_S144_S128_0) (fun _ => rfl)).view.amount (.dma sm)) rfl (View.amount_pos _ _ (by decide)) hsub') $$ [Hm Hd Hs]
  · isplitl [Hm]
    · iexact Hm
    isplitl [Hd]
    · iexact Hd
    · iexact Hs
  iintro HF
  ihave Hw := (Transfers.MayWaits.elim (c := VT d i) (ι := (default : HIx 1)) (O := O) (.dma sm)) $$ Hmw
  iapply (Transfers.wp_waitLocalO EC 𝒱 (VT d i) bd (default : HIx 1) (N := (dst.slice (Rect.unit (s := S144) ![0] S128.size inb_S144_S128_0) (fun _ => rfl)).view.amount (.dma sm)) rfl) $$ [HF HO Hw]
  · isplitl [HF]
    · iexact HF
    isplitl [HO]
    · iexact HO
    · iexact Hw
  iintro ⟨⟨Hd, Hm⟩, Hs, HO⟩
  iapply Hk
  isplitl [Hm Hrest]
  · iexists f
    isplitr
    · ipureintro; exact hf
    iapply (pointsTo_split_subset (ℓ := m.view.loc (VT d i)) (q := q) (f := f) hsub).2
    isplitl [Hm]
    · iexact Hm
    · iexact Hrest
  isplitl [Hd]
  · iexists (dst.view.read (Elt F) ((dst.slice (Rect.unit (s := S144) ![0] S128.size inb_S144_S128_0) (fun _ => rfl)).view.write (Elt F) fd
        (ReadAs.same.apply ((m.slice (Rect.unit (s := S4096) off S128.size inb) (fun _ => rfl)).view.read (Elt F) f)) Finset.univ))
    isplitr
    rotate_left
    · iexists _
      isplitr
      rotate_left
      · iexact Hd
      · ipureintro; rfl
    · ipureintro
      intro x
      have h := congrFun (View.read_write_univ (v := (dst.slice (Rect.unit (s := S144) ![0] S128.size inb_S144_S128_0) (fun _ => rfl)).view) (Val := Elt F) fd
        (ReadAs.same.apply ((m.slice (Rect.unit (s := S4096) off S128.size inb) (fun _ => rfl)).view.read (Elt F) f))) x
      refine Eq.trans h ?_
      subst hf
      rfl
  isplitl [Hs]
  · iexact Hs
  · iexists _
    iexact HO

variable (arg2 : Memref sig .scVector .hbm S1622016 .i32) (harg2 : arg2.IsWhole) (arg3 : Memref sig .scVector .hbm S2527488 .f32) (harg3 : arg3.IsWhole) (arg4 : Memref sig .scVector .hbm S2527488 .i32) (harg4 : arg4.IsWhole) (arg5 : Memref sig .scVector .hbm S4096 .i32) (harg5 : arg5.IsWhole) (arg6 : Memref sig .scVector .hbm S229376x96 .f32) (harg6 : arg6.IsWhole) (arg7 : Memref sig .scVector .vmem S101376 .i32) (harg7 : arg7.IsWhole) (arg8 : Memref sig .scVector .vmem S64x96 .f32) (harg8 : arg8.IsWhole) (arg9 : Memref sig .scVector .vmem S64x96 .f32) (harg9 : arg9.IsWhole) (arg10 : Memref sig .scVector .vmem S1024 .i32) (harg10 : arg10.IsWhole) (arg11 : Memref sig .scVector .vmem S1024 .f32) (harg11 : arg11.IsWhole) (arg12 : Memref sig .scVector .vmem S144 .i32) (harg12 : arg12.IsWhole) (arg13 : DmaSems sig S_) (arg14 : DmaSems sig S_) (v46_r0 : DmaSems sig S_) (v46_r1 : DmaSems sig S_) (v209_r2 : DmaSems sig S_) (v209_r3 : DmaSems sig S_) (v209_r4 : DmaSems sig S_) (v209_r5 : DmaSems sig S_) (v209_r6 : DmaSems sig S_) (v209_r7 : DmaSems sig S_) (v209_r8 : DmaSems sig S_) (v209_r9 : DmaSems sig S_)

/-- What the table of ends says of tile `i`: its ends, and where its list begins. -/
structure MetaOK (X5 : Vec F S4096 .i32) (P : Vec F S2527488 .i32) (ob : ℕ) (e : ℕ → ℕ) : Prop where
  zero : e 0 = 0
  mono : ∀ k, k < 112 → e k ≤ e (k + 1)
  ok : TileOK P ob (e 112)
  win : ∀ k, k < 112 → InWin P ob (e k) (e (k + 1)) k
  ends : ∀ n (h : n < 112), IsInt (X5 (fun | 0 => ⟨tno i * 128 + n, by have := tno_lt i; show tno i * 128 + n < 4096; omega⟩)) (e (n + 1) : ℤ)
  base : IsInt (X5 (fun | 0 => ⟨tno i * 128 + 112, by have := tno_lt i; show tno i * 128 + 112 < 4096; omega⟩)) (ob : ℤ)

theorem off1_eq : k0_off1 i = ![tno i * 128] := by
  have := tno_lt i
  have a := Affine.muli (tw_isInt i) (lit 128) (e := ((tno i * 128 : ℕ) : ℤ)) ⟨by push_cast; rfl, by omega, by omega⟩
  exact congrArg (fun n => (![n] : Fin 1 → ℕ)) (Affine.nat_eq a _ rfl)

theorem meta_at {M : Vec F S144 .i32} {X5 : Vec F S4096 .i32}
    (h : ∀ x : S128.Idx, M ((Rect.unit (s := S144) ![0] S128.size inb_S144_S128_0).emb x) = X5 ((Rect.unit (s := S4096) (k0_off1 i) S128.size (k0_off1_inb i)).emb x))
    (n : ℕ) (hn : n < 128) (h1 : n < 144) (h2 : tno i * 128 + n < 4096) : M (fun | 0 => ⟨n, h1⟩) = X5 (fun | 0 => ⟨tno i * 128 + n, h2⟩) := by
  have := h (fun | 0 => ⟨n, hn⟩)
  refine Eq.trans (congrArg M ?_) (this.trans (congrArg X5 ?_))
  · funext a; refine Fin.ext ?_; fin_cases a; show n = 0 + 1 * n; omega
  · funext a; refine Fin.ext ?_; fin_cases a
    show k0_off1 i 0 + 1 * n = tno i * 128 + n
    rw [off1_eq]; show tno i * 128 + 1 * n = _; omega

theorem MetaOK.ctx {X5 : Vec F S4096 .i32} {P : Vec F S2527488 .i32} {ob : ℕ} {e : ℕ → ℕ} (hm : MetaOK i X5 P ob e) {M : Vec F S144 .i32}
    (h : ∀ x : S128.Idx, M ((Rect.unit (s := S144) ![0] S128.size inb_S144_S128_0).emb x) = X5 ((Rect.unit (s := S4096) (k0_off1 i) S128.size (k0_off1_inb i)).emb x)) :
    TileCtx P M ob e where
  mono := hm.mono
  ok := hm.ok
  win := hm.win
  ends n h1 h2 := by
    have := tno_lt i
    exact (congrArg (fun z => IsInt z (e (n + 1) : ℤ)) (meta_at i h n (by omega) h1 (by omega))).mpr (hm.ends n h2)

/-- Tile `i`'s part of the table of pixels. -/
def tblOf (X2 : Vec F S1622016 .i32) : Vec F S101376 .i32 := fun x => X2 ((Rect.unit (s := S1622016) (k0_off2 i) S101376.size (k0_off2_inb i)).emb x)

/-- Lane numbers, the lower half's mask, the lane numbers modulo eight. -/
abbrev v19c : IVec S16 32 := iota .scVector S16 32 [0] iota_S16_d0_w32_scVector
theorem v19c_eq (x : S16.Idx) : v19c x = BitVec.ofNat 32 (x 0).val := by
  show BitVec.ofNat 32 (0 * 16 + (x 0).val) = _
  rw [Nat.zero_mul, Nat.zero_add]
theorem v23c_lt (x : S16.Idx) : (k0_pay2241 x).toNat < 8 := by
  revert x
  decide

theorem wp_body {X2 : Vec F S1622016 .i32} {W : Vec F S2527488 .f32} {P : Vec F S2527488 .i32} {X5 : Vec F S4096 .i32} {ob : ℕ} {e : ℕ → ℕ} (hm : MetaOK i X5 P ob e)
    (sh2 sh3 sh4 sh5 : PosShare TreeShare) {O : CellTallies nD τ sig (HIx 1)} :
    iprop(Transfers.MayWaits (VT d i) (default : HIx 1) O ∗ owns (VT d i) arg2 sh2 X2 ∗ owns (VT d i) arg3 sh3 W ∗ owns (VT d i) arg4 sh4 P ∗ owns (VT d i) arg5 sh5 X5
        ∗ RawB (F := F) d i arg6 112
        ∗ (∃ Y, owns (VT d i) arg7 fullShare Y) ∗ (∃ Y, owns (VT d i) arg8 fullShare Y) ∗ (∃ Y, owns (VT d i) arg9 fullShare Y)
        ∗ (∃ Y, owns (VT d i) arg10 fullShare Y) ∗ (∃ Y, owns (VT d i) arg11 fullShare Y) ∗ (∃ Y, owns (VT d i) arg12 fullShare Y)
        ∗ semVal (VT d i, .dma arg13.sem) 0 ∗ semVal (VT d i, .dma arg14.sem) 0 ∗ semVal (VT d i, .dma v46_r0.sem) 0 ∗ semVal (VT d i, .dma v46_r1.sem) 0
        ∗ semVal (VT d i, .dma v209_r2.sem) 0 ∗ semVal (VT d i, .dma v209_r3.sem) 0 ∗ semVal (VT d i, .dma v209_r6.sem) 0 ∗ semVal (VT d i, .dma v209_r7.sem) 0
        ∗ (∃ Ws, owes (VT d i) O Ws) : sProp 𝕄)
      ⊢ wp frame (wpE defs 𝒱 (VT d i) bd) Set.univ (cc0_bev_pool (F := F) i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9)
        fun _ => iprop(owns (VT d i) arg2 sh2 X2 ∗ owns (VT d i) arg3 sh3 W ∗ owns (VT d i) arg4 sh4 P ∗ owns (VT d i) arg5 sh5 X5
        ∗ DoneB d i arg6 (winG (tblOf i X2) P W v19c k0_pay2240 k0_pay2241 ob e) 112
        ∗ (∃ Y, owns (VT d i) arg7 fullShare Y) ∗ (∃ Y, owns (VT d i) arg8 fullShare Y) ∗ (∃ Y, owns (VT d i) arg9 fullShare Y)
        ∗ (∃ Y, owns (VT d i) arg10 fullShare Y) ∗ (∃ Y, owns (VT d i) arg11 fullShare Y) ∗ (∃ Y, owns (VT d i) arg12 fullShare Y)
        ∗ semVal (VT d i, .dma arg13.sem) 0 ∗ semVal (VT d i, .dma arg14.sem) 0 ∗ semVal (VT d i, .dma v46_r0.sem) 0 ∗ semVal (VT d i, .dma v46_r1.sem) 0
        ∗ semVal (VT d i, .dma v209_r2.sem) 0 ∗ semVal (VT d i, .dma v209_r3.sem) 0 ∗ semVal (VT d i, .dma v209_r6.sem) 0 ∗ semVal (VT d i, .dma v209_r7.sem) 0
        ∗ (∃ Ws, owes (VT d i) O Ws)) := by
  rw [cc0_bev_pool_eq_skeleton]
  unfold cc0_bev_pool_skel
  rw [k0_part264_eq_skeleton]
  unfold k0_part264_skel
  simp only [Prog.lift, Prog.bind_op, Prog.bind_ret, Prog.pure_eq_ret]
  iintro ⟨#Hmw, H2, H3, H4, H5, HR, H7, H8, H9, H10, H11, H12, S13, S14, S0, S1, S2, S3, S6, S7, HO⟩
  iapply (wp_copyM (defs := defs) 𝒱 bd d i arg5 (k0_off1 i) (k0_off1_inb i) arg12 v46_r0.sem (X := X5) (q := sh5) (O := O)) $$ [H5 H12 S0 HO]
  · isplitr; · iexact Hmw
    isplitl [H5]; · iexact H5
    isplitl [H12]; · iexact H12
    isplitl [S0]; · iexact S0
    iexact HO
  iintro ⟨H5, ⟨%M, %hM, H12⟩, S0, HO⟩
  iapply (wp_copy (defs := defs) 𝒱 bd d i arg2 (Rect.unit (s := S1622016) (k0_off2 i) S101376.size (k0_off2_inb i)) (fun _ => rfl) arg7 v46_r1.sem (X := X2) (q := sh2) (O := O) n101376) $$ [H2 H7 S1 HO]
  · isplitr; · iexact Hmw
    isplitl [H2]; · iexact H2
    isplitl [H7]; · iexact H7
    isplitl [S1]; · iexact S1
    iexact HO
  iintro ⟨H2, H7, S1, HO⟩
  iapply (wp_ld (defs := defs) 𝒱 bd Set.univ d i arg12) $$ H12
  iintro H12
  have hc := MetaOK.ctx i hm hM
  have hl := meta_lane (M := M) ![112] inb_S144_S16_112 112 (by omega) rfl
  have hob : IsInt (extractAt ![0] (k0_pay1 (F := F) (VecWindow.window M ![112] S16.size inb_S144_S16_112)) inpos_S1_p0) (ob : ℤ) :=
    (congrArg (fun z => IsInt z (ob : ℤ)) (hl.trans (meta_at i hM 112 (by omega) (by omega) (by have := tno_lt i; omega)))).mpr hm.base
  rw [wp_bind]
  iapply (Scf.wp_for frame (wpE defs 𝒱 (VT d i) bd) Set.univ _ _ _ k0_t1_ok (0#32, 4294967295#32) _
      (fun n p => TInv d i arg3 arg4 arg6 arg7 arg8 arg9 arg10 arg11 arg12 arg13 arg14 v209_r2 v209_r3 v209_r6 v209_r7 P W (tblOf i X2) M ob e v19c k0_pay2240 k0_pay2241 sh3 sh4 O n p)
      (fun t p => wp_t1 (defs := defs) 𝒱 bd d i arg2 harg2 arg3 harg3 arg4 harg4 arg5 harg5 arg6 harg6 arg7 harg7 arg8 harg8 arg9 harg9 arg10 harg10 arg11 harg11 arg12 harg12 arg13 arg14 v46_r0 v46_r1 v209_r2 v209_r3 v209_r4 v209_r5 v209_r6 v209_r7 v209_r8 v209_r9 hc k0_pay2240 v19c_eq v23c_lt hob sh3 sh4 _ t p))
  isplitl [H3 H4 HR H7 H8 H9 H10 H11 H12 S13 S14 S2 S3 S6 S7 HO]
  · unfold TInv
    isplitr
    · ipureintro
      have h0 : e (2 * 0) = 0 := hm.zero
      show IsInt 0#32 (e (2 * 0) : ℤ)
      rw [h0]
      exact lit 0
    isplitr; · iexact Hmw
    isplitl [H12]; · iexact H12
    isplitl [H8 S13]
    · unfold SInv
      rw [if_pos (by decide)]
      isplitl [H8]; · iexact H8
      iexact S13
    isplitl [H9 S14]
    · unfold SInv
      rw [if_pos (by decide)]
      isplitl [H9]; · iexact H9
      iexact S14
    isplitr
    · rw [show 2 * 0 - 2 = 0 from rfl]
      unfold DoneB
      iempintro
    isplitl [HR]; · iexact HR
    isplitl [H7]; · iexact H7
    isplitl [H10 H11]
    · iexists (-1)
      isplitr
      · ipureintro; show IsInt 4294967295#32 (-1); unfold IsInt; decide
      unfold Held
      icases H10 with ⟨%Y, H10⟩
      icases H11 with ⟨%Z, H11⟩
      iexists Y, Z
      isplitr
      · ipureintro
        intro c hc
        exact absurd hc (by omega)
      isplitl [H10]; · iexact H10
      iexact H11
    isplitl [H3 H4 S2 S3 HO]
    · unfold Feed
      isplitl [H3]; · iexact H3
      isplitl [H4]; · iexact H4
      isplitl [S2]; · iexact S2
      isplitl [S3]; · iexact S3
      iexact HO
    isplitl [S6]; · iexact S6
    iexact S7
  iintro %r
  rw [show Scf.trips k0_t1_loop.lb k0_t1_loop.ub k0_t1_loop.st = 56 from t1_trips]
  unfold TInv Feed
  iintro ⟨-, -, H12, H8, H9, HD, HR, H7, HH, ⟨H3, H4, S2, S3, HO⟩, S6, S7⟩
  ihave H8' := (Entails.of_eq (SInv_fly d i arg6 (winG (tblOf i X2) P W v19c k0_pay2240 k0_pay2241 ob e) arg8 arg13.sem (2 * 56) (by omega))) $$ H8
  ihave H9' := (Entails.of_eq (SInv_fly d i arg6 (winG (tblOf i X2) P W v19c k0_pay2240 k0_pay2241 ob e) arg9 arg14.sem (2 * 56 + 1) (by omega))) $$ H9
  icases H8' with ⟨%h8, H8⟩
  icases H9' with ⟨%h9, H9⟩
  iapply (wp_land (defs := defs) 𝒱 bd d i arg6 arg8 arg13.sem (bo (zn i) (2 * 56 - 2)) h8 (winG (tblOf i X2) P W v19c k0_pay2240 k0_pay2241 ob e (2 * 56 - 2)) (O := O) (k0_off673 i 7040#32) (k0_off673_inb i 0) (off673_eq i 7040#32 110 rfl (by omega))) $$ [H8 HO]
  · isplitr; · iexact Hmw
    isplitl [H8]; · iexact H8
    iexact HO
  iintro ⟨H8, HB1, S13, HO⟩
  iapply (wp_land (defs := defs) 𝒱 bd d i arg6 arg9 arg14.sem (bo (zn i) (2 * 56 + 1 - 2)) h9 (winG (tblOf i X2) P W v19c k0_pay2240 k0_pay2241 ob e (2 * 56 + 1 - 2)) (O := O) (k0_off673 i 7104#32) (k0_off673_inb i 1) (off673_eq i 7104#32 111 rfl (by omega))) $$ [H9 HO]
  · isplitr; · iexact Hmw
    isplitl [H9]; · iexact H9
    iexact HO
  iintro ⟨H9, HB2, S14, HO⟩
  rw [wp_ret]
  imodintro
  isplitl [H2]; · iexact H2
  isplitl [H3]; · iexact H3
  isplitl [H4]; · iexact H4
  isplitl [H5]; · iexact H5
  isplitl [HD HB1 HB2]
  · iapply (Entails.of_eq (DoneB_succ d i arg6 (winG (tblOf i X2) P W v19c k0_pay2240 k0_pay2241 ob e) 111).symm)
    isplitl [HD HB1]
    · iapply (Entails.of_eq (DoneB_succ d i arg6 (winG (tblOf i X2) P W v19c k0_pay2240 k0_pay2241 ob e) 110).symm)
      isplitl [HD]; · iexact HD
      iexists h8
      iexact HB1
    · iexists h9
      iexact HB2
  isplitl [H7]; · iexists _; iexact H7
  isplitl [H8]; · iexists _; iexact H8
  isplitl [H9]; · iexists _; iexact H9
  icases HH with ⟨%cl, -, HH⟩
  unfold Held
  icases HH with ⟨%PB, %WB, -, H10, H11⟩
  isplitl [H10]; · iexists _; iexact H10
  isplitl [H11]; · iexists _; iexact H11
  isplitl [H12]; · iexists _; iexact H12
  isplitl [S13]; · iexact S13
  isplitl [S14]; · iexact S14
  isplitl [S0]; · iexact S0
  isplitl [S1]; · iexact S1
  isplitl [S2]; · iexact S2
  isplitl [S3]; · iexact S3
  isplitl [S6]; · iexact S6
  isplitl [S7]; · iexact S7
  iexact HO

end Cert.Kernel.Pool
-- ==== Proof.Launch.lean ====
module

public import proofs.«01_k».proof.Defs
public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ShareLeaves
public import Idealize.ShloMosaic.Lib.Tactic
public import proofs.«01_k».proof.Proof.Gen.Kernel

@[expose] public section

set_option maxRecDepth 8000

noncomputable section

namespace Cert.Kernel.Pool

open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel Cert.Kernel.Gen

variable {F : FTy → Type}

/-! # The program: thirty-two tiles, and what they leave -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev wLoc (d : Dev nD) : Loc nD τ sig := (SparseCore.T d).loc main_arg1
abbrev pLoc (d : Dev nD) : Loc nD τ sig := (SparseCore.T d).loc main_arg2
abbrev eLoc (d : Dev nD) : Loc nD τ sig := (SparseCore.T d).loc main_arg3
abbrev oLoc (d : Dev nD) : Loc nD τ sig := (SparseCore.T d).loc main_v0

local notation "aV" => (Memref.whole main_arg0_scv : Memref sig Kind.scVector Space.hbm S1622016 EltTy.i32)
local notation "wV" => (Memref.whole main_arg1_scv : Memref sig Kind.scVector Space.hbm S2527488 EltTy.f32)
local notation "pV" => (Memref.whole main_arg2_scv : Memref sig Kind.scVector Space.hbm S2527488 EltTy.i32)
local notation "eV" => (Memref.whole main_arg3_scv : Memref sig Kind.scVector Space.hbm S4096 EltTy.i32)
local notation "oV" => (Memref.whole main_v0_scv : Memref sig Kind.scVector Space.hbm S229376x96 EltTy.f32)

def coordsV (c : Fin (grid0.bound 0)) (s : Fin (grid0.bound 1)) : grid0.Coords :=
  fun | 0 => c | 1 => s | ⟨_ + 2, h⟩ => absurd h (Nat.not_lt.2 (Nat.le_add_left _ _))

/-- The tile on core `p.1`, subcore `p.2`. -/
abbrev co (p : Fin 2 × Fin 16) : grid0.Coords := coordsV p.1 p.2
theorem tno_co (p : Fin 2 × Fin 16) : tno (co p) = 2 * p.2.val + p.1.val := rfl

/-- Block `k` of tile `p`'s part of the output: 64 rows. -/
def bset (p : Fin 2 × Fin 16) (k : Fin 112) : Finset S229376x96.Idx :=
  (Rect.unit (s := S229376x96) (bo (zn (co p)) k.val) S64x96.size (bo_inb (zn_le (co p)) k.isLt)).set

theorem mem_bset (p : Fin 2 × Fin 16) (k : Fin 112) (x : S229376x96.Idx) : x ∈ bset p k ↔ zn (co p) + 64 * k.val ≤ (x 0).val ∧ (x 0).val < zn (co p) + 64 * k.val + 64 := by
  unfold bset
  rw [Rect.mem_set_unit]
  have h1 : (x 1).val < 96 := (x 1).isLt
  constructor
  · intro h
    exact h 0
  · intro h a
    fin_cases a
    · exact h
    · exact ⟨Nat.zero_le _, (show (x 1).val < 0 + 96 by omega)⟩

/-- The tile's ends and list base, read off the table of ends. -/
def obOf (X : Vec F S4096 .i32) (p : Fin 2 × Fin 16) : ℕ := (X (fun | 0 => ⟨tno (co p) * 128 + 112, by have := tno_lt (co p); show _ < 4096; omega⟩) : BitVec 32).toNat
def eOf (X : Vec F S4096 .i32) (p : Fin 2 × Fin 16) : ℕ → ℕ
  | 0 => 0
  | n + 1 => if h : n < 112 then (X (fun | 0 => ⟨tno (co p) * 128 + n, by have := tno_lt (co p); show _ < 4096; omega⟩) : BitVec 32).toNat else 0

/-- What the proof asks of the arguments. -/
def PreOK : Prop := ∀ (d : Dev nD) (p : Fin 2 × Fin 16), MetaOK (F := F) (co p) (m (eLoc d)) (m (pLoc d)) (obOf (m (eLoc d)) p) (eOf (m (eLoc d)) p)

variable [FloatOps F]

theorem tile_lt (x : S229376x96.Idx) : (x 0).val / 7168 < 32 := by
  have : (x 0).val < 229376 := (x 0).isLt
  omega

/-- The tile a row of the output belongs to. -/
def tileOf (x : S229376x96.Idx) : Fin 2 × Fin 16 := (⟨(x 0).val / 7168 % 2, by omega⟩, ⟨(x 0).val / 7168 / 2, by have := tile_lt x; omega⟩)

/-- A window of a tile, from the program's arguments. -/
def winOf (A : Vec F S1622016 .i32) (W : Vec F S2527488 .f32) (P : Vec F S2527488 .i32) (X : Vec F S4096 .i32) (p : Fin 2 × Fin 16) (k : ℕ) : Vec F S64x96 .f32 :=
  winG (tblOf (co p) A) P W v19c k0_pay2240 k0_pay2241 (obOf X p) (eOf X p) k

/-- The output, from the program's arguments. -/
def outOf (A : Vec F S1622016 .i32) (W : Vec F S2527488 .f32) (P : Vec F S2527488 .i32) (X : Vec F S4096 .i32) : Vec F S229376x96 .f32 := fun x =>
  winOf A W P X (tileOf x) ((x 0).val % 7168 / 64) (fun | 0 => ⟨(x 0).val % 64, Nat.mod_lt _ (by decide)⟩ | 1 => ⟨(x 1).val, (x 1).isLt⟩)

abbrev OUT (d : Dev nD) : Buf (Elt F) (oLoc d) := outOf (m (aLoc d)) (m (wLoc d)) (m (pLoc d)) (m (eLoc d))

theorem outOf_blk (A : Vec F S1622016 .i32) (W : Vec F S2527488 .f32) (P : Vec F S2527488 .i32) (X : Vec F S4096 .i32) (p : Fin 2 × Fin 16) (k : Fin 112)
    (inb : ∀ a, bo (zn (co p)) k.val a + S64x96.size a ≤ S229376x96.size a) (y : S64x96.Idx) :
    outOf A W P X ((Rect.unit (s := S229376x96) (bo (zn (co p)) k.val) S64x96.size inb).emb y) = winOf A W P X p k.val y := by
  have hk := k.isLt
  have h0 : (y 0).val < 64 := (y 0).isLt
  have hp1 := p.1.isLt
  have hp2 := p.2.isLt
  have hx0 : (((Rect.unit (s := S229376x96) (bo (zn (co p)) k.val) S64x96.size inb).emb y) 0).val = zn (co p) + 64 * k.val + (y 0).val := by
    show zn (co p) + 64 * k.val + 1 * (y 0).val = _
    omega
  have hx1 : (((Rect.unit (s := S229376x96) (bo (zn (co p)) k.val) S64x96.size inb).emb y) 1).val = (y 1).val := by
    show 0 + 1 * (y 1).val = _
    omega
  generalize (Rect.unit (s := S229376x96) (bo (zn (co p)) k.val) S64x96.size inb).emb y = x at hx0 hx1
  have hz : zn (co p) = (2 * p.2.val + p.1.val) * 7168 := rfl
  have e1 : tileOf x = p := by
    refine Prod.ext (Fin.ext ?_) (Fin.ext ?_)
    · show (x 0).val / 7168 % 2 = p.1.val; omega
    · show (x 0).val / 7168 / 2 = p.2.val; omega
  have e2 : (x 0).val % 7168 / 64 = k.val := by omega
  have e3 : (x 0).val % 64 = (y 0).val := by omega
  unfold outOf
  rw [e1, e2]
  refine congrArg (winOf A W P X p k.val) (funext fun a => ?_)
  match a with
  | 0 => exact Fin.ext e3
  | 1 => exact Fin.ext hx1

/-! ## What the handshakes carry -/

abbrev sq (p : Fin 2 × Fin 16) : PosShare TreeShare := ShareLeaves.leaf 4 (ShareLeaves.leaf 1 fullShare p.1) p.2

/-- The arguments at a share. -/
def args (d : Dev nD) (q : PosShare TreeShare) : sProp 𝕄 :=
  iprop((aLoc d ↦{q} m (aLoc d)) ∗ (wLoc d ↦{q} m (wLoc d)) ∗ (pLoc d ↦{q} m (pLoc d)) ∗ (eLoc d ↦{q} m (eLoc d)))
/-- A tile's blocks of the output at `f`. -/
def blks (d : Dev nD) (p : Fin 2 × Fin 16) (f : Buf (Elt F) (oLoc d)) : sProp 𝕄 := bigSep Finset.univ fun k : Fin 112 => oLoc d ↦[bset p k]{fullShare} f

instance args_storable (d : Dev nD) (q : PosShare TreeShare) : BI.Storable (upEmb : UEmb _ 𝕄) (args m d q) := by unfold args; infer_instance
instance blks_storable (d : Dev nD) (p : Fin 2 × Fin 16) (f : Buf (Elt F) (oLoc d)) : BI.Storable (upEmb : UEmb _ 𝕄) (blks d p f) := by unfold blks; infer_instance

abbrev cc (c : Fin ((K (F := F)).nCore 0)) : Fin 2 := Fin.cast nCore_zero c
abbrev ss (i : Fin ((K (F := F)).nSub 0)) : Fin 16 := Fin.cast nSub_zero i

def P : (K (F := F)).Pay (nD := nD) (Val := Elt F) (Name := ℕ) (U := UU) where
  st := fun q d c => match q with | 0 => iprop(args m d (ShareLeaves.leaf 1 fullShare (cc c)) ∗ bigSep Finset.univ fun i : Fin 16 => blks d (cc c, i) (m (oLoc d)))
  dn := fun q d c => match q with | 0 => iprop(args m d (ShareLeaves.leaf 1 fullShare (cc c)) ∗ bigSep Finset.univ fun i : Fin 16 => blks d (cc c, i) (OUT m d))
  go := fun q d c i => match q with | 0 => iprop(args m d (sq (cc c, ss i)) ∗ blks d (cc c, ss i) (m (oLoc d)))
  td := fun q d c i => match q with | 0 => iprop(args m d (sq (cc c, ss i)) ∗ blks d (cc c, ss i) (OUT m d))
  x := fun _ _ => iprop(emp)

instance P_storable : (P (F := F) m).IsStorable where
  st q d c := match q with | 0 => (inferInstance : BI.Storable (upEmb : UEmb _ 𝕄) iprop(args m d (ShareLeaves.leaf 1 fullShare (cc c)) ∗ bigSep Finset.univ fun i : Fin 16 => blks d (cc c, i) (m (oLoc d))))
  dn q d c := match q with | 0 => (inferInstance : BI.Storable (upEmb : UEmb _ 𝕄) iprop(args m d (ShareLeaves.leaf 1 fullShare (cc c)) ∗ bigSep Finset.univ fun i : Fin 16 => blks d (cc c, i) (OUT m d)))
  go q d c i := match q with | 0 => (inferInstance : BI.Storable (upEmb : UEmb _ 𝕄) iprop(args m d (sq (cc c, ss i)) ∗ blks d (cc c, ss i) (m (oLoc d))))
  td q d c i := match q with | 0 => (inferInstance : BI.Storable (upEmb : UEmb _ 𝕄) iprop(args m d (sq (cc c, ss i)) ∗ blks d (cc c, ss i) (OUT m d)))

/-! ## The blocks as the tile holds them -/

theorem blk_set (p : Fin 2 × Fin 16) (k : Fin 112) (inb) : (blk oV (bo (zn (co p)) k.val) inb).view.set = bset p k := by
  show ((View.whole (main_v0_scv : Ref sig .scVector)).slice (Rect.unit (s := S229376x96) (bo (zn (co p)) k.val) S64x96.size inb)).set = _
  rw [View.set_slice]
  exact Finset.map_refl

theorem insert_from (m : ℕ) (hm : m < 112) : (Finset.univ.filter fun k : Fin 112 => 112 - (m + 1) ≤ k.val) = insert ⟨111 - m, by omega⟩ (Finset.univ.filter fun k : Fin 112 => 112 - m ≤ k.val) := by
  ext k
  simp only [Finset.mem_filter, Finset.mem_univ, true_and, Finset.mem_insert, Fin.ext_iff]
  omega
theorem insert_to (n : ℕ) (hn : n < 112) : (Finset.univ.filter fun k : Fin 112 => k.val < n + 1) = insert ⟨n, hn⟩ (Finset.univ.filter fun k : Fin 112 => k.val < n) := by
  ext k
  simp only [Finset.mem_filter, Finset.mem_univ, true_and, Finset.mem_insert, Fin.ext_iff]
  omega

theorem raw_of (d : Dev nD) (p : Fin 2 × Fin 16) (f : Buf (Elt F) (oLoc d)) : ∀ n, n ≤ 112 →
    ((bigSep (Finset.univ.filter fun k : Fin 112 => 112 - n ≤ k.val) fun k => oLoc d ↦[bset p k]{fullShare} f) ⊢ (RawB (F := F) d (co p) oV n : sProp 𝕄))
  | 0, _ => by
    rw [show (Finset.univ.filter fun k : Fin 112 => 112 - 0 ≤ k.val) = ∅ by ext k; have := k.isLt; simp, bigSep_empty]
    exact BI.Entails.refl _
  | n + 1, h => by
    rw [insert_from n (by omega), SparseCore.bigSep_insert' (by simp only [Finset.mem_filter]; omega), RawB_succ]
    have ih := raw_of d p f n (by omega)
    iintro ⟨H, Hr⟩
    isplitl [H]
    · iexists (bo_inb (zn_le (co p)) (show 111 - n < 112 by omega))
      iexists _
      unfold owns
      iexists f
      isplitr
      · ipureintro; rfl
      rw [blk_set p ⟨111 - n, by omega⟩]
      iexact H
    · iapply ih
      iexact Hr

theorem done_to (d : Dev nD) (p : Fin 2 × Fin 16) : ∀ n, n ≤ 112 →
    ((DoneB d (co p) oV (winOf (m (aLoc d)) (m (wLoc d)) (m (pLoc d)) (m (eLoc d)) p) n : sProp 𝕄) ⊢ bigSep (Finset.univ.filter fun k : Fin 112 => k.val < n) fun k => oLoc d ↦[bset p k]{fullShare} OUT m d)
  | 0, _ => by
    rw [show (Finset.univ.filter fun k : Fin 112 => k.val < 0) = ∅ by ext k; simp, bigSep_empty]
    exact BI.Entails.refl _
  | n + 1, h => by
    rw [insert_to n (by omega), SparseCore.bigSep_insert' (by simp), DoneB_succ]
    have ih := done_to d p n (by omega)
    unfold owns
    iintro ⟨Hr, ⟨%inb, ⟨%f, %hf, H⟩⟩⟩
    isplitl [H]
    · have e : ((blk oV (bo (zn (co p)) n) inb).view.loc (VT d (co p)) ↦[(blk oV (bo (zn (co p)) n) inb).view.set]{fullShare} f : sProp 𝕄)
          = oLoc d ↦[bset p ⟨n, by omega⟩]{fullShare} OUT m d := by
        refine (congrArg (fun S => (oLoc d ↦[S]{fullShare} f : sProp 𝕄)) (blk_set p ⟨n, by omega⟩ inb)).trans ?_
        refine pointsTo_congr fun x hx => ?_
        replace hx : x ∈ (blk oV (bo (zn (co p)) n) inb).view.set := (blk_set p ⟨n, by omega⟩ inb).symm ▸ hx
        obtain ⟨y, -, rfl⟩ := Finset.mem_map.mp hx
        have h1 : f ((blk oV (bo (zn (co p)) n) inb).view.emb y) = (blk oV (bo (zn (co p)) n) inb).view.read (Elt F) f y := rfl
        rw [h1, hf]
        exact (outOf_blk _ _ _ _ p ⟨n, by omega⟩ inb y).symm
      ihave H' := (Entails.of_eq e) $$ H
      iexact H'
    · iapply ih
      iexact Hr

theorem raw_blks (d : Dev nD) (p : Fin 2 × Fin 16) (f : Buf (Elt F) (oLoc d)) : blks d p f ⊢ (RawB (F := F) d (co p) oV 112 : sProp 𝕄) := by
  have h := raw_of d p f 112 le_rfl
  rwa [show (Finset.univ.filter fun k : Fin 112 => 112 - 112 ≤ k.val) = Finset.univ by ext k; simp] at h
theorem done_blks (d : Dev nD) (p : Fin 2 × Fin 16) : (DoneB d (co p) oV (winOf (m (aLoc d)) (m (wLoc d)) (m (pLoc d)) (m (eLoc d)) p) 112 : sProp 𝕄) ⊢ blks d p (OUT m d) := by
  have h := done_to m d p 112 le_rfl
  rwa [show (Finset.univ.filter fun k : Fin 112 => k.val < 112) = Finset.univ by ext k; simp] at h

/-! ## A tile's own buffers and semaphores -/

def scr : Fin 6 → Ref sig .scVector := ![cc0_scratch0, cc0_scratch1, cc0_scratch2, cc0_scratch3, cc0_scratch4, cc0_scratch5]

abbrev csem (k : Nat) (hk : k < 12 := by decide) : DmaSem sig := ⟨k, hk⟩
abbrev dcell (d : Dev nD) (i : grid0.Coords) (k : Fin 12) : GSem nD τ sig := (VT d i, .dma (csem k.val k.isLt))

theorem dcell_mem (d : Dev nD) (i : grid0.Coords) (k : Fin 12) : dcell d i k ∈ ownCells (VT d i) :=
  mem_ownCells.mpr ⟨rfl, (show ∀ s : DmaSem sig, (SemLoc.dma s : SemLoc sig).isScoped .scVector = true by decide) _⟩

theorem ownSems0_V (d : Dev nD) (i : grid0.Coords) :
    (ownSems0 (VT d i) : sProp 𝕄)
      = iprop((bigSep Finset.univ fun k : Fin 12 => semVal (dcell d i k) 0)
          ∗ bigSep ((ownCells (VT d i)) \ Finset.univ.image (dcell d i)) fun g => semVal g 0) := by
  unfold SparseCore.Cfg.ownSems0
  rw [SparseCore.bigSep_sdiff_split' (t := Finset.univ.image (dcell d i))
      (Finset.image_subset_iff.mpr fun k _ => dcell_mem d i k),
    SparseCore.bigSep_image_of_injOn (fun a _ b _ h => by
      have := congrArg (fun g : GSem nD τ sig => g.2) h
      simp only [SemLoc.dma.injEq, Fin.mk.injEq] at this; exact Fin.ext this)]

theorem sems_split (d : Dev nD) (i : grid0.Coords) :
    (bigSep Finset.univ fun k : Fin 12 => (semVal (dcell d i k) 0 : sProp 𝕄))
      = iprop(semVal (VT d i, SemLoc.dma (csem 0)) 0 ∗ semVal (VT d i, SemLoc.dma (csem 1)) 0 ∗ semVal (VT d i, SemLoc.dma (csem 2)) 0 ∗ semVal (VT d i, SemLoc.dma (csem 3)) 0
        ∗ semVal (VT d i, SemLoc.dma (csem 4)) 0 ∗ semVal (VT d i, SemLoc.dma (csem 5)) 0 ∗ semVal (VT d i, SemLoc.dma (csem 6)) 0 ∗ semVal (VT d i, SemLoc.dma (csem 7)) 0
        ∗ semVal (VT d i, SemLoc.dma (csem 8)) 0 ∗ semVal (VT d i, SemLoc.dma (csem 9)) 0 ∗ semVal (VT d i, SemLoc.dma (csem 10)) 0 ∗ semVal (VT d i, SemLoc.dma (csem 11)) 0) := by
  rw [show (Finset.univ : Finset (Fin 12)) = {0, 1, 2, 3, 4, 5, 6, 7, 8, 9, 10, 11} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

abbrev pr (i : grid0.Coords) : Proc τ := .scVector ((i 0).castLE hcore0) ((i 1).castLE hsub0)

theorem scr_inj : Function.Injective scr := by decide
theorem scr_mem (d : Dev nD) (i : grid0.Coords) (k : Fin 6) : (pr i).devRef (scr k) ∈ ownRefs (τ := τ) (pr i) := by
  refine SparseCore.Cfg.mem_ownRefs_of_owner (p := pr i) (b := (pr i).devRef (scr k)) ?_
  fin_cases k <;> rfl

theorem ownBufs_V (d : Dev nD) (i : grid0.Coords) :
    (ownBufs (VT d i) : sProp 𝕄)
      = iprop((bigSep Finset.univ fun k : Fin 6 => iprop(∃ f, (VT d i).loc (scr k) ↦{fullShare} f))
          ∗ bigSep ((ownRefs (τ := τ) (pr i)) \ Finset.univ.image (fun k => (pr i).devRef (scr k)))
              fun b => iprop(∃ f, ((d, b) : Loc nD τ sig) ↦{fullShare} f)) := by
  unfold SparseCore.Cfg.ownBufs
  rw [SparseCore.bigSep_sdiff_split' (t := Finset.univ.image (fun k => (pr i).devRef (scr k)))
      (Finset.image_subset_iff.mpr fun k _ => scr_mem d i k),
    SparseCore.bigSep_image_of_injOn (fun a _ b _ h => scr_inj (Proc.devRef_injective _ h))]

theorem bufs_split (d : Dev nD) (i : grid0.Coords) :
    (bigSep Finset.univ fun k : Fin 6 => (iprop(∃ f, (VT d i).loc (scr k) ↦{fullShare} f) : sProp 𝕄))
      = iprop((∃ f, (VT d i).loc cc0_scratch0 ↦{fullShare} f) ∗ (∃ f, (VT d i).loc cc0_scratch1 ↦{fullShare} f) ∗ (∃ f, (VT d i).loc cc0_scratch2 ↦{fullShare} f)
        ∗ (∃ f, (VT d i).loc cc0_scratch3 ↦{fullShare} f) ∗ (∃ f, (VT d i).loc cc0_scratch4 ↦{fullShare} f) ∗ (∃ f, (VT d i).loc cc0_scratch5 ↦{fullShare} f)) := by
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- A whole buffer as a view of it, and back. -/
theorem own_whole (d : Dev nD) (i : grid0.Coords) (r : Ref sig .scVector) (q : PosShare TreeShare) (f : Buf (Elt F) ((VT d i).loc r)) :
    ((VT d i).loc r ↦{q} f : sProp 𝕄) ⊢ owns (VT d i) (Memref.whole r) q f := by
  unfold owns
  iintro H
  iexists f
  isplitr
  · ipureintro; rfl
  ihave H' := (Entails.of_eq (show ((VT d i).loc r ↦{q} f : sProp 𝕄) = ((Memref.whole r).view.loc (VT d i) ↦[(Memref.whole r).view.set]{q} f) by rw [View.set_whole])) $$ H
  iexact H'
theorem whole_own (d : Dev nD) (i : grid0.Coords) (r : Ref sig .scVector) (q : PosShare TreeShare) (f : Buf (Elt F) ((VT d i).loc r)) :
    (owns (VT d i) (Memref.whole r) q f : sProp 𝕄) ⊢ ((VT d i).loc r ↦{q} f : sProp 𝕄) := by
  unfold owns
  iintro ⟨%g, %hg, H⟩
  have e : ((Memref.whole r).view.loc (VT d i) ↦[(Memref.whole r).view.set]{q} g : sProp 𝕄) = ((VT d i).loc r ↦{q} f : sProp 𝕄) := by
    rw [View.set_whole, ← hg]; rfl
  ihave H' := (Entails.of_eq e) $$ H
  iexact H'

end Cert.Kernel.Pool
-- ==== Proof.Lists.lean ====
module

public import proofs.«01_k».proof.Pre_lists_ok
public import Idealize.ShloMosaic.Lib.StableHlo
public import Idealize.ShloMosaic.Lib.WordArith
public import Idealize.ShloMosaic.Lib.WordCmp
public import proofs.«01_k».proof.Proof.Launch

@[expose] public section

set_option maxRecDepth 8000

noncomputable section

namespace Cert.Lists

open Idealize.ShloMosaic
open Cert.Pre_lists_ok

/-! # What the precondition says, entry by entry -/

theorem facts : Cert.Pre_lists_ok.Facts where
  bcast_S_S32x112 := by decide
  bcast_S32x112_S32x112x1_0_1 := by decide
  bcast_S_S32x2527488 := by decide
  bcast_S32x2527488_S32x2527488x1_0_1 := by decide
  bcast_S2527488_S1x2527488_1 := by decide
  bcast_S1x2527488_S32x2527488_0_1 := by decide
  gather_S4096_S32x112x1_S32x112_n_0_n_n_0_2_1_wf := by decide
  gather_S4096_S32x2527488x1_S32x2527488_n_0_n_n_0_2_1_wf := by decide

variable {F : FTy → Type} [FloatOps F]

/-- Entry `n` of the table of ends, `n` clamped into it. -/
def ent (X : IVec S4096 32) (n : ℕ) : BitVec 32 := X (fun | 0 => ⟨min n 4095, by show _ < 4096; omega⟩)
/-- The same, at a word read as a signed number. -/
abbrev entw (X : IVec S4096 32) (b : BitVec 32) : BitVec 32 := ent X b.toInt.toNat

theorem take_apply [Facts] (X : IVec S4096 32) (b : IVec S32x112 32) (j : S32x112.Idx) : fn_take (F := F) X b j = entw X (b j) := by
  unfold fn_take entw ent Host.gather
  refine congrArg X (funext fun a => ?_)
  match a with
  | 0 =>
    refine Fin.ext ?_
    have h1 : GatherDims.batchCoord gather_S4096_S32x112x1_S32x112_n_0_n_n_0_2_1 j 0 = 0 := GatherDims.batchCoord_eq_zero _ _ _ (List.not_mem_nil)
    have h2 : GatherDims.offCoord gather_S4096_S32x112x1_S32x112_n_0_n_n_0_2_1 j 0 = 0 := GatherDims.offCoord_eq_zero _ _ _ (by rw [GatherDims.mem_sKept]; exact fun h => h.1 (List.mem_singleton.2 rfl))
    refine (congrArg₂ (fun x y => GatherDims.start gather_S4096_S32x112x1_S32x112_n_0_n_n_0_2_1 j _ 0 + x + y) h1 h2).trans ?_
    show GatherDims.start gather_S4096_S32x112x1_S32x112_n_0_n_n_0_2_1 j _ 0 = min (b j).toInt.toNat 4095
    unfold GatherDims.start
    rw [dif_pos (show (0 : Fin S4096.rank) ∈ GatherDims.startIndexMap gather_S4096_S32x112x1_S32x112_n_0_n_n_0_2_1 from List.mem_singleton.2 rfl)]
    refine congrArg (fun w : BitVec 32 => min w.toInt.toNat 4095) (congrArg b (funext fun a => ?_))
    match a with
    | 0 => rfl
    | 1 => rfl
theorem take0_apply [Facts] (X : IVec S4096 32) (b : IVec S32x2527488 32) (j : S32x2527488.Idx) : fn_take_0 (F := F) X b j = entw X (b j) := by
  unfold fn_take_0 entw ent Host.gather
  refine congrArg X (funext fun a => ?_)
  match a with
  | 0 =>
    refine Fin.ext ?_
    have h1 : GatherDims.batchCoord gather_S4096_S32x2527488x1_S32x2527488_n_0_n_n_0_2_1 j 0 = 0 := GatherDims.batchCoord_eq_zero _ _ _ (List.not_mem_nil)
    have h2 : GatherDims.offCoord gather_S4096_S32x2527488x1_S32x2527488_n_0_n_n_0_2_1 j 0 = 0 := GatherDims.offCoord_eq_zero _ _ _ (by rw [GatherDims.mem_sKept]; exact fun h => h.1 (List.mem_singleton.2 rfl))
    refine (congrArg₂ (fun x y => GatherDims.start gather_S4096_S32x2527488x1_S32x2527488_n_0_n_n_0_2_1 j _ 0 + x + y) h1 h2).trans ?_
    show GatherDims.start gather_S4096_S32x2527488x1_S32x2527488_n_0_n_n_0_2_1 j _ 0 = min (b j).toInt.toNat 4095
    unfold GatherDims.start
    rw [dif_pos (show (0 : Fin S4096.rank) ∈ GatherDims.startIndexMap gather_S4096_S32x2527488x1_S32x2527488_n_0_n_n_0_2_1 from List.mem_singleton.2 rfl)]
    refine congrArg (fun w : BitVec 32 => min w.toInt.toNat 4095) (congrArg b (funext fun a => ?_))
    match a with
    | 0 => rfl
    | 1 => rfl

/-- The test of tile `t`'s end of window `k`, at one place. -/
def endBit (X : IVec S4096 32) (t k : BitVec 32) : BitVec 1 :=
  let tt := IntOp.muli t 128#32
  let first := Scalar.select (IntOp.cmpi .eq k 0#32) 0#32 (entw X (IntOp.subi (IntOp.addi tt k) 1#32))
  let last := entw X (IntOp.addi tt k)
  let base := entw X (IntOp.addi tt 112#32)
  let rising := IntOp.andi (IntOp.andi (IntOp.cmpi .sge first 0#32) (IntOp.cmpi .sle first last)) (IntOp.cmpi .sle last 2527488#32)
  let based := IntOp.andi (IntOp.andi (IntOp.cmpi .sge base 0#32) (IntOp.cmpi .sle base 2527488#32)) (IntOp.cmpi .eq (IntOp.andi base 7#32) 0#32)
  let reads := IntOp.ori (IntOp.cmpi .eq last 0#32) (IntOp.cmpi .sle (IntOp.addi base (IntOp.andi (IntOp.subi last 1#32) 4294966272#32)) 2526464#32)
  IntOp.andi (IntOp.andi rising based) reads

theorem fst_apply [Facts] (A : IVec S1622016 32) (W : FVec F S2527488 .f32) (P : IVec S2527488 32) (X : IVec S4096 32) (j : S32x112.Idx) :
    (fn (F := F) A W P X).1 j = endBit X (BitVec.ofNat 32 (j 0).val) (BitVec.ofNat 32 (j 1).val) := by
  simp only [fn, fn_part1, fn_part2, fn_part3, fn_part4, fn_part5, fn_part6, andi, ori, cmpi, addi, subi, muli, take_apply, fn_where, select, endBit]
  rfl

/-- The test of one word of the list against tile `t`'s ends, at one place. -/
def wordBit (X : IVec S4096 32) (t n w : BitVec 32) : BitVec 1 :=
  let tt := IntOp.muli t 128#32
  let i := IntOp.subi n (entw X (IntOp.addi tt 112#32))
  let cell := IntOp.andi w 65535#32
  let k := IntOp.minsi (IntOp.shrui .host cell 6#32) 111#32
  let first := Scalar.select (IntOp.cmpi .eq k 0#32) 0#32 (entw X (IntOp.subi (IntOp.addi tt k) 1#32))
  let listed := IntOp.andi (IntOp.cmpi .sge i 0#32) (IntOp.cmpi .slt i (entw X (IntOp.subi (IntOp.addi tt 112#32) 1#32)))
  let named := IntOp.andi (IntOp.andi (IntOp.cmpi .slt cell 7168#32) (IntOp.cmpi .sge i first)) (IntOp.cmpi .slt i (entw X (IntOp.addi tt k)))
  let pixel := IntOp.andi (IntOp.cmpi .sge w 0#32) (IntOp.cmpi .slt w 276824064#32)
  let grouped := IntOp.andi (IntOp.cmpi .sge i 0#32) (IntOp.cmpi .slt i (IntOp.andi (IntOp.addi (entw X (IntOp.subi (IntOp.addi tt 112#32) 1#32)) 15#32) 4294967280#32))
  IntOp.andi (IntOp.ori pixel (~~~grouped)) (IntOp.ori (~~~listed) named)

theorem snd_raw [Facts] (A : IVec S1622016 32) (W : FVec F S2527488 .f32) (P : IVec S2527488 32) (X : IVec S4096 32) (j : S32x2527488.Idx) :
    (fn (F := F) A W P X).2 j = wordBit X (BitVec.ofNat 32 (j 0).val) (BitVec.ofNat 32 (j 1).val)
      (broadcastInDim S32x2527488 ![0, 1] Facts.bcast_S1x2527488_S32x2527488_0_1 (broadcastInDim S1x2527488 ![1] Facts.bcast_S2527488_S1x2527488_1 P) j) := by
  simp only [fn, fn_part1, fn_part2, fn_part3, fn_part4, fn_part5, fn_part6, andi, ori, noti, minsi, Host.shrui, cmpi, addi, subi, muli, take0_apply, fn_where_1, select, wordBit]
  rfl

theorem snd_apply [Facts] (A : IVec S1622016 32) (W : FVec F S2527488 .f32) (P : IVec S2527488 32) (X : IVec S4096 32) (j : S32x2527488.Idx) :
    (fn (F := F) A W P X).2 j = wordBit X (BitVec.ofNat 32 (j 0).val) (BitVec.ofNat 32 (j 1).val) (P (fun | 0 => ⟨(j 1).val, (j 1).isLt⟩)) :=
  (snd_raw A W P X j).trans (congrArg (wordBit X _ _) (congrArg P (funext fun a => match a with | 0 => rfl)))

open WordCmp (ofBool_eq_one_iff)
open WordArith (andi_ofBool ori_ofBool)

theorem not_ofBool (b : Bool) : ~~~(BitVec.ofBool b) = BitVec.ofBool (!b) := by cases b <;> rfl

theorem ent_eq (X : IVec S4096 32) {n : ℕ} (hn : n < 4096) : ent X n = X (fun | 0 => ⟨n, hn⟩) := by
  refine congrArg X (funext fun a => ?_)
  match a with
  | 0 => exact Fin.ext (by show min n 4095 = n; omega)

theorem entw_eq (X : IVec S4096 32) {b : BitVec 32} {n : ℕ} (hn : n < 4096) (h : b.toNat = n) : entw X b = ent X n := by
  have e := BitVec.toInt_eq_toNat_cond b
  have : b.toInt.toNat = n := by omega
  exact congrArg (ent X) this

theorem at_add {t k : ℕ} (ht : t < 32) (hk : k ≤ 112) : (IntOp.addi (IntOp.muli (BitVec.ofNat 32 t) 128#32) (BitVec.ofNat 32 k)).toNat = t * 128 + k := by
  simp only [IntOp.addi, IntOp.muli, BitVec.toNat_add, BitVec.toNat_mul, BitVec.toNat_ofNat]; omega
theorem at_sub {t k : ℕ} (ht : t < 32) (hk : k < 112) : (IntOp.subi (IntOp.addi (IntOp.muli (BitVec.ofNat 32 t) 128#32) (BitVec.ofNat 32 (k + 1))) 1#32).toNat = t * 128 + k := by
  have := at_add ht (k := k + 1) (by omega)
  simp only [IntOp.subi, BitVec.toNat_sub, this, BitVec.toNat_ofNat]; omega

theorem and_low (w : BitVec 32) : (w &&& 65535#32).toNat = w.toNat % 65536 := by
  rw [BitVec.toNat_and]; exact Nat.and_two_pow_sub_one_eq_mod w.toNat 16
theorem and_seven (w : BitVec 32) : (w &&& 7#32).toNat = w.toNat % 8 := by
  rw [BitVec.toNat_and]; exact Nat.and_two_pow_sub_one_eq_mod w.toNat 3
theorem and_chunk (w : BitVec 32) : (w &&& 4294966272#32).toNat = w.toNat / 1024 * 1024 := by
  have h : w &&& 4294966272#32 = (w >>> 10) <<< 10 := by
    refine BitVec.eq_of_getLsbD_eq fun i hi => ?_
    have hc : ∀ i : Fin 32, (4294966272#32).getLsbD i.val = decide (10 ≤ i.val) := by decide
    rw [BitVec.getLsbD_and, hc ⟨i, hi⟩, BitVec.getLsbD_shiftLeft, BitVec.getLsbD_ushiftRight]
    by_cases h : 10 ≤ i
    · simp [h, hi, Nat.add_sub_cancel' h]
    · simp [h]
  rw [h, BitVec.toNat_shiftLeft, BitVec.toNat_ushiftRight, Nat.shiftRight_eq_div_pow, Nat.shiftLeft_eq]
  have := w.isLt; omega

theorem and_group (w : BitVec 32) : (w &&& 4294967280#32).toNat = w.toNat / 16 * 16 := by
  have h : w &&& 4294967280#32 = (w >>> 4) <<< 4 := by
    refine BitVec.eq_of_getLsbD_eq fun i hi => ?_
    have hc : ∀ i : Fin 32, (4294967280#32).getLsbD i.val = decide (4 ≤ i.val) := by decide
    rw [BitVec.getLsbD_and, hc ⟨i, hi⟩, BitVec.getLsbD_shiftLeft, BitVec.getLsbD_ushiftRight]
    by_cases h : 4 ≤ i
    · simp [h, hi, Nat.add_sub_cancel' h]
    · simp [h]
  rw [h, BitVec.toNat_shiftLeft, BitVec.toNat_ushiftRight, Nat.shiftRight_eq_div_pow, Nat.shiftLeft_eq]
  have := w.isLt; omega

/-- Where window `k` of tile `t` begins in the tile's list. -/
def begW (X : IVec S4096 32) (t : ℕ) : ℕ → BitVec 32
  | 0 => 0#32
  | k + 1 => ent X (t * 128 + k)

theorem first_eq (X : IVec S4096 32) {t k : ℕ} (ht : t < 32) (hk : k < 112) :
    Scalar.select (IntOp.cmpi .eq (BitVec.ofNat 32 k) 0#32) 0#32 (entw X (IntOp.subi (IntOp.addi (IntOp.muli (BitVec.ofNat 32 t) 128#32) (BitVec.ofNat 32 k)) 1#32)) = begW X t k := by
  cases k with
  | zero => rfl
  | succ k =>
    have h : IntOp.cmpi .eq (BitVec.ofNat 32 (k + 1)) 0#32 = 0#1 := by
      have : (BitVec.ofNat 32 (k + 1) == 0#32) = false := by
        rw [beq_eq_false_iff_ne]; intro h; have := congrArg BitVec.toNat h; simp only [BitVec.toNat_ofNat] at this; omega
      show BitVec.ofBool (BitVec.ofNat 32 (k + 1) == 0#32) = 0#1
      rw [this]; rfl
    rw [h]
    show entw X _ = _
    exact entw_eq X (by omega) (at_sub ht (by omega))

theorem endBit_spec (X : IVec S4096 32) {t k : ℕ} (ht : t < 32) (hk : k < 112) (h : endBit X (BitVec.ofNat 32 t) (BitVec.ofNat 32 k) = 1#1) :
    (begW X t k).toNat ≤ (ent X (t * 128 + k)).toNat ∧ (ent X (t * 128 + k)).toNat ≤ 2527488
    ∧ (ent X (t * 128 + 112)).toNat ≤ 2527488 ∧ (ent X (t * 128 + 112)).toNat % 8 = 0
    ∧ ((ent X (t * 128 + k)).toNat = 0 ∨ (ent X (t * 128 + 112)).toNat + ((ent X (t * 128 + k)).toNat - 1) / 1024 * 1024 ≤ 2526464) := by
  unfold endBit at h
  simp only [first_eq X ht hk, entw_eq X (b := IntOp.addi (IntOp.muli (BitVec.ofNat 32 t) 128#32) (BitVec.ofNat 32 k)) (by omega) (at_add ht (by omega)),
    entw_eq X (b := IntOp.addi (IntOp.muli (BitVec.ofNat 32 t) 128#32) 112#32) (n := t * 128 + 112) (by omega) (at_add ht (k := 112) (by omega))] at h
  generalize begW X t k = a, ent X (t * 128 + k) = b, ent X (t * 128 + 112) = c at h ⊢
  simp only [IntOp.cmpi, andi_ofBool, ori_ofBool, ofBool_eq_one_iff, Bool.and_eq_true, Bool.or_eq_true, beq_iff_eq, BitVec.sle_iff_toInt_le] at h
  obtain ⟨⟨⟨⟨h1, h2⟩, h3⟩, ⟨h4, h5⟩, h6⟩, h7⟩ := h
  have ea := BitVec.toInt_eq_toNat_cond a
  have eb := BitVec.toInt_eq_toNat_cond b
  have ec := BitVec.toInt_eq_toNat_cond c
  have la := a.isLt
  have lb := b.isLt
  have lc := c.isLt
  have z : (0#32 : BitVec 32).toInt = 0 := by decide
  have n1 : (2527488#32 : BitVec 32).toInt = 2527488 := by decide
  have n2 : (2526464#32 : BitVec 32).toInt = 2526464 := by decide
  rw [z] at h1 h4
  rw [n1] at h3 h5
  rw [n2] at h7
  have h6' := congrArg BitVec.toNat h6
  rw [show (IntOp.andi c 7#32).toNat = c.toNat % 8 from and_seven c] at h6'
  refine ⟨by omega, by omega, by omega, h6', ?_⟩
  rcases h7 with h7 | h7
  · left; rw [h7]; rfl
  · by_cases hb : b.toNat = 0
    · left; exact hb
    right
    have e1 : (b - 1#32).toNat = b.toNat - 1 := by
      rw [BitVec.toNat_sub]; simp only [BitVec.toNat_ofNat]; omega
    have e2 : (IntOp.andi (IntOp.subi b 1#32) 4294966272#32).toNat = (b.toNat - 1) / 1024 * 1024 := by
      rw [← e1]; exact and_chunk _
    have e3 : (IntOp.addi c (IntOp.andi (IntOp.subi b 1#32) 4294966272#32)).toNat = c.toNat + (b.toNat - 1) / 1024 * 1024 := by
      show (c + _).toNat = _
      rw [BitVec.toNat_add, e2]; omega
    have e4 := BitVec.toInt_eq_toNat_cond (IntOp.addi c (IntOp.andi (IntOp.subi b 1#32) 4294966272#32))
    rw [e3] at e4
    omega

theorem wordBit_spec (X : IVec S4096 32) {t n : ℕ} (w : BitVec 32) (ht : t < 32) (hn : n < 2527488) (h : wordBit X (BitVec.ofNat 32 t) (BitVec.ofNat 32 n) w = 1#1)
    (hb : (ent X (t * 128 + 112)).toNat ≤ 2527488) (he : (ent X (t * 128 + 111)).toNat ≤ 2527488) (hs : ∀ k, k < 112 → (begW X t k).toNat ≤ 2527488 ∧ (ent X (t * 128 + k)).toNat ≤ 2527488) :
    ((ent X (t * 128 + 112)).toNat ≤ n → n - (ent X (t * 128 + 112)).toNat < ((ent X (t * 128 + 111)).toNat + 15) / 16 * 16 → w.toNat / 65536 < 4224)
    ∧ ((ent X (t * 128 + 112)).toNat ≤ n → n - (ent X (t * 128 + 112)).toNat < (ent X (t * 128 + 111)).toNat →
      w.toNat % 65536 / 64 < 112 ∧ (begW X t (w.toNat % 65536 / 64)).toNat ≤ n - (ent X (t * 128 + 112)).toNat
        ∧ n - (ent X (t * 128 + 112)).toNat < (ent X (t * 128 + w.toNat % 65536 / 64)).toNat) := by
  unfold wordBit at h
  have lw := w.isLt
  have hc : (IntOp.andi w 65535#32).toNat = w.toNat % 65536 := and_low w
  have hsh : (IntOp.shrui .host (IntOp.andi w 65535#32) 6#32).toNat = w.toNat % 65536 / 64 := by
    show ((IntOp.andi w 65535#32) >>> 6).toNat = _
    rw [BitVec.toNat_ushiftRight, hc, Nat.shiftRight_eq_div_pow]
  have hk : IntOp.minsi (IntOp.shrui .host (IntOp.andi w 65535#32) 6#32) 111#32 = BitVec.ofNat 32 (min (w.toNat % 65536 / 64) 111) := by
    refine BitVec.eq_of_toNat_eq ?_
    rw [WordArith.toNat_minsi_of_lt _ _ (by rw [hsh]; omega) (by decide), hsh]
    have : (BitVec.ofNat 32 (min (w.toNat % 65536 / 64) 111)).toNat = min (w.toNat % 65536 / 64) 111 := by rw [BitVec.toNat_ofNat]; omega
    rw [this]; rfl
  have hkl : min (w.toNat % 65536 / 64) 111 < 112 := by omega
  simp only [hk, first_eq X ht hkl, entw_eq X (b := IntOp.addi (IntOp.muli (BitVec.ofNat 32 t) 128#32) (BitVec.ofNat 32 (min (w.toNat % 65536 / 64) 111))) (by omega) (at_add ht (by omega)),
    entw_eq X (b := IntOp.addi (IntOp.muli (BitVec.ofNat 32 t) 128#32) 112#32) (n := t * 128 + 112) (by omega) (at_add ht (k := 112) (by omega)),
    entw_eq X (b := IntOp.subi (IntOp.addi (IntOp.muli (BitVec.ofNat 32 t) 128#32) 112#32) 1#32) (n := t * 128 + 111) (by omega) (at_sub ht (k := 111) (by omega))] at h
  have hs' := hs _ hkl
  simp only [IntOp.cmpi, andi_ofBool, not_ofBool, ori_ofBool, ofBool_eq_one_iff, Bool.and_eq_true, Bool.or_eq_true, Bool.not_eq_true', Bool.and_eq_false_iff, ← Bool.not_eq_true, BitVec.sle_iff_toInt_le, BitVec.slt_iff_toInt_lt] at h
  obtain ⟨h12, h3⟩ := h
  have z : (0#32 : BitVec 32).toInt = 0 := by decide
  have n1 : (276824064#32 : BitVec 32).toInt = 276824064 := by decide
  have n2 : (7168#32 : BitVec 32).toInt = 7168 := by decide
  rw [z, n1] at h12
  have ew := BitVec.toInt_eq_toNat_cond w
  generalize hcd : ent X (t * 128 + 112) = c at *
  generalize hed : ent X (t * 128 + 111) = e at *
  have e1 : c.toNat ≤ n → (IntOp.subi (BitVec.ofNat 32 n) c).toNat = n - c.toNat := by
    intro g1
    show (BitVec.ofNat 32 n - c).toNat = _
    rw [BitVec.toNat_sub, BitVec.toNat_ofNat]; omega
  have e2 := BitVec.toInt_eq_toNat_cond (IntOp.subi (BitVec.ofNat 32 n) c)
  have e3 := BitVec.toInt_eq_toNat_cond e
  have e7 : (IntOp.andi (IntOp.addi e 15#32) 4294967280#32).toNat = (e.toNat + 15) / 16 * 16 := by
    refine (and_group _).trans ?_
    have : (IntOp.addi e 15#32).toNat = e.toNat + 15 := by
      show (e + 15#32).toNat = _
      rw [BitVec.toNat_add]; simp only [BitVec.toNat_ofNat]; omega
    rw [this]
  have e8 := BitVec.toInt_eq_toNat_cond (IntOp.andi (IntOp.addi e 15#32) 4294967280#32)
  rw [e7] at e8
  refine ⟨fun g1 g2 => ?_, fun g1 g2 => ?_⟩
  · have e1 := e1 g1
    have e2 := e2
    rw [e1] at e2
    omega
  have e1 := e1 g1
  rw [e1] at e2
  rw [z, n2] at h3
  have hl : w.toNat % 65536 < 7168 ∧ (begW X t (min (w.toNat % 65536 / 64) 111)).toInt ≤ (IntOp.subi (BitVec.ofNat 32 n) c).toInt ∧ (IntOp.subi (BitVec.ofNat 32 n) c).toInt < (ent X (t * 128 + min (w.toNat % 65536 / 64) 111)).toInt := by
    rcases h3 with h3 | ⟨⟨a, b⟩, d⟩
    · omega
    · have e4 := BitVec.toInt_eq_toNat_cond (IntOp.andi w 65535#32)
      rw [hc] at e4
      exact ⟨by omega, b, d⟩
  obtain ⟨l1, l2, l3⟩ := hl
  have hm : min (w.toNat % 65536 / 64) 111 = w.toNat % 65536 / 64 := by omega
  rw [hm] at l2 l3 hs'
  have e5 := BitVec.toInt_eq_toNat_cond (begW X t (w.toNat % 65536 / 64))
  have e6 := BitVec.toInt_eq_toNat_cond (ent X (t * 128 + w.toNat % 65536 / 64))
  omega

theorem isInt_nat (w : BitVec 32) (h : w.toNat ≤ 2527488) : Idealize.ShloMosaic.Affine.IsInt w (w.toNat : ℤ) := by
  unfold Idealize.ShloMosaic.Affine.IsInt
  have := BitVec.toInt_eq_toNat_cond w
  omega

/-! ## What the kernel's proof asks of the arguments -/

open Cert.Kernel.Pool Idealize.ShloMosaic.Affine in
theorem metaOK [Facts] (A : IVec S1622016 32) (W : FVec F S2527488 .f32) (P : IVec S2527488 32) (X : IVec S4096 32)
    (h1 : (fn (F := F) A W P X).1 = fun _ => 1#1) (h2 : (fn (F := F) A W P X).2 = fun _ => 1#1) (p : Fin 2 × Fin 16) :
    MetaOK (F := F) (co p) X P (obOf (F := F) X p) (eOf (F := F) X p) := by
  have ht : tno (co p) < 32 := tno_lt _
  generalize htd : tno (co p) = t at ht
  have hob : obOf (F := F) X p = (ent X (t * 128 + 112)).toNat := by
    subst htd; rw [ent_eq X (by omega)]; rfl
  have he : ∀ k, k ≤ 112 → eOf (F := F) X p k = (begW X t k).toNat := by
    intro k hk
    cases k with
    | zero => rfl
    | succ k =>
      subst htd
      show (if h : k < 112 then _ else 0) = _
      rw [dif_pos (by omega)]
      show _ = (ent X (tno (co p) * 128 + k)).toNat
      rw [ent_eq X (by omega)]; rfl
  have E : ∀ k, k < 112 → _ := fun k hk => endBit_spec X ht hk ((fst_apply A W P X (fun | 0 => ⟨t, ht⟩ | 1 => ⟨k, hk⟩)).symm.trans (congrFun h1 _))
  have hs : ∀ k, k < 112 → (begW X t k).toNat ≤ 2527488 ∧ (ent X (t * 128 + k)).toNat ≤ 2527488 := fun k hk => by
    have := E k hk; omega
  have W' : ∀ n (hn : n < 2527488), _ := fun n hn => wordBit_spec X (P (fun | 0 => ⟨n, hn⟩)) ht hn ((snd_apply A W P X (fun | 0 => ⟨t, ht⟩ | 1 => ⟨n, hn⟩)).symm.trans (congrFun h2 _))
    (E 0 (by omega)).2.2.1 (hs 111 (by omega)).2 hs
  have mono1 : ∀ k, k < 112 → (begW X t k).toNat ≤ (begW X t (k + 1)).toNat := fun k hk => (E k hk).1
  have mono : ∀ a b, a ≤ b → b ≤ 112 → (begW X t a).toNat ≤ (begW X t b).toNat := by
    intro a b hab hb
    induction b, hab using Nat.le_induction with
    | base => exact le_rfl
    | succ b hab ih => exact (ih (by omega)).trans (mono1 b (by omega))
  have e111 : begW X t 112 = ent X (t * 128 + 111) := rfl
  have inb : ∀ c, 1024 * c < (ent X (t * 128 + 111)).toNat → (ent X (t * 128 + 112)).toNat + (1024 * c + 1024) ≤ 2527488 := by
    intro c hc
    have := E 111 (by omega)
    omega
  refine ⟨rfl, ?_, ⟨?_, ?_, ?_, ?_⟩, ?_, ?_, ?_⟩
  · intro k hk; rw [he k (by omega), he (k + 1) (by omega)]; exact mono1 k hk
  · rw [hob]; exact Nat.dvd_of_mod_eq_zero (E 0 (by omega)).2.2.2.1
  · rw [he 112 le_rfl, hob]; exact inb
  · rw [he 112 le_rfl, e111]; have := hs 111 (by omega); omega
  · rw [he 112 le_rfl, hob, e111]
    intro n hn
    have hb := inb (n / 1024) (by omega)
    have hn2 : (ent X (t * 128 + 112)).toNat + n < 2527488 := by omega
    unfold atN
    rw [dif_pos hn2]
    exact (W' _ hn2).1 (by omega) (by omega)
  · intro k hk x hx0 hx1
    rw [he k (by omega)] at hx0
    rw [he (k + 1) (by omega)] at hx1
    have hx2 : x < (ent X (t * 128 + 111)).toNat := lt_of_lt_of_le hx1 (mono (k + 1) 112 (by omega) le_rfl)
    have hb := inb (x / 1024) (by omega)
    rw [hob]
    have hn : (ent X (t * 128 + 112)).toNat + x < 2527488 := by omega
    unfold atN
    rw [dif_pos hn]
    have := (W' _ hn).2 (by omega) (by omega)
    generalize hw : (P (fun | 0 => ⟨(ent X (t * 128 + 112)).toNat + x, hn⟩)).toNat % 65536 / 64 = q at this
    obtain ⟨q1, q2, q3⟩ := this
    have r3 : x < (begW X t (q + 1)).toNat := by show x < (ent X (t * 128 + q)).toNat; omega
    have r2 : (begW X t q).toNat ≤ x := by omega
    rcases Nat.lt_trichotomy q k with g | g | g
    · have := mono (q + 1) k (by omega) (by omega); omega
    · exact g
    · have := mono (k + 1) q (by omega) (by omega); omega
  · intro n hn
    rw [he (n + 1) (by omega)]
    have h1 := hs n hn
    have h2 : (begW X t (n + 1)) = ent X (t * 128 + n) := rfl
    rw [h2]
    subst htd
    rw [ent_eq X (by omega)] at h1 ⊢
    exact isInt_nat _ h1.2
  · rw [hob]
    have h1 := (E 0 (by omega)).2.2.1
    subst htd
    rw [ent_eq X (by omega)] at h1 ⊢
    exact isInt_nat _ h1

end Cert.Lists
-- ==== Proof.Total.lean ====
module

public import proofs.«01_k».proof.Proof.Lane
public import proofs.«01_k».proof.Proof.Launch
public import Idealize.ShloMosaic.Lib.IdealHost

@[expose] public section

set_option maxRecDepth 8000

noncomputable section

namespace Cert.Kernel.Pool

open Idealize.ShloMosaic Idealize.SL.Sem
open Cert.Kernel Cert.Kernel.Gen

/-! # Over the reals: what a window, a tile and the whole call compute -/

/-- Entry `x` of the list at `ob`, at output cell `cell` and channel `c`: its weight times its pixel's channel, if it is that cell's. -/
def ent (T : Vec Ideal S101376 .i32) (P : Vec Ideal S2527488 .i32) (W : Vec Ideal S2527488 .f32) (ob cell c x : ℕ) : EReal :=
  if (atN P (ob + x)).toNat % 65536 = cell then code T ((atN P (ob + x)).toNat / 65536 * 24) c * (atN W (ob + x) : EReal) else 0

theorem foldN_sum (f : ℕ → Vec Ideal S64x96 .f32 → Vec Ideal S64x96 .f32) (Φ : ℕ → EReal) (y : S64x96.Idx) (n : ℕ) (hf : ∀ t g, t < n → (f t g y : EReal) = g y + Φ t) (g : Vec Ideal S64x96 .f32) :
    (foldN f n g y : EReal) = g y + ∑ t ∈ Finset.range n, Φ t := by
  induction n with
  | zero => exact (add_zero (g y : EReal)).symm
  | succ n ih =>
    rw [Finset.sum_range_succ, ← add_assoc, ← ih fun t g h => hf t g (by omega)]
    exact hf n _ (by omega)

/-- Sixteen at a time from `b` is the whole stretch. -/
theorem sum_groups (H : ℕ → EReal) (b n : ℕ) : ∑ t ∈ Finset.range n, ∑ j : Fin 16, H (b + 16 * t + j.val) = ∑ x ∈ Finset.Ico b (b + 16 * n), H x := by
  induction n with
  | zero => simp
  | succ n ih =>
    rw [Finset.sum_range_succ, ih, show b + 16 * (n + 1) = b + 16 * n + 16 by omega, ← Finset.sum_Ico_consecutive H (show b ≤ b + 16 * n by omega) (show b + 16 * n ≤ b + 16 * n + 16 by omega)]
    congr 1
    rw [Finset.sum_Ico_eq_sum_range, Nat.add_sub_cancel_left]
    exact (Finset.sum_range fun j => H (b + 16 * n + j)).symm

theorem sum_live (H : ℕ → EReal) (b lo hi m : ℕ) (h1 : b ≤ lo) (h2 : hi ≤ m) : ∑ x ∈ Finset.Ico b m, (if lo ≤ x ∧ x < hi then H x else 0) = ∑ x ∈ Finset.Ico lo hi, H x := by
  rw [← Finset.sum_filter]
  congr 1
  ext x
  simp only [Finset.mem_filter, Finset.mem_Ico]
  omega

section
variable (T : Vec Ideal S101376 .i32) (P : Vec Ideal S2527488 .i32) (W : Vec Ideal S2527488 .f32)
  {v19 : IVec S16 32} {v21 : IVec S16 1} {v23 : IVec S16 32} (h19 : ∀ x, v19 x = BitVec.ofNat 32 (x 0).val)
  (h21 : ∀ k : Fin 16, v21 (ln k) = if k.val < 8 then 1#1 else 0#1) (h23 : ∀ k : Fin 16, v23 (ln k) = BitVec.ofNat 32 (k.val % 8))
include h19 h21 h23

theorem grpN_apply {ob b lo hi k : ℕ} (hpix : ∀ j, j < 16 → (atN P (ob + b + j)).toNat / 65536 < 4224) (hb : b < 2 ^ 25) (hlo : lo < 2 ^ 25) (hhi : hi < 2 ^ 25) (hk : k < 1024) (hw : InWin (F := Ideal) P ob lo hi k) (g : Vec Ideal S64x96 .f32) (y : S64x96.Idx) :
    (grpN (F := Ideal) T P W v19 v21 v23 ob b lo hi k g y : EReal)
      = g y + ∑ j : Fin 16, (if lo ≤ b + j.val ∧ b + j.val < hi then ent T P W ob (64 * k + (y 0).val) (y 1).val (b + j.val) else 0) := by
  have h23' : ∀ x, (v23 x).toNat < 8 := by
    intro x
    obtain ⟨j, rfl⟩ := eq_ln x
    rw [h23, BitVec.toNat_ofNat]; omega
  have hR := inRange (F := Ideal) h19 (v21 := v21) h23' hpix hb hlo hhi hk hw
  unfold grpN
  rw [lanesG_apply h21 h23 T _ _ _ hR.row (fun x => (hR.pix x).2)]
  refine congrArg ((g y : EReal) + ·) (Finset.sum_congr rfl fun j _ => ?_)
  have hy0 : (y 0).val < 64 := (y 0).isLt
  have hlv := live_iff h19 hb hlo hhi (ln j)
  have hv : (vec16 P (ob + b) (ln j)) = atN P (ob + (b + j.val)) := congrArg (atN P) (by show ob + b + j.val = _; omega)
  have hpx : (pixv (vec16 P (ob + b)) (ln j)).toNat = (atN P (ob + (b + j.val))).toNat / 65536 * 24 := by
    rw [pixv_toNat (by rw [hv]; have := hpix j.val j.isLt; rwa [Nat.add_assoc] at this), hv]
  have hww : (wv (F := Ideal) (live v19 (BitVec.ofNat 32 b) (BitVec.ofNat 32 lo) (BitVec.ofNat 32 hi)) (vec16 W (ob + b)) (ln j) : EReal)
      = if live v19 (BitVec.ofNat 32 b) (BitVec.ofNat 32 lo) (BitVec.ofNat 32 hi) (ln j) = 1#1 then (atN W (ob + (b + j.val)) : EReal) else 0 := by
    have hw' : (vec16 W (ob + b) (ln j) : EReal) = atN W (ob + (b + j.val)) := congrArg (atN W) (by show ob + b + j.val = _; omega)
    show (if live v19 (BitVec.ofNat 32 b) (BitVec.ofNat 32 lo) (BitVec.ofNat 32 hi) (ln j) = 1#1 then (vec16 W (ob + b) (ln j) : EReal) else Ideal.ofBits .f32 0x00000000#32) = _
    rw [hw', Ideal.ofBits_zero_f32]
  rw [hpx, hww]
  by_cases hl : lo ≤ b + j.val ∧ b + j.val < hi
  · have hl1 := hlv.2 hl
    rw [if_pos hl1, if_pos hl]
    have hc := hw _ hl.1 hl.2
    have hrow := (rowv_toNat (lv := live v19 (BitVec.ofNat 32 b) (BitVec.ofNat 32 lo) (BitVec.ofNat 32 hi)) hk (vec16 P (ob + b)) (ln j)).2 hl1 (by rw [hv]; exact hc)
    rw [hrow, hv]
    unfold ent
    by_cases hq : (atN P (ob + (b + j.val))).toNat % 65536 = 64 * k + (y 0).val
    · rw [if_pos hq, if_pos (by omega)]
    · rw [if_neg hq, if_neg (by omega)]
  · rw [if_neg (fun h => hl (hlv.1 h)), if_neg hl, mul_zero, ite_self]

theorem pieceG_apply {ob q1 q k : ℕ} (hpix : PixOK (F := Ideal) P ob q1) (hq : q < q1) (hq1 : q1 < 2 ^ 24) (hk : k < 1024) (hw : InWin (F := Ideal) P ob q q1 k) (g : Vec Ideal S64x96 .f32) (y : S64x96.Idx) :
    (pieceG (F := Ideal) T P W v19 v21 v23 ob q1 q k g y : EReal)
      = g y + ∑ x ∈ Finset.Ico q (hiN q1 q), ent T P W ob (64 * k + (y 0).val) (y 1).val x := by
  have hh : hiN q1 q ≤ q1 := min_le_left _ _
  have hc : hiN q1 q ≤ q / 16 * 16 + 16 * cntN q1 q := by unfold cntN; omega
  unfold pieceG
  rw [foldN_sum _ (fun t => ∑ j : Fin 16, (fun x => if q ≤ x ∧ x < hiN q1 q then ent T P W ob (64 * k + (y 0).val) (y 1).val x else 0) (q / 16 * 16 + 16 * t + j.val)) y _
    (fun t g ht => grpN_apply T P W h19 h21 h23
      (fun j hj => by have := hpix (q / 16 * 16 + 16 * t + j) (by unfold cntN at ht; omega); rwa [← Nat.add_assoc] at this) (by unfold cntN at ht; omega) (by omega) (by omega) hk (fun x h1 h2 => hw x h1 (by omega)) g y)]
  refine congrArg ((g y : EReal) + ·) ((sum_groups (fun x => if q ≤ x ∧ x < hiN q1 q then ent T P W ob (64 * k + (y 0).val) (y 1).val x else 0) (q / 16 * 16) (cntN q1 q)).trans ?_)
  exact sum_live _ _ _ _ _ (by omega) hc

theorem windowG_apply {ob q0 q1 k : ℕ} (hpix : PixOK (F := Ideal) P ob q1) (hq1 : q1 < 2 ^ 24) (hle : q0 ≤ q1) (hk : k < 1024) (hw : InWin (F := Ideal) P ob q0 q1 k) (g : Vec Ideal S64x96 .f32) (y : S64x96.Idx) :
    (windowG (F := Ideal) T P W v19 v21 v23 ob q0 q1 k g y : EReal)
      = g y + ∑ x ∈ Finset.Ico q0 q1, ent T P W ob (64 * k + (y 0).val) (y 1).val x := by
  unfold windowG
  have hp : ∀ n, n < pcsN q0 q1 → q0 ≤ posN q0 q1 n ∧ posN q0 q1 n < q1 ∧ hiN q1 (posN q0 q1 n) = posN q0 q1 (n + 1) := by
    intro n hn
    unfold pcsN at hn
    split at hn
    · unfold posN hiN
      rw [if_neg (show ¬ n + 1 = 0 by omega)]
      split
      · subst n; refine ⟨le_rfl, by omega, by omega⟩
      · refine ⟨by omega, by omega, by omega⟩
    · omega
  rw [foldN_sum _ (fun n => ∑ x ∈ Finset.Ico (posN q0 q1 n) (posN q0 q1 (n + 1)), ent T P W ob (64 * k + (y 0).val) (y 1).val x) y _
    (fun n g hn => by
      obtain ⟨p1, p2, p3⟩ := hp n hn
      rw [← p3]
      exact pieceG_apply T P W h19 h21 h23 hpix p2 hq1 hk (fun x h1 h2 => hw x (by omega) h2) g y)]
  have hs : ∀ n, n ≤ pcsN q0 q1 → ∑ n ∈ Finset.range n, ∑ x ∈ Finset.Ico (posN q0 q1 n) (posN q0 q1 (n + 1)), ent T P W ob (64 * k + (y 0).val) (y 1).val x
      = ∑ x ∈ Finset.Ico q0 (posN q0 q1 n), ent T P W ob (64 * k + (y 0).val) (y 1).val x := by
    intro n
    induction n with
    | zero => intro _; show _ = ∑ x ∈ Finset.Ico q0 q0, _; simp
    | succ n ih =>
      intro hn
      obtain ⟨p1, p2, p3⟩ := hp n (by omega)
      have p4 : posN q0 q1 n ≤ posN q0 q1 (n + 1) := by rw [← p3]; unfold hiN; omega
      rw [Finset.sum_range_succ, ih (by omega), Finset.sum_Ico_consecutive _ p1 p4]
  rw [hs _ le_rfl]
  have he : posN q0 q1 (pcsN q0 q1) = q1 := by
    unfold posN pcsN
    split
    · rw [if_neg (by omega)]; omega
    · rw [if_pos rfl]; omega
  rw [he]
end

/-- Any entry of the list stands in one of the windows. -/
theorem exists_window {e : ℕ → ℕ} (h0 : e 0 = 0) (n x : ℕ) (hx : x < e n) : ∃ k, k < n ∧ e k ≤ x ∧ x < e (k + 1) := by
  induction n with
  | zero => omega
  | succ n ih =>
    by_cases h : x < e n
    · obtain ⟨k, h1, h2, h3⟩ := ih h
      exact ⟨k, by omega, h2, h3⟩
    · exact ⟨n, by omega, by omega, hx⟩

/-- The whole list's sum at a cell is its window's. -/
theorem sum_window (T : Vec Ideal S101376 .i32) (P : Vec Ideal S2527488 .i32) (W : Vec Ideal S2527488 .f32) {ob : ℕ} {e : ℕ → ℕ} (h0 : e 0 = 0) (hm : ∀ k, k < 112 → e k ≤ e (k + 1))
    (hw : ∀ k, k < 112 → InWin (F := Ideal) P ob (e k) (e (k + 1)) k) {k r c : ℕ} (hk : k < 112) (hr : r < 64) :
    ∑ x ∈ Finset.Ico (e k) (e (k + 1)), ent T P W ob (64 * k + r) c x = ∑ x ∈ Finset.range (e 112), ent T P W ob (64 * k + r) c x := by
  have mono : ∀ b, k + 1 ≤ b → b ≤ 112 → e (k + 1) ≤ e b := by
    intro b hab
    induction b, hab using Nat.le_induction with
    | base => intro _; exact le_rfl
    | succ b hab ih => intro hb; exact (ih (by omega)).trans (hm b (by omega))
  refine Finset.sum_subset (fun x hx => ?_) (fun x hx hnx => ?_)
  · rw [Finset.mem_Ico] at hx
    rw [Finset.mem_range]
    exact lt_of_lt_of_le hx.2 (mono 112 (by omega) le_rfl)
  · rw [Finset.mem_range] at hx
    rw [Finset.mem_Ico] at hnx
    obtain ⟨k', h1, h2, h3⟩ := exists_window h0 112 x hx
    have h4 := hw k' h1 x h2 h3
    unfold ent
    rw [if_neg]
    intro h5
    have : k' = k := by omega
    subst this
    omega

theorem h21c (k : Fin 16) : k0_pay2240 (ln k) = if k.val < 8 then 1#1 else 0#1 := by
  revert k; decide
theorem h23c (k : Fin 16) : k0_pay2241 (ln k) = BitVec.ofNat 32 (k.val % 8) := by
  revert k; decide

/-- Over the reals, an element of the result is the sum over its tile's list. -/
theorem outOf_apply (A : Vec Ideal S1622016 .i32) (W : Vec Ideal S2527488 .f32) (P : Vec Ideal S2527488 .i32) (X : Vec Ideal S4096 .i32) (x : S229376x96.Idx)
    (hm : MetaOK (F := Ideal) (co (tileOf x)) X P (obOf (F := Ideal) X (tileOf x)) (eOf (F := Ideal) X (tileOf x))) :
    (outOf (F := Ideal) A W P X x : EReal)
      = ∑ n ∈ Finset.range (eOf (F := Ideal) X (tileOf x) 112), ent (tblOf (F := Ideal) (co (tileOf x)) A) P W (obOf (F := Ideal) X (tileOf x)) ((x 0).val % 7168) (x 1).val n := by
  have hk : (x 0).val % 7168 / 64 < 112 := by omega
  have mono : ∀ b, (x 0).val % 7168 / 64 + 1 ≤ b → b ≤ 112 → eOf (F := Ideal) X (tileOf x) ((x 0).val % 7168 / 64 + 1) ≤ eOf (F := Ideal) X (tileOf x) b := by
    intro b hab
    induction b, hab using Nat.le_induction with
    | base => intro _; exact le_rfl
    | succ b hab ih => intro hb; exact (ih (by omega)).trans (hm.mono b (by omega))
  have h112 := hm.ok.lt
  have := mono 112 (by omega) le_rfl
  unfold outOf winOf winG
  rw [windowG_apply _ P W v19c_eq h21c h23c (fun n hn => hm.ok.pix n (by omega)) (by omega) (hm.mono _ hk) (by omega) (hm.win _ hk)]
  show (Ideal.ofBits .f32 0x00000000#32 : EReal) + _ = _
  rw [Ideal.ofBits_zero_f32, zero_add]
  show ∑ n ∈ _, ent _ P W _ (64 * ((x 0).val % 7168 / 64) + (x 0).val % 64) (x 1).val n = _
  rw [sum_window _ P W hm.zero hm.mono hm.win hk (by omega), show 64 * ((x 0).val % 7168 / 64) + (x 0).val % 64 = (x 0).val % 7168 by omega]

end Cert.Kernel.Pool
-- ==== Proof.Tail.lean ====
module

public import proofs.«01_k».proof.Proof.Region
public import proofs.«01_k».proof.Proof.Lists
public import proofs.«01_k».proof.Proof.Total
public import Idealize.ShloMosaic.Lib.Routing.OpsPair

@[expose] public section

set_option maxRecDepth 8000

noncomputable section

namespace Cert.ReferenceIdeal.Value

open Cert.ReferenceIdeal Cert.ReferenceIdeal.Gen Idealize.ShloMosaic
open Idealize.ShloMosaic.Affine (IsInt)
open Cert.Lists (entw ent_eq entw_eq at_add at_sub)
open Cert.Kernel.Pool (MetaOK co tno obOf eOf tileOf atN code tabAt tblOf fv chWord chSh lit exists_window)

/-! # The reference's scatter, element by element -/

/-- A constant at every tile and entry. -/
def sc (n : BitVec 32) : IVec S32x2527488 32 := broadcastInDim S32x2527488 ![] bcast_S_S32x2527488 (constantI S_ 32 n)
def tl : IVec S32x2527488 32 := iotaInDim S32x2527488 32 0
def at112 : IVec S32x2527488 32 := addi (muli tl (sc 128#32)) (sc 112#32)
def take (X : IVec S4096 32) (b : IVec S32x2527488 32) : IVec S32x2527488 32 :=
  Host.gather gather_S4096_S32x2527488x1_S32x2527488_n_0_n_n_0_2_1 X (broadcastInDim S32x2527488x1 ![0, 1] bcast_S32x2527488_S32x2527488x1_0_1 b)
/-- An entry's place in its tile's list. -/
def lidx (X : IVec S4096 32) : IVec S32x2527488 32 := subi (iotaInDim S32x2527488 32 1) (take X at112)
def wds (P : IVec S2527488 32) : IVec S32x2527488 32 :=
  broadcastInDim S32x2527488 ![0, 1] bcast_S1x2527488_S32x2527488_0_1 (broadcastInDim S1x2527488 ![1] bcast_S2527488_S1x2527488_1 P)
/-- The cell of an entry; one past the grid where the entry is not in the tile's list. -/
def cellv (X : IVec S4096 32) (P : IVec S2527488 32) : IVec S32x2527488 32 :=
  select (andi (cmpi .sge (lidx X) (sc 0#32)) (cmpi .slt (lidx X) (take X (subi at112 (sc 1#32)))))
    (addi (muli tl (sc 7168#32)) (andi (wds P) (sc 65535#32))) (broadcastInDim S32x2527488 ![] bcast_S_S32x2527488 (id (constantI S_ 32 229376#32)))
def cells (X : IVec S4096 32) (P : IVec S2527488 32) : IVec S32x2527488 32 :=
  select (cmpi .slt (cellv X P) (sc 0#32)) (addi (cellv X P) (sc 229376#32)) (cellv X P)
def pix (P : IVec S2527488 32) : IVec S32x2527488 32 := addi (muli (Host.shrui tl (sc 1#32)) (sc 4224#32)) (Host.shrui (wds P) (sc 16#32))
def wts (W : FVec Ideal S2527488 .f32) : FVec Ideal S32x2527488x96 .f32 :=
  broadcastInDim S32x2527488x96 ![0, 1, 2] bcast_S1x2527488x1_S32x2527488x96_0_1_2 (broadcastInDim S1x2527488x1 ![1] bcast_S2527488_S1x2527488x1_1 W)
def feats (Fe : FVec Ideal S67584x96 .f32) (P : IVec S2527488 32) : FVec Ideal S32x2527488x96 .f32 :=
  Host.gather gather_S67584x96_S32x2527488x1_S32x2527488x96_2_0_n_n_0_2_196 Fe (broadcastInDim S32x2527488x1 ![0, 1] bcast_S32x2527488_S32x2527488x1_0_1 (pix P))
def cidx (X : IVec S4096 32) (P : IVec S2527488 32) : IVec S32x2527488x1 32 := broadcastInDim S32x2527488x1 ![0, 1] bcast_S32x2527488_S32x2527488x1_0_1 (cells X P)
def res (Fe : FVec Ideal S67584x96 .f32) (W : FVec Ideal S2527488 .f32) (P : IVec S2527488 32) (X : IVec S4096 32) : FVec Ideal S229376x96 .f32 :=
  Host.scatterAdd scatter_S229376x96_S32x2527488x1_S32x2527488x96_2_0_0_2 (broadcastInDim S229376x96 ![] bcast_S_S229376x96 (constant S_ .f32 0x00000000#32))
    (cidx X P) (mulf (wts W) (feats Fe P))

theorem take_apply (X : IVec S4096 32) (b : IVec S32x2527488 32) (j : S32x2527488.Idx) : take X b j = entw X (b j) :=
  @Cert.Lists.take0_apply Ideal _ Cert.Lists.facts X b j

theorem wds_apply (P : IVec S2527488 32) (j : S32x2527488.Idx) : wds P j = atN P (j 1).val := by
  have h : (j 1).val < 2527488 := (j 1).isLt
  unfold atN
  rw [dif_pos h]
  exact congrArg P (funext fun a => match a with | 0 => rfl)

/-- The cell of entry `n` for tile `t`, of word `w`. -/
def cellWord (X : IVec S4096 32) (t n w : BitVec 32) : BitVec 32 :=
  Scalar.select (IntOp.andi (IntOp.cmpi .sge (IntOp.subi n (entw X (IntOp.addi (IntOp.muli t 128#32) 112#32))) 0#32)
      (IntOp.cmpi .slt (IntOp.subi n (entw X (IntOp.addi (IntOp.muli t 128#32) 112#32))) (entw X (IntOp.subi (IntOp.addi (IntOp.muli t 128#32) 112#32) 1#32))))
    (IntOp.addi (IntOp.muli t 7168#32) (IntOp.andi w 65535#32)) 229376#32

theorem cellv_apply (X : IVec S4096 32) (P : IVec S2527488 32) (j : S32x2527488.Idx) :
    cellv X P j = cellWord X (BitVec.ofNat 32 (j 0).val) (BitVec.ofNat 32 (j 1).val) (atN P (j 1).val) := by
  simp only [cellv, select, andi, cmpi, addi, muli, lidx, subi, take_apply, wds_apply]
  rfl

/-- Tile `t`'s core and subcore. -/
def pOf (t : ℕ) (ht : t < 32) : Fin 2 × Fin 16 := (⟨t % 2, by omega⟩, ⟨t / 2, by omega⟩)
theorem tno_pOf {t : ℕ} (ht : t < 32) : tno (co (pOf t ht)) = t := by
  show 2 * (t / 2) + t % 2 = t
  omega

section
variable {X : IVec S4096 32} {P : IVec S2527488 32} {t : ℕ} {ht : t < 32}
  (hm : MetaOK (F := Ideal) (co (pOf t ht)) X P (obOf (F := Ideal) X (pOf t ht)) (eOf (F := Ideal) X (pOf t ht)))
include hm

theorem base_int : IsInt (entw X (IntOp.addi (IntOp.muli (BitVec.ofNat 32 t) 128#32) 112#32)) (obOf (F := Ideal) X (pOf t ht) : ℤ) := by
  have e : tno (co (pOf t ht)) * 128 + 112 = t * 128 + 112 := by rw [tno_pOf ht]
  rw [entw_eq X (show t * 128 + 112 < 4096 by omega) (at_add ht (le_refl 112)), ent_eq X (show t * 128 + 112 < 4096 by omega)]
  refine (congrArg (fun z => IsInt z (obOf (F := Ideal) X (pOf t ht) : ℤ)) (congrArg X (funext fun a => ?_))).mpr hm.base
  match a with
  | 0 => exact Fin.ext e.symm

theorem len_int : IsInt (entw X (IntOp.subi (IntOp.addi (IntOp.muli (BitVec.ofNat 32 t) 128#32) 112#32) 1#32)) (eOf (F := Ideal) X (pOf t ht) 112 : ℤ) := by
  have e : tno (co (pOf t ht)) * 128 + 111 = t * 128 + 111 := by rw [tno_pOf ht]
  rw [entw_eq X (show t * 128 + 111 < 4096 by omega) (at_sub ht (show 111 < 112 by decide)), ent_eq X (show t * 128 + 111 < 4096 by omega)]
  refine (congrArg (fun z => IsInt z (eOf (F := Ideal) X (pOf t ht) 112 : ℤ)) (congrArg X (funext fun a => ?_))).mpr (hm.ends 111 (by decide))
  match a with
  | 0 => exact Fin.ext e.symm

theorem base_lt : obOf (F := Ideal) X (pOf t ht) < 2 ^ 31 := by
  have h := base_int hm
  unfold IsInt at h
  have := BitVec.toInt_lt (x := entw X (IntOp.addi (IntOp.muli (BitVec.ofNat 32 t) 128#32) 112#32))
  omega

theorem listed_in {n : ℕ} (h : n < eOf (F := Ideal) X (pOf t ht) 112) : obOf (F := Ideal) X (pOf t ht) + n < 2527488 := by
  have := hm.ok.inb (n / 1024) (by omega)
  omega

theorem listed_cell {n : ℕ} (h : n < eOf (F := Ideal) X (pOf t ht) 112) : (atN P (obOf (F := Ideal) X (pOf t ht) + n)).toNat % 65536 < 7168 := by
  obtain ⟨k, h1, h2, h3⟩ := exists_window hm.zero 112 n h
  have := hm.win k h1 n h2 h3
  omega

/-- Entry `n` of the array is in tile `t`'s list. -/
def Listed (X : IVec S4096 32) (t : ℕ) (ht : t < 32) (n : ℕ) : Prop :=
  obOf (F := Ideal) X (pOf t ht) ≤ n ∧ n - obOf (F := Ideal) X (pOf t ht) < eOf (F := Ideal) X (pOf t ht) 112

theorem idx_int {n : ℕ} (hn : n < 2527488) : IsInt (IntOp.subi (BitVec.ofNat 32 n) (entw X (IntOp.addi (IntOp.muli (BitVec.ofNat 32 t) 128#32) 112#32))) ((n : ℤ) - obOf (F := Ideal) X (pOf t ht)) := by
  have := base_lt hm
  exact Affine.subi (lit n (by omega)) (base_int hm) ⟨rfl, by omega, by omega⟩

theorem cell_listed {n : ℕ} (hn : n < 2527488) (w : BitVec 32) (h : Listed X t ht n) (hw : w.toNat % 65536 < 7168) :
    (cellWord X (BitVec.ofNat 32 t) (BitVec.ofNat 32 n) w).toNat = t * 7168 + w.toNat % 65536 := by
  have hi := idx_int hm hn
  have hc := Affine.andi_holds (Affine.sge_holds hi (lit 0) (by have := h.1; omega)) (Affine.slt_holds hi (len_int hm) (by have := h.1; have := h.2; omega))
  refine (congrArg BitVec.toNat (if_pos hc)).trans ?_
  simp only [IntOp.addi, IntOp.muli, IntOp.andi, BitVec.toNat_add, BitVec.toNat_mul, BitVec.toNat_ofNat, Cert.Lists.and_low]
  omega

theorem cell_unlisted {n : ℕ} (hn : n < 2527488) (w : BitVec 32) (h : ¬ Listed X t ht n) :
    (cellWord X (BitVec.ofNat 32 t) (BitVec.ofNat 32 n) w).toNat = 229376 := by
  have hi := idx_int hm hn
  refine (congrArg BitVec.toNat (if_neg ?_)).trans rfl
  by_cases h1 : obOf (F := Ideal) X (pOf t ht) ≤ n
  · have h2 : ¬ n - obOf (F := Ideal) X (pOf t ht) < eOf (F := Ideal) X (pOf t ht) 112 := fun h2 => h ⟨h1, h2⟩
    exact Affine.andi_fails_right trivial (Affine.slt_fails hi (len_int hm) (by omega))
  · exact Affine.andi_fails_left (Affine.sge_fails hi (lit 0) (by omega)) trivial

end

/-- The wrap of a cell changes nothing. -/
theorem cells_apply (X : IVec S4096 32) (P : IVec S2527488 32) (j : S32x2527488.Idx)
    (h : (cellWord X (BitVec.ofNat 32 (j 0).val) (BitVec.ofNat 32 (j 1).val) (atN P (j 1).val)).toNat < 2 ^ 31) :
    cells X P j = cellWord X (BitVec.ofNat 32 (j 0).val) (BitVec.ofNat 32 (j 1).val) (atN P (j 1).val) := by
  rw [← cellv_apply] at h ⊢
  exact Routing.wrap_of_lt (w := 32) _ _ h

/-- An update's tile and entry. -/
def jt (j : S32x2527488x96.Idx) : S32x2527488.Idx := fun | 0 => ⟨(j 0).val, (j 0).isLt⟩ | 1 => ⟨(j 1).val, (j 1).isLt⟩

theorem lands_iff (b : IVec S32x2527488 32) (j : S32x2527488x96.Idx) (x : S229376x96.Idx) :
    scatter_S229376x96_S32x2527488x1_S32x2527488x96_2_0_0_2.resultIdx? j (broadcastInDim S32x2527488x1 ![0, 1] bcast_S32x2527488_S32x2527488x1_0_1 b) = some x
      ↔ (b (jt j)).toInt = ((x 0).val : ℤ) ∧ (j 2).val = (x 1).val := by
  have s0 : ScatterDims.start scatter_S229376x96_S32x2527488x1_S32x2527488x96_2_0_0_2 j (broadcastInDim S32x2527488x1 ![0, 1] bcast_S32x2527488_S32x2527488x1_0_1 b) 0 = (b (jt j)).toInt := by
    unfold ScatterDims.start
    rw [dif_pos (show (0 : Fin S229376x96.rank) ∈ ScatterDims.scatterDimsToOperandDims scatter_S229376x96_S32x2527488x1_S32x2527488x96_2_0_0_2 from List.mem_singleton.2 rfl)]
    refine congrArg BitVec.toInt (congrArg b (funext fun a => ?_))
    match a with
    | 0 => rfl
    | 1 => rfl
  have s1 : ScatterDims.start scatter_S229376x96_S32x2527488x1_S32x2527488x96_2_0_0_2 j (broadcastInDim S32x2527488x1 ![0, 1] bcast_S32x2527488_S32x2527488x1_0_1 b) 1 = 0 := by
    unfold ScatterDims.start
    exact dif_neg (fun h => absurd (List.mem_singleton.1 h) (by decide))
  have w0 : ScatterDims.window scatter_S229376x96_S32x2527488x1_S32x2527488x96_2_0_0_2 j 0 = 0 := by
    unfold ScatterDims.window
    exact dif_neg (show (0 : Fin S229376x96.rank) ∉ S229376x96.kept [0] by decide)
  have w1 : ScatterDims.window scatter_S229376x96_S32x2527488x1_S32x2527488x96_2_0_0_2 j 1 = (j 2).val := by
    unfold ScatterDims.window
    exact (dif_pos (show (1 : Fin S229376x96.rank) ∈ S229376x96.kept [0] by decide)).trans rfl
  rw [Routing.resultIdx?_eq_some]
  constructor
  · intro h
    have h0 := h 0
    have h1 := h 1
    rw [s0, w0] at h0
    rw [s1, w1] at h1
    exact ⟨by omega, by omega⟩
  · intro h a
    match a with
    | 0 => rw [s0, w0, h.1]; exact add_zero _
    | 1 => rw [s1, w1, h.2]; exact zero_add _

theorem feats_apply (Fe : FVec Ideal S67584x96 .f32) (P : IVec S2527488 32) (j : S32x2527488x96.Idx) (n : ℕ) (hn : n < 67584) (h : (pix P (jt j)).toNat = n) :
    feats Fe P j = Fe (fun | 0 => ⟨n, hn⟩ | 1 => ⟨(j 2).val, (j 2).isLt⟩) := by
  have e := BitVec.toInt_eq_toNat_cond (pix P (jt j))
  unfold feats Host.gather
  refine congrArg Fe (funext fun a => ?_)
  match a with
  | 0 =>
    refine Fin.ext ?_
    have h1 : GatherDims.batchCoord gather_S67584x96_S32x2527488x1_S32x2527488x96_2_0_n_n_0_2_196 j 0 = 0 := GatherDims.batchCoord_eq_zero _ _ _ (List.not_mem_nil)
    have h2 : GatherDims.offCoord gather_S67584x96_S32x2527488x1_S32x2527488x96_2_0_n_n_0_2_196 j 0 = 0 :=
      GatherDims.offCoord_eq_zero _ _ _ (by rw [GatherDims.mem_sKept]; exact fun h => h.1 (List.mem_singleton.2 rfl))
    refine (congrArg₂ (fun x y => GatherDims.start gather_S67584x96_S32x2527488x1_S32x2527488x96_2_0_n_n_0_2_196 j _ 0 + x + y) h1 h2).trans ?_
    show GatherDims.start gather_S67584x96_S32x2527488x1_S32x2527488x96_2_0_n_n_0_2_196 j _ 0 = n
    unfold GatherDims.start
    rw [dif_pos (show (0 : Fin S67584x96.rank) ∈ GatherDims.startIndexMap gather_S67584x96_S32x2527488x1_S32x2527488x96_2_0_n_n_0_2_196 from List.mem_singleton.2 rfl)]
    refine Eq.trans (b := min (pix P (jt j)).toInt.toNat 67583) (congrArg (fun w : BitVec 32 => min w.toInt.toNat 67583) (congrArg (pix P) (funext fun a => ?_))) ?_
    · match a with
      | 0 => rfl
      | 1 => rfl
    · omega
  | 1 =>
    refine Fin.ext ?_
    have h1 : GatherDims.batchCoord gather_S67584x96_S32x2527488x1_S32x2527488x96_2_0_n_n_0_2_196 j 1 = 0 := GatherDims.batchCoord_eq_zero _ _ _ (List.not_mem_nil)
    have h2 : GatherDims.offCoord gather_S67584x96_S32x2527488x1_S32x2527488x96_2_0_n_n_0_2_196 j 1 = (j 2).val := by
      unfold GatherDims.offCoord
      exact (dif_pos (show (1 : Fin S67584x96.rank) ∈ S67584x96.kept ([0] ++ []) by decide)).trans rfl
    have h3 (b : IVec S32x2527488x1 32) : GatherDims.start gather_S67584x96_S32x2527488x1_S32x2527488x96_2_0_n_n_0_2_196 j b 1 = 0 := by
      unfold GatherDims.start
      exact dif_neg (fun h => absurd (List.mem_singleton.1 h) (by decide))
    refine (congrArg₂ (fun x y => GatherDims.start gather_S67584x96_S32x2527488x1_S32x2527488x96_2_0_n_n_0_2_196 j _ 1 + x + y) h1 h2).trans ?_
    rw [h3]
    exact Nat.zero_add _

theorem pix_apply (P : IVec S2527488 32) (j : S32x2527488.Idx) (h : (atN P (j 1).val).toNat / 65536 < 4224) :
    (pix P j).toNat = (j 0).val / 2 * 4224 + (atN P (j 1).val).toNat / 65536 := by
  have h0 : (j 0).val < 32 := (j 0).isLt
  have e : pix P j = IntOp.addi (IntOp.muli (IntOp.shrui .host (BitVec.ofNat 32 (j 0).val) 1#32) 4224#32) (IntOp.shrui .host (atN P (j 1).val) 16#32) := by
    rw [← wds_apply]
    rfl
  rw [e]
  unfold IntOp.shrui
  rw [if_pos (show (1#32).toNat < 32 by decide), if_pos (show (16#32).toNat < 32 by decide)]
  have e1 : (BitVec.ofNat 32 (j 0).val >>> 1#32).toNat = (j 0).val / 2 := by
    rw [BitVec.ushiftRight_eq', BitVec.toNat_ushiftRight, BitVec.toNat_ofNat, show (1#32).toNat = 1 from rfl, Nat.shiftRight_eq_div_pow, Nat.mod_eq_of_lt (by omega)]
  have e2 : (atN P (j 1).val >>> 16#32).toNat = (atN P (j 1).val).toNat / 65536 := by
    rw [BitVec.ushiftRight_eq', BitVec.toNat_ushiftRight, show (16#32).toNat = 16 from rfl, Nat.shiftRight_eq_div_pow]
  simp only [IntOp.addi, IntOp.muli, BitVec.toNat_add, BitVec.toNat_mul, BitVec.toNat_ofNat, e1, e2]
  omega

theorem wts_apply (W : FVec Ideal S2527488 .f32) (j : S32x2527488x96.Idx) : (wts W j : EReal) = atN W (j 1).val := by
  have h : (j 1).val < 2527488 := (j 1).isLt
  unfold atN
  rw [dif_pos h]
  exact congrArg W (funext fun a => match a with | 0 => rfl)

theorem off2_eq : ∀ (c : Fin 2) (s : Fin 16), Cert.Kernel.k0_off2 (co (c, s)) 0 = s.val * 101376 := by decide +kernel

/-- A tile's part of the table, word by word. -/
theorem tab_eq (A : IVec S1622016 32) {t : ℕ} (ht : t < 32) {n : ℕ} (hn : n < 101376) :
    tabAt (F := Ideal) (tblOf (F := Ideal) (co (pOf t ht)) A) n = wordAt A (t / 2 * 101376 + n) := by
  have h : t / 2 * 101376 + n < 1622016 := by omega
  unfold tabAt wordAt
  rw [dif_pos hn, dif_pos h]
  refine congrArg A (funext fun a => ?_)
  match a with
  | 0 =>
    refine Fin.ext ?_
    show Cert.Kernel.k0_off2 (co (pOf t ht)) 0 + 1 * n = _
    rw [show Cert.Kernel.k0_off2 (co (pOf t ht)) 0 = t / 2 * 101376 from off2_eq _ _]
    show t / 2 * 101376 + 1 * n = t / 2 * 101376 + n
    omega

theorem tile_eq {j : S32x2527488x96.Idx} {x : S229376x96.Idx} (h0 : (j 0).val < 32) (h : (j 0).val = (x 0).val / 7168) : pOf (j 0).val h0 = tileOf x :=
  Prod.ext (Fin.ext (congrArg (· % 2) h)) (Fin.ext (congrArg (· / 2) h))

/-- The update of entry `n` of tile `t`'s list, at channel `c`. -/
def mk (t : Fin 32) (n : ℕ) (c : Fin 96) : S32x2527488x96.Idx := fun | 0 => t | 1 => ⟨n % 2527488, Nat.mod_lt _ (by decide)⟩ | 2 => c

theorem chWord_lt {c : ℕ} : chWord c < 24 := by
  unfold chWord
  split <;> omega

section
variable {X : IVec S4096 32} {P : IVec S2527488 32} (hm : ∀ p, MetaOK (F := Ideal) (co p) X P (obOf (F := Ideal) X p) (eOf (F := Ideal) X p))
include hm

/-- Where an update lands. -/
theorem mem_iff (j : S32x2527488x96.Idx) (x : S229376x96.Idx) (h0 : (j 0).val < 32) :
    scatter_S229376x96_S32x2527488x1_S32x2527488x96_2_0_0_2.resultIdx? j (cidx X P) = some x
      ↔ (j 0).val = (x 0).val / 7168 ∧ Listed X (j 0).val h0 (j 1).val ∧ (atN P (j 1).val).toNat % 65536 = (x 0).val % 7168 ∧ (j 2).val = (x 1).val := by
  have hx : (x 0).val < 229376 := (x 0).isLt
  have h1 : (j 1).val < 2527488 := (j 1).isLt
  have hp := hm (pOf (j 0).val h0)
  refine (lands_iff (cells X P) j x).trans ?_
  by_cases hl : Listed X (j 0).val h0 (j 1).val
  · have hw : (atN P (j 1).val).toNat % 65536 < 7168 := by
      have := listed_cell hp hl.2
      rwa [Nat.add_sub_cancel' hl.1] at this
    have hc := cell_listed hp h1 (atN P (j 1).val) hl hw
    have hcell := cells_apply X P (jt j) (hc.trans_lt (by omega))
    have e := BitVec.toInt_eq_toNat_cond (cells X P (jt j))
    have hn : (cells X P (jt j)).toNat = (j 0).val * 7168 + (atN P (j 1).val).toNat % 65536 := (congrArg BitVec.toNat hcell).trans hc
    rw [hn] at e
    constructor
    · intro h
      have h3 := h.1
      refine ⟨by omega, hl, by omega, h.2⟩
    · intro h
      have h3 := h.1
      have h4 := h.2.2.1
      refine ⟨by omega, h.2.2.2⟩
  · have hc := cell_unlisted hp h1 (atN P (j 1).val) hl
    have hcell := cells_apply X P (jt j) (hc.trans_lt (by omega))
    have e := BitVec.toInt_eq_toNat_cond (cells X P (jt j))
    have hn : (cells X P (jt j)).toNat = 229376 := (congrArg BitVec.toNat hcell).trans hc
    rw [hn] at e
    constructor
    · intro h
      have h3 := h.1
      omega
    · intro h
      exact absurd h.2.1 hl

/-- An update's value. -/
theorem upd_eq {A : IVec S1622016 32} {Fe : FVec Ideal S67584x96 .f32} (W : FVec Ideal S2527488 .f32)
    (hFe : ∀ y, (Fe y : EReal) = fv (wordAt A (24 * (y 0).val + chWord (y 1).val)) (chSh (y 1).val)) (j : S32x2527488x96.Idx) (h0 : (j 0).val < 32)
    (hpix : (atN P (j 1).val).toNat / 65536 < 4224) :
    (mulf (wts W) (feats Fe P) j : EReal) = code (tblOf (F := Ideal) (co (pOf (j 0).val h0)) A) ((atN P (j 1).val).toNat / 65536 * 24) (j 2).val * (atN W (j 1).val : EReal) := by
  have hn : (j 0).val / 2 * 4224 + (atN P (j 1).val).toNat / 65536 < 67584 := by omega
  have hc : chWord (j 2).val < 24 := chWord_lt
  show (wts W j : EReal) * (feats Fe P j : EReal) = _
  rw [wts_apply, feats_apply Fe P j _ hn (pix_apply P (jt j) hpix), hFe, mul_comm]
  unfold code
  rw [tab_eq A h0 (by omega)]
  refine congrArg (fun n => fv (wordAt A n) (chSh (j 2).val) * (atN W (j 1).val : EReal)) ?_
  show 24 * ((j 0).val / 2 * 4224 + (atN P (j 1).val).toNat / 65536) + chWord (j 2).val = _
  omega

theorem res_apply {A : IVec S1622016 32} {Fe : FVec Ideal S67584x96 .f32} (W : FVec Ideal S2527488 .f32)
    (hFe : ∀ y, (Fe y : EReal) = fv (wordAt A (24 * (y 0).val + chWord (y 1).val)) (chSh (y 1).val)) (x : S229376x96.Idx) :
    (res Fe W P X x : EReal) = ∑ n ∈ Finset.range (eOf (F := Ideal) X (tileOf x) 112),
      Cert.Kernel.Pool.ent (tblOf (F := Ideal) (co (tileOf x)) A) P W (obOf (F := Ideal) X (tileOf x)) ((x 0).val % 7168) (x 1).val n := by
  have ht : (x 0).val / 7168 < 32 := Cert.Kernel.Pool.tile_lt x
  have hp := hm (tileOf x)
  have e0 : (res Fe W P X x : EReal) = (Ideal.ofBits .f32 0x00000000#32 : EReal)
      + ∑ j ∈ Finset.univ.filter (fun j => scatter_S229376x96_S32x2527488x1_S32x2527488x96_2_0_0_2.resultIdx? j (cidx X P) = some x), (mulf (wts W) (feats Fe P) j : EReal) := rfl
  rw [e0, Ideal.ofBits_zero_f32, zero_add]
  unfold Cert.Kernel.Pool.ent
  rw [← Finset.sum_filter]
  refine Finset.sum_nbij' (fun j => (j 1).val - obOf (F := Ideal) X (tileOf x)) (fun n => mk ⟨(x 0).val / 7168, ht⟩ (obOf (F := Ideal) X (tileOf x) + n) ⟨(x 1).val, (x 1).isLt⟩) ?_ ?_ ?_ ?_ ?_
  · intro j hj
    have h0 : (j 0).val < 32 := (j 0).isLt
    obtain ⟨a, b, c, d⟩ := (mem_iff hm j x h0).1 (Finset.mem_filter.1 hj).2
    unfold Listed at b
    rw [tile_eq h0 a] at b
    refine Finset.mem_filter.2 ⟨Finset.mem_range.2 b.2, ?_⟩
    show (atN P (obOf (F := Ideal) X (tileOf x) + ((j 1).val - obOf (F := Ideal) X (tileOf x)))).toNat % 65536 = _
    rw [Nat.add_sub_cancel' b.1]
    exact c
  · intro n hn
    obtain ⟨h, c⟩ := Finset.mem_filter.1 hn
    have h := Finset.mem_range.1 h
    have hlt := listed_in (ht := ht) hp h
    have e : (obOf (F := Ideal) X (tileOf x) + n) % 2527488 = obOf (F := Ideal) X (tileOf x) + n := Nat.mod_eq_of_lt hlt
    refine Finset.mem_filter.2 ⟨Finset.mem_univ _, (mem_iff hm _ x ht).2 ⟨rfl, ?_, ?_, rfl⟩⟩
    · show obOf (F := Ideal) X (tileOf x) ≤ (obOf (F := Ideal) X (tileOf x) + n) % 2527488 ∧ (obOf (F := Ideal) X (tileOf x) + n) % 2527488 - obOf (F := Ideal) X (tileOf x) < _
      rw [e, Nat.add_sub_cancel_left]
      exact ⟨Nat.le_add_right _ _, h⟩
    · show (atN P ((obOf (F := Ideal) X (tileOf x) + n) % 2527488)).toNat % 65536 = _
      rw [e]
      exact c
  · intro j hj
    have h0 : (j 0).val < 32 := (j 0).isLt
    have h1 : (j 1).val < 2527488 := (j 1).isLt
    obtain ⟨a, b, c, d⟩ := (mem_iff hm j x h0).1 (Finset.mem_filter.1 hj).2
    unfold Listed at b
    rw [tile_eq h0 a] at b
    funext q
    match q with
    | 0 => exact Fin.ext a.symm
    | 1 =>
      refine Fin.ext ?_
      show (obOf (F := Ideal) X (tileOf x) + ((j 1).val - obOf (F := Ideal) X (tileOf x))) % 2527488 = (j 1).val
      rw [Nat.add_sub_cancel' b.1]
      exact Nat.mod_eq_of_lt h1
    | 2 => exact Fin.ext d.symm
  · intro n hn
    have h := Finset.mem_range.1 (Finset.mem_filter.1 hn).1
    have hlt := listed_in (ht := ht) hp h
    show (obOf (F := Ideal) X (tileOf x) + n) % 2527488 - obOf (F := Ideal) X (tileOf x) = n
    rw [show (obOf (F := Ideal) X (tileOf x) + n) % 2527488 = obOf (F := Ideal) X (tileOf x) + n from Nat.mod_eq_of_lt hlt, Nat.add_sub_cancel_left]
  · intro j hj
    have h0 : (j 0).val < 32 := (j 0).isLt
    obtain ⟨a, b, c, d⟩ := (mem_iff hm j x h0).1 (Finset.mem_filter.1 hj).2
    unfold Listed at b
    rw [tile_eq h0 a] at b
    have hpix := hp.ok.pix ((j 1).val - obOf (F := Ideal) X (tileOf x)) (by have := b.2; omega)
    rw [Nat.add_sub_cancel' b.1] at hpix ⊢
    rw [upd_eq hm W hFe j h0 hpix, tile_eq h0 a, d]

end

end Cert.ReferenceIdeal.Value

end
-- ==== Proof.Join.lean ====
module

public import proofs.«01_k».proof.Proof.Tail

@[expose] public section

set_option maxRecDepth 8000

noncomputable section

namespace Cert.ReferenceIdeal.Value

open Cert.ReferenceIdeal Cert.ReferenceIdeal.Gen Idealize.ShloMosaic Idealize.ShloMosaic.TcCoe
open Cert.Kernel.Pool (MetaOK co obOf eOf outOf)

/-! # The reference's result is the kernel's -/

theorem value_eq (m : (ℓ : Loc nD τ sig) → Buf (Elt Ideal) ℓ) (c : Dev nD) {A : IVec S1622016 32} {W : FVec Ideal S2527488 .f32} {P : IVec S2527488 32} {X : IVec S4096 32}
    (hA : m ((c.tc : Thread nD τ).loc main_arg0) = A) (hW : m ((c.tc : Thread nD τ).loc main_arg1) = W)
    (hP : m ((c.tc : Thread nD τ).loc main_arg2) = P) (hX : m ((c.tc : Thread nD τ).loc main_arg3) = X)
    (hm : ∀ p, MetaOK (F := Ideal) (co p) X P (obOf (F := Ideal) X p) (eOf (F := Ideal) X p)) :
    res (exitV m c (Proc.devRef .tc main_v26)) (exitV m c (Proc.devRef .tc main_arg1)) (exitV m c (Proc.devRef .tc main_arg2)) (exitV m c (Proc.devRef .tc main_arg3))
      = outOf (F := Ideal) A W P X := by
  rw [exit_main_v26, exit_main_arg1, exit_main_arg2, exit_main_arg3, hW, hP, hX]
  funext x
  exact (res_apply hm W (fun y => (reg_apply m c y).trans (by rw [← hA])) x).trans (Cert.Kernel.Pool.outOf_apply A W P X x (hm _)).symm

end Cert.ReferenceIdeal.Value

end
-- ==== Proof.Run.lean ====
module

public import proofs.«01_k».proof.Defs
public import proofs.«01_k».proof.Proof.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ShareLeaves
public import Idealize.ShloMosaic.Lib.Tactic
public import proofs.«01_k».proof.Proof.Gen.Kernel

@[expose] public section

set_option maxRecDepth 8000

noncomputable section

namespace Cert.Kernel.Pool

open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel Cert.Kernel.Gen

variable {F : FTy → Type} [FloatOps F]

local notation "𝕄" => MT nD τ sig (HIx 1) (Elt F) ℕ UU ℕ
local notation "aV" => (Memref.whole main_arg0_scv : Memref sig Kind.scVector Space.hbm S1622016 EltTy.i32)
local notation "wV" => (Memref.whole main_arg1_scv : Memref sig Kind.scVector Space.hbm S2527488 EltTy.f32)
local notation "pV" => (Memref.whole main_arg2_scv : Memref sig Kind.scVector Space.hbm S2527488 EltTy.i32)
local notation "eV" => (Memref.whole main_arg3_scv : Memref sig Kind.scVector Space.hbm S4096 EltTy.i32)
local notation "oV" => (Memref.whole main_v0_scv : Memref sig Kind.scVector Space.hbm S229376x96 EltTy.f32)

variable (m : (ℓ : Loc nD τ sig) → Buf (Elt F) ℓ) (ρ : Dev nD → PrngReg)

/-! ## A task's run -/

/-- The task of tile `p` on device `d`, from what the launch deals it to what it hands back. -/
theorem tile_body (d : Dev nD) (p : Fin 2 × Fin 16) (hF : (K (F := F)).Facts) (hpre : PreOK m) (O : CellTallies nD τ sig (HIx 1)) (W : Waits sig (HIx 1)) (hO : ∀ g, O g none = 0) :
    iprop(levAts (K (F := F)).L (K (F := F)).lev ∗ emp
        ∗ (args m d (sq p) ∗ blks d p (m (oLoc d)))
        ∗ scopedBufs (VT d (co p)) ∗ scopedSems0 (VT d (co p)) ∗ owes (VT d (co p)) O W)
      ⊢ wp frame (wpE (defs₀ (F := F)) 𝒱₀ (VT d (co p)) none) Set.univ
          (cc0_bev_pool (F := F) (co p) aV (Memref.isWhole_whole _) wV (Memref.isWhole_whole _) pV (Memref.isWhole_whole _) eV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3 cc0_scoped4 cc0_scoped5 cc0_scoped6 cc0_scoped7 cc0_scoped8 cc0_scoped9)
          fun _ => iprop((args m d (sq p) ∗ blks d p (OUT m d))
            ∗ scopedBufs (VT d (co p)) ∗ scopedSems0 (VT d (co p))
            ∗ ∃ W', ⌜∀ q ∈ W', q ∈ W ∨ q.2 = none ∨ q.2 = some (0 : Fin 1)⌝ ∗ owes (VT d (co p)) O W') := by
  rw [(K (F := F)).scopedBufs_V hF d _ _, SparseCore.Cfg.scopedSems0_V (Val := Elt F) d _ _, ownSems0_V, ownBufs_V, bufs_split, sems_split]
  unfold args
  iintro ⟨#Hlv, -, ⟨⟨Ha, Hw, Hp, He⟩, Hbl⟩, ⟨⟨⟨%f0, B0⟩, ⟨%f1, B1⟩, ⟨%f2, B2⟩, ⟨%f3, B3⟩, ⟨%f4, B4⟩, ⟨%f5, B5⟩⟩, Hbufs⟩, ⟨⟨C0, C1, C2, C3, C4, C5, C6, C7, C8, C9, C10, C11⟩, Hsems⟩, HO⟩
  ihave Hmw := (show levAts (K (F := F)).L (K (F := F)).lev ⊢ Transfers.MayWaits (VT d (co p)) (default : HIx 1) O from
    (K (F := F)).mayWaits_none (thr := VT d (co p)) hO) $$ Hlv
  ihave Ha' := (own_whole (F := F) d (co p) main_arg0_scv (sq p) (m (aLoc d))) $$ Ha
  ihave Hw' := (own_whole (F := F) d (co p) main_arg1_scv (sq p) (m (wLoc d))) $$ Hw
  ihave Hp' := (own_whole (F := F) d (co p) main_arg2_scv (sq p) (m (pLoc d))) $$ Hp
  ihave He' := (own_whole (F := F) d (co p) main_arg3_scv (sq p) (m (eLoc d))) $$ He
  ihave Hraw := (raw_blks (F := F) d p (m (oLoc d))) $$ Hbl
  ihave B0' := (own_whole (F := F) d (co p) cc0_scratch0 fullShare f0) $$ B0
  ihave B1' := (own_whole (F := F) d (co p) cc0_scratch1 fullShare f1) $$ B1
  ihave B2' := (own_whole (F := F) d (co p) cc0_scratch2 fullShare f2) $$ B2
  ihave B3' := (own_whole (F := F) d (co p) cc0_scratch3 fullShare f3) $$ B3
  ihave B4' := (own_whole (F := F) d (co p) cc0_scratch4 fullShare f4) $$ B4
  ihave B5' := (own_whole (F := F) d (co p) cc0_scratch5 fullShare f5) $$ B5
  iapply (wp_wand_r Idealize.ShloMosaic.frame (wpE (defs₀ (F := F)) 𝒱₀ (VT d (co p)) none) Set.univ)
  isplitl [Ha' Hw' Hp' He' Hraw B0' B1' B2' B3' B4' B5' C0 C1 C2 C3 C4 C5 C8 C9 HO]
  · iapply (wp_body (defs := defs₀ (F := F)) 𝒱₀ none d (co p) aV (Memref.isWhole_whole _) wV (Memref.isWhole_whole _) pV (Memref.isWhole_whole _) eV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3 cc0_scoped4 cc0_scoped5 cc0_scoped6 cc0_scoped7 cc0_scoped8 cc0_scoped9
            (hpre d p) (sq p) (sq p) (sq p) (sq p) (O := O))
    isplitr; · iexact Hmw
    isplitl [Ha']; · iexact Ha'
    isplitl [Hw']; · iexact Hw'
    isplitl [Hp']; · iexact Hp'
    isplitl [He']; · iexact He'
    isplitl [Hraw]; · iexact Hraw
    isplitl [B0']; · iexists _; iexact B0'
    isplitl [B1']; · iexists _; iexact B1'
    isplitl [B2']; · iexists _; iexact B2'
    isplitl [B3']; · iexists _; iexact B3'
    isplitl [B4']; · iexists _; iexact B4'
    isplitl [B5']; · iexists _; iexact B5'
    isplitl [C0]; · iexact C0
    isplitl [C1]; · iexact C1
    isplitl [C2]; · iexact C2
    isplitl [C3]; · iexact C3
    isplitl [C4]; · iexact C4
    isplitl [C5]; · iexact C5
    isplitl [C8]; · iexact C8
    isplitl [C9]; · iexact C9
    iexists W; iexact HO
  iintro %_ ⟨Ha', Hw', Hp', He', Hdone, ⟨%g0, B0'⟩, ⟨%g1, B1'⟩, ⟨%g2, B2'⟩, ⟨%g3, B3'⟩, ⟨%g4, B4'⟩, ⟨%g5, B5'⟩, C0, C1, C2, C3, C4, C5, C8, C9, ⟨%W', HO⟩⟩
  ihave Ha := (whole_own (F := F) d (co p) main_arg0_scv (sq p) (m (aLoc d))) $$ Ha'
  ihave Hw := (whole_own (F := F) d (co p) main_arg1_scv (sq p) (m (wLoc d))) $$ Hw'
  ihave Hp := (whole_own (F := F) d (co p) main_arg2_scv (sq p) (m (pLoc d))) $$ Hp'
  ihave He := (whole_own (F := F) d (co p) main_arg3_scv (sq p) (m (eLoc d))) $$ He'
  ihave Hdone' := (Entails.of_eq (show (DoneB d (co p) oV (winG (tblOf (co p) (m (aLoc d))) (m (pLoc d)) (m (wLoc d)) v19c k0_pay2240 k0_pay2241 (obOf (m (eLoc d)) p) (eOf (m (eLoc d)) p)) 112 : sProp 𝕄)
    = DoneB d (co p) oV (winOf (m (aLoc d)) (m (wLoc d)) (m (pLoc d)) (m (eLoc d)) p) 112 from rfl)) $$ Hdone
  ihave Hbl := (done_blks m d p) $$ Hdone'
  ihave B0 := (whole_own (F := F) d (co p) cc0_scratch0 fullShare g0) $$ B0'
  ihave B1 := (whole_own (F := F) d (co p) cc0_scratch1 fullShare g1) $$ B1'
  ihave B2 := (whole_own (F := F) d (co p) cc0_scratch2 fullShare g2) $$ B2'
  ihave B3 := (whole_own (F := F) d (co p) cc0_scratch3 fullShare g3) $$ B3'
  ihave B4 := (whole_own (F := F) d (co p) cc0_scratch4 fullShare g4) $$ B4'
  ihave B5 := (whole_own (F := F) d (co p) cc0_scratch5 fullShare g5) $$ B5'
  isplitl [Ha Hw Hp He Hbl]
  · isplitl [Ha Hw Hp He]
    · isplitl [Ha]; · iexact Ha
      isplitl [Hw]; · iexact Hw
      isplitl [Hp]; · iexact Hp
      iexact He
    iexact Hbl
  isplitl [B0 B1 B2 B3 B4 B5 Hbufs]
  · isplitl [B0 B1 B2 B3 B4 B5]
    · isplitl [B0]; · iexists g0; iexact B0
      isplitl [B1]; · iexists g1; iexact B1
      isplitl [B2]; · iexists g2; iexact B2
      isplitl [B3]; · iexists g3; iexact B3
      isplitl [B4]; · iexists g4; iexact B4
      iexists g5; iexact B5
    iexact Hbufs
  isplitl [C0 C1 C2 C3 C4 C5 C6 C7 C8 C9 C10 C11 Hsems]
  · isplitl [C0 C1 C2 C3 C4 C5 C6 C7 C8 C9 C10 C11]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      iexact C11
    iexact Hsems
  iexists W'; isplitr
  · ipureintro; intro q _
    rcases q.2 with _ | r
    · exact .inr (.inl rfl)
    · exact .inr (.inr (congrArg some (Subsingleton.elim r 0)))
  · iexact HO

/-! ## The obligation -/

theorem defs₀_vector (c : Fin τ.nSC) (s : Fin τ.nSub) :
    defs₀ (F := F) (.scVector c s) 0 ()
      = SparseCore.onTile hcore0 hsub0 (fun c s => cc0_bev_pool (F := F) (coordsV c s) aV (Memref.isWhole_whole _) wV (Memref.isWhole_whole _) pV (Memref.isWhole_whole _) eV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3 cc0_scoped4 cc0_scoped5 cc0_scoped6 cc0_scoped7 cc0_scoped8 cc0_scoped9) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (cc c, ss i) hF hpre O W hO

/-! ## The arguments' shares and the output's blocks -/

theorem args_tasks (d : Dev nD) (q : PosShare TreeShare) : (args m d q : sProp 𝕄) = bigSep Finset.univ fun s : Fin 16 => args m d (ShareLeaves.leaf 4 q s) := by
  unfold args
  rw [bigSep_sep', bigSep_sep', bigSep_sep']
  exact congrArg₂ _ (ShareLeaves.pointsTo_leaves Finset.univ _ 4 q) (congrArg₂ _ (ShareLeaves.pointsTo_leaves Finset.univ _ 4 q)
    (congrArg₂ _ (ShareLeaves.pointsTo_leaves Finset.univ _ 4 q) (ShareLeaves.pointsTo_leaves Finset.univ _ 4 q)))
theorem args_cores (d : Dev nD) (q : PosShare TreeShare) : (args m d q : sProp 𝕄) = bigSep Finset.univ fun c : Fin 2 => args m d (ShareLeaves.leaf 1 q c) := by
  unfold args
  rw [bigSep_sep', bigSep_sep', bigSep_sep']
  exact congrArg₂ _ (ShareLeaves.pointsTo_leaves Finset.univ _ 1 q) (congrArg₂ _ (ShareLeaves.pointsTo_leaves Finset.univ _ 1 q)
    (congrArg₂ _ (ShareLeaves.pointsTo_leaves Finset.univ _ 1 q) (ShareLeaves.pointsTo_leaves Finset.univ _ 1 q)))

theorem zn_co (p : Fin 2 × Fin 16) : zn (co p) = (2 * p.2.val + p.1.val) * 7168 := rfl

theorem bset_disjoint : ∀ a ∈ (Finset.univ : Finset ((Fin 2 × Fin 16) × Fin 112)), ∀ b ∈ (Finset.univ : Finset ((Fin 2 × Fin 16) × Fin 112)), a ≠ b → Disjoint (bset a.1 a.2) (bset b.1 b.2) := by
  rintro ⟨⟨c, s⟩, k⟩ - ⟨⟨c', s'⟩, k'⟩ - h
  refine Finset.disjoint_left.mpr fun x hx hx' => h ?_
  have h1 := (mem_bset _ _ x).mp hx
  have h2 := (mem_bset _ _ x).mp hx'
  simp only [zn_co] at h1 h2
  have := c.isLt; have := c'.isLt; have := s.isLt; have := s'.isLt; have := k.isLt; have := k'.isLt
  refine Prod.ext (Prod.ext (Fin.ext ?_) (Fin.ext ?_)) (Fin.ext ?_)
  · show c.val = c'.val; omega
  · show s.val = s'.val; omega
  · show k.val = k'.val; omega

theorem bset_cover : (Finset.univ : Finset ((Fin 2 × Fin 16) × Fin 112)).biUnion (fun a => bset a.1 a.2) = Finset.univ := by
  refine Finset.eq_univ_of_forall fun x => ?_
  rw [Finset.mem_biUnion]
  have h0 : (x 0).val < 229376 := (x 0).isLt
  have hk : (x 0).val % 7168 / 64 < 112 := by omega
  refine ⟨(tileOf x, ⟨(x 0).val % 7168 / 64, hk⟩), Finset.mem_univ _, (mem_bset _ _ x).mpr ?_⟩
  rw [zn_co]
  show (2 * ((x 0).val / 7168 / 2) + (x 0).val / 7168 % 2) * 7168 + 64 * ((x 0).val % 7168 / 64) ≤ (x 0).val
    ∧ (x 0).val < (2 * ((x 0).val / 7168 / 2) + (x 0).val / 7168 % 2) * 7168 + 64 * ((x 0).val % 7168 / 64) + 64
  omega

theorem out_blks (d : Dev nD) (f : Buf (Elt F) (oLoc d)) :
    (oLoc d ↦{fullShare} f : sProp 𝕄) = bigSep Finset.univ fun c : Fin 2 => bigSep Finset.univ fun s : Fin 16 => blks d (c, s) f := by
  have h : (oLoc d ↦{fullShare} f : sProp 𝕄) = bigSep Finset.univ fun a : (Fin 2 × Fin 16) × Fin 112 => oLoc d ↦[bset a.1 a.2]{fullShare} f := by
    rw [← pointsTo_biUnion Finset.univ (ℓ := oLoc d) (fun a : (Fin 2 × Fin 16) × Fin 112 => bset a.1 a.2) bset_disjoint, bset_cover]; try rfl
  rw [h, BI.bigSep_univ_prod, BI.bigSep_univ_prod]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- What a core is handed is what its tasks are, before and after. -/
theorem core_eq (d : Dev nD) (c : Fin 2) (f : Buf (Elt F) (oLoc d)) :
    (bigSep Finset.univ fun s : Fin 16 => iprop(args m d (sq (c, s)) ∗ blks d (c, s) f))
      = (iprop(args m d (ShareLeaves.leaf 1 fullShare c) ∗ bigSep Finset.univ fun i : Fin 16 => blks d (c, i) f) : sProp 𝕄) := by
  rw [bigSep_sep', args_tasks m d (ShareLeaves.leaf 1 fullShare c)]
theorem dev_eq (d : Dev nD) (f : Buf (Elt F) (oLoc d)) :
    (bigSep Finset.univ fun c : Fin 2 => iprop(args m d (ShareLeaves.leaf 1 fullShare c) ∗ bigSep Finset.univ fun i : Fin 16 => blks d (c, i) f))
      = (iprop(args m d fullShare ∗ oLoc d ↦{fullShare} f) : sProp 𝕄) := by
  rw [bigSep_sep', args_cores m d fullShare, out_blks]

theorem vecSplit : (K (F := F)).VecSplit' (P m) 0 := by
  intro d c
  show iprop(args m d (ShareLeaves.leaf 1 fullShare (cc c)) ∗ bigSep Finset.univ fun i : Fin 16 => blks d (cc c, i) (m (oLoc d))) ⊢ |={Set.univ}=> iprop(
      (bigSep Finset.univ fun i : Fin ((K (F := F)).nSub 0) => iprop(args m d (sq (cc c, Fin.cast nSub_zero i)) ∗ blks d (cc c, Fin.cast nSub_zero i) (m (oLoc d))))
      ∗ ((bigSep Finset.univ fun i : Fin ((K (F := F)).nSub 0) => iprop(args m d (sq (cc c, Fin.cast nSub_zero i)) ∗ blks d (cc c, Fin.cast nSub_zero i) (OUT m d)))
          -∗ iprop(args m d (ShareLeaves.leaf 1 fullShare (cc c)) ∗ bigSep Finset.univ fun i : Fin 16 => blks d (cc c, i) (OUT m d))))
  rw [bigSep_tasks (F := F) (fun i => iprop(args m d (sq (cc c, i)) ∗ blks d (cc c, i) (m (oLoc d)))),
    bigSep_tasks (F := F) (fun i => iprop(args m d (sq (cc c, i)) ∗ blks d (cc c, i) (OUT m d))),
    core_eq, core_eq]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ (pLoc d ↦{fullShare} W main_arg2) ∗ (eLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = iprop(args m d fullShare ∗ oLoc d ↦{fullShare} m (oLoc d)) :=
  (bigSep_cores (F := F) (fun c => iprop(args m d (ShareLeaves.leaf 1 fullShare c) ∗ bigSep Finset.univ fun i : Fin 16 => blks d (c, i) (m (oLoc d))))).trans (dev_eq m d _)
theorem dn0_eq (d : Dev nD) : (bigSep Finset.univ fun c : Fin ((K (F := F)).nCore 0) => (P m).dn 0 d c) = iprop(args m d fullShare ∗ oLoc d ↦{fullShare} OUT m d) :=
  (bigSep_cores (F := F) (fun c => iprop(args m d (ShareLeaves.leaf 1 fullShare c) ∗ bigSep Finset.univ fun i : Fin 16 => blks d (c, i) (OUT m d)))).trans (dev_eq m d _)

abbrev FIN (d : Dev nD) : sProp 𝕄 := iprop(args m d fullShare ∗ oLoc d ↦{fullShare} OUT m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hw, Hp, He, Ho⟩, Hts, -⟩, -⟩
  iapply ((K (F := F)).wp_run (D (F := F)) 𝒱 (EH := EH) (P := P m) κ d 0) $$ [Hst Ha Hw Hp He Ho Hb Hts]
  isplitr; · iexact Hctx
  isplitl [Hst]; · iexact Hst
  isplitl [Ha Hw Hp He Ho]
  · rw [st0_eq]
    unfold args
    isplitl [Ha Hw Hp He]
    · isplitl [Ha]; · iexact Ha
      isplitl [Hw]; · iexact Hw
      isplitl [Hp]; · iexact Hp
      iexact He
    iexact Ho
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

def fq (d : Dev nD) (s' : Phys nD τ sig (Elt F)) : Prop :=
  (s'.mem.mem (aLoc d) = m (aLoc d) ∧ s'.mem.mem (wLoc d) = m (wLoc d) ∧ s'.mem.mem (pLoc d) = m (pLoc d) ∧ s'.mem.mem (eLoc d) = m (eLoc d)) ∧ s'.mem.mem (oLoc d) = OUT m d

theorem hfin (d : Dev nD) (s' : Phys nD τ sig (Elt F)) : iprop(FIN m d ∗ SI s') ⊢ (⌜fq m d s'⌝ : sProp 𝕄) := by
  unfold FIN args
  iintro ⟨⟨⟨Ha, Hw, Hp, He⟩, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h3, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h4, HSI, -⟩
  ihave H := (SI_pointsTo_agree (st := s') (ℓ := oLoc d) (I := Finset.univ) (q := fullShare) (f := OUT m d)) $$ [HSI Ho]
  · isplitl [HSI] <;> iassumption
  icases H with %h5
  ipureintro
  exact ⟨⟨funext fun (i : Idx (aLoc d)) => h1 i (by simp), funext fun (i : Idx (wLoc d)) => h2 i (by simp), funext fun (i : Idx (pLoc d)) => h3 i (by simp),
    funext fun (i : Idx (eLoc d)) => h4 i (by simp)⟩, funext fun (i : Idx (oLoc d)) => h5 i (by simp)⟩

/-! ## The program's run -/

def QC : PUnit × MemSt nD τ sig (Elt F) → Prop := fun r => (∀ d : Dev nD,
  (r.2.mem (aLoc d) = m (aLoc d) ∧ r.2.mem (wLoc d) = m (wLoc d) ∧ r.2.mem (pLoc d) = m (pLoc d) ∧ r.2.mem (eLoc d) = m (eLoc d)) ∧ r.2.mem (oLoc d) = OUT m d) ∧ r.2.sem = fun _ => 0

/-- Run from any memory the precondition allows, the program ends with its arguments as they were and its result at `OUT`. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Kernel.Pool
-- ==== Proof.Same.lean ====
module

public import proofs.«01_k».proof.Defs

@[expose] public section

set_option maxRecDepth 100000
set_option maxHeartbeats 4000000

noncomputable section

/-! # The kernel and its ideal reading are one program

Nothing is rewritten in the ideal reading, so at any float instance the two printed programs are the same. -/

namespace Cert.Same

open Idealize.ShloMosaic Idealize.SL.Sem

theorem threads_eq [Cert.KernelIdeal.Facts] [Cert.Kernel.Facts] : (Cert.KernelIdeal.threads (F := Ideal)) = (Cert.Kernel.threads (F := Ideal)) := rfl
theorem defs_eq [Cert.KernelIdeal.Facts] [Cert.Kernel.Facts] : (Cert.KernelIdeal.defs (F := Ideal)) = (Cert.Kernel.defs (F := Ideal)) := rfl

theorem run_eq [Cert.KernelIdeal.Facts] [Cert.Kernel.Facts] (st : MemSt Cert.Kernel.nD Cert.Kernel.τ Cert.Kernel.sig (Elt Ideal)) (Q : PUnit × MemSt Cert.Kernel.nD Cert.Kernel.τ Cert.Kernel.sig (Elt Ideal) → Prop)
    (h : θ_run (Cert.Kernel.defs (F := Ideal)) (Cert.Kernel.threads (F := Ideal)) st Q) :
    θ_run (Cert.KernelIdeal.defs (F := Ideal)) (Cert.KernelIdeal.threads (F := Ideal)) st Q :=
  (congrArg₂ (fun D T => θ_run D T st Q) defs_eq threads_eq).mpr h

end Cert.Same

end
-- ==== Proof.lean ====
module

public import proofs.«01_k».proof.Proof.Gen.ReferenceIdeal.Run
public import proofs.«01_k».proof.Proof.Join
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Run
public import proofs.«01_k».proof.Proof.Lists
public import proofs.«01_k».proof.Proof.Same
public import Idealize.ShloMosaic.Adequacy
public import Idealize.ShloMosaic.Init

@[expose] public section

noncomputable section

namespace Cert.Proof

open Idealize.ShloMosaic Idealize.SL.Sem

theorem preOK (m : (ℓ : Loc Cert.Kernel.nD Cert.Kernel.τ Cert.Kernel.sig) → Buf (Elt Bits) ℓ)
    (h : Pre_Kernel (hPre_lists_ok := Cert.Lists.facts) m) : Cert.Kernel.Pool.PreOK (F := Bits) m :=
  fun d p => @Cert.Lists.metaOK Bits _ Cert.Lists.facts _ _ _ _ (h d).1 (h d).2 p

theorem preOK_ideal (m : (ℓ : Loc Cert.KernelIdeal.nD Cert.KernelIdeal.τ Cert.KernelIdeal.sig) → Buf (Elt Ideal) ℓ)
    (h : Pre_KernelIdeal (hPre_lists_ok := Cert.Lists.facts) m) : Cert.Kernel.Pool.PreOK (F := Ideal) m :=
  fun d p => @Cert.Lists.metaOK Ideal _ Cert.Lists.facts _ _ _ _ (h d).1 (h d).2 p

theorem frame : quiescent_Kernel (hKernel := Cert.Kernel.Gen.facts) (hPre_lists_ok := Cert.Lists.facts) := fun m ρ h =>
  (θ_run Cert.Kernel.defs _ _).mono (fun r hr => ⟨fun d => (hr.1 d).1, hr.2⟩) (Cert.Kernel.Pool.run_main (F := Bits) m ρ (preOK m h))

theorem frame_ideal : quiescent_KernelIdeal (hKernelIdeal := Cert.KernelIdeal.Gen.facts) (hPre_lists_ok := Cert.Lists.facts) := fun m ρ h =>
  @Cert.Same.run_eq Cert.KernelIdeal.Gen.facts Cert.Kernel.Gen.facts _ _
    ((θ_run Cert.Kernel.defs _ _).mono (fun r hr => ⟨fun d => (hr.1 d).1, hr.2⟩) (Cert.Kernel.Pool.run_main (F := Ideal) m ρ (preOK_ideal m h)))

theorem frame_ref : quiescent_ReferenceIdeal (hReferenceIdeal := Cert.ReferenceIdeal.Gen.facts) (hPre_lists_ok := Cert.Lists.facts) := fun m ρ _ =>
  Cert.ReferenceIdeal.Gen.frame m ρ

theorem algebraic : algebraic_KernelIdeal_ReferenceIdeal (hKernelIdeal := Cert.KernelIdeal.Gen.facts) (hReferenceIdeal := Cert.ReferenceIdeal.Gen.facts)
    (hPre_lists_ok := Cert.Lists.facts) := by
  intro m g m' g' hpre harg
  have hp := preOK_ideal m hpre
  refine ⟨fun d => Cert.Kernel.Pool.OUT (F := Ideal) m d, ?_, ?_⟩
  · exact @Cert.Same.run_eq Cert.KernelIdeal.Gen.facts Cert.Kernel.Gen.facts _ _
      ((θ_run Cert.Kernel.defs _ _).mono (fun r hr d => ⟨(hr.1 d).2, (hr.1 d).1⟩) (Cert.Kernel.Pool.run_main (F := Ideal) m g hp))
  · refine (θ_run Cert.ReferenceIdeal.defs _ _).mono (fun r hr c => ⟨(hr c).1.trans ?_, (hr c).2⟩) (Cert.ReferenceIdeal.Value.run m' g')
    exact Cert.ReferenceIdeal.Value.value_eq m' c (harg c).1 (harg c).2.1 (harg c).2.2.1 (harg c).2.2.2 (hp c)

theorem claim : Cert.Claim :=
  ⟨Cert.Kernel.Gen.facts, Cert.KernelIdeal.Gen.facts, Cert.ReferenceIdeal.Gen.facts, Cert.Lists.facts, frame, frame_ideal, frame_ref, trivial, algebraic⟩

end Cert.Proof

end
